-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_RefProjIdeal (m : (ℓ : Loc Cert.RefProjIdeal.nD Cert.RefProjIdeal.τ Cert.RefProjIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalIdeal_value_bias_zero [hPre_value_bias_zero : Cert.Pre_value_bias_zero.Facts] (m : (ℓ : Loc Cert.FinalIdeal.nD Cert.FinalIdeal.τ Cert.FinalIdeal.sig) → Buf (Elt Ideal) ℓ) : Prop :=
  ∀ c : Dev Cert.FinalIdeal.nD,
    (Cert.Pre_value_bias_zero.fn (F := Ideal) (m ((c.tc : Thread Cert.FinalIdeal.nD Cert.FinalIdeal.τ).loc Cert.FinalIdeal.main_arg0)) (m ((c.tc : Thread Cert.FinalIdeal.nD Cert.FinalIdeal.τ).loc Cert.FinalIdeal.main_arg1)) (m ((c.tc : Thread Cert.FinalIdeal.nD Cert.FinalIdeal.τ).loc Cert.FinalIdeal.main_arg2)) (m ((c.tc : Thread Cert.FinalIdeal.nD Cert.FinalIdeal.τ).loc Cert.FinalIdeal.main_arg3)) (m ((c.tc : Thread Cert.FinalIdeal.nD Cert.FinalIdeal.τ).loc Cert.FinalIdeal.main_arg4)) (m ((c.tc : Thread Cert.FinalIdeal.nD Cert.FinalIdeal.τ).loc Cert.FinalIdeal.main_arg5)) (m ((c.tc : Thread Cert.FinalIdeal.nD Cert.FinalIdeal.τ).loc Cert.FinalIdeal.main_arg6)) (m ((c.tc : Thread Cert.FinalIdeal.nD Cert.FinalIdeal.τ).loc Cert.FinalIdeal.main_arg7))) = (fun _ => 1#1)

def Pre_RefFinalIdeal (m : (ℓ : Loc Cert.RefFinalIdeal.nD Cert.RefFinalIdeal.τ Cert.RefFinalIdeal.sig) → Buf (Elt Ideal) ℓ) : Prop :=
  True

def Pre_RefFinalIdeal_value_bias_zero [hPre_value_bias_zero : Cert.Pre_value_bias_zero.Facts] (m : (ℓ : Loc Cert.RefFinalIdeal.nD Cert.RefFinalIdeal.τ Cert.RefFinalIdeal.sig) → Buf (Elt Ideal) ℓ) : Prop :=
  ∀ c : Dev Cert.RefFinalIdeal.nD,
    (Cert.Pre_value_bias_zero.fn (F := Ideal) (m ((c.tc : Thread Cert.RefFinalIdeal.nD Cert.RefFinalIdeal.τ).loc Cert.RefFinalIdeal.main_arg0)) (m ((c.tc : Thread Cert.RefFinalIdeal.nD Cert.RefFinalIdeal.τ).loc Cert.RefFinalIdeal.main_arg1)) (m ((c.tc : Thread Cert.RefFinalIdeal.nD Cert.RefFinalIdeal.τ).loc Cert.RefFinalIdeal.main_arg2)) (m ((c.tc : Thread Cert.RefFinalIdeal.nD Cert.RefFinalIdeal.τ).loc Cert.RefFinalIdeal.main_arg3)) (m ((c.tc : Thread Cert.RefFinalIdeal.nD Cert.RefFinalIdeal.τ).loc Cert.RefFinalIdeal.main_arg4)) (m ((c.tc : Thread Cert.RefFinalIdeal.nD Cert.RefFinalIdeal.τ).loc Cert.RefFinalIdeal.main_arg5)) (m ((c.tc : Thread Cert.RefFinalIdeal.nD Cert.RefFinalIdeal.τ).loc Cert.RefFinalIdeal.main_arg6)) (m ((c.tc : Thread Cert.RefFinalIdeal.nD Cert.RefFinalIdeal.τ).loc Cert.RefFinalIdeal.main_arg7))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_means_finite [hPre_means_finite : Cert.Pre_means_finite.Facts] (m : (ℓ : Loc Cert.RouterIdeal.nD Cert.RouterIdeal.τ Cert.RouterIdeal.sig) → Buf (Elt Ideal) ℓ) : Prop :=
  ∀ c : Dev Cert.RouterIdeal.nD,
    (Cert.Pre_means_finite.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3))) = (fun _ => 1#1)

def Pre_RefRouterIdeal (m : (ℓ : Loc Cert.RefRouterIdeal.nD Cert.RefRouterIdeal.τ Cert.RefRouterIdeal.sig) → Buf (Elt Ideal) ℓ) : Prop :=
  True

def Pre_RefRouterIdeal_means_finite [hPre_means_finite : Cert.Pre_means_finite.Facts] (m : (ℓ : Loc Cert.RefRouterIdeal.nD Cert.RefRouterIdeal.τ Cert.RefRouterIdeal.sig) → Buf (Elt Ideal) ℓ) : Prop :=
  ∀ c : Dev Cert.RefRouterIdeal.nD,
    (Cert.Pre_means_finite.fn (F := Ideal) (m ((c.tc : Thread Cert.RefRouterIdeal.nD Cert.RefRouterIdeal.τ).loc Cert.RefRouterIdeal.main_arg0)) (m ((c.tc : Thread Cert.RefRouterIdeal.nD Cert.RefRouterIdeal.τ).loc Cert.RefRouterIdeal.main_arg1)) (m ((c.tc : Thread Cert.RefRouterIdeal.nD Cert.RefRouterIdeal.τ).loc Cert.RefRouterIdeal.main_arg2)) (m ((c.tc : Thread Cert.RefRouterIdeal.nD Cert.RefRouterIdeal.τ).loc Cert.RefRouterIdeal.main_arg3))) = (fun _ => 1#1)

def Pre_Attn [hPre_indices_in_range : Cert.Pre_indices_in_range.Facts] (m : (ℓ : Loc Cert.Attn.nD Cert.Attn.τ Cert.Attn.sig) → Buf (Elt Bits) ℓ) : Prop :=
  ∀ c : Dev Cert.Attn.nD,
    (Cert.Pre_indices_in_range.fn (F := Bits) (m ((c.tc : Thread Cert.Attn.nD Cert.Attn.τ).loc Cert.Attn.main_arg0)) (m ((c.tc : Thread Cert.Attn.nD Cert.Attn.τ).loc Cert.Attn.main_arg1)) (m ((c.tc : Thread Cert.Attn.nD Cert.Attn.τ).loc Cert.Attn.main_arg2)) (m ((c.tc : Thread Cert.Attn.nD Cert.Attn.τ).loc Cert.Attn.main_arg3)) (m ((c.tc : Thread Cert.Attn.nD Cert.Attn.τ).loc Cert.Attn.main_arg4)) (m ((c.tc : Thread Cert.Attn.nD Cert.Attn.τ).loc Cert.Attn.main_arg5))) = (fun _ => 1#1)

def Pre_AttnIdeal [hPre_indices_in_range : Cert.Pre_indices_in_range.Facts] (m : (ℓ : Loc Cert.AttnIdeal.nD Cert.AttnIdeal.τ Cert.AttnIdeal.sig) → Buf (Elt Ideal) ℓ) : Prop :=
  ∀ c : Dev Cert.AttnIdeal.nD,
    (Cert.Pre_indices_in_range.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnIdeal_indices_in_range_and_logits_finite [hPre_indices_in_range_and_logits_finite : Cert.Pre_indices_in_range_and_logits_finite.Facts] (m : (ℓ : Loc Cert.AttnIdeal.nD Cert.AttnIdeal.τ Cert.AttnIdeal.sig) → Buf (Elt Ideal) ℓ) : Prop :=
  ∀ c : Dev Cert.AttnIdeal.nD,
    (Cert.Pre_indices_in_range_and_logits_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_RefAttnIdeal (m : (ℓ : Loc Cert.RefAttnIdeal.nD Cert.RefAttnIdeal.τ Cert.RefAttnIdeal.sig) → Buf (Elt Ideal) ℓ) : Prop :=
  True

def Pre_RefAttnIdeal_indices_in_range_and_logits_finite [hPre_indices_in_range_and_logits_finite : Cert.Pre_indices_in_range_and_logits_finite.Facts] (m : (ℓ : Loc Cert.RefAttnIdeal.nD Cert.RefAttnIdeal.τ Cert.RefAttnIdeal.sig) → Buf (Elt Ideal) ℓ) : Prop :=
  ∀ c : Dev Cert.RefAttnIdeal.nD,
    (Cert.Pre_indices_in_range_and_logits_finite.fn (F := Ideal) (m ((c.tc : Thread Cert.RefAttnIdeal.nD Cert.RefAttnIdeal.τ).loc Cert.RefAttnIdeal.main_arg0)) (m ((c.tc : Thread Cert.RefAttnIdeal.nD Cert.RefAttnIdeal.τ).loc Cert.RefAttnIdeal.main_arg1)) (m ((c.tc : Thread Cert.RefAttnIdeal.nD Cert.RefAttnIdeal.τ).loc Cert.RefAttnIdeal.main_arg2)) (m ((c.tc : Thread Cert.RefAttnIdeal.nD Cert.RefAttnIdeal.τ).loc Cert.RefAttnIdeal.main_arg3)) (m ((c.tc : Thread Cert.RefAttnIdeal.nD Cert.RefAttnIdeal.τ).loc Cert.RefAttnIdeal.main_arg4)) (m ((c.tc : Thread Cert.RefAttnIdeal.nD Cert.RefAttnIdeal.τ).loc Cert.RefAttnIdeal.main_arg5))) = (fun _ => 1#1)

def Pre_Whole (m : (ℓ : Loc Cert.Whole.nD Cert.Whole.τ Cert.Whole.sig) → Buf (Elt Bits) ℓ) : Prop :=
  True

def Pre_WholeIdeal (m : (ℓ : Loc Cert.WholeIdeal.nD Cert.WholeIdeal.τ Cert.WholeIdeal.sig) → Buf (Elt Ideal) ℓ) : Prop :=
  True

def Pre_WholeIdeal_inputs_finite [hPre_inputs_finite : Cert.Pre_inputs_finite.Facts] (m : (ℓ : Loc Cert.WholeIdeal.nD Cert.WholeIdeal.τ Cert.WholeIdeal.sig) → Buf (Elt Ideal) ℓ) : Prop :=
  ∀ c : Dev Cert.WholeIdeal.nD,
    (Cert.Pre_inputs_finite.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3)) (m ((c.tc : Thread Cert.WholeIdeal.nD Cert.WholeIdeal.τ).loc Cert.WholeIdeal.main_arg4)) (m ((c.tc : Thread Cert.WholeIdeal.nD Cert.WholeIdeal.τ).loc Cert.WholeIdeal.main_arg5)) (m ((c.tc : Thread Cert.WholeIdeal.nD Cert.WholeIdeal.τ).loc Cert.WholeIdeal.main_arg6)) (m ((c.tc : Thread Cert.WholeIdeal.nD Cert.WholeIdeal.τ).loc Cert.WholeIdeal.main_arg7))) = (fun _ => 1#1)

def Pre_RefWholeIdeal (m : (ℓ : Loc Cert.RefWholeIdeal.nD Cert.RefWholeIdeal.τ Cert.RefWholeIdeal.sig) → Buf (Elt Ideal) ℓ) : Prop :=
  True

def Pre_RefWholeIdeal_inputs_finite [hPre_inputs_finite : Cert.Pre_inputs_finite.Facts] (m : (ℓ : Loc Cert.RefWholeIdeal.nD Cert.RefWholeIdeal.τ Cert.RefWholeIdeal.sig) → Buf (Elt Ideal) ℓ) : Prop :=
  ∀ c : Dev Cert.RefWholeIdeal.nD,
    (Cert.Pre_inputs_finite.fn (F := Ideal) (m ((c.tc : Thread Cert.RefWholeIdeal.nD Cert.RefWholeIdeal.τ).loc Cert.RefWholeIdeal.main_arg0)) (m ((c.tc : Thread Cert.RefWholeIdeal.nD Cert.RefWholeIdeal.τ).loc Cert.RefWholeIdeal.main_arg1)) (m ((c.tc : Thread Cert.RefWholeIdeal.nD Cert.RefWholeIdeal.τ).loc Cert.RefWholeIdeal.main_arg2)) (m ((c.tc : Thread Cert.RefWholeIdeal.nD Cert.RefWholeIdeal.τ).loc Cert.RefWholeIdeal.main_arg3)) (m ((c.tc : Thread Cert.RefWholeIdeal.nD Cert.RefWholeIdeal.τ).loc Cert.RefWholeIdeal.main_arg4)) (m ((c.tc : Thread Cert.RefWholeIdeal.nD Cert.RefWholeIdeal.τ).loc Cert.RefWholeIdeal.main_arg5)) (m ((c.tc : Thread Cert.RefWholeIdeal.nD Cert.RefWholeIdeal.τ).loc Cert.RefWholeIdeal.main_arg6)) (m ((c.tc : Thread Cert.RefWholeIdeal.nD Cert.RefWholeIdeal.τ).loc Cert.RefWholeIdeal.main_arg7))) = (fun _ => 1#1)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_RefProjIdeal [hRefProjIdeal : Cert.RefProjIdeal.Facts] : Prop :=
  ∀ (m : (ℓ : Loc Cert.RefProjIdeal.nD Cert.RefProjIdeal.τ Cert.RefProjIdeal.sig) → Buf (Elt Ideal) ℓ) (g : Dev Cert.RefProjIdeal.nD → PrngReg), Pre_RefProjIdeal m →
    θ_run (Cert.RefProjIdeal.defs (F := Ideal)) (onTc (τ := Cert.RefProjIdeal.τ) (Cert.RefProjIdeal.main (F := Ideal))) ⟨m, fun _ => 0, g⟩ (fun r => (∀ c : Dev Cert.RefProjIdeal.nD,
      r.2.mem ((c.tc : Thread Cert.RefProjIdeal.nD Cert.RefProjIdeal.τ).loc Cert.RefProjIdeal.main_arg0) = m ((c.tc : Thread Cert.RefProjIdeal.nD Cert.RefProjIdeal.τ).loc Cert.RefProjIdeal.main_arg0)
      ∧ r.2.mem ((c.tc : Thread Cert.RefProjIdeal.nD Cert.RefProjIdeal.τ).loc Cert.RefProjIdeal.main_arg1) = m ((c.tc : Thread Cert.RefProjIdeal.nD Cert.RefProjIdeal.τ).loc Cert.RefProjIdeal.main_arg1)
      ∧ r.2.mem ((c.tc : Thread Cert.RefProjIdeal.nD Cert.RefProjIdeal.τ).loc Cert.RefProjIdeal.main_arg2) = m ((c.tc : Thread Cert.RefProjIdeal.nD Cert.RefProjIdeal.τ).loc Cert.RefProjIdeal.main_arg2)
      ∧ r.2.mem ((c.tc : Thread Cert.RefProjIdeal.nD Cert.RefProjIdeal.τ).loc Cert.RefProjIdeal.main_arg3) = m ((c.tc : Thread Cert.RefProjIdeal.nD Cert.RefProjIdeal.τ).loc Cert.RefProjIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3)
      ∧ r.2.mem ((c.tc : Thread Cert.Final.nD Cert.Final.τ).loc Cert.Final.main_arg4) = m ((c.tc : Thread Cert.Final.nD Cert.Final.τ).loc Cert.Final.main_arg4)
      ∧ r.2.mem ((c.tc : Thread Cert.Final.nD Cert.Final.τ).loc Cert.Final.main_arg5) = m ((c.tc : Thread Cert.Final.nD Cert.Final.τ).loc Cert.Final.main_arg5)
      ∧ r.2.mem ((c.tc : Thread Cert.Final.nD Cert.Final.τ).loc Cert.Final.main_arg6) = m ((c.tc : Thread Cert.Final.nD Cert.Final.τ).loc Cert.Final.main_arg6)
      ∧ r.2.mem ((c.tc : Thread Cert.Final.nD Cert.Final.τ).loc Cert.Final.main_arg7) = m ((c.tc : Thread Cert.Final.nD Cert.Final.τ).loc Cert.Final.main_arg7))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7))
      ∧ r.2.sem = fun _ => 0)

def quiescent_FinalIdeal_pre_value_bias_zero [hFinalIdeal : Cert.FinalIdeal.Facts] [hPre_value_bias_zero : Cert.Pre_value_bias_zero.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal_value_bias_zero m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
      ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
      ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
      ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
      ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7))
      ∧ r.2.sem = fun _ => 0)

def quiescent_RefFinalIdeal [hRefFinalIdeal : Cert.RefFinalIdeal.Facts] : Prop :=
  ∀ (m : (ℓ : Loc Cert.RefFinalIdeal.nD Cert.RefFinalIdeal.τ Cert.RefFinalIdeal.sig) → Buf (Elt Ideal) ℓ) (g : Dev Cert.RefFinalIdeal.nD → PrngReg), Pre_RefFinalIdeal m →
    θ_run (Cert.RefFinalIdeal.defs (F := Ideal)) (onTc (τ := Cert.RefFinalIdeal.τ) (Cert.RefFinalIdeal.main (F := Ideal))) ⟨m, fun _ => 0, g⟩ (fun r => (∀ c : Dev Cert.RefFinalIdeal.nD,
      r.2.mem ((c.tc : Thread Cert.RefFinalIdeal.nD Cert.RefFinalIdeal.τ).loc Cert.RefFinalIdeal.main_arg0) = m ((c.tc : Thread Cert.RefFinalIdeal.nD Cert.RefFinalIdeal.τ).loc Cert.RefFinalIdeal.main_arg0)
      ∧ r.2.mem ((c.tc : Thread Cert.RefFinalIdeal.nD Cert.RefFinalIdeal.τ).loc Cert.RefFinalIdeal.main_arg1) = m ((c.tc : Thread Cert.RefFinalIdeal.nD Cert.RefFinalIdeal.τ).loc Cert.RefFinalIdeal.main_arg1)
      ∧ r.2.mem ((c.tc : Thread Cert.RefFinalIdeal.nD Cert.RefFinalIdeal.τ).loc Cert.RefFinalIdeal.main_arg2) = m ((c.tc : Thread Cert.RefFinalIdeal.nD Cert.RefFinalIdeal.τ).loc Cert.RefFinalIdeal.main_arg2)
      ∧ r.2.mem ((c.tc : Thread Cert.RefFinalIdeal.nD Cert.RefFinalIdeal.τ).loc Cert.RefFinalIdeal.main_arg3) = m ((c.tc : Thread Cert.RefFinalIdeal.nD Cert.RefFinalIdeal.τ).loc Cert.RefFinalIdeal.main_arg3)
      ∧ r.2.mem ((c.tc : Thread Cert.RefFinalIdeal.nD Cert.RefFinalIdeal.τ).loc Cert.RefFinalIdeal.main_arg4) = m ((c.tc : Thread Cert.RefFinalIdeal.nD Cert.RefFinalIdeal.τ).loc Cert.RefFinalIdeal.main_arg4)
      ∧ r.2.mem ((c.tc : Thread Cert.RefFinalIdeal.nD Cert.RefFinalIdeal.τ).loc Cert.RefFinalIdeal.main_arg5) = m ((c.tc : Thread Cert.RefFinalIdeal.nD Cert.RefFinalIdeal.τ).loc Cert.RefFinalIdeal.main_arg5)
      ∧ r.2.mem ((c.tc : Thread Cert.RefFinalIdeal.nD Cert.RefFinalIdeal.τ).loc Cert.RefFinalIdeal.main_arg6) = m ((c.tc : Thread Cert.RefFinalIdeal.nD Cert.RefFinalIdeal.τ).loc Cert.RefFinalIdeal.main_arg6)
      ∧ r.2.mem ((c.tc : Thread Cert.RefFinalIdeal.nD Cert.RefFinalIdeal.τ).loc Cert.RefFinalIdeal.main_arg7) = m ((c.tc : Thread Cert.RefFinalIdeal.nD Cert.RefFinalIdeal.τ).loc Cert.RefFinalIdeal.main_arg7))
      ∧ r.2.sem = fun _ => 0)

def quiescent_RefFinalIdeal_pre_value_bias_zero [hRefFinalIdeal : Cert.RefFinalIdeal.Facts] [hPre_value_bias_zero : Cert.Pre_value_bias_zero.Facts] : Prop :=
  ∀ (m : (ℓ : Loc Cert.RefFinalIdeal.nD Cert.RefFinalIdeal.τ Cert.RefFinalIdeal.sig) → Buf (Elt Ideal) ℓ) (g : Dev Cert.RefFinalIdeal.nD → PrngReg), Pre_RefFinalIdeal_value_bias_zero m →
    θ_run (Cert.RefFinalIdeal.defs (F := Ideal)) (onTc (τ := Cert.RefFinalIdeal.τ) (Cert.RefFinalIdeal.main (F := Ideal))) ⟨m, fun _ => 0, g⟩ (fun r => (∀ c : Dev Cert.RefFinalIdeal.nD,
      r.2.mem ((c.tc : Thread Cert.RefFinalIdeal.nD Cert.RefFinalIdeal.τ).loc Cert.RefFinalIdeal.main_arg0) = m ((c.tc : Thread Cert.RefFinalIdeal.nD Cert.RefFinalIdeal.τ).loc Cert.RefFinalIdeal.main_arg0)
      ∧ r.2.mem ((c.tc : Thread Cert.RefFinalIdeal.nD Cert.RefFinalIdeal.τ).loc Cert.RefFinalIdeal.main_arg1) = m ((c.tc : Thread Cert.RefFinalIdeal.nD Cert.RefFinalIdeal.τ).loc Cert.RefFinalIdeal.main_arg1)
      ∧ r.2.mem ((c.tc : Thread Cert.RefFinalIdeal.nD Cert.RefFinalIdeal.τ).loc Cert.RefFinalIdeal.main_arg2) = m ((c.tc : Thread Cert.RefFinalIdeal.nD Cert.RefFinalIdeal.τ).loc Cert.RefFinalIdeal.main_arg2)
      ∧ r.2.mem ((c.tc : Thread Cert.RefFinalIdeal.nD Cert.RefFinalIdeal.τ).loc Cert.RefFinalIdeal.main_arg3) = m ((c.tc : Thread Cert.RefFinalIdeal.nD Cert.RefFinalIdeal.τ).loc Cert.RefFinalIdeal.main_arg3)
      ∧ r.2.mem ((c.tc : Thread Cert.RefFinalIdeal.nD Cert.RefFinalIdeal.τ).loc Cert.RefFinalIdeal.main_arg4) = m ((c.tc : Thread Cert.RefFinalIdeal.nD Cert.RefFinalIdeal.τ).loc Cert.RefFinalIdeal.main_arg4)
      ∧ r.2.mem ((c.tc : Thread Cert.RefFinalIdeal.nD Cert.RefFinalIdeal.τ).loc Cert.RefFinalIdeal.main_arg5) = m ((c.tc : Thread Cert.RefFinalIdeal.nD Cert.RefFinalIdeal.τ).loc Cert.RefFinalIdeal.main_arg5)
      ∧ r.2.mem ((c.tc : Thread Cert.RefFinalIdeal.nD Cert.RefFinalIdeal.τ).loc Cert.RefFinalIdeal.main_arg6) = m ((c.tc : Thread Cert.RefFinalIdeal.nD Cert.RefFinalIdeal.τ).loc Cert.RefFinalIdeal.main_arg6)
      ∧ r.2.mem ((c.tc : Thread Cert.RefFinalIdeal.nD Cert.RefFinalIdeal.τ).loc Cert.RefFinalIdeal.main_arg7) = m ((c.tc : Thread Cert.RefFinalIdeal.nD Cert.RefFinalIdeal.τ).loc Cert.RefFinalIdeal.main_arg7))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RouterIdeal_pre_means_finite [hRouterIdeal : Cert.RouterIdeal.Facts] [hPre_means_finite : Cert.Pre_means_finite.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_means_finite m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ r.2.sem = fun _ => 0)

def quiescent_RefRouterIdeal [hRefRouterIdeal : Cert.RefRouterIdeal.Facts] : Prop :=
  ∀ (m : (ℓ : Loc Cert.RefRouterIdeal.nD Cert.RefRouterIdeal.τ Cert.RefRouterIdeal.sig) → Buf (Elt Ideal) ℓ) (g : Dev Cert.RefRouterIdeal.nD → PrngReg), Pre_RefRouterIdeal m →
    θ_run (Cert.RefRouterIdeal.defs (F := Ideal)) (onTc (τ := Cert.RefRouterIdeal.τ) (Cert.RefRouterIdeal.main (F := Ideal))) ⟨m, fun _ => 0, g⟩ (fun r => (∀ c : Dev Cert.RefRouterIdeal.nD,
      r.2.mem ((c.tc : Thread Cert.RefRouterIdeal.nD Cert.RefRouterIdeal.τ).loc Cert.RefRouterIdeal.main_arg0) = m ((c.tc : Thread Cert.RefRouterIdeal.nD Cert.RefRouterIdeal.τ).loc Cert.RefRouterIdeal.main_arg0)
      ∧ r.2.mem ((c.tc : Thread Cert.RefRouterIdeal.nD Cert.RefRouterIdeal.τ).loc Cert.RefRouterIdeal.main_arg1) = m ((c.tc : Thread Cert.RefRouterIdeal.nD Cert.RefRouterIdeal.τ).loc Cert.RefRouterIdeal.main_arg1)
      ∧ r.2.mem ((c.tc : Thread Cert.RefRouterIdeal.nD Cert.RefRouterIdeal.τ).loc Cert.RefRouterIdeal.main_arg2) = m ((c.tc : Thread Cert.RefRouterIdeal.nD Cert.RefRouterIdeal.τ).loc Cert.RefRouterIdeal.main_arg2)
      ∧ r.2.mem ((c.tc : Thread Cert.RefRouterIdeal.nD Cert.RefRouterIdeal.τ).loc Cert.RefRouterIdeal.main_arg3) = m ((c.tc : Thread Cert.RefRouterIdeal.nD Cert.RefRouterIdeal.τ).loc Cert.RefRouterIdeal.main_arg3))
      ∧ r.2.sem = fun _ => 0)

def quiescent_RefRouterIdeal_pre_means_finite [hRefRouterIdeal : Cert.RefRouterIdeal.Facts] [hPre_means_finite : Cert.Pre_means_finite.Facts] : Prop :=
  ∀ (m : (ℓ : Loc Cert.RefRouterIdeal.nD Cert.RefRouterIdeal.τ Cert.RefRouterIdeal.sig) → Buf (Elt Ideal) ℓ) (g : Dev Cert.RefRouterIdeal.nD → PrngReg), Pre_RefRouterIdeal_means_finite m →
    θ_run (Cert.RefRouterIdeal.defs (F := Ideal)) (onTc (τ := Cert.RefRouterIdeal.τ) (Cert.RefRouterIdeal.main (F := Ideal))) ⟨m, fun _ => 0, g⟩ (fun r => (∀ c : Dev Cert.RefRouterIdeal.nD,
      r.2.mem ((c.tc : Thread Cert.RefRouterIdeal.nD Cert.RefRouterIdeal.τ).loc Cert.RefRouterIdeal.main_arg0) = m ((c.tc : Thread Cert.RefRouterIdeal.nD Cert.RefRouterIdeal.τ).loc Cert.RefRouterIdeal.main_arg0)
      ∧ r.2.mem ((c.tc : Thread Cert.RefRouterIdeal.nD Cert.RefRouterIdeal.τ).loc Cert.RefRouterIdeal.main_arg1) = m ((c.tc : Thread Cert.RefRouterIdeal.nD Cert.RefRouterIdeal.τ).loc Cert.RefRouterIdeal.main_arg1)
      ∧ r.2.mem ((c.tc : Thread Cert.RefRouterIdeal.nD Cert.RefRouterIdeal.τ).loc Cert.RefRouterIdeal.main_arg2) = m ((c.tc : Thread Cert.RefRouterIdeal.nD Cert.RefRouterIdeal.τ).loc Cert.RefRouterIdeal.main_arg2)
      ∧ r.2.mem ((c.tc : Thread Cert.RefRouterIdeal.nD Cert.RefRouterIdeal.τ).loc Cert.RefRouterIdeal.main_arg3) = m ((c.tc : Thread Cert.RefRouterIdeal.nD Cert.RefRouterIdeal.τ).loc Cert.RefRouterIdeal.main_arg3))
      ∧ r.2.sem = fun _ => 0)

def quiescent_Attn [hAttn : Cert.Attn.Facts] [hPre_indices_in_range : Cert.Pre_indices_in_range.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] [hPre_indices_in_range : Cert.Pre_indices_in_range.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_indices_in_range_and_logits_finite [hAttnIdeal : Cert.AttnIdeal.Facts] [hPre_indices_in_range_and_logits_finite : Cert.Pre_indices_in_range_and_logits_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_indices_in_range_and_logits_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_RefAttnIdeal [hRefAttnIdeal : Cert.RefAttnIdeal.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2)
      ∧ r.2.mem ((c.tc : Thread Cert.RefAttnIdeal.nD Cert.RefAttnIdeal.τ).loc Cert.RefAttnIdeal.main_arg3) = m ((c.tc : Thread Cert.RefAttnIdeal.nD Cert.RefAttnIdeal.τ).loc Cert.RefAttnIdeal.main_arg3)
      ∧ r.2.mem ((c.tc : Thread Cert.RefAttnIdeal.nD Cert.RefAttnIdeal.τ).loc Cert.RefAttnIdeal.main_arg4) = m ((c.tc : Thread Cert.RefAttnIdeal.nD Cert.RefAttnIdeal.τ).loc Cert.RefAttnIdeal.main_arg4)
      ∧ r.2.mem ((c.tc : Thread Cert.RefAttnIdeal.nD Cert.RefAttnIdeal.τ).loc Cert.RefAttnIdeal.main_arg5) = m ((c.tc : Thread Cert.RefAttnIdeal.nD Cert.RefAttnIdeal.τ).loc Cert.RefAttnIdeal.main_arg5))
      ∧ r.2.sem = fun _ => 0)

def quiescent_RefAttnIdeal_pre_indices_in_range_and_logits_finite [hRefAttnIdeal : Cert.RefAttnIdeal.Facts] [hPre_indices_in_range_and_logits_finite : Cert.Pre_indices_in_range_and_logits_finite.Facts] : Prop :=
  ∀ (m : (ℓ : Loc Cert.RefAttnIdeal.nD Cert.RefAttnIdeal.τ Cert.RefAttnIdeal.sig) → Buf (Elt Ideal) ℓ) (g : Dev Cert.RefAttnIdeal.nD → PrngReg), Pre_RefAttnIdeal_indices_in_range_and_logits_finite m →
    θ_run (Cert.RefAttnIdeal.defs (F := Ideal)) (onTc (τ := Cert.RefAttnIdeal.τ) (Cert.RefAttnIdeal.main (F := Ideal))) ⟨m, fun _ => 0, g⟩ (fun r => (∀ c : Dev Cert.RefAttnIdeal.nD,
      r.2.mem ((c.tc : Thread Cert.RefAttnIdeal.nD Cert.RefAttnIdeal.τ).loc Cert.RefAttnIdeal.main_arg0) = m ((c.tc : Thread Cert.RefAttnIdeal.nD Cert.RefAttnIdeal.τ).loc Cert.RefAttnIdeal.main_arg0)
      ∧ r.2.mem ((c.tc : Thread Cert.RefAttnIdeal.nD Cert.RefAttnIdeal.τ).loc Cert.RefAttnIdeal.main_arg1) = m ((c.tc : Thread Cert.RefAttnIdeal.nD Cert.RefAttnIdeal.τ).loc Cert.RefAttnIdeal.main_arg1)
      ∧ r.2.mem ((c.tc : Thread Cert.RefAttnIdeal.nD Cert.RefAttnIdeal.τ).loc Cert.RefAttnIdeal.main_arg2) = m ((c.tc : Thread Cert.RefAttnIdeal.nD Cert.RefAttnIdeal.τ).loc Cert.RefAttnIdeal.main_arg2)
      ∧ r.2.mem ((c.tc : Thread Cert.RefAttnIdeal.nD Cert.RefAttnIdeal.τ).loc Cert.RefAttnIdeal.main_arg3) = m ((c.tc : Thread Cert.RefAttnIdeal.nD Cert.RefAttnIdeal.τ).loc Cert.RefAttnIdeal.main_arg3)
      ∧ r.2.mem ((c.tc : Thread Cert.RefAttnIdeal.nD Cert.RefAttnIdeal.τ).loc Cert.RefAttnIdeal.main_arg4) = m ((c.tc : Thread Cert.RefAttnIdeal.nD Cert.RefAttnIdeal.τ).loc Cert.RefAttnIdeal.main_arg4)
      ∧ r.2.mem ((c.tc : Thread Cert.RefAttnIdeal.nD Cert.RefAttnIdeal.τ).loc Cert.RefAttnIdeal.main_arg5) = m ((c.tc : Thread Cert.RefAttnIdeal.nD Cert.RefAttnIdeal.τ).loc Cert.RefAttnIdeal.main_arg5))
      ∧ r.2.sem = fun _ => 0)

def quiescent_Whole [hWhole : Cert.Whole.Facts] : Prop :=
  ∀ (m : (ℓ : Loc Cert.Whole.nD Cert.Whole.τ Cert.Whole.sig) → Buf (Elt Bits) ℓ) (g : Dev Cert.Whole.nD → PrngReg), Pre_Whole m →
    θ_run (Cert.Whole.defs (F := Bits)) (onTc (τ := Cert.Whole.τ) (Cert.Whole.main (F := Bits))) ⟨m, fun _ => 0, g⟩ (fun r => (∀ c : Dev Cert.Whole.nD,
      r.2.mem ((c.tc : Thread Cert.Whole.nD Cert.Whole.τ).loc Cert.Whole.main_arg0) = m ((c.tc : Thread Cert.Whole.nD Cert.Whole.τ).loc Cert.Whole.main_arg0)
      ∧ r.2.mem ((c.tc : Thread Cert.Whole.nD Cert.Whole.τ).loc Cert.Whole.main_arg1) = m ((c.tc : Thread Cert.Whole.nD Cert.Whole.τ).loc Cert.Whole.main_arg1)
      ∧ r.2.mem ((c.tc : Thread Cert.Whole.nD Cert.Whole.τ).loc Cert.Whole.main_arg2) = m ((c.tc : Thread Cert.Whole.nD Cert.Whole.τ).loc Cert.Whole.main_arg2)
      ∧ r.2.mem ((c.tc : Thread Cert.Whole.nD Cert.Whole.τ).loc Cert.Whole.main_arg3) = m ((c.tc : Thread Cert.Whole.nD Cert.Whole.τ).loc Cert.Whole.main_arg3)
      ∧ r.2.mem ((c.tc : Thread Cert.Whole.nD Cert.Whole.τ).loc Cert.Whole.main_arg4) = m ((c.tc : Thread Cert.Whole.nD Cert.Whole.τ).loc Cert.Whole.main_arg4)
      ∧ r.2.mem ((c.tc : Thread Cert.Whole.nD Cert.Whole.τ).loc Cert.Whole.main_arg5) = m ((c.tc : Thread Cert.Whole.nD Cert.Whole.τ).loc Cert.Whole.main_arg5)
      ∧ r.2.mem ((c.tc : Thread Cert.Whole.nD Cert.Whole.τ).loc Cert.Whole.main_arg6) = m ((c.tc : Thread Cert.Whole.nD Cert.Whole.τ).loc Cert.Whole.main_arg6)
      ∧ r.2.mem ((c.tc : Thread Cert.Whole.nD Cert.Whole.τ).loc Cert.Whole.main_arg7) = m ((c.tc : Thread Cert.Whole.nD Cert.Whole.τ).loc Cert.Whole.main_arg7))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
      ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7))
      ∧ r.2.sem = fun _ => 0)

def quiescent_WholeIdeal_pre_inputs_finite [hWholeIdeal : Cert.WholeIdeal.Facts] [hPre_inputs_finite : Cert.Pre_inputs_finite.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_inputs_finite m →
    θ_run (Cert.WholeIdeal.defs (F := Ideal)) (onTc (τ := Cert.WholeIdeal.τ) (Cert.WholeIdeal.main (F := Ideal))) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
      ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7))
      ∧ r.2.sem = fun _ => 0)

def quiescent_RefWholeIdeal [hRefWholeIdeal : Cert.RefWholeIdeal.Facts] : Prop :=
  ∀ (m : (ℓ : Loc Cert.RefWholeIdeal.nD Cert.RefWholeIdeal.τ Cert.RefWholeIdeal.sig) → Buf (Elt Ideal) ℓ) (g : Dev Cert.RefWholeIdeal.nD → PrngReg), Pre_RefWholeIdeal m →
    θ_run (Cert.RefWholeIdeal.defs (F := Ideal)) (onTc (τ := Cert.RefWholeIdeal.τ) (Cert.RefWholeIdeal.main (F := Ideal))) ⟨m, fun _ => 0, g⟩ (fun r => (∀ c : Dev Cert.RefWholeIdeal.nD,
      r.2.mem ((c.tc : Thread Cert.RefWholeIdeal.nD Cert.RefWholeIdeal.τ).loc Cert.RefWholeIdeal.main_arg0) = m ((c.tc : Thread Cert.RefWholeIdeal.nD Cert.RefWholeIdeal.τ).loc Cert.RefWholeIdeal.main_arg0)
      ∧ r.2.mem ((c.tc : Thread Cert.RefWholeIdeal.nD Cert.RefWholeIdeal.τ).loc Cert.RefWholeIdeal.main_arg1) = m ((c.tc : Thread Cert.RefWholeIdeal.nD Cert.RefWholeIdeal.τ).loc Cert.RefWholeIdeal.main_arg1)
      ∧ r.2.mem ((c.tc : Thread Cert.RefWholeIdeal.nD Cert.RefWholeIdeal.τ).loc Cert.RefWholeIdeal.main_arg2) = m ((c.tc : Thread Cert.RefWholeIdeal.nD Cert.RefWholeIdeal.τ).loc Cert.RefWholeIdeal.main_arg2)
      ∧ r.2.mem ((c.tc : Thread Cert.RefWholeIdeal.nD Cert.RefWholeIdeal.τ).loc Cert.RefWholeIdeal.main_arg3) = m ((c.tc : Thread Cert.RefWholeIdeal.nD Cert.RefWholeIdeal.τ).loc Cert.RefWholeIdeal.main_arg3)
      ∧ r.2.mem ((c.tc : Thread Cert.RefWholeIdeal.nD Cert.RefWholeIdeal.τ).loc Cert.RefWholeIdeal.main_arg4) = m ((c.tc : Thread Cert.RefWholeIdeal.nD Cert.RefWholeIdeal.τ).loc Cert.RefWholeIdeal.main_arg4)
      ∧ r.2.mem ((c.tc : Thread Cert.RefWholeIdeal.nD Cert.RefWholeIdeal.τ).loc Cert.RefWholeIdeal.main_arg5) = m ((c.tc : Thread Cert.RefWholeIdeal.nD Cert.RefWholeIdeal.τ).loc Cert.RefWholeIdeal.main_arg5)
      ∧ r.2.mem ((c.tc : Thread Cert.RefWholeIdeal.nD Cert.RefWholeIdeal.τ).loc Cert.RefWholeIdeal.main_arg6) = m ((c.tc : Thread Cert.RefWholeIdeal.nD Cert.RefWholeIdeal.τ).loc Cert.RefWholeIdeal.main_arg6)
      ∧ r.2.mem ((c.tc : Thread Cert.RefWholeIdeal.nD Cert.RefWholeIdeal.τ).loc Cert.RefWholeIdeal.main_arg7) = m ((c.tc : Thread Cert.RefWholeIdeal.nD Cert.RefWholeIdeal.τ).loc Cert.RefWholeIdeal.main_arg7))
      ∧ r.2.sem = fun _ => 0)

def quiescent_RefWholeIdeal_pre_inputs_finite [hRefWholeIdeal : Cert.RefWholeIdeal.Facts] [hPre_inputs_finite : Cert.Pre_inputs_finite.Facts] : Prop :=
  ∀ (m : (ℓ : Loc Cert.RefWholeIdeal.nD Cert.RefWholeIdeal.τ Cert.RefWholeIdeal.sig) → Buf (Elt Ideal) ℓ) (g : Dev Cert.RefWholeIdeal.nD → PrngReg), Pre_RefWholeIdeal_inputs_finite m →
    θ_run (Cert.RefWholeIdeal.defs (F := Ideal)) (onTc (τ := Cert.RefWholeIdeal.τ) (Cert.RefWholeIdeal.main (F := Ideal))) ⟨m, fun _ => 0, g⟩ (fun r => (∀ c : Dev Cert.RefWholeIdeal.nD,
      r.2.mem ((c.tc : Thread Cert.RefWholeIdeal.nD Cert.RefWholeIdeal.τ).loc Cert.RefWholeIdeal.main_arg0) = m ((c.tc : Thread Cert.RefWholeIdeal.nD Cert.RefWholeIdeal.τ).loc Cert.RefWholeIdeal.main_arg0)
      ∧ r.2.mem ((c.tc : Thread Cert.RefWholeIdeal.nD Cert.RefWholeIdeal.τ).loc Cert.RefWholeIdeal.main_arg1) = m ((c.tc : Thread Cert.RefWholeIdeal.nD Cert.RefWholeIdeal.τ).loc Cert.RefWholeIdeal.main_arg1)
      ∧ r.2.mem ((c.tc : Thread Cert.RefWholeIdeal.nD Cert.RefWholeIdeal.τ).loc Cert.RefWholeIdeal.main_arg2) = m ((c.tc : Thread Cert.RefWholeIdeal.nD Cert.RefWholeIdeal.τ).loc Cert.RefWholeIdeal.main_arg2)
      ∧ r.2.mem ((c.tc : Thread Cert.RefWholeIdeal.nD Cert.RefWholeIdeal.τ).loc Cert.RefWholeIdeal.main_arg3) = m ((c.tc : Thread Cert.RefWholeIdeal.nD Cert.RefWholeIdeal.τ).loc Cert.RefWholeIdeal.main_arg3)
      ∧ r.2.mem ((c.tc : Thread Cert.RefWholeIdeal.nD Cert.RefWholeIdeal.τ).loc Cert.RefWholeIdeal.main_arg4) = m ((c.tc : Thread Cert.RefWholeIdeal.nD Cert.RefWholeIdeal.τ).loc Cert.RefWholeIdeal.main_arg4)
      ∧ r.2.mem ((c.tc : Thread Cert.RefWholeIdeal.nD Cert.RefWholeIdeal.τ).loc Cert.RefWholeIdeal.main_arg5) = m ((c.tc : Thread Cert.RefWholeIdeal.nD Cert.RefWholeIdeal.τ).loc Cert.RefWholeIdeal.main_arg5)
      ∧ r.2.mem ((c.tc : Thread Cert.RefWholeIdeal.nD Cert.RefWholeIdeal.τ).loc Cert.RefWholeIdeal.main_arg6) = m ((c.tc : Thread Cert.RefWholeIdeal.nD Cert.RefWholeIdeal.τ).loc Cert.RefWholeIdeal.main_arg6)
      ∧ r.2.mem ((c.tc : Thread Cert.RefWholeIdeal.nD Cert.RefWholeIdeal.τ).loc Cert.RefWholeIdeal.main_arg7) = m ((c.tc : Thread Cert.RefWholeIdeal.nD Cert.RefWholeIdeal.τ).loc Cert.RefWholeIdeal.main_arg7))
      ∧ r.2.sem = fun _ => 0)

def preserves_Proj_ProjIdeal : Prop :=
  True

def algebraic_ProjIdeal_RefProjIdeal [hProjIdeal : Cert.ProjIdeal.Facts] [hRefProjIdeal : Cert.RefProjIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.RefProjIdeal.nD Cert.RefProjIdeal.τ Cert.RefProjIdeal.sig) → Buf (Elt Ideal) ℓ) (g' : Dev Cert.RefProjIdeal.nD → PrngReg), Pre_ProjIdeal m →
    (∀ c : Dev Cert.ProjIdeal.nD,
      m' ((c.tc : Thread Cert.RefProjIdeal.nD Cert.RefProjIdeal.τ).loc Cert.RefProjIdeal.main_arg0) = m ((c.tc : Thread Cert.ProjIdeal.nD Cert.ProjIdeal.τ).loc Cert.ProjIdeal.main_arg0)
      ∧ m' ((c.tc : Thread Cert.RefProjIdeal.nD Cert.RefProjIdeal.τ).loc Cert.RefProjIdeal.main_arg1) = m ((c.tc : Thread Cert.ProjIdeal.nD Cert.ProjIdeal.τ).loc Cert.ProjIdeal.main_arg1)
      ∧ m' ((c.tc : Thread Cert.RefProjIdeal.nD Cert.RefProjIdeal.τ).loc Cert.RefProjIdeal.main_arg2) = m ((c.tc : Thread Cert.ProjIdeal.nD Cert.ProjIdeal.τ).loc Cert.ProjIdeal.main_arg2)
      ∧ m' ((c.tc : Thread Cert.RefProjIdeal.nD Cert.RefProjIdeal.τ).loc Cert.RefProjIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v23_0)) (v1 : (c : Dev Cert.ProjIdeal.nD) → Buf (Elt Ideal) ((c.tc : Thread Cert.ProjIdeal.nD Cert.ProjIdeal.τ).loc Cert.ProjIdeal.main_v23_1)) (v2 : (c : Dev Cert.ProjIdeal.nD) → Buf (Elt Ideal) ((c.tc : Thread Cert.ProjIdeal.nD Cert.ProjIdeal.τ).loc Cert.ProjIdeal.main_v23_2)) (v3 : (c : Dev Cert.ProjIdeal.nD) → Buf (Elt Ideal) ((c.tc : Thread Cert.ProjIdeal.nD Cert.ProjIdeal.τ).loc Cert.ProjIdeal.main_v23_3)) (v4 : (c : Dev Cert.ProjIdeal.nD) → Buf (Elt Ideal) ((c.tc : Thread Cert.ProjIdeal.nD Cert.ProjIdeal.τ).loc Cert.ProjIdeal.main_v23_4)) (v5 : (c : Dev Cert.ProjIdeal.nD) → Buf (Elt Ideal) ((c.tc : Thread Cert.ProjIdeal.nD Cert.ProjIdeal.τ).loc Cert.ProjIdeal.main_v23_5)) (v6 : (c : Dev Cert.ProjIdeal.nD) → Buf (Elt Ideal) ((c.tc : Thread Cert.ProjIdeal.nD Cert.ProjIdeal.τ).loc Cert.ProjIdeal.main_v23_6)) (v7 : (c : Dev Cert.ProjIdeal.nD) → Buf (Elt Ideal) ((c.tc : Thread Cert.ProjIdeal.nD Cert.ProjIdeal.τ).loc Cert.ProjIdeal.main_v23_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v23_0) = v0 c
          ∧ r.2.mem ((c.tc : Thread Cert.ProjIdeal.nD Cert.ProjIdeal.τ).loc Cert.ProjIdeal.main_v23_1) = v1 c
          ∧ r.2.mem ((c.tc : Thread Cert.ProjIdeal.nD Cert.ProjIdeal.τ).loc Cert.ProjIdeal.main_v23_2) = v2 c
          ∧ r.2.mem ((c.tc : Thread Cert.ProjIdeal.nD Cert.ProjIdeal.τ).loc Cert.ProjIdeal.main_v23_3) = v3 c
          ∧ r.2.mem ((c.tc : Thread Cert.ProjIdeal.nD Cert.ProjIdeal.τ).loc Cert.ProjIdeal.main_v23_4) = v4 c
          ∧ r.2.mem ((c.tc : Thread Cert.ProjIdeal.nD Cert.ProjIdeal.τ).loc Cert.ProjIdeal.main_v23_5) = v5 c
          ∧ r.2.mem ((c.tc : Thread Cert.ProjIdeal.nD Cert.ProjIdeal.τ).loc Cert.ProjIdeal.main_v23_6) = v6 c
          ∧ r.2.mem ((c.tc : Thread Cert.ProjIdeal.nD Cert.ProjIdeal.τ).loc Cert.ProjIdeal.main_v23_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.RefProjIdeal.defs (F := Ideal)) (onTc (τ := Cert.RefProjIdeal.τ) (Cert.RefProjIdeal.main (F := Ideal))) ⟨m', fun _ => 0, g'⟩ (fun r => ∀ c : Dev Cert.RefProjIdeal.nD,
          r.2.mem ((c.tc : Thread Cert.RefProjIdeal.nD Cert.RefProjIdeal.τ).loc Cert.RefProjIdeal.main_v10) = v0 c
          ∧ r.2.mem ((c.tc : Thread Cert.RefProjIdeal.nD Cert.RefProjIdeal.τ).loc Cert.RefProjIdeal.main_v36) = v1 c
          ∧ r.2.mem ((c.tc : Thread Cert.RefProjIdeal.nD Cert.RefProjIdeal.τ).loc Cert.RefProjIdeal.main_v16) = v2 c
          ∧ r.2.mem ((c.tc : Thread Cert.RefProjIdeal.nD Cert.RefProjIdeal.τ).loc Cert.RefProjIdeal.main_v42) = v3 c
          ∧ r.2.mem ((c.tc : Thread Cert.RefProjIdeal.nD Cert.RefProjIdeal.τ).loc Cert.RefProjIdeal.main_v20) = v4 c
          ∧ r.2.mem ((c.tc : Thread Cert.RefProjIdeal.nD Cert.RefProjIdeal.τ).loc Cert.RefProjIdeal.main_v25) = v5 c
          ∧ r.2.mem ((c.tc : Thread Cert.RefProjIdeal.nD Cert.RefProjIdeal.τ).loc Cert.RefProjIdeal.main_v46) = v6 c
          ∧ r.2.mem ((c.tc : Thread Cert.RefProjIdeal.nD Cert.RefProjIdeal.τ).loc Cert.RefProjIdeal.main_v51) = v7 c
          ∧ r.2.mem ((c.tc : Thread Cert.RefProjIdeal.nD Cert.RefProjIdeal.τ).loc Cert.RefProjIdeal.main_arg0) = m' ((c.tc : Thread Cert.RefProjIdeal.nD Cert.RefProjIdeal.τ).loc Cert.RefProjIdeal.main_arg0)
          ∧ r.2.mem ((c.tc : Thread Cert.RefProjIdeal.nD Cert.RefProjIdeal.τ).loc Cert.RefProjIdeal.main_arg1) = m' ((c.tc : Thread Cert.RefProjIdeal.nD Cert.RefProjIdeal.τ).loc Cert.RefProjIdeal.main_arg1)
          ∧ r.2.mem ((c.tc : Thread Cert.RefProjIdeal.nD Cert.RefProjIdeal.τ).loc Cert.RefProjIdeal.main_arg2) = m' ((c.tc : Thread Cert.RefProjIdeal.nD Cert.RefProjIdeal.τ).loc Cert.RefProjIdeal.main_arg2)
          ∧ r.2.mem ((c.tc : Thread Cert.RefProjIdeal.nD Cert.RefProjIdeal.τ).loc Cert.RefProjIdeal.main_arg3) = m' ((c.tc : Thread Cert.RefProjIdeal.nD Cert.RefProjIdeal.τ).loc Cert.RefProjIdeal.main_arg3))

def preserves_Final_FinalIdeal : Prop :=
  True

def algebraic_FinalIdeal_RefFinalIdeal_pre_value_bias_zero [hFinalIdeal : Cert.FinalIdeal.Facts] [hRefFinalIdeal : Cert.RefFinalIdeal.Facts] [hPre_value_bias_zero : Cert.Pre_value_bias_zero.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.RefFinalIdeal.nD Cert.RefFinalIdeal.τ Cert.RefFinalIdeal.sig) → Buf (Elt Ideal) ℓ) (g' : Dev Cert.RefFinalIdeal.nD → PrngReg), Pre_FinalIdeal_value_bias_zero m →
    (∀ c : Dev Cert.FinalIdeal.nD,
      m' ((c.tc : Thread Cert.RefFinalIdeal.nD Cert.RefFinalIdeal.τ).loc Cert.RefFinalIdeal.main_arg0) = m ((c.tc : Thread Cert.FinalIdeal.nD Cert.FinalIdeal.τ).loc Cert.FinalIdeal.main_arg0)
      ∧ m' ((c.tc : Thread Cert.RefFinalIdeal.nD Cert.RefFinalIdeal.τ).loc Cert.RefFinalIdeal.main_arg1) = m ((c.tc : Thread Cert.FinalIdeal.nD Cert.FinalIdeal.τ).loc Cert.FinalIdeal.main_arg1)
      ∧ m' ((c.tc : Thread Cert.RefFinalIdeal.nD Cert.RefFinalIdeal.τ).loc Cert.RefFinalIdeal.main_arg2) = m ((c.tc : Thread Cert.FinalIdeal.nD Cert.FinalIdeal.τ).loc Cert.FinalIdeal.main_arg2)
      ∧ m' ((c.tc : Thread Cert.RefFinalIdeal.nD Cert.RefFinalIdeal.τ).loc Cert.RefFinalIdeal.main_arg3) = m ((c.tc : Thread Cert.FinalIdeal.nD Cert.FinalIdeal.τ).loc Cert.FinalIdeal.main_arg3)
      ∧ m' ((c.tc : Thread Cert.RefFinalIdeal.nD Cert.RefFinalIdeal.τ).loc Cert.RefFinalIdeal.main_arg4) = m ((c.tc : Thread Cert.FinalIdeal.nD Cert.FinalIdeal.τ).loc Cert.FinalIdeal.main_arg4)
      ∧ m' ((c.tc : Thread Cert.RefFinalIdeal.nD Cert.RefFinalIdeal.τ).loc Cert.RefFinalIdeal.main_arg5) = m ((c.tc : Thread Cert.FinalIdeal.nD Cert.FinalIdeal.τ).loc Cert.FinalIdeal.main_arg5)
      ∧ m' ((c.tc : Thread Cert.RefFinalIdeal.nD Cert.RefFinalIdeal.τ).loc Cert.RefFinalIdeal.main_arg6) = m ((c.tc : Thread Cert.FinalIdeal.nD Cert.FinalIdeal.τ).loc Cert.FinalIdeal.main_arg6)
      ∧ m' ((c.tc : Thread Cert.RefFinalIdeal.nD Cert.RefFinalIdeal.τ).loc Cert.RefFinalIdeal.main_arg7) = m ((c.tc : Thread Cert.FinalIdeal.nD Cert.FinalIdeal.τ).loc Cert.FinalIdeal.main_arg7)) →
    ∃ (v0 : (c : Dev Cert.FinalIdeal.nD) → Buf (Elt Ideal) ((c.tc : Thread Cert.FinalIdeal.nD Cert.FinalIdeal.τ).loc Cert.FinalIdeal.main_v7)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v7) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)
          ∧ r.2.mem ((c.tc : Thread Cert.FinalIdeal.nD Cert.FinalIdeal.τ).loc Cert.FinalIdeal.main_arg4) = m ((c.tc : Thread Cert.FinalIdeal.nD Cert.FinalIdeal.τ).loc Cert.FinalIdeal.main_arg4)
          ∧ r.2.mem ((c.tc : Thread Cert.FinalIdeal.nD Cert.FinalIdeal.τ).loc Cert.FinalIdeal.main_arg5) = m ((c.tc : Thread Cert.FinalIdeal.nD Cert.FinalIdeal.τ).loc Cert.FinalIdeal.main_arg5)
          ∧ r.2.mem ((c.tc : Thread Cert.FinalIdeal.nD Cert.FinalIdeal.τ).loc Cert.FinalIdeal.main_arg6) = m ((c.tc : Thread Cert.FinalIdeal.nD Cert.FinalIdeal.τ).loc Cert.FinalIdeal.main_arg6)
          ∧ r.2.mem ((c.tc : Thread Cert.FinalIdeal.nD Cert.FinalIdeal.τ).loc Cert.FinalIdeal.main_arg7) = m ((c.tc : Thread Cert.FinalIdeal.nD Cert.FinalIdeal.τ).loc Cert.FinalIdeal.main_arg7))
      ∧ θ_run (Cert.RefFinalIdeal.defs (F := Ideal)) (onTc (τ := Cert.RefFinalIdeal.τ) (Cert.RefFinalIdeal.main (F := Ideal))) ⟨m', fun _ => 0, g'⟩ (fun r => ∀ c : Dev Cert.RefFinalIdeal.nD,
          r.2.mem ((c.tc : Thread Cert.RefFinalIdeal.nD Cert.RefFinalIdeal.τ).loc Cert.RefFinalIdeal.main_v81) = v0 c
          ∧ r.2.mem ((c.tc : Thread Cert.RefFinalIdeal.nD Cert.RefFinalIdeal.τ).loc Cert.RefFinalIdeal.main_arg0) = m' ((c.tc : Thread Cert.RefFinalIdeal.nD Cert.RefFinalIdeal.τ).loc Cert.RefFinalIdeal.main_arg0)
          ∧ r.2.mem ((c.tc : Thread Cert.RefFinalIdeal.nD Cert.RefFinalIdeal.τ).loc Cert.RefFinalIdeal.main_arg1) = m' ((c.tc : Thread Cert.RefFinalIdeal.nD Cert.RefFinalIdeal.τ).loc Cert.RefFinalIdeal.main_arg1)
          ∧ r.2.mem ((c.tc : Thread Cert.RefFinalIdeal.nD Cert.RefFinalIdeal.τ).loc Cert.RefFinalIdeal.main_arg2) = m' ((c.tc : Thread Cert.RefFinalIdeal.nD Cert.RefFinalIdeal.τ).loc Cert.RefFinalIdeal.main_arg2)
          ∧ r.2.mem ((c.tc : Thread Cert.RefFinalIdeal.nD Cert.RefFinalIdeal.τ).loc Cert.RefFinalIdeal.main_arg3) = m' ((c.tc : Thread Cert.RefFinalIdeal.nD Cert.RefFinalIdeal.τ).loc Cert.RefFinalIdeal.main_arg3)
          ∧ r.2.mem ((c.tc : Thread Cert.RefFinalIdeal.nD Cert.RefFinalIdeal.τ).loc Cert.RefFinalIdeal.main_arg4) = m' ((c.tc : Thread Cert.RefFinalIdeal.nD Cert.RefFinalIdeal.τ).loc Cert.RefFinalIdeal.main_arg4)
          ∧ r.2.mem ((c.tc : Thread Cert.RefFinalIdeal.nD Cert.RefFinalIdeal.τ).loc Cert.RefFinalIdeal.main_arg5) = m' ((c.tc : Thread Cert.RefFinalIdeal.nD Cert.RefFinalIdeal.τ).loc Cert.RefFinalIdeal.main_arg5)
          ∧ r.2.mem ((c.tc : Thread Cert.RefFinalIdeal.nD Cert.RefFinalIdeal.τ).loc Cert.RefFinalIdeal.main_arg6) = m' ((c.tc : Thread Cert.RefFinalIdeal.nD Cert.RefFinalIdeal.τ).loc Cert.RefFinalIdeal.main_arg6)
          ∧ r.2.mem ((c.tc : Thread Cert.RefFinalIdeal.nD Cert.RefFinalIdeal.τ).loc Cert.RefFinalIdeal.main_arg7) = m' ((c.tc : Thread Cert.RefFinalIdeal.nD Cert.RefFinalIdeal.τ).loc Cert.RefFinalIdeal.main_arg7))

def preserves_Router_RouterIdeal : Prop :=
  True

def algebraic_RouterIdeal_RefRouterIdeal_pre_means_finite [hRouterIdeal : Cert.RouterIdeal.Facts] [hRefRouterIdeal : Cert.RefRouterIdeal.Facts] [hPre_means_finite : Cert.Pre_means_finite.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RefRouterIdeal.nD Cert.RefRouterIdeal.τ Cert.RefRouterIdeal.sig) → Buf (Elt Ideal) ℓ) (g' : Dev Cert.RefRouterIdeal.nD → PrngReg), Pre_RouterIdeal_means_finite m →
    (∀ c : Dev Cert.RouterIdeal.nD,
      m' ((c.tc : Thread Cert.RefRouterIdeal.nD Cert.RefRouterIdeal.τ).loc Cert.RefRouterIdeal.main_arg0) = m ((c.tc : Thread Cert.RouterIdeal.nD Cert.RouterIdeal.τ).loc Cert.RouterIdeal.main_arg0)
      ∧ m' ((c.tc : Thread Cert.RefRouterIdeal.nD Cert.RefRouterIdeal.τ).loc Cert.RefRouterIdeal.main_arg1) = m ((c.tc : Thread Cert.RouterIdeal.nD Cert.RouterIdeal.τ).loc Cert.RouterIdeal.main_arg1)
      ∧ m' ((c.tc : Thread Cert.RefRouterIdeal.nD Cert.RefRouterIdeal.τ).loc Cert.RefRouterIdeal.main_arg2) = m ((c.tc : Thread Cert.RouterIdeal.nD Cert.RouterIdeal.τ).loc Cert.RouterIdeal.main_arg2)
      ∧ m' ((c.tc : Thread Cert.RefRouterIdeal.nD Cert.RefRouterIdeal.τ).loc Cert.RefRouterIdeal.main_arg3) = m ((c.tc : Thread Cert.RouterIdeal.nD Cert.RouterIdeal.τ).loc Cert.RouterIdeal.main_arg3)) →
    ∃ (v0 : (c : Dev Cert.RouterIdeal.nD) → Buf (Elt Ideal) ((c.tc : Thread Cert.RouterIdeal.nD Cert.RouterIdeal.τ).loc Cert.RouterIdeal.main_v0_0)) (v1 : (c : Dev Cert.RouterIdeal.nD) → Buf (Elt Ideal) ((c.tc : Thread Cert.RouterIdeal.nD Cert.RouterIdeal.τ).loc Cert.RouterIdeal.main_v0_1)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v0_0) = v0 c
          ∧ r.2.mem ((c.tc : Thread Cert.RouterIdeal.nD Cert.RouterIdeal.τ).loc Cert.RouterIdeal.main_v0_1) = v1 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3))
      ∧ θ_run (Cert.RefRouterIdeal.defs (F := Ideal)) (onTc (τ := Cert.RefRouterIdeal.τ) (Cert.RefRouterIdeal.main (F := Ideal))) ⟨m', fun _ => 0, g'⟩ (fun r => ∀ c : Dev Cert.RefRouterIdeal.nD,
          r.2.mem ((c.tc : Thread Cert.RefRouterIdeal.nD Cert.RefRouterIdeal.τ).loc Cert.RefRouterIdeal.main_indices) = v0 c
          ∧ r.2.mem ((c.tc : Thread Cert.RefRouterIdeal.nD Cert.RefRouterIdeal.τ).loc Cert.RefRouterIdeal.main_indices_11) = v1 c
          ∧ r.2.mem ((c.tc : Thread Cert.RefRouterIdeal.nD Cert.RefRouterIdeal.τ).loc Cert.RefRouterIdeal.main_arg0) = m' ((c.tc : Thread Cert.RefRouterIdeal.nD Cert.RefRouterIdeal.τ).loc Cert.RefRouterIdeal.main_arg0)
          ∧ r.2.mem ((c.tc : Thread Cert.RefRouterIdeal.nD Cert.RefRouterIdeal.τ).loc Cert.RefRouterIdeal.main_arg1) = m' ((c.tc : Thread Cert.RefRouterIdeal.nD Cert.RefRouterIdeal.τ).loc Cert.RefRouterIdeal.main_arg1)
          ∧ r.2.mem ((c.tc : Thread Cert.RefRouterIdeal.nD Cert.RefRouterIdeal.τ).loc Cert.RefRouterIdeal.main_arg2) = m' ((c.tc : Thread Cert.RefRouterIdeal.nD Cert.RefRouterIdeal.τ).loc Cert.RefRouterIdeal.main_arg2)
          ∧ r.2.mem ((c.tc : Thread Cert.RefRouterIdeal.nD Cert.RefRouterIdeal.τ).loc Cert.RefRouterIdeal.main_arg3) = m' ((c.tc : Thread Cert.RefRouterIdeal.nD Cert.RefRouterIdeal.τ).loc Cert.RefRouterIdeal.main_arg3))

def preserves_Attn_AttnIdeal : Prop :=
  True

def algebraic_AttnIdeal_RefAttnIdeal_pre_indices_in_range_and_logits_finite [hAttnIdeal : Cert.AttnIdeal.Facts] [hRefAttnIdeal : Cert.RefAttnIdeal.Facts] [hPre_indices_in_range_and_logits_finite : Cert.Pre_indices_in_range_and_logits_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.RefAttnIdeal.nD Cert.RefAttnIdeal.τ Cert.RefAttnIdeal.sig) → Buf (Elt Ideal) ℓ) (g' : Dev Cert.RefAttnIdeal.nD → PrngReg), Pre_AttnIdeal_indices_in_range_and_logits_finite m →
    (∀ c : Dev Cert.AttnIdeal.nD,
      m' ((c.tc : Thread Cert.RefAttnIdeal.nD Cert.RefAttnIdeal.τ).loc Cert.RefAttnIdeal.main_arg0) = m ((c.tc : Thread Cert.AttnIdeal.nD Cert.AttnIdeal.τ).loc Cert.AttnIdeal.main_arg0)
      ∧ m' ((c.tc : Thread Cert.RefAttnIdeal.nD Cert.RefAttnIdeal.τ).loc Cert.RefAttnIdeal.main_arg1) = m ((c.tc : Thread Cert.AttnIdeal.nD Cert.AttnIdeal.τ).loc Cert.AttnIdeal.main_arg1)
      ∧ m' ((c.tc : Thread Cert.RefAttnIdeal.nD Cert.RefAttnIdeal.τ).loc Cert.RefAttnIdeal.main_arg2) = m ((c.tc : Thread Cert.AttnIdeal.nD Cert.AttnIdeal.τ).loc Cert.AttnIdeal.main_arg2)
      ∧ m' ((c.tc : Thread Cert.RefAttnIdeal.nD Cert.RefAttnIdeal.τ).loc Cert.RefAttnIdeal.main_arg3) = m ((c.tc : Thread Cert.AttnIdeal.nD Cert.AttnIdeal.τ).loc Cert.AttnIdeal.main_arg3)
      ∧ m' ((c.tc : Thread Cert.RefAttnIdeal.nD Cert.RefAttnIdeal.τ).loc Cert.RefAttnIdeal.main_arg4) = m ((c.tc : Thread Cert.AttnIdeal.nD Cert.AttnIdeal.τ).loc Cert.AttnIdeal.main_arg4)
      ∧ m' ((c.tc : Thread Cert.RefAttnIdeal.nD Cert.RefAttnIdeal.τ).loc Cert.RefAttnIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.RefAttnIdeal.defs (F := Ideal)) (onTc (τ := Cert.RefAttnIdeal.τ) (Cert.RefAttnIdeal.main (F := Ideal))) ⟨m', fun _ => 0, g'⟩ (fun r => ∀ c : Dev Cert.RefAttnIdeal.nD,
          r.2.mem ((c.tc : Thread Cert.RefAttnIdeal.nD Cert.RefAttnIdeal.τ).loc Cert.RefAttnIdeal.main_v37) = v0 c
          ∧ r.2.mem ((c.tc : Thread Cert.RefAttnIdeal.nD Cert.RefAttnIdeal.τ).loc Cert.RefAttnIdeal.main_v75) = v1 c
          ∧ r.2.mem ((c.tc : Thread Cert.RefAttnIdeal.nD Cert.RefAttnIdeal.τ).loc Cert.RefAttnIdeal.main_arg0) = m' ((c.tc : Thread Cert.RefAttnIdeal.nD Cert.RefAttnIdeal.τ).loc Cert.RefAttnIdeal.main_arg0)
          ∧ r.2.mem ((c.tc : Thread Cert.RefAttnIdeal.nD Cert.RefAttnIdeal.τ).loc Cert.RefAttnIdeal.main_arg1) = m' ((c.tc : Thread Cert.RefAttnIdeal.nD Cert.RefAttnIdeal.τ).loc Cert.RefAttnIdeal.main_arg1)
          ∧ r.2.mem ((c.tc : Thread Cert.RefAttnIdeal.nD Cert.RefAttnIdeal.τ).loc Cert.RefAttnIdeal.main_arg2) = m' ((c.tc : Thread Cert.RefAttnIdeal.nD Cert.RefAttnIdeal.τ).loc Cert.RefAttnIdeal.main_arg2)
          ∧ r.2.mem ((c.tc : Thread Cert.RefAttnIdeal.nD Cert.RefAttnIdeal.τ).loc Cert.RefAttnIdeal.main_arg3) = m' ((c.tc : Thread Cert.RefAttnIdeal.nD Cert.RefAttnIdeal.τ).loc Cert.RefAttnIdeal.main_arg3)
          ∧ r.2.mem ((c.tc : Thread Cert.RefAttnIdeal.nD Cert.RefAttnIdeal.τ).loc Cert.RefAttnIdeal.main_arg4) = m' ((c.tc : Thread Cert.RefAttnIdeal.nD Cert.RefAttnIdeal.τ).loc Cert.RefAttnIdeal.main_arg4)
          ∧ r.2.mem ((c.tc : Thread Cert.RefAttnIdeal.nD Cert.RefAttnIdeal.τ).loc Cert.RefAttnIdeal.main_arg5) = m' ((c.tc : Thread Cert.RefAttnIdeal.nD Cert.RefAttnIdeal.τ).loc Cert.RefAttnIdeal.main_arg5))

def preserves_Whole_WholeIdeal : Prop :=
  True

def algebraic_WholeIdeal_RefWholeIdeal_pre_inputs_finite [hWholeIdeal : Cert.WholeIdeal.Facts] [hRefWholeIdeal : Cert.RefWholeIdeal.Facts] [hPre_inputs_finite : Cert.Pre_inputs_finite.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.RefWholeIdeal.nD Cert.RefWholeIdeal.τ Cert.RefWholeIdeal.sig) → Buf (Elt Ideal) ℓ) (g' : Dev Cert.RefWholeIdeal.nD → PrngReg), Pre_WholeIdeal_inputs_finite m →
    (∀ c : Dev Cert.WholeIdeal.nD,
      m' ((c.tc : Thread Cert.RefWholeIdeal.nD Cert.RefWholeIdeal.τ).loc Cert.RefWholeIdeal.main_arg0) = m ((c.tc : Thread Cert.WholeIdeal.nD Cert.WholeIdeal.τ).loc Cert.WholeIdeal.main_arg0)
      ∧ m' ((c.tc : Thread Cert.RefWholeIdeal.nD Cert.RefWholeIdeal.τ).loc Cert.RefWholeIdeal.main_arg1) = m ((c.tc : Thread Cert.WholeIdeal.nD Cert.WholeIdeal.τ).loc Cert.WholeIdeal.main_arg1)
      ∧ m' ((c.tc : Thread Cert.RefWholeIdeal.nD Cert.RefWholeIdeal.τ).loc Cert.RefWholeIdeal.main_arg2) = m ((c.tc : Thread Cert.WholeIdeal.nD Cert.WholeIdeal.τ).loc Cert.WholeIdeal.main_arg2)
      ∧ m' ((c.tc : Thread Cert.RefWholeIdeal.nD Cert.RefWholeIdeal.τ).loc Cert.RefWholeIdeal.main_arg3) = m ((c.tc : Thread Cert.WholeIdeal.nD Cert.WholeIdeal.τ).loc Cert.WholeIdeal.main_arg3)
      ∧ m' ((c.tc : Thread Cert.RefWholeIdeal.nD Cert.RefWholeIdeal.τ).loc Cert.RefWholeIdeal.main_arg4) = m ((c.tc : Thread Cert.WholeIdeal.nD Cert.WholeIdeal.τ).loc Cert.WholeIdeal.main_arg4)
      ∧ m' ((c.tc : Thread Cert.RefWholeIdeal.nD Cert.RefWholeIdeal.τ).loc Cert.RefWholeIdeal.main_arg5) = m ((c.tc : Thread Cert.WholeIdeal.nD Cert.WholeIdeal.τ).loc Cert.WholeIdeal.main_arg5)
      ∧ m' ((c.tc : Thread Cert.RefWholeIdeal.nD Cert.RefWholeIdeal.τ).loc Cert.RefWholeIdeal.main_arg6) = m ((c.tc : Thread Cert.WholeIdeal.nD Cert.WholeIdeal.τ).loc Cert.WholeIdeal.main_arg6)
      ∧ m' ((c.tc : Thread Cert.RefWholeIdeal.nD Cert.RefWholeIdeal.τ).loc Cert.RefWholeIdeal.main_arg7) = m ((c.tc : Thread Cert.WholeIdeal.nD Cert.WholeIdeal.τ).loc Cert.WholeIdeal.main_arg7)) →
    ∃ (v0 : (c : Dev Cert.WholeIdeal.nD) → Buf (Elt Ideal) ((c.tc : Thread Cert.WholeIdeal.nD Cert.WholeIdeal.τ).loc Cert.WholeIdeal.main_v44)) (v1 : (c : Dev Cert.WholeIdeal.nD) → Buf (Elt Ideal) ((c.tc : Thread Cert.WholeIdeal.nD Cert.WholeIdeal.τ).loc Cert.WholeIdeal.main_v48)),
      θ_run (Cert.WholeIdeal.defs (F := Ideal)) (onTc (τ := Cert.WholeIdeal.τ) (Cert.WholeIdeal.main (F := Ideal))) ⟨m, fun _ => 0, g⟩ (fun r => ∀ c : Dev Cert.WholeIdeal.nD,
          r.2.mem ((c.tc : Thread Cert.WholeIdeal.nD Cert.WholeIdeal.τ).loc Cert.WholeIdeal.main_v44) = v0 c
          ∧ r.2.mem ((c.tc : Thread Cert.WholeIdeal.nD Cert.WholeIdeal.τ).loc Cert.WholeIdeal.main_v48) = v1 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
          ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
          ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
          ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7))
      ∧ θ_run (Cert.RefWholeIdeal.defs (F := Ideal)) (onTc (τ := Cert.RefWholeIdeal.τ) (Cert.RefWholeIdeal.main (F := Ideal))) ⟨m', fun _ => 0, g'⟩ (fun r => ∀ c : Dev Cert.RefWholeIdeal.nD,
          r.2.mem ((c.tc : Thread Cert.RefWholeIdeal.nD Cert.RefWholeIdeal.τ).loc Cert.RefWholeIdeal.main_v253) = v0 c
          ∧ r.2.mem ((c.tc : Thread Cert.RefWholeIdeal.nD Cert.RefWholeIdeal.τ).loc Cert.RefWholeIdeal.main_v335) = v1 c
          ∧ r.2.mem ((c.tc : Thread Cert.RefWholeIdeal.nD Cert.RefWholeIdeal.τ).loc Cert.RefWholeIdeal.main_arg0) = m' ((c.tc : Thread Cert.RefWholeIdeal.nD Cert.RefWholeIdeal.τ).loc Cert.RefWholeIdeal.main_arg0)
          ∧ r.2.mem ((c.tc : Thread Cert.RefWholeIdeal.nD Cert.RefWholeIdeal.τ).loc Cert.RefWholeIdeal.main_arg1) = m' ((c.tc : Thread Cert.RefWholeIdeal.nD Cert.RefWholeIdeal.τ).loc Cert.RefWholeIdeal.main_arg1)
          ∧ r.2.mem ((c.tc : Thread Cert.RefWholeIdeal.nD Cert.RefWholeIdeal.τ).loc Cert.RefWholeIdeal.main_arg2) = m' ((c.tc : Thread Cert.RefWholeIdeal.nD Cert.RefWholeIdeal.τ).loc Cert.RefWholeIdeal.main_arg2)
          ∧ r.2.mem ((c.tc : Thread Cert.RefWholeIdeal.nD Cert.RefWholeIdeal.τ).loc Cert.RefWholeIdeal.main_arg3) = m' ((c.tc : Thread Cert.RefWholeIdeal.nD Cert.RefWholeIdeal.τ).loc Cert.RefWholeIdeal.main_arg3)
          ∧ r.2.mem ((c.tc : Thread Cert.RefWholeIdeal.nD Cert.RefWholeIdeal.τ).loc Cert.RefWholeIdeal.main_arg4) = m' ((c.tc : Thread Cert.RefWholeIdeal.nD Cert.RefWholeIdeal.τ).loc Cert.RefWholeIdeal.main_arg4)
          ∧ r.2.mem ((c.tc : Thread Cert.RefWholeIdeal.nD Cert.RefWholeIdeal.τ).loc Cert.RefWholeIdeal.main_arg5) = m' ((c.tc : Thread Cert.RefWholeIdeal.nD Cert.RefWholeIdeal.τ).loc Cert.RefWholeIdeal.main_arg5)
          ∧ r.2.mem ((c.tc : Thread Cert.RefWholeIdeal.nD Cert.RefWholeIdeal.τ).loc Cert.RefWholeIdeal.main_arg6) = m' ((c.tc : Thread Cert.RefWholeIdeal.nD Cert.RefWholeIdeal.τ).loc Cert.RefWholeIdeal.main_arg6)
          ∧ r.2.mem ((c.tc : Thread Cert.RefWholeIdeal.nD Cert.RefWholeIdeal.τ).loc Cert.RefWholeIdeal.main_arg7) = m' ((c.tc : Thread Cert.RefWholeIdeal.nD Cert.RefWholeIdeal.τ).loc Cert.RefWholeIdeal.main_arg7))

def Claim : Prop :=
  ∃ (hProj : Cert.Proj.Facts) (hProjIdeal : Cert.ProjIdeal.Facts) (hRefProjIdeal : Cert.RefProjIdeal.Facts) (hFinal : Cert.Final.Facts) (hFinalIdeal : Cert.FinalIdeal.Facts) (hRefFinalIdeal : Cert.RefFinalIdeal.Facts) (hRouter : Cert.Router.Facts) (hRouterIdeal : Cert.RouterIdeal.Facts) (hRefRouterIdeal : Cert.RefRouterIdeal.Facts) (hAttn : Cert.Attn.Facts) (hAttnIdeal : Cert.AttnIdeal.Facts) (hRefAttnIdeal : Cert.RefAttnIdeal.Facts) (hWhole : Cert.Whole.Facts) (hWholeIdeal : Cert.WholeIdeal.Facts) (hRefWholeIdeal : Cert.RefWholeIdeal.Facts) (hPre_value_bias_zero : Cert.Pre_value_bias_zero.Facts) (hPre_means_finite : Cert.Pre_means_finite.Facts) (hPre_indices_in_range : Cert.Pre_indices_in_range.Facts) (hPre_indices_in_range_and_logits_finite : Cert.Pre_indices_in_range_and_logits_finite.Facts) (hPre_inputs_finite : Cert.Pre_inputs_finite.Facts),
    quiescent_Proj (hProj := hProj)
    ∧ quiescent_ProjIdeal (hProjIdeal := hProjIdeal)
    ∧ quiescent_RefProjIdeal (hRefProjIdeal := hRefProjIdeal)
    ∧ quiescent_Final (hFinal := hFinal)
    ∧ quiescent_FinalIdeal (hFinalIdeal := hFinalIdeal)
    ∧ quiescent_FinalIdeal_pre_value_bias_zero (hFinalIdeal := hFinalIdeal) (hPre_value_bias_zero := hPre_value_bias_zero)
    ∧ quiescent_RefFinalIdeal (hRefFinalIdeal := hRefFinalIdeal)
    ∧ quiescent_RefFinalIdeal_pre_value_bias_zero (hRefFinalIdeal := hRefFinalIdeal) (hPre_value_bias_zero := hPre_value_bias_zero)
    ∧ quiescent_Router (hRouter := hRouter)
    ∧ quiescent_RouterIdeal (hRouterIdeal := hRouterIdeal)
    ∧ quiescent_RouterIdeal_pre_means_finite (hRouterIdeal := hRouterIdeal) (hPre_means_finite := hPre_means_finite)
    ∧ quiescent_RefRouterIdeal (hRefRouterIdeal := hRefRouterIdeal)
    ∧ quiescent_RefRouterIdeal_pre_means_finite (hRefRouterIdeal := hRefRouterIdeal) (hPre_means_finite := hPre_means_finite)
    ∧ quiescent_Attn (hAttn := hAttn) (hPre_indices_in_range := hPre_indices_in_range)
    ∧ quiescent_AttnIdeal (hAttnIdeal := hAttnIdeal) (hPre_indices_in_range := hPre_indices_in_range)
    ∧ quiescent_AttnIdeal_pre_indices_in_range_and_logits_finite (hAttnIdeal := hAttnIdeal) (hPre_indices_in_range_and_logits_finite := hPre_indices_in_range_and_logits_finite)
    ∧ quiescent_RefAttnIdeal (hRefAttnIdeal := hRefAttnIdeal)
    ∧ quiescent_RefAttnIdeal_pre_indices_in_range_and_logits_finite (hRefAttnIdeal := hRefAttnIdeal) (hPre_indices_in_range_and_logits_finite := hPre_indices_in_range_and_logits_finite)
    ∧ quiescent_Whole (hWhole := hWhole)
    ∧ quiescent_WholeIdeal (hWholeIdeal := hWholeIdeal)
    ∧ quiescent_WholeIdeal_pre_inputs_finite (hWholeIdeal := hWholeIdeal) (hPre_inputs_finite := hPre_inputs_finite)
    ∧ quiescent_RefWholeIdeal (hRefWholeIdeal := hRefWholeIdeal)
    ∧ quiescent_RefWholeIdeal_pre_inputs_finite (hRefWholeIdeal := hRefWholeIdeal) (hPre_inputs_finite := hPre_inputs_finite)
    ∧ preserves_Proj_ProjIdeal
    ∧ algebraic_ProjIdeal_RefProjIdeal (hProjIdeal := hProjIdeal) (hRefProjIdeal := hRefProjIdeal)
    ∧ preserves_Final_FinalIdeal
    ∧ algebraic_FinalIdeal_RefFinalIdeal_pre_value_bias_zero (hFinalIdeal := hFinalIdeal) (hRefFinalIdeal := hRefFinalIdeal) (hPre_value_bias_zero := hPre_value_bias_zero)
    ∧ preserves_Router_RouterIdeal
    ∧ algebraic_RouterIdeal_RefRouterIdeal_pre_means_finite (hRouterIdeal := hRouterIdeal) (hRefRouterIdeal := hRefRouterIdeal) (hPre_means_finite := hPre_means_finite)
    ∧ preserves_Attn_AttnIdeal
    ∧ algebraic_AttnIdeal_RefAttnIdeal_pre_indices_in_range_and_logits_finite (hAttnIdeal := hAttnIdeal) (hRefAttnIdeal := hRefAttnIdeal) (hPre_indices_in_range_and_logits_finite := hPre_indices_in_range_and_logits_finite)
    ∧ preserves_Whole_WholeIdeal
    ∧ algebraic_WholeIdeal_RefWholeIdeal_pre_inputs_finite (hWholeIdeal := hWholeIdeal) (hRefWholeIdeal := hRefWholeIdeal) (hPre_inputs_finite := hPre_inputs_finite)
-- ==== Pre_indices_in_range.lean ====
abbrev S64x784x192 : Shape := ⟨3, ![64, 784, 192]⟩
abbrev S64x16x384 : Shape := ⟨3, ![64, 16, 384]⟩
abbrev S64x4 : Shape := ⟨2, ![64, 4]⟩
abbrev S_ : Shape := ⟨0, ![]⟩

class Facts : Prop where
  bcast_S_S64x4 : S_.BroadcastsInDim S64x4 (![] : Fin 0 → Fin S64x4.rank)
  reducesTo_S64x4_S_d0_1 : S64x4.ReducesTo [0, 1] S_
  h_S_ : 0 < S_.numel

variable [Facts]

def fn {F : FTy → Type} [FloatOps F] (main_arg0 : FVec F S64x784x192 .bf16) (main_arg1 : FVec F S64x784x192 .bf16) (main_arg2 : FVec F S64x16x384 .bf16) (main_arg3 : FVec F S64x16x384 .bf16) (main_arg4 : IVec S64x4 32) (main_arg5 : IVec S64x4 32) : IVec S_ 1 :=
  let main_c : IVec S_ 32 := constantI S_ 32 0#32
  let main_v0 : IVec S64x4 32 := broadcastInDim S64x4 ![] bcast_S_S64x4 main_c
  let main_v1 : IVec S64x4 1 := cmpi .sge main_arg4 main_v0
  let main_c_0 : IVec S_ 32 := constantI S_ 32 64#32
  let main_v2 : IVec S64x4 32 := broadcastInDim S64x4 ![] bcast_S_S64x4 main_c_0
  let main_v3 : IVec S64x4 1 := cmpi .slt main_arg4 main_v2
  let main_v4 : IVec S64x4 1 := andi main_v1 main_v3
  let main_c_1 : IVec S_ 32 := constantI S_ 32 0#32
  let main_v5 : IVec S64x4 32 := broadcastInDim S64x4 ![] bcast_S_S64x4 main_c_1
  let main_v6 : IVec S64x4 1 := cmpi .sge main_arg5 main_v5
  let main_v7 : IVec S64x4 1 := andi main_v4 main_v6
  let main_c_2 : IVec S_ 32 := constantI S_ 32 64#32
  let main_v8 : IVec S64x4 32 := broadcastInDim S64x4 ![] bcast_S_S64x4 main_c_2
  let main_v9 : IVec S64x4 1 := cmpi .slt main_arg5 main_v8
  let main_v10 : IVec S64x4 1 := andi main_v7 main_v9
  let main_c_3 : IVec S_ 1 := constantI S_ 1 1#1
  let main_v11 : IVec S_ 1 := (fun x v => Host.reduce IntOp.andi x v reducesTo_S64x4_S_d0_1 h_S_) main_v10 main_c_3
  main_v11
-- ==== Pre_indices_in_range_and_logits_finite.lean ====
abbrev S64x784x192 : Shape := ⟨3, ![64, 784, 192]⟩
abbrev S64x16x384 : Shape := ⟨3, ![64, 16, 384]⟩
abbrev S64x4 : Shape := ⟨2, ![64, 4]⟩
abbrev S_ : Shape := ⟨0, ![]⟩
abbrev S64x16x192 : Shape := ⟨3, ![64, 16, 192]⟩

class Facts : Prop where
  bcast_S_S64x4 : S_.BroadcastsInDim S64x4 (![] : Fin 0 → Fin S64x4.rank)
  reducesTo_S64x4_S_d0_1 : S64x4.ReducesTo [0, 1] S_
  h_S_ : 0 < S_.numel
  bitsLt_bf16_f32 : FTy.bits .bf16 < FTy.bits .f32
  bcast_S_S64x784x192 : S_.BroadcastsInDim S64x784x192 (![] : Fin 0 → Fin S64x784x192.rank)
  reducesTo_S64x784x192_S_d0_1_2 : S64x784x192.ReducesTo [0, 1, 2] S_
  slices_S64x16x384_S64x16x192_0_0_0 : S64x16x384.Slices ![0, 0, 0] S64x16x192
  bcast_S_S64x16x192 : S_.BroadcastsInDim S64x16x192 (![] : Fin 0 → Fin S64x16x192.rank)
  reducesTo_S64x16x192_S_d0_1_2 : S64x16x192.ReducesTo [0, 1, 2] S_

variable [Facts]

def fn_part2 {F : FTy → Type} [FloatOps F] (main_v30 : IVec S_ 1) (main_v35 : IVec S64x16x192 1) : IVec S_ 1 :=
  let main_c_10 : IVec S_ 1 := constantI S_ 1 1#1
  let main_v36 : IVec S_ 1 := (fun x v => Host.reduce IntOp.andi x v reducesTo_S64x16x192_S_d0_1_2 h_S_) main_v35 main_c_10
  let main_v37 : IVec S_ 1 := andi main_v30 main_v36
  main_v37

def fn_part1 {F : FTy → Type} [FloatOps F] (main_arg1 : FVec F S64x784x192 .bf16) (main_arg2 : FVec F S64x16x384 .bf16) (main_arg3 : FVec F S64x16x384 .bf16) (main_v11 : IVec S_ 1) (main_v16 : IVec S_ 1) : IVec S_ 1 :=
  let main_v17 : IVec S_ 1 := andi main_v11 main_v16
  let main_v18 : FVec F S64x784x192 .f32 := (extf .f32 · bitsLt_bf16_f32) main_arg1
  let main_v19 : FVec F S64x784x192 .f32 := Host.absf main_v18
  let main_cst_5 : FVec F S_ .f32 := constant S_ .f32 0x7F800000#32
  let main_v20 : FVec F S64x784x192 .f32 := broadcastInDim S64x784x192 ![] bcast_S_S64x784x192 main_cst_5
  let main_v21 : IVec S64x784x192 1 := cmpf .olt main_v19 main_v20
  let main_c_6 : IVec S_ 1 := constantI S_ 1 1#1
  let main_v22 : IVec S_ 1 := (fun x v => Host.reduce IntOp.andi x v reducesTo_S64x784x192_S_d0_1_2 h_S_) main_v21 main_c_6
  let main_v23 : IVec S_ 1 := andi main_v17 main_v22
  let main_v24 : FVec F S64x16x192 .bf16 := (extractStridedSlice S64x16x192 ![0, 0, 0] · slices_S64x16x384_S64x16x192_0_0_0) main_arg2
  let main_v25 : FVec F S64x16x192 .f32 := (extf .f32 · bitsLt_bf16_f32) main_v24
  let main_v26 : FVec F S64x16x192 .f32 := Host.absf main_v25
  let main_cst_7 : FVec F S_ .f32 := constant S_ .f32 0x7F800000#32
  let main_v27 : FVec F S64x16x192 .f32 := broadcastInDim S64x16x192 ![] bcast_S_S64x16x192 main_cst_7
  let main_v28 : IVec S64x16x192 1 := cmpf .olt main_v26 main_v27
  let main_c_8 : IVec S_ 1 := constantI S_ 1 1#1
  let main_v29 : IVec S_ 1 := (fun x v => Host.reduce IntOp.andi x v reducesTo_S64x16x192_S_d0_1_2 h_S_) main_v28 main_c_8
  let main_v30 : IVec S_ 1 := andi main_v23 main_v29
  let main_v31 : FVec F S64x16x192 .bf16 := (extractStridedSlice S64x16x192 ![0, 0, 0] · slices_S64x16x384_S64x16x192_0_0_0) main_arg3
  let main_v32 : FVec F S64x16x192 .f32 := (extf .f32 · bitsLt_bf16_f32) main_v31
  let main_v33 : FVec F S64x16x192 .f32 := Host.absf main_v32
  let main_cst_9 : FVec F S_ .f32 := constant S_ .f32 0x7F800000#32
  let main_v34 : FVec F S64x16x192 .f32 := broadcastInDim S64x16x192 ![] bcast_S_S64x16x192 main_cst_9
  let main_v35 : IVec S64x16x192 1 := cmpf .olt main_v33 main_v34
  fn_part2 (F := F) main_v30 main_v35

def fn {F : FTy → Type} [FloatOps F] (main_arg0 : FVec F S64x784x192 .bf16) (main_arg1 : FVec F S64x784x192 .bf16) (main_arg2 : FVec F S64x16x384 .bf16) (main_arg3 : FVec F S64x16x384 .bf16) (main_arg4 : IVec S64x4 32) (main_arg5 : IVec S64x4 32) : IVec S_ 1 :=
  let main_c : IVec S_ 32 := constantI S_ 32 0#32
  let main_v0 : IVec S64x4 32 := broadcastInDim S64x4 ![] bcast_S_S64x4 main_c
  let main_v1 : IVec S64x4 1 := cmpi .sge main_arg4 main_v0
  let main_c_0 : IVec S_ 32 := constantI S_ 32 64#32
  let main_v2 : IVec S64x4 32 := broadcastInDim S64x4 ![] bcast_S_S64x4 main_c_0
  let main_v3 : IVec S64x4 1 := cmpi .slt main_arg4 main_v2
  let main_v4 : IVec S64x4 1 := andi main_v1 main_v3
  let main_c_1 : IVec S_ 32 := constantI S_ 32 0#32
  let main_v5 : IVec S64x4 32 := broadcastInDim S64x4 ![] bcast_S_S64x4 main_c_1
  let main_v6 : IVec S64x4 1 := cmpi .sge main_arg5 main_v5
  let main_v7 : IVec S64x4 1 := andi main_v4 main_v6
  let main_c_2 : IVec S_ 32 := constantI S_ 32 64#32
  let main_v8 : IVec S64x4 32 := broadcastInDim S64x4 ![] bcast_S_S64x4 main_c_2
  let main_v9 : IVec S64x4 1 := cmpi .slt main_arg5 main_v8
  let main_v10 : IVec S64x4 1 := andi main_v7 main_v9
  let main_c_3 : IVec S_ 1 := constantI S_ 1 1#1
  let main_v11 : IVec S_ 1 := (fun x v => Host.reduce IntOp.andi x v reducesTo_S64x4_S_d0_1 h_S_) main_v10 main_c_3
  let main_v12 : FVec F S64x784x192 .f32 := (extf .f32 · bitsLt_bf16_f32) main_arg0
  let main_v13 : FVec F S64x784x192 .f32 := Host.absf main_v12
  let main_cst : FVec F S_ .f32 := constant S_ .f32 0x7F800000#32
  let main_v14 : FVec F S64x784x192 .f32 := broadcastInDim S64x784x192 ![] bcast_S_S64x784x192 main_cst
  let main_v15 : IVec S64x784x192 1 := cmpf .olt main_v13 main_v14
  let main_c_4 : IVec S_ 1 := constantI S_ 1 1#1
  let main_v16 : IVec S_ 1 := (fun x v => Host.reduce IntOp.andi x v reducesTo_S64x784x192_S_d0_1_2 h_S_) main_v15 main_c_4
  fn_part1 (F := F) main_arg1 main_arg2 main_arg3 main_v11 main_v16
-- ==== Pre_inputs_finite.lean ====
abbrev S1x224x224x192 : Shape := ⟨4, ![1, 224, 224, 192]⟩
abbrev S192x576 : Shape := ⟨2, ![192, 576]⟩
abbrev S576 : Shape := ⟨1, ![576]⟩
abbrev S192x192 : Shape := ⟨2, ![192, 192]⟩
abbrev S192 : Shape := ⟨1, ![192]⟩
abbrev S192x1x3x3 : Shape := ⟨4, ![192, 1, 3, 3]⟩
abbrev S_ : Shape := ⟨0, ![]⟩
abbrev S192x384 : Shape := ⟨2, ![192, 384]⟩
abbrev S384 : Shape := ⟨1, ![384]⟩

class Facts : Prop where
  bcast_S_S1x224x224x192 : S_.BroadcastsInDim S1x224x224x192 (![] : Fin 0 → Fin S1x224x224x192.rank)
  reducesTo_S1x224x224x192_S_d0_1_2_3 : S1x224x224x192.ReducesTo [0, 1, 2, 3] S_
  h_S_ : 0 < S_.numel
  slices_S192x576_S192x384_0_0 : S192x576.Slices ![0, 0] S192x384
  bcast_S_S192x384 : S_.BroadcastsInDim S192x384 (![] : Fin 0 → Fin S192x384.rank)
  reducesTo_S192x384_S_d0_1 : S192x384.ReducesTo [0, 1] S_
  slices_S576_S384_0 : S576.Slices ![0] S384
  bcast_S_S384 : S_.BroadcastsInDim S384 (![] : Fin 0 → Fin S384.rank)
  reducesTo_S384_S_d0 : S384.ReducesTo [0] S_
  slices_S576_S192_384 : S576.Slices ![384] S192
  bcast_S_S192 : S_.BroadcastsInDim S192 (![] : Fin 0 → Fin S192.rank)
  reducesTo_S192_S_d0 : S192.ReducesTo [0] S_

variable [Facts]

def fn_part1 {F : FTy → Type} [FloatOps F] (main_arg3 : FVec F S576 .f32) (main_v14 : IVec S_ 1) (main_v16 : FVec F S384 .f32) (main_cst_4 : FVec F S_ .f32) : IVec S_ 1 :=
  let main_v17 : FVec F S384 .f32 := broadcastInDim S384 ![] bcast_S_S384 main_cst_4
  let main_v18 : IVec S384 1 := cmpf .olt main_v16 main_v17
  let main_c_5 : IVec S_ 1 := constantI S_ 1 1#1
  let main_v19 : IVec S_ 1 := (fun x v => Host.reduce IntOp.andi x v reducesTo_S384_S_d0 h_S_) main_v18 main_c_5
  let main_v20 : IVec S_ 1 := andi main_v14 main_v19
  let main_v21 : FVec F S192 .f32 := (extractStridedSlice S192 ![384] · slices_S576_S192_384) main_arg3
  let main_cst_6 : FVec F S_ .f32 := constant S_ .f32 0x00000000#32
  let main_v22 : FVec F S192 .f32 := broadcastInDim S192 ![] bcast_S_S192 main_cst_6
  let main_v23 : IVec S192 1 := cmpf .oeq main_v21 main_v22
  let main_c_7 : IVec S_ 1 := constantI S_ 1 1#1
  let main_v24 : IVec S_ 1 := (fun x v => Host.reduce IntOp.andi x v reducesTo_S192_S_d0 h_S_) main_v23 main_c_7
  let main_v25 : IVec S_ 1 := andi main_v20 main_v24
  main_v25

def fn {F : FTy → Type} [FloatOps F] (main_arg0 : FVec F S1x224x224x192 .f32) (main_arg1 : FVec F S1x224x224x192 .f32) (main_arg2 : FVec F S192x576 .f32) (main_arg3 : FVec F S576 .f32) (main_arg4 : FVec F S192x192 .f32) (main_arg5 : FVec F S192 .f32) (main_arg6 : FVec F S192x1x3x3 .f32) (main_arg7 : FVec F S192 .f32) : IVec S_ 1 :=
  let main_v0 : FVec F S1x224x224x192 .f32 := Host.absf main_arg0
  let main_cst : FVec F S_ .f32 := constant S_ .f32 0x7F800000#32
  let main_v1 : FVec F S1x224x224x192 .f32 := broadcastInDim S1x224x224x192 ![] bcast_S_S1x224x224x192 main_cst
  let main_v2 : IVec S1x224x224x192 1 := cmpf .olt main_v0 main_v1
  let main_c : IVec S_ 1 := constantI S_ 1 1#1
  let main_v3 : IVec S_ 1 := (fun x v => Host.reduce IntOp.andi x v reducesTo_S1x224x224x192_S_d0_1_2_3 h_S_) main_v2 main_c
  let main_v4 : FVec F S1x224x224x192 .f32 := Host.absf main_arg1
  let main_cst_0 : FVec F S_ .f32 := constant S_ .f32 0x7F800000#32
  let main_v5 : FVec F S1x224x224x192 .f32 := broadcastInDim S1x224x224x192 ![] bcast_S_S1x224x224x192 main_cst_0
  let main_v6 : IVec S1x224x224x192 1 := cmpf .olt main_v4 main_v5
  let main_c_1 : IVec S_ 1 := constantI S_ 1 1#1
  let main_v7 : IVec S_ 1 := (fun x v => Host.reduce IntOp.andi x v reducesTo_S1x224x224x192_S_d0_1_2_3 h_S_) main_v6 main_c_1
  let main_v8 : IVec S_ 1 := andi main_v3 main_v7
  let main_v9 : FVec F S192x384 .f32 := (extractStridedSlice S192x384 ![0, 0] · slices_S192x576_S192x384_0_0) main_arg2
  let main_v10 : FVec F S192x384 .f32 := Host.absf main_v9
  let main_cst_2 : FVec F S_ .f32 := constant S_ .f32 0x7F800000#32
  let main_v11 : FVec F S192x384 .f32 := broadcastInDim S192x384 ![] bcast_S_S192x384 main_cst_2
  let main_v12 : IVec S192x384 1 := cmpf .olt main_v10 main_v11
  let main_c_3 : IVec S_ 1 := constantI S_ 1 1#1
  let main_v13 : IVec S_ 1 := (fun x v => Host.reduce IntOp.andi x v reducesTo_S192x384_S_d0_1 h_S_) main_v12 main_c_3
  let main_v14 : IVec S_ 1 := andi main_v8 main_v13
  let main_v15 : FVec F S384 .f32 := (extractStridedSlice S384 ![0] · slices_S576_S384_0) main_arg3
  let main_v16 : FVec F S384 .f32 := Host.absf main_v15
  let main_cst_4 : FVec F S_ .f32 := constant S_ .f32 0x7F800000#32
  fn_part1 (F := F) main_arg3 main_v14 main_v16 main_cst_4
-- ==== Pre_means_finite.lean ====
abbrev S64x192 : Shape := ⟨2, ![64, 192]⟩
abbrev S_ : Shape := ⟨0, ![]⟩

class Facts : Prop where
  bcast_S_S64x192 : S_.BroadcastsInDim S64x192 (![] : Fin 0 → Fin S64x192.rank)
  reducesTo_S64x192_S_d0_1 : S64x192.ReducesTo [0, 1] S_
  h_S_ : 0 < S_.numel

variable [Facts]

def fn_part1 {F : FTy → Type} [FloatOps F] (main_v13 : IVec S_ 1) (main_v16 : IVec S64x192 1) : IVec S_ 1 :=
  let main_c_5 : IVec S_ 1 := constantI S_ 1 1#1
  let main_v17 : IVec S_ 1 := (fun x v => Host.reduce IntOp.andi x v reducesTo_S64x192_S_d0_1 h_S_) main_v16 main_c_5
  let main_v18 : IVec S_ 1 := andi main_v13 main_v17
  main_v18

def fn {F : FTy → Type} [FloatOps F] (main_arg0 : FVec F S64x192 .f32) (main_arg1 : FVec F S64x192 .f32) (main_arg2 : FVec F S64x192 .f32) (main_arg3 : FVec F S64x192 .f32) : IVec S_ 1 :=
  let main_v0 : FVec F S64x192 .f32 := Host.absf main_arg0
  let main_cst : FVec F S_ .f32 := constant S_ .f32 0x7F800000#32
  let main_v1 : FVec F S64x192 .f32 := broadcastInDim S64x192 ![] bcast_S_S64x192 main_cst
  let main_v2 : IVec S64x192 1 := cmpf .olt main_v0 main_v1
  let main_c : IVec S_ 1 := constantI S_ 1 1#1
  let main_v3 : IVec S_ 1 := (fun x v => Host.reduce IntOp.andi x v reducesTo_S64x192_S_d0_1 h_S_) main_v2 main_c
  let main_v4 : FVec F S64x192 .f32 := Host.absf main_arg1
  let main_cst_0 : FVec F S_ .f32 := constant S_ .f32 0x7F800000#32
  let main_v5 : FVec F S64x192 .f32 := broadcastInDim S64x192 ![] bcast_S_S64x192 main_cst_0
  let main_v6 : IVec S64x192 1 := cmpf .olt main_v4 main_v5
  let main_c_1 : IVec S_ 1 := constantI S_ 1 1#1
  let main_v7 : IVec S_ 1 := (fun x v => Host.reduce IntOp.andi x v reducesTo_S64x192_S_d0_1 h_S_) main_v6 main_c_1
  let main_v8 : IVec S_ 1 := andi main_v3 main_v7
  let main_v9 : FVec F S64x192 .f32 := Host.absf main_arg2
  let main_cst_2 : FVec F S_ .f32 := constant S_ .f32 0x7F800000#32
  let main_v10 : FVec F S64x192 .f32 := broadcastInDim S64x192 ![] bcast_S_S64x192 main_cst_2
  let main_v11 : IVec S64x192 1 := cmpf .olt main_v9 main_v10
  let main_c_3 : IVec S_ 1 := constantI S_ 1 1#1
  let main_v12 : IVec S_ 1 := (fun x v => Host.reduce IntOp.andi x v reducesTo_S64x192_S_d0_1 h_S_) main_v11 main_c_3
  let main_v13 : IVec S_ 1 := andi main_v8 main_v12
  let main_v14 : FVec F S64x192 .f32 := Host.absf main_arg3
  let main_cst_4 : FVec F S_ .f32 := constant S_ .f32 0x7F800000#32
  let main_v15 : FVec F S64x192 .f32 := broadcastInDim S64x192 ![] bcast_S_S64x192 main_cst_4
  let main_v16 : IVec S64x192 1 := cmpf .olt main_v14 main_v15
  fn_part1 (F := F) main_v13 main_v16
-- ==== Pre_value_bias_zero.lean ====
abbrev S1x224x224x192 : Shape := ⟨4, ![1, 224, 224, 192]⟩
abbrev S192x576 : Shape := ⟨2, ![192, 576]⟩
abbrev S576 : Shape := ⟨1, ![576]⟩
abbrev S192x192 : Shape := ⟨2, ![192, 192]⟩
abbrev S192 : Shape := ⟨1, ![192]⟩
abbrev S192x1x3x3 : Shape := ⟨4, ![192, 1, 3, 3]⟩
abbrev S_ : Shape := ⟨0, ![]⟩

class Facts : Prop where
  slices_S576_S192_384 : S576.Slices ![384] S192
  bcast_S_S192 : S_.BroadcastsInDim S192 (![] : Fin 0 → Fin S192.rank)
  reducesTo_S192_S_d0 : S192.ReducesTo [0] S_
  h_S_ : 0 < S_.numel

variable [Facts]

def fn {F : FTy → Type} [FloatOps F] (main_arg0 : FVec F S1x224x224x192 .bf16) (main_arg1 : FVec F S1x224x224x192 .f32) (main_arg2 : FVec F S192x576 .f32) (main_arg3 : FVec F S576 .f32) (main_arg4 : FVec F S192x192 .f32) (main_arg5 : FVec F S192 .f32) (main_arg6 : FVec F S192x1x3x3 .f32) (main_arg7 : FVec F S192 .f32) : IVec S_ 1 :=
  let main_v0 : FVec F S192 .f32 := (extractStridedSlice S192 ![384] · slices_S576_S192_384) main_arg3
  let main_cst : FVec F S_ .f32 := constant S_ .f32 0x00000000#32
  let main_v1 : FVec F S192 .f32 := broadcastInDim S192 ![] bcast_S_S192 main_cst
  let main_v2 : IVec S192 1 := cmpf .oeq main_v0 main_v1
  let main_c : IVec S_ 1 := constantI S_ 1 1#1
  let main_v3 : IVec S_ 1 := (fun x v => Host.reduce IntOp.andi x v reducesTo_S192_S_d0 h_S_) main_v2 main_c
  main_v3
-- ==== Proj.lean ====
abbrev S1x224x224x192 : Shape := ⟨4, ![1, 224, 224, 192]⟩
abbrev S192x576 : Shape := ⟨2, ![192, 576]⟩
abbrev S576 : Shape := ⟨1, ![576]⟩
abbrev S16x784 : Shape := ⟨2, ![16, 784]⟩
abbrev S_ : Shape := ⟨0, ![]⟩
abbrev S1x224x192x224 : Shape := ⟨4, ![1, 224, 192, 224]⟩
abbrev S1x576 : Shape := ⟨2, ![1, 576]⟩
abbrev S64x784x192 : Shape := ⟨3, ![64, 784, 192]⟩
abbrev S64x16x384 : Shape := ⟨3, ![64, 16, 384]⟩
abbrev S64x1x192 : Shape := ⟨3, ![64, 1, 192]⟩
abbrev S1x28x192x224 : Shape := ⟨4, ![1, 28, 192, 224]⟩
abbrev S8x784x192 : Shape := ⟨3, ![8, 784, 192]⟩
abbrev S8x16x384 : Shape := ⟨3, ![8, 16, 384]⟩
abbrev S8x1x192 : Shape := ⟨3, ![8, 1, 192]⟩
abbrev S28x192x224 : Shape := ⟨3, ![28, 192, 224]⟩
abbrev S28x224x192 : Shape := ⟨3, ![28, 224, 192]⟩
abbrev S28x28x192 : Shape := ⟨3, ![28, 28, 192]⟩
abbrev S784x192 : Shape := ⟨2, ![784, 192]⟩
abbrev S784x576 : Shape := ⟨2, ![784, 576]⟩
abbrev S784x384 : Shape := ⟨2, ![784, 384]⟩
abbrev S16x384 : Shape := ⟨2, ![16, 384]⟩
abbrev S1x192 : Shape := ⟨2, ![1, 192]⟩
abbrev S1x784x192 : Shape := ⟨3, ![1, 784, 192]⟩
abbrev S1x16x384 : Shape := ⟨3, ![1, 16, 384]⟩
abbrev S1x1x192 : Shape := ⟨3, ![1, 1, 192]⟩

abbrev nBuf : Space → Nat
  | .hbm => 46
  | .vmem => 23
  | .smem => 0
  | _ => 0

abbrev bufTy : (tb : Table) → Fin (tcTables nBuf tb) → BufTy
  | .hbm, ⟨0, _⟩ => ⟨S1x224x224x192, .f32⟩
  | .hbm, ⟨1, _⟩ => ⟨S1x224x224x192, .f32⟩
  | .hbm, ⟨2, _⟩ => ⟨S192x576, .f32⟩
  | .hbm, ⟨3, _⟩ => ⟨S576, .f32⟩
  | .hbm, ⟨4, _⟩ => ⟨S16x784, .i32⟩
  | .hbm, ⟨5, _⟩ => ⟨S16x784, .i32⟩
  | .hbm, ⟨6, _⟩ => ⟨S_, .i32⟩
  | .hbm, ⟨7, _⟩ => ⟨S16x784, .i32⟩
  | .hbm, ⟨8, _⟩ => ⟨S16x784, .i32⟩
  | .hbm, ⟨9, _⟩ => ⟨S_, .i32⟩
  | .hbm, ⟨10, _⟩ => ⟨S16x784, .i32⟩
  | .hbm, ⟨11, _⟩ => ⟨S16x784, .i32⟩
  | .hbm, ⟨12, _⟩ => ⟨S_, .i32⟩
  | .hbm, ⟨13, _⟩ => ⟨S16x784, .i32⟩
  | .hbm, ⟨14, _⟩ => ⟨S16x784, .i32⟩
  | .hbm, ⟨15, _⟩ => ⟨S_, .i32⟩
  | .hbm, ⟨16, _⟩ => ⟨S16x784, .i32⟩
  | .hbm, ⟨17, _⟩ => ⟨S16x784, .i32⟩
  | .hbm, ⟨18, _⟩ => ⟨S16x784, .i1⟩
  | .hbm, ⟨19, _⟩ => ⟨S_, .i32⟩
  | .hbm, ⟨20, _⟩ => ⟨S16x784, .i32⟩
  | .hbm, ⟨21, _⟩ => ⟨S16x784, .i32⟩
  | .hbm, ⟨22, _⟩ => ⟨S_, .i32⟩
  | .hbm, ⟨23, _⟩ => ⟨S16x784, .i32⟩
  | .hbm, ⟨24, _⟩ => ⟨S16x784, .i32⟩
  | .hbm, ⟨25, _⟩ => ⟨S16x784, .i1⟩
  | .hbm, ⟨26, _⟩ => ⟨S16x784, .i1⟩
  | .hbm, ⟨27, _⟩ => ⟨S_, .f32⟩
  | .hbm, ⟨28, _⟩ => ⟨S_, .f32⟩
  | .hbm, ⟨29, _⟩ => ⟨S16x784, .f32⟩
  | .hbm, ⟨30, _⟩ => ⟨S16x784, .f32⟩
  | .hbm, ⟨31, _⟩ => ⟨S16x784, .f32⟩
  | .hbm, ⟨32, _⟩ => ⟨S_, .f32⟩
  | .hbm, ⟨33, _⟩ => ⟨S16x784, .f32⟩
  | .hbm, ⟨34, _⟩ => ⟨S16x784, .f32⟩
  | .hbm, ⟨35, _⟩ => ⟨S1x224x192x224, .f32⟩
  | .hbm, ⟨36, _⟩ => ⟨S1x224x192x224, .f32⟩
  | .hbm, ⟨37, _⟩ => ⟨S1x576, .f32⟩
  | .hbm, ⟨38, _⟩ => ⟨S64x784x192, .bf16⟩
  | .hbm, ⟨39, _⟩ => ⟨S64x784x192, .bf16⟩
  | .hbm, ⟨40, _⟩ => ⟨S64x16x384, .bf16⟩
  | .hbm, ⟨41, _⟩ => ⟨S64x16x384, .bf16⟩
  | .hbm, ⟨42, _⟩ => ⟨S64x1x192, .f32⟩
  | .hbm, ⟨43, _⟩ => ⟨S64x1x192, .f32⟩
  | .hbm, ⟨44, _⟩ => ⟨S64x1x192, .f32⟩
  | .hbm, ⟨45, _⟩ => ⟨S64x1x192, .f32⟩
  | .local _ .vmem, ⟨0, _⟩ => ⟨S1x28x192x224, .f32⟩
  | .local _ .vmem, ⟨1, _⟩ => ⟨S1x28x192x224, .f32⟩
  | .local _ .vmem, ⟨2, _⟩ => ⟨S1x28x192x224, .f32⟩
  | .local _ .vmem, ⟨3, _⟩ => ⟨S1x28x192x224, .f32⟩
  | .local _ .vmem, ⟨4, _⟩ => ⟨S192x576, .f32⟩
  | .local _ .vmem, ⟨5, _⟩ => ⟨S1x576, .f32⟩
  | .local _ .vmem, ⟨6, _⟩ => ⟨S16x784, .f32⟩
  | .local _ .vmem, ⟨7, _⟩ => ⟨S8x784x192, .bf16⟩
  | .local _ .vmem, ⟨8, _⟩ => ⟨S8x784x192, .bf16⟩
  | .local _ .vmem, ⟨9, _⟩ => ⟨S8x784x192, .bf16⟩
  | .local _ .vmem, ⟨10, _⟩ => ⟨S8x784x192, .bf16⟩
  | .local _ .vmem, ⟨11, _⟩ => ⟨S8x16x384, .bf16⟩
  | .local _ .vmem, ⟨12, _⟩ => ⟨S8x16x384, .bf16⟩
  | .local _ .vmem, ⟨13, _⟩ => ⟨S8x16x384, .bf16⟩
  | .local _ .vmem, ⟨14, _⟩ => ⟨S8x16x384, .bf16⟩
  | .local _ .vmem, ⟨15, _⟩ => ⟨S8x1x192, .f32⟩
  | .local _ .vmem, ⟨16, _⟩ => ⟨S8x1x192, .f32⟩
  | .local _ .vmem, ⟨17, _⟩ => ⟨S8x1x192, .f32⟩
  | .local _ .vmem, ⟨18, _⟩ => ⟨S8x1x192, .f32⟩
  | .local _ .vmem, ⟨19, _⟩ => ⟨S8x1x192, .f32⟩
  | .local _ .vmem, ⟨20, _⟩ => ⟨S8x1x192, .f32⟩
  | .local _ .vmem, ⟨21, _⟩ => ⟨S8x1x192, .f32⟩
  | .local _ .vmem, ⟨22, _⟩ => ⟨S8x1x192, .f32⟩
  | _, _ => ⟨S1x224x224x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_v11 : Ref sig .tc := ⟨.hbm, 20, rfl⟩
abbrev main_v12 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev main_v23_3 : Ref sig .tc := ⟨.hbm, 41, rfl⟩
abbrev main_v23_4 : Ref sig .tc := ⟨.hbm, 42, rfl⟩
abbrev main_v23_5 : Ref sig .tc := ⟨.hbm, 43, rfl⟩
abbrev main_v23_6 : Ref sig .tc := ⟨.hbm, 44, rfl⟩
abbrev main_v23_7 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x28x192x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x28x192x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x784 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x784x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x784x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x16x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x16x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1x192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1x192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RefProjIdeal.lean ====
abbrev S1x224x224x192 : Shape := ⟨4, ![1, 224, 224, 192]⟩
abbrev S192x576 : Shape := ⟨2, ![192, 576]⟩
abbrev S576 : Shape := ⟨1, ![576]⟩
abbrev S1x8x28x8x28x192 : Shape := ⟨6, ![1, 8, 28, 8, 28, 192]⟩
abbrev S1x8x8x28x28x192 : Shape := ⟨6, ![1, 8, 8, 28, 28, 192]⟩
abbrev S1x64x28x28x192 : Shape := ⟨5, ![1, 64, 28, 28, 192]⟩
abbrev S1x64x28x28x576 : Shape := ⟨5, ![1, 64, 28, 28, 576]⟩
abbrev S1x1x1x1x576 : Shape := ⟨5, ![1, 1, 1, 1, 576]⟩
abbrev S1x64x28x28x384 : Shape := ⟨5, ![1, 64, 28, 28, 384]⟩
abbrev S64x784x192 : Shape := ⟨3, ![64, 784, 192]⟩
abbrev S64x4x7x4x7x384 : Shape := ⟨6, ![64, 4, 7, 4, 7, 384]⟩
abbrev S_ : Shape := ⟨0, ![]⟩
abbrev S64x4x4x384 : Shape := ⟨4, ![64, 4, 4, 384]⟩
abbrev S64x16x384 : Shape := ⟨3, ![64, 16, 384]⟩
abbrev S1x64x192 : Shape := ⟨3, ![1, 64, 192]⟩
abbrev S64x1x192 : Shape := ⟨3, ![64, 1, 192]⟩

abbrev nBuf : Space → Nat
  | .hbm => 68
  | .vmem => 0
  | .smem => 0
  | _ => 0

abbrev bufTy : (tb : Table) → Fin (tcTables nBuf tb) → BufTy
  | .hbm, ⟨0, _⟩ => ⟨S1x224x224x192, .f32⟩
  | .hbm, ⟨1, _⟩ => ⟨S1x224x224x192, .f32⟩
  | .hbm, ⟨2, _⟩ => ⟨S192x576, .f32⟩
  | .hbm, ⟨3, _⟩ => ⟨S576, .f32⟩
  | .hbm, ⟨4, _⟩ => ⟨S1x8x28x8x28x192, .f32⟩
  | .hbm, ⟨5, _⟩ => ⟨S1x8x8x28x28x192, .f32⟩
  | .hbm, ⟨6, _⟩ => ⟨S1x64x28x28x192, .f32⟩
  | .hbm, ⟨7, _⟩ => ⟨S1x64x28x28x576, .f32⟩
  | .hbm, ⟨8, _⟩ => ⟨S1x1x1x1x576, .f32⟩
  | .hbm, ⟨9, _⟩ => ⟨S1x64x28x28x576, .f32⟩
  | .hbm, ⟨10, _⟩ => ⟨S1x64x28x28x576, .f32⟩
  | .hbm, ⟨11, _⟩ => ⟨S1x64x28x28x192, .f32⟩
  | .hbm, ⟨12, _⟩ => ⟨S1x64x28x28x384, .f32⟩
  | .hbm, ⟨13, _⟩ => ⟨S64x784x192, .f32⟩
  | .hbm, ⟨14, _⟩ => ⟨S64x784x192, .bf16⟩
  | .hbm, ⟨15, _⟩ => ⟨S64x4x7x4x7x384, .f32⟩
  | .hbm, ⟨16, _⟩ => ⟨S_, .f32⟩
  | .hbm, ⟨17, _⟩ => ⟨S64x4x4x384, .f32⟩
  | .hbm, ⟨18, _⟩ => ⟨S_, .f32⟩
  | .hbm, ⟨19, _⟩ => ⟨S64x4x4x384, .f32⟩
  | .hbm, ⟨20, _⟩ => ⟨S64x4x4x384, .f32⟩
  | .hbm, ⟨21, _⟩ => ⟨S64x16x384, .f32⟩
  | .hbm, ⟨22, _⟩ => ⟨S64x16x384, .bf16⟩
  | .hbm, ⟨23, _⟩ => ⟨S_, .f32⟩
  | .hbm, ⟨24, _⟩ => ⟨S1x64x192, .f32⟩
  | .hbm, ⟨25, _⟩ => ⟨S_, .f32⟩
  | .hbm, ⟨26, _⟩ => ⟨S1x64x192, .f32⟩
  | .hbm, ⟨27, _⟩ => ⟨S1x64x192, .f32⟩
  | .hbm, ⟨28, _⟩ => ⟨S64x1x192, .f32⟩
  | .hbm, ⟨29, _⟩ => ⟨S1x64x28x28x192, .f32⟩
  | .hbm, ⟨30, _⟩ => ⟨S_, .f32⟩
  | .hbm, ⟨31, _⟩ => ⟨S1x64x192, .f32⟩
  | .hbm, ⟨32, _⟩ => ⟨S_, .f32⟩
  | .hbm, ⟨33, _⟩ => ⟨S1x64x192, .f32⟩
  | .hbm, ⟨34, _⟩ => ⟨S1x64x192, .f32⟩
  | .hbm, ⟨35, _⟩ => ⟨S64x1x192, .f32⟩
  | .hbm, ⟨36, _⟩ => ⟨S1x8x28x8x28x192, .f32⟩
  | .hbm, ⟨37, _⟩ => ⟨S1x8x8x28x28x192, .f32⟩
  | .hbm, ⟨38, _⟩ => ⟨S1x64x28x28x192, .f32⟩
  | .hbm, ⟨39, _⟩ => ⟨S1x64x28x28x576, .f32⟩
  | .hbm, ⟨40, _⟩ => ⟨S1x1x1x1x576, .f32⟩
  | .hbm, ⟨41, _⟩ => ⟨S1x64x28x28x576, .f32⟩
  | .hbm, ⟨42, _⟩ => ⟨S1x64x28x28x576, .f32⟩
  | .hbm, ⟨43, _⟩ => ⟨S1x64x28x28x192, .f32⟩
  | .hbm, ⟨44, _⟩ => ⟨S1x64x28x28x384, .f32⟩
  | .hbm, ⟨45, _⟩ => ⟨S64x784x192, .f32⟩
  | .hbm, ⟨46, _⟩ => ⟨S64x784x192, .bf16⟩
  | .hbm, ⟨47, _⟩ => ⟨S64x4x7x4x7x384, .f32⟩
  | .hbm, ⟨48, _⟩ => ⟨S_, .f32⟩
  | .hbm, ⟨49, _⟩ => ⟨S64x4x4x384, .f32⟩
  | .hbm, ⟨50, _⟩ => ⟨S_, .f32⟩
  | .hbm, ⟨51, _⟩ => ⟨S64x4x4x384, .f32⟩
  | .hbm, ⟨52, _⟩ => ⟨S64x4x4x384, .f32⟩
  | .hbm, ⟨53, _⟩ => ⟨S64x16x384, .f32⟩
  | .hbm, ⟨54, _⟩ => ⟨S64x16x384, .bf16⟩
  | .hbm, ⟨55, _⟩ => ⟨S_, .f32⟩
  | .hbm, ⟨56, _⟩ => ⟨S1x64x192, .f32⟩
  | .hbm, ⟨57, _⟩ => ⟨S_, .f32⟩
  | .hbm, ⟨58, _⟩ => ⟨S1x64x192, .f32⟩
  | .hbm, ⟨59, _⟩ => ⟨S1x64x192, .f32⟩
  | .hbm, ⟨60, _⟩ => ⟨S64x1x192, .f32⟩
  | .hbm, ⟨61, _⟩ => ⟨S1x64x28x28x192, .f32⟩
  | .hbm, ⟨62, _⟩ => ⟨S_, .f32⟩
  | .hbm, ⟨63, _⟩ => ⟨S1x64x192, .f32⟩
  | .hbm, ⟨64, _⟩ => ⟨S_, .f32⟩
  | .hbm, ⟨65, _⟩ => ⟨S1x64x192, .f32⟩
  | .hbm, ⟨66, _⟩ => ⟨S1x64x192, .f32⟩
  | .hbm, ⟨67, _⟩ => ⟨S64x1x192, .f32⟩
  | _, _ => ⟨S1x224x224x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_cst_8 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Final.lean ====
abbrev S1x224x224x192 : Shape := ⟨4, ![1, 224, 224, 192]⟩
abbrev S192x576 : Shape := ⟨2, ![192, 576]⟩
abbrev S576 : Shape := ⟨1, ![576]⟩
abbrev S192x192 : Shape := ⟨2, ![192, 192]⟩
abbrev S192 : Shape := ⟨1, ![192]⟩
abbrev S192x1x3x3 : Shape := ⟨4, ![192, 1, 3, 3]⟩
abbrev S1x224x192x224 : Shape := ⟨4, ![1, 224, 192, 224]⟩
abbrev S192x3x3 : Shape := ⟨3, ![192, 3, 3]⟩
abbrev S3x3x192 : Shape := ⟨3, ![3, 3, 192]⟩
abbrev S16x14x224x192 : Shape := ⟨4, ![16, 14, 224, 192]⟩
abbrev S1x192 : Shape := ⟨2, ![1, 192]⟩
abbrev S16x14x192x224 : Shape := ⟨4, ![16, 14, 192, 224]⟩
abbrev S1x14x224x192 : Shape := ⟨4, ![1, 14, 224, 192]⟩
abbrev S1x14x192x224 : Shape := ⟨4, ![1, 14, 192, 224]⟩
abbrev S1x1x192x224 : Shape := ⟨4, ![1, 1, 192, 224]⟩
abbrev S14x192x224 : Shape := ⟨3, ![14, 192, 224]⟩
abbrev S14x224x192 : Shape := ⟨3, ![14, 224, 192]⟩
abbrev S3136x192 : Shape := ⟨2, ![3136, 192]⟩
abbrev S192x224 : Shape := ⟨2, ![192, 224]⟩
abbrev S224x192 : Shape := ⟨2, ![224, 192]⟩
abbrev S1x224x192 : Shape := ⟨3, ![1, 224, 192]⟩
abbrev S16x224x192 : Shape := ⟨3, ![16, 224, 192]⟩
abbrev S16x1x192 : Shape := ⟨3, ![16, 1, 192]⟩
abbrev S16x226x192 : Shape := ⟨3, ![16, 226, 192]⟩
abbrev S1x1x192 : Shape := ⟨3, ![1, 1, 192]⟩

abbrev nBuf : Space → Nat
  | .hbm => 16
  | .vmem => 15
  | .smem => 0
  | _ => 0

abbrev bufTy : (tb : Table) → Fin (tcTables nBuf tb) → BufTy
  | .hbm, ⟨0, _⟩ => ⟨S1x224x224x192, .bf16⟩
  | .hbm, ⟨1, _⟩ => ⟨S1x224x224x192, .f32⟩
  | .hbm, ⟨2, _⟩ => ⟨S192x576, .f32⟩
  | .hbm, ⟨3, _⟩ => ⟨S576, .f32⟩
  | .hbm, ⟨4, _⟩ => ⟨S192x192, .f32⟩
  | .hbm, ⟨5, _⟩ => ⟨S192, .f32⟩
  | .hbm, ⟨6, _⟩ => ⟨S192x1x3x3, .f32⟩
  | .hbm, ⟨7, _⟩ => ⟨S192, .f32⟩
  | .hbm, ⟨8, _⟩ => ⟨S1x224x192x224, .f32⟩
  | .hbm, ⟨9, _⟩ => ⟨S192x192, .f32⟩
  | .hbm, ⟨10, _⟩ => ⟨S192x3x3, .f32⟩
  | .hbm, ⟨11, _⟩ => ⟨S3x3x192, .f32⟩
  | .hbm, ⟨12, _⟩ => ⟨S16x14x224x192, .bf16⟩
  | .hbm, ⟨13, _⟩ => ⟨S1x192, .f32⟩
  | .hbm, ⟨14, _⟩ => ⟨S1x192, .f32⟩
  | .hbm, ⟨15, _⟩ => ⟨S16x14x192x224, .f32⟩
  | .local _ .vmem, ⟨0, _⟩ => ⟨S1x14x224x192, .bf16⟩
  | .local _ .vmem, ⟨1, _⟩ => ⟨S1x14x224x192, .bf16⟩
  | .local _ .vmem, ⟨2, _⟩ => ⟨S1x14x192x224, .f32⟩
  | .local _ .vmem, ⟨3, _⟩ => ⟨S1x14x192x224, .f32⟩
  | .local _ .vmem, ⟨4, _⟩ => ⟨S1x1x192x224, .f32⟩
  | .local _ .vmem, ⟨5, _⟩ => ⟨S1x1x192x224, .f32⟩
  | .local _ .vmem, ⟨6, _⟩ => ⟨S1x1x192x224, .f32⟩
  | .local _ .vmem, ⟨7, _⟩ => ⟨S1x1x192x224, .f32⟩
  | .local _ .vmem, ⟨8, _⟩ => ⟨S192x192, .f32⟩
  | .local _ .vmem, ⟨9, _⟩ => ⟨S3x3x192, .f32⟩
  | .local _ .vmem, ⟨10, _⟩ => ⟨S1x192, .f32⟩
  | .local _ .vmem, ⟨11, _⟩ => ⟨S192x192, .f32⟩
  | .local _ .vmem, ⟨12, _⟩ => ⟨S1x192, .f32⟩
  | .local _ .vmem, ⟨13, _⟩ => ⟨S1x14x192x224, .f32⟩
  | .local _ .vmem, ⟨14, _⟩ => ⟨S1x14x192x224, .f32⟩
  | _, _ => ⟨S1x224x224x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c14_i32 : BitVec 32 := 14#32
  let v0 : BitVec 32 := Scalar.muli arg0 c14_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_3 (i : grid0.Coords) : Fin 4 → Nat :=
  let arg0 : BitVec 32 := BitVec.ofNat 32 (i 0).val
  let c1_i32 : BitVec 32 := 1#32
  let v0 : BitVec 32 := Scalar.addi arg0 c1_i32
  let c14_i32 : BitVec 32 := 14#32
  let v1 : BitVec 32 := Scalar.muli v0 c14_i32
  let c223_i32 : BitVec 32 := 223#32
  let v2 : BitVec 32 := Scalar.minsi v1 c223_i32
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x14x224x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x14x192x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x192x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x192x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S192x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x3x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S192x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x14x192x224 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== RefFinalIdeal.lean ====
abbrev S1x224x224x192 : Shape := ⟨4, ![1, 224, 224, 192]⟩
abbrev S192x576 : Shape := ⟨2, ![192, 576]⟩
abbrev S576 : Shape := ⟨1, ![576]⟩
abbrev S192x192 : Shape := ⟨2, ![192, 192]⟩
abbrev S192 : Shape := ⟨1, ![192]⟩
abbrev S192x1x3x3 : Shape := ⟨4, ![192, 1, 3, 3]⟩
abbrev S1x1x1x192 : Shape := ⟨4, ![1, 1, 1, 192]⟩
abbrev S_ : Shape := ⟨0, ![]⟩
abbrev S1x226x226x192 : Shape := ⟨4, ![1, 226, 226, 192]⟩
abbrev S192x1x1x1 : Shape := ⟨4, ![192, 1, 1, 1]⟩
abbrev S16x14x224x192 : Shape := ⟨4, ![16, 14, 224, 192]⟩
abbrev S16x14x192x224 : Shape := ⟨4, ![16, 14, 192, 224]⟩

abbrev nBuf : Space → Nat
  | .hbm => 93
  | .vmem => 0
  | .smem => 0
  | _ => 0

abbrev bufTy : (tb : Table) → Fin (tcTables nBuf tb) → BufTy
  | .hbm, ⟨0, _⟩ => ⟨S1x224x224x192, .bf16⟩
  | .hbm, ⟨1, _⟩ => ⟨S1x224x224x192, .f32⟩
  | .hbm, ⟨2, _⟩ => ⟨S192x576, .f32⟩
  | .hbm, ⟨3, _⟩ => ⟨S576, .f32⟩
  | .hbm, ⟨4, _⟩ => ⟨S192x192, .f32⟩
  | .hbm, ⟨5, _⟩ => ⟨S192, .f32⟩
  | .hbm, ⟨6, _⟩ => ⟨S192x1x3x3, .f32⟩
  | .hbm, ⟨7, _⟩ => ⟨S192, .f32⟩
  | .hbm, ⟨8, _⟩ => ⟨S192x192, .f32⟩
  | .hbm, ⟨9, _⟩ => ⟨S1x224x224x192, .f32⟩
  | .hbm, ⟨10, _⟩ => ⟨S192, .f32⟩
  | .hbm, ⟨11, _⟩ => ⟨S1x1x1x192, .f32⟩
  | .hbm, ⟨12, _⟩ => ⟨S1x224x224x192, .f32⟩
  | .hbm, ⟨13, _⟩ => ⟨S1x224x224x192, .f32⟩
  | .hbm, ⟨14, _⟩ => ⟨S_, .i32⟩
  | .hbm, ⟨15, _⟩ => ⟨S_, .f32⟩
  | .hbm, ⟨16, _⟩ => ⟨S1x226x226x192, .f32⟩
  | .hbm, ⟨17, _⟩ => ⟨S1x224x224x192, .f32⟩
  | .hbm, ⟨18, _⟩ => ⟨S192x1x1x1, .f32⟩
  | .hbm, ⟨19, _⟩ => ⟨S192, .f32⟩
  | .hbm, ⟨20, _⟩ => ⟨S1x1x1x192, .f32⟩
  | .hbm, ⟨21, _⟩ => ⟨S1x224x224x192, .f32⟩
  | .hbm, ⟨22, _⟩ => ⟨S1x224x224x192, .f32⟩
  | .hbm, ⟨23, _⟩ => ⟨S_, .f32⟩
  | .hbm, ⟨24, _⟩ => ⟨S1x224x224x192, .f32⟩
  | .hbm, ⟨25, _⟩ => ⟨S1x224x224x192, .f32⟩
  | .hbm, ⟨26, _⟩ => ⟨S1x224x224x192, .f32⟩
  | .hbm, ⟨27, _⟩ => ⟨S192x1x1x1, .f32⟩
  | .hbm, ⟨28, _⟩ => ⟨S192, .f32⟩
  | .hbm, ⟨29, _⟩ => ⟨S1x1x1x192, .f32⟩
  | .hbm, ⟨30, _⟩ => ⟨S1x224x224x192, .f32⟩
  | .hbm, ⟨31, _⟩ => ⟨S1x224x224x192, .f32⟩
  | .hbm, ⟨32, _⟩ => ⟨S1x224x224x192, .f32⟩
  | .hbm, ⟨33, _⟩ => ⟨S1x224x224x192, .f32⟩
  | .hbm, ⟨34, _⟩ => ⟨S192x1x1x1, .f32⟩
  | .hbm, ⟨35, _⟩ => ⟨S192, .f32⟩
  | .hbm, ⟨36, _⟩ => ⟨S1x1x1x192, .f32⟩
  | .hbm, ⟨37, _⟩ => ⟨S1x224x224x192, .f32⟩
  | .hbm, ⟨38, _⟩ => ⟨S1x224x224x192, .f32⟩
  | .hbm, ⟨39, _⟩ => ⟨S1x224x224x192, .f32⟩
  | .hbm, ⟨40, _⟩ => ⟨S1x224x224x192, .f32⟩
  | .hbm, ⟨41, _⟩ => ⟨S192x1x1x1, .f32⟩
  | .hbm, ⟨42, _⟩ => ⟨S192, .f32⟩
  | .hbm, ⟨43, _⟩ => ⟨S1x1x1x192, .f32⟩
  | .hbm, ⟨44, _⟩ => ⟨S1x224x224x192, .f32⟩
  | .hbm, ⟨45, _⟩ => ⟨S1x224x224x192, .f32⟩
  | .hbm, ⟨46, _⟩ => ⟨S1x224x224x192, .f32⟩
  | .hbm, ⟨47, _⟩ => ⟨S1x224x224x192, .f32⟩
  | .hbm, ⟨48, _⟩ => ⟨S192x1x1x1, .f32⟩
  | .hbm, ⟨49, _⟩ => ⟨S192, .f32⟩
  | .hbm, ⟨50, _⟩ => ⟨S1x1x1x192, .f32⟩
  | .hbm, ⟨51, _⟩ => ⟨S1x224x224x192, .f32⟩
  | .hbm, ⟨52, _⟩ => ⟨S1x224x224x192, .f32⟩
  | .hbm, ⟨53, _⟩ => ⟨S1x224x224x192, .f32⟩
  | .hbm, ⟨54, _⟩ => ⟨S1x224x224x192, .f32⟩
  | .hbm, ⟨55, _⟩ => ⟨S192x1x1x1, .f32⟩
  | .hbm, ⟨56, _⟩ => ⟨S192, .f32⟩
  | .hbm, ⟨57, _⟩ => ⟨S1x1x1x192, .f32⟩
  | .hbm, ⟨58, _⟩ => ⟨S1x224x224x192, .f32⟩
  | .hbm, ⟨59, _⟩ => ⟨S1x224x224x192, .f32⟩
  | .hbm, ⟨60, _⟩ => ⟨S1x224x224x192, .f32⟩
  | .hbm, ⟨61, _⟩ => ⟨S1x224x224x192, .f32⟩
  | .hbm, ⟨62, _⟩ => ⟨S192x1x1x1, .f32⟩
  | .hbm, ⟨63, _⟩ => ⟨S192, .f32⟩
  | .hbm, ⟨64, _⟩ => ⟨S1x1x1x192, .f32⟩
  | .hbm, ⟨65, _⟩ => ⟨S1x224x224x192, .f32⟩
  | .hbm, ⟨66, _⟩ => ⟨S1x224x224x192, .f32⟩
  | .hbm, ⟨67, _⟩ => ⟨S1x224x224x192, .f32⟩
  | .hbm, ⟨68, _⟩ => ⟨S1x224x224x192, .f32⟩
  | .hbm, ⟨69, _⟩ => ⟨S192x1x1x1, .f32⟩
  | .hbm, ⟨70, _⟩ => ⟨S192, .f32⟩
  | .hbm, ⟨71, _⟩ => ⟨S1x1x1x192, .f32⟩
  | .hbm, ⟨72, _⟩ => ⟨S1x224x224x192, .f32⟩
  | .hbm, ⟨73, _⟩ => ⟨S1x224x224x192, .f32⟩
  | .hbm, ⟨74, _⟩ => ⟨S1x224x224x192, .f32⟩
  | .hbm, ⟨75, _⟩ => ⟨S1x224x224x192, .f32⟩
  | .hbm, ⟨76, _⟩ => ⟨S192x1x1x1, .f32⟩
  | .hbm, ⟨77, _⟩ => ⟨S192, .f32⟩
  | .hbm, ⟨78, _⟩ => ⟨S1x1x1x192, .f32⟩
  | .hbm, ⟨79, _⟩ => ⟨S1x224x224x192, .f32⟩
  | .hbm, ⟨80, _⟩ => ⟨S1x224x224x192, .f32⟩
  | .hbm, ⟨81, _⟩ => ⟨S1x224x224x192, .f32⟩
  | .hbm, ⟨82, _⟩ => ⟨S1x1x1x192, .f32⟩
  | .hbm, ⟨83, _⟩ => ⟨S1x224x224x192, .f32⟩
  | .hbm, ⟨84, _⟩ => ⟨S1x224x224x192, .f32⟩
  | .hbm, ⟨85, _⟩ => ⟨S1x224x224x192, .f32⟩
  | .hbm, ⟨86, _⟩ => ⟨S1x224x224x192, .f32⟩
  | .hbm, ⟨87, _⟩ => ⟨S1x224x224x192, .f32⟩
  | .hbm, ⟨88, _⟩ => ⟨S1x1x1x192, .f32⟩
  | .hbm, ⟨89, _⟩ => ⟨S1x224x224x192, .f32⟩
  | .hbm, ⟨90, _⟩ => ⟨S1x224x224x192, .f32⟩
  | .hbm, ⟨91, _⟩ => ⟨S16x14x224x192, .f32⟩
  | .hbm, ⟨92, _⟩ => ⟨S16x14x192x224, .f32⟩
  | _, _ => ⟨S1x224x224x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩

abbrev nD : Nat := 1
abbrev τ : Topo := Topo.v7x

variable {F : FTy → Type} [FloatOps F]
-- ==== Router.lean ====
abbrev S64x192 : Shape := ⟨2, ![64, 192]⟩
abbrev S64x4 : Shape := ⟨2, ![64, 4]⟩
abbrev S64x64 : Shape := ⟨2, ![64, 64]⟩
abbrev S64 : Shape := ⟨1, ![64]⟩
abbrev S64x1 : Shape := ⟨2, ![64, 1]⟩

abbrev nBuf : Space → Nat
  | .hbm => 6
  | .vmem => 6
  | .smem => 0
  | _ => 0

abbrev bufTy : (tb : Table) → Fin (tcTables nBuf tb) → BufTy
  | .hbm, ⟨0, _⟩ => ⟨S64x192, .f32⟩
  | .hbm, ⟨1, _⟩ => ⟨S64x192, .f32⟩
  | .hbm, ⟨2, _⟩ => ⟨S64x192, .f32⟩
  | .hbm, ⟨3, _⟩ => ⟨S64x192, .f32⟩
  | .hbm, ⟨4, _⟩ => ⟨S64x4, .i32⟩
  | .hbm, ⟨5, _⟩ => ⟨S64x4, .i32⟩
  | .local _ .vmem, ⟨0, _⟩ => ⟨S64x192, .f32⟩
  | .local _ .vmem, ⟨1, _⟩ => ⟨S64x192, .f32⟩
  | .local _ .vmem, ⟨2, _⟩ => ⟨S64x192, .f32⟩
  | .local _ .vmem, ⟨3, _⟩ => ⟨S64x192, .f32⟩
  | .local _ .vmem, ⟨4, _⟩ => ⟨S64x4, .i32⟩
  | .local _ .vmem, ⟨5, _⟩ => ⟨S64x4, .i32⟩
  | _, _ => ⟨S64x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S64x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x4 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x4 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== RefRouterIdeal.lean ====
abbrev S64x192 : Shape := ⟨2, ![64, 192]⟩
abbrev S_ : Shape := ⟨0, ![]⟩
abbrev S192x64 : Shape := ⟨2, ![192, 64]⟩
abbrev S64x64 : Shape := ⟨2, ![64, 64]⟩
abbrev S64 : Shape := ⟨1, ![64]⟩
abbrev S64x1 : Shape := ⟨2, ![64, 1]⟩
abbrev S64x2 : Shape := ⟨2, ![64, 2]⟩
abbrev S64x4 : Shape := ⟨2, ![64, 4]⟩

abbrev nBuf : Space → Nat
  | .hbm => 60
  | .vmem => 0
  | .smem => 0
  | _ => 0

abbrev bufTy : (tb : Table) → Fin (tcTables nBuf tb) → BufTy
  | .hbm, ⟨0, _⟩ => ⟨S64x192, .f32⟩
  | .hbm, ⟨1, _⟩ => ⟨S64x192, .f32⟩
  | .hbm, ⟨2, _⟩ => ⟨S64x192, .f32⟩
  | .hbm, ⟨3, _⟩ => ⟨S64x192, .f32⟩
  | .hbm, ⟨4, _⟩ => ⟨S_, .f32⟩
  | .hbm, ⟨5, _⟩ => ⟨S64x192, .f32⟩
  | .hbm, ⟨6, _⟩ => ⟨S64x192, .f32⟩
  | .hbm, ⟨7, _⟩ => ⟨S192x64, .f32⟩
  | .hbm, ⟨8, _⟩ => ⟨S64x64, .f32⟩
  | .hbm, ⟨9, _⟩ => ⟨S64, .i32⟩
  | .hbm, ⟨10, _⟩ => ⟨S_, .i32⟩
  | .hbm, ⟨11, _⟩ => ⟨S64, .i32⟩
  | .hbm, ⟨12, _⟩ => ⟨S64, .i1⟩
  | .hbm, ⟨13, _⟩ => ⟨S_, .i32⟩
  | .hbm, ⟨14, _⟩ => ⟨S64, .i32⟩
  | .hbm, ⟨15, _⟩ => ⟨S64, .i32⟩
  | .hbm, ⟨16, _⟩ => ⟨S64, .i32⟩
  | .hbm, ⟨17, _⟩ => ⟨S_, .i32⟩
  | .hbm, ⟨18, _⟩ => ⟨S64, .i32⟩
  | .hbm, ⟨19, _⟩ => ⟨S64, .i1⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S64x1, .i32⟩
  | .hbm, ⟨25, _⟩ => ⟨S64x1, .i32⟩
  | .hbm, ⟨26, _⟩ => ⟨S64x2, .i32⟩
  | .hbm, ⟨27, _⟩ => ⟨S_, .f32⟩
  | .hbm, ⟨28, _⟩ => ⟨S64, .f32⟩
  | .hbm, ⟨29, _⟩ => ⟨S64x64, .f32⟩
  | .hbm, ⟨30, _⟩ => ⟨S64x4, .f32⟩
  | .hbm, ⟨31, _⟩ => ⟨S64x4, .i32⟩
  | .hbm, ⟨32, _⟩ => ⟨S_, .f32⟩
  | .hbm, ⟨33, _⟩ => ⟨S64x192, .f32⟩
  | .hbm, ⟨34, _⟩ => ⟨S64x192, .f32⟩
  | .hbm, ⟨35, _⟩ => ⟨S192x64, .f32⟩
  | .hbm, ⟨36, _⟩ => ⟨S64x64, .f32⟩
  | .hbm, ⟨37, _⟩ => ⟨S64, .i32⟩
  | .hbm, ⟨38, _⟩ => ⟨S_, .i32⟩
  | .hbm, ⟨39, _⟩ => ⟨S64, .i32⟩
  | .hbm, ⟨40, _⟩ => ⟨S64, .i1⟩
  | .hbm, ⟨41, _⟩ => ⟨S_, .i32⟩
  | .hbm, ⟨42, _⟩ => ⟨S64, .i32⟩
  | .hbm, ⟨43, _⟩ => ⟨S64, .i32⟩
  | .hbm, ⟨44, _⟩ => ⟨S64, .i32⟩
  | .hbm, ⟨45, _⟩ => ⟨S_, .i32⟩
  | .hbm, ⟨46, _⟩ => ⟨S64, .i32⟩
  | .hbm, ⟨47, _⟩ => ⟨S64, .i1⟩
  | .hbm, ⟨48, _⟩ => ⟨S_, .i32⟩
  | .hbm, ⟨49, _⟩ => ⟨S64, .i32⟩
  | .hbm, ⟨50, _⟩ => ⟨S64, .i32⟩
  | .hbm, ⟨51, _⟩ => ⟨S64, .i32⟩
  | .hbm, ⟨52, _⟩ => ⟨S64x1, .i32⟩
  | .hbm, ⟨53, _⟩ => ⟨S64x1, .i32⟩
  | .hbm, ⟨54, _⟩ => ⟨S64x2, .i32⟩
  | .hbm, ⟨55, _⟩ => ⟨S_, .f32⟩
  | .hbm, ⟨56, _⟩ => ⟨S64, .f32⟩
  | .hbm, ⟨57, _⟩ => ⟨S64x64, .f32⟩
  | .hbm, ⟨58, _⟩ => ⟨S64x4, .f32⟩
  | .hbm, ⟨59, _⟩ => ⟨S64x4, .i32⟩
  | _, _ => ⟨S64x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_values : Ref sig .tc := ⟨.hbm, 30, rfl⟩
abbrev main_indices : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_c_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_values_10 : Ref sig .tc := ⟨.hbm, 58, rfl⟩
abbrev main_indices_11 : Ref sig .tc := ⟨.hbm, 59, rfl⟩

abbrev nD : Nat := 1
abbrev τ : Topo := Topo.v7x

variable {F : FTy → Type} [FloatOps F]
-- ==== Attn.lean ====
abbrev S64x784x192 : Shape := ⟨3, ![64, 784, 192]⟩
abbrev S64x16x384 : Shape := ⟨3, ![64, 16, 384]⟩
abbrev S64x4 : Shape := ⟨2, ![64, 4]⟩
abbrev S1x224x224x192 : Shape := ⟨4, ![1, 224, 224, 192]⟩
abbrev S8x784x192 : Shape := ⟨3, ![8, 784, 192]⟩
abbrev S1x28x224x192 : Shape := ⟨4, ![1, 28, 224, 192]⟩
abbrev S192x1 : Shape := ⟨2, ![192, 1]⟩
abbrev S1x192 : Shape := ⟨2, ![1, 192]⟩
abbrev S1x1 : Shape := ⟨2, ![1, 1]⟩
abbrev S1x16x384 : Shape := ⟨3, ![1, 16, 384]⟩
abbrev S16x384 : Shape := ⟨2, ![16, 384]⟩
abbrev S64x384 : Shape := ⟨2, ![64, 384]⟩
abbrev S64x192 : Shape := ⟨2, ![64, 192]⟩
abbrev S192x64 : Shape := ⟨2, ![192, 64]⟩
abbrev S192x512 : Shape := ⟨2, ![192, 512]⟩
abbrev S512x192 : Shape := ⟨2, ![512, 192]⟩
abbrev S1x784x192 : Shape := ⟨3, ![1, 784, 192]⟩
abbrev S784x192 : Shape := ⟨2, ![784, 192]⟩
abbrev S784x512 : Shape := ⟨2, ![784, 512]⟩
abbrev S784 : Shape := ⟨1, ![784]⟩
abbrev S784x1 : Shape := ⟨2, ![784, 1]⟩
abbrev S784x64 : Shape := ⟨2, ![784, 64]⟩
abbrev S28x28x192 : Shape := ⟨3, ![28, 28, 192]⟩
abbrev S28x224x192 : Shape := ⟨3, ![28, 224, 192]⟩

abbrev nBuf : Space → Nat
  | .hbm => 8
  | .vmem => 10
  | .smem => 2
  | _ => 0

abbrev bufTy : (tb : Table) → Fin (tcTables nBuf tb) → BufTy
  | .hbm, ⟨0, _⟩ => ⟨S64x784x192, .bf16⟩
  | .hbm, ⟨1, _⟩ => ⟨S64x784x192, .bf16⟩
  | .hbm, ⟨2, _⟩ => ⟨S64x16x384, .bf16⟩
  | .hbm, ⟨3, _⟩ => ⟨S64x16x384, .bf16⟩
  | .hbm, ⟨4, _⟩ => ⟨S64x4, .i32⟩
  | .hbm, ⟨5, _⟩ => ⟨S64x4, .i32⟩
  | .hbm, ⟨6, _⟩ => ⟨S1x224x224x192, .bf16⟩
  | .hbm, ⟨7, _⟩ => ⟨S1x224x224x192, .bf16⟩
  | .local _ .vmem, ⟨0, _⟩ => ⟨S8x784x192, .bf16⟩
  | .local _ .vmem, ⟨1, _⟩ => ⟨S8x784x192, .bf16⟩
  | .local _ .vmem, ⟨2, _⟩ => ⟨S8x784x192, .bf16⟩
  | .local _ .vmem, ⟨3, _⟩ => ⟨S8x784x192, .bf16⟩
  | .local _ .vmem, ⟨4, _⟩ => ⟨S64x16x384, .bf16⟩
  | .local _ .vmem, ⟨5, _⟩ => ⟨S64x16x384, .bf16⟩
  | .local _ .vmem, ⟨6, _⟩ => ⟨S1x28x224x192, .bf16⟩
  | .local _ .vmem, ⟨7, _⟩ => ⟨S1x28x224x192, .bf16⟩
  | .local _ .vmem, ⟨8, _⟩ => ⟨S1x28x224x192, .bf16⟩
  | .local _ .vmem, ⟨9, _⟩ => ⟨S1x28x224x192, .bf16⟩
  | .local _ .smem, ⟨0, _⟩ => ⟨S64x4, .i32⟩
  | .local _ .smem, ⟨1, _⟩ => ⟨S64x4, .i32⟩
  | _, _ => ⟨S64x784x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c8_i32 : BitVec 32 := 8#32
  let v114 : BitVec 32 := Scalar.muli arg0 c8_i32
  let c0_i32_21 : BitVec 32 := 0#32
  let v115 : BitVec 32 := Scalar.addi v114 c0_i32_21
  let v116 : Index := Scalar.indexCast v115
  let c0 : Index := 0#32
  ![v116.toNat, 0]
def k0_off2 (v117 : BitVec 32) : Fin 3 → Nat :=
  let v118 : Index := Scalar.indexCast v117
  let c0_22 : Index := 0#32
  let c0_23 : Index := 0#32
  ![v118.toNat, 0, 0]

def k0_chk1 (v117 : BitVec 32) : Prop :=
  (∀ a, (k0_off2 v117) a + S1x16x384.size a ≤ S64x16x384.size a)
theorem k0_off2_inb : ∀ (v117 : BitVec 32) (k0_hw1 : k0_chk1 v117), ∀ a, (k0_off2 v117) a + S1x16x384.size a ≤ S64x16x384.size a := fun v117 k0_hw1 => k0_hw1

def k0_off3 (i : grid0.Coords) : Fin 2 → Nat :=
  let arg0 : BitVec 32 := BitVec.ofNat 32 (i 0).val
  let c8_i32 : BitVec 32 := 8#32
  let v114 : BitVec 32 := Scalar.muli arg0 c8_i32
  let c0_i32_21 : BitVec 32 := 0#32
  let v115 : BitVec 32 := Scalar.addi v114 c0_i32_21
  let v121 : Index := Scalar.indexCast v115
  let c1 : Index := 1#32
  ![v121.toNat, 1]
def k0_off4 (v122 : BitVec 32) : Fin 3 → Nat :=
  let v123 : Index := Scalar.indexCast v122
  let c0_24 : Index := 0#32
  let c0_25 : Index := 0#32
  ![v123.toNat, 0, 0]

def k0_chk2 (v122 : BitVec 32) : Prop :=
  (∀ a, (k0_off4 v122) a + S1x16x384.size a ≤ S64x16x384.size a)
theorem k0_off4_inb : ∀ (v122 : BitVec 32) (k0_hw2 : k0_chk2 v122), ∀ a, (k0_off4 v122) a + S1x16x384.size a ≤ S64x16x384.size a := fun v122 k0_hw2 => k0_hw2

def k0_off5 (i : grid0.Coords) : Fin 2 → Nat :=
  let arg0 : BitVec 32 := BitVec.ofNat 32 (i 0).val
  let c8_i32 : BitVec 32 := 8#32
  let v114 : BitVec 32 := Scalar.muli arg0 c8_i32
  let c0_i32_21 : BitVec 32 := 0#32
  let v115 : BitVec 32 := Scalar.addi v114 c0_i32_21
  let v126 : Index := Scalar.indexCast v115
  let c2 : Index := 2#32
  ![v126.toNat, 2]
def k0_off6 (v127 : BitVec 32) : Fin 3 → Nat :=
  let v128 : Index := Scalar.indexCast v127
  let c0_26 : Index := 0#32
  let c0_27 : Index := 0#32
  ![v128.toNat, 0, 0]

def k0_chk3 (v127 : BitVec 32) : Prop :=
  (∀ a, (k0_off6 v127) a + S1x16x384.size a ≤ S64x16x384.size a)
theorem k0_off6_inb : ∀ (v127 : BitVec 32) (k0_hw3 : k0_chk3 v127), ∀ a, (k0_off6 v127) a + S1x16x384.size a ≤ S64x16x384.size a := fun v127 k0_hw3 => k0_hw3

def k0_off7 (i : grid0.Coords) : Fin 2 → Nat :=
  let arg0 : BitVec 32 := BitVec.ofNat 32 (i 0).val
  let c8_i32 : BitVec 32 := 8#32
  let v114 : BitVec 32 := Scalar.muli arg0 c8_i32
  let c0_i32_21 : BitVec 32 := 0#32
  let v115 : BitVec 32 := Scalar.addi v114 c0_i32_21
  let v131 : Index := Scalar.indexCast v115
  let c3 : Index := 3#32
  ![v131.toNat, 3]
def k0_off8 (v132 : BitVec 32) : Fin 3 → Nat :=
  let v133 : Index := Scalar.indexCast v132
  let c0_28 : Index := 0#32
  let c0_29 : Index := 0#32
  ![v133.toNat, 0, 0]

def k0_chk4 (v132 : BitVec 32) : Prop :=
  (∀ a, (k0_off8 v132) a + S1x16x384.size a ≤ S64x16x384.size a)
theorem k0_off8_inb : ∀ (v132 : BitVec 32) (k0_hw4 : k0_chk4 v132), ∀ a, (k0_off8 v132) a + S1x16x384.size a ≤ S64x16x384.size a := fun v132 k0_hw4 => k0_hw4

def k0_off9 (i : grid0.Coords) : Fin 2 → Nat :=
  let arg0 : BitVec 32 := BitVec.ofNat 32 (i 0).val
  let c8_i32_44 : BitVec 32 := 8#32
  let v230 : BitVec 32 := Scalar.muli arg0 c8_i32_44
  let c1_i32_45 : BitVec 32 := 1#32
  let v231 : BitVec 32 := Scalar.addi v230 c1_i32_45
  let v232 : Index := Scalar.indexCast v231
  let c0_46 : Index := 0#32
  ![v232.toNat, 0]
def k0_off10 (v233 : BitVec 32) : Fin 3 → Nat :=
  let v234 : Index := Scalar.indexCast v233
  let c0_47 : Index := 0#32
  let c0_48 : Index := 0#32
  ![v234.toNat, 0, 0]

def k0_chk5 (v233 : BitVec 32) : Prop :=
  (∀ a, (k0_off10 v233) a + S1x16x384.size a ≤ S64x16x384.size a)
theorem k0_off10_inb : ∀ (v233 : BitVec 32) (k0_hw5 : k0_chk5 v233), ∀ a, (k0_off10 v233) a + S1x16x384.size a ≤ S64x16x384.size a := fun v233 k0_hw5 => k0_hw5

def k0_off11 (i : grid0.Coords) : Fin 2 → Nat :=
  let arg0 : BitVec 32 := BitVec.ofNat 32 (i 0).val
  let c8_i32_44 : BitVec 32 := 8#32
  let v230 : BitVec 32 := Scalar.muli arg0 c8_i32_44
  let c1_i32_45 : BitVec 32 := 1#32
  let v231 : BitVec 32 := Scalar.addi v230 c1_i32_45
  let v237 : Index := Scalar.indexCast v231
  let c1_49 : Index := 1#32
  ![v237.toNat, 1]
def k0_off12 (v238 : BitVec 32) : Fin 3 → Nat :=
  let v239 : Index := Scalar.indexCast v238
  let c0_50 : Index := 0#32
  let c0_51 : Index := 0#32
  ![v239.toNat, 0, 0]

def k0_chk6 (v238 : BitVec 32) : Prop :=
  (∀ a, (k0_off12 v238) a + S1x16x384.size a ≤ S64x16x384.size a)
theorem k0_off12_inb : ∀ (v238 : BitVec 32) (k0_hw6 : k0_chk6 v238), ∀ a, (k0_off12 v238) a + S1x16x384.size a ≤ S64x16x384.size a := fun v238 k0_hw6 => k0_hw6

def k0_off13 (i : grid0.Coords) : Fin 2 → Nat :=
  let arg0 : BitVec 32 := BitVec.ofNat 32 (i 0).val
  let c8_i32_44 : BitVec 32 := 8#32
  let v230 : BitVec 32 := Scalar.muli arg0 c8_i32_44
  let c1_i32_45 : BitVec 32 := 1#32
  let v231 : BitVec 32 := Scalar.addi v230 c1_i32_45
  let v242 : Index := Scalar.indexCast v231
  let c2_52 : Index := 2#32
  ![v242.toNat, 2]
def k0_off14 (v243 : BitVec 32) : Fin 3 → Nat :=
  let v244 : Index := Scalar.indexCast v243
  let c0_53 : Index := 0#32
  let c0_54 : Index := 0#32
  ![v244.toNat, 0, 0]

def k0_chk7 (v243 : BitVec 32) : Prop :=
  (∀ a, (k0_off14 v243) a + S1x16x384.size a ≤ S64x16x384.size a)
theorem k0_off14_inb : ∀ (v243 : BitVec 32) (k0_hw7 : k0_chk7 v243), ∀ a, (k0_off14 v243) a + S1x16x384.size a ≤ S64x16x384.size a := fun v243 k0_hw7 => k0_hw7

def k0_off15 (i : grid0.Coords) : Fin 2 → Nat :=
  let arg0 : BitVec 32 := BitVec.ofNat 32 (i 0).val
  let c8_i32_44 : BitVec 32 := 8#32
  let v230 : BitVec 32 := Scalar.muli arg0 c8_i32_44
  let c1_i32_45 : BitVec 32 := 1#32
  let v231 : BitVec 32 := Scalar.addi v230 c1_i32_45
  let v247 : Index := Scalar.indexCast v231
  let c3_55 : Index := 3#32
  ![v247.toNat, 3]
def k0_off16 (v248 : BitVec 32) : Fin 3 → Nat :=
  let v249 : Index := Scalar.indexCast v248
  let c0_56 : Index := 0#32
  let c0_57 : Index := 0#32
  ![v249.toNat, 0, 0]

def k0_chk8 (v248 : BitVec 32) : Prop :=
  (∀ a, (k0_off16 v248) a + S1x16x384.size a ≤ S64x16x384.size a)
theorem k0_off16_inb : ∀ (v248 : BitVec 32) (k0_hw8 : k0_chk8 v248), ∀ a, (k0_off16 v248) a + S1x16x384.size a ≤ S64x16x384.size a := fun v248 k0_hw8 => k0_hw8

def k0_off17 (i : grid0.Coords) : Fin 2 → Nat :=
  let arg0 : BitVec 32 := BitVec.ofNat 32 (i 0).val
  let c8_i32_73 : BitVec 32 := 8#32
  let v346 : BitVec 32 := Scalar.muli arg0 c8_i32_73
  let c2_i32_74 : BitVec 32 := 2#32
  let v347 : BitVec 32 := Scalar.addi v346 c2_i32_74
  let v348 : Index := Scalar.indexCast v347
  let c0_75 : Index := 0#32
  ![v348.toNat, 0]
def k0_off18 (v349 : BitVec 32) : Fin 3 → Nat :=
  let v350 : Index := Scalar.indexCast v349
  let c0_76 : Index := 0#32
  let c0_77 : Index := 0#32
  ![v350.toNat, 0, 0]

def k0_chk9 (v349 : BitVec 32) : Prop :=
  (∀ a, (k0_off18 v349) a + S1x16x384.size a ≤ S64x16x384.size a)
theorem k0_off18_inb : ∀ (v349 : BitVec 32) (k0_hw9 : k0_chk9 v349), ∀ a, (k0_off18 v349) a + S1x16x384.size a ≤ S64x16x384.size a := fun v349 k0_hw9 => k0_hw9

def k0_off19 (i : grid0.Coords) : Fin 2 → Nat :=
  let arg0 : BitVec 32 := BitVec.ofNat 32 (i 0).val
  let c8_i32_73 : BitVec 32 := 8#32
  let v346 : BitVec 32 := Scalar.muli arg0 c8_i32_73
  let c2_i32_74 : BitVec 32 := 2#32
  let v347 : BitVec 32 := Scalar.addi v346 c2_i32_74
  let v353 : Index := Scalar.indexCast v347
  let c1_78 : Index := 1#32
  ![v353.toNat, 1]
def k0_off20 (v354 : BitVec 32) : Fin 3 → Nat :=
  let v355 : Index := Scalar.indexCast v354
  let c0_79 : Index := 0#32
  let c0_80 : Index := 0#32
  ![v355.toNat, 0, 0]

def k0_chk10 (v354 : BitVec 32) : Prop :=
  (∀ a, (k0_off20 v354) a + S1x16x384.size a ≤ S64x16x384.size a)
theorem k0_off20_inb : ∀ (v354 : BitVec 32) (k0_hw10 : k0_chk10 v354), ∀ a, (k0_off20 v354) a + S1x16x384.size a ≤ S64x16x384.size a := fun v354 k0_hw10 => k0_hw10

def k0_off21 (i : grid0.Coords) : Fin 2 → Nat :=
  let arg0 : BitVec 32 := BitVec.ofNat 32 (i 0).val
  let c8_i32_73 : BitVec 32 := 8#32
  let v346 : BitVec 32 := Scalar.muli arg0 c8_i32_73
  let c2_i32_74 : BitVec 32 := 2#32
  let v347 : BitVec 32 := Scalar.addi v346 c2_i32_74
  let v358 : Index := Scalar.indexCast v347
  let c2_81 : Index := 2#32
  ![v358.toNat, 2]
def k0_off22 (v359 : BitVec 32) : Fin 3 → Nat :=
  let v360 : Index := Scalar.indexCast v359
  let c0_82 : Index := 0#32
  let c0_83 : Index := 0#32
  ![v360.toNat, 0, 0]

def k0_chk11 (v359 : BitVec 32) : Prop :=
  (∀ a, (k0_off22 v359) a + S1x16x384.size a ≤ S64x16x384.size a)
theorem k0_off22_inb : ∀ (v359 : BitVec 32) (k0_hw11 : k0_chk11 v359), ∀ a, (k0_off22 v359) a + S1x16x384.size a ≤ S64x16x384.size a := fun v359 k0_hw11 => k0_hw11

def k0_off23 (i : grid0.Coords) : Fin 2 → Nat :=
  let arg0 : BitVec 32 := BitVec.ofNat 32 (i 0).val
  let c8_i32_73 : BitVec 32 := 8#32
  let v346 : BitVec 32 := Scalar.muli arg0 c8_i32_73
  let c2_i32_74 : BitVec 32 := 2#32
  let v347 : BitVec 32 := Scalar.addi v346 c2_i32_74
  let v363 : Index := Scalar.indexCast v347
  let c3_84 : Index := 3#32
  ![v363.toNat, 3]
def k0_off24 (v364 : BitVec 32) : Fin 3 → Nat :=
  let v365 : Index := Scalar.indexCast v364
  let c0_85 : Index := 0#32
  let c0_86 : Index := 0#32
  ![v365.toNat, 0, 0]

def k0_chk12 (v364 : BitVec 32) : Prop :=
  (∀ a, (k0_off24 v364) a + S1x16x384.size a ≤ S64x16x384.size a)
theorem k0_off24_inb : ∀ (v364 : BitVec 32) (k0_hw12 : k0_chk12 v364), ∀ a, (k0_off24 v364) a + S1x16x384.size a ≤ S64x16x384.size a := fun v364 k0_hw12 => k0_hw12

def k0_off25 (i : grid0.Coords) : Fin 2 → Nat :=
  let arg0 : BitVec 32 := BitVec.ofNat 32 (i 0).val
  let c8_i32_102 : BitVec 32 := 8#32
  let v462 : BitVec 32 := Scalar.muli arg0 c8_i32_102
  let c3_i32_103 : BitVec 32 := 3#32
  let v463 : BitVec 32 := Scalar.addi v462 c3_i32_103
  let v464 : Index := Scalar.indexCast v463
  let c0_104 : Index := 0#32
  ![v464.toNat, 0]
def k0_off26 (v465 : BitVec 32) : Fin 3 → Nat :=
  let v466 : Index := Scalar.indexCast v465
  let c0_105 : Index := 0#32
  let c0_106 : Index := 0#32
  ![v466.toNat, 0, 0]

def k0_chk13 (v465 : BitVec 32) : Prop :=
  (∀ a, (k0_off26 v465) a + S1x16x384.size a ≤ S64x16x384.size a)
theorem k0_off26_inb : ∀ (v465 : BitVec 32) (k0_hw13 : k0_chk13 v465), ∀ a, (k0_off26 v465) a + S1x16x384.size a ≤ S64x16x384.size a := fun v465 k0_hw13 => k0_hw13

def k0_off27 (i : grid0.Coords) : Fin 2 → Nat :=
  let arg0 : BitVec 32 := BitVec.ofNat 32 (i 0).val
  let c8_i32_102 : BitVec 32 := 8#32
  let v462 : BitVec 32 := Scalar.muli arg0 c8_i32_102
  let c3_i32_103 : BitVec 32 := 3#32
  let v463 : BitVec 32 := Scalar.addi v462 c3_i32_103
  let v469 : Index := Scalar.indexCast v463
  let c1_107 : Index := 1#32
  ![v469.toNat, 1]
def k0_off28 (v470 : BitVec 32) : Fin 3 → Nat :=
  let v471 : Index := Scalar.indexCast v470
  let c0_108 : Index := 0#32
  let c0_109 : Index := 0#32
  ![v471.toNat, 0, 0]

def k0_chk14 (v470 : BitVec 32) : Prop :=
  (∀ a, (k0_off28 v470) a + S1x16x384.size a ≤ S64x16x384.size a)
theorem k0_off28_inb : ∀ (v470 : BitVec 32) (k0_hw14 : k0_chk14 v470), ∀ a, (k0_off28 v470) a + S1x16x384.size a ≤ S64x16x384.size a := fun v470 k0_hw14 => k0_hw14

def k0_off29 (i : grid0.Coords) : Fin 2 → Nat :=
  let arg0 : BitVec 32 := BitVec.ofNat 32 (i 0).val
  let c8_i32_102 : BitVec 32 := 8#32
  let v462 : BitVec 32 := Scalar.muli arg0 c8_i32_102
  let c3_i32_103 : BitVec 32 := 3#32
  let v463 : BitVec 32 := Scalar.addi v462 c3_i32_103
  let v474 : Index := Scalar.indexCast v463
  let c2_110 : Index := 2#32
  ![v474.toNat, 2]
def k0_off30 (v475 : BitVec 32) : Fin 3 → Nat :=
  let v476 : Index := Scalar.indexCast v475
  let c0_111 : Index := 0#32
  let c0_112 : Index := 0#32
  ![v476.toNat, 0, 0]

def k0_chk15 (v475 : BitVec 32) : Prop :=
  (∀ a, (k0_off30 v475) a + S1x16x384.size a ≤ S64x16x384.size a)
theorem k0_off30_inb : ∀ (v475 : BitVec 32) (k0_hw15 : k0_chk15 v475), ∀ a, (k0_off30 v475) a + S1x16x384.size a ≤ S64x16x384.size a := fun v475 k0_hw15 => k0_hw15

def k0_off31 (i : grid0.Coords) : Fin 2 → Nat :=
  let arg0 : BitVec 32 := BitVec.ofNat 32 (i 0).val
  let c8_i32_102 : BitVec 32 := 8#32
  let v462 : BitVec 32 := Scalar.muli arg0 c8_i32_102
  let c3_i32_103 : BitVec 32 := 3#32
  let v463 : BitVec 32 := Scalar.addi v462 c3_i32_103
  let v479 : Index := Scalar.indexCast v463
  let c3_113 : Index := 3#32
  ![v479.toNat, 3]
def k0_off32 (v480 : BitVec 32) : Fin 3 → Nat :=
  let v481 : Index := Scalar.indexCast v480
  let c0_114 : Index := 0#32
  let c0_115 : Index := 0#32
  ![v481.toNat, 0, 0]

def k0_chk16 (v480 : BitVec 32) : Prop :=
  (∀ a, (k0_off32 v480) a + S1x16x384.size a ≤ S64x16x384.size a)
theorem k0_off32_inb : ∀ (v480 : BitVec 32) (k0_hw16 : k0_chk16 v480), ∀ a, (k0_off32 v480) a + S1x16x384.size a ≤ S64x16x384.size a := fun v480 k0_hw16 => k0_hw16

def k0_off33 (i : grid0.Coords) : Fin 2 → Nat :=
  let arg0 : BitVec 32 := BitVec.ofNat 32 (i 0).val
  let c8_i32_131 : BitVec 32 := 8#32
  let v578 : BitVec 32 := Scalar.muli arg0 c8_i32_131
  let c4_i32_132 : BitVec 32 := 4#32
  let v579 : BitVec 32 := Scalar.addi v578 c4_i32_132
  let v580 : Index := Scalar.indexCast v579
  let c0_133 : Index := 0#32
  ![v580.toNat, 0]
def k0_off34 (v581 : BitVec 32) : Fin 3 → Nat :=
  let v582 : Index := Scalar.indexCast v581
  let c0_134 : Index := 0#32
  let c0_135 : Index := 0#32
  ![v582.toNat, 0, 0]

def k0_chk17 (v581 : BitVec 32) : Prop :=
  (∀ a, (k0_off34 v581) a + S1x16x384.size a ≤ S64x16x384.size a)
theorem k0_off34_inb : ∀ (v581 : BitVec 32) (k0_hw17 : k0_chk17 v581), ∀ a, (k0_off34 v581) a + S1x16x384.size a ≤ S64x16x384.size a := fun v581 k0_hw17 => k0_hw17

def k0_off35 (i : grid0.Coords) : Fin 2 → Nat :=
  let arg0 : BitVec 32 := BitVec.ofNat 32 (i 0).val
  let c8_i32_131 : BitVec 32 := 8#32
  let v578 : BitVec 32 := Scalar.muli arg0 c8_i32_131
  let c4_i32_132 : BitVec 32 := 4#32
  let v579 : BitVec 32 := Scalar.addi v578 c4_i32_132
  let v585 : Index := Scalar.indexCast v579
  let c1_136 : Index := 1#32
  ![v585.toNat, 1]
def k0_off36 (v586 : BitVec 32) : Fin 3 → Nat :=
  let v587 : Index := Scalar.indexCast v586
  let c0_137 : Index := 0#32
  let c0_138 : Index := 0#32
  ![v587.toNat, 0, 0]

def k0_chk18 (v586 : BitVec 32) : Prop :=
  (∀ a, (k0_off36 v586) a + S1x16x384.size a ≤ S64x16x384.size a)
theorem k0_off36_inb : ∀ (v586 : BitVec 32) (k0_hw18 : k0_chk18 v586), ∀ a, (k0_off36 v586) a + S1x16x384.size a ≤ S64x16x384.size a := fun v586 k0_hw18 => k0_hw18

def k0_off37 (i : grid0.Coords) : Fin 2 → Nat :=
  let arg0 : BitVec 32 := BitVec.ofNat 32 (i 0).val
  let c8_i32_131 : BitVec 32 := 8#32
  let v578 : BitVec 32 := Scalar.muli arg0 c8_i32_131
  let c4_i32_132 : BitVec 32 := 4#32
  let v579 : BitVec 32 := Scalar.addi v578 c4_i32_132
  let v590 : Index := Scalar.indexCast v579
  let c2_139 : Index := 2#32
  ![v590.toNat, 2]
def k0_off38 (v591 : BitVec 32) : Fin 3 → Nat :=
  let v592 : Index := Scalar.indexCast v591
  let c0_140 : Index := 0#32
  let c0_141 : Index := 0#32
  ![v592.toNat, 0, 0]

def k0_chk19 (v591 : BitVec 32) : Prop :=
  (∀ a, (k0_off38 v591) a + S1x16x384.size a ≤ S64x16x384.size a)
theorem k0_off38_inb : ∀ (v591 : BitVec 32) (k0_hw19 : k0_chk19 v591), ∀ a, (k0_off38 v591) a + S1x16x384.size a ≤ S64x16x384.size a := fun v591 k0_hw19 => k0_hw19

def k0_off39 (i : grid0.Coords) : Fin 2 → Nat :=
  let arg0 : BitVec 32 := BitVec.ofNat 32 (i 0).val
  let c8_i32_131 : BitVec 32 := 8#32
  let v578 : BitVec 32 := Scalar.muli arg0 c8_i32_131
  let c4_i32_132 : BitVec 32 := 4#32
  let v579 : BitVec 32 := Scalar.addi v578 c4_i32_132
  let v595 : Index := Scalar.indexCast v579
  let c3_142 : Index := 3#32
  ![v595.toNat, 3]
def k0_off40 (v596 : BitVec 32) : Fin 3 → Nat :=
  let v597 : Index := Scalar.indexCast v596
  let c0_143 : Index := 0#32
  let c0_144 : Index := 0#32
  ![v597.toNat, 0, 0]

def k0_chk20 (v596 : BitVec 32) : Prop :=
  (∀ a, (k0_off40 v596) a + S1x16x384.size a ≤ S64x16x384.size a)
theorem k0_off40_inb : ∀ (v596 : BitVec 32) (k0_hw20 : k0_chk20 v596), ∀ a, (k0_off40 v596) a + S1x16x384.size a ≤ S64x16x384.size a := fun v596 k0_hw20 => k0_hw20

def k0_off41 (i : grid0.Coords) : Fin 2 → Nat :=
  let arg0 : BitVec 32 := BitVec.ofNat 32 (i 0).val
  let c8_i32_159 : BitVec 32 := 8#32
  let v694 : BitVec 32 := Scalar.muli arg0 c8_i32_159
  let c5_i32_160 : BitVec 32 := 5#32
  let v695 : BitVec 32 := Scalar.addi v694 c5_i32_160
  let v696 : Index := Scalar.indexCast v695
  let c0_161 : Index := 0#32
  ![v696.toNat, 0]
def k0_off42 (v697 : BitVec 32) : Fin 3 → Nat :=
  let v698 : Index := Scalar.indexCast v697
  let c0_162 : Index := 0#32
  let c0_163 : Index := 0#32
  ![v698.toNat, 0, 0]

def k0_chk21 (v697 : BitVec 32) : Prop :=
  (∀ a, (k0_off42 v697) a + S1x16x384.size a ≤ S64x16x384.size a)
theorem k0_off42_inb : ∀ (v697 : BitVec 32) (k0_hw21 : k0_chk21 v697), ∀ a, (k0_off42 v697) a + S1x16x384.size a ≤ S64x16x384.size a := fun v697 k0_hw21 => k0_hw21

def k0_off43 (i : grid0.Coords) : Fin 2 → Nat :=
  let arg0 : BitVec 32 := BitVec.ofNat 32 (i 0).val
  let c8_i32_159 : BitVec 32 := 8#32
  let v694 : BitVec 32 := Scalar.muli arg0 c8_i32_159
  let c5_i32_160 : BitVec 32 := 5#32
  let v695 : BitVec 32 := Scalar.addi v694 c5_i32_160
  let v701 : Index := Scalar.indexCast v695
  let c1_164 : Index := 1#32
  ![v701.toNat, 1]
def k0_off44 (v702 : BitVec 32) : Fin 3 → Nat :=
  let v703 : Index := Scalar.indexCast v702
  let c0_165 : Index := 0#32
  let c0_166 : Index := 0#32
  ![v703.toNat, 0, 0]

def k0_chk22 (v702 : BitVec 32) : Prop :=
  (∀ a, (k0_off44 v702) a + S1x16x384.size a ≤ S64x16x384.size a)
theorem k0_off44_inb : ∀ (v702 : BitVec 32) (k0_hw22 : k0_chk22 v702), ∀ a, (k0_off44 v702) a + S1x16x384.size a ≤ S64x16x384.size a := fun v702 k0_hw22 => k0_hw22

def k0_off45 (i : grid0.Coords) : Fin 2 → Nat :=
  let arg0 : BitVec 32 := BitVec.ofNat 32 (i 0).val
  let c8_i32_159 : BitVec 32 := 8#32
  let v694 : BitVec 32 := Scalar.muli arg0 c8_i32_159
  let c5_i32_160 : BitVec 32 := 5#32
  let v695 : BitVec 32 := Scalar.addi v694 c5_i32_160
  let v706 : Index := Scalar.indexCast v695
  let c2_167 : Index := 2#32
  ![v706.toNat, 2]
def k0_off46 (v707 : BitVec 32) : Fin 3 → Nat :=
  let v708 : Index := Scalar.indexCast v707
  let c0_168 : Index := 0#32
  let c0_169 : Index := 0#32
  ![v708.toNat, 0, 0]

def k0_chk23 (v707 : BitVec 32) : Prop :=
  (∀ a, (k0_off46 v707) a + S1x16x384.size a ≤ S64x16x384.size a)
theorem k0_off46_inb : ∀ (v707 : BitVec 32) (k0_hw23 : k0_chk23 v707), ∀ a, (k0_off46 v707) a + S1x16x384.size a ≤ S64x16x384.size a := fun v707 k0_hw23 => k0_hw23

def k0_off47 (i : grid0.Coords) : Fin 2 → Nat :=
  let arg0 : BitVec 32 := BitVec.ofNat 32 (i 0).val
  let c8_i32_159 : BitVec 32 := 8#32
  let v694 : BitVec 32 := Scalar.muli arg0 c8_i32_159
  let c5_i32_160 : BitVec 32 := 5#32
  let v695 : BitVec 32 := Scalar.addi v694 c5_i32_160
  let v711 : Index := Scalar.indexCast v695
  let c3_170 : Index := 3#32
  ![v711.toNat, 3]
def k0_off48 (v712 : BitVec 32) : Fin 3 → Nat :=
  let v713 : Index := Scalar.indexCast v712
  let c0_171 : Index := 0#32
  let c0_172 : Index := 0#32
  ![v713.toNat, 0, 0]

def k0_chk24 (v712 : BitVec 32) : Prop :=
  (∀ a, (k0_off48 v712) a + S1x16x384.size a ≤ S64x16x384.size a)
theorem k0_off48_inb : ∀ (v712 : BitVec 32) (k0_hw24 : k0_chk24 v712), ∀ a, (k0_off48 v712) a + S1x16x384.size a ≤ S64x16x384.size a := fun v712 k0_hw24 => k0_hw24

def k0_off49 (i : grid0.Coords) : Fin 2 → Nat :=
  let arg0 : BitVec 32 := BitVec.ofNat 32 (i 0).val
  let c8_i32_187 : BitVec 32 := 8#32
  let v810 : BitVec 32 := Scalar.muli arg0 c8_i32_187
  let c6_i32_188 : BitVec 32 := 6#32
  let v811 : BitVec 32 := Scalar.addi v810 c6_i32_188
  let v812 : Index := Scalar.indexCast v811
  let c0_189 : Index := 0#32
  ![v812.toNat, 0]
def k0_off50 (v813 : BitVec 32) : Fin 3 → Nat :=
  let v814 : Index := Scalar.indexCast v813
  let c0_190 : Index := 0#32
  let c0_191 : Index := 0#32
  ![v814.toNat, 0, 0]

def k0_chk25 (v813 : BitVec 32) : Prop :=
  (∀ a, (k0_off50 v813) a + S1x16x384.size a ≤ S64x16x384.size a)
theorem k0_off50_inb : ∀ (v813 : BitVec 32) (k0_hw25 : k0_chk25 v813), ∀ a, (k0_off50 v813) a + S1x16x384.size a ≤ S64x16x384.size a := fun v813 k0_hw25 => k0_hw25

def k0_off51 (i : grid0.Coords) : Fin 2 → Nat :=
  let arg0 : BitVec 32 := BitVec.ofNat 32 (i 0).val
  let c8_i32_187 : BitVec 32 := 8#32
  let v810 : BitVec 32 := Scalar.muli arg0 c8_i32_187
  let c6_i32_188 : BitVec 32 := 6#32
  let v811 : BitVec 32 := Scalar.addi v810 c6_i32_188
  let v817 : Index := Scalar.indexCast v811
  let c1_192 : Index := 1#32
  ![v817.toNat, 1]
def k0_off52 (v818 : BitVec 32) : Fin 3 → Nat :=
  let v819 : Index := Scalar.indexCast v818
  let c0_193 : Index := 0#32
  let c0_194 : Index := 0#32
  ![v819.toNat, 0, 0]

def k0_chk26 (v818 : BitVec 32) : Prop :=
  (∀ a, (k0_off52 v818) a + S1x16x384.size a ≤ S64x16x384.size a)
theorem k0_off52_inb : ∀ (v818 : BitVec 32) (k0_hw26 : k0_chk26 v818), ∀ a, (k0_off52 v818) a + S1x16x384.size a ≤ S64x16x384.size a := fun v818 k0_hw26 => k0_hw26

def k0_off53 (i : grid0.Coords) : Fin 2 → Nat :=
  let arg0 : BitVec 32 := BitVec.ofNat 32 (i 0).val
  let c8_i32_187 : BitVec 32 := 8#32
  let v810 : BitVec 32 := Scalar.muli arg0 c8_i32_187
  let c6_i32_188 : BitVec 32 := 6#32
  let v811 : BitVec 32 := Scalar.addi v810 c6_i32_188
  let v822 : Index := Scalar.indexCast v811
  let c2_195 : Index := 2#32
  ![v822.toNat, 2]
def k0_off54 (v823 : BitVec 32) : Fin 3 → Nat :=
  let v824 : Index := Scalar.indexCast v823
  let c0_196 : Index := 0#32
  let c0_197 : Index := 0#32
  ![v824.toNat, 0, 0]

def k0_chk27 (v823 : BitVec 32) : Prop :=
  (∀ a, (k0_off54 v823) a + S1x16x384.size a ≤ S64x16x384.size a)
theorem k0_off54_inb : ∀ (v823 : BitVec 32) (k0_hw27 : k0_chk27 v823), ∀ a, (k0_off54 v823) a + S1x16x384.size a ≤ S64x16x384.size a := fun v823 k0_hw27 => k0_hw27

def k0_off55 (i : grid0.Coords) : Fin 2 → Nat :=
  let arg0 : BitVec 32 := BitVec.ofNat 32 (i 0).val
  let c8_i32_187 : BitVec 32 := 8#32
  let v810 : BitVec 32 := Scalar.muli arg0 c8_i32_187
  let c6_i32_188 : BitVec 32 := 6#32
  let v811 : BitVec 32 := Scalar.addi v810 c6_i32_188
  let v827 : Index := Scalar.indexCast v811
  let c3_198 : Index := 3#32
  ![v827.toNat, 3]
def k0_off56 (v828 : BitVec 32) : Fin 3 → Nat :=
  let v829 : Index := Scalar.indexCast v828
  let c0_199 : Index := 0#32
  let c0_200 : Index := 0#32
  ![v829.toNat, 0, 0]

def k0_chk28 (v828 : BitVec 32) : Prop :=
  (∀ a, (k0_off56 v828) a + S1x16x384.size a ≤ S64x16x384.size a)
theorem k0_off56_inb : ∀ (v828 : BitVec 32) (k0_hw28 : k0_chk28 v828), ∀ a, (k0_off56 v828) a + S1x16x384.size a ≤ S64x16x384.size a := fun v828 k0_hw28 => k0_hw28

def k0_off57 (i : grid0.Coords) : Fin 2 → Nat :=
  let arg0 : BitVec 32 := BitVec.ofNat 32 (i 0).val
  let c8_i32_215 : BitVec 32 := 8#32
  let v926 : BitVec 32 := Scalar.muli arg0 c8_i32_215
  let c7_i32_216 : BitVec 32 := 7#32
  let v927 : BitVec 32 := Scalar.addi v926 c7_i32_216
  let v928 : Index := Scalar.indexCast v927
  let c0_217 : Index := 0#32
  ![v928.toNat, 0]
def k0_off58 (v929 : BitVec 32) : Fin 3 → Nat :=
  let v930 : Index := Scalar.indexCast v929
  let c0_218 : Index := 0#32
  let c0_219 : Index := 0#32
  ![v930.toNat, 0, 0]

def k0_chk29 (v929 : BitVec 32) : Prop :=
  (∀ a, (k0_off58 v929) a + S1x16x384.size a ≤ S64x16x384.size a)
theorem k0_off58_inb : ∀ (v929 : BitVec 32) (k0_hw29 : k0_chk29 v929), ∀ a, (k0_off58 v929) a + S1x16x384.size a ≤ S64x16x384.size a := fun v929 k0_hw29 => k0_hw29

def k0_off59 (i : grid0.Coords) : Fin 2 → Nat :=
  let arg0 : BitVec 32 := BitVec.ofNat 32 (i 0).val
  let c8_i32_215 : BitVec 32 := 8#32
  let v926 : BitVec 32 := Scalar.muli arg0 c8_i32_215
  let c7_i32_216 : BitVec 32 := 7#32
  let v927 : BitVec 32 := Scalar.addi v926 c7_i32_216
  let v933 : Index := Scalar.indexCast v927
  let c1_220 : Index := 1#32
  ![v933.toNat, 1]
def k0_off60 (v934 : BitVec 32) : Fin 3 → Nat :=
  let v935 : Index := Scalar.indexCast v934
  let c0_221 : Index := 0#32
  let c0_222 : Index := 0#32
  ![v935.toNat, 0, 0]

def k0_chk30 (v934 : BitVec 32) : Prop :=
  (∀ a, (k0_off60 v934) a + S1x16x384.size a ≤ S64x16x384.size a)
theorem k0_off60_inb : ∀ (v934 : BitVec 32) (k0_hw30 : k0_chk30 v934), ∀ a, (k0_off60 v934) a + S1x16x384.size a ≤ S64x16x384.size a := fun v934 k0_hw30 => k0_hw30

def k0_off61 (i : grid0.Coords) : Fin 2 → Nat :=
  let arg0 : BitVec 32 := BitVec.ofNat 32 (i 0).val
  let c8_i32_215 : BitVec 32 := 8#32
  let v926 : BitVec 32 := Scalar.muli arg0 c8_i32_215
  let c7_i32_216 : BitVec 32 := 7#32
  let v927 : BitVec 32 := Scalar.addi v926 c7_i32_216
  let v938 : Index := Scalar.indexCast v927
  let c2_223 : Index := 2#32
  ![v938.toNat, 2]
def k0_off62 (v939 : BitVec 32) : Fin 3 → Nat :=
  let v940 : Index := Scalar.indexCast v939
  let c0_224 : Index := 0#32
  let c0_225 : Index := 0#32
  ![v940.toNat, 0, 0]

def k0_chk31 (v939 : BitVec 32) : Prop :=
  (∀ a, (k0_off62 v939) a + S1x16x384.size a ≤ S64x16x384.size a)
theorem k0_off62_inb : ∀ (v939 : BitVec 32) (k0_hw31 : k0_chk31 v939), ∀ a, (k0_off62 v939) a + S1x16x384.size a ≤ S64x16x384.size a := fun v939 k0_hw31 => k0_hw31

def k0_off63 (i : grid0.Coords) : Fin 2 → Nat :=
  let arg0 : BitVec 32 := BitVec.ofNat 32 (i 0).val
  let c8_i32_215 : BitVec 32 := 8#32
  let v926 : BitVec 32 := Scalar.muli arg0 c8_i32_215
  let c7_i32_216 : BitVec 32 := 7#32
  let v927 : BitVec 32 := Scalar.addi v926 c7_i32_216
  let v943 : Index := Scalar.indexCast v927
  let c3_226 : Index := 3#32
  ![v943.toNat, 3]
def k0_off64 (v944 : BitVec 32) : Fin 3 → Nat :=
  let v945 : Index := Scalar.indexCast v944
  let c0_227 : Index := 0#32
  let c0_228 : Index := 0#32
  ![v945.toNat, 0, 0]

def k0_chk32 (v944 : BitVec 32) : Prop :=
  (∀ a, (k0_off64 v944) a + S1x16x384.size a ≤ S64x16x384.size a)
theorem k0_off64_inb : ∀ (v944 : BitVec 32) (k0_hw32 : k0_chk32 v944), ∀ a, (k0_off64 v944) a + S1x16x384.size a ≤ S64x16x384.size a := fun v944 k0_hw32 => k0_hw32

def k0_off65 (i : grid0.Coords) : Fin 2 → Nat :=
  let arg0 : BitVec 32 := BitVec.ofNat 32 (i 0).val
  let c8_i32_247 : BitVec 32 := 8#32
  let v1046 : BitVec 32 := Scalar.muli arg0 c8_i32_247
  let c0_i32_248 : BitVec 32 := 0#32
  let v1047 : BitVec 32 := Scalar.addi v1046 c0_i32_248
  let v1048 : Index := Scalar.indexCast v1047
  let c0_249 : Index := 0#32
  ![v1048.toNat, 0]
def k0_off66 (v1049 : BitVec 32) : Fin 3 → Nat :=
  let v1050 : Index := Scalar.indexCast v1049
  let c0_250 : Index := 0#32
  let c0_251 : Index := 0#32
  ![v1050.toNat, 0, 0]

def k0_chk33 (v1049 : BitVec 32) : Prop :=
  (∀ a, (k0_off66 v1049) a + S1x16x384.size a ≤ S64x16x384.size a)
theorem k0_off66_inb : ∀ (v1049 : BitVec 32) (k0_hw33 : k0_chk33 v1049), ∀ a, (k0_off66 v1049) a + S1x16x384.size a ≤ S64x16x384.size a := fun v1049 k0_hw33 => k0_hw33

def k0_off67 (i : grid0.Coords) : Fin 2 → Nat :=
  let arg0 : BitVec 32 := BitVec.ofNat 32 (i 0).val
  let c8_i32_247 : BitVec 32 := 8#32
  let v1046 : BitVec 32 := Scalar.muli arg0 c8_i32_247
  let c0_i32_248 : BitVec 32 := 0#32
  let v1047 : BitVec 32 := Scalar.addi v1046 c0_i32_248
  let v1053 : Index := Scalar.indexCast v1047
  let c1_252 : Index := 1#32
  ![v1053.toNat, 1]
def k0_off68 (v1054 : BitVec 32) : Fin 3 → Nat :=
  let v1055 : Index := Scalar.indexCast v1054
  let c0_253 : Index := 0#32
  let c0_254 : Index := 0#32
  ![v1055.toNat, 0, 0]

def k0_chk34 (v1054 : BitVec 32) : Prop :=
  (∀ a, (k0_off68 v1054) a + S1x16x384.size a ≤ S64x16x384.size a)
theorem k0_off68_inb : ∀ (v1054 : BitVec 32) (k0_hw34 : k0_chk34 v1054), ∀ a, (k0_off68 v1054) a + S1x16x384.size a ≤ S64x16x384.size a := fun v1054 k0_hw34 => k0_hw34

def k0_off69 (i : grid0.Coords) : Fin 2 → Nat :=
  let arg0 : BitVec 32 := BitVec.ofNat 32 (i 0).val
  let c8_i32_247 : BitVec 32 := 8#32
  let v1046 : BitVec 32 := Scalar.muli arg0 c8_i32_247
  let c0_i32_248 : BitVec 32 := 0#32
  let v1047 : BitVec 32 := Scalar.addi v1046 c0_i32_248
  let v1058 : Index := Scalar.indexCast v1047
  let c2_255 : Index := 2#32
  ![v1058.toNat, 2]
def k0_off70 (v1059 : BitVec 32) : Fin 3 → Nat :=
  let v1060 : Index := Scalar.indexCast v1059
  let c0_256 : Index := 0#32
  let c0_257 : Index := 0#32
  ![v1060.toNat, 0, 0]

def k0_chk35 (v1059 : BitVec 32) : Prop :=
  (∀ a, (k0_off70 v1059) a + S1x16x384.size a ≤ S64x16x384.size a)
theorem k0_off70_inb : ∀ (v1059 : BitVec 32) (k0_hw35 : k0_chk35 v1059), ∀ a, (k0_off70 v1059) a + S1x16x384.size a ≤ S64x16x384.size a := fun v1059 k0_hw35 => k0_hw35

def k0_off71 (i : grid0.Coords) : Fin 2 → Nat :=
  let arg0 : BitVec 32 := BitVec.ofNat 32 (i 0).val
  let c8_i32_247 : BitVec 32 := 8#32
  let v1046 : BitVec 32 := Scalar.muli arg0 c8_i32_247
  let c0_i32_248 : BitVec 32 := 0#32
  let v1047 : BitVec 32 := Scalar.addi v1046 c0_i32_248
  let v1063 : Index := Scalar.indexCast v1047
  let c3_258 : Index := 3#32
  ![v1063.toNat, 3]
def k0_off72 (v1064 : BitVec 32) : Fin 3 → Nat :=
  let v1065 : Index := Scalar.indexCast v1064
  let c0_259 : Index := 0#32
  let c0_260 : Index := 0#32
  ![v1065.toNat, 0, 0]

def k0_chk36 (v1064 : BitVec 32) : Prop :=
  (∀ a, (k0_off72 v1064) a + S1x16x384.size a ≤ S64x16x384.size a)
theorem k0_off72_inb : ∀ (v1064 : BitVec 32) (k0_hw36 : k0_chk36 v1064), ∀ a, (k0_off72 v1064) a + S1x16x384.size a ≤ S64x16x384.size a := fun v1064 k0_hw36 => k0_hw36

def k0_off73 (i : grid0.Coords) : Fin 2 → Nat :=
  let arg0 : BitVec 32 := BitVec.ofNat 32 (i 0).val
  let c8_i32_276 : BitVec 32 := 8#32
  let v1162 : BitVec 32 := Scalar.muli arg0 c8_i32_276
  let c1_i32_277 : BitVec 32 := 1#32
  let v1163 : BitVec 32 := Scalar.addi v1162 c1_i32_277
  let v1164 : Index := Scalar.indexCast v1163
  let c0_278 : Index := 0#32
  ![v1164.toNat, 0]
def k0_off74 (v1165 : BitVec 32) : Fin 3 → Nat :=
  let v1166 : Index := Scalar.indexCast v1165
  let c0_279 : Index := 0#32
  let c0_280 : Index := 0#32
  ![v1166.toNat, 0, 0]

def k0_chk37 (v1165 : BitVec 32) : Prop :=
  (∀ a, (k0_off74 v1165) a + S1x16x384.size a ≤ S64x16x384.size a)
theorem k0_off74_inb : ∀ (v1165 : BitVec 32) (k0_hw37 : k0_chk37 v1165), ∀ a, (k0_off74 v1165) a + S1x16x384.size a ≤ S64x16x384.size a := fun v1165 k0_hw37 => k0_hw37

def k0_off75 (i : grid0.Coords) : Fin 2 → Nat :=
  let arg0 : BitVec 32 := BitVec.ofNat 32 (i 0).val
  let c8_i32_276 : BitVec 32 := 8#32
  let v1162 : BitVec 32 := Scalar.muli arg0 c8_i32_276
  let c1_i32_277 : BitVec 32 := 1#32
  let v1163 : BitVec 32 := Scalar.addi v1162 c1_i32_277
  let v1169 : Index := Scalar.indexCast v1163
  let c1_281 : Index := 1#32
  ![v1169.toNat, 1]
def k0_off76 (v1170 : BitVec 32) : Fin 3 → Nat :=
  let v1171 : Index := Scalar.indexCast v1170
  let c0_282 : Index := 0#32
  let c0_283 : Index := 0#32
  ![v1171.toNat, 0, 0]

def k0_chk38 (v1170 : BitVec 32) : Prop :=
  (∀ a, (k0_off76 v1170) a + S1x16x384.size a ≤ S64x16x384.size a)
theorem k0_off76_inb : ∀ (v1170 : BitVec 32) (k0_hw38 : k0_chk38 v1170), ∀ a, (k0_off76 v1170) a + S1x16x384.size a ≤ S64x16x384.size a := fun v1170 k0_hw38 => k0_hw38

def k0_off77 (i : grid0.Coords) : Fin 2 → Nat :=
  let arg0 : BitVec 32 := BitVec.ofNat 32 (i 0).val
  let c8_i32_276 : BitVec 32 := 8#32
  let v1162 : BitVec 32 := Scalar.muli arg0 c8_i32_276
  let c1_i32_277 : BitVec 32 := 1#32
  let v1163 : BitVec 32 := Scalar.addi v1162 c1_i32_277
  let v1174 : Index := Scalar.indexCast v1163
  let c2_284 : Index := 2#32
  ![v1174.toNat, 2]
def k0_off78 (v1175 : BitVec 32) : Fin 3 → Nat :=
  let v1176 : Index := Scalar.indexCast v1175
  let c0_285 : Index := 0#32
  let c0_286 : Index := 0#32
  ![v1176.toNat, 0, 0]

def k0_chk39 (v1175 : BitVec 32) : Prop :=
  (∀ a, (k0_off78 v1175) a + S1x16x384.size a ≤ S64x16x384.size a)
theorem k0_off78_inb : ∀ (v1175 : BitVec 32) (k0_hw39 : k0_chk39 v1175), ∀ a, (k0_off78 v1175) a + S1x16x384.size a ≤ S64x16x384.size a := fun v1175 k0_hw39 => k0_hw39

def k0_off79 (i : grid0.Coords) : Fin 2 → Nat :=
  let arg0 : BitVec 32 := BitVec.ofNat 32 (i 0).val
  let c8_i32_276 : BitVec 32 := 8#32
  let v1162 : BitVec 32 := Scalar.muli arg0 c8_i32_276
  let c1_i32_277 : BitVec 32 := 1#32
  let v1163 : BitVec 32 := Scalar.addi v1162 c1_i32_277
  let v1179 : Index := Scalar.indexCast v1163
  let c3_287 : Index := 3#32
  ![v1179.toNat, 3]
def k0_off80 (v1180 : BitVec 32) : Fin 3 → Nat :=
  let v1181 : Index := Scalar.indexCast v1180
  let c0_288 : Index := 0#32
  let c0_289 : Index := 0#32
  ![v1181.toNat, 0, 0]

def k0_chk40 (v1180 : BitVec 32) : Prop :=
  (∀ a, (k0_off80 v1180) a + S1x16x384.size a ≤ S64x16x384.size a)
theorem k0_off80_inb : ∀ (v1180 : BitVec 32) (k0_hw40 : k0_chk40 v1180), ∀ a, (k0_off80 v1180) a + S1x16x384.size a ≤ S64x16x384.size a := fun v1180 k0_hw40 => k0_hw40

def k0_off81 (i : grid0.Coords) : Fin 2 → Nat :=
  let arg0 : BitVec 32 := BitVec.ofNat 32 (i 0).val
  let c8_i32_305 : BitVec 32 := 8#32
  let v1278 : BitVec 32 := Scalar.muli arg0 c8_i32_305
  let c2_i32_306 : BitVec 32 := 2#32
  let v1279 : BitVec 32 := Scalar.addi v1278 c2_i32_306
  let v1280 : Index := Scalar.indexCast v1279
  let c0_307 : Index := 0#32
  ![v1280.toNat, 0]
def k0_off82 (v1281 : BitVec 32) : Fin 3 → Nat :=
  let v1282 : Index := Scalar.indexCast v1281
  let c0_308 : Index := 0#32
  let c0_309 : Index := 0#32
  ![v1282.toNat, 0, 0]

def k0_chk41 (v1281 : BitVec 32) : Prop :=
  (∀ a, (k0_off82 v1281) a + S1x16x384.size a ≤ S64x16x384.size a)
theorem k0_off82_inb : ∀ (v1281 : BitVec 32) (k0_hw41 : k0_chk41 v1281), ∀ a, (k0_off82 v1281) a + S1x16x384.size a ≤ S64x16x384.size a := fun v1281 k0_hw41 => k0_hw41

def k0_off83 (i : grid0.Coords) : Fin 2 → Nat :=
  let arg0 : BitVec 32 := BitVec.ofNat 32 (i 0).val
  let c8_i32_305 : BitVec 32 := 8#32
  let v1278 : BitVec 32 := Scalar.muli arg0 c8_i32_305
  let c2_i32_306 : BitVec 32 := 2#32
  let v1279 : BitVec 32 := Scalar.addi v1278 c2_i32_306
  let v1285 : Index := Scalar.indexCast v1279
  let c1_310 : Index := 1#32
  ![v1285.toNat, 1]
def k0_off84 (v1286 : BitVec 32) : Fin 3 → Nat :=
  let v1287 : Index := Scalar.indexCast v1286
  let c0_311 : Index := 0#32
  let c0_312 : Index := 0#32
  ![v1287.toNat, 0, 0]

def k0_chk42 (v1286 : BitVec 32) : Prop :=
  (∀ a, (k0_off84 v1286) a + S1x16x384.size a ≤ S64x16x384.size a)
theorem k0_off84_inb : ∀ (v1286 : BitVec 32) (k0_hw42 : k0_chk42 v1286), ∀ a, (k0_off84 v1286) a + S1x16x384.size a ≤ S64x16x384.size a := fun v1286 k0_hw42 => k0_hw42

def k0_off85 (i : grid0.Coords) : Fin 2 → Nat :=
  let arg0 : BitVec 32 := BitVec.ofNat 32 (i 0).val
  let c8_i32_305 : BitVec 32 := 8#32
  let v1278 : BitVec 32 := Scalar.muli arg0 c8_i32_305
  let c2_i32_306 : BitVec 32 := 2#32
  let v1279 : BitVec 32 := Scalar.addi v1278 c2_i32_306
  let v1290 : Index := Scalar.indexCast v1279
  let c2_313 : Index := 2#32
  ![v1290.toNat, 2]
def k0_off86 (v1291 : BitVec 32) : Fin 3 → Nat :=
  let v1292 : Index := Scalar.indexCast v1291
  let c0_314 : Index := 0#32
  let c0_315 : Index := 0#32
  ![v1292.toNat, 0, 0]

def k0_chk43 (v1291 : BitVec 32) : Prop :=
  (∀ a, (k0_off86 v1291) a + S1x16x384.size a ≤ S64x16x384.size a)
theorem k0_off86_inb : ∀ (v1291 : BitVec 32) (k0_hw43 : k0_chk43 v1291), ∀ a, (k0_off86 v1291) a + S1x16x384.size a ≤ S64x16x384.size a := fun v1291 k0_hw43 => k0_hw43

def k0_off87 (i : grid0.Coords) : Fin 2 → Nat :=
  let arg0 : BitVec 32 := BitVec.ofNat 32 (i 0).val
  let c8_i32_305 : BitVec 32 := 8#32
  let v1278 : BitVec 32 := Scalar.muli arg0 c8_i32_305
  let c2_i32_306 : BitVec 32 := 2#32
  let v1279 : BitVec 32 := Scalar.addi v1278 c2_i32_306
  let v1295 : Index := Scalar.indexCast v1279
  let c3_316 : Index := 3#32
  ![v1295.toNat, 3]
def k0_off88 (v1296 : BitVec 32) : Fin 3 → Nat :=
  let v1297 : Index := Scalar.indexCast v1296
  let c0_317 : Index := 0#32
  let c0_318 : Index := 0#32
  ![v1297.toNat, 0, 0]

def k0_chk44 (v1296 : BitVec 32) : Prop :=
  (∀ a, (k0_off88 v1296) a + S1x16x384.size a ≤ S64x16x384.size a)
theorem k0_off88_inb : ∀ (v1296 : BitVec 32) (k0_hw44 : k0_chk44 v1296), ∀ a, (k0_off88 v1296) a + S1x16x384.size a ≤ S64x16x384.size a := fun v1296 k0_hw44 => k0_hw44

def k0_off89 (i : grid0.Coords) : Fin 2 → Nat :=
  let arg0 : BitVec 32 := BitVec.ofNat 32 (i 0).val
  let c8_i32_334 : BitVec 32 := 8#32
  let v1394 : BitVec 32 := Scalar.muli arg0 c8_i32_334
  let c3_i32_335 : BitVec 32 := 3#32
  let v1395 : BitVec 32 := Scalar.addi v1394 c3_i32_335
  let v1396 : Index := Scalar.indexCast v1395
  let c0_336 : Index := 0#32
  ![v1396.toNat, 0]
def k0_off90 (v1397 : BitVec 32) : Fin 3 → Nat :=
  let v1398 : Index := Scalar.indexCast v1397
  let c0_337 : Index := 0#32
  let c0_338 : Index := 0#32
  ![v1398.toNat, 0, 0]

def k0_chk45 (v1397 : BitVec 32) : Prop :=
  (∀ a, (k0_off90 v1397) a + S1x16x384.size a ≤ S64x16x384.size a)
theorem k0_off90_inb : ∀ (v1397 : BitVec 32) (k0_hw45 : k0_chk45 v1397), ∀ a, (k0_off90 v1397) a + S1x16x384.size a ≤ S64x16x384.size a := fun v1397 k0_hw45 => k0_hw45

def k0_off91 (i : grid0.Coords) : Fin 2 → Nat :=
  let arg0 : BitVec 32 := BitVec.ofNat 32 (i 0).val
  let c8_i32_334 : BitVec 32 := 8#32
  let v1394 : BitVec 32 := Scalar.muli arg0 c8_i32_334
  let c3_i32_335 : BitVec 32 := 3#32
  let v1395 : BitVec 32 := Scalar.addi v1394 c3_i32_335
  let v1401 : Index := Scalar.indexCast v1395
  let c1_339 : Index := 1#32
  ![v1401.toNat, 1]
def k0_off92 (v1402 : BitVec 32) : Fin 3 → Nat :=
  let v1403 : Index := Scalar.indexCast v1402
  let c0_340 : Index := 0#32
  let c0_341 : Index := 0#32
  ![v1403.toNat, 0, 0]

def k0_chk46 (v1402 : BitVec 32) : Prop :=
  (∀ a, (k0_off92 v1402) a + S1x16x384.size a ≤ S64x16x384.size a)
theorem k0_off92_inb : ∀ (v1402 : BitVec 32) (k0_hw46 : k0_chk46 v1402), ∀ a, (k0_off92 v1402) a + S1x16x384.size a ≤ S64x16x384.size a := fun v1402 k0_hw46 => k0_hw46

def k0_off93 (i : grid0.Coords) : Fin 2 → Nat :=
  let arg0 : BitVec 32 := BitVec.ofNat 32 (i 0).val
  let c8_i32_334 : BitVec 32 := 8#32
  let v1394 : BitVec 32 := Scalar.muli arg0 c8_i32_334
  let c3_i32_335 : BitVec 32 := 3#32
  let v1395 : BitVec 32 := Scalar.addi v1394 c3_i32_335
  let v1406 : Index := Scalar.indexCast v1395
  let c2_342 : Index := 2#32
  ![v1406.toNat, 2]
def k0_off94 (v1407 : BitVec 32) : Fin 3 → Nat :=
  let v1408 : Index := Scalar.indexCast v1407
  let c0_343 : Index := 0#32
  let c0_344 : Index := 0#32
  ![v1408.toNat, 0, 0]

def k0_chk47 (v1407 : BitVec 32) : Prop :=
  (∀ a, (k0_off94 v1407) a + S1x16x384.size a ≤ S64x16x384.size a)
theorem k0_off94_inb : ∀ (v1407 : BitVec 32) (k0_hw47 : k0_chk47 v1407), ∀ a, (k0_off94 v1407) a + S1x16x384.size a ≤ S64x16x384.size a := fun v1407 k0_hw47 => k0_hw47

def k0_off95 (i : grid0.Coords) : Fin 2 → Nat :=
  let arg0 : BitVec 32 := BitVec.ofNat 32 (i 0).val
  let c8_i32_334 : BitVec 32 := 8#32
  let v1394 : BitVec 32 := Scalar.muli arg0 c8_i32_334
  let c3_i32_335 : BitVec 32 := 3#32
  let v1395 : BitVec 32 := Scalar.addi v1394 c3_i32_335
  let v1411 : Index := Scalar.indexCast v1395
  let c3_345 : Index := 3#32
  ![v1411.toNat, 3]
def k0_off96 (v1412 : BitVec 32) : Fin 3 → Nat :=
  let v1413 : Index := Scalar.indexCast v1412
  let c0_346 : Index := 0#32
  let c0_347 : Index := 0#32
  ![v1413.toNat, 0, 0]

def k0_chk48 (v1412 : BitVec 32) : Prop :=
  (∀ a, (k0_off96 v1412) a + S1x16x384.size a ≤ S64x16x384.size a)
theorem k0_off96_inb : ∀ (v1412 : BitVec 32) (k0_hw48 : k0_chk48 v1412), ∀ a, (k0_off96 v1412) a + S1x16x384.size a ≤ S64x16x384.size a := fun v1412 k0_hw48 => k0_hw48

def k0_off97 (i : grid0.Coords) : Fin 2 → Nat :=
  let arg0 : BitVec 32 := BitVec.ofNat 32 (i 0).val
  let c8_i32_363 : BitVec 32 := 8#32
  let v1510 : BitVec 32 := Scalar.muli arg0 c8_i32_363
  let c4_i32_364 : BitVec 32 := 4#32
  let v1511 : BitVec 32 := Scalar.addi v1510 c4_i32_364
  let v1512 : Index := Scalar.indexCast v1511
  let c0_365 : Index := 0#32
  ![v1512.toNat, 0]
def k0_off98 (v1513 : BitVec 32) : Fin 3 → Nat :=
  let v1514 : Index := Scalar.indexCast v1513
  let c0_366 : Index := 0#32
  let c0_367 : Index := 0#32
  ![v1514.toNat, 0, 0]

def k0_chk49 (v1513 : BitVec 32) : Prop :=
  (∀ a, (k0_off98 v1513) a + S1x16x384.size a ≤ S64x16x384.size a)
theorem k0_off98_inb : ∀ (v1513 : BitVec 32) (k0_hw49 : k0_chk49 v1513), ∀ a, (k0_off98 v1513) a + S1x16x384.size a ≤ S64x16x384.size a := fun v1513 k0_hw49 => k0_hw49

def k0_off99 (i : grid0.Coords) : Fin 2 → Nat :=
  let arg0 : BitVec 32 := BitVec.ofNat 32 (i 0).val
  let c8_i32_363 : BitVec 32 := 8#32
  let v1510 : BitVec 32 := Scalar.muli arg0 c8_i32_363
  let c4_i32_364 : BitVec 32 := 4#32
  let v1511 : BitVec 32 := Scalar.addi v1510 c4_i32_364
  let v1517 : Index := Scalar.indexCast v1511
  let c1_368 : Index := 1#32
  ![v1517.toNat, 1]
def k0_off100 (v1518 : BitVec 32) : Fin 3 → Nat :=
  let v1519 : Index := Scalar.indexCast v1518
  let c0_369 : Index := 0#32
  let c0_370 : Index := 0#32
  ![v1519.toNat, 0, 0]

def k0_chk50 (v1518 : BitVec 32) : Prop :=
  (∀ a, (k0_off100 v1518) a + S1x16x384.size a ≤ S64x16x384.size a)
theorem k0_off100_inb : ∀ (v1518 : BitVec 32) (k0_hw50 : k0_chk50 v1518), ∀ a, (k0_off100 v1518) a + S1x16x384.size a ≤ S64x16x384.size a := fun v1518 k0_hw50 => k0_hw50

def k0_off101 (i : grid0.Coords) : Fin 2 → Nat :=
  let arg0 : BitVec 32 := BitVec.ofNat 32 (i 0).val
  let c8_i32_363 : BitVec 32 := 8#32
  let v1510 : BitVec 32 := Scalar.muli arg0 c8_i32_363
  let c4_i32_364 : BitVec 32 := 4#32
  let v1511 : BitVec 32 := Scalar.addi v1510 c4_i32_364
  let v1522 : Index := Scalar.indexCast v1511
  let c2_371 : Index := 2#32
  ![v1522.toNat, 2]
def k0_off102 (v1523 : BitVec 32) : Fin 3 → Nat :=
  let v1524 : Index := Scalar.indexCast v1523
  let c0_372 : Index := 0#32
  let c0_373 : Index := 0#32
  ![v1524.toNat, 0, 0]

def k0_chk51 (v1523 : BitVec 32) : Prop :=
  (∀ a, (k0_off102 v1523) a + S1x16x384.size a ≤ S64x16x384.size a)
theorem k0_off102_inb : ∀ (v1523 : BitVec 32) (k0_hw51 : k0_chk51 v1523), ∀ a, (k0_off102 v1523) a + S1x16x384.size a ≤ S64x16x384.size a := fun v1523 k0_hw51 => k0_hw51

def k0_off103 (i : grid0.Coords) : Fin 2 → Nat :=
  let arg0 : BitVec 32 := BitVec.ofNat 32 (i 0).val
  let c8_i32_363 : BitVec 32 := 8#32
  let v1510 : BitVec 32 := Scalar.muli arg0 c8_i32_363
  let c4_i32_364 : BitVec 32 := 4#32
  let v1511 : BitVec 32 := Scalar.addi v1510 c4_i32_364
  let v1527 : Index := Scalar.indexCast v1511
  let c3_374 : Index := 3#32
  ![v1527.toNat, 3]
def k0_off104 (v1528 : BitVec 32) : Fin 3 → Nat :=
  let v1529 : Index := Scalar.indexCast v1528
  let c0_375 : Index := 0#32
  let c0_376 : Index := 0#32
  ![v1529.toNat, 0, 0]

def k0_chk52 (v1528 : BitVec 32) : Prop :=
  (∀ a, (k0_off104 v1528) a + S1x16x384.size a ≤ S64x16x384.size a)
theorem k0_off104_inb : ∀ (v1528 : BitVec 32) (k0_hw52 : k0_chk52 v1528), ∀ a, (k0_off104 v1528) a + S1x16x384.size a ≤ S64x16x384.size a := fun v1528 k0_hw52 => k0_hw52

def k0_off105 (i : grid0.Coords) : Fin 2 → Nat :=
  let arg0 : BitVec 32 := BitVec.ofNat 32 (i 0).val
  let c8_i32_392 : BitVec 32 := 8#32
  let v1626 : BitVec 32 := Scalar.muli arg0 c8_i32_392
  let c5_i32_393 : BitVec 32 := 5#32
  let v1627 : BitVec 32 := Scalar.addi v1626 c5_i32_393
  let v1628 : Index := Scalar.indexCast v1627
  let c0_394 : Index := 0#32
  ![v1628.toNat, 0]
def k0_off106 (v1629 : BitVec 32) : Fin 3 → Nat :=
  let v1630 : Index := Scalar.indexCast v1629
  let c0_395 : Index := 0#32
  let c0_396 : Index := 0#32
  ![v1630.toNat, 0, 0]

def k0_chk53 (v1629 : BitVec 32) : Prop :=
  (∀ a, (k0_off106 v1629) a + S1x16x384.size a ≤ S64x16x384.size a)
theorem k0_off106_inb : ∀ (v1629 : BitVec 32) (k0_hw53 : k0_chk53 v1629), ∀ a, (k0_off106 v1629) a + S1x16x384.size a ≤ S64x16x384.size a := fun v1629 k0_hw53 => k0_hw53

def k0_off107 (i : grid0.Coords) : Fin 2 → Nat :=
  let arg0 : BitVec 32 := BitVec.ofNat 32 (i 0).val
  let c8_i32_392 : BitVec 32 := 8#32
  let v1626 : BitVec 32 := Scalar.muli arg0 c8_i32_392
  let c5_i32_393 : BitVec 32 := 5#32
  let v1627 : BitVec 32 := Scalar.addi v1626 c5_i32_393
  let v1633 : Index := Scalar.indexCast v1627
  let c1_397 : Index := 1#32
  ![v1633.toNat, 1]
def k0_off108 (v1634 : BitVec 32) : Fin 3 → Nat :=
  let v1635 : Index := Scalar.indexCast v1634
  let c0_398 : Index := 0#32
  let c0_399 : Index := 0#32
  ![v1635.toNat, 0, 0]

def k0_chk54 (v1634 : BitVec 32) : Prop :=
  (∀ a, (k0_off108 v1634) a + S1x16x384.size a ≤ S64x16x384.size a)
theorem k0_off108_inb : ∀ (v1634 : BitVec 32) (k0_hw54 : k0_chk54 v1634), ∀ a, (k0_off108 v1634) a + S1x16x384.size a ≤ S64x16x384.size a := fun v1634 k0_hw54 => k0_hw54

def k0_off109 (i : grid0.Coords) : Fin 2 → Nat :=
  let arg0 : BitVec 32 := BitVec.ofNat 32 (i 0).val
  let c8_i32_392 : BitVec 32 := 8#32
  let v1626 : BitVec 32 := Scalar.muli arg0 c8_i32_392
  let c5_i32_393 : BitVec 32 := 5#32
  let v1627 : BitVec 32 := Scalar.addi v1626 c5_i32_393
  let v1638 : Index := Scalar.indexCast v1627
  let c2_400 : Index := 2#32
  ![v1638.toNat, 2]
def k0_off110 (v1639 : BitVec 32) : Fin 3 → Nat :=
  let v1640 : Index := Scalar.indexCast v1639
  let c0_401 : Index := 0#32
  let c0_402 : Index := 0#32
  ![v1640.toNat, 0, 0]

def k0_chk55 (v1639 : BitVec 32) : Prop :=
  (∀ a, (k0_off110 v1639) a + S1x16x384.size a ≤ S64x16x384.size a)
theorem k0_off110_inb : ∀ (v1639 : BitVec 32) (k0_hw55 : k0_chk55 v1639), ∀ a, (k0_off110 v1639) a + S1x16x384.size a ≤ S64x16x384.size a := fun v1639 k0_hw55 => k0_hw55

def k0_off111 (i : grid0.Coords) : Fin 2 → Nat :=
  let arg0 : BitVec 32 := BitVec.ofNat 32 (i 0).val
  let c8_i32_392 : BitVec 32 := 8#32
  let v1626 : BitVec 32 := Scalar.muli arg0 c8_i32_392
  let c5_i32_393 : BitVec 32 := 5#32
  let v1627 : BitVec 32 := Scalar.addi v1626 c5_i32_393
  let v1643 : Index := Scalar.indexCast v1627
  let c3_403 : Index := 3#32
  ![v1643.toNat, 3]
def k0_off112 (v1644 : BitVec 32) : Fin 3 → Nat :=
  let v1645 : Index := Scalar.indexCast v1644
  let c0_404 : Index := 0#32
  let c0_405 : Index := 0#32
  ![v1645.toNat, 0, 0]

def k0_chk56 (v1644 : BitVec 32) : Prop :=
  (∀ a, (k0_off112 v1644) a + S1x16x384.size a ≤ S64x16x384.size a)
theorem k0_off112_inb : ∀ (v1644 : BitVec 32) (k0_hw56 : k0_chk56 v1644), ∀ a, (k0_off112 v1644) a + S1x16x384.size a ≤ S64x16x384.size a := fun v1644 k0_hw56 => k0_hw56

def k0_off113 (i : grid0.Coords) : Fin 2 → Nat :=
  let arg0 : BitVec 32 := BitVec.ofNat 32 (i 0).val
  let c8_i32_421 : BitVec 32 := 8#32
  let v1742 : BitVec 32 := Scalar.muli arg0 c8_i32_421
  let c6_i32_422 : BitVec 32 := 6#32
  let v1743 : BitVec 32 := Scalar.addi v1742 c6_i32_422
  let v1744 : Index := Scalar.indexCast v1743
  let c0_423 : Index := 0#32
  ![v1744.toNat, 0]
def k0_off114 (v1745 : BitVec 32) : Fin 3 → Nat :=
  let v1746 : Index := Scalar.indexCast v1745
  let c0_424 : Index := 0#32
  let c0_425 : Index := 0#32
  ![v1746.toNat, 0, 0]

def k0_chk57 (v1745 : BitVec 32) : Prop :=
  (∀ a, (k0_off114 v1745) a + S1x16x384.size a ≤ S64x16x384.size a)
theorem k0_off114_inb : ∀ (v1745 : BitVec 32) (k0_hw57 : k0_chk57 v1745), ∀ a, (k0_off114 v1745) a + S1x16x384.size a ≤ S64x16x384.size a := fun v1745 k0_hw57 => k0_hw57

def k0_off115 (i : grid0.Coords) : Fin 2 → Nat :=
  let arg0 : BitVec 32 := BitVec.ofNat 32 (i 0).val
  let c8_i32_421 : BitVec 32 := 8#32
  let v1742 : BitVec 32 := Scalar.muli arg0 c8_i32_421
  let c6_i32_422 : BitVec 32 := 6#32
  let v1743 : BitVec 32 := Scalar.addi v1742 c6_i32_422
  let v1749 : Index := Scalar.indexCast v1743
  let c1_426 : Index := 1#32
  ![v1749.toNat, 1]
def k0_off116 (v1750 : BitVec 32) : Fin 3 → Nat :=
  let v1751 : Index := Scalar.indexCast v1750
  let c0_427 : Index := 0#32
  let c0_428 : Index := 0#32
  ![v1751.toNat, 0, 0]

def k0_chk58 (v1750 : BitVec 32) : Prop :=
  (∀ a, (k0_off116 v1750) a + S1x16x384.size a ≤ S64x16x384.size a)
theorem k0_off116_inb : ∀ (v1750 : BitVec 32) (k0_hw58 : k0_chk58 v1750), ∀ a, (k0_off116 v1750) a + S1x16x384.size a ≤ S64x16x384.size a := fun v1750 k0_hw58 => k0_hw58

def k0_off117 (i : grid0.Coords) : Fin 2 → Nat :=
  let arg0 : BitVec 32 := BitVec.ofNat 32 (i 0).val
  let c8_i32_421 : BitVec 32 := 8#32
  let v1742 : BitVec 32 := Scalar.muli arg0 c8_i32_421
  let c6_i32_422 : BitVec 32 := 6#32
  let v1743 : BitVec 32 := Scalar.addi v1742 c6_i32_422
  let v1754 : Index := Scalar.indexCast v1743
  let c2_429 : Index := 2#32
  ![v1754.toNat, 2]
def k0_off118 (v1755 : BitVec 32) : Fin 3 → Nat :=
  let v1756 : Index := Scalar.indexCast v1755
  let c0_430 : Index := 0#32
  let c0_431 : Index := 0#32
  ![v1756.toNat, 0, 0]

def k0_chk59 (v1755 : BitVec 32) : Prop :=
  (∀ a, (k0_off118 v1755) a + S1x16x384.size a ≤ S64x16x384.size a)
theorem k0_off118_inb : ∀ (v1755 : BitVec 32) (k0_hw59 : k0_chk59 v1755), ∀ a, (k0_off118 v1755) a + S1x16x384.size a ≤ S64x16x384.size a := fun v1755 k0_hw59 => k0_hw59

def k0_off119 (i : grid0.Coords) : Fin 2 → Nat :=
  let arg0 : BitVec 32 := BitVec.ofNat 32 (i 0).val
  let c8_i32_421 : BitVec 32 := 8#32
  let v1742 : BitVec 32 := Scalar.muli arg0 c8_i32_421
  let c6_i32_422 : BitVec 32 := 6#32
  let v1743 : BitVec 32 := Scalar.addi v1742 c6_i32_422
  let v1759 : Index := Scalar.indexCast v1743
  let c3_432 : Index := 3#32
  ![v1759.toNat, 3]
def k0_off120 (v1760 : BitVec 32) : Fin 3 → Nat :=
  let v1761 : Index := Scalar.indexCast v1760
  let c0_433 : Index := 0#32
  let c0_434 : Index := 0#32
  ![v1761.toNat, 0, 0]

def k0_chk60 (v1760 : BitVec 32) : Prop :=
  (∀ a, (k0_off120 v1760) a + S1x16x384.size a ≤ S64x16x384.size a)
theorem k0_off120_inb : ∀ (v1760 : BitVec 32) (k0_hw60 : k0_chk60 v1760), ∀ a, (k0_off120 v1760) a + S1x16x384.size a ≤ S64x16x384.size a := fun v1760 k0_hw60 => k0_hw60

def k0_off121 (i : grid0.Coords) : Fin 2 → Nat :=
  let arg0 : BitVec 32 := BitVec.ofNat 32 (i 0).val
  let c8_i32_450 : BitVec 32 := 8#32
  let v1858 : BitVec 32 := Scalar.muli arg0 c8_i32_450
  let c7_i32_451 : BitVec 32 := 7#32
  let v1859 : BitVec 32 := Scalar.addi v1858 c7_i32_451
  let v1860 : Index := Scalar.indexCast v1859
  let c0_452 : Index := 0#32
  ![v1860.toNat, 0]
def k0_off122 (v1861 : BitVec 32) : Fin 3 → Nat :=
  let v1862 : Index := Scalar.indexCast v1861
  let c0_453 : Index := 0#32
  let c0_454 : Index := 0#32
  ![v1862.toNat, 0, 0]

def k0_chk61 (v1861 : BitVec 32) : Prop :=
  (∀ a, (k0_off122 v1861) a + S1x16x384.size a ≤ S64x16x384.size a)
theorem k0_off122_inb : ∀ (v1861 : BitVec 32) (k0_hw61 : k0_chk61 v1861), ∀ a, (k0_off122 v1861) a + S1x16x384.size a ≤ S64x16x384.size a := fun v1861 k0_hw61 => k0_hw61

def k0_off123 (i : grid0.Coords) : Fin 2 → Nat :=
  let arg0 : BitVec 32 := BitVec.ofNat 32 (i 0).val
  let c8_i32_450 : BitVec 32 := 8#32
  let v1858 : BitVec 32 := Scalar.muli arg0 c8_i32_450
  let c7_i32_451 : BitVec 32 := 7#32
  let v1859 : BitVec 32 := Scalar.addi v1858 c7_i32_451
  let v1865 : Index := Scalar.indexCast v1859
  let c1_455 : Index := 1#32
  ![v1865.toNat, 1]
def k0_off124 (v1866 : BitVec 32) : Fin 3 → Nat :=
  let v1867 : Index := Scalar.indexCast v1866
  let c0_456 : Index := 0#32
  let c0_457 : Index := 0#32
  ![v1867.toNat, 0, 0]

def k0_chk62 (v1866 : BitVec 32) : Prop :=
  (∀ a, (k0_off124 v1866) a + S1x16x384.size a ≤ S64x16x384.size a)
theorem k0_off124_inb : ∀ (v1866 : BitVec 32) (k0_hw62 : k0_chk62 v1866), ∀ a, (k0_off124 v1866) a + S1x16x384.size a ≤ S64x16x384.size a := fun v1866 k0_hw62 => k0_hw62

def k0_off125 (i : grid0.Coords) : Fin 2 → Nat :=
  let arg0 : BitVec 32 := BitVec.ofNat 32 (i 0).val
  let c8_i32_450 : BitVec 32 := 8#32
  let v1858 : BitVec 32 := Scalar.muli arg0 c8_i32_450
  let c7_i32_451 : BitVec 32 := 7#32
  let v1859 : BitVec 32 := Scalar.addi v1858 c7_i32_451
  let v1870 : Index := Scalar.indexCast v1859
  let c2_458 : Index := 2#32
  ![v1870.toNat, 2]
def k0_off126 (v1871 : BitVec 32) : Fin 3 → Nat :=
  let v1872 : Index := Scalar.indexCast v1871
  let c0_459 : Index := 0#32
  let c0_460 : Index := 0#32
  ![v1872.toNat, 0, 0]

def k0_chk63 (v1871 : BitVec 32) : Prop :=
  (∀ a, (k0_off126 v1871) a + S1x16x384.size a ≤ S64x16x384.size a)
theorem k0_off126_inb : ∀ (v1871 : BitVec 32) (k0_hw63 : k0_chk63 v1871), ∀ a, (k0_off126 v1871) a + S1x16x384.size a ≤ S64x16x384.size a := fun v1871 k0_hw63 => k0_hw63

def k0_off127 (i : grid0.Coords) : Fin 2 → Nat :=
  let arg0 : BitVec 32 := BitVec.ofNat 32 (i 0).val
  let c8_i32_450 : BitVec 32 := 8#32
  let v1858 : BitVec 32 := Scalar.muli arg0 c8_i32_450
  let c7_i32_451 : BitVec 32 := 7#32
  let v1859 : BitVec 32 := Scalar.addi v1858 c7_i32_451
  let v1875 : Index := Scalar.indexCast v1859
  let c3_461 : Index := 3#32
  ![v1875.toNat, 3]
def k0_off128 (v1876 : BitVec 32) : Fin 3 → Nat :=
  let v1877 : Index := Scalar.indexCast v1876
  let c0_462 : Index := 0#32
  let c0_463 : Index := 0#32
  ![v1877.toNat, 0, 0]

def k0_chk64 (v1876 : BitVec 32) : Prop :=
  (∀ a, (k0_off128 v1876) a + S1x16x384.size a ≤ S64x16x384.size a)
theorem k0_off128_inb : ∀ (v1876 : BitVec 32) (k0_hw64 : k0_chk64 v1876), ∀ a, (k0_off128 v1876) a + S1x16x384.size a ≤ S64x16x384.size a := fun v1876 k0_hw64 => k0_hw64

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S64x4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S64x4 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x784x192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x784x192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x16x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x16x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x28x224x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x28x224x192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAttnIdeal.lean ====
abbrev S64x784x192 : Shape := ⟨3, ![64, 784, 192]⟩
abbrev S64x16x384 : Shape := ⟨3, ![64, 16, 384]⟩
abbrev S64x4 : Shape := ⟨2, ![64, 4]⟩
abbrev S_ : Shape := ⟨0, ![]⟩
abbrev S64x4x1 : Shape := ⟨3, ![64, 4, 1]⟩
abbrev S64x4x16x384 : Shape := ⟨4, ![64, 4, 16, 384]⟩
abbrev S64x4x16x192 : Shape := ⟨4, ![64, 4, 16, 192]⟩
abbrev S64x4x16x8x24 : Shape := ⟨5, ![64, 4, 16, 8, 24]⟩
abbrev S64x8x24x4x16 : Shape := ⟨5, ![64, 8, 24, 4, 16]⟩
abbrev S64x8x24x64 : Shape := ⟨4, ![64, 8, 24, 64]⟩
abbrev S64x8x4x16x24 : Shape := ⟨5, ![64, 8, 4, 16, 24]⟩
abbrev S64x8x64x24 : Shape := ⟨4, ![64, 8, 64, 24]⟩
abbrev S64x784x8x24 : Shape := ⟨4, ![64, 784, 8, 24]⟩
abbrev S64x8x784x24 : Shape := ⟨4, ![64, 8, 784, 24]⟩
abbrev S64x8x784x64 : Shape := ⟨4, ![64, 8, 784, 64]⟩
abbrev S64x8x784 : Shape := ⟨3, ![64, 8, 784]⟩
abbrev S64x8x784x1 : Shape := ⟨4, ![64, 8, 784, 1]⟩
abbrev S1x8x8x8x28x28x24 : Shape := ⟨7, ![1, 8, 8, 8, 28, 28, 24]⟩
abbrev S1x8x28x8x28x8x24 : Shape := ⟨7, ![1, 8, 28, 8, 28, 8, 24]⟩
abbrev S1x224x224x192 : Shape := ⟨4, ![1, 224, 224, 192]⟩

abbrev nBuf : Space → Nat
  | .hbm => 94
  | .vmem => 0
  | .smem => 0
  | _ => 0

abbrev bufTy : (tb : Table) → Fin (tcTables nBuf tb) → BufTy
  | .hbm, ⟨0, _⟩ => ⟨S64x784x192, .bf16⟩
  | .hbm, ⟨1, _⟩ => ⟨S64x784x192, .bf16⟩
  | .hbm, ⟨2, _⟩ => ⟨S64x16x384, .bf16⟩
  | .hbm, ⟨3, _⟩ => ⟨S64x16x384, .bf16⟩
  | .hbm, ⟨4, _⟩ => ⟨S64x4, .i32⟩
  | .hbm, ⟨5, _⟩ => ⟨S64x4, .i32⟩
  | .hbm, ⟨6, _⟩ => ⟨S64x16x384, .f32⟩
  | .hbm, ⟨7, _⟩ => ⟨S_, .i32⟩
  | .hbm, ⟨8, _⟩ => ⟨S64x4, .i32⟩
  | .hbm, ⟨9, _⟩ => ⟨S64x4, .i1⟩
  | .hbm, ⟨10, _⟩ => ⟨S_, .i32⟩
  | .hbm, ⟨11, _⟩ => ⟨S64x4, .i32⟩
  | .hbm, ⟨12, _⟩ => ⟨S64x4, .i32⟩
  | .hbm, ⟨13, _⟩ => ⟨S64x4, .i32⟩
  | .hbm, ⟨14, _⟩ => ⟨S64x4x1, .i32⟩
  | .hbm, ⟨15, _⟩ => ⟨S64x4x16x384, .f32⟩
  | .hbm, ⟨16, _⟩ => ⟨S64x4x16x192, .f32⟩
  | .hbm, ⟨17, _⟩ => ⟨S64x4x16x8x24, .f32⟩
  | .hbm, ⟨18, _⟩ => ⟨S64x8x24x4x16, .f32⟩
  | .hbm, ⟨19, _⟩ => ⟨S64x8x24x64, .f32⟩
  | .hbm, ⟨20, _⟩ => ⟨S64x4x16x192, .f32⟩
  | .hbm, ⟨21, _⟩ => ⟨S64x4x16x8x24, .f32⟩
  | .hbm, ⟨22, _⟩ => ⟨S64x8x4x16x24, .f32⟩
  | .hbm, ⟨23, _⟩ => ⟨S64x8x64x24, .f32⟩
  | .hbm, ⟨24, _⟩ => ⟨S64x784x192, .f32⟩
  | .hbm, ⟨25, _⟩ => ⟨S64x784x8x24, .f32⟩
  | .hbm, ⟨26, _⟩ => ⟨S64x8x784x24, .f32⟩
  | .hbm, ⟨27, _⟩ => ⟨S_, .f32⟩
  | .hbm, ⟨28, _⟩ => ⟨S64x8x784x24, .f32⟩
  | .hbm, ⟨29, _⟩ => ⟨S64x8x784x24, .f32⟩
  | .hbm, ⟨30, _⟩ => ⟨S64x8x784x64, .f32⟩
  | .hbm, ⟨31, _⟩ => ⟨S_, .f32⟩
  | .hbm, ⟨32, _⟩ => ⟨S64x8x784, .f32⟩
  | .hbm, ⟨33, _⟩ => ⟨S_, .f32⟩
  | .hbm, ⟨34, _⟩ => ⟨S64x8x784, .f32⟩
  | .hbm, ⟨35, _⟩ => ⟨S64x8x784, .f32⟩
  | .hbm, ⟨36, _⟩ => ⟨S64x8x784x1, .f32⟩
  | .hbm, ⟨37, _⟩ => ⟨S64x8x784x64, .f32⟩
  | .hbm, ⟨38, _⟩ => ⟨S64x8x784x64, .f32⟩
  | .hbm, ⟨39, _⟩ => ⟨S64x8x784x64, .f32⟩
  | .hbm, ⟨40, _⟩ => ⟨S_, .f32⟩
  | .hbm, ⟨41, _⟩ => ⟨S64x8x784, .f32⟩
  | .hbm, ⟨42, _⟩ => ⟨S64x8x784x1, .f32⟩
  | .hbm, ⟨43, _⟩ => ⟨S64x8x784x64, .f32⟩
  | .hbm, ⟨44, _⟩ => ⟨S64x8x784x64, .f32⟩
  | .hbm, ⟨45, _⟩ => ⟨S64x8x784x24, .f32⟩
  | .hbm, ⟨46, _⟩ => ⟨S1x8x8x8x28x28x24, .f32⟩
  | .hbm, ⟨47, _⟩ => ⟨S1x8x28x8x28x8x24, .f32⟩
  | .hbm, ⟨48, _⟩ => ⟨S1x224x224x192, .f32⟩
  | .hbm, ⟨49, _⟩ => ⟨S1x224x224x192, .bf16⟩
  | .hbm, ⟨50, _⟩ => ⟨S64x16x384, .f32⟩
  | .hbm, ⟨51, _⟩ => ⟨S_, .i32⟩
  | .hbm, ⟨52, _⟩ => ⟨S64x4, .i32⟩
  | .hbm, ⟨53, _⟩ => ⟨S64x4, .i1⟩
  | .hbm, ⟨54, _⟩ => ⟨S_, .i32⟩
  | .hbm, ⟨55, _⟩ => ⟨S64x4, .i32⟩
  | .hbm, ⟨56, _⟩ => ⟨S64x4, .i32⟩
  | .hbm, ⟨57, _⟩ => ⟨S64x4, .i32⟩
  | .hbm, ⟨58, _⟩ => ⟨S64x4x1, .i32⟩
  | .hbm, ⟨59, _⟩ => ⟨S64x4x16x384, .f32⟩
  | .hbm, ⟨60, _⟩ => ⟨S64x4x16x192, .f32⟩
  | .hbm, ⟨61, _⟩ => ⟨S64x4x16x8x24, .f32⟩
  | .hbm, ⟨62, _⟩ => ⟨S64x8x24x4x16, .f32⟩
  | .hbm, ⟨63, _⟩ => ⟨S64x8x24x64, .f32⟩
  | .hbm, ⟨64, _⟩ => ⟨S64x4x16x192, .f32⟩
  | .hbm, ⟨65, _⟩ => ⟨S64x4x16x8x24, .f32⟩
  | .hbm, ⟨66, _⟩ => ⟨S64x8x4x16x24, .f32⟩
  | .hbm, ⟨67, _⟩ => ⟨S64x8x64x24, .f32⟩
  | .hbm, ⟨68, _⟩ => ⟨S64x784x192, .f32⟩
  | .hbm, ⟨69, _⟩ => ⟨S64x784x8x24, .f32⟩
  | .hbm, ⟨70, _⟩ => ⟨S64x8x784x24, .f32⟩
  | .hbm, ⟨71, _⟩ => ⟨S_, .f32⟩
  | .hbm, ⟨72, _⟩ => ⟨S64x8x784x24, .f32⟩
  | .hbm, ⟨73, _⟩ => ⟨S64x8x784x24, .f32⟩
  | .hbm, ⟨74, _⟩ => ⟨S64x8x784x64, .f32⟩
  | .hbm, ⟨75, _⟩ => ⟨S_, .f32⟩
  | .hbm, ⟨76, _⟩ => ⟨S64x8x784, .f32⟩
  | .hbm, ⟨77, _⟩ => ⟨S_, .f32⟩
  | .hbm, ⟨78, _⟩ => ⟨S64x8x784, .f32⟩
  | .hbm, ⟨79, _⟩ => ⟨S64x8x784, .f32⟩
  | .hbm, ⟨80, _⟩ => ⟨S64x8x784x1, .f32⟩
  | .hbm, ⟨81, _⟩ => ⟨S64x8x784x64, .f32⟩
  | .hbm, ⟨82, _⟩ => ⟨S64x8x784x64, .f32⟩
  | .hbm, ⟨83, _⟩ => ⟨S64x8x784x64, .f32⟩
  | .hbm, ⟨84, _⟩ => ⟨S_, .f32⟩
  | .hbm, ⟨85, _⟩ => ⟨S64x8x784, .f32⟩
  | .hbm, ⟨86, _⟩ => ⟨S64x8x784x1, .f32⟩
  | .hbm, ⟨87, _⟩ => ⟨S64x8x784x64, .f32⟩
  | .hbm, ⟨88, _⟩ => ⟨S64x8x784x64, .f32⟩
  | .hbm, ⟨89, _⟩ => ⟨S64x8x784x24, .f32⟩
  | .hbm, ⟨90, _⟩ => ⟨S1x8x8x8x28x28x24, .f32⟩
  | .hbm, ⟨91, _⟩ => ⟨S1x8x28x8x28x8x24, .f32⟩
  | .hbm, ⟨92, _⟩ => ⟨S1x224x224x192, .f32⟩
  | .hbm, ⟨93, _⟩ => ⟨S1x224x224x192, .bf16⟩
  | _, _ => ⟨S64x784x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_4 : Ref sig .tc := ⟨.hbm, 51, rfl⟩
abbrev main_v39 : Ref sig .tc := ⟨.hbm, 52, rfl⟩
abbrev main_v40 : Ref sig .tc := ⟨.hbm, 53, rfl⟩
abbrev main_c_5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_6 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_7 : Ref sig .tc := ⟨.hbm, 75, rfl⟩
abbrev main_v60 : Ref sig .tc := ⟨.hbm, 76, rfl⟩
abbrev main_cst_8 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== Whole.lean ====
abbrev S1x224x224x192 : Shape := ⟨4, ![1, 224, 224, 192]⟩
abbrev S192x576 : Shape := ⟨2, ![192, 576]⟩
abbrev S576 : Shape := ⟨1, ![576]⟩
abbrev S192x192 : Shape := ⟨2, ![192, 192]⟩
abbrev S192 : Shape := ⟨1, ![192]⟩
abbrev S192x1x3x3 : Shape := ⟨4, ![192, 1, 3, 3]⟩
abbrev S16x784 : Shape := ⟨2, ![16, 784]⟩
abbrev S_ : Shape := ⟨0, ![]⟩
abbrev S1x224x192x224 : Shape := ⟨4, ![1, 224, 192, 224]⟩
abbrev S1x576 : Shape := ⟨2, ![1, 576]⟩
abbrev S64x784x192 : Shape := ⟨3, ![64, 784, 192]⟩
abbrev S64x16x384 : Shape := ⟨3, ![64, 16, 384]⟩
abbrev S64x1x192 : Shape := ⟨3, ![64, 1, 192]⟩
abbrev S1x28x192x224 : Shape := ⟨4, ![1, 28, 192, 224]⟩
abbrev S8x784x192 : Shape := ⟨3, ![8, 784, 192]⟩
abbrev S8x16x384 : Shape := ⟨3, ![8, 16, 384]⟩
abbrev S8x1x192 : Shape := ⟨3, ![8, 1, 192]⟩
abbrev S28x192x224 : Shape := ⟨3, ![28, 192, 224]⟩
abbrev S28x224x192 : Shape := ⟨3, ![28, 224, 192]⟩
abbrev S28x28x192 : Shape := ⟨3, ![28, 28, 192]⟩
abbrev S784x192 : Shape := ⟨2, ![784, 192]⟩
abbrev S784x576 : Shape := ⟨2, ![784, 576]⟩
abbrev S784x384 : Shape := ⟨2, ![784, 384]⟩
abbrev S16x384 : Shape := ⟨2, ![16, 384]⟩
abbrev S1x192 : Shape := ⟨2, ![1, 192]⟩
abbrev S1x784x192 : Shape := ⟨3, ![1, 784, 192]⟩
abbrev S1x16x384 : Shape := ⟨3, ![1, 16, 384]⟩
abbrev S1x1x192 : Shape := ⟨3, ![1, 1, 192]⟩
abbrev S64x192 : Shape := ⟨2, ![64, 192]⟩
abbrev S64x4 : Shape := ⟨2, ![64, 4]⟩
abbrev S64x64 : Shape := ⟨2, ![64, 64]⟩
abbrev S64 : Shape := ⟨1, ![64]⟩
abbrev S64x1 : Shape := ⟨2, ![64, 1]⟩
abbrev S1x28x224x192 : Shape := ⟨4, ![1, 28, 224, 192]⟩
abbrev S192x1 : Shape := ⟨2, ![192, 1]⟩
abbrev S1x1 : Shape := ⟨2, ![1, 1]⟩
abbrev S64x384 : Shape := ⟨2, ![64, 384]⟩
abbrev S192x64 : Shape := ⟨2, ![192, 64]⟩
abbrev S192x512 : Shape := ⟨2, ![192, 512]⟩
abbrev S512x192 : Shape := ⟨2, ![512, 192]⟩
abbrev S784x512 : Shape := ⟨2, ![784, 512]⟩
abbrev S784 : Shape := ⟨1, ![784]⟩
abbrev S784x1 : Shape := ⟨2, ![784, 1]⟩
abbrev S784x64 : Shape := ⟨2, ![784, 64]⟩
abbrev S192x3x3 : Shape := ⟨3, ![192, 3, 3]⟩
abbrev S3x3x192 : Shape := ⟨3, ![3, 3, 192]⟩
abbrev S16x14x224x192 : Shape := ⟨4, ![16, 14, 224, 192]⟩
abbrev S16x14x192x224 : Shape := ⟨4, ![16, 14, 192, 224]⟩
abbrev S1x14x224x192 : Shape := ⟨4, ![1, 14, 224, 192]⟩
abbrev S1x14x192x224 : Shape := ⟨4, ![1, 14, 192, 224]⟩
abbrev S1x1x192x224 : Shape := ⟨4, ![1, 1, 192, 224]⟩
abbrev S14x192x224 : Shape := ⟨3, ![14, 192, 224]⟩
abbrev S14x224x192 : Shape := ⟨3, ![14, 224, 192]⟩
abbrev S3136x192 : Shape := ⟨2, ![3136, 192]⟩
abbrev S192x224 : Shape := ⟨2, ![192, 224]⟩
abbrev S224x192 : Shape := ⟨2, ![224, 192]⟩
abbrev S1x224x192 : Shape := ⟨3, ![1, 224, 192]⟩
abbrev S16x224x192 : Shape := ⟨3, ![16, 224, 192]⟩
abbrev S16x1x192 : Shape := ⟨3, ![16, 1, 192]⟩
abbrev S16x226x192 : Shape := ⟨3, ![16, 226, 192]⟩

abbrev nBuf : Space → Nat
  | .hbm => 81
  | .vmem => 69
  | .smem => 2
  | _ => 0

abbrev bufTy : (tb : Table) → Fin (tcTables nBuf tb) → BufTy
  | .hbm, ⟨0, _⟩ => ⟨S1x224x224x192, .f32⟩
  | .hbm, ⟨1, _⟩ => ⟨S1x224x224x192, .f32⟩
  | .hbm, ⟨2, _⟩ => ⟨S192x576, .f32⟩
  | .hbm, ⟨3, _⟩ => ⟨S576, .f32⟩
  | .hbm, ⟨4, _⟩ => ⟨S192x192, .f32⟩
  | .hbm, ⟨5, _⟩ => ⟨S192, .f32⟩
  | .hbm, ⟨6, _⟩ => ⟨S192x1x3x3, .f32⟩
  | .hbm, ⟨7, _⟩ => ⟨S192, .f32⟩
  | .hbm, ⟨8, _⟩ => ⟨S16x784, .i32⟩
  | .hbm, ⟨9, _⟩ => ⟨S16x784, .i32⟩
  | .hbm, ⟨10, _⟩ => ⟨S_, .i32⟩
  | .hbm, ⟨11, _⟩ => ⟨S16x784, .i32⟩
  | .hbm, ⟨12, _⟩ => ⟨S16x784, .i32⟩
  | .hbm, ⟨13, _⟩ => ⟨S_, .i32⟩
  | .hbm, ⟨14, _⟩ => ⟨S16x784, .i32⟩
  | .hbm, ⟨15, _⟩ => ⟨S16x784, .i32⟩
  | .hbm, ⟨16, _⟩ => ⟨S_, .i32⟩
  | .hbm, ⟨17, _⟩ => ⟨S16x784, .i32⟩
  | .hbm, ⟨18, _⟩ => ⟨S16x784, .i32⟩
  | .hbm, ⟨19, _⟩ => ⟨S_, .i32⟩
  | .hbm, ⟨20, _⟩ => ⟨S16x784, .i32⟩
  | .hbm, ⟨21, _⟩ => ⟨S16x784, .i32⟩
  | .hbm, ⟨22, _⟩ => ⟨S16x784, .i1⟩
  | .hbm, ⟨23, _⟩ => ⟨S_, .i32⟩
  | .hbm, ⟨24, _⟩ => ⟨S16x784, .i32⟩
  | .hbm, ⟨25, _⟩ => ⟨S16x784, .i32⟩
  | .hbm, ⟨26, _⟩ => ⟨S_, .i32⟩
  | .hbm, ⟨27, _⟩ => ⟨S16x784, .i32⟩
  | .hbm, ⟨28, _⟩ => ⟨S16x784, .i32⟩
  | .hbm, ⟨29, _⟩ => ⟨S16x784, .i1⟩
  | .hbm, ⟨30, _⟩ => ⟨S16x784, .i1⟩
  | .hbm, ⟨31, _⟩ => ⟨S_, .f32⟩
  | .hbm, ⟨32, _⟩ => ⟨S_, .f32⟩
  | .hbm, ⟨33, _⟩ => ⟨S16x784, .f32⟩
  | .hbm, ⟨34, _⟩ => ⟨S16x784, .f32⟩
  | .hbm, ⟨35, _⟩ => ⟨S16x784, .f32⟩
  | .hbm, ⟨36, _⟩ => ⟨S_, .f32⟩
  | .hbm, ⟨37, _⟩ => ⟨S16x784, .f32⟩
  | .hbm, ⟨38, _⟩ => ⟨S16x784, .f32⟩
  | .hbm, ⟨39, _⟩ => ⟨S1x224x192x224, .f32⟩
  | .hbm, ⟨40, _⟩ => ⟨S1x224x192x224, .f32⟩
  | .hbm, ⟨41, _⟩ => ⟨S1x576, .f32⟩
  | .hbm, ⟨42, _⟩ => ⟨S64x784x192, .bf16⟩
  | .hbm, ⟨43, _⟩ => ⟨S64x784x192, .bf16⟩
  | .hbm, ⟨44, _⟩ => ⟨S64x16x384, .bf16⟩
  | .hbm, ⟨45, _⟩ => ⟨S64x16x384, .bf16⟩
  | .hbm, ⟨46, _⟩ => ⟨S64x1x192, .f32⟩
  | .hbm, ⟨47, _⟩ => ⟨S64x1x192, .f32⟩
  | .hbm, ⟨48, _⟩ => ⟨S64x1x192, .f32⟩
  | .hbm, ⟨49, _⟩ => ⟨S64x1x192, .f32⟩
  | .hbm, ⟨50, _⟩ => ⟨S64x192, .f32⟩
  | .hbm, ⟨51, _⟩ => ⟨S64x192, .f32⟩
  | .hbm, ⟨52, _⟩ => ⟨S64x192, .f32⟩
  | .hbm, ⟨53, _⟩ => ⟨S64x192, .f32⟩
  | .hbm, ⟨54, _⟩ => ⟨S64x4, .i32⟩
  | .hbm, ⟨55, _⟩ => ⟨S64x4, .i32⟩
  | .hbm, ⟨56, _⟩ => ⟨S_, .i32⟩
  | .hbm, ⟨57, _⟩ => ⟨S64x4, .i32⟩
  | .hbm, ⟨58, _⟩ => ⟨S64x4, .i32⟩
  | .hbm, ⟨59, _⟩ => ⟨S_, .i32⟩
  | .hbm, ⟨60, _⟩ => ⟨S64x4, .i32⟩
  | .hbm, ⟨61, _⟩ => ⟨S64x4, .i32⟩
  | .hbm, ⟨62, _⟩ => ⟨S_, .i32⟩
  | .hbm, ⟨63, _⟩ => ⟨S64x4, .i32⟩
  | .hbm, ⟨64, _⟩ => ⟨S64x4, .i32⟩
  | .hbm, ⟨65, _⟩ => ⟨S_, .i32⟩
  | .hbm, ⟨66, _⟩ => ⟨S64x4, .i32⟩
  | .hbm, ⟨67, _⟩ => ⟨S64x4, .i32⟩
  | .hbm, ⟨68, _⟩ => ⟨S1x224x224x192, .bf16⟩
  | .hbm, ⟨69, _⟩ => ⟨S1x224x224x192, .bf16⟩
  | .hbm, ⟨70, _⟩ => ⟨S192x192, .f32⟩
  | .hbm, ⟨71, _⟩ => ⟨S192x3x3, .f32⟩
  | .hbm, ⟨72, _⟩ => ⟨S3x3x192, .f32⟩
  | .hbm, ⟨73, _⟩ => ⟨S16x14x224x192, .bf16⟩
  | .hbm, ⟨74, _⟩ => ⟨S1x192, .f32⟩
  | .hbm, ⟨75, _⟩ => ⟨S1x192, .f32⟩
  | .hbm, ⟨76, _⟩ => ⟨S16x14x192x224, .f32⟩
  | .hbm, ⟨77, _⟩ => ⟨S16x14x224x192, .bf16⟩
  | .hbm, ⟨78, _⟩ => ⟨S1x192, .f32⟩
  | .hbm, ⟨79, _⟩ => ⟨S1x192, .f32⟩
  | .hbm, ⟨80, _⟩ => ⟨S16x14x192x224, .f32⟩
  | .local _ .vmem, ⟨0, _⟩ => ⟨S1x28x192x224, .f32⟩
  | .local _ .vmem, ⟨1, _⟩ => ⟨S1x28x192x224, .f32⟩
  | .local _ .vmem, ⟨2, _⟩ => ⟨S1x28x192x224, .f32⟩
  | .local _ .vmem, ⟨3, _⟩ => ⟨S1x28x192x224, .f32⟩
  | .local _ .vmem, ⟨4, _⟩ => ⟨S192x576, .f32⟩
  | .local _ .vmem, ⟨5, _⟩ => ⟨S1x576, .f32⟩
  | .local _ .vmem, ⟨6, _⟩ => ⟨S16x784, .f32⟩
  | .local _ .vmem, ⟨7, _⟩ => ⟨S8x784x192, .bf16⟩
  | .local _ .vmem, ⟨8, _⟩ => ⟨S8x784x192, .bf16⟩
  | .local _ .vmem, ⟨9, _⟩ => ⟨S8x784x192, .bf16⟩
  | .local _ .vmem, ⟨10, _⟩ => ⟨S8x784x192, .bf16⟩
  | .local _ .vmem, ⟨11, _⟩ => ⟨S8x16x384, .bf16⟩
  | .local _ .vmem, ⟨12, _⟩ => ⟨S8x16x384, .bf16⟩
  | .local _ .vmem, ⟨13, _⟩ => ⟨S8x16x384, .bf16⟩
  | .local _ .vmem, ⟨14, _⟩ => ⟨S8x16x384, .bf16⟩
  | .local _ .vmem, ⟨15, _⟩ => ⟨S8x1x192, .f32⟩
  | .local _ .vmem, ⟨16, _⟩ => ⟨S8x1x192, .f32⟩
  | .local _ .vmem, ⟨17, _⟩ => ⟨S8x1x192, .f32⟩
  | .local _ .vmem, ⟨18, _⟩ => ⟨S8x1x192, .f32⟩
  | .local _ .vmem, ⟨19, _⟩ => ⟨S8x1x192, .f32⟩
  | .local _ .vmem, ⟨20, _⟩ => ⟨S8x1x192, .f32⟩
  | .local _ .vmem, ⟨21, _⟩ => ⟨S8x1x192, .f32⟩
  | .local _ .vmem, ⟨22, _⟩ => ⟨S8x1x192, .f32⟩
  | .local _ .vmem, ⟨23, _⟩ => ⟨S64x192, .f32⟩
  | .local _ .vmem, ⟨24, _⟩ => ⟨S64x192, .f32⟩
  | .local _ .vmem, ⟨25, _⟩ => ⟨S64x192, .f32⟩
  | .local _ .vmem, ⟨26, _⟩ => ⟨S64x192, .f32⟩
  | .local _ .vmem, ⟨27, _⟩ => ⟨S64x4, .i32⟩
  | .local _ .vmem, ⟨28, _⟩ => ⟨S64x4, .i32⟩
  | .local _ .vmem, ⟨29, _⟩ => ⟨S8x784x192, .bf16⟩
  | .local _ .vmem, ⟨30, _⟩ => ⟨S8x784x192, .bf16⟩
  | .local _ .vmem, ⟨31, _⟩ => ⟨S8x784x192, .bf16⟩
  | .local _ .vmem, ⟨32, _⟩ => ⟨S8x784x192, .bf16⟩
  | .local _ .vmem, ⟨33, _⟩ => ⟨S64x16x384, .bf16⟩
  | .local _ .vmem, ⟨34, _⟩ => ⟨S64x16x384, .bf16⟩
  | .local _ .vmem, ⟨35, _⟩ => ⟨S1x28x224x192, .bf16⟩
  | .local _ .vmem, ⟨36, _⟩ => ⟨S1x28x224x192, .bf16⟩
  | .local _ .vmem, ⟨37, _⟩ => ⟨S1x28x224x192, .bf16⟩
  | .local _ .vmem, ⟨38, _⟩ => ⟨S1x28x224x192, .bf16⟩
  | .local _ .vmem, ⟨39, _⟩ => ⟨S1x14x224x192, .bf16⟩
  | .local _ .vmem, ⟨40, _⟩ => ⟨S1x14x224x192, .bf16⟩
  | .local _ .vmem, ⟨41, _⟩ => ⟨S1x14x192x224, .f32⟩
  | .local _ .vmem, ⟨42, _⟩ => ⟨S1x14x192x224, .f32⟩
  | .local _ .vmem, ⟨43, _⟩ => ⟨S1x1x192x224, .f32⟩
  | .local _ .vmem, ⟨44, _⟩ => ⟨S1x1x192x224, .f32⟩
  | .local _ .vmem, ⟨45, _⟩ => ⟨S1x1x192x224, .f32⟩
  | .local _ .vmem, ⟨46, _⟩ => ⟨S1x1x192x224, .f32⟩
  | .local _ .vmem, ⟨47, _⟩ => ⟨S192x192, .f32⟩
  | .local _ .vmem, ⟨48, _⟩ => ⟨S3x3x192, .f32⟩
  | .local _ .vmem, ⟨49, _⟩ => ⟨S1x192, .f32⟩
  | .local _ .vmem, ⟨50, _⟩ => ⟨S192x192, .f32⟩
  | .local _ .vmem, ⟨51, _⟩ => ⟨S1x192, .f32⟩
  | .local _ .vmem, ⟨52, _⟩ => ⟨S1x14x192x224, .f32⟩
  | .local _ .vmem, ⟨53, _⟩ => ⟨S1x14x192x224, .f32⟩
  | .local _ .vmem, ⟨54, _⟩ => ⟨S1x14x224x192, .bf16⟩
  | .local _ .vmem, ⟨55, _⟩ => ⟨S1x14x224x192, .bf16⟩
  | .local _ .vmem, ⟨56, _⟩ => ⟨S1x14x192x224, .f32⟩
  | .local _ .vmem, ⟨57, _⟩ => ⟨S1x14x192x224, .f32⟩
  | .local _ .vmem, ⟨58, _⟩ => ⟨S1x1x192x224, .f32⟩
  | .local _ .vmem, ⟨59, _⟩ => ⟨S1x1x192x224, .f32⟩
  | .local _ .vmem, ⟨60, _⟩ => ⟨S1x1x192x224, .f32⟩
  | .local _ .vmem, ⟨61, _⟩ => ⟨S1x1x192x224, .f32⟩
  | .local _ .vmem, ⟨62, _⟩ => ⟨S192x192, .f32⟩
  | .local _ .vmem, ⟨63, _⟩ => ⟨S3x3x192, .f32⟩
  | .local _ .vmem, ⟨64, _⟩ => ⟨S1x192, .f32⟩
  | .local _ .vmem, ⟨65, _⟩ => ⟨S192x192, .f32⟩
  | .local _ .vmem, ⟨66, _⟩ => ⟨S1x192, .f32⟩
  | .local _ .vmem, ⟨67, _⟩ => ⟨S1x14x192x224, .f32⟩
  | .local _ .vmem, ⟨68, _⟩ => ⟨S1x14x192x224, .f32⟩
  | .local _ .smem, ⟨0, _⟩ => ⟨S64x4, .i32⟩
  | .local _ .smem, ⟨1, _⟩ => ⟨S64x4, .i32⟩
  | _, _ => ⟨S1x224x224x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_cst_6 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23_0 : Ref sig .tc := ⟨.hbm, 42, rfl⟩
abbrev main_v23_1 : Ref sig .tc := ⟨.hbm, 43, rfl⟩
abbrev main_v23_2 : Ref sig .tc := ⟨.hbm, 44, rfl⟩
abbrev main_v23_3 : Ref sig .tc := ⟨.hbm, 45, rfl⟩
abbrev main_v23_4 : Ref sig .tc := ⟨.hbm, 46, rfl⟩
abbrev main_v23_5 : Ref sig .tc := ⟨.hbm, 47, rfl⟩
abbrev main_v23_6 : Ref sig .tc := ⟨.hbm, 48, rfl⟩
abbrev main_v23_7 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28_0 : Ref sig .tc := ⟨.hbm, 54, rfl⟩
abbrev main_v28_1 : Ref sig .tc := ⟨.hbm, 55, rfl⟩
abbrev main_c_7 : Ref sig .tc := ⟨.hbm, 56, rfl⟩
abbrev main_v29 : Ref sig .tc := ⟨.hbm, 57, rfl⟩
abbrev main_v30 : Ref sig .tc := ⟨.hbm, 58, rfl⟩
abbrev main_c_8 : Ref sig .tc := ⟨.hbm, 59, rfl⟩
abbrev main_v31 : Ref sig .tc := ⟨.hbm, 60, rfl⟩
abbrev main_v32 : Ref sig .tc := ⟨.hbm, 61, rfl⟩
abbrev main_c_9 : Ref sig .tc := ⟨.hbm, 62, rfl⟩
abbrev main_v33 : Ref sig .tc := ⟨.hbm, 63, rfl⟩
abbrev main_v34 : Ref sig .tc := ⟨.hbm, 64, rfl⟩
abbrev main_c_10 : Ref sig .tc := ⟨.hbm, 65, rfl⟩
abbrev main_v35 : Ref sig .tc := ⟨.hbm, 66, rfl⟩
abbrev main_v36 : Ref sig .tc := ⟨.hbm, 67, rfl⟩
abbrev main_v37_0 : Ref sig .tc := ⟨.hbm, 68, rfl⟩
abbrev main_v37_1 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc1_stg0_0 : Ref sig .tc := ⟨.vmem, 23, rfl⟩
abbrev cc1_stg1_0 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg6_1 : Ref sig .tc := ⟨.vmem, 36, rfl⟩
abbrev cc2_stg7_0 : Ref sig .tc := ⟨.vmem, 37, rfl⟩
abbrev cc2_stg7_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc3_stg4_0 : Ref sig .tc := ⟨.vmem, 47, rfl⟩
abbrev cc3_stg5_0 : Ref sig .tc := ⟨.vmem, 48, rfl⟩
abbrev cc3_stg6_0 : Ref sig .tc := ⟨.vmem, 49, rfl⟩
abbrev cc3_stg7_0 : Ref sig .tc := ⟨.vmem, 50, rfl⟩
abbrev cc3_stg8_0 : Ref sig .tc := ⟨.vmem, 51, rfl⟩
abbrev cc3_stg9_0 : Ref sig .tc := ⟨.vmem, 52, rfl⟩
abbrev cc3_stg9_1 : Ref sig .tc := ⟨.vmem, 53, rfl⟩
abbrev cc4_stg0_0 : Ref sig .tc := ⟨.vmem, 54, rfl⟩
abbrev cc4_stg0_1 : Ref sig .tc := ⟨.vmem, 55, rfl⟩
abbrev cc4_stg1_0 : Ref sig .tc := ⟨.vmem, 56, rfl⟩
abbrev cc4_stg1_1 : Ref sig .tc := ⟨.vmem, 57, rfl⟩
abbrev cc4_stg2_0 : Ref sig .tc := ⟨.vmem, 58, rfl⟩
abbrev cc4_stg2_1 : Ref sig .tc := ⟨.vmem, 59, rfl⟩
abbrev cc4_stg3_0 : Ref sig .tc := ⟨.vmem, 60, rfl⟩
abbrev cc4_stg3_1 : Ref sig .tc := ⟨.vmem, 61, rfl⟩
abbrev cc4_stg4_0 : Ref sig .tc := ⟨.vmem, 62, rfl⟩
abbrev cc4_stg5_0 : Ref sig .tc := ⟨.vmem, 63, rfl⟩
abbrev cc4_stg6_0 : Ref sig .tc := ⟨.vmem, 64, rfl⟩
abbrev cc4_stg7_0 : Ref sig .tc := ⟨.vmem, 65, rfl⟩
abbrev cc4_stg8_0 : Ref sig .tc := ⟨.vmem, 66, rfl⟩
abbrev cc4_stg9_0 : Ref sig .tc := ⟨.vmem, 67, rfl⟩
abbrev cc4_stg9_1 : Ref sig .tc := ⟨.vmem, 68, rfl⟩
abbrev cc2_stg0_0 : Ref sig .tc := ⟨.smem, 0, rfl⟩
abbrev cc2_stg1_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc1_sem0_0 : DmaSem sig := 23
abbrev cc1_sem1_0 : DmaSem sig := 24
abbrev cc1_sem2_0 : DmaSem sig := 25
abbrev cc1_sem3_0 : DmaSem sig := 26
abbrev cc1_sem4_0 : DmaSem sig := 27
abbrev cc1_sem5_0 : DmaSem sig := 28
abbrev cc2_sem0_0 : DmaSem sig := 29
abbrev cc2_sem1_0 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem5_0 : DmaSem sig := 36
abbrev cc2_sem6_0 : DmaSem sig := 37
abbrev cc2_sem6_1 : DmaSem sig := 38
abbrev cc2_sem7_0 : DmaSem sig := 39
abbrev cc2_sem7_1 : DmaSem sig := 40
abbrev cc3_sem0_0 : DmaSem sig := 41
abbrev cc3_sem0_1 : DmaSem sig := 42
abbrev cc3_sem1_0 : DmaSem sig := 43
abbrev cc3_sem1_1 : DmaSem sig := 44
abbrev cc3_sem2_0 : DmaSem sig := 45
abbrev cc3_sem2_1 : DmaSem sig := 46
abbrev cc3_sem3_0 : DmaSem sig := 47
abbrev cc3_sem3_1 : DmaSem sig := 48
abbrev cc3_sem4_0 : DmaSem sig := 49
abbrev cc3_sem5_0 : DmaSem sig := 50
abbrev cc3_sem6_0 : DmaSem sig := 51
abbrev cc3_sem7_0 : DmaSem sig := 52
abbrev cc3_sem8_0 : DmaSem sig := 53
abbrev cc3_sem9_0 : DmaSem sig := 54
abbrev cc3_sem9_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc4_sem3_0 : DmaSem sig := 62
abbrev cc4_sem3_1 : DmaSem sig := 63
abbrev cc4_sem4_0 : DmaSem sig := 64
abbrev cc4_sem5_0 : DmaSem sig := 65
abbrev cc4_sem6_0 : DmaSem sig := 66
abbrev cc4_sem7_0 : DmaSem sig := 67
abbrev cc4_sem8_0 : DmaSem sig := 68
abbrev cc4_sem9_0 : DmaSem sig := 69
abbrev cc4_sem9_1 : DmaSem sig := 70

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x28x192x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x28x192x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x576 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x784 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x784x192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x784x192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x16x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x16x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1x192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x1x192 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1x192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x1x192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := .none

abbrev stage1_0 : Fin 1 → Memref sig .tc .vmem S64x192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S64x4 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S64x4 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨1, ![8], ![false]⟩

def k2_off1 (i : grid2.Coords) : Fin 2 → Nat :=
  let arg0 : BitVec 32 := BitVec.ofNat 32 (i 0).val
  let c8_i32 : BitVec 32 := 8#32
  let v114 : BitVec 32 := Scalar.muli arg0 c8_i32
  let c0_i32_21 : BitVec 32 := 0#32
  let v115 : BitVec 32 := Scalar.addi v114 c0_i32_21
  let v116 : Index := Scalar.indexCast v115
  let c0 : Index := 0#32
  ![v116.toNat, 0]
def k2_off2 (v117 : BitVec 32) : Fin 3 → Nat :=
  let v118 : Index := Scalar.indexCast v117
  let c0_22 : Index := 0#32
  let c0_23 : Index := 0#32
  ![v118.toNat, 0, 0]

def k2_chk1 (v117 : BitVec 32) : Prop :=
  (∀ a, (k2_off2 v117) a + S1x16x384.size a ≤ S64x16x384.size a)
theorem k2_off2_inb : ∀ (v117 : BitVec 32) (k2_hw1 : k2_chk1 v117), ∀ a, (k2_off2 v117) a + S1x16x384.size a ≤ S64x16x384.size a := fun v117 k2_hw1 => k2_hw1

def k2_off3 (i : grid2.Coords) : Fin 2 → Nat :=
  let arg0 : BitVec 32 := BitVec.ofNat 32 (i 0).val
  let c8_i32 : BitVec 32 := 8#32
  let v114 : BitVec 32 := Scalar.muli arg0 c8_i32
  let c0_i32_21 : BitVec 32 := 0#32
  let v115 : BitVec 32 := Scalar.addi v114 c0_i32_21
  let v121 : Index := Scalar.indexCast v115
  let c1 : Index := 1#32
  ![v121.toNat, 1]
def k2_off4 (v122 : BitVec 32) : Fin 3 → Nat :=
  let v123 : Index := Scalar.indexCast v122
  let c0_24 : Index := 0#32
  let c0_25 : Index := 0#32
  ![v123.toNat, 0, 0]

def k2_chk2 (v122 : BitVec 32) : Prop :=
  (∀ a, (k2_off4 v122) a + S1x16x384.size a ≤ S64x16x384.size a)
theorem k2_off4_inb : ∀ (v122 : BitVec 32) (k2_hw2 : k2_chk2 v122), ∀ a, (k2_off4 v122) a + S1x16x384.size a ≤ S64x16x384.size a := fun v122 k2_hw2 => k2_hw2

def k2_off5 (i : grid2.Coords) : Fin 2 → Nat :=
  let arg0 : BitVec 32 := BitVec.ofNat 32 (i 0).val
  let c8_i32 : BitVec 32 := 8#32
  let v114 : BitVec 32 := Scalar.muli arg0 c8_i32
  let c0_i32_21 : BitVec 32 := 0#32
  let v115 : BitVec 32 := Scalar.addi v114 c0_i32_21
  let v126 : Index := Scalar.indexCast v115
  let c2 : Index := 2#32
  ![v126.toNat, 2]
def k2_off6 (v127 : BitVec 32) : Fin 3 → Nat :=
  let v128 : Index := Scalar.indexCast v127
  let c0_26 : Index := 0#32
  let c0_27 : Index := 0#32
  ![v128.toNat, 0, 0]

def k2_chk3 (v127 : BitVec 32) : Prop :=
  (∀ a, (k2_off6 v127) a + S1x16x384.size a ≤ S64x16x384.size a)
theorem k2_off6_inb : ∀ (v127 : BitVec 32) (k2_hw3 : k2_chk3 v127), ∀ a, (k2_off6 v127) a + S1x16x384.size a ≤ S64x16x384.size a := fun v127 k2_hw3 => k2_hw3

def k2_off7 (i : grid2.Coords) : Fin 2 → Nat :=
  let arg0 : BitVec 32 := BitVec.ofNat 32 (i 0).val
  let c8_i32 : BitVec 32 := 8#32
  let v114 : BitVec 32 := Scalar.muli arg0 c8_i32
  let c0_i32_21 : BitVec 32 := 0#32
  let v115 : BitVec 32 := Scalar.addi v114 c0_i32_21
  let v131 : Index := Scalar.indexCast v115
  let c3 : Index := 3#32
  ![v131.toNat, 3]
def k2_off8 (v132 : BitVec 32) : Fin 3 → Nat :=
  let v133 : Index := Scalar.indexCast v132
  let c0_28 : Index := 0#32
  let c0_29 : Index := 0#32
  ![v133.toNat, 0, 0]

def k2_chk4 (v132 : BitVec 32) : Prop :=
  (∀ a, (k2_off8 v132) a + S1x16x384.size a ≤ S64x16x384.size a)
theorem k2_off8_inb : ∀ (v132 : BitVec 32) (k2_hw4 : k2_chk4 v132), ∀ a, (k2_off8 v132) a + S1x16x384.size a ≤ S64x16x384.size a := fun v132 k2_hw4 => k2_hw4

def k2_off9 (i : grid2.Coords) : Fin 2 → Nat :=
  let arg0 : BitVec 32 := BitVec.ofNat 32 (i 0).val
  let c8_i32_44 : BitVec 32 := 8#32
  let v230 : BitVec 32 := Scalar.muli arg0 c8_i32_44
  let c1_i32_45 : BitVec 32 := 1#32
  let v231 : BitVec 32 := Scalar.addi v230 c1_i32_45
  let v232 : Index := Scalar.indexCast v231
  let c0_46 : Index := 0#32
  ![v232.toNat, 0]
def k2_off10 (v233 : BitVec 32) : Fin 3 → Nat :=
  let v234 : Index := Scalar.indexCast v233
  let c0_47 : Index := 0#32
  let c0_48 : Index := 0#32
  ![v234.toNat, 0, 0]

def k2_chk5 (v233 : BitVec 32) : Prop :=
  (∀ a, (k2_off10 v233) a + S1x16x384.size a ≤ S64x16x384.size a)
theorem k2_off10_inb : ∀ (v233 : BitVec 32) (k2_hw5 : k2_chk5 v233), ∀ a, (k2_off10 v233) a + S1x16x384.size a ≤ S64x16x384.size a := fun v233 k2_hw5 => k2_hw5

def k2_off11 (i : grid2.Coords) : Fin 2 → Nat :=
  let arg0 : BitVec 32 := BitVec.ofNat 32 (i 0).val
  let c8_i32_44 : BitVec 32 := 8#32
  let v230 : BitVec 32 := Scalar.muli arg0 c8_i32_44
  let c1_i32_45 : BitVec 32 := 1#32
  let v231 : BitVec 32 := Scalar.addi v230 c1_i32_45
  let v237 : Index := Scalar.indexCast v231
  let c1_49 : Index := 1#32
  ![v237.toNat, 1]
def k2_off12 (v238 : BitVec 32) : Fin 3 → Nat :=
  let v239 : Index := Scalar.indexCast v238
  let c0_50 : Index := 0#32
  let c0_51 : Index := 0#32
  ![v239.toNat, 0, 0]

def k2_chk6 (v238 : BitVec 32) : Prop :=
  (∀ a, (k2_off12 v238) a + S1x16x384.size a ≤ S64x16x384.size a)
theorem k2_off12_inb : ∀ (v238 : BitVec 32) (k2_hw6 : k2_chk6 v238), ∀ a, (k2_off12 v238) a + S1x16x384.size a ≤ S64x16x384.size a := fun v238 k2_hw6 => k2_hw6

def k2_off13 (i : grid2.Coords) : Fin 2 → Nat :=
  let arg0 : BitVec 32 := BitVec.ofNat 32 (i 0).val
  let c8_i32_44 : BitVec 32 := 8#32
  let v230 : BitVec 32 := Scalar.muli arg0 c8_i32_44
  let c1_i32_45 : BitVec 32 := 1#32
  let v231 : BitVec 32 := Scalar.addi v230 c1_i32_45
  let v242 : Index := Scalar.indexCast v231
  let c2_52 : Index := 2#32
  ![v242.toNat, 2]
def k2_off14 (v243 : BitVec 32) : Fin 3 → Nat :=
  let v244 : Index := Scalar.indexCast v243
  let c0_53 : Index := 0#32
  let c0_54 : Index := 0#32
  ![v244.toNat, 0, 0]

def k2_chk7 (v243 : BitVec 32) : Prop :=
  (∀ a, (k2_off14 v243) a + S1x16x384.size a ≤ S64x16x384.size a)
theorem k2_off14_inb : ∀ (v243 : BitVec 32) (k2_hw7 : k2_chk7 v243), ∀ a, (k2_off14 v243) a + S1x16x384.size a ≤ S64x16x384.size a := fun v243 k2_hw7 => k2_hw7

def k2_off15 (i : grid2.Coords) : Fin 2 → Nat :=
  let arg0 : BitVec 32 := BitVec.ofNat 32 (i 0).val
  let c8_i32_44 : BitVec 32 := 8#32
  let v230 : BitVec 32 := Scalar.muli arg0 c8_i32_44
  let c1_i32_45 : BitVec 32 := 1#32
  let v231 : BitVec 32 := Scalar.addi v230 c1_i32_45
  let v247 : Index := Scalar.indexCast v231
  let c3_55 : Index := 3#32
  ![v247.toNat, 3]
def k2_off16 (v248 : BitVec 32) : Fin 3 → Nat :=
  let v249 : Index := Scalar.indexCast v248
  let c0_56 : Index := 0#32
  let c0_57 : Index := 0#32
  ![v249.toNat, 0, 0]

def k2_chk8 (v248 : BitVec 32) : Prop :=
  (∀ a, (k2_off16 v248) a + S1x16x384.size a ≤ S64x16x384.size a)
theorem k2_off16_inb : ∀ (v248 : BitVec 32) (k2_hw8 : k2_chk8 v248), ∀ a, (k2_off16 v248) a + S1x16x384.size a ≤ S64x16x384.size a := fun v248 k2_hw8 => k2_hw8

def k2_off17 (i : grid2.Coords) : Fin 2 → Nat :=
  let arg0 : BitVec 32 := BitVec.ofNat 32 (i 0).val
  let c8_i32_73 : BitVec 32 := 8#32
  let v346 : BitVec 32 := Scalar.muli arg0 c8_i32_73
  let c2_i32_74 : BitVec 32 := 2#32
  let v347 : BitVec 32 := Scalar.addi v346 c2_i32_74
  let v348 : Index := Scalar.indexCast v347
  let c0_75 : Index := 0#32
  ![v348.toNat, 0]
def k2_off18 (v349 : BitVec 32) : Fin 3 → Nat :=
  let v350 : Index := Scalar.indexCast v349
  let c0_76 : Index := 0#32
  let c0_77 : Index := 0#32
  ![v350.toNat, 0, 0]

def k2_chk9 (v349 : BitVec 32) : Prop :=
  (∀ a, (k2_off18 v349) a + S1x16x384.size a ≤ S64x16x384.size a)
theorem k2_off18_inb : ∀ (v349 : BitVec 32) (k2_hw9 : k2_chk9 v349), ∀ a, (k2_off18 v349) a + S1x16x384.size a ≤ S64x16x384.size a := fun v349 k2_hw9 => k2_hw9

def k2_off19 (i : grid2.Coords) : Fin 2 → Nat :=
  let arg0 : BitVec 32 := BitVec.ofNat 32 (i 0).val
  let c8_i32_73 : BitVec 32 := 8#32
  let v346 : BitVec 32 := Scalar.muli arg0 c8_i32_73
  let c2_i32_74 : BitVec 32 := 2#32
  let v347 : BitVec 32 := Scalar.addi v346 c2_i32_74
  let v353 : Index := Scalar.indexCast v347
  let c1_78 : Index := 1#32
  ![v353.toNat, 1]
def k2_off20 (v354 : BitVec 32) : Fin 3 → Nat :=
  let v355 : Index := Scalar.indexCast v354
  let c0_79 : Index := 0#32
  let c0_80 : Index := 0#32
  ![v355.toNat, 0, 0]

def k2_chk10 (v354 : BitVec 32) : Prop :=
  (∀ a, (k2_off20 v354) a + S1x16x384.size a ≤ S64x16x384.size a)
theorem k2_off20_inb : ∀ (v354 : BitVec 32) (k2_hw10 : k2_chk10 v354), ∀ a, (k2_off20 v354) a + S1x16x384.size a ≤ S64x16x384.size a := fun v354 k2_hw10 => k2_hw10

def k2_off21 (i : grid2.Coords) : Fin 2 → Nat :=
  let arg0 : BitVec 32 := BitVec.ofNat 32 (i 0).val
  let c8_i32_73 : BitVec 32 := 8#32
  let v346 : BitVec 32 := Scalar.muli arg0 c8_i32_73
  let c2_i32_74 : BitVec 32 := 2#32
  let v347 : BitVec 32 := Scalar.addi v346 c2_i32_74
  let v358 : Index := Scalar.indexCast v347
  let c2_81 : Index := 2#32
  ![v358.toNat, 2]
def k2_off22 (v359 : BitVec 32) : Fin 3 → Nat :=
  let v360 : Index := Scalar.indexCast v359
  let c0_82 : Index := 0#32
  let c0_83 : Index := 0#32
  ![v360.toNat, 0, 0]

def k2_chk11 (v359 : BitVec 32) : Prop :=
  (∀ a, (k2_off22 v359) a + S1x16x384.size a ≤ S64x16x384.size a)
theorem k2_off22_inb : ∀ (v359 : BitVec 32) (k2_hw11 : k2_chk11 v359), ∀ a, (k2_off22 v359) a + S1x16x384.size a ≤ S64x16x384.size a := fun v359 k2_hw11 => k2_hw11

def k2_off23 (i : grid2.Coords) : Fin 2 → Nat :=
  let arg0 : BitVec 32 := BitVec.ofNat 32 (i 0).val
  let c8_i32_73 : BitVec 32 := 8#32
  let v346 : BitVec 32 := Scalar.muli arg0 c8_i32_73
  let c2_i32_74 : BitVec 32 := 2#32
  let v347 : BitVec 32 := Scalar.addi v346 c2_i32_74
  let v363 : Index := Scalar.indexCast v347
  let c3_84 : Index := 3#32
  ![v363.toNat, 3]
def k2_off24 (v364 : BitVec 32) : Fin 3 → Nat :=
  let v365 : Index := Scalar.indexCast v364
  let c0_85 : Index := 0#32
  let c0_86 : Index := 0#32
  ![v365.toNat, 0, 0]

def k2_chk12 (v364 : BitVec 32) : Prop :=
  (∀ a, (k2_off24 v364) a + S1x16x384.size a ≤ S64x16x384.size a)
theorem k2_off24_inb : ∀ (v364 : BitVec 32) (k2_hw12 : k2_chk12 v364), ∀ a, (k2_off24 v364) a + S1x16x384.size a ≤ S64x16x384.size a := fun v364 k2_hw12 => k2_hw12

def k2_off25 (i : grid2.Coords) : Fin 2 → Nat :=
  let arg0 : BitVec 32 := BitVec.ofNat 32 (i 0).val
  let c8_i32_102 : BitVec 32 := 8#32
  let v462 : BitVec 32 := Scalar.muli arg0 c8_i32_102
  let c3_i32_103 : BitVec 32 := 3#32
  let v463 : BitVec 32 := Scalar.addi v462 c3_i32_103
  let v464 : Index := Scalar.indexCast v463
  let c0_104 : Index := 0#32
  ![v464.toNat, 0]
def k2_off26 (v465 : BitVec 32) : Fin 3 → Nat :=
  let v466 : Index := Scalar.indexCast v465
  let c0_105 : Index := 0#32
  let c0_106 : Index := 0#32
  ![v466.toNat, 0, 0]

def k2_chk13 (v465 : BitVec 32) : Prop :=
  (∀ a, (k2_off26 v465) a + S1x16x384.size a ≤ S64x16x384.size a)
theorem k2_off26_inb : ∀ (v465 : BitVec 32) (k2_hw13 : k2_chk13 v465), ∀ a, (k2_off26 v465) a + S1x16x384.size a ≤ S64x16x384.size a := fun v465 k2_hw13 => k2_hw13

def k2_off27 (i : grid2.Coords) : Fin 2 → Nat :=
  let arg0 : BitVec 32 := BitVec.ofNat 32 (i 0).val
  let c8_i32_102 : BitVec 32 := 8#32
  let v462 : BitVec 32 := Scalar.muli arg0 c8_i32_102
  let c3_i32_103 : BitVec 32 := 3#32
  let v463 : BitVec 32 := Scalar.addi v462 c3_i32_103
  let v469 : Index := Scalar.indexCast v463
  let c1_107 : Index := 1#32
  ![v469.toNat, 1]
def k2_off28 (v470 : BitVec 32) : Fin 3 → Nat :=
  let v471 : Index := Scalar.indexCast v470
  let c0_108 : Index := 0#32
  let c0_109 : Index := 0#32
  ![v471.toNat, 0, 0]

def k2_chk14 (v470 : BitVec 32) : Prop :=
  (∀ a, (k2_off28 v470) a + S1x16x384.size a ≤ S64x16x384.size a)
theorem k2_off28_inb : ∀ (v470 : BitVec 32) (k2_hw14 : k2_chk14 v470), ∀ a, (k2_off28 v470) a + S1x16x384.size a ≤ S64x16x384.size a := fun v470 k2_hw14 => k2_hw14

def k2_off29 (i : grid2.Coords) : Fin 2 → Nat :=
  let arg0 : BitVec 32 := BitVec.ofNat 32 (i 0).val
  let c8_i32_102 : BitVec 32 := 8#32
  let v462 : BitVec 32 := Scalar.muli arg0 c8_i32_102
  let c3_i32_103 : BitVec 32 := 3#32
  let v463 : BitVec 32 := Scalar.addi v462 c3_i32_103
  let v474 : Index := Scalar.indexCast v463
  let c2_110 : Index := 2#32
  ![v474.toNat, 2]
def k2_off30 (v475 : BitVec 32) : Fin 3 → Nat :=
  let v476 : Index := Scalar.indexCast v475
  let c0_111 : Index := 0#32
  let c0_112 : Index := 0#32
  ![v476.toNat, 0, 0]

def k2_chk15 (v475 : BitVec 32) : Prop :=
  (∀ a, (k2_off30 v475) a + S1x16x384.size a ≤ S64x16x384.size a)
theorem k2_off30_inb : ∀ (v475 : BitVec 32) (k2_hw15 : k2_chk15 v475), ∀ a, (k2_off30 v475) a + S1x16x384.size a ≤ S64x16x384.size a := fun v475 k2_hw15 => k2_hw15

def k2_off31 (i : grid2.Coords) : Fin 2 → Nat :=
  let arg0 : BitVec 32 := BitVec.ofNat 32 (i 0).val
  let c8_i32_102 : BitVec 32 := 8#32
  let v462 : BitVec 32 := Scalar.muli arg0 c8_i32_102
  let c3_i32_103 : BitVec 32 := 3#32
  let v463 : BitVec 32 := Scalar.addi v462 c3_i32_103
  let v479 : Index := Scalar.indexCast v463
  let c3_113 : Index := 3#32
  ![v479.toNat, 3]
def k2_off32 (v480 : BitVec 32) : Fin 3 → Nat :=
  let v481 : Index := Scalar.indexCast v480
  let c0_114 : Index := 0#32
  let c0_115 : Index := 0#32
  ![v481.toNat, 0, 0]

def k2_chk16 (v480 : BitVec 32) : Prop :=
  (∀ a, (k2_off32 v480) a + S1x16x384.size a ≤ S64x16x384.size a)
theorem k2_off32_inb : ∀ (v480 : BitVec 32) (k2_hw16 : k2_chk16 v480), ∀ a, (k2_off32 v480) a + S1x16x384.size a ≤ S64x16x384.size a := fun v480 k2_hw16 => k2_hw16

def k2_off33 (i : grid2.Coords) : Fin 2 → Nat :=
  let arg0 : BitVec 32 := BitVec.ofNat 32 (i 0).val
  let c8_i32_131 : BitVec 32 := 8#32
  let v578 : BitVec 32 := Scalar.muli arg0 c8_i32_131
  let c4_i32_132 : BitVec 32 := 4#32
  let v579 : BitVec 32 := Scalar.addi v578 c4_i32_132
  let v580 : Index := Scalar.indexCast v579
  let c0_133 : Index := 0#32
  ![v580.toNat, 0]
def k2_off34 (v581 : BitVec 32) : Fin 3 → Nat :=
  let v582 : Index := Scalar.indexCast v581
  let c0_134 : Index := 0#32
  let c0_135 : Index := 0#32
  ![v582.toNat, 0, 0]

def k2_chk17 (v581 : BitVec 32) : Prop :=
  (∀ a, (k2_off34 v581) a + S1x16x384.size a ≤ S64x16x384.size a)
theorem k2_off34_inb : ∀ (v581 : BitVec 32) (k2_hw17 : k2_chk17 v581), ∀ a, (k2_off34 v581) a + S1x16x384.size a ≤ S64x16x384.size a := fun v581 k2_hw17 => k2_hw17

def k2_off35 (i : grid2.Coords) : Fin 2 → Nat :=
  let arg0 : BitVec 32 := BitVec.ofNat 32 (i 0).val
  let c8_i32_131 : BitVec 32 := 8#32
  let v578 : BitVec 32 := Scalar.muli arg0 c8_i32_131
  let c4_i32_132 : BitVec 32 := 4#32
  let v579 : BitVec 32 := Scalar.addi v578 c4_i32_132
  let v585 : Index := Scalar.indexCast v579
  let c1_136 : Index := 1#32
  ![v585.toNat, 1]
def k2_off36 (v586 : BitVec 32) : Fin 3 → Nat :=
  let v587 : Index := Scalar.indexCast v586
  let c0_137 : Index := 0#32
  let c0_138 : Index := 0#32
  ![v587.toNat, 0, 0]

def k2_chk18 (v586 : BitVec 32) : Prop :=
  (∀ a, (k2_off36 v586) a + S1x16x384.size a ≤ S64x16x384.size a)
theorem k2_off36_inb : ∀ (v586 : BitVec 32) (k2_hw18 : k2_chk18 v586), ∀ a, (k2_off36 v586) a + S1x16x384.size a ≤ S64x16x384.size a := fun v586 k2_hw18 => k2_hw18

def k2_off37 (i : grid2.Coords) : Fin 2 → Nat :=
  let arg0 : BitVec 32 := BitVec.ofNat 32 (i 0).val
  let c8_i32_131 : BitVec 32 := 8#32
  let v578 : BitVec 32 := Scalar.muli arg0 c8_i32_131
  let c4_i32_132 : BitVec 32 := 4#32
  let v579 : BitVec 32 := Scalar.addi v578 c4_i32_132
  let v590 : Index := Scalar.indexCast v579
  let c2_139 : Index := 2#32
  ![v590.toNat, 2]
def k2_off38 (v591 : BitVec 32) : Fin 3 → Nat :=
  let v592 : Index := Scalar.indexCast v591
  let c0_140 : Index := 0#32
  let c0_141 : Index := 0#32
  ![v592.toNat, 0, 0]

def k2_chk19 (v591 : BitVec 32) : Prop :=
  (∀ a, (k2_off38 v591) a + S1x16x384.size a ≤ S64x16x384.size a)
theorem k2_off38_inb : ∀ (v591 : BitVec 32) (k2_hw19 : k2_chk19 v591), ∀ a, (k2_off38 v591) a + S1x16x384.size a ≤ S64x16x384.size a := fun v591 k2_hw19 => k2_hw19

def k2_off39 (i : grid2.Coords) : Fin 2 → Nat :=
  let arg0 : BitVec 32 := BitVec.ofNat 32 (i 0).val
  let c8_i32_131 : BitVec 32 := 8#32
  let v578 : BitVec 32 := Scalar.muli arg0 c8_i32_131
  let c4_i32_132 : BitVec 32 := 4#32
  let v579 : BitVec 32 := Scalar.addi v578 c4_i32_132
  let v595 : Index := Scalar.indexCast v579
  let c3_142 : Index := 3#32
  ![v595.toNat, 3]
def k2_off40 (v596 : BitVec 32) : Fin 3 → Nat :=
  let v597 : Index := Scalar.indexCast v596
  let c0_143 : Index := 0#32
  let c0_144 : Index := 0#32
  ![v597.toNat, 0, 0]

def k2_chk20 (v596 : BitVec 32) : Prop :=
  (∀ a, (k2_off40 v596) a + S1x16x384.size a ≤ S64x16x384.size a)
theorem k2_off40_inb : ∀ (v596 : BitVec 32) (k2_hw20 : k2_chk20 v596), ∀ a, (k2_off40 v596) a + S1x16x384.size a ≤ S64x16x384.size a := fun v596 k2_hw20 => k2_hw20

def k2_off41 (i : grid2.Coords) : Fin 2 → Nat :=
  let arg0 : BitVec 32 := BitVec.ofNat 32 (i 0).val
  let c8_i32_159 : BitVec 32 := 8#32
  let v694 : BitVec 32 := Scalar.muli arg0 c8_i32_159
  let c5_i32_160 : BitVec 32 := 5#32
  let v695 : BitVec 32 := Scalar.addi v694 c5_i32_160
  let v696 : Index := Scalar.indexCast v695
  let c0_161 : Index := 0#32
  ![v696.toNat, 0]
def k2_off42 (v697 : BitVec 32) : Fin 3 → Nat :=
  let v698 : Index := Scalar.indexCast v697
  let c0_162 : Index := 0#32
  let c0_163 : Index := 0#32
  ![v698.toNat, 0, 0]

def k2_chk21 (v697 : BitVec 32) : Prop :=
  (∀ a, (k2_off42 v697) a + S1x16x384.size a ≤ S64x16x384.size a)
theorem k2_off42_inb : ∀ (v697 : BitVec 32) (k2_hw21 : k2_chk21 v697), ∀ a, (k2_off42 v697) a + S1x16x384.size a ≤ S64x16x384.size a := fun v697 k2_hw21 => k2_hw21

def k2_off43 (i : grid2.Coords) : Fin 2 → Nat :=
  let arg0 : BitVec 32 := BitVec.ofNat 32 (i 0).val
  let c8_i32_159 : BitVec 32 := 8#32
  let v694 : BitVec 32 := Scalar.muli arg0 c8_i32_159
  let c5_i32_160 : BitVec 32 := 5#32
  let v695 : BitVec 32 := Scalar.addi v694 c5_i32_160
  let v701 : Index := Scalar.indexCast v695
  let c1_164 : Index := 1#32
  ![v701.toNat, 1]
def k2_off44 (v702 : BitVec 32) : Fin 3 → Nat :=
  let v703 : Index := Scalar.indexCast v702
  let c0_165 : Index := 0#32
  let c0_166 : Index := 0#32
  ![v703.toNat, 0, 0]

def k2_chk22 (v702 : BitVec 32) : Prop :=
  (∀ a, (k2_off44 v702) a + S1x16x384.size a ≤ S64x16x384.size a)
theorem k2_off44_inb : ∀ (v702 : BitVec 32) (k2_hw22 : k2_chk22 v702), ∀ a, (k2_off44 v702) a + S1x16x384.size a ≤ S64x16x384.size a := fun v702 k2_hw22 => k2_hw22

def k2_off45 (i : grid2.Coords) : Fin 2 → Nat :=
  let arg0 : BitVec 32 := BitVec.ofNat 32 (i 0).val
  let c8_i32_159 : BitVec 32 := 8#32
  let v694 : BitVec 32 := Scalar.muli arg0 c8_i32_159
  let c5_i32_160 : BitVec 32 := 5#32
  let v695 : BitVec 32 := Scalar.addi v694 c5_i32_160
  let v706 : Index := Scalar.indexCast v695
  let c2_167 : Index := 2#32
  ![v706.toNat, 2]
def k2_off46 (v707 : BitVec 32) : Fin 3 → Nat :=
  let v708 : Index := Scalar.indexCast v707
  let c0_168 : Index := 0#32
  let c0_169 : Index := 0#32
  ![v708.toNat, 0, 0]

def k2_chk23 (v707 : BitVec 32) : Prop :=
  (∀ a, (k2_off46 v707) a + S1x16x384.size a ≤ S64x16x384.size a)
theorem k2_off46_inb : ∀ (v707 : BitVec 32) (k2_hw23 : k2_chk23 v707), ∀ a, (k2_off46 v707) a + S1x16x384.size a ≤ S64x16x384.size a := fun v707 k2_hw23 => k2_hw23

def k2_off47 (i : grid2.Coords) : Fin 2 → Nat :=
  let arg0 : BitVec 32 := BitVec.ofNat 32 (i 0).val
  let c8_i32_159 : BitVec 32 := 8#32
  let v694 : BitVec 32 := Scalar.muli arg0 c8_i32_159
  let c5_i32_160 : BitVec 32 := 5#32
  let v695 : BitVec 32 := Scalar.addi v694 c5_i32_160
  let v711 : Index := Scalar.indexCast v695
  let c3_170 : Index := 3#32
  ![v711.toNat, 3]
def k2_off48 (v712 : BitVec 32) : Fin 3 → Nat :=
  let v713 : Index := Scalar.indexCast v712
  let c0_171 : Index := 0#32
  let c0_172 : Index := 0#32
  ![v713.toNat, 0, 0]

def k2_chk24 (v712 : BitVec 32) : Prop :=
  (∀ a, (k2_off48 v712) a + S1x16x384.size a ≤ S64x16x384.size a)
theorem k2_off48_inb : ∀ (v712 : BitVec 32) (k2_hw24 : k2_chk24 v712), ∀ a, (k2_off48 v712) a + S1x16x384.size a ≤ S64x16x384.size a := fun v712 k2_hw24 => k2_hw24

def k2_off49 (i : grid2.Coords) : Fin 2 → Nat :=
  let arg0 : BitVec 32 := BitVec.ofNat 32 (i 0).val
  let c8_i32_187 : BitVec 32 := 8#32
  let v810 : BitVec 32 := Scalar.muli arg0 c8_i32_187
  let c6_i32_188 : BitVec 32 := 6#32
  let v811 : BitVec 32 := Scalar.addi v810 c6_i32_188
  let v812 : Index := Scalar.indexCast v811
  let c0_189 : Index := 0#32
  ![v812.toNat, 0]
def k2_off50 (v813 : BitVec 32) : Fin 3 → Nat :=
  let v814 : Index := Scalar.indexCast v813
  let c0_190 : Index := 0#32
  let c0_191 : Index := 0#32
  ![v814.toNat, 0, 0]

def k2_chk25 (v813 : BitVec 32) : Prop :=
  (∀ a, (k2_off50 v813) a + S1x16x384.size a ≤ S64x16x384.size a)
theorem k2_off50_inb : ∀ (v813 : BitVec 32) (k2_hw25 : k2_chk25 v813), ∀ a, (k2_off50 v813) a + S1x16x384.size a ≤ S64x16x384.size a := fun v813 k2_hw25 => k2_hw25

def k2_off51 (i : grid2.Coords) : Fin 2 → Nat :=
  let arg0 : BitVec 32 := BitVec.ofNat 32 (i 0).val
  let c8_i32_187 : BitVec 32 := 8#32
  let v810 : BitVec 32 := Scalar.muli arg0 c8_i32_187
  let c6_i32_188 : BitVec 32 := 6#32
  let v811 : BitVec 32 := Scalar.addi v810 c6_i32_188
  let v817 : Index := Scalar.indexCast v811
  let c1_192 : Index := 1#32
  ![v817.toNat, 1]
def k2_off52 (v818 : BitVec 32) : Fin 3 → Nat :=
  let v819 : Index := Scalar.indexCast v818
  let c0_193 : Index := 0#32
  let c0_194 : Index := 0#32
  ![v819.toNat, 0, 0]

def k2_chk26 (v818 : BitVec 32) : Prop :=
  (∀ a, (k2_off52 v818) a + S1x16x384.size a ≤ S64x16x384.size a)
theorem k2_off52_inb : ∀ (v818 : BitVec 32) (k2_hw26 : k2_chk26 v818), ∀ a, (k2_off52 v818) a + S1x16x384.size a ≤ S64x16x384.size a := fun v818 k2_hw26 => k2_hw26

def k2_off53 (i : grid2.Coords) : Fin 2 → Nat :=
  let arg0 : BitVec 32 := BitVec.ofNat 32 (i 0).val
  let c8_i32_187 : BitVec 32 := 8#32
  let v810 : BitVec 32 := Scalar.muli arg0 c8_i32_187
  let c6_i32_188 : BitVec 32 := 6#32
  let v811 : BitVec 32 := Scalar.addi v810 c6_i32_188
  let v822 : Index := Scalar.indexCast v811
  let c2_195 : Index := 2#32
  ![v822.toNat, 2]
def k2_off54 (v823 : BitVec 32) : Fin 3 → Nat :=
  let v824 : Index := Scalar.indexCast v823
  let c0_196 : Index := 0#32
  let c0_197 : Index := 0#32
  ![v824.toNat, 0, 0]

def k2_chk27 (v823 : BitVec 32) : Prop :=
  (∀ a, (k2_off54 v823) a + S1x16x384.size a ≤ S64x16x384.size a)
theorem k2_off54_inb : ∀ (v823 : BitVec 32) (k2_hw27 : k2_chk27 v823), ∀ a, (k2_off54 v823) a + S1x16x384.size a ≤ S64x16x384.size a := fun v823 k2_hw27 => k2_hw27

def k2_off55 (i : grid2.Coords) : Fin 2 → Nat :=
  let arg0 : BitVec 32 := BitVec.ofNat 32 (i 0).val
  let c8_i32_187 : BitVec 32 := 8#32
  let v810 : BitVec 32 := Scalar.muli arg0 c8_i32_187
  let c6_i32_188 : BitVec 32 := 6#32
  let v811 : BitVec 32 := Scalar.addi v810 c6_i32_188
  let v827 : Index := Scalar.indexCast v811
  let c3_198 : Index := 3#32
  ![v827.toNat, 3]
def k2_off56 (v828 : BitVec 32) : Fin 3 → Nat :=
  let v829 : Index := Scalar.indexCast v828
  let c0_199 : Index := 0#32
  let c0_200 : Index := 0#32
  ![v829.toNat, 0, 0]

def k2_chk28 (v828 : BitVec 32) : Prop :=
  (∀ a, (k2_off56 v828) a + S1x16x384.size a ≤ S64x16x384.size a)
theorem k2_off56_inb : ∀ (v828 : BitVec 32) (k2_hw28 : k2_chk28 v828), ∀ a, (k2_off56 v828) a + S1x16x384.size a ≤ S64x16x384.size a := fun v828 k2_hw28 => k2_hw28

def k2_off57 (i : grid2.Coords) : Fin 2 → Nat :=
  let arg0 : BitVec 32 := BitVec.ofNat 32 (i 0).val
  let c8_i32_215 : BitVec 32 := 8#32
  let v926 : BitVec 32 := Scalar.muli arg0 c8_i32_215
  let c7_i32_216 : BitVec 32 := 7#32
  let v927 : BitVec 32 := Scalar.addi v926 c7_i32_216
  let v928 : Index := Scalar.indexCast v927
  let c0_217 : Index := 0#32
  ![v928.toNat, 0]
def k2_off58 (v929 : BitVec 32) : Fin 3 → Nat :=
  let v930 : Index := Scalar.indexCast v929
  let c0_218 : Index := 0#32
  let c0_219 : Index := 0#32
  ![v930.toNat, 0, 0]

def k2_chk29 (v929 : BitVec 32) : Prop :=
  (∀ a, (k2_off58 v929) a + S1x16x384.size a ≤ S64x16x384.size a)
theorem k2_off58_inb : ∀ (v929 : BitVec 32) (k2_hw29 : k2_chk29 v929), ∀ a, (k2_off58 v929) a + S1x16x384.size a ≤ S64x16x384.size a := fun v929 k2_hw29 => k2_hw29

def k2_off59 (i : grid2.Coords) : Fin 2 → Nat :=
  let arg0 : BitVec 32 := BitVec.ofNat 32 (i 0).val
  let c8_i32_215 : BitVec 32 := 8#32
  let v926 : BitVec 32 := Scalar.muli arg0 c8_i32_215
  let c7_i32_216 : BitVec 32 := 7#32
  let v927 : BitVec 32 := Scalar.addi v926 c7_i32_216
  let v933 : Index := Scalar.indexCast v927
  let c1_220 : Index := 1#32
  ![v933.toNat, 1]
def k2_off60 (v934 : BitVec 32) : Fin 3 → Nat :=
  let v935 : Index := Scalar.indexCast v934
  let c0_221 : Index := 0#32
  let c0_222 : Index := 0#32
  ![v935.toNat, 0, 0]

def k2_chk30 (v934 : BitVec 32) : Prop :=
  (∀ a, (k2_off60 v934) a + S1x16x384.size a ≤ S64x16x384.size a)
theorem k2_off60_inb : ∀ (v934 : BitVec 32) (k2_hw30 : k2_chk30 v934), ∀ a, (k2_off60 v934) a + S1x16x384.size a ≤ S64x16x384.size a := fun v934 k2_hw30 => k2_hw30

def k2_off61 (i : grid2.Coords) : Fin 2 → Nat :=
  let arg0 : BitVec 32 := BitVec.ofNat 32 (i 0).val
  let c8_i32_215 : BitVec 32 := 8#32
  let v926 : BitVec 32 := Scalar.muli arg0 c8_i32_215
  let c7_i32_216 : BitVec 32 := 7#32
  let v927 : BitVec 32 := Scalar.addi v926 c7_i32_216
  let v938 : Index := Scalar.indexCast v927
  let c2_223 : Index := 2#32
  ![v938.toNat, 2]
def k2_off62 (v939 : BitVec 32) : Fin 3 → Nat :=
  let v940 : Index := Scalar.indexCast v939
  let c0_224 : Index := 0#32
  let c0_225 : Index := 0#32
  ![v940.toNat, 0, 0]

def k2_chk31 (v939 : BitVec 32) : Prop :=
  (∀ a, (k2_off62 v939) a + S1x16x384.size a ≤ S64x16x384.size a)
theorem k2_off62_inb : ∀ (v939 : BitVec 32) (k2_hw31 : k2_chk31 v939), ∀ a, (k2_off62 v939) a + S1x16x384.size a ≤ S64x16x384.size a := fun v939 k2_hw31 => k2_hw31

def k2_off63 (i : grid2.Coords) : Fin 2 → Nat :=
  let arg0 : BitVec 32 := BitVec.ofNat 32 (i 0).val
  let c8_i32_215 : BitVec 32 := 8#32
  let v926 : BitVec 32 := Scalar.muli arg0 c8_i32_215
  let c7_i32_216 : BitVec 32 := 7#32
  let v927 : BitVec 32 := Scalar.addi v926 c7_i32_216
  let v943 : Index := Scalar.indexCast v927
  let c3_226 : Index := 3#32
  ![v943.toNat, 3]
def k2_off64 (v944 : BitVec 32) : Fin 3 → Nat :=
  let v945 : Index := Scalar.indexCast v944
  let c0_227 : Index := 0#32
  let c0_228 : Index := 0#32
  ![v945.toNat, 0, 0]

def k2_chk32 (v944 : BitVec 32) : Prop :=
  (∀ a, (k2_off64 v944) a + S1x16x384.size a ≤ S64x16x384.size a)
theorem k2_off64_inb : ∀ (v944 : BitVec 32) (k2_hw32 : k2_chk32 v944), ∀ a, (k2_off64 v944) a + S1x16x384.size a ≤ S64x16x384.size a := fun v944 k2_hw32 => k2_hw32

def k2_off65 (i : grid2.Coords) : Fin 2 → Nat :=
  let arg0 : BitVec 32 := BitVec.ofNat 32 (i 0).val
  let c8_i32_247 : BitVec 32 := 8#32
  let v1046 : BitVec 32 := Scalar.muli arg0 c8_i32_247
  let c0_i32_248 : BitVec 32 := 0#32
  let v1047 : BitVec 32 := Scalar.addi v1046 c0_i32_248
  let v1048 : Index := Scalar.indexCast v1047
  let c0_249 : Index := 0#32
  ![v1048.toNat, 0]
def k2_off66 (v1049 : BitVec 32) : Fin 3 → Nat :=
  let v1050 : Index := Scalar.indexCast v1049
  let c0_250 : Index := 0#32
  let c0_251 : Index := 0#32
  ![v1050.toNat, 0, 0]

def k2_chk33 (v1049 : BitVec 32) : Prop :=
  (∀ a, (k2_off66 v1049) a + S1x16x384.size a ≤ S64x16x384.size a)
theorem k2_off66_inb : ∀ (v1049 : BitVec 32) (k2_hw33 : k2_chk33 v1049), ∀ a, (k2_off66 v1049) a + S1x16x384.size a ≤ S64x16x384.size a := fun v1049 k2_hw33 => k2_hw33

def k2_off67 (i : grid2.Coords) : Fin 2 → Nat :=
  let arg0 : BitVec 32 := BitVec.ofNat 32 (i 0).val
  let c8_i32_247 : BitVec 32 := 8#32
  let v1046 : BitVec 32 := Scalar.muli arg0 c8_i32_247
  let c0_i32_248 : BitVec 32 := 0#32
  let v1047 : BitVec 32 := Scalar.addi v1046 c0_i32_248
  let v1053 : Index := Scalar.indexCast v1047
  let c1_252 : Index := 1#32
  ![v1053.toNat, 1]
def k2_off68 (v1054 : BitVec 32) : Fin 3 → Nat :=
  let v1055 : Index := Scalar.indexCast v1054
  let c0_253 : Index := 0#32
  let c0_254 : Index := 0#32
  ![v1055.toNat, 0, 0]

def k2_chk34 (v1054 : BitVec 32) : Prop :=
  (∀ a, (k2_off68 v1054) a + S1x16x384.size a ≤ S64x16x384.size a)
theorem k2_off68_inb : ∀ (v1054 : BitVec 32) (k2_hw34 : k2_chk34 v1054), ∀ a, (k2_off68 v1054) a + S1x16x384.size a ≤ S64x16x384.size a := fun v1054 k2_hw34 => k2_hw34

def k2_off69 (i : grid2.Coords) : Fin 2 → Nat :=
  let arg0 : BitVec 32 := BitVec.ofNat 32 (i 0).val
  let c8_i32_247 : BitVec 32 := 8#32
  let v1046 : BitVec 32 := Scalar.muli arg0 c8_i32_247
  let c0_i32_248 : BitVec 32 := 0#32
  let v1047 : BitVec 32 := Scalar.addi v1046 c0_i32_248
  let v1058 : Index := Scalar.indexCast v1047
  let c2_255 : Index := 2#32
  ![v1058.toNat, 2]
def k2_off70 (v1059 : BitVec 32) : Fin 3 → Nat :=
  let v1060 : Index := Scalar.indexCast v1059
  let c0_256 : Index := 0#32
  let c0_257 : Index := 0#32
  ![v1060.toNat, 0, 0]

def k2_chk35 (v1059 : BitVec 32) : Prop :=
  (∀ a, (k2_off70 v1059) a + S1x16x384.size a ≤ S64x16x384.size a)
theorem k2_off70_inb : ∀ (v1059 : BitVec 32) (k2_hw35 : k2_chk35 v1059), ∀ a, (k2_off70 v1059) a + S1x16x384.size a ≤ S64x16x384.size a := fun v1059 k2_hw35 => k2_hw35

def k2_off71 (i : grid2.Coords) : Fin 2 → Nat :=
  let arg0 : BitVec 32 := BitVec.ofNat 32 (i 0).val
  let c8_i32_247 : BitVec 32 := 8#32
  let v1046 : BitVec 32 := Scalar.muli arg0 c8_i32_247
  let c0_i32_248 : BitVec 32 := 0#32
  let v1047 : BitVec 32 := Scalar.addi v1046 c0_i32_248
  let v1063 : Index := Scalar.indexCast v1047
  let c3_258 : Index := 3#32
  ![v1063.toNat, 3]
def k2_off72 (v1064 : BitVec 32) : Fin 3 → Nat :=
  let v1065 : Index := Scalar.indexCast v1064
  let c0_259 : Index := 0#32
  let c0_260 : Index := 0#32
  ![v1065.toNat, 0, 0]

def k2_chk36 (v1064 : BitVec 32) : Prop :=
  (∀ a, (k2_off72 v1064) a + S1x16x384.size a ≤ S64x16x384.size a)
theorem k2_off72_inb : ∀ (v1064 : BitVec 32) (k2_hw36 : k2_chk36 v1064), ∀ a, (k2_off72 v1064) a + S1x16x384.size a ≤ S64x16x384.size a := fun v1064 k2_hw36 => k2_hw36

def k2_off73 (i : grid2.Coords) : Fin 2 → Nat :=
  let arg0 : BitVec 32 := BitVec.ofNat 32 (i 0).val
  let c8_i32_276 : BitVec 32 := 8#32
  let v1162 : BitVec 32 := Scalar.muli arg0 c8_i32_276
  let c1_i32_277 : BitVec 32 := 1#32
  let v1163 : BitVec 32 := Scalar.addi v1162 c1_i32_277
  let v1164 : Index := Scalar.indexCast v1163
  let c0_278 : Index := 0#32
  ![v1164.toNat, 0]
def k2_off74 (v1165 : BitVec 32) : Fin 3 → Nat :=
  let v1166 : Index := Scalar.indexCast v1165
  let c0_279 : Index := 0#32
  let c0_280 : Index := 0#32
  ![v1166.toNat, 0, 0]

def k2_chk37 (v1165 : BitVec 32) : Prop :=
  (∀ a, (k2_off74 v1165) a + S1x16x384.size a ≤ S64x16x384.size a)
theorem k2_off74_inb : ∀ (v1165 : BitVec 32) (k2_hw37 : k2_chk37 v1165), ∀ a, (k2_off74 v1165) a + S1x16x384.size a ≤ S64x16x384.size a := fun v1165 k2_hw37 => k2_hw37

def k2_off75 (i : grid2.Coords) : Fin 2 → Nat :=
  let arg0 : BitVec 32 := BitVec.ofNat 32 (i 0).val
  let c8_i32_276 : BitVec 32 := 8#32
  let v1162 : BitVec 32 := Scalar.muli arg0 c8_i32_276
  let c1_i32_277 : BitVec 32 := 1#32
  let v1163 : BitVec 32 := Scalar.addi v1162 c1_i32_277
  let v1169 : Index := Scalar.indexCast v1163
  let c1_281 : Index := 1#32
  ![v1169.toNat, 1]
def k2_off76 (v1170 : BitVec 32) : Fin 3 → Nat :=
  let v1171 : Index := Scalar.indexCast v1170
  let c0_282 : Index := 0#32
  let c0_283 : Index := 0#32
  ![v1171.toNat, 0, 0]

def k2_chk38 (v1170 : BitVec 32) : Prop :=
  (∀ a, (k2_off76 v1170) a + S1x16x384.size a ≤ S64x16x384.size a)
theorem k2_off76_inb : ∀ (v1170 : BitVec 32) (k2_hw38 : k2_chk38 v1170), ∀ a, (k2_off76 v1170) a + S1x16x384.size a ≤ S64x16x384.size a := fun v1170 k2_hw38 => k2_hw38

def k2_off77 (i : grid2.Coords) : Fin 2 → Nat :=
  let arg0 : BitVec 32 := BitVec.ofNat 32 (i 0).val
  let c8_i32_276 : BitVec 32 := 8#32
  let v1162 : BitVec 32 := Scalar.muli arg0 c8_i32_276
  let c1_i32_277 : BitVec 32 := 1#32
  let v1163 : BitVec 32 := Scalar.addi v1162 c1_i32_277
  let v1174 : Index := Scalar.indexCast v1163
  let c2_284 : Index := 2#32
  ![v1174.toNat, 2]
def k2_off78 (v1175 : BitVec 32) : Fin 3 → Nat :=
  let v1176 : Index := Scalar.indexCast v1175
  let c0_285 : Index := 0#32
  let c0_286 : Index := 0#32
  ![v1176.toNat, 0, 0]

def k2_chk39 (v1175 : BitVec 32) : Prop :=
  (∀ a, (k2_off78 v1175) a + S1x16x384.size a ≤ S64x16x384.size a)
theorem k2_off78_inb : ∀ (v1175 : BitVec 32) (k2_hw39 : k2_chk39 v1175), ∀ a, (k2_off78 v1175) a + S1x16x384.size a ≤ S64x16x384.size a := fun v1175 k2_hw39 => k2_hw39

def k2_off79 (i : grid2.Coords) : Fin 2 → Nat :=
  let arg0 : BitVec 32 := BitVec.ofNat 32 (i 0).val
  let c8_i32_276 : BitVec 32 := 8#32
  let v1162 : BitVec 32 := Scalar.muli arg0 c8_i32_276
  let c1_i32_277 : BitVec 32 := 1#32
  let v1163 : BitVec 32 := Scalar.addi v1162 c1_i32_277
  let v1179 : Index := Scalar.indexCast v1163
  let c3_287 : Index := 3#32
  ![v1179.toNat, 3]
def k2_off80 (v1180 : BitVec 32) : Fin 3 → Nat :=
  let v1181 : Index := Scalar.indexCast v1180
  let c0_288 : Index := 0#32
  let c0_289 : Index := 0#32
  ![v1181.toNat, 0, 0]

def k2_chk40 (v1180 : BitVec 32) : Prop :=
  (∀ a, (k2_off80 v1180) a + S1x16x384.size a ≤ S64x16x384.size a)
theorem k2_off80_inb : ∀ (v1180 : BitVec 32) (k2_hw40 : k2_chk40 v1180), ∀ a, (k2_off80 v1180) a + S1x16x384.size a ≤ S64x16x384.size a := fun v1180 k2_hw40 => k2_hw40

def k2_off81 (i : grid2.Coords) : Fin 2 → Nat :=
  let arg0 : BitVec 32 := BitVec.ofNat 32 (i 0).val
  let c8_i32_305 : BitVec 32 := 8#32
  let v1278 : BitVec 32 := Scalar.muli arg0 c8_i32_305
  let c2_i32_306 : BitVec 32 := 2#32
  let v1279 : BitVec 32 := Scalar.addi v1278 c2_i32_306
  let v1280 : Index := Scalar.indexCast v1279
  let c0_307 : Index := 0#32
  ![v1280.toNat, 0]
def k2_off82 (v1281 : BitVec 32) : Fin 3 → Nat :=
  let v1282 : Index := Scalar.indexCast v1281
  let c0_308 : Index := 0#32
  let c0_309 : Index := 0#32
  ![v1282.toNat, 0, 0]

def k2_chk41 (v1281 : BitVec 32) : Prop :=
  (∀ a, (k2_off82 v1281) a + S1x16x384.size a ≤ S64x16x384.size a)
theorem k2_off82_inb : ∀ (v1281 : BitVec 32) (k2_hw41 : k2_chk41 v1281), ∀ a, (k2_off82 v1281) a + S1x16x384.size a ≤ S64x16x384.size a := fun v1281 k2_hw41 => k2_hw41

def k2_off83 (i : grid2.Coords) : Fin 2 → Nat :=
  let arg0 : BitVec 32 := BitVec.ofNat 32 (i 0).val
  let c8_i32_305 : BitVec 32 := 8#32
  let v1278 : BitVec 32 := Scalar.muli arg0 c8_i32_305
  let c2_i32_306 : BitVec 32 := 2#32
  let v1279 : BitVec 32 := Scalar.addi v1278 c2_i32_306
  let v1285 : Index := Scalar.indexCast v1279
  let c1_310 : Index := 1#32
  ![v1285.toNat, 1]
def k2_off84 (v1286 : BitVec 32) : Fin 3 → Nat :=
  let v1287 : Index := Scalar.indexCast v1286
  let c0_311 : Index := 0#32
  let c0_312 : Index := 0#32
  ![v1287.toNat, 0, 0]

def k2_chk42 (v1286 : BitVec 32) : Prop :=
  (∀ a, (k2_off84 v1286) a + S1x16x384.size a ≤ S64x16x384.size a)
theorem k2_off84_inb : ∀ (v1286 : BitVec 32) (k2_hw42 : k2_chk42 v1286), ∀ a, (k2_off84 v1286) a + S1x16x384.size a ≤ S64x16x384.size a := fun v1286 k2_hw42 => k2_hw42

def k2_off85 (i : grid2.Coords) : Fin 2 → Nat :=
  let arg0 : BitVec 32 := BitVec.ofNat 32 (i 0).val
  let c8_i32_305 : BitVec 32 := 8#32
  let v1278 : BitVec 32 := Scalar.muli arg0 c8_i32_305
  let c2_i32_306 : BitVec 32 := 2#32
  let v1279 : BitVec 32 := Scalar.addi v1278 c2_i32_306
  let v1290 : Index := Scalar.indexCast v1279
  let c2_313 : Index := 2#32
  ![v1290.toNat, 2]
def k2_off86 (v1291 : BitVec 32) : Fin 3 → Nat :=
  let v1292 : Index := Scalar.indexCast v1291
  let c0_314 : Index := 0#32
  let c0_315 : Index := 0#32
  ![v1292.toNat, 0, 0]

def k2_chk43 (v1291 : BitVec 32) : Prop :=
  (∀ a, (k2_off86 v1291) a + S1x16x384.size a ≤ S64x16x384.size a)
theorem k2_off86_inb : ∀ (v1291 : BitVec 32) (k2_hw43 : k2_chk43 v1291), ∀ a, (k2_off86 v1291) a + S1x16x384.size a ≤ S64x16x384.size a := fun v1291 k2_hw43 => k2_hw43

def k2_off87 (i : grid2.Coords) : Fin 2 → Nat :=
  let arg0 : BitVec 32 := BitVec.ofNat 32 (i 0).val
  let c8_i32_305 : BitVec 32 := 8#32
  let v1278 : BitVec 32 := Scalar.muli arg0 c8_i32_305
  let c2_i32_306 : BitVec 32 := 2#32
  let v1279 : BitVec 32 := Scalar.addi v1278 c2_i32_306
  let v1295 : Index := Scalar.indexCast v1279
  let c3_316 : Index := 3#32
  ![v1295.toNat, 3]
def k2_off88 (v1296 : BitVec 32) : Fin 3 → Nat :=
  let v1297 : Index := Scalar.indexCast v1296
  let c0_317 : Index := 0#32
  let c0_318 : Index := 0#32
  ![v1297.toNat, 0, 0]

def k2_chk44 (v1296 : BitVec 32) : Prop :=
  (∀ a, (k2_off88 v1296) a + S1x16x384.size a ≤ S64x16x384.size a)
theorem k2_off88_inb : ∀ (v1296 : BitVec 32) (k2_hw44 : k2_chk44 v1296), ∀ a, (k2_off88 v1296) a + S1x16x384.size a ≤ S64x16x384.size a := fun v1296 k2_hw44 => k2_hw44

def k2_off89 (i : grid2.Coords) : Fin 2 → Nat :=
  let arg0 : BitVec 32 := BitVec.ofNat 32 (i 0).val
  let c8_i32_334 : BitVec 32 := 8#32
  let v1394 : BitVec 32 := Scalar.muli arg0 c8_i32_334
  let c3_i32_335 : BitVec 32 := 3#32
  let v1395 : BitVec 32 := Scalar.addi v1394 c3_i32_335
  let v1396 : Index := Scalar.indexCast v1395
  let c0_336 : Index := 0#32
  ![v1396.toNat, 0]
def k2_off90 (v1397 : BitVec 32) : Fin 3 → Nat :=
  let v1398 : Index := Scalar.indexCast v1397
  let c0_337 : Index := 0#32
  let c0_338 : Index := 0#32
  ![v1398.toNat, 0, 0]

def k2_chk45 (v1397 : BitVec 32) : Prop :=
  (∀ a, (k2_off90 v1397) a + S1x16x384.size a ≤ S64x16x384.size a)
theorem k2_off90_inb : ∀ (v1397 : BitVec 32) (k2_hw45 : k2_chk45 v1397), ∀ a, (k2_off90 v1397) a + S1x16x384.size a ≤ S64x16x384.size a := fun v1397 k2_hw45 => k2_hw45

def k2_off91 (i : grid2.Coords) : Fin 2 → Nat :=
  let arg0 : BitVec 32 := BitVec.ofNat 32 (i 0).val
  let c8_i32_334 : BitVec 32 := 8#32
  let v1394 : BitVec 32 := Scalar.muli arg0 c8_i32_334
  let c3_i32_335 : BitVec 32 := 3#32
  let v1395 : BitVec 32 := Scalar.addi v1394 c3_i32_335
  let v1401 : Index := Scalar.indexCast v1395
  let c1_339 : Index := 1#32
  ![v1401.toNat, 1]
def k2_off92 (v1402 : BitVec 32) : Fin 3 → Nat :=
  let v1403 : Index := Scalar.indexCast v1402
  let c0_340 : Index := 0#32
  let c0_341 : Index := 0#32
  ![v1403.toNat, 0, 0]

def k2_chk46 (v1402 : BitVec 32) : Prop :=
  (∀ a, (k2_off92 v1402) a + S1x16x384.size a ≤ S64x16x384.size a)
theorem k2_off92_inb : ∀ (v1402 : BitVec 32) (k2_hw46 : k2_chk46 v1402), ∀ a, (k2_off92 v1402) a + S1x16x384.size a ≤ S64x16x384.size a := fun v1402 k2_hw46 => k2_hw46

def k2_off93 (i : grid2.Coords) : Fin 2 → Nat :=
  let arg0 : BitVec 32 := BitVec.ofNat 32 (i 0).val
  let c8_i32_334 : BitVec 32 := 8#32
  let v1394 : BitVec 32 := Scalar.muli arg0 c8_i32_334
  let c3_i32_335 : BitVec 32 := 3#32
  let v1395 : BitVec 32 := Scalar.addi v1394 c3_i32_335
  let v1406 : Index := Scalar.indexCast v1395
  let c2_342 : Index := 2#32
  ![v1406.toNat, 2]
def k2_off94 (v1407 : BitVec 32) : Fin 3 → Nat :=
  let v1408 : Index := Scalar.indexCast v1407
  let c0_343 : Index := 0#32
  let c0_344 : Index := 0#32
  ![v1408.toNat, 0, 0]

def k2_chk47 (v1407 : BitVec 32) : Prop :=
  (∀ a, (k2_off94 v1407) a + S1x16x384.size a ≤ S64x16x384.size a)
theorem k2_off94_inb : ∀ (v1407 : BitVec 32) (k2_hw47 : k2_chk47 v1407), ∀ a, (k2_off94 v1407) a + S1x16x384.size a ≤ S64x16x384.size a := fun v1407 k2_hw47 => k2_hw47

def k2_off95 (i : grid2.Coords) : Fin 2 → Nat :=
  let arg0 : BitVec 32 := BitVec.ofNat 32 (i 0).val
  let c8_i32_334 : BitVec 32 := 8#32
  let v1394 : BitVec 32 := Scalar.muli arg0 c8_i32_334
  let c3_i32_335 : BitVec 32 := 3#32
  let v1395 : BitVec 32 := Scalar.addi v1394 c3_i32_335
  let v1411 : Index := Scalar.indexCast v1395
  let c3_345 : Index := 3#32
  ![v1411.toNat, 3]
def k2_off96 (v1412 : BitVec 32) : Fin 3 → Nat :=
  let v1413 : Index := Scalar.indexCast v1412
  let c0_346 : Index := 0#32
  let c0_347 : Index := 0#32
  ![v1413.toNat, 0, 0]

def k2_chk48 (v1412 : BitVec 32) : Prop :=
  (∀ a, (k2_off96 v1412) a + S1x16x384.size a ≤ S64x16x384.size a)
theorem k2_off96_inb : ∀ (v1412 : BitVec 32) (k2_hw48 : k2_chk48 v1412), ∀ a, (k2_off96 v1412) a + S1x16x384.size a ≤ S64x16x384.size a := fun v1412 k2_hw48 => k2_hw48

def k2_off97 (i : grid2.Coords) : Fin 2 → Nat :=
  let arg0 : BitVec 32 := BitVec.ofNat 32 (i 0).val
  let c8_i32_363 : BitVec 32 := 8#32
  let v1510 : BitVec 32 := Scalar.muli arg0 c8_i32_363
  let c4_i32_364 : BitVec 32 := 4#32
  let v1511 : BitVec 32 := Scalar.addi v1510 c4_i32_364
  let v1512 : Index := Scalar.indexCast v1511
  let c0_365 : Index := 0#32
  ![v1512.toNat, 0]
def k2_off98 (v1513 : BitVec 32) : Fin 3 → Nat :=
  let v1514 : Index := Scalar.indexCast v1513
  let c0_366 : Index := 0#32
  let c0_367 : Index := 0#32
  ![v1514.toNat, 0, 0]

def k2_chk49 (v1513 : BitVec 32) : Prop :=
  (∀ a, (k2_off98 v1513) a + S1x16x384.size a ≤ S64x16x384.size a)
theorem k2_off98_inb : ∀ (v1513 : BitVec 32) (k2_hw49 : k2_chk49 v1513), ∀ a, (k2_off98 v1513) a + S1x16x384.size a ≤ S64x16x384.size a := fun v1513 k2_hw49 => k2_hw49

def k2_off99 (i : grid2.Coords) : Fin 2 → Nat :=
  let arg0 : BitVec 32 := BitVec.ofNat 32 (i 0).val
  let c8_i32_363 : BitVec 32 := 8#32
  let v1510 : BitVec 32 := Scalar.muli arg0 c8_i32_363
  let c4_i32_364 : BitVec 32 := 4#32
  let v1511 : BitVec 32 := Scalar.addi v1510 c4_i32_364
  let v1517 : Index := Scalar.indexCast v1511
  let c1_368 : Index := 1#32
  ![v1517.toNat, 1]
def k2_off100 (v1518 : BitVec 32) : Fin 3 → Nat :=
  let v1519 : Index := Scalar.indexCast v1518
  let c0_369 : Index := 0#32
  let c0_370 : Index := 0#32
  ![v1519.toNat, 0, 0]

def k2_chk50 (v1518 : BitVec 32) : Prop :=
  (∀ a, (k2_off100 v1518) a + S1x16x384.size a ≤ S64x16x384.size a)
theorem k2_off100_inb : ∀ (v1518 : BitVec 32) (k2_hw50 : k2_chk50 v1518), ∀ a, (k2_off100 v1518) a + S1x16x384.size a ≤ S64x16x384.size a := fun v1518 k2_hw50 => k2_hw50

def k2_off101 (i : grid2.Coords) : Fin 2 → Nat :=
  let arg0 : BitVec 32 := BitVec.ofNat 32 (i 0).val
  let c8_i32_363 : BitVec 32 := 8#32
  let v1510 : BitVec 32 := Scalar.muli arg0 c8_i32_363
  let c4_i32_364 : BitVec 32 := 4#32
  let v1511 : BitVec 32 := Scalar.addi v1510 c4_i32_364
  let v1522 : Index := Scalar.indexCast v1511
  let c2_371 : Index := 2#32
  ![v1522.toNat, 2]
def k2_off102 (v1523 : BitVec 32) : Fin 3 → Nat :=
  let v1524 : Index := Scalar.indexCast v1523
  let c0_372 : Index := 0#32
  let c0_373 : Index := 0#32
  ![v1524.toNat, 0, 0]

def k2_chk51 (v1523 : BitVec 32) : Prop :=
  (∀ a, (k2_off102 v1523) a + S1x16x384.size a ≤ S64x16x384.size a)
theorem k2_off102_inb : ∀ (v1523 : BitVec 32) (k2_hw51 : k2_chk51 v1523), ∀ a, (k2_off102 v1523) a + S1x16x384.size a ≤ S64x16x384.size a := fun v1523 k2_hw51 => k2_hw51

def k2_off103 (i : grid2.Coords) : Fin 2 → Nat :=
  let arg0 : BitVec 32 := BitVec.ofNat 32 (i 0).val
  let c8_i32_363 : BitVec 32 := 8#32
  let v1510 : BitVec 32 := Scalar.muli arg0 c8_i32_363
  let c4_i32_364 : BitVec 32 := 4#32
  let v1511 : BitVec 32 := Scalar.addi v1510 c4_i32_364
  let v1527 : Index := Scalar.indexCast v1511
  let c3_374 : Index := 3#32
  ![v1527.toNat, 3]
def k2_off104 (v1528 : BitVec 32) : Fin 3 → Nat :=
  let v1529 : Index := Scalar.indexCast v1528
  let c0_375 : Index := 0#32
  let c0_376 : Index := 0#32
  ![v1529.toNat, 0, 0]

def k2_chk52 (v1528 : BitVec 32) : Prop :=
  (∀ a, (k2_off104 v1528) a + S1x16x384.size a ≤ S64x16x384.size a)
theorem k2_off104_inb : ∀ (v1528 : BitVec 32) (k2_hw52 : k2_chk52 v1528), ∀ a, (k2_off104 v1528) a + S1x16x384.size a ≤ S64x16x384.size a := fun v1528 k2_hw52 => k2_hw52

def k2_off105 (i : grid2.Coords) : Fin 2 → Nat :=
  let arg0 : BitVec 32 := BitVec.ofNat 32 (i 0).val
  let c8_i32_392 : BitVec 32 := 8#32
  let v1626 : BitVec 32 := Scalar.muli arg0 c8_i32_392
  let c5_i32_393 : BitVec 32 := 5#32
  let v1627 : BitVec 32 := Scalar.addi v1626 c5_i32_393
  let v1628 : Index := Scalar.indexCast v1627
  let c0_394 : Index := 0#32
  ![v1628.toNat, 0]
def k2_off106 (v1629 : BitVec 32) : Fin 3 → Nat :=
  let v1630 : Index := Scalar.indexCast v1629
  let c0_395 : Index := 0#32
  let c0_396 : Index := 0#32
  ![v1630.toNat, 0, 0]

def k2_chk53 (v1629 : BitVec 32) : Prop :=
  (∀ a, (k2_off106 v1629) a + S1x16x384.size a ≤ S64x16x384.size a)
theorem k2_off106_inb : ∀ (v1629 : BitVec 32) (k2_hw53 : k2_chk53 v1629), ∀ a, (k2_off106 v1629) a + S1x16x384.size a ≤ S64x16x384.size a := fun v1629 k2_hw53 => k2_hw53

def k2_off107 (i : grid2.Coords) : Fin 2 → Nat :=
  let arg0 : BitVec 32 := BitVec.ofNat 32 (i 0).val
  let c8_i32_392 : BitVec 32 := 8#32
  let v1626 : BitVec 32 := Scalar.muli arg0 c8_i32_392
  let c5_i32_393 : BitVec 32 := 5#32
  let v1627 : BitVec 32 := Scalar.addi v1626 c5_i32_393
  let v1633 : Index := Scalar.indexCast v1627
  let c1_397 : Index := 1#32
  ![v1633.toNat, 1]
def k2_off108 (v1634 : BitVec 32) : Fin 3 → Nat :=
  let v1635 : Index := Scalar.indexCast v1634
  let c0_398 : Index := 0#32
  let c0_399 : Index := 0#32
  ![v1635.toNat, 0, 0]

def k2_chk54 (v1634 : BitVec 32) : Prop :=
  (∀ a, (k2_off108 v1634) a + S1x16x384.size a ≤ S64x16x384.size a)
theorem k2_off108_inb : ∀ (v1634 : BitVec 32) (k2_hw54 : k2_chk54 v1634), ∀ a, (k2_off108 v1634) a + S1x16x384.size a ≤ S64x16x384.size a := fun v1634 k2_hw54 => k2_hw54

def k2_off109 (i : grid2.Coords) : Fin 2 → Nat :=
  let arg0 : BitVec 32 := BitVec.ofNat 32 (i 0).val
  let c8_i32_392 : BitVec 32 := 8#32
  let v1626 : BitVec 32 := Scalar.muli arg0 c8_i32_392
  let c5_i32_393 : BitVec 32 := 5#32
  let v1627 : BitVec 32 := Scalar.addi v1626 c5_i32_393
  let v1638 : Index := Scalar.indexCast v1627
  let c2_400 : Index := 2#32
  ![v1638.toNat, 2]
def k2_off110 (v1639 : BitVec 32) : Fin 3 → Nat :=
  let v1640 : Index := Scalar.indexCast v1639
  let c0_401 : Index := 0#32
  let c0_402 : Index := 0#32
  ![v1640.toNat, 0, 0]

def k2_chk55 (v1639 : BitVec 32) : Prop :=
  (∀ a, (k2_off110 v1639) a + S1x16x384.size a ≤ S64x16x384.size a)
theorem k2_off110_inb : ∀ (v1639 : BitVec 32) (k2_hw55 : k2_chk55 v1639), ∀ a, (k2_off110 v1639) a + S1x16x384.size a ≤ S64x16x384.size a := fun v1639 k2_hw55 => k2_hw55

def k2_off111 (i : grid2.Coords) : Fin 2 → Nat :=
  let arg0 : BitVec 32 := BitVec.ofNat 32 (i 0).val
  let c8_i32_392 : BitVec 32 := 8#32
  let v1626 : BitVec 32 := Scalar.muli arg0 c8_i32_392
  let c5_i32_393 : BitVec 32 := 5#32
  let v1627 : BitVec 32 := Scalar.addi v1626 c5_i32_393
  let v1643 : Index := Scalar.indexCast v1627
  let c3_403 : Index := 3#32
  ![v1643.toNat, 3]
def k2_off112 (v1644 : BitVec 32) : Fin 3 → Nat :=
  let v1645 : Index := Scalar.indexCast v1644
  let c0_404 : Index := 0#32
  let c0_405 : Index := 0#32
  ![v1645.toNat, 0, 0]

def k2_chk56 (v1644 : BitVec 32) : Prop :=
  (∀ a, (k2_off112 v1644) a + S1x16x384.size a ≤ S64x16x384.size a)
theorem k2_off112_inb : ∀ (v1644 : BitVec 32) (k2_hw56 : k2_chk56 v1644), ∀ a, (k2_off112 v1644) a + S1x16x384.size a ≤ S64x16x384.size a := fun v1644 k2_hw56 => k2_hw56

def k2_off113 (i : grid2.Coords) : Fin 2 → Nat :=
  let arg0 : BitVec 32 := BitVec.ofNat 32 (i 0).val
  let c8_i32_421 : BitVec 32 := 8#32
  let v1742 : BitVec 32 := Scalar.muli arg0 c8_i32_421
  let c6_i32_422 : BitVec 32 := 6#32
  let v1743 : BitVec 32 := Scalar.addi v1742 c6_i32_422
  let v1744 : Index := Scalar.indexCast v1743
  let c0_423 : Index := 0#32
  ![v1744.toNat, 0]
def k2_off114 (v1745 : BitVec 32) : Fin 3 → Nat :=
  let v1746 : Index := Scalar.indexCast v1745
  let c0_424 : Index := 0#32
  let c0_425 : Index := 0#32
  ![v1746.toNat, 0, 0]

def k2_chk57 (v1745 : BitVec 32) : Prop :=
  (∀ a, (k2_off114 v1745) a + S1x16x384.size a ≤ S64x16x384.size a)
theorem k2_off114_inb : ∀ (v1745 : BitVec 32) (k2_hw57 : k2_chk57 v1745), ∀ a, (k2_off114 v1745) a + S1x16x384.size a ≤ S64x16x384.size a := fun v1745 k2_hw57 => k2_hw57

def k2_off115 (i : grid2.Coords) : Fin 2 → Nat :=
  let arg0 : BitVec 32 := BitVec.ofNat 32 (i 0).val
  let c8_i32_421 : BitVec 32 := 8#32
  let v1742 : BitVec 32 := Scalar.muli arg0 c8_i32_421
  let c6_i32_422 : BitVec 32 := 6#32
  let v1743 : BitVec 32 := Scalar.addi v1742 c6_i32_422
  let v1749 : Index := Scalar.indexCast v1743
  let c1_426 : Index := 1#32
  ![v1749.toNat, 1]
def k2_off116 (v1750 : BitVec 32) : Fin 3 → Nat :=
  let v1751 : Index := Scalar.indexCast v1750
  let c0_427 : Index := 0#32
  let c0_428 : Index := 0#32
  ![v1751.toNat, 0, 0]

def k2_chk58 (v1750 : BitVec 32) : Prop :=
  (∀ a, (k2_off116 v1750) a + S1x16x384.size a ≤ S64x16x384.size a)
theorem k2_off116_inb : ∀ (v1750 : BitVec 32) (k2_hw58 : k2_chk58 v1750), ∀ a, (k2_off116 v1750) a + S1x16x384.size a ≤ S64x16x384.size a := fun v1750 k2_hw58 => k2_hw58

def k2_off117 (i : grid2.Coords) : Fin 2 → Nat :=
  let arg0 : BitVec 32 := BitVec.ofNat 32 (i 0).val
  let c8_i32_421 : BitVec 32 := 8#32
  let v1742 : BitVec 32 := Scalar.muli arg0 c8_i32_421
  let c6_i32_422 : BitVec 32 := 6#32
  let v1743 : BitVec 32 := Scalar.addi v1742 c6_i32_422
  let v1754 : Index := Scalar.indexCast v1743
  let c2_429 : Index := 2#32
  ![v1754.toNat, 2]
def k2_off118 (v1755 : BitVec 32) : Fin 3 → Nat :=
  let v1756 : Index := Scalar.indexCast v1755
  let c0_430 : Index := 0#32
  let c0_431 : Index := 0#32
  ![v1756.toNat, 0, 0]

def k2_chk59 (v1755 : BitVec 32) : Prop :=
  (∀ a, (k2_off118 v1755) a + S1x16x384.size a ≤ S64x16x384.size a)
theorem k2_off118_inb : ∀ (v1755 : BitVec 32) (k2_hw59 : k2_chk59 v1755), ∀ a, (k2_off118 v1755) a + S1x16x384.size a ≤ S64x16x384.size a := fun v1755 k2_hw59 => k2_hw59

def k2_off119 (i : grid2.Coords) : Fin 2 → Nat :=
  let arg0 : BitVec 32 := BitVec.ofNat 32 (i 0).val
  let c8_i32_421 : BitVec 32 := 8#32
  let v1742 : BitVec 32 := Scalar.muli arg0 c8_i32_421
  let c6_i32_422 : BitVec 32 := 6#32
  let v1743 : BitVec 32 := Scalar.addi v1742 c6_i32_422
  let v1759 : Index := Scalar.indexCast v1743
  let c3_432 : Index := 3#32
  ![v1759.toNat, 3]
def k2_off120 (v1760 : BitVec 32) : Fin 3 → Nat :=
  let v1761 : Index := Scalar.indexCast v1760
  let c0_433 : Index := 0#32
  let c0_434 : Index := 0#32
  ![v1761.toNat, 0, 0]

def k2_chk60 (v1760 : BitVec 32) : Prop :=
  (∀ a, (k2_off120 v1760) a + S1x16x384.size a ≤ S64x16x384.size a)
theorem k2_off120_inb : ∀ (v1760 : BitVec 32) (k2_hw60 : k2_chk60 v1760), ∀ a, (k2_off120 v1760) a + S1x16x384.size a ≤ S64x16x384.size a := fun v1760 k2_hw60 => k2_hw60

def k2_off121 (i : grid2.Coords) : Fin 2 → Nat :=
  let arg0 : BitVec 32 := BitVec.ofNat 32 (i 0).val
  let c8_i32_450 : BitVec 32 := 8#32
  let v1858 : BitVec 32 := Scalar.muli arg0 c8_i32_450
  let c7_i32_451 : BitVec 32 := 7#32
  let v1859 : BitVec 32 := Scalar.addi v1858 c7_i32_451
  let v1860 : Index := Scalar.indexCast v1859
  let c0_452 : Index := 0#32
  ![v1860.toNat, 0]
def k2_off122 (v1861 : BitVec 32) : Fin 3 → Nat :=
  let v1862 : Index := Scalar.indexCast v1861
  let c0_453 : Index := 0#32
  let c0_454 : Index := 0#32
  ![v1862.toNat, 0, 0]

def k2_chk61 (v1861 : BitVec 32) : Prop :=
  (∀ a, (k2_off122 v1861) a + S1x16x384.size a ≤ S64x16x384.size a)
theorem k2_off122_inb : ∀ (v1861 : BitVec 32) (k2_hw61 : k2_chk61 v1861), ∀ a, (k2_off122 v1861) a + S1x16x384.size a ≤ S64x16x384.size a := fun v1861 k2_hw61 => k2_hw61

def k2_off123 (i : grid2.Coords) : Fin 2 → Nat :=
  let arg0 : BitVec 32 := BitVec.ofNat 32 (i 0).val
  let c8_i32_450 : BitVec 32 := 8#32
  let v1858 : BitVec 32 := Scalar.muli arg0 c8_i32_450
  let c7_i32_451 : BitVec 32 := 7#32
  let v1859 : BitVec 32 := Scalar.addi v1858 c7_i32_451
  let v1865 : Index := Scalar.indexCast v1859
  let c1_455 : Index := 1#32
  ![v1865.toNat, 1]
def k2_off124 (v1866 : BitVec 32) : Fin 3 → Nat :=
  let v1867 : Index := Scalar.indexCast v1866
  let c0_456 : Index := 0#32
  let c0_457 : Index := 0#32
  ![v1867.toNat, 0, 0]

def k2_chk62 (v1866 : BitVec 32) : Prop :=
  (∀ a, (k2_off124 v1866) a + S1x16x384.size a ≤ S64x16x384.size a)
theorem k2_off124_inb : ∀ (v1866 : BitVec 32) (k2_hw62 : k2_chk62 v1866), ∀ a, (k2_off124 v1866) a + S1x16x384.size a ≤ S64x16x384.size a := fun v1866 k2_hw62 => k2_hw62

def k2_off125 (i : grid2.Coords) : Fin 2 → Nat :=
  let arg0 : BitVec 32 := BitVec.ofNat 32 (i 0).val
  let c8_i32_450 : BitVec 32 := 8#32
  let v1858 : BitVec 32 := Scalar.muli arg0 c8_i32_450
  let c7_i32_451 : BitVec 32 := 7#32
  let v1859 : BitVec 32 := Scalar.addi v1858 c7_i32_451
  let v1870 : Index := Scalar.indexCast v1859
  let c2_458 : Index := 2#32
  ![v1870.toNat, 2]
def k2_off126 (v1871 : BitVec 32) : Fin 3 → Nat :=
  let v1872 : Index := Scalar.indexCast v1871
  let c0_459 : Index := 0#32
  let c0_460 : Index := 0#32
  ![v1872.toNat, 0, 0]

def k2_chk63 (v1871 : BitVec 32) : Prop :=
  (∀ a, (k2_off126 v1871) a + S1x16x384.size a ≤ S64x16x384.size a)
theorem k2_off126_inb : ∀ (v1871 : BitVec 32) (k2_hw63 : k2_chk63 v1871), ∀ a, (k2_off126 v1871) a + S1x16x384.size a ≤ S64x16x384.size a := fun v1871 k2_hw63 => k2_hw63

def k2_off127 (i : grid2.Coords) : Fin 2 → Nat :=
  let arg0 : BitVec 32 := BitVec.ofNat 32 (i 0).val
  let c8_i32_450 : BitVec 32 := 8#32
  let v1858 : BitVec 32 := Scalar.muli arg0 c8_i32_450
  let c7_i32_451 : BitVec 32 := 7#32
  let v1859 : BitVec 32 := Scalar.addi v1858 c7_i32_451
  let v1875 : Index := Scalar.indexCast v1859
  let c3_461 : Index := 3#32
  ![v1875.toNat, 3]
def k2_off128 (v1876 : BitVec 32) : Fin 3 → Nat :=
  let v1877 : Index := Scalar.indexCast v1876
  let c0_462 : Index := 0#32
  let c0_463 : Index := 0#32
  ![v1877.toNat, 0, 0]

def k2_chk64 (v1876 : BitVec 32) : Prop :=
  (∀ a, (k2_off128 v1876) a + S1x16x384.size a ≤ S64x16x384.size a)
theorem k2_off128_inb : ∀ (v1876 : BitVec 32) (k2_hw64 : k2_chk64 v1876), ∀ a, (k2_off128 v1876) a + S1x16x384.size a ≤ S64x16x384.size a := fun v1876 k2_hw64 => k2_hw64

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc2_transform_7 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage2_0 : Fin 1 → Memref sig .tc .smem S64x4 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .smem S64x4 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8x784x192 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S8x784x192 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x16x384 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x16x384 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x28x224x192 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x28x224x192 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![16], ![false]⟩

def cc3_transform_0 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_1 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc3_transform_2 (i : grid3.Coords) : Fin 4 → Nat :=
  let arg0 : BitVec 32 := BitVec.ofNat 32 (i 0).val
  let c14_i32 : BitVec 32 := 14#32
  let v0 : BitVec 32 := Scalar.muli arg0 c14_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc3_transform_3 (i : grid3.Coords) : Fin 4 → Nat :=
  let arg0 : BitVec 32 := BitVec.ofNat 32 (i 0).val
  let c1_i32 : BitVec 32 := 1#32
  let v0 : BitVec 32 := Scalar.addi arg0 c1_i32
  let c14_i32 : BitVec 32 := 14#32
  let v1 : BitVec 32 := Scalar.muli v0 c14_i32
  let c223_i32 : BitVec 32 := 223#32
  let v2 : BitVec 32 := Scalar.minsi v1 c223_i32
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x14x224x192 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x14x192x224 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x192x224 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x192x224 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S192x192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S3x3x192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x192 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S192x192 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x192 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S1x14x192x224 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![16], ![false]⟩

def cc4_transform_0 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc4_transform_1 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc4_transform_2 (i : grid4.Coords) : Fin 4 → Nat :=
  let arg0 : BitVec 32 := BitVec.ofNat 32 (i 0).val
  let c14_i32 : BitVec 32 := 14#32
  let v0 : BitVec 32 := Scalar.muli arg0 c14_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc4_transform_3 (i : grid4.Coords) : Fin 4 → Nat :=
  let arg0 : BitVec 32 := BitVec.ofNat 32 (i 0).val
  let c1_i32 : BitVec 32 := 1#32
  let v0 : BitVec 32 := Scalar.addi arg0 c1_i32
  let c14_i32 : BitVec 32 := 14#32
  let v1 : BitVec 32 := Scalar.muli v0 c14_i32
  let c223_i32 : BitVec 32 := 223#32
  let v2 : BitVec 32 := Scalar.minsi v1 c223_i32
  let c0_i32 : BitVec 32 := 0#32
  let c0_i32_0 : BitVec 32 := 0#32
  let c0_i32_1 : BitVec 32 := 0#32
  let c0_i32_2 : BitVec 32 := 0#32
  ![c0_i32.toNat, v2.toNat, c0_i32_0.toNat, c0_i32_1.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage4_0 : Fin 2 → Memref sig .tc .vmem S1x14x224x192 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x14x192x224 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x1x192x224 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1x192x224 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S192x192 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S3x3x192 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x192 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S192x192 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x192 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S1x14x192x224 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]
-- ==== RefWholeIdeal.lean ====
abbrev S1x224x224x192 : Shape := ⟨4, ![1, 224, 224, 192]⟩
abbrev S192x576 : Shape := ⟨2, ![192, 576]⟩
abbrev S576 : Shape := ⟨1, ![576]⟩
abbrev S192x192 : Shape := ⟨2, ![192, 192]⟩
abbrev S192 : Shape := ⟨1, ![192]⟩
abbrev S192x1x3x3 : Shape := ⟨4, ![192, 1, 3, 3]⟩
abbrev S1x8x28x8x28x192 : Shape := ⟨6, ![1, 8, 28, 8, 28, 192]⟩
abbrev S1x8x8x28x28x192 : Shape := ⟨6, ![1, 8, 8, 28, 28, 192]⟩
abbrev S1x64x28x28x192 : Shape := ⟨5, ![1, 64, 28, 28, 192]⟩
abbrev S1x64x28x28x576 : Shape := ⟨5, ![1, 64, 28, 28, 576]⟩
abbrev S1x1x1x1x576 : Shape := ⟨5, ![1, 1, 1, 1, 576]⟩
abbrev S1x64x28x28x384 : Shape := ⟨5, ![1, 64, 28, 28, 384]⟩
abbrev S64x784x192 : Shape := ⟨3, ![64, 784, 192]⟩
abbrev S64x4x7x4x7x384 : Shape := ⟨6, ![64, 4, 7, 4, 7, 384]⟩
abbrev S_ : Shape := ⟨0, ![]⟩
abbrev S64x4x4x384 : Shape := ⟨4, ![64, 4, 4, 384]⟩
abbrev S64x16x384 : Shape := ⟨3, ![64, 16, 384]⟩
abbrev S1x64x192 : Shape := ⟨3, ![1, 64, 192]⟩
abbrev S64x1x192 : Shape := ⟨3, ![64, 1, 192]⟩
abbrev S64x192 : Shape := ⟨2, ![64, 192]⟩
abbrev S192x64 : Shape := ⟨2, ![192, 64]⟩
abbrev S64x64 : Shape := ⟨2, ![64, 64]⟩
abbrev S64 : Shape := ⟨1, ![64]⟩
abbrev S64x1 : Shape := ⟨2, ![64, 1]⟩
abbrev S64x2 : Shape := ⟨2, ![64, 2]⟩
abbrev S64x4 : Shape := ⟨2, ![64, 4]⟩
abbrev S64x4x1 : Shape := ⟨3, ![64, 4, 1]⟩
abbrev S64x4x16x384 : Shape := ⟨4, ![64, 4, 16, 384]⟩
abbrev S64x4x16x192 : Shape := ⟨4, ![64, 4, 16, 192]⟩
abbrev S64x4x16x8x24 : Shape := ⟨5, ![64, 4, 16, 8, 24]⟩
abbrev S64x8x24x4x16 : Shape := ⟨5, ![64, 8, 24, 4, 16]⟩
abbrev S64x8x24x64 : Shape := ⟨4, ![64, 8, 24, 64]⟩
abbrev S64x8x4x16x24 : Shape := ⟨5, ![64, 8, 4, 16, 24]⟩
abbrev S64x8x64x24 : Shape := ⟨4, ![64, 8, 64, 24]⟩
abbrev S64x784x8x24 : Shape := ⟨4, ![64, 784, 8, 24]⟩
abbrev S64x8x784x24 : Shape := ⟨4, ![64, 8, 784, 24]⟩
abbrev S64x8x784x64 : Shape := ⟨4, ![64, 8, 784, 64]⟩
abbrev S64x8x784 : Shape := ⟨3, ![64, 8, 784]⟩
abbrev S64x8x784x1 : Shape := ⟨4, ![64, 8, 784, 1]⟩
abbrev S1x8x8x8x28x28x24 : Shape := ⟨7, ![1, 8, 8, 8, 28, 28, 24]⟩
abbrev S1x8x28x8x28x8x24 : Shape := ⟨7, ![1, 8, 28, 8, 28, 8, 24]⟩
abbrev S1x1x1x192 : Shape := ⟨4, ![1, 1, 1, 192]⟩
abbrev S1x226x226x192 : Shape := ⟨4, ![1, 226, 226, 192]⟩
abbrev S192x1x1x1 : Shape := ⟨4, ![192, 1, 1, 1]⟩
abbrev S16x14x224x192 : Shape := ⟨4, ![16, 14, 224, 192]⟩
abbrev S16x14x192x224 : Shape := ⟨4, ![16, 14, 192, 224]⟩

abbrev nBuf : Space → Nat
  | .hbm => 390
  | .vmem => 0
  | .smem => 0
  | _ => 0

abbrev hbmTy0_0 (i : Nat) : BufTy := match i % 128 with
  | 0 => ⟨S1x224x224x192, .f32⟩
  | 1 => ⟨S1x224x224x192, .f32⟩
  | 2 => ⟨S192x576, .f32⟩
  | 3 => ⟨S576, .f32⟩
  | 4 => ⟨S192x192, .f32⟩
  | 5 => ⟨S192, .f32⟩
  | 6 => ⟨S192x1x3x3, .f32⟩
  | 7 => ⟨S192, .f32⟩
  | 8 => ⟨S1x8x28x8x28x192, .f32⟩
  | 9 => ⟨S1x8x8x28x28x192, .f32⟩
  | 10 => ⟨S1x64x28x28x192, .f32⟩
  | 11 => ⟨S1x64x28x28x576, .f32⟩
  | 12 => ⟨S1x1x1x1x576, .f32⟩
  | 13 => ⟨S1x64x28x28x576, .f32⟩
  | 14 => ⟨S1x64x28x28x576, .f32⟩
  | 15 => ⟨S1x64x28x28x192, .f32⟩
  | 16 => ⟨S1x64x28x28x384, .f32⟩
  | 17 => ⟨S64x784x192, .f32⟩
  | 18 => ⟨S64x784x192, .bf16⟩
  | 19 => ⟨S64x4x7x4x7x384, .f32⟩
  | 20 => ⟨S_, .f32⟩
  | 21 => ⟨S64x4x4x384, .f32⟩
  | 22 => ⟨S_, .f32⟩
  | 23 => ⟨S64x4x4x384, .f32⟩
  | 24 => ⟨S64x4x4x384, .f32⟩
  | 25 => ⟨S64x16x384, .f32⟩
  | 26 => ⟨S64x16x384, .bf16⟩
  | 27 => ⟨S_, .f32⟩
  | 28 => ⟨S1x64x192, .f32⟩
  | 29 => ⟨S_, .f32⟩
  | 30 => ⟨S1x64x192, .f32⟩
  | 31 => ⟨S1x64x192, .f32⟩
  | 32 => ⟨S64x1x192, .f32⟩
  | 33 => ⟨S1x64x28x28x192, .f32⟩
  | 34 => ⟨S_, .f32⟩
  | 35 => ⟨S1x64x192, .f32⟩
  | 36 => ⟨S_, .f32⟩
  | 37 => ⟨S1x64x192, .f32⟩
  | 38 => ⟨S1x64x192, .f32⟩
  | 39 => ⟨S64x1x192, .f32⟩
  | 40 => ⟨S1x8x28x8x28x192, .f32⟩
  | 41 => ⟨S1x8x8x28x28x192, .f32⟩
  | 42 => ⟨S1x64x28x28x192, .f32⟩
  | 43 => ⟨S1x64x28x28x576, .f32⟩
  | 44 => ⟨S1x1x1x1x576, .f32⟩
  | 45 => ⟨S1x64x28x28x576, .f32⟩
  | 46 => ⟨S1x64x28x28x576, .f32⟩
  | 47 => ⟨S1x64x28x28x192, .f32⟩
  | 48 => ⟨S1x64x28x28x384, .f32⟩
  | 49 => ⟨S64x784x192, .f32⟩
  | 50 => ⟨S64x784x192, .bf16⟩
  | 51 => ⟨S64x4x7x4x7x384, .f32⟩
  | 52 => ⟨S_, .f32⟩
  | 53 => ⟨S64x4x4x384, .f32⟩
  | 54 => ⟨S_, .f32⟩
  | 55 => ⟨S64x4x4x384, .f32⟩
  | 56 => ⟨S64x4x4x384, .f32⟩
  | 57 => ⟨S64x16x384, .f32⟩
  | 58 => ⟨S64x16x384, .bf16⟩
  | 59 => ⟨S_, .f32⟩
  | 60 => ⟨S1x64x192, .f32⟩
  | 61 => ⟨S_, .f32⟩
  | 62 => ⟨S1x64x192, .f32⟩
  | 63 => ⟨S1x64x192, .f32⟩
  | 64 => ⟨S64x1x192, .f32⟩
  | 65 => ⟨S1x64x28x28x192, .f32⟩
  | 66 => ⟨S_, .f32⟩
  | 67 => ⟨S1x64x192, .f32⟩
  | 68 => ⟨S_, .f32⟩
  | 69 => ⟨S1x64x192, .f32⟩
  | 70 => ⟨S1x64x192, .f32⟩
  | 71 => ⟨S64x1x192, .f32⟩
  | 72 => ⟨S64x192, .f32⟩
  | 73 => ⟨S64x192, .f32⟩
  | 74 => ⟨S64x192, .f32⟩
  | 75 => ⟨S64x192, .f32⟩
  | 76 => ⟨S_, .f32⟩
  | 77 => ⟨S64x192, .f32⟩
  | 78 => ⟨S64x192, .f32⟩
  | 79 => ⟨S192x64, .f32⟩
  | 80 => ⟨S64x64, .f32⟩
  | 81 => ⟨S64, .i32⟩
  | 82 => ⟨S_, .i32⟩
  | 83 => ⟨S64, .i32⟩
  | 84 => ⟨S64, .i1⟩
  | 85 => ⟨S_, .i32⟩
  | 86 => ⟨S64, .i32⟩
  | 87 => ⟨S64, .i32⟩
  | 88 => ⟨S64, .i32⟩
  | 89 => ⟨S_, .i32⟩
  | 90 => ⟨S64, .i32⟩
  | 91 => ⟨S64, .i1⟩
  | 92 => ⟨S_, .i32⟩
  | 93 => ⟨S64, .i32⟩
  | 94 => ⟨S64, .i32⟩
  | 95 => ⟨S64, .i32⟩
  | 96 => ⟨S64x1, .i32⟩
  | 97 => ⟨S64x1, .i32⟩
  | 98 => ⟨S64x2, .i32⟩
  | 99 => ⟨S_, .f32⟩
  | 100 => ⟨S64, .f32⟩
  | 101 => ⟨S64x64, .f32⟩
  | 102 => ⟨S64x4, .f32⟩
  | 103 => ⟨S64x4, .i32⟩
  | 104 => ⟨S_, .f32⟩
  | 105 => ⟨S64x192, .f32⟩
  | 106 => ⟨S64x192, .f32⟩
  | 107 => ⟨S192x64, .f32⟩
  | 108 => ⟨S64x64, .f32⟩
  | 109 => ⟨S64, .i32⟩
  | 110 => ⟨S_, .i32⟩
  | 111 => ⟨S64, .i32⟩
  | 112 => ⟨S64, .i1⟩
  | 113 => ⟨S_, .i32⟩
  | 114 => ⟨S64, .i32⟩
  | 115 => ⟨S64, .i32⟩
  | 116 => ⟨S64, .i32⟩
  | 117 => ⟨S_, .i32⟩
  | 118 => ⟨S64, .i32⟩
  | 119 => ⟨S64, .i1⟩
  | 120 => ⟨S_, .i32⟩
  | 121 => ⟨S64, .i32⟩
  | 122 => ⟨S64, .i32⟩
  | 123 => ⟨S64, .i32⟩
  | 124 => ⟨S64x1, .i32⟩
  | 125 => ⟨S64x1, .i32⟩
  | 126 => ⟨S64x2, .i32⟩
  | 127 => ⟨S_, .f32⟩
  | _ => ⟨S1x224x224x192, .f32⟩

abbrev hbmTy0_1 (i : Nat) : BufTy := match i % 128 with
  | 0 => ⟨S64, .f32⟩
  | 1 => ⟨S64x64, .f32⟩
  | 2 => ⟨S64x4, .f32⟩
  | 3 => ⟨S64x4, .i32⟩
  | 4 => ⟨S64x16x384, .f32⟩
  | 5 => ⟨S_, .i32⟩
  | 6 => ⟨S64x4, .i32⟩
  | 7 => ⟨S64x4, .i1⟩
  | 8 => ⟨S_, .i32⟩
  | 9 => ⟨S64x4, .i32⟩
  | 10 => ⟨S64x4, .i32⟩
  | 11 => ⟨S64x4, .i32⟩
  | 12 => ⟨S64x4x1, .i32⟩
  | 13 => ⟨S64x4x16x384, .f32⟩
  | 14 => ⟨S64x4x16x192, .f32⟩
  | 15 => ⟨S64x4x16x8x24, .f32⟩
  | 16 => ⟨S64x8x24x4x16, .f32⟩
  | 17 => ⟨S64x8x24x64, .f32⟩
  | 18 => ⟨S64x4x16x192, .f32⟩
  | 19 => ⟨S64x4x16x8x24, .f32⟩
  | 20 => ⟨S64x8x4x16x24, .f32⟩
  | 21 => ⟨S64x8x64x24, .f32⟩
  | 22 => ⟨S64x784x192, .f32⟩
  | 23 => ⟨S64x784x8x24, .f32⟩
  | 24 => ⟨S64x8x784x24, .f32⟩
  | 25 => ⟨S_, .f32⟩
  | 26 => ⟨S64x8x784x24, .f32⟩
  | 27 => ⟨S64x8x784x24, .f32⟩
  | 28 => ⟨S64x8x784x64, .f32⟩
  | 29 => ⟨S_, .f32⟩
  | 30 => ⟨S64x8x784, .f32⟩
  | 31 => ⟨S_, .f32⟩
  | 32 => ⟨S64x8x784, .f32⟩
  | 33 => ⟨S64x8x784, .f32⟩
  | 34 => ⟨S64x8x784x1, .f32⟩
  | 35 => ⟨S64x8x784x64, .f32⟩
  | 36 => ⟨S64x8x784x64, .f32⟩
  | 37 => ⟨S64x8x784x64, .f32⟩
  | 38 => ⟨S_, .f32⟩
  | 39 => ⟨S64x8x784, .f32⟩
  | 40 => ⟨S64x8x784x1, .f32⟩
  | 41 => ⟨S64x8x784x64, .f32⟩
  | 42 => ⟨S64x8x784x64, .f32⟩
  | 43 => ⟨S64x8x784x24, .f32⟩
  | 44 => ⟨S1x8x8x8x28x28x24, .f32⟩
  | 45 => ⟨S1x8x28x8x28x8x24, .f32⟩
  | 46 => ⟨S1x224x224x192, .f32⟩
  | 47 => ⟨S1x224x224x192, .bf16⟩
  | 48 => ⟨S64x16x384, .f32⟩
  | 49 => ⟨S_, .i32⟩
  | 50 => ⟨S64x4, .i32⟩
  | 51 => ⟨S64x4, .i1⟩
  | 52 => ⟨S_, .i32⟩
  | 53 => ⟨S64x4, .i32⟩
  | 54 => ⟨S64x4, .i32⟩
  | 55 => ⟨S64x4, .i32⟩
  | 56 => ⟨S64x4x1, .i32⟩
  | 57 => ⟨S64x4x16x384, .f32⟩
  | 58 => ⟨S64x4x16x192, .f32⟩
  | 59 => ⟨S64x4x16x8x24, .f32⟩
  | 60 => ⟨S64x8x24x4x16, .f32⟩
  | 61 => ⟨S64x8x24x64, .f32⟩
  | 62 => ⟨S64x4x16x192, .f32⟩
  | 63 => ⟨S64x4x16x8x24, .f32⟩
  | 64 => ⟨S64x8x4x16x24, .f32⟩
  | 65 => ⟨S64x8x64x24, .f32⟩
  | 66 => ⟨S64x784x192, .f32⟩
  | 67 => ⟨S64x784x8x24, .f32⟩
  | 68 => ⟨S64x8x784x24, .f32⟩
  | 69 => ⟨S_, .f32⟩
  | 70 => ⟨S64x8x784x24, .f32⟩
  | 71 => ⟨S64x8x784x24, .f32⟩
  | 72 => ⟨S64x8x784x64, .f32⟩
  | 73 => ⟨S_, .f32⟩
  | 74 => ⟨S64x8x784, .f32⟩
  | 75 => ⟨S_, .f32⟩
  | 76 => ⟨S64x8x784, .f32⟩
  | 77 => ⟨S64x8x784, .f32⟩
  | 78 => ⟨S64x8x784x1, .f32⟩
  | 79 => ⟨S64x8x784x64, .f32⟩
  | 80 => ⟨S64x8x784x64, .f32⟩
  | 81 => ⟨S64x8x784x64, .f32⟩
  | 82 => ⟨S_, .f32⟩
  | 83 => ⟨S64x8x784, .f32⟩
  | 84 => ⟨S64x8x784x1, .f32⟩
  | 85 => ⟨S64x8x784x64, .f32⟩
  | 86 => ⟨S64x8x784x64, .f32⟩
  | 87 => ⟨S64x8x784x24, .f32⟩
  | 88 => ⟨S1x8x8x8x28x28x24, .f32⟩
  | 89 => ⟨S1x8x28x8x28x8x24, .f32⟩
  | 90 => ⟨S1x224x224x192, .f32⟩
  | 91 => ⟨S1x224x224x192, .bf16⟩
  | 92 => ⟨S192x192, .f32⟩
  | 93 => ⟨S1x224x224x192, .f32⟩
  | 94 => ⟨S192, .f32⟩
  | 95 => ⟨S1x1x1x192, .f32⟩
  | 96 => ⟨S1x224x224x192, .f32⟩
  | 97 => ⟨S1x224x224x192, .f32⟩
  | 98 => ⟨S_, .i32⟩
  | 99 => ⟨S_, .f32⟩
  | 100 => ⟨S1x226x226x192, .f32⟩
  | 101 => ⟨S1x224x224x192, .f32⟩
  | 102 => ⟨S192x1x1x1, .f32⟩
  | 103 => ⟨S192, .f32⟩
  | 104 => ⟨S1x1x1x192, .f32⟩
  | 105 => ⟨S1x224x224x192, .f32⟩
  | 106 => ⟨S1x224x224x192, .f32⟩
  | 107 => ⟨S_, .f32⟩
  | 108 => ⟨S1x224x224x192, .f32⟩
  | 109 => ⟨S1x224x224x192, .f32⟩
  | 110 => ⟨S1x224x224x192, .f32⟩
  | 111 => ⟨S192x1x1x1, .f32⟩
  | 112 => ⟨S192, .f32⟩
  | 113 => ⟨S1x1x1x192, .f32⟩
  | 114 => ⟨S1x224x224x192, .f32⟩
  | 115 => ⟨S1x224x224x192, .f32⟩
  | 116 => ⟨S1x224x224x192, .f32⟩
  | 117 => ⟨S1x224x224x192, .f32⟩
  | 118 => ⟨S192x1x1x1, .f32⟩
  | 119 => ⟨S192, .f32⟩
  | 120 => ⟨S1x1x1x192, .f32⟩
  | 121 => ⟨S1x224x224x192, .f32⟩
  | 122 => ⟨S1x224x224x192, .f32⟩
  | 123 => ⟨S1x224x224x192, .f32⟩
  | 124 => ⟨S1x224x224x192, .f32⟩
  | 125 => ⟨S192x1x1x1, .f32⟩
  | 126 => ⟨S192, .f32⟩
  | 127 => ⟨S1x1x1x192, .f32⟩
  | _ => ⟨S1x224x224x192, .f32⟩

abbrev hbmTy0_2 (i : Nat) : BufTy := match i % 128 with
  | 0 => ⟨S1x224x224x192, .f32⟩
  | 1 => ⟨S1x224x224x192, .f32⟩
  | 2 => ⟨S1x224x224x192, .f32⟩
  | 3 => ⟨S1x224x224x192, .f32⟩
  | 4 => ⟨S192x1x1x1, .f32⟩
  | 5 => ⟨S192, .f32⟩
  | 6 => ⟨S1x1x1x192, .f32⟩
  | 7 => ⟨S1x224x224x192, .f32⟩
  | 8 => ⟨S1x224x224x192, .f32⟩
  | 9 => ⟨S1x224x224x192, .f32⟩
  | 10 => ⟨S1x224x224x192, .f32⟩
  | 11 => ⟨S192x1x1x1, .f32⟩
  | 12 => ⟨S192, .f32⟩
  | 13 => ⟨S1x1x1x192, .f32⟩
  | 14 => ⟨S1x224x224x192, .f32⟩
  | 15 => ⟨S1x224x224x192, .f32⟩
  | 16 => ⟨S1x224x224x192, .f32⟩
  | 17 => ⟨S1x224x224x192, .f32⟩
  | 18 => ⟨S192x1x1x1, .f32⟩
  | 19 => ⟨S192, .f32⟩
  | 20 => ⟨S1x1x1x192, .f32⟩
  | 21 => ⟨S1x224x224x192, .f32⟩
  | 22 => ⟨S1x224x224x192, .f32⟩
  | 23 => ⟨S1x224x224x192, .f32⟩
  | 24 => ⟨S1x224x224x192, .f32⟩
  | 25 => ⟨S192x1x1x1, .f32⟩
  | 26 => ⟨S192, .f32⟩
  | 27 => ⟨S1x1x1x192, .f32⟩
  | 28 => ⟨S1x224x224x192, .f32⟩
  | 29 => ⟨S1x224x224x192, .f32⟩
  | 30 => ⟨S1x224x224x192, .f32⟩
  | 31 => ⟨S1x224x224x192, .f32⟩
  | 32 => ⟨S192x1x1x1, .f32⟩
  | 33 => ⟨S192, .f32⟩
  | 34 => ⟨S1x1x1x192, .f32⟩
  | 35 => ⟨S1x224x224x192, .f32⟩
  | 36 => ⟨S1x224x224x192, .f32⟩
  | 37 => ⟨S1x224x224x192, .f32⟩
  | 38 => ⟨S1x1x1x192, .f32⟩
  | 39 => ⟨S1x224x224x192, .f32⟩
  | 40 => ⟨S1x224x224x192, .f32⟩
  | 41 => ⟨S1x224x224x192, .f32⟩
  | 42 => ⟨S1x224x224x192, .f32⟩
  | 43 => ⟨S1x224x224x192, .f32⟩
  | 44 => ⟨S1x1x1x192, .f32⟩
  | 45 => ⟨S1x224x224x192, .f32⟩
  | 46 => ⟨S1x224x224x192, .f32⟩
  | 47 => ⟨S16x14x224x192, .f32⟩
  | 48 => ⟨S16x14x192x224, .f32⟩
  | 49 => ⟨S192x192, .f32⟩
  | 50 => ⟨S1x224x224x192, .f32⟩
  | 51 => ⟨S192, .f32⟩
  | 52 => ⟨S1x1x1x192, .f32⟩
  | 53 => ⟨S1x224x224x192, .f32⟩
  | 54 => ⟨S1x224x224x192, .f32⟩
  | 55 => ⟨S_, .i32⟩
  | 56 => ⟨S_, .f32⟩
  | 57 => ⟨S1x226x226x192, .f32⟩
  | 58 => ⟨S1x224x224x192, .f32⟩
  | 59 => ⟨S192x1x1x1, .f32⟩
  | 60 => ⟨S192, .f32⟩
  | 61 => ⟨S1x1x1x192, .f32⟩
  | 62 => ⟨S1x224x224x192, .f32⟩
  | 63 => ⟨S1x224x224x192, .f32⟩
  | 64 => ⟨S_, .f32⟩
  | 65 => ⟨S1x224x224x192, .f32⟩
  | 66 => ⟨S1x224x224x192, .f32⟩
  | 67 => ⟨S1x224x224x192, .f32⟩
  | 68 => ⟨S192x1x1x1, .f32⟩
  | 69 => ⟨S192, .f32⟩
  | 70 => ⟨S1x1x1x192, .f32⟩
  | 71 => ⟨S1x224x224x192, .f32⟩
  | 72 => ⟨S1x224x224x192, .f32⟩
  | 73 => ⟨S1x224x224x192, .f32⟩
  | 74 => ⟨S1x224x224x192, .f32⟩
  | 75 => ⟨S192x1x1x1, .f32⟩
  | 76 => ⟨S192, .f32⟩
  | 77 => ⟨S1x1x1x192, .f32⟩
  | 78 => ⟨S1x224x224x192, .f32⟩
  | 79 => ⟨S1x224x224x192, .f32⟩
  | 80 => ⟨S1x224x224x192, .f32⟩
  | 81 => ⟨S1x224x224x192, .f32⟩
  | 82 => ⟨S192x1x1x1, .f32⟩
  | 83 => ⟨S192, .f32⟩
  | 84 => ⟨S1x1x1x192, .f32⟩
  | 85 => ⟨S1x224x224x192, .f32⟩
  | 86 => ⟨S1x224x224x192, .f32⟩
  | 87 => ⟨S1x224x224x192, .f32⟩
  | 88 => ⟨S1x224x224x192, .f32⟩
  | 89 => ⟨S192x1x1x1, .f32⟩
  | 90 => ⟨S192, .f32⟩
  | 91 => ⟨S1x1x1x192, .f32⟩
  | 92 => ⟨S1x224x224x192, .f32⟩
  | 93 => ⟨S1x224x224x192, .f32⟩
  | 94 => ⟨S1x224x224x192, .f32⟩
  | 95 => ⟨S1x224x224x192, .f32⟩
  | 96 => ⟨S192x1x1x1, .f32⟩
  | 97 => ⟨S192, .f32⟩
  | 98 => ⟨S1x1x1x192, .f32⟩
  | 99 => ⟨S1x224x224x192, .f32⟩
  | 100 => ⟨S1x224x224x192, .f32⟩
  | 101 => ⟨S1x224x224x192, .f32⟩
  | 102 => ⟨S1x224x224x192, .f32⟩
  | 103 => ⟨S192x1x1x1, .f32⟩
  | 104 => ⟨S192, .f32⟩
  | 105 => ⟨S1x1x1x192, .f32⟩
  | 106 => ⟨S1x224x224x192, .f32⟩
  | 107 => ⟨S1x224x224x192, .f32⟩
  | 108 => ⟨S1x224x224x192, .f32⟩
  | 109 => ⟨S1x224x224x192, .f32⟩
  | 110 => ⟨S192x1x1x1, .f32⟩
  | 111 => ⟨S192, .f32⟩
  | 112 => ⟨S1x1x1x192, .f32⟩
  | 113 => ⟨S1x224x224x192, .f32⟩
  | 114 => ⟨S1x224x224x192, .f32⟩
  | 115 => ⟨S1x224x224x192, .f32⟩
  | 116 => ⟨S1x224x224x192, .f32⟩
  | 117 => ⟨S192x1x1x1, .f32⟩
  | 118 => ⟨S192, .f32⟩
  | 119 => ⟨S1x1x1x192, .f32⟩
  | 120 => ⟨S1x224x224x192, .f32⟩
  | 121 => ⟨S1x224x224x192, .f32⟩
  | 122 => ⟨S1x224x224x192, .f32⟩
  | 123 => ⟨S1x1x1x192, .f32⟩
  | 124 => ⟨S1x224x224x192, .f32⟩
  | 125 => ⟨S1x224x224x192, .f32⟩
  | 126 => ⟨S1x224x224x192, .f32⟩
  | 127 => ⟨S1x224x224x192, .f32⟩
  | _ => ⟨S1x224x224x192, .f32⟩

abbrev hbmTy0_3 (i : Nat) : BufTy := match i % 128 with
  | 0 => ⟨S1x224x224x192, .f32⟩
  | 1 => ⟨S1x1x1x192, .f32⟩
  | 2 => ⟨S1x224x224x192, .f32⟩
  | 3 => ⟨S1x224x224x192, .f32⟩
  | 4 => ⟨S16x14x224x192, .f32⟩
  | 5 => ⟨S16x14x192x224, .f32⟩
  | _ => ⟨S1x224x224x192, .f32⟩

abbrev hbmTy (i : Nat) : BufTy := match i / 128 with
  | 0 => hbmTy0_0 i
  | 1 => hbmTy0_1 i
  | 2 => hbmTy0_2 i
  | 3 => hbmTy0_3 i
  | _ => ⟨S1x224x224x192, .f32⟩

abbrev bufTy : (tb : Table) → Fin (tcTables nBuf tb) → BufTy
  | .hbm, ⟨i, _⟩ => hbmTy i
  | _, _ => ⟨S1x224x224x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_cst_10 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_v75 : Ref sig .tc := ⟨.hbm, 101, rfl⟩
abbrev main_values : Ref sig .tc := ⟨.hbm, 102, rfl⟩
abbrev main_indices : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_17 : Ref sig .tc := ⟨.hbm, 110, rfl⟩
abbrev main_v81 : Ref sig .tc := ⟨.hbm, 111, rfl⟩
abbrev main_v82 : Ref sig .tc := ⟨.hbm, 112, rfl⟩
abbrev main_c_18 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_19 : Ref sig .tc := ⟨.hbm, 117, rfl⟩
abbrev main_v86 : Ref sig .tc := ⟨.hbm, 118, rfl⟩
abbrev main_v87 : Ref sig .tc := ⟨.hbm, 119, rfl⟩
abbrev main_c_20 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_21 : Ref sig .tc := ⟨.hbm, 127, rfl⟩
abbrev main_v94 : Ref sig .tc := ⟨.hbm, 128, rfl⟩
abbrev main_v95 : Ref sig .tc := ⟨.hbm, 129, rfl⟩
abbrev main_values_22 : Ref sig .tc := ⟨.hbm, 130, rfl⟩
abbrev main_indices_23 : Ref sig .tc := ⟨.hbm, 131, rfl⟩
abbrev main_v96 : Ref sig .tc := ⟨.hbm, 132, rfl⟩
abbrev main_c_24 : Ref sig .tc := ⟨.hbm, 133, rfl⟩
abbrev main_v97 : Ref sig .tc := ⟨.hbm, 134, rfl⟩
abbrev main_v98 : Ref sig .tc := ⟨.hbm, 135, rfl⟩
abbrev main_c_25 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_cst_26 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_cst_27 : Ref sig .tc := ⟨.hbm, 157, rfl⟩
abbrev main_v118 : Ref sig .tc := ⟨.hbm, 158, rfl⟩
abbrev main_cst_28 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_29 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_c_30 : Ref sig .tc := ⟨.hbm, 177, rfl⟩
abbrev main_v135 : Ref sig .tc := ⟨.hbm, 178, rfl⟩
abbrev main_v136 : Ref sig .tc := ⟨.hbm, 179, rfl⟩
abbrev main_c_31 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_cst_32 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_cst_33 : Ref sig .tc := ⟨.hbm, 201, rfl⟩
abbrev main_v156 : Ref sig .tc := ⟨.hbm, 202, rfl⟩
abbrev main_cst_34 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_cst_35 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_c_36 : Ref sig .tc := ⟨.hbm, 226, rfl⟩
abbrev main_call0_v0 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_cst_37 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_v206 : Ref sig .tc := ⟨.hbm, 257, rfl⟩
abbrev main_v207 : Ref sig .tc := ⟨.hbm, 258, rfl⟩
abbrev main_v208 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_v218 : Ref sig .tc := ⟨.hbm, 269, rfl⟩
abbrev main_v219 : Ref sig .tc := ⟨.hbm, 270, rfl⟩
abbrev main_v220 : Ref sig .tc := ⟨.hbm, 271, rfl⟩
abbrev main_v221 : Ref sig .tc := ⟨.hbm, 272, rfl⟩
abbrev main_v222 : Ref sig .tc := ⟨.hbm, 273, rfl⟩
abbrev main_v223 : Ref sig .tc := ⟨.hbm, 274, rfl⟩
abbrev main_v224 : Ref sig .tc := ⟨.hbm, 275, rfl⟩
abbrev main_v225 : Ref sig .tc := ⟨.hbm, 276, rfl⟩
abbrev main_v226 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_v242 : Ref sig .tc := ⟨.hbm, 293, rfl⟩
abbrev main_v243 : Ref sig .tc := ⟨.hbm, 294, rfl⟩
abbrev main_v244 : Ref sig .tc := ⟨.hbm, 295, rfl⟩
abbrev main_v245 : Ref sig .tc := ⟨.hbm, 296, rfl⟩
abbrev main_v246 : Ref sig .tc := ⟨.hbm, 297, rfl⟩
abbrev main_v247 : Ref sig .tc := ⟨.hbm, 298, rfl⟩
abbrev main_v248 : Ref sig .tc := ⟨.hbm, 299, rfl⟩
abbrev main_v249 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_v255 : Ref sig .tc := ⟨.hbm, 306, rfl⟩
abbrev main_v256 : Ref sig .tc := ⟨.hbm, 307, rfl⟩
abbrev main_v257 : Ref sig .tc := ⟨.hbm, 308, rfl⟩
abbrev main_v258 : Ref sig .tc := ⟨.hbm, 309, rfl⟩
abbrev main_v259 : Ref sig .tc := ⟨.hbm, 310, rfl⟩
abbrev main_c_38 : Ref sig .tc := ⟨.hbm, 311, rfl⟩
abbrev main_call1_v0 : Ref sig .tc := ⟨.hbm, 312, rfl⟩
abbrev main_v260 : Ref sig .tc := ⟨.hbm, 313, rfl⟩
abbrev main_v261 : Ref sig .tc := ⟨.hbm, 314, rfl⟩
abbrev main_v262 : Ref sig .tc := ⟨.hbm, 315, rfl⟩
abbrev main_v263 : Ref sig .tc := ⟨.hbm, 316, rfl⟩
abbrev main_v264 : Ref sig .tc := ⟨.hbm, 317, rfl⟩
abbrev main_v265 : Ref sig .tc := ⟨.hbm, 318, rfl⟩
abbrev main_v266 : Ref sig .tc := ⟨.hbm, 319, rfl⟩
abbrev main_cst_39 : Ref sig .tc := ⟨.hbm, 320, rfl⟩
abbrev main_v267 : Ref sig .tc := ⟨.hbm, 321, rfl⟩
abbrev main_v268 : Ref sig .tc := ⟨.hbm, 322, rfl⟩
abbrev main_v269 : Ref sig .tc := ⟨.hbm, 323, rfl⟩
abbrev main_v270 : Ref sig .tc := ⟨.hbm, 324, rfl⟩
abbrev main_v271 : Ref sig .tc := ⟨.hbm, 325, rfl⟩
abbrev main_v272 : Ref sig .tc := ⟨.hbm, 326, rfl⟩
abbrev main_v273 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_v287 : Ref sig .tc := ⟨.hbm, 341, rfl⟩
abbrev main_v288 : Ref sig .tc := ⟨.hbm, 342, rfl⟩
abbrev main_v289 : Ref sig .tc := ⟨.hbm, 343, rfl⟩
abbrev main_v290 : Ref sig .tc := ⟨.hbm, 344, rfl⟩
abbrev main_v291 : Ref sig .tc := ⟨.hbm, 345, rfl⟩
abbrev main_v292 : Ref sig .tc := ⟨.hbm, 346, rfl⟩
abbrev main_v293 : Ref sig .tc := ⟨.hbm, 347, rfl⟩
abbrev main_v294 : Ref sig .tc := ⟨.hbm, 348, rfl⟩
abbrev main_v295 : Ref sig .tc := ⟨.hbm, 349, rfl⟩
abbrev main_v296 : Ref sig .tc := ⟨.hbm, 350, rfl⟩
abbrev main_v297 : Ref sig .tc := ⟨.hbm, 351, rfl⟩
abbrev main_v298 : Ref sig .tc := ⟨.hbm, 352, rfl⟩
abbrev main_v299 : Ref sig .tc := ⟨.hbm, 353, rfl⟩
abbrev main_v300 : Ref sig .tc := ⟨.hbm, 354, rfl⟩
abbrev main_v301 : Ref sig .tc := ⟨.hbm, 355, rfl⟩
abbrev main_v302 : Ref sig .tc := ⟨.hbm, 356, rfl⟩
abbrev main_v303 : Ref sig .tc := ⟨.hbm, 357, rfl⟩
abbrev main_v304 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_v309 : Ref sig .tc := ⟨.hbm, 363, rfl⟩
abbrev main_v310 : Ref sig .tc := ⟨.hbm, 364, rfl⟩
abbrev main_v311 : Ref sig .tc := ⟨.hbm, 365, rfl⟩
abbrev main_v312 : Ref sig .tc := ⟨.hbm, 366, rfl⟩
abbrev main_v313 : Ref sig .tc := ⟨.hbm, 367, rfl⟩
abbrev main_v314 : Ref sig .tc := ⟨.hbm, 368, rfl⟩
abbrev main_v315 : Ref sig .tc := ⟨.hbm, 369, rfl⟩
abbrev main_v316 : Ref sig .tc := ⟨.hbm, 370, rfl⟩
abbrev main_v317 : Ref sig .tc := ⟨.hbm, 371, rfl⟩
abbrev main_v318 : Ref sig .tc := ⟨.hbm, 372, rfl⟩
abbrev main_v319 : Ref sig .tc := ⟨.hbm, 373, rfl⟩
abbrev main_v320 : Ref sig .tc := ⟨.hbm, 374, rfl⟩
abbrev main_v321 : Ref sig .tc := ⟨.hbm, 375, rfl⟩
abbrev main_v322 : Ref sig .tc := ⟨.hbm, 376, rfl⟩
abbrev main_v323 : Ref sig .tc := ⟨.hbm, 377, rfl⟩
abbrev main_v324 : Ref sig .tc := ⟨.hbm, 378, rfl⟩
abbrev main_v325 : Ref sig .tc := ⟨.hbm, 379, rfl⟩
abbrev main_v326 : Ref sig .tc := ⟨.hbm, 380, rfl⟩
abbrev main_v327 : Ref sig .tc := ⟨.hbm, 381, rfl⟩
abbrev main_v328 : Ref sig .tc := ⟨.hbm, 382, rfl⟩
abbrev main_v329 : Ref sig .tc := ⟨.hbm, 383, rfl⟩
abbrev main_v330 : Ref sig .tc := ⟨.hbm, 384, rfl⟩
abbrev main_v331 : Ref sig .tc := ⟨.hbm, 385, rfl⟩
abbrev main_v332 : Ref sig .tc := ⟨.hbm, 386, rfl⟩
abbrev main_v333 : Ref sig .tc := ⟨.hbm, 387, rfl⟩
abbrev main_v334 : Ref sig .tc := ⟨.hbm, 388, rfl⟩
abbrev main_v335 : Ref sig .tc := ⟨.hbm, 389, rfl⟩

abbrev nD : Nat := 1
abbrev τ : Topo := Topo.v7x

variable {F : FTy → Type} [FloatOps F]
-- ==== Proof.WholeProj.lean ====
/-
  The projection call of the whole program: what its body leaves in each result window, and the pipeline's proof data, at any contents `V` of the buffers.
-/
module

public import proofs.«01_k».proof.Proof.Gen.Whole.Launch
public import proofs.«01_k».proof.Proof.Gen.Whole.Skeleton
public import proofs.«01_k».proof.Proof.Gen.Whole.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Whole.Hand

open Cert.Whole Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S192x576 := Rect.unit (s := S192x576) ![0, 0] S192x576.size inb_S192x576_S192x576_0_0
abbrev r0_1 : Rect S1x576 := Rect.unit (s := S1x576) ![0, 0] S1x576.size inb_S1x576_S1x576_0_0
abbrev r0_2 : Rect S16x784 := Rect.unit (s := S16x784) ![0, 0] S16x784.size inb_S16x784_S16x784_0_0
abbrev r0_3 : Rect S1x28x192x224 := Rect.unit (s := S1x28x192x224) ![0, 0, 0, 0] S1x28x192x224.size inb_S1x28x192x224_S1x28x192x224_0_0_0_0
abbrev r0_4 : Rect S8x784x192 := Rect.unit (s := S8x784x192) ![0, 0, 0] S8x784x192.size inb_S8x784x192_S8x784x192_0_0_0
abbrev r0_5 : Rect S8x16x384 := Rect.unit (s := S8x16x384) ![0, 0, 0] S8x16x384.size inb_S8x16x384_S8x16x384_0_0_0
abbrev r0_6 : Rect S8x1x192 := Rect.unit (s := S8x1x192) ![0, 0, 0] S8x1x192.size inb_S8x1x192_S8x1x192_0_0_0

def k0_pay114 (x0 : Vec F S1x28x192x224 .f32) (x1 : Vec F S1x28x192x224 .f32) (x2 : Vec F S192x576 .f32) (x3 : Vec F S1x576 .f32) (x4 : Vec F S16x784 .f32) : FVec F S1x576 .f32 :=
  k0_pay4 (View.ld x3 r0_1)
def k0_pay115 (x0 : Vec F S1x28x192x224 .f32) (x1 : Vec F S1x28x192x224 .f32) (x2 : Vec F S192x576 .f32) (x3 : Vec F S1x576 .f32) (x4 : Vec F S16x784 .f32) : FVec F S16x784 .f32 :=
  k0_pay5 (View.ld x4 r0_2)
def k0_pay116 (x0 : Vec F S1x28x192x224 .f32) (x1 : Vec F S1x28x192x224 .f32) (x2 : Vec F S192x576 .f32) (x3 : Vec F S1x576 .f32) (x4 : Vec F S16x784 .f32) : FVec F S28x224x192 .f32 :=
  k0_pay6 (View.ld x0 r0_3)
def k0_pay117 (x0 : Vec F S1x28x192x224 .f32) (x1 : Vec F S1x28x192x224 .f32) (x2 : Vec F S192x576 .f32) (x3 : Vec F S1x576 .f32) (x4 : Vec F S16x784 .f32) : FVec F S28x28x192 .f32 :=
  k0_pay19 (View.ld x0 r0_3)
def k0_pay118 (x0 : Vec F S1x28x192x224 .f32) (x1 : Vec F S1x28x192x224 .f32) (x2 : Vec F S192x576 .f32) (x3 : Vec F S1x576 .f32) (x4 : Vec F S16x784 .f32) : FVec F S28x28x192 .f32 :=
  k0_pay38 (k0_pay116 x0 x1 x2 x3 x4)
def k0_pay119 (x0 : Vec F S1x28x192x224 .f32) (x1 : Vec F S1x28x192x224 .f32) (x2 : Vec F S192x576 .f32) (x3 : Vec F S1x576 .f32) (x4 : Vec F S16x784 .f32) : FVec F S28x224x192 .f32 :=
  k0_pay62 (View.ld x1 r0_3)
def k0_pay120 (x0 : Vec F S1x28x192x224 .f32) (x1 : Vec F S1x28x192x224 .f32) (x2 : Vec F S192x576 .f32) (x3 : Vec F S1x576 .f32) (x4 : Vec F S16x784 .f32) : FVec F S1x576 .f32 :=
  k0_pay78 (View.ld x2 r0_0) (k0_pay114 x0 x1 x2 x3 x4) (View.ld x1 r0_3)
def k0_pay121 (x0 : Vec F S1x28x192x224 .f32) (x1 : Vec F S1x28x192x224 .f32) (x2 : Vec F S192x576 .f32) (x3 : Vec F S1x576 .f32) (x4 : Vec F S16x784 .f32) : FVec F S1x576 .f32 :=
  k0_pay96 (View.ld x2 r0_0) (k0_pay114 x0 x1 x2 x3 x4) (k0_pay119 x0 x1 x2 x3 x4)

def out0_5 (x0 : Vec F S1x28x192x224 .f32) (x1 : Vec F S1x28x192x224 .f32) (x2 : Vec F S192x576 .f32) (x3 : Vec F S1x576 .f32) (x4 : Vec F S16x784 .f32) : Vec F S8x784x192 .bf16 :=
  View.canon [⟨r0_4, k0_pay58 (k0_pay14 (View.ld x2 r0_0) (View.ld x3 r0_1) (View.ld x0 r0_3)) (k0_pay21 (View.ld x2 r0_0) (k0_pay114 x0 x1 x2 x3 x4) (k0_pay117 x0 x1 x2 x3 x4)) (k0_pay27 (View.ld x2 r0_0) (k0_pay114 x0 x1 x2 x3 x4) (k0_pay116 x0 x1 x2 x3 x4)) (k0_pay33 (View.ld x2 r0_0) (k0_pay114 x0 x1 x2 x3 x4) (k0_pay116 x0 x1 x2 x3 x4)) (k0_pay40 (View.ld x2 r0_0) (k0_pay114 x0 x1 x2 x3 x4) (k0_pay118 x0 x1 x2 x3 x4)) (k0_pay46 (View.ld x2 r0_0) (k0_pay114 x0 x1 x2 x3 x4) (k0_pay116 x0 x1 x2 x3 x4)) (k0_pay52 (View.ld x2 r0_0) (k0_pay114 x0 x1 x2 x3 x4) (k0_pay116 x0 x1 x2 x3 x4)) (k0_pay57 (k0_pay8 (View.ld x2 r0_0) (View.ld x3 r0_1) (View.ld x0 r0_3)))⟩]

theorem cover0_5 (p0 : Vec F S8x784x192 .bf16) (y : S8x784x192.Idx) :
    ∃ pc ∈ ([⟨r0_4, p0⟩] : List (View.Piece (Elt F) S8x784x192 .bf16)), y ∈ pc.1.set :=
  View.cover_of_tiled [⟨r0_4, p0⟩] S8x784x192.size (by rfl) y

def out0_6 (x0 : Vec F S1x28x192x224 .f32) (x1 : Vec F S1x28x192x224 .f32) (x2 : Vec F S192x576 .f32) (x3 : Vec F S1x576 .f32) (x4 : Vec F S16x784 .f32) : Vec F S8x784x192 .bf16 :=
  View.canon [⟨r0_4, k0_pay109 (View.ld x2 r0_0) (k0_pay114 x0 x1 x2 x3 x4) (k0_pay119 x0 x1 x2 x3 x4) (k0_pay64 (View.ld x2 r0_0) (k0_pay114 x0 x1 x2 x3 x4) (View.ld x1 r0_3)) (k0_pay70 (View.ld x2 r0_0) (k0_pay114 x0 x1 x2 x3 x4) (View.ld x1 r0_3)) (k0_pay76 (View.ld x2 r0_0) (k0_pay114 x0 x1 x2 x3 x4) (View.ld x1 r0_3)) (k0_pay82 (View.ld x2 r0_0) (k0_pay114 x0 x1 x2 x3 x4) (k0_pay119 x0 x1 x2 x3 x4)) (k0_pay88 (View.ld x2 r0_0) (k0_pay114 x0 x1 x2 x3 x4) (k0_pay119 x0 x1 x2 x3 x4)) (k0_pay94 (View.ld x2 r0_0) (k0_pay114 x0 x1 x2 x3 x4) (k0_pay119 x0 x1 x2 x3 x4))⟩]

theorem cover0_6 (p0 : Vec F S8x784x192 .bf16) (y : S8x784x192.Idx) :
    ∃ pc ∈ ([⟨r0_4, p0⟩] : List (View.Piece (Elt F) S8x784x192 .bf16)), y ∈ pc.1.set :=
  View.cover_of_tiled [⟨r0_4, p0⟩] S8x784x192.size (by rfl) y

def out0_7 (x0 : Vec F S1x28x192x224 .f32) (x1 : Vec F S1x28x192x224 .f32) (x2 : Vec F S192x576 .f32) (x3 : Vec F S1x576 .f32) (x4 : Vec F S16x784 .f32) : Vec F S8x16x384 .bf16 :=
  View.canon [⟨r0_5, k0_pay59 (k0_pay9 (View.ld x2 r0_0) (View.ld x3 r0_1) (View.ld x4 r0_2) (View.ld x0 r0_3)) (k0_pay15 (View.ld x2 r0_0) (View.ld x3 r0_1) (View.ld x4 r0_2) (View.ld x0 r0_3)) (k0_pay22 (View.ld x2 r0_0) (k0_pay114 x0 x1 x2 x3 x4) (k0_pay115 x0 x1 x2 x3 x4) (k0_pay117 x0 x1 x2 x3 x4)) (k0_pay28 (View.ld x2 r0_0) (k0_pay114 x0 x1 x2 x3 x4) (k0_pay115 x0 x1 x2 x3 x4) (k0_pay116 x0 x1 x2 x3 x4)) (k0_pay34 (View.ld x2 r0_0) (k0_pay114 x0 x1 x2 x3 x4) (k0_pay115 x0 x1 x2 x3 x4) (k0_pay116 x0 x1 x2 x3 x4)) (k0_pay41 (View.ld x2 r0_0) (k0_pay114 x0 x1 x2 x3 x4) (k0_pay115 x0 x1 x2 x3 x4) (k0_pay118 x0 x1 x2 x3 x4)) (k0_pay47 (View.ld x2 r0_0) (k0_pay114 x0 x1 x2 x3 x4) (k0_pay115 x0 x1 x2 x3 x4) (k0_pay116 x0 x1 x2 x3 x4)) (k0_pay53 (View.ld x2 r0_0) (k0_pay114 x0 x1 x2 x3 x4) (k0_pay115 x0 x1 x2 x3 x4) (k0_pay116 x0 x1 x2 x3 x4))⟩]

theorem cover0_7 (p0 : Vec F S8x16x384 .bf16) (y : S8x16x384.Idx) :
    ∃ pc ∈ ([⟨r0_5, p0⟩] : List (View.Piece (Elt F) S8x16x384 .bf16)), y ∈ pc.1.set :=
  View.cover_of_tiled [⟨r0_5, p0⟩] S8x16x384.size (by rfl) y

def out0_8 (x0 : Vec F S1x28x192x224 .f32) (x1 : Vec F S1x28x192x224 .f32) (x2 : Vec F S192x576 .f32) (x3 : Vec F S1x576 .f32) (x4 : Vec F S16x784 .f32) : Vec F S8x16x384 .bf16 :=
  View.canon [⟨r0_5, k0_pay1 (k0_pay89 (View.ld x2 r0_0) (k0_pay114 x0 x1 x2 x3 x4) (k0_pay115 x0 x1 x2 x3 x4) (k0_pay119 x0 x1 x2 x3 x4)) (k0_pay95 (View.ld x2 r0_0) (k0_pay114 x0 x1 x2 x3 x4) (k0_pay115 x0 x1 x2 x3 x4) (k0_pay119 x0 x1 x2 x3 x4)) (k0_pay100 (View.ld x2 r0_0) (k0_pay114 x0 x1 x2 x3 x4) (k0_pay115 x0 x1 x2 x3 x4) (k0_pay119 x0 x1 x2 x3 x4)) (k0_pay105 (View.ld x2 r0_0) (k0_pay114 x0 x1 x2 x3 x4) (k0_pay115 x0 x1 x2 x3 x4) (k0_pay119 x0 x1 x2 x3 x4)) (k0_pay110 (k0_pay65 (View.ld x2 r0_0) (k0_pay114 x0 x1 x2 x3 x4) (k0_pay115 x0 x1 x2 x3 x4) (View.ld x1 r0_3))) (k0_pay111 (k0_pay71 (View.ld x2 r0_0) (k0_pay114 x0 x1 x2 x3 x4) (k0_pay115 x0 x1 x2 x3 x4) (View.ld x1 r0_3))) (k0_pay112 (k0_pay77 (View.ld x2 r0_0) (k0_pay114 x0 x1 x2 x3 x4) (k0_pay115 x0 x1 x2 x3 x4) (View.ld x1 r0_3))) (k0_pay113 (k0_pay83 (View.ld x2 r0_0) (k0_pay114 x0 x1 x2 x3 x4) (k0_pay115 x0 x1 x2 x3 x4) (k0_pay119 x0 x1 x2 x3 x4)))⟩]

theorem cover0_8 (p0 : Vec F S8x16x384 .bf16) (y : S8x16x384.Idx) :
    ∃ pc ∈ ([⟨r0_5, p0⟩] : List (View.Piece (Elt F) S8x16x384 .bf16)), y ∈ pc.1.set :=
  View.cover_of_tiled [⟨r0_5, p0⟩] S8x16x384.size (by rfl) y

def out0_9 (x0 : Vec F S1x28x192x224 .f32) (x1 : Vec F S1x28x192x224 .f32) (x2 : Vec F S192x576 .f32) (x3 : Vec F S1x576 .f32) (x4 : Vec F S16x784 .f32) : Vec F S8x1x192 .f32 :=
  View.canon [⟨r0_6, k0_pay60 (k0_pay11 (View.ld x2 r0_0) (View.ld x3 r0_1) (View.ld x0 r0_3)) (k0_pay17 (View.ld x2 r0_0) (View.ld x3 r0_1) (View.ld x0 r0_3)) (k0_pay24 (View.ld x2 r0_0) (k0_pay114 x0 x1 x2 x3 x4) (k0_pay117 x0 x1 x2 x3 x4)) (k0_pay30 (View.ld x2 r0_0) (k0_pay114 x0 x1 x2 x3 x4) (k0_pay116 x0 x1 x2 x3 x4)) (k0_pay36 (View.ld x2 r0_0) (k0_pay114 x0 x1 x2 x3 x4) (k0_pay116 x0 x1 x2 x3 x4)) (k0_pay43 (View.ld x2 r0_0) (k0_pay114 x0 x1 x2 x3 x4) (k0_pay118 x0 x1 x2 x3 x4)) (k0_pay49 (View.ld x2 r0_0) (k0_pay114 x0 x1 x2 x3 x4) (k0_pay116 x0 x1 x2 x3 x4)) (k0_pay55 (View.ld x2 r0_0) (k0_pay114 x0 x1 x2 x3 x4) (k0_pay116 x0 x1 x2 x3 x4))⟩]

theorem cover0_9 (p0 : Vec F S8x1x192 .f32) (y : S8x1x192.Idx) :
    ∃ pc ∈ ([⟨r0_6, p0⟩] : List (View.Piece (Elt F) S8x1x192 .f32)), y ∈ pc.1.set :=
  View.cover_of_tiled [⟨r0_6, p0⟩] S8x1x192.size (by rfl) y

def out0_10 (x0 : Vec F S1x28x192x224 .f32) (x1 : Vec F S1x28x192x224 .f32) (x2 : Vec F S192x576 .f32) (x3 : Vec F S1x576 .f32) (x4 : Vec F S16x784 .f32) : Vec F S8x1x192 .f32 :=
  View.canon [⟨r0_6, k0_pay61 (k0_pay12 (View.ld x2 r0_0) (View.ld x3 r0_1) (View.ld x0 r0_3)) (k0_pay18 (View.ld x2 r0_0) (View.ld x3 r0_1) (View.ld x0 r0_3)) (k0_pay25 (View.ld x2 r0_0) (k0_pay114 x0 x1 x2 x3 x4) (k0_pay117 x0 x1 x2 x3 x4)) (k0_pay31 (View.ld x2 r0_0) (k0_pay114 x0 x1 x2 x3 x4) (k0_pay116 x0 x1 x2 x3 x4)) (k0_pay37 (View.ld x2 r0_0) (k0_pay114 x0 x1 x2 x3 x4) (k0_pay116 x0 x1 x2 x3 x4)) (k0_pay44 (View.ld x2 r0_0) (k0_pay114 x0 x1 x2 x3 x4) (k0_pay118 x0 x1 x2 x3 x4)) (k0_pay50 (View.ld x2 r0_0) (k0_pay114 x0 x1 x2 x3 x4) (k0_pay116 x0 x1 x2 x3 x4)) (k0_pay56 (View.ld x2 r0_0) (k0_pay114 x0 x1 x2 x3 x4) (k0_pay116 x0 x1 x2 x3 x4))⟩]

theorem cover0_10 (p0 : Vec F S8x1x192 .f32) (y : S8x1x192.Idx) :
    ∃ pc ∈ ([⟨r0_6, p0⟩] : List (View.Piece (Elt F) S8x1x192 .f32)), y ∈ pc.1.set :=
  View.cover_of_tiled [⟨r0_6, p0⟩] S8x1x192.size (by rfl) y

def out0_11 (x0 : Vec F S1x28x192x224 .f32) (x1 : Vec F S1x28x192x224 .f32) (x2 : Vec F S192x576 .f32) (x3 : Vec F S1x576 .f32) (x4 : Vec F S16x784 .f32) : Vec F S8x1x192 .f32 :=
  View.canon [⟨r0_6, k0_pay2 (k0_pay67 (View.ld x2 r0_0) (k0_pay114 x0 x1 x2 x3 x4) (View.ld x1 r0_3)) (k0_pay73 (View.ld x2 r0_0) (k0_pay114 x0 x1 x2 x3 x4) (View.ld x1 r0_3)) (k0_pay79 (k0_pay120 x0 x1 x2 x3 x4)) (k0_pay85 (View.ld x2 r0_0) (k0_pay114 x0 x1 x2 x3 x4) (k0_pay119 x0 x1 x2 x3 x4)) (k0_pay91 (View.ld x2 r0_0) (k0_pay114 x0 x1 x2 x3 x4) (k0_pay119 x0 x1 x2 x3 x4)) (k0_pay97 (k0_pay121 x0 x1 x2 x3 x4)) (k0_pay102 (View.ld x2 r0_0) (k0_pay114 x0 x1 x2 x3 x4) (k0_pay119 x0 x1 x2 x3 x4)) (k0_pay107 (View.ld x2 r0_0) (k0_pay114 x0 x1 x2 x3 x4) (k0_pay119 x0 x1 x2 x3 x4))⟩]

theorem cover0_11 (p0 : Vec F S8x1x192 .f32) (y : S8x1x192.Idx) :
    ∃ pc ∈ ([⟨r0_6, p0⟩] : List (View.Piece (Elt F) S8x1x192 .f32)), y ∈ pc.1.set :=
  View.cover_of_tiled [⟨r0_6, p0⟩] S8x1x192.size (by rfl) y

def out0_12 (x0 : Vec F S1x28x192x224 .f32) (x1 : Vec F S1x28x192x224 .f32) (x2 : Vec F S192x576 .f32) (x3 : Vec F S1x576 .f32) (x4 : Vec F S16x784 .f32) : Vec F S8x1x192 .f32 :=
  View.canon [⟨r0_6, k0_pay3 (k0_pay68 (View.ld x2 r0_0) (k0_pay114 x0 x1 x2 x3 x4) (View.ld x1 r0_3)) (k0_pay74 (View.ld x2 r0_0) (k0_pay114 x0 x1 x2 x3 x4) (View.ld x1 r0_3)) (k0_pay80 (k0_pay120 x0 x1 x2 x3 x4)) (k0_pay86 (View.ld x2 r0_0) (k0_pay114 x0 x1 x2 x3 x4) (k0_pay119 x0 x1 x2 x3 x4)) (k0_pay92 (View.ld x2 r0_0) (k0_pay114 x0 x1 x2 x3 x4) (k0_pay119 x0 x1 x2 x3 x4)) (k0_pay98 (k0_pay121 x0 x1 x2 x3 x4)) (k0_pay103 (View.ld x2 r0_0) (k0_pay114 x0 x1 x2 x3 x4) (k0_pay119 x0 x1 x2 x3 x4)) (k0_pay108 (View.ld x2 r0_0) (k0_pay114 x0 x1 x2 x3 x4) (k0_pay119 x0 x1 x2 x3 x4))⟩]

theorem cover0_12 (p0 : Vec F S8x1x192 .f32) (y : S8x1x192.Idx) :
    ∃ pc ∈ ([⟨r0_6, p0⟩] : List (View.Piece (Elt F) S8x1x192 .f32)), y ∈ pc.1.set :=
  View.cover_of_tiled [⟨r0_6, p0⟩] S8x1x192.size (by rfl) y

set_option maxHeartbeats 1000000 in
theorem sound_kernel0 (c : Dev nD) (E : Set ℕ) (i : grid0.Coords) (arg1 : Memref sig .tc .vmem S1x28x192x224 .f32) (harg1 : arg1.IsWhole) (arg2 : Memref sig .tc .vmem S1x28x192x224 .f32) (harg2 : arg2.IsWhole) (arg3 : Memref sig .tc .vmem S192x576 .f32) (harg3 : arg3.IsWhole) (arg4 : Memref sig .tc .vmem S1x576 .f32) (harg4 : arg4.IsWhole) (arg5 : Memref sig .tc .vmem S16x784 .f32) (harg5 : arg5.IsWhole) (arg6 : Memref sig .tc .vmem S8x784x192 .bf16) (harg6 : arg6.IsWhole) (arg7 : Memref sig .tc .vmem S8x784x192 .bf16) (harg7 : arg7.IsWhole) (arg8 : Memref sig .tc .vmem S8x16x384 .bf16) (harg8 : arg8.IsWhole) (arg9 : Memref sig .tc .vmem S8x16x384 .bf16) (harg9 : arg9.IsWhole) (arg10 : Memref sig .tc .vmem S8x1x192 .f32) (harg10 : arg10.IsWhole) (arg11 : Memref sig .tc .vmem S8x1x192 .f32) (harg11 : arg11.IsWhole) (arg12 : Memref sig .tc .vmem S8x1x192 .f32) (harg12 : arg12.IsWhole) (arg13 : Memref sig .tc .vmem S8x1x192 .f32) (harg13 : arg13.IsWhole)
    (x0 : Vec F S1x28x192x224 .f32) (x1 : Vec F S1x28x192x224 .f32) (x2 : Vec F S192x576 .f32) (x3 : Vec F S1x576 .f32) (x4 : Vec F S16x784 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4) ∗ owns (c : Thread nD τ) arg8 fullShare (out0_7 x0 x1 x2 x3 x4) ∗ owns (c : Thread nD τ) arg9 fullShare (out0_8 x0 x1 x2 x3 x4) ∗ owns (c : Thread nD τ) arg10 fullShare (out0_9 x0 x1 x2 x3 x4) ∗ owns (c : Thread nD τ) arg11 fullShare (out0_10 x0 x1 x2 x3 x4) ∗ owns (c : Thread nD τ) arg12 fullShare (out0_11 x0 x1 x2 x3 x4) ∗ owns (c : Thread nD τ) arg13 fullShare (out0_12 x0 x1 x2 x3 x4)) -∗ K ⟨⟩))
      ⊢ wp frame (wpE (defs₀ (F := F)) Variants.none c none) E (cc0__stage_a_body i arg1 harg1 arg2 harg2 arg3 harg3 arg4 harg4 arg5 harg5 arg6 harg6 arg7 harg7 arg8 harg8 arg9 harg9 arg10 harg10 arg11 harg11 arg12 harg12 arg13 harg13) K := by
  simp only [cc0__stage_a_body_eq_skeleton]; unfold cc0__stage_a_body_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover0_5 _)).trans ?_
    rfl
  isplitl [H6]
  · iexists _; isplitr
    swap; · iexact H6
    ipureintro
    refine (View.read_writes_eq_canon _ _ _ (cover0_6 _)).trans ?_
    rfl
  isplitl [H7]
  · iexists _; isplitr
    swap; · iexact H7
    ipureintro
    refine (View.read_writes_eq_canon _ _ _ (cover0_7 _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  isplitl [H10]
  · iexists _; isplitr
    swap; · iexact H10
    ipureintro
    refine (View.read_writes_eq_canon _ _ _ (cover0_10 _)).trans ?_
    rfl
  isplitl [H11]
  · iexists _; isplitr
    swap; · iexact H11
    ipureintro
    refine (View.read_writes_eq_canon _ _ _ (cover0_11 _)).trans ?_
    rfl
  iexists _; isplitr
  swap; · iexact H12
  ipureintro
  refine (View.read_writes_eq_canon _ _ _ (cover0_12 _)).trans ?_
  rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
    | ⟨7, _⟩ => out0_7 (iblk0 V c 0 t) (iblk0 V c 1 t) (iblk0 V c 2 t) (iblk0 V c 3 t) (iblk0 V c 4 t)
    | ⟨8, _⟩ => out0_8 (iblk0 V c 0 t) (iblk0 V c 1 t) (iblk0 V c 2 t) (iblk0 V c 3 t) (iblk0 V c 4 t)
    | ⟨9, _⟩ => out0_9 (iblk0 V c 0 t) (iblk0 V c 1 t) (iblk0 V c 2 t) (iblk0 V c 3 t) (iblk0 V c 4 t)
    | ⟨10, _⟩ => out0_10 (iblk0 V c 0 t) (iblk0 V c 1 t) (iblk0 V c 2 t) (iblk0 V c 3 t) (iblk0 V c 4 t)
    | ⟨11, _⟩ => out0_11 (iblk0 V c 0 t) (iblk0 V c 1 t) (iblk0 V c 2 t) (iblk0 V c 3 t) (iblk0 V c 4 t)
    | ⟨12, _⟩ => out0_12 (iblk0 V c 0 t) (iblk0 V c 1 t) (iblk0 V c 2 t) (iblk0 V c 3 t) (iblk0 V c 4 t)
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel0 c Set.univ (grid0.coords t) _ _ _ _ _ _ _ _ _ _ _ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Whole.Hand

end
-- ==== Proof.WholeRouter.lean ====
/-
  The router call of the whole program: what its body leaves in each result window, and the pipeline's proof data, at any contents `V` of the buffers.
-/
module

public import proofs.«01_k».proof.Proof.Gen.Whole.Launch
public import proofs.«01_k».proof.Proof.Gen.Whole.Skeleton
public import proofs.«01_k».proof.Proof.Gen.Whole.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Whole.Hand

open Cert.Whole Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S64x192 := Rect.unit (s := S64x192) ![0, 0] S64x192.size inb_S64x192_S64x192_0_0
abbrev r1_1 : Rect S64x4 := Rect.unit (s := S64x4) ![0, 0] S64x4.size inb_S64x4_S64x4_0_0

def k1_pay13 (x0 : Vec F S64x192 .f32) (x1 : Vec F S64x192 .f32) (x2 : Vec F S64x192 .f32) (x3 : Vec F S64x192 .f32) : IVec S64x64 1 :=
  k1_pay2

def out1_4 (x0 : Vec F S64x192 .f32) (x1 : Vec F S64x192 .f32) (x2 : Vec F S64x192 .f32) (x3 : Vec F S64x192 .f32) : Vec F S64x4 .i32 :=
  View.canon [⟨r1_1, k1_pay9 (iota .tc S64x64 32 [1] iota_S64x64_d1_w32) (k1_pay4 (View.ld x2 r1_0) (View.ld x1 r1_0)) (k1_pay6 (View.ld x2 r1_0) (View.ld x1 r1_0)) (k1_pay7 (View.ld x2 r1_0) (View.ld x1 r1_0)) (k1_pay8 (View.ld x2 r1_0) (View.ld x1 r1_0))⟩]

theorem cover1_4 (p0 : Vec F S64x4 .i32) (y : S64x4.Idx) :
    ∃ pc ∈ ([⟨r1_1, p0⟩] : List (View.Piece (Elt F) S64x4 .i32)), y ∈ pc.1.set :=
  View.cover_of_tiled [⟨r1_1, p0⟩] S64x4.size (by rfl) y

def out1_5 (x0 : Vec F S64x192 .f32) (x1 : Vec F S64x192 .f32) (x2 : Vec F S64x192 .f32) (x3 : Vec F S64x192 .f32) : Vec F S64x4 .i32 :=
  View.canon [⟨r1_1, k1_pay1 (k1_pay10 (k1_pay13 x0 x1 x2 x3) (View.ld x0 r1_0) (View.ld x3 r1_0)) (iota .tc S64x64 32 [1] iota_S64x64_d1_w32) (k1_pay11 (k1_pay13 x0 x1 x2 x3) (View.ld x0 r1_0) (View.ld x3 r1_0)) (k1_pay12 (k1_pay13 x0 x1 x2 x3) (View.ld x0 r1_0) (View.ld x3 r1_0))⟩]

theorem cover1_5 (p0 : Vec F S64x4 .i32) (y : S64x4.Idx) :
    ∃ pc ∈ ([⟨r1_1, p0⟩] : List (View.Piece (Elt F) S64x4 .i32)), y ∈ pc.1.set :=
  View.cover_of_tiled [⟨r1_1, p0⟩] S64x4.size (by rfl) y

set_option maxHeartbeats 1000000 in
theorem sound_kernel1 (c : Dev nD) (E : Set ℕ) (arg0 : Memref sig .tc .vmem S64x192 .f32) (harg0 : arg0.IsWhole) (arg1 : Memref sig .tc .vmem S64x192 .f32) (harg1 : arg1.IsWhole) (arg2 : Memref sig .tc .vmem S64x192 .f32) (harg2 : arg2.IsWhole) (arg3 : Memref sig .tc .vmem S64x192 .f32) (harg3 : arg3.IsWhole) (arg4 : Memref sig .tc .vmem S64x4 .i32) (harg4 : arg4.IsWhole) (arg5 : Memref sig .tc .vmem S64x4 .i32) (harg5 : arg5.IsWhole)
    (x0 : Vec F S64x192 .f32) (x1 : Vec F S64x192 .f32) (x2 : Vec F S64x192 .f32) (x3 : Vec F S64x192 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3) ∗ owns (c : Thread nD τ) arg5 fullShare (out1_5 x0 x1 x2 x3)) -∗ K ⟨⟩))
      ⊢ wp frame (wpE (defs₀ (F := F)) Variants.none c none) E (cc1__router_body arg0 harg0 arg1 harg1 arg2 harg2 arg3 harg3 arg4 harg4 arg5 harg5) K := by
  simp only [cc1__router_body_eq_skeleton]; unfold cc1__router_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1_4 _)).trans ?_
    rfl
  iexists _; isplitr
  swap; · iexact H5
  ipureintro
  refine (View.read_writes_eq_canon _ _ _ (cover1_5 _)).trans ?_
  rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Whole.Hand

end
-- ==== Proof.WholeAttn.lean ====
/-
  The attention call of the whole program, wherever the index words it finds name rows of the table.
-/
module

public import proofs.«01_k».proof.Proof.Gen.Whole.Launch
public import proofs.«01_k».proof.Proof.Gen.Whole.Skeleton
public import proofs.«01_k».proof.Proof.Gen.Whole.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Pointwise
public import Idealize.ShloMosaic.Lib.Claim
public import Idealize.ShloMosaic.Lib.Pipeline.ValueKit

@[expose] public section

set_option maxRecDepth 16384

noncomputable section

namespace Cert.Whole.Hand

open Cert.Whole Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body leaves in its two result windows -/

/-- The head masks of the printed text: the eight column masks of the keys and the eight row masks of the values. -/
abbrev rowMask0 : FVec F S192x1 .f32 := k2_pay7 k2_pay2
abbrev rowMask1 : FVec F S192x1 .f32 := k2_pay8 k2_pay2
abbrev rowMask2 : FVec F S192x1 .f32 := k2_pay9 k2_pay2
abbrev rowMask3 : FVec F S192x1 .f32 := k2_pay10 k2_pay2
abbrev rowMask4 : FVec F S192x1 .f32 := k2_pay11 k2_pay2
abbrev rowMask5 : FVec F S192x1 .f32 := k2_pay12 k2_pay2
abbrev rowMask6 : FVec F S192x1 .f32 := k2_pay13 k2_pay2
abbrev rowMask7 : FVec F S192x1 .f32 := k2_pay14 k2_pay2
abbrev colMask0 : FVec F S1x192 .f32 := k2_pay15 k2_pay3 k2_pay4 k2_pay5
abbrev colMask1 : FVec F S1x192 .f32 := k2_pay16 k2_pay3 k2_pay4 k2_pay5
abbrev colMask2 : FVec F S1x192 .f32 := k2_pay17 k2_pay3 k2_pay4 k2_pay5
abbrev colMask3 : FVec F S1x192 .f32 := k2_pay18 (k2_pay6 k2_pay3 k2_pay4 k2_pay5)
abbrev colMask4 : FVec F S1x192 .f32 := k2_pay19 (k2_pay6 k2_pay3 k2_pay4 k2_pay5)
abbrev colMask5 : FVec F S1x192 .f32 := k2_pay20 (k2_pay6 k2_pay3 k2_pay4 k2_pay5)
abbrev colMask6 : FVec F S1x192 .f32 := k2_pay21 (k2_pay6 k2_pay3 k2_pay4 k2_pay5)
abbrev colMask7 : FVec F S1x192 .f32 := k2_pay22 (k2_pay6 k2_pay3 k2_pay4 k2_pay5)

/-- One window's attention: a window of queries against four rows of keys and values. -/
def attend (q : Vec F S1x784x192 .bf16) (a0 a1 a2 a3 : Vec F S1x16x384 .bf16) : FVec F S28x28x192 .bf16 :=
  k2_pay29
    (k2_pay27 colMask0 colMask1 colMask2 colMask3 colMask4 colMask5 colMask6 colMask7 (k2_pay23 a0) (k2_pay24 a1) (k2_pay25 a2) a3)
    (k2_pay28 rowMask0 rowMask1 rowMask2 rowMask3 rowMask4 rowMask5 rowMask6 rowMask7 (k2_pay23 a0) (k2_pay24 a1) (k2_pay25 a2) a3 q)

theorem attend_congr {q q' : Vec F S1x784x192 .bf16} {a0 a0' a1 a1' a2 a2' a3 a3' : Vec F S1x16x384 .bf16}
    (hq : q = q') (h0 : a0 = a0') (h1 : a1 = a1') (h2 : a2 = a2') (h3 : a3 = a3') : attend q a0 a1 a2 a3 = attend q' a0' a1' a2' a3' := by
  rw [hq, h0, h1, h2, h3]

/-- Window `n` of a band of eight. -/
def band (x : Vec F S8x784x192 .bf16) (n : Fin 8) : Vec F S1x784x192 .bf16 := fun y => x (ix3 n (y 1) (y 2))

/-- The row of the table that a word names. -/
def row (x : Vec F S64x16x384 .bf16) (w : BitVec 32) : Vec F S1x16x384 .bf16 :=
  fun y => x (ix3 ⟨w.toNat % 64, Nat.mod_lt _ (by decide)⟩ (y 1) (y 2))

/-- Word `j` of window `n` of the band at point `i`. -/
def word (x : Vec F S64x4 .i32) (i : grid2.Coords) (n : Fin 8) (j : Fin 4) : BitVec 32 :=
  x (ix2 ⟨((i 0).val * 8 + n.val) % 64, Nat.mod_lt _ (by decide)⟩ j)

/-- One window's attention at point `i`, from the index words, the queries and the table. -/
def wins (i : grid2.Coords) (x : Vec F S64x4 .i32) (q : Vec F S8x784x192 .bf16) (kv : Vec F S64x16x384 .bf16) (n : Fin 8) : FVec F S28x28x192 .bf16 :=
  attend (band q n) (row kv (word x i n 0)) (row kv (word x i n 1)) (row kv (word x i n 2)) (row kv (word x i n 3))

/-- A result window after the body: the eight windows side by side. -/
def outv (i : grid2.Coords) (x : Vec F S64x4 .i32) (q : Vec F S8x784x192 .bf16) (kv : Vec F S64x16x384 .bf16) : Vec F S1x28x224x192 .bf16 :=
  k2_pay1 (wins i x q kv 0) (wins i x q kv 1) (wins i x q kv 2) (wins i x q kv 3) (wins i x q kv 4) (wins i x q kv 5) (wins i x q kv 6) (wins i x q kv 7)

/-! ## The loads -/

theorem inb_of (w : BitVec 32) (h : w.toNat < 64) : ∀ a, (![w.toNat, 0, 0] : Fin 3 → Nat) a + S1x16x384.size a ≤ S64x16x384.size a := by
  intro a
  fin_cases a
  · show w.toNat + 1 ≤ 64; omega
  · show 0 + 16 ≤ 16; omega
  · show 0 + 384 ≤ 384; omega

/-- The offsets of word `j` of window `n`, as the text computes them. -/
abbrev wordOff (i : grid2.Coords) (n : BitVec 32) (j : Nat) : Fin 2 → Nat :=
  ![(Scalar.addi (Scalar.muli (BitVec.ofNat 32 (i 0).val) 8#32) n).toNat, j]

theorem wordOff_val : ∀ (k n : Fin 8), (Scalar.addi (Scalar.muli (BitVec.ofNat 32 k.val) 8#32) (BitVec.ofNat 32 n.val)).toNat = (k.val * 8 + n.val) % 64 := by
  decide

theorem wordOff_inb (i : grid2.Coords) (n : Fin 8) (j : Fin 4) :
    ∀ a, wordOff i (BitVec.ofNat 32 n.val) j.val a + S1x1.size a ≤ S64x4.size a := by
  intro a
  fin_cases a
  · show (Scalar.addi (Scalar.muli (BitVec.ofNat 32 (i 0).val) 8#32) (BitVec.ofNat 32 n.val)).toNat + 1 ≤ 64
    rw [wordOff_val (i 0) n]; omega
  · show j.val + 1 ≤ 4; omega

section
variable {sp : Space} {sp' : Space} (v : Memref sig .tc .smem S64x4 .i32) (f : v.view.ty.Contents (Elt F))

/-- A word as the body loads it. -/
def rawWord (i : grid2.Coords) (n : Fin 8) (j : Fin 4) : BitVec 32 :=
  View.readAt (Elt F) v.view (Rect.unit (s := S64x4) (wordOff i (BitVec.ofNat 32 n.val) j.val) S1x1.size (wordOff_inb i n j)).toLoadRect f
    (Shape.Idx.first (show 0 < S1x1.numel from by decide))

theorem rawWord_eq (i : grid2.Coords) (n : Fin 8) (j : Fin 4) : rawWord v f i n j = word (v.view.read (Elt F) f) i n j := by
  unfold rawWord word
  rw [View.readAt_apply]
  refine congrArg (v.view.read (Elt F) f) (funext fun a => ?_)
  fin_cases a
  · apply Fin.ext
    exact (Nat.add_zero _).trans (wordOff_val (i 0) n)
  · apply Fin.ext
    exact Nat.add_zero _
end

theorem readAt_row (v : Memref sig .tc .vmem S64x16x384 .bf16) (f : v.view.ty.Contents (Elt F)) (w : BitVec 32) (h : w.toNat < 64) :
    View.readAt (Elt F) v.view (Rect.unit (s := S64x16x384) ![w.toNat, 0, 0] S1x16x384.size (inb_of w h)).toLoadRect f = row (v.view.read (Elt F) f) w := by
  funext y
  unfold row
  rw [View.readAt_apply]
  refine congrArg (v.view.read (Elt F) f) (funext fun a => ?_)
  fin_cases a
  · apply Fin.ext
    show w.toNat + 1 * (y 0).val = w.toNat % 64
    have : (y 0).val = 0 := Nat.lt_one_iff.mp (y 0).isLt
    omega
  · apply Fin.ext
    show 0 + 1 * (y 1).val = (y 1).val
    omega
  · apply Fin.ext
    show 0 + 1 * (y 2).val = (y 2).val
    omega

theorem band_inb (n : Fin 8) : ∀ a, (![n.val, 0, 0] : Fin 3 → Nat) a + S1x784x192.size a ≤ S8x784x192.size a := by
  intro a
  fin_cases a
  · show n.val + 1 ≤ 8; omega
  · show 0 + 784 ≤ 784; omega
  · show 0 + 192 ≤ 192; omega

theorem readAt_band (v : Memref sig .tc .vmem S8x784x192 .bf16) (f : v.view.ty.Contents (Elt F)) (n : Fin 8) :
    View.readAt (Elt F) v.view (Rect.unit (s := S8x784x192) ![n.val, 0, 0] S1x784x192.size (band_inb n)).toLoadRect f = band (v.view.read (Elt F) f) n := by
  funext y
  unfold band
  rw [View.readAt_apply]
  refine congrArg (v.view.read (Elt F) f) (funext fun a => ?_)
  fin_cases a
  · apply Fin.ext
    show n.val + 1 * (y 0).val = n.val
    have : (y 0).val = 0 := Nat.lt_one_iff.mp (y 0).isLt
    omega
  · apply Fin.ext
    show 0 + 1 * (y 1).val = (y 1).val
    omega
  · apply Fin.ext
    show 0 + 1 * (y 2).val = (y 2).val
    omega

section
variable (v : Memref sig .tc .smem S64x4 .i32) (vq : Memref sig .tc .vmem S8x784x192 .bf16) (vk : Memref sig .tc .vmem S64x16x384 .bf16)
  (f : v.view.ty.Contents (Elt F)) (fq : vq.view.ty.Contents (Elt F)) (fk : vk.view.ty.Contents (Elt F))
  (hf : ∀ y, (v.view.read (Elt F) f y : BitVec 32).toNat < 64)
include hf

theorem rawWord_lt (i : grid2.Coords) (n : Fin 8) (j : Fin 4) : (rawWord v f i n j).toNat < 64 := by
  rw [rawWord_eq]; exact hf _

/-- One window's attention as the body computes it: its loads spelt out. -/
def rawWin (i : grid2.Coords) (n : Fin 8) : FVec F S28x28x192 .bf16 :=
  attend (View.readAt (Elt F) vq.view (Rect.unit (s := S8x784x192) ![n.val, 0, 0] S1x784x192.size (band_inb n)).toLoadRect fq)
    (View.readAt (Elt F) vk.view (Rect.unit (s := S64x16x384) ![(rawWord v f i n 0).toNat, 0, 0] S1x16x384.size (inb_of _ (rawWord_lt v f hf i n 0))).toLoadRect fk)
    (View.readAt (Elt F) vk.view (Rect.unit (s := S64x16x384) ![(rawWord v f i n 1).toNat, 0, 0] S1x16x384.size (inb_of _ (rawWord_lt v f hf i n 1))).toLoadRect fk)
    (View.readAt (Elt F) vk.view (Rect.unit (s := S64x16x384) ![(rawWord v f i n 2).toNat, 0, 0] S1x16x384.size (inb_of _ (rawWord_lt v f hf i n 2))).toLoadRect fk)
    (View.readAt (Elt F) vk.view (Rect.unit (s := S64x16x384) ![(rawWord v f i n 3).toNat, 0, 0] S1x16x384.size (inb_of _ (rawWord_lt v f hf i n 3))).toLoadRect fk)

theorem rawWin_eq (i : grid2.Coords) (n : Fin 8) :
    rawWin v vq vk f fq fk hf i n = wins i (v.view.read (Elt F) f) (vq.view.read (Elt F) fq) (vk.view.read (Elt F) fk) n := by
  have h (j : Fin 4) := (readAt_row vk fk (rawWord v f i n j) (rawWord_lt v f hf i n j)).trans (congrArg (row _) (rawWord_eq v f i n j))
  exact attend_congr (readAt_band vq fq n) (h 0) (h 1) (h 2) (h 3)

/-- The eight windows side by side, as the body stores them. -/
def rawOut (i : grid2.Coords) : Vec F S1x28x224x192 .bf16 :=
  k2_pay1 (rawWin v vq vk f fq fk hf i 0) (rawWin v vq vk f fq fk hf i 1) (rawWin v vq vk f fq fk hf i 2) (rawWin v vq vk f fq fk hf i 3)
    (rawWin v vq vk f fq fk hf i 4) (rawWin v vq vk f fq fk hf i 5) (rawWin v vq vk f fq fk hf i 6) (rawWin v vq vk f fq fk hf i 7)

theorem rawOut_eq (i : grid2.Coords) :
    rawOut v vq vk f fq fk hf i = outv i (v.view.read (Elt F) f) (vq.view.read (Elt F) fq) (vk.view.read (Elt F) fk) := by
  unfold rawOut outv
  simp only [rawWin_eq]
end

/-! ## The body's triple -/

abbrev rOut : Rect S1x28x224x192 := Rect.unit (s := S1x28x224x192) ![0, 0, 0, 0] S1x28x224x192.size inb_S1x28x224x192_S1x28x224x192_0_0_0_0

theorem cover (p : Vec F S1x28x224x192 .bf16) (y : S1x28x224x192.Idx) :
    ∃ pc ∈ ([⟨rOut, p⟩] : List (View.Piece (Elt F) S1x28x224x192 .bf16)), y ∈ pc.1.set :=
  View.cover_of_tiled [⟨rOut, p⟩] S1x28x224x192.size (by rfl) y

theorem read_store (v : Memref sig .tc .vmem S1x28x224x192 .bf16) (f : v.view.ty.Contents (Elt F)) (p : Vec F S1x28x224x192 .bf16) :
    v.view.read (Elt F) (v.view.writes (Elt F) f [⟨rOut, p⟩]) = p :=
  (View.read_writes_eq_canon _ _ _ (cover p)).trans (View.canon_cons_unit_zero (funext fun a => by fin_cases a <;> rfl) _ _ _)

attribute [local irreducible] View.read in
set_option maxHeartbeats 40000000 in
theorem sound_kernel2 (c : Dev nD) (E : Set ℕ) (i : grid2.Coords) (arg1 : Memref sig .tc .smem S64x4 .i32) (harg1 : arg1.IsWhole) (arg2 : Memref sig .tc .smem S64x4 .i32) (harg2 : arg2.IsWhole)
    (arg3 : Memref sig .tc .vmem S8x784x192 .bf16) (harg3 : arg3.IsWhole) (arg4 : Memref sig .tc .vmem S8x784x192 .bf16) (harg4 : arg4.IsWhole)
    (arg5 : Memref sig .tc .vmem S64x16x384 .bf16) (harg5 : arg5.IsWhole) (arg6 : Memref sig .tc .vmem S64x16x384 .bf16) (harg6 : arg6.IsWhole)
    (arg7 : Memref sig .tc .vmem S1x28x224x192 .bf16) (harg7 : arg7.IsWhole) (arg8 : Memref sig .tc .vmem S1x28x224x192 .bf16) (harg8 : arg8.IsWhole)
    (x0 x1 : Vec F S64x4 .i32) (x2 x3 : Vec F S8x784x192 .bf16) (x4 x5 : Vec F S64x16x384 .bf16)
    (hx0 : ∀ y, (x0 y : BitVec 32).toNat < 64) (hx1 : ∀ y, (x1 y : BitVec 32).toNat < 64) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outv i x0 x3 x4) ∗ owns (c : Thread nD τ) arg8 fullShare (outv i x1 x2 x5)) -∗ K ⟨⟩))
      ⊢ wp frame (wpE (defs₀ (F := F)) Variants.none c none) E (cc2__attn_body i arg1 harg1 arg2 harg2 arg3 harg3 arg4 harg4 arg5 harg5 arg6 harg6 arg7 harg7 arg8 harg8) K := by
  simp only [cc2__attn_body_eq_skeleton]; unfold cc2__attn_body_skel
  simp only [k2_part1_eq_skeleton, k2_part2_eq_skeleton, k2_part3_eq_skeleton, k2_part4_eq_skeleton, k2_part5_eq_skeleton, k2_part6_eq_skeleton,
    k2_part7_eq_skeleton, k2_part8_eq_skeleton, k2_part9_eq_skeleton, k2_part10_eq_skeleton, k2_part11_eq_skeleton, k2_part12_eq_skeleton,
    k2_part13_eq_skeleton, k2_part14_eq_skeleton, k2_part15_eq_skeleton, k2_part16_eq_skeleton, k2_part17_eq_skeleton, k2_part18_eq_skeleton,
    k2_part19_eq_skeleton, k2_part20_eq_skeleton, k2_part21_eq_skeleton, k2_part22_eq_skeleton, k2_part23_eq_skeleton, k2_part24_eq_skeleton,
    k2_part25_eq_skeleton, k2_part26_eq_skeleton, k2_part27_eq_skeleton, k2_part28_eq_skeleton, k2_part29_eq_skeleton, k2_part30_eq_skeleton,
    k2_part31_eq_skeleton, k2_part32_eq_skeleton, k2_part33_eq_skeleton, k2_part34_eq_skeleton, k2_part35_eq_skeleton, k2_part36_eq_skeleton,
    k2_part37_eq_skeleton, k2_part38_eq_skeleton, k2_part39_eq_skeleton, k2_part40_eq_skeleton, k2_part41_eq_skeleton, k2_part42_eq_skeleton,
    k2_part43_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec (disch := first | exact inb_of _ (hx0 _) | exact inb_of _ (hx1 _))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_store arg7 f6 _).trans ?_
    refine Eq.trans ?_ (rawOut_eq arg1 arg4 arg5 f0 f3 f4 hx0 i)
    rfl
  iexists _; isplitr
  swap; · iexact H7
  ipureintro
  refine (read_store arg8 f7 _).trans ?_
  refine Eq.trans ?_ (rawOut_eq arg2 arg3 arg6 f1 f2 f5 hx1 i)
  rfl

/-! ## The pipeline's proof data -/

/-- Window `w`'s block at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Every index word in the call's two index arrays names a row of the table. -/
def InRange : Prop :=
  ∀ (c : Dev nD) (y : S64x4.Idx), (V c main_v32 y : BitVec 32).toNat < 64 ∧ (V c main_v36 y : BitVec 32).toNat < 64

/-- Inputs stay at their blocks, results at the eight windows of the point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => outv (grid2.coords t) (iblk2 V c 0 t) (iblk2 V c 3 t) (iblk2 V c 4 t)
    | ⟨7, _⟩ => outv (grid2.coords t) (iblk2 V c 1 t) (iblk2 V c 2 t) (iblk2 V c 5 t)
  Φ _ := Pipeline.ΦA spec2 c
  q w := Pipeline.shareOf spec2 w
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = outv (grid2.coords t) (iblk2 V c 0 t) (iblk2 V c 3 t) (iblk2 V c 4 t) := by dsimp only [dat2]
theorem after2_7 (c : Dev nD) (t : Fin cfg2.N) : (dat2 V c).after 7 t = outv (grid2.coords t) (iblk2 V c 1 t) (iblk2 V c 2 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

theorem iblk0_lt (hm : InRange V) (c : Dev nD) (t : Fin cfg2.N) (y : S64x4.Idx) : (iblk2 V c 0 t y : BitVec 32).toNat < 64 :=
  (hm c _).1

theorem iblk1_lt (hm : InRange V) (c : Dev nD) (t : Fin cfg2.N) (y : S64x4.Idx) : (iblk2 V c 1 t y : BitVec 32).toNat < 64 :=
  (hm c _).2

/-! ## The body obligation -/

/-- What the body is called with at point `t`, window by window. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

theorem sound_body2 (hm : InRange V) (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t)
    (iblk0_lt V hm c t) (iblk1_lt V hm c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row2 (t : Fin cfg2.N) :
    defs₀ (F := F) .tc cfg2.body (cfg2.bodyArgs t (cfg2.slots t)) = bodyAt2 t := by
  unfold defs₀; rw [Defs.onTc_tc]

theorem body_obligation2 (hm : InRange V) (c : Dev nD) : BodyObligation (dat2 (F := F) V c) (defs₀ (F := F)) Variants.none () Set.univ := fun t => by
  rw [bigSep_W2, bigSep_W2, defs₀_row2]
  exact triple_restated (sound_body2 V hm c t) rfl .rfl fun _ => .rfl

end Cert.Whole.Hand

end
-- ==== Proof.WholeFinalA.lean ====
/-
  The last call for the first image: what its body leaves in the result window, and the pipeline's proof data, at any contents `V` of the buffers.
-/
module

public import proofs.«01_k».proof.Proof.Gen.Whole.Launch
public import proofs.«01_k».proof.Proof.Gen.Whole.Skeleton
public import proofs.«01_k».proof.Proof.Gen.Whole.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Whole.Hand

open Cert.Whole Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S192x192 := Rect.unit (s := S192x192) ![0, 0] S192x192.size inb_S192x192_S192x192_0_0
abbrev r3_1 : Rect S3x3x192 := Rect.unit (s := S3x3x192) ![0, 0, 0] S3x3x192.size inb_S3x3x192_S3x3x192_0_0_0
abbrev r3_2 : Rect S1x192 := Rect.unit (s := S1x192) ![0, 0] S1x192.size inb_S1x192_S1x192_0_0
abbrev r3_3 : Rect S1x14x192x224 := Rect.unit (s := S1x14x192x224) ![0, 0, 0, 0] S1x14x192x224.size inb_S1x14x192x224_S1x14x192x224_0_0_0_0
abbrev r3_4 : Rect S1x1x192x224 := Rect.unit (s := S1x1x192x224) ![0, 0, 0, 0] S1x1x192x224.size inb_S1x1x192x224_S1x1x192x224_0_0_0_0
abbrev r3_5 : Rect S1x14x224x192 := Rect.unit (s := S1x14x224x192) ![0, 0, 0, 0] S1x14x224x192.size inb_S1x14x224x192_S1x14x224x192_0_0_0_0

def k3_pay7 (i : grid3.Coords) (x0 : Vec F S1x14x224x192 .bf16) (x1 : Vec F S1x14x192x224 .f32) (x2 : Vec F S1x1x192x224 .f32) (x3 : Vec F S1x1x192x224 .f32) (x4 : Vec F S192x192 .f32) (x5 : Vec F S3x3x192 .f32) (x6 : Vec F S1x192 .f32) (x7 : Vec F S192x192 .f32) (x8 : Vec F S1x192 .f32) : FVec F S3x3x192 .f32 :=
  k3_pay2 (View.ld x5 r3_1)
def k3_pay8 (i : grid3.Coords) (x0 : Vec F S1x14x224x192 .bf16) (x1 : Vec F S1x14x192x224 .f32) (x2 : Vec F S1x1x192x224 .f32) (x3 : Vec F S1x1x192x224 .f32) (x4 : Vec F S192x192 .f32) (x5 : Vec F S3x3x192 .f32) (x6 : Vec F S1x192 .f32) (x7 : Vec F S192x192 .f32) (x8 : Vec F S1x192 .f32) : FVec F S16x226x192 .f32 :=
  k3_pay3 i (View.ld x4 r3_0) (View.ld x1 r3_3) (View.ld x2 r3_4) (View.ld x3 r3_4)

def out3_9 (i : grid3.Coords) (x0 : Vec F S1x14x224x192 .bf16) (x1 : Vec F S1x14x192x224 .f32) (x2 : Vec F S1x1x192x224 .f32) (x3 : Vec F S1x1x192x224 .f32) (x4 : Vec F S192x192 .f32) (x5 : Vec F S3x3x192 .f32) (x6 : Vec F S1x192 .f32) (x7 : Vec F S192x192 .f32) (x8 : Vec F S1x192 .f32) : Vec F S1x14x192x224 .f32 :=
  View.canon [⟨r3_3, k3_pay1 (k3_pay8 i x0 x1 x2 x3 x4 x5 x6 x7 x8) (k3_pay5 (k3_pay7 i x0 x1 x2 x3 x4 x5 x6 x7 x8) (k3_pay8 i x0 x1 x2 x3 x4 x5 x6 x7 x8) (k3_pay4 (View.ld x6 r3_2))) (k3_pay6 (k3_pay7 i x0 x1 x2 x3 x4 x5 x6 x7 x8)) (View.ld x0 r3_5) (View.ld x7 r3_0) (View.ld x8 r3_2)⟩]

theorem cover3_9 (p0 : Vec F S1x14x192x224 .f32) (y : S1x14x192x224.Idx) :
    ∃ pc ∈ ([⟨r3_3, p0⟩] : List (View.Piece (Elt F) S1x14x192x224 .f32)), y ∈ pc.1.set :=
  View.cover_of_tiled [⟨r3_3, p0⟩] S1x14x192x224.size (by rfl) y

set_option maxHeartbeats 1000000 in
theorem sound_kernel3 (c : Dev nD) (E : Set ℕ) (i : grid3.Coords) (arg1 : Memref sig .tc .vmem S1x14x224x192 .bf16) (harg1 : arg1.IsWhole) (arg2 : Memref sig .tc .vmem S1x14x192x224 .f32) (harg2 : arg2.IsWhole) (arg3 : Memref sig .tc .vmem S1x1x192x224 .f32) (harg3 : arg3.IsWhole) (arg4 : Memref sig .tc .vmem S1x1x192x224 .f32) (harg4 : arg4.IsWhole) (arg5 : Memref sig .tc .vmem S192x192 .f32) (harg5 : arg5.IsWhole) (arg6 : Memref sig .tc .vmem S3x3x192 .f32) (harg6 : arg6.IsWhole) (arg7 : Memref sig .tc .vmem S1x192 .f32) (harg7 : arg7.IsWhole) (arg8 : Memref sig .tc .vmem S192x192 .f32) (harg8 : arg8.IsWhole) (arg9 : Memref sig .tc .vmem S1x192 .f32) (harg9 : arg9.IsWhole) (arg10 : Memref sig .tc .vmem S1x14x192x224 .f32) (harg10 : arg10.IsWhole)
    (x0 : Vec F S1x14x224x192 .bf16) (x1 : Vec F S1x14x192x224 .f32) (x2 : Vec F S1x1x192x224 .f32) (x3 : Vec F S1x1x192x224 .f32) (x4 : Vec F S192x192 .f32) (x5 : Vec F S3x3x192 .f32) (x6 : Vec F S1x192 .f32) (x7 : Vec F S192x192 .f32) (x8 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out3_9 i x0 x1 x2 x3 x4 x5 x6 x7 x8)) -∗ K ⟨⟩))
      ⊢ wp frame (wpE (defs₀ (F := F)) Variants.none c none) E (cc3__final_body i arg1 harg1 arg2 harg2 arg3 harg3 arg4 harg4 arg5 harg5 arg6 harg6 arg7 harg7 arg8 harg8 arg9 harg9 arg10 harg10) K := by
  simp only [cc3__final_body_eq_skeleton]; unfold cc3__final_body_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  refine (View.read_writes_eq_canon _ _ _ (cover3_9 _)).trans ?_
  rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out3_9 (grid3.coords t) (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q w := Pipeline.shareOf spec3 w
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = out3_9 (grid3.coords t) (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ (grid3.coords t) _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.Whole.Hand

end
-- ==== Proof.WholeFinalB.lean ====
/-
  The last call for the second image: what its body leaves in the result window, and the pipeline's proof data, at any contents `V` of the buffers.
-/
module

public import proofs.«01_k».proof.Proof.Gen.Whole.Launch
public import proofs.«01_k».proof.Proof.Gen.Whole.Skeleton
public import proofs.«01_k».proof.Proof.Gen.Whole.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Whole.Hand

open Cert.Whole Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S192x192 := Rect.unit (s := S192x192) ![0, 0] S192x192.size inb_S192x192_S192x192_0_0
abbrev r4_1 : Rect S3x3x192 := Rect.unit (s := S3x3x192) ![0, 0, 0] S3x3x192.size inb_S3x3x192_S3x3x192_0_0_0
abbrev r4_2 : Rect S1x192 := Rect.unit (s := S1x192) ![0, 0] S1x192.size inb_S1x192_S1x192_0_0
abbrev r4_3 : Rect S1x14x192x224 := Rect.unit (s := S1x14x192x224) ![0, 0, 0, 0] S1x14x192x224.size inb_S1x14x192x224_S1x14x192x224_0_0_0_0
abbrev r4_4 : Rect S1x1x192x224 := Rect.unit (s := S1x1x192x224) ![0, 0, 0, 0] S1x1x192x224.size inb_S1x1x192x224_S1x1x192x224_0_0_0_0
abbrev r4_5 : Rect S1x14x224x192 := Rect.unit (s := S1x14x224x192) ![0, 0, 0, 0] S1x14x224x192.size inb_S1x14x224x192_S1x14x224x192_0_0_0_0

def k4_pay7 (i : grid4.Coords) (x0 : Vec F S1x14x224x192 .bf16) (x1 : Vec F S1x14x192x224 .f32) (x2 : Vec F S1x1x192x224 .f32) (x3 : Vec F S1x1x192x224 .f32) (x4 : Vec F S192x192 .f32) (x5 : Vec F S3x3x192 .f32) (x6 : Vec F S1x192 .f32) (x7 : Vec F S192x192 .f32) (x8 : Vec F S1x192 .f32) : FVec F S3x3x192 .f32 :=
  k4_pay2 (View.ld x5 r4_1)
def k4_pay8 (i : grid4.Coords) (x0 : Vec F S1x14x224x192 .bf16) (x1 : Vec F S1x14x192x224 .f32) (x2 : Vec F S1x1x192x224 .f32) (x3 : Vec F S1x1x192x224 .f32) (x4 : Vec F S192x192 .f32) (x5 : Vec F S3x3x192 .f32) (x6 : Vec F S1x192 .f32) (x7 : Vec F S192x192 .f32) (x8 : Vec F S1x192 .f32) : FVec F S16x226x192 .f32 :=
  k4_pay3 i (View.ld x4 r4_0) (View.ld x1 r4_3) (View.ld x2 r4_4) (View.ld x3 r4_4)

def out4_9 (i : grid4.Coords) (x0 : Vec F S1x14x224x192 .bf16) (x1 : Vec F S1x14x192x224 .f32) (x2 : Vec F S1x1x192x224 .f32) (x3 : Vec F S1x1x192x224 .f32) (x4 : Vec F S192x192 .f32) (x5 : Vec F S3x3x192 .f32) (x6 : Vec F S1x192 .f32) (x7 : Vec F S192x192 .f32) (x8 : Vec F S1x192 .f32) : Vec F S1x14x192x224 .f32 :=
  View.canon [⟨r4_3, k4_pay1 (k4_pay8 i x0 x1 x2 x3 x4 x5 x6 x7 x8) (k4_pay5 (k4_pay7 i x0 x1 x2 x3 x4 x5 x6 x7 x8) (k4_pay8 i x0 x1 x2 x3 x4 x5 x6 x7 x8) (k4_pay4 (View.ld x6 r4_2))) (k4_pay6 (k4_pay7 i x0 x1 x2 x3 x4 x5 x6 x7 x8)) (View.ld x0 r4_5) (View.ld x7 r4_0) (View.ld x8 r4_2)⟩]

theorem cover4_9 (p0 : Vec F S1x14x192x224 .f32) (y : S1x14x192x224.Idx) :
    ∃ pc ∈ ([⟨r4_3, p0⟩] : List (View.Piece (Elt F) S1x14x192x224 .f32)), y ∈ pc.1.set :=
  View.cover_of_tiled [⟨r4_3, p0⟩] S1x14x192x224.size (by rfl) y

set_option maxHeartbeats 1000000 in
theorem sound_kernel4 (c : Dev nD) (E : Set ℕ) (i : grid4.Coords) (arg1 : Memref sig .tc .vmem S1x14x224x192 .bf16) (harg1 : arg1.IsWhole) (arg2 : Memref sig .tc .vmem S1x14x192x224 .f32) (harg2 : arg2.IsWhole) (arg3 : Memref sig .tc .vmem S1x1x192x224 .f32) (harg3 : arg3.IsWhole) (arg4 : Memref sig .tc .vmem S1x1x192x224 .f32) (harg4 : arg4.IsWhole) (arg5 : Memref sig .tc .vmem S192x192 .f32) (harg5 : arg5.IsWhole) (arg6 : Memref sig .tc .vmem S3x3x192 .f32) (harg6 : arg6.IsWhole) (arg7 : Memref sig .tc .vmem S1x192 .f32) (harg7 : arg7.IsWhole) (arg8 : Memref sig .tc .vmem S192x192 .f32) (harg8 : arg8.IsWhole) (arg9 : Memref sig .tc .vmem S1x192 .f32) (harg9 : arg9.IsWhole) (arg10 : Memref sig .tc .vmem S1x14x192x224 .f32) (harg10 : arg10.IsWhole)
    (x0 : Vec F S1x14x224x192 .bf16) (x1 : Vec F S1x14x192x224 .f32) (x2 : Vec F S1x1x192x224 .f32) (x3 : Vec F S1x1x192x224 .f32) (x4 : Vec F S192x192 .f32) (x5 : Vec F S3x3x192 .f32) (x6 : Vec F S1x192 .f32) (x7 : Vec F S192x192 .f32) (x8 : Vec F S1x192 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out4_9 i x0 x1 x2 x3 x4 x5 x6 x7 x8)) -∗ K ⟨⟩))
      ⊢ wp frame (wpE (defs₀ (F := F)) Variants.none c none) E (cc4__final_body i arg1 harg1 arg2 harg2 arg3 harg3 arg4 harg4 arg5 harg5 arg6 harg6 arg7 harg7 arg8 harg8 arg9 harg9 arg10 harg10) K := by
  simp only [cc4__final_body_eq_skeleton]; unfold cc4__final_body_skel
  simp only [k4_part1_eq_skeleton, k4_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  refine (View.read_writes_eq_canon _ _ _ (cover4_9 _)).trans ?_
  rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => out4_9 (grid4.coords t) (iblk4 V c 0 t) (iblk4 V c 1 t) (iblk4 V c 2 t) (iblk4 V c 3 t) (iblk4 V c 4 t) (iblk4 V c 5 t) (iblk4 V c 6 t) (iblk4 V c 7 t) (iblk4 V c 8 t)
  Φ _ := Pipeline.ΦA spec4 c
  q w := Pipeline.shareOf spec4 w
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = out4_9 (grid4.coords t) (iblk4 V c 0 t) (iblk4 V c 1 t) (iblk4 V c 2 t) (iblk4 V c 3 t) (iblk4 V c 4 t) (iblk4 V c 5 t) (iblk4 V c 6 t) (iblk4 V c 7 t) (iblk4 V c 8 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel4 c Set.univ (grid4.coords t) _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem defs₀_row4 (t : Fin cfg4.N) :
    defs₀ (F := F) .tc cfg4.body (cfg4.bodyArgs t (cfg4.slots t)) = bodyAt4 t := by
  unfold defs₀; rw [Defs.onTc_tc]

theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Cert.Whole.Hand

end
-- ==== Proof.WholeRun.lean ====
/-
  The run of the whole program: its host stretches and its five calls in order, the contents of the buffers between them,
  and what every buffer holds at the end.
-/
module

public import proofs.«01_k».proof.Proof.Gen.Whole.Regions
public import proofs.«01_k».proof.Proof.WholeProj
public import proofs.«01_k».proof.Proof.WholeRouter
public import proofs.«01_k».proof.Proof.WholeAttn
public import proofs.«01_k».proof.Proof.WholeFinalA
public import proofs.«01_k».proof.Proof.WholeFinalB
public import Idealize.ShloMosaic.Lib.Pipeline.RegionsLoop
public import Idealize.ShloMosaic.Lib.Pipeline.FrameSuffix
public import Idealize.ShloMosaic.Lib.Tactic

@[expose] public section

set_option maxRecDepth 16384

noncomputable section

namespace Cert.Whole.Hand

open Cert.Whole Cert.Whole.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What a call leaves in the buffers -/

section
variable {cfg : Cfg sig Λ₀} {c : Dev nD} (dat : Dat τ (Elt F) Unit ℕ (UR sig nD τ) ℕ cfg c) (X : Valuation τ sig (Elt F))

/-- The buffers after a call entered at `X`: its arrays as its write-backs leave them, the others as they were. -/
def leave : Valuation τ sig (Elt F) := Pipeline.withArrays cfg.spec c X fun w => dat.arrAt w cfg.N

theorem leave_of_ne (b : Ref sig .tc) (hb : ∀ w, Pipeline.arrRef cfg.spec w ≠ b) : leave dat X (Proc.devRef .tc b) = X (Proc.devRef .tc b) := by
  unfold leave; exact Pipeline.withArrays_of_ne cfg.spec c _ _ b hb

variable (hs : Pipeline.SharedIn cfg.spec) (hA : ∀ w, dat.A w = X (Proc.devRef .tc (Pipeline.arrRef cfg.spec w)))
include hs hA

theorem leave_arr (w : Fin cfg.W) : leave dat X (Proc.devRef .tc (Pipeline.arrRef cfg.spec w)) = dat.arrAt w cfg.N := by
  unfold leave; exact dat.withArrays_arrAt hs X hA w

/-- A buffer that is none of the call's results keeps its contents. -/
theorem leave_of (r : Ref sig .tc) (h : ∀ w : Fin cfg.W, Pipeline.arrRef cfg.spec w = r → (cfg.win w).isOut = false) :
    leave dat X (Proc.devRef .tc r) = X (Proc.devRef .tc r) := by
  by_cases hw : ∃ w : Fin cfg.W, Pipeline.arrRef cfg.spec w = r
  · obtain ⟨w, rfl⟩ := hw
    exact (leave_arr dat X hs hA w).trans ((dat.arrAt_in w (h w rfl) _).trans (hA w))
  · exact leave_of_ne dat X r fun w e => hw ⟨w, e⟩
end

/-! ## A call as a segment of the run -/

abbrev 𝒱₀ : Variants := Variants.none
abbrev L : GSem nD τ sig → Finset Unit := fun _ => ∅
abbrev lv : GSem nD τ sig → Unit → ℕ := fun _ _ => 0
/-- What rides beside the buffers: the generator register, and nothing owed. -/
abbrev R (c : Dev nD) : sProp 𝕄 := iprop((∃ r, prngReg c r) ∗ ∃ W, owes (c : Thread nD τ) (0 : CellTallies nD τ sig Unit) W)

/-- Every buffer at the contents `X`, and `R`. -/
abbrev At (X : Dev nD → Valuation τ sig (Elt F)) (c : Dev nD) : sProp 𝕄 :=
  iprop(StableHlo.held (c : Thread nD τ) (Pipeline.ucRefs τ sig) (X c) ∗ R c)

section
variable (D : (p : Fin 5) → (c : Dev nD) → Dat τ (Elt F) Unit ℕ (UR sig nD τ) ℕ (Pipeline.pin (pcfgs (F := F)) adm p) c)

set_option backward.isDefEq.respectTransparency.types false in
/-- Any of the five calls, from the buffers at `X`. -/
def call (p : Fin 5) (hl : Pipeline.LaunchFacts₀ (nD := nD) (τ := τ) cfgs p) (X : Dev nD → Valuation τ sig (Elt F))
    (hA : ∀ c w, (D p c).A w = X c (Proc.devRef .tc (Pipeline.arrRef (Pipeline.pin (pcfgs (F := F)) adm p).spec w)))
    (hq : ∀ c w, (D p c).q w = Pipeline.shareOf (Pipeline.pin (pcfgs (F := F)) adm p).spec w)
    (hΦ : ∀ c t, (D p c).Φ t = Pipeline.ΦA (Pipeline.pin (pcfgs (F := F)) adm p).spec c)
    (howed : ∀ c t, (D p c).owed t = 0) (hrec : ∀ c, (D p c).recorded 0 = Set.univ)
    (hbody : ∀ c, BodyObligation (D p c) (defs₀ (F := F)) Variants.none () Set.univ) :
    Pipeline.RegionSeg (pcfgs (F := F)) adm D () defs₀ 𝒱₀ L lv p where
  win := hl.win
  block_pos := hl.block_pos
  stage_whole := hl.stage_whole
  K := PEmpty
  osem k := k.elim
  ho := Pipeline.OwnSemFacts.none _
  hbody c := (hbody c).loose
  hwaits := Pipeline.hwaits_of_owed_zero _ _ _ _ L lv p howed
  pre := At X
  post := At fun c => leave (D p c) (X c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c fun b => X c b
  hentry c := by
    rw [Pipeline.ownSems0_none]
    have hsplit := Pipeline.arrays_of_unscopedBufs_shared (p := p) (pcfgs (F := F)) adm D hl.win hl.sharedIn hl.arr_whole c
      (fun w _ => hq c w) (fun b => X c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (hrec c ▸ trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays_shared (p := p) (pcfgs (F := F)) adm (Ix := Unit) (Name := ℕ) (U := UR sig nD τ) (Lvl := ℕ)
      hl.win hl.sharedIn hl.arr_whole c D (fun w _ => hq c w) (fun b => X c b) (fun b => leave (D p c) (X c) b)
      ((D p c).arrAt · (Pipeline.pin (pcfgs (F := F)) adm p).N) (fun w => (leave_arr (D p c) (X c) hl.sharedIn (hA c) w).symm)
      (fun b hb => leave_of_ne (D p c) (X c) b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO
end

/-- A host stretch as a segment. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The contents between the segments -/

variable (m : (ℓ : Loc nD τ sig) → Buf (Elt F) ℓ) (ρ : Dev nD → PrngReg)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
/-- The buffers as the projection call finds them. -/
abbrev E0 : (c : Dev nD) → (b : Ref sig .tc) → Buf (Elt F) ((c : Thread nD τ).loc b) := fun c b => W3 m c b
abbrev W4 : Dev nD → Valuation τ sig (Elt F) := fun c => leave (dat0 (E0 m) c) (W3 m c)
abbrev W5 : Dev nD → Valuation τ sig (Elt F) := fun c => StableHlo.after hostOps1 (W4 m c)
/-- As the router finds them. -/
abbrev E1 : (c : Dev nD) → (b : Ref sig .tc) → Buf (Elt F) ((c : Thread nD τ).loc b) := fun c b => W5 m c b
abbrev W6 : Dev nD → Valuation τ sig (Elt F) := fun c => leave (dat1 (E1 m) c) (W5 m c)
abbrev W7 : Dev nD → Valuation τ sig (Elt F) := fun c => StableHlo.after hostOps2 (W6 m c)
/-- As the attention call finds them. -/
abbrev E2 : (c : Dev nD) → (b : Ref sig .tc) → Buf (Elt F) ((c : Thread nD τ).loc b) := fun c b => W7 m c b
abbrev W8 : Dev nD → Valuation τ sig (Elt F) := fun c => leave (dat2 (E2 m) c) (W7 m c)
abbrev W9 : Dev nD → Valuation τ sig (Elt F) := fun c => StableHlo.after hostOps3 (W8 m c)
/-- As the last call for the first image finds them. -/
abbrev E3 : (c : Dev nD) → (b : Ref sig .tc) → Buf (Elt F) ((c : Thread nD τ).loc b) := fun c b => W9 m c b
abbrev W10 : Dev nD → Valuation τ sig (Elt F) := fun c => leave (dat3 (E3 m) c) (W9 m c)
abbrev W11 : Dev nD → Valuation τ sig (Elt F) := fun c => StableHlo.after hostOps4 (W10 m c)
/-- As the last call for the second image finds them. -/
abbrev E4 : (c : Dev nD) → (b : Ref sig .tc) → Buf (Elt F) ((c : Thread nD τ).loc b) := fun c b => W11 m c b
abbrev W12 : Dev nD → Valuation τ sig (Elt F) := fun c => leave (dat4 (E4 m) c) (W11 m c)

/-! ### What a segment keeps -/

section
variable {m}
theorem W1_of (c : Dev nD) (r : Ref sig .tc) (h : r ∉ hostOps0_W) : W1 m c (Proc.devRef .tc r) = W0 m c (Proc.devRef .tc r) :=
  StableHlo.after_of_writes_sub hostOps0 _ hostOps0_writes h
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W4_of (c : Dev nD) (r : Ref sig .tc) (h : ∀ w : Fin cfg0.W, Pipeline.arrRef spec0 w = r → (cfg0.win w).isOut = false) :
    W4 m c (Proc.devRef .tc r) = W3 m c (Proc.devRef .tc r) :=
  leave_of _ _ launch0.to₀.sharedIn (A_eq0 (E0 m) c) r h
theorem W5_of (c : Dev nD) (r : Ref sig .tc) (h : r ∉ hostOps1_W) : W5 m c (Proc.devRef .tc r) = W4 m c (Proc.devRef .tc r) :=
  StableHlo.after_of_writes_sub hostOps1 _ hostOps1_writes h
theorem W6_of (c : Dev nD) (r : Ref sig .tc) (h : ∀ w : Fin cfg1.W, Pipeline.arrRef spec1 w = r → (cfg1.win w).isOut = false) :
    W6 m c (Proc.devRef .tc r) = W5 m c (Proc.devRef .tc r) :=
  leave_of _ _ launch1.to₀.sharedIn (A_eq1 (E1 m) c) r h
theorem W7_of (c : Dev nD) (r : Ref sig .tc) (h : r ∉ hostOps2_W) : W7 m c (Proc.devRef .tc r) = W6 m c (Proc.devRef .tc r) :=
  StableHlo.after_of_writes_sub hostOps2 _ hostOps2_writes h
theorem W8_of (c : Dev nD) (r : Ref sig .tc) (h : ∀ w : Fin cfg2.W, Pipeline.arrRef spec2 w = r → (cfg2.win w).isOut = false) :
    W8 m c (Proc.devRef .tc r) = W7 m c (Proc.devRef .tc r) :=
  leave_of _ _ launch2.to₀.sharedIn (A_eq2 (E2 m) c) r h
theorem W9_of (c : Dev nD) (r : Ref sig .tc) (h : r ∉ hostOps3_W) : W9 m c (Proc.devRef .tc r) = W8 m c (Proc.devRef .tc r) :=
  StableHlo.after_of_writes_sub hostOps3 _ hostOps3_writes h
theorem W10_of (c : Dev nD) (r : Ref sig .tc) (h : ∀ w : Fin cfg3.W, Pipeline.arrRef spec3 w = r → (cfg3.win w).isOut = false) :
    W10 m c (Proc.devRef .tc r) = W9 m c (Proc.devRef .tc r) :=
  leave_of _ _ launch₀3.sharedIn (A_eq3 (E3 m) c) r h
theorem W11_of (c : Dev nD) (r : Ref sig .tc) (h : r ∉ hostOps4_W) : W11 m c (Proc.devRef .tc r) = W10 m c (Proc.devRef .tc r) :=
  StableHlo.after_of_writes_sub hostOps4 _ hostOps4_writes h
theorem W12_of (c : Dev nD) (r : Ref sig .tc) (h : ∀ w : Fin cfg4.W, Pipeline.arrRef spec4 w = r → (cfg4.win w).isOut = false) :
    W12 m c (Proc.devRef .tc r) = W11 m c (Proc.devRef .tc r) :=
  leave_of _ _ launch₀4.sharedIn (A_eq4 (E4 m) c) r h
end

/-- `main`'s arguments. -/
abbrev argRefs : List (Ref sig .tc) := [main_arg0, main_arg1, main_arg2, main_arg3, main_arg4, main_arg5, main_arg6, main_arg7]

/-- No stretch writes an argument and no call has one among its results, up to each boundary. -/
theorem W3_args (c : Dev nD) (a : Ref sig .tc) (ha : a ∈ argRefs) : W3 m c (Proc.devRef .tc a) = m ((c : Thread nD τ).loc a) :=
  (W3_of c a ((ListAll.forall_mem_of_all_decide (by decide +kernel) : ∀ a ∈ argRefs, a ∉ hostOps0_2_W) a ha)).trans
    ((W2_of c a ((ListAll.forall_mem_of_all_decide (by decide +kernel) : ∀ a ∈ argRefs, a ∉ hostOps0_1_W) a ha)).trans
      (W1_of c a ((ListAll.forall_mem_of_all_decide (by decide +kernel) : ∀ a ∈ argRefs, a ∉ hostOps0_W) a ha)))
theorem W8_args (c : Dev nD) (a : Ref sig .tc) (ha : a ∈ argRefs) : W8 m c (Proc.devRef .tc a) = m ((c : Thread nD τ).loc a) :=
  (W8_of c a ((ListAll.forall_mem_of_all_decide (by decide +kernel) : ∀ a ∈ argRefs, ∀ w : Fin cfg2.W, Pipeline.arrRef spec2 w = a → (cfg2.win w).isOut = false) a ha)).trans
    ((W7_of c a ((ListAll.forall_mem_of_all_decide (by decide +kernel) : ∀ a ∈ argRefs, a ∉ hostOps2_W) a ha)).trans
      ((W6_of c a ((ListAll.forall_mem_of_all_decide (by decide +kernel) : ∀ a ∈ argRefs, ∀ w : Fin cfg1.W, Pipeline.arrRef spec1 w = a → (cfg1.win w).isOut = false) a ha)).trans
        ((W5_of c a ((ListAll.forall_mem_of_all_decide (by decide +kernel) : ∀ a ∈ argRefs, a ∉ hostOps1_W) a ha)).trans
          ((W4_of c a ((ListAll.forall_mem_of_all_decide (by decide +kernel) : ∀ a ∈ argRefs, ∀ w : Fin cfg0.W, Pipeline.arrRef spec0 w = a → (cfg0.win w).isOut = false) a ha)).trans
            (W3_args m c a ha)))))
theorem W10_args (c : Dev nD) (a : Ref sig .tc) (ha : a ∈ argRefs) : W10 m c (Proc.devRef .tc a) = m ((c : Thread nD τ).loc a) :=
  (W10_of c a ((ListAll.forall_mem_of_all_decide (by decide +kernel) : ∀ a ∈ argRefs, ∀ w : Fin cfg3.W, Pipeline.arrRef spec3 w = a → (cfg3.win w).isOut = false) a ha)).trans
    ((W9_of c a ((ListAll.forall_mem_of_all_decide (by decide +kernel) : ∀ a ∈ argRefs, a ∉ hostOps3_W) a ha)).trans (W8_args m c a ha))
theorem W12_args (c : Dev nD) (a : Ref sig .tc) (ha : a ∈ argRefs) : W12 m c (Proc.devRef .tc a) = m ((c : Thread nD τ).loc a) :=
  (W12_of c a ((ListAll.forall_mem_of_all_decide (by decide +kernel) : ∀ a ∈ argRefs, ∀ w : Fin cfg4.W, Pipeline.arrRef spec4 w = a → (cfg4.win w).isOut = false) a ha)).trans
    ((W11_of c a ((ListAll.forall_mem_of_all_decide (by decide +kernel) : ∀ a ∈ argRefs, a ∉ hostOps4_W) a ha)).trans (W10_args m c a ha))

/-! ## The index words name rows: the program clips them to 0 … 63 -/

/-- A word clipped to 0 … 63. -/
def clip (w : BitVec 32) : BitVec 32 := IntOp.minsi (IntOp.maxsi w 0#32) 63#32

theorem clip_lt (w : BitVec 32) : (clip w).toNat < 64 := by
  unfold clip IntOp.minsi IntOp.maxsi
  simp only [BitVec.slt, BitVec.sle]
  have := w.isLt
  split <;> split <;> simp_all [BitVec.toInt] <;> split at * <;> omega

theorem words0 (c : Dev nD) : E2 m c main_v32 = fun y => clip (W6 m c (Proc.devRef .tc main_v28_0) y) := by
  show StableHlo.after hostOps2 (W6 m c) (Proc.devRef .tc main_v32) = _
  after_results
  rfl
theorem words1 (c : Dev nD) : E2 m c main_v36 = fun y => clip (W6 m c (Proc.devRef .tc main_v28_1) y) := by
  show StableHlo.after hostOps2 (W6 m c) (Proc.devRef .tc main_v36) = _
  after_results
  rfl

theorem inRange : InRange (E2 m) := fun c y => by
  rw [words0, words1]
  exact ⟨clip_lt _, clip_lt _⟩

/-! ## The run -/

/-- Every call's proof data, each at the contents it finds. -/
def pdats : (p : Fin 5) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c

set_option backward.isDefEq.respectTransparency.types false in
def call0 : Pipeline.RegionSeg (pcfgs (F := F)) adm (pdats m) () defs₀ 𝒱₀ L lv 0 :=
  call (pdats m) 0 launch0.to₀ (W3 m) (A_eq0 (E0 m)) (fun _ _ => rfl) (fun _ _ => rfl) (fun _ _ => rfl) (fun _ => rfl) (body_obligation0 (E0 m))
set_option backward.isDefEq.respectTransparency.types false in
def call1 : Pipeline.RegionSeg (pcfgs (F := F)) adm (pdats m) () defs₀ 𝒱₀ L lv 1 :=
  call (pdats m) 1 launch1.to₀ (W5 m) (A_eq1 (E1 m)) (fun _ _ => rfl) (fun _ _ => rfl) (fun _ _ => rfl) (fun _ => rfl) (body_obligation1 (E1 m))
set_option backward.isDefEq.respectTransparency.types false in
def call2 : Pipeline.RegionSeg (pcfgs (F := F)) adm (pdats m) () defs₀ 𝒱₀ L lv 2 :=
  call (pdats m) 2 launch2.to₀ (W7 m) (A_eq2 (E2 m)) (fun _ _ => rfl) (fun _ _ => rfl) (fun _ _ => rfl) (fun _ => rfl) (body_obligation2 (E2 m) (inRange m))
set_option backward.isDefEq.respectTransparency.types false in
def call3 : Pipeline.RegionSeg (pcfgs (F := F)) adm (pdats m) () defs₀ 𝒱₀ L lv 3 :=
  call (pdats m) 3 launch₀3 (W9 m) (A_eq3 (E3 m)) (fun _ _ => rfl) (fun _ _ => rfl) (fun _ _ => rfl) (fun _ => rfl) (body_obligation3 (E3 m))
set_option backward.isDefEq.respectTransparency.types false in
def call4 : Pipeline.RegionSeg (pcfgs (F := F)) adm (pdats m) () defs₀ 𝒱₀ L lv 4 :=
  call (pdats m) 4 launch₀4 (W11 m) (A_eq4 (E4 m)) (fun _ _ => rfl) (fun _ _ => rfl) (fun _ _ => rfl) (fun _ => rfl) (body_obligation4 (E4 m))

/-- `main`'s segments in order. -/
abbrev segments : List (Pipeline.Seg (pcfgs (F := F)) adm (pdats m) () defs₀ 𝒱₀ L lv) :=
  [ .host (stretch hostOps0 hostOps0_sub hostOps0_fresh (W0 m)),
    .host (stretch hostOps0_1 hostOps0_1_sub hostOps0_1_fresh (W1 m)),
    .host (stretch hostOps0_2 hostOps0_2_sub hostOps0_2_fresh (W2 m)),
    .region (call0 m),
    .host (stretch hostOps1 hostOps1_sub hostOps1_fresh (W4 m)),
    .region (call1 m),
    .host (stretch hostOps2 hostOps2_sub hostOps2_fresh (W6 m)),
    .region (call2 m),
    .host (stretch hostOps3 hostOps3_sub hostOps3_fresh (W8 m)),
    .region (call3 m),
    .host (stretch hostOps4 hostOps4_sub hostOps4_fresh (W10 m)),
    .region (call4 m) ]

theorem main_run (c : Dev nD) : main (F := F) c = Pipeline.Seg.run (segments m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, without what is owed. -/
abbrev Tₙ (c : Dev nD) : sProp 𝕄 := iprop(StableHlo.held (c : Thread nD τ) (Pipeline.ucRefs τ sig) (W12 m c) ∗ ∃ r, prngReg c r)

set_option backward.isDefEq.respectTransparency.types false in
/-- The program runs, every buffer outside the calls' scopes ends as the fold says, and every counter at zero. -/
theorem run : θ_run defs (onTc (τ := τ) (main (F := F))) ⟨m, fun _ => 0, ρ⟩ (fun r =>
    (∀ c : Dev nD, ∀ b ∈ Pipeline.ucRefs τ sig, r.2.mem (c, b) = W12 m c b) ∧ r.2.sem = fun _ => 0) :=
  Pipeline.θ_run_regions_kit_sems (pcfgs (F := F)) adm (pdats m) () cellOf_inj emb₁ defs₀ 𝒱₀ L lv m ρ main (segments m)
    (fun c Q => by rw [main_run m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (W0 m)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show At (W12 m) c ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h hz => ⟨h, funext fun g => hz g (.inr (regions_no_unscoped g.2))⟩)

/-- The arguments end as they were. -/
abbrev Kept (s : MemSt nD τ sig (Elt F)) : Prop := ∀ c : Dev nD,
      s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)

/-- The run, read at the two results and at the arguments. -/
theorem run_results : θ_run defs (onTc (τ := τ) (main (F := F))) ⟨m, fun _ => 0, ρ⟩ (fun r =>
    (∀ c : Dev nD, r.2.mem ((c.tc : Thread nD τ).loc main_v44) = (dat3 (E3 m) c).arrAt 9 cfg3.N
      ∧ r.2.mem ((c.tc : Thread nD τ).loc main_v48) = (dat4 (E4 m) c).arrAt 9 cfg4.N)
    ∧ Kept m r.2 ∧ r.2.sem = fun _ => 0) :=
  (θ_run defs _ _).mono (fun r h => ⟨fun c =>
    ⟨(h.1 c _ (mem_uc main_v44 (by decide))).trans ((W12_of c main_v44 (by decide +kernel)).trans ((W11_of c main_v44 (by decide +kernel)).trans
        (leave_arr (dat3 (E3 m) c) (W9 m c) launch₀3.sharedIn (A_eq3 (E3 m) c) 9))),
      (h.1 c _ (mem_uc main_v48 (by decide))).trans (leave_arr (dat4 (E4 m) c) (W11 m c) launch₀4.sharedIn (A_eq4 (E4 m) c) 9)⟩,
    fun c => ⟨(h.1 c _ (mem_uc main_arg0 (by decide))).trans (W12_args m c _ (by decide)), (h.1 c _ (mem_uc main_arg1 (by decide))).trans (W12_args m c _ (by decide)),
      (h.1 c _ (mem_uc main_arg2 (by decide))).trans (W12_args m c _ (by decide)), (h.1 c _ (mem_uc main_arg3 (by decide))).trans (W12_args m c _ (by decide)),
      (h.1 c _ (mem_uc main_arg4 (by decide))).trans (W12_args m c _ (by decide)), (h.1 c _ (mem_uc main_arg5 (by decide))).trans (W12_args m c _ (by decide)),
      (h.1 c _ (mem_uc main_arg6 (by decide))).trans (W12_args m c _ (by decide)), (h.1 c _ (mem_uc main_arg7 (by decide))).trans (W12_args m c _ (by decide))⟩, h.2⟩) (run m ρ)

end Cert.Whole.Hand

end
-- ==== Proof.ProjBlock.lean ====
/-
  What one block of the projection kernel computes: each of the eight windows of a row band is projected by
  the weights and the bias, pooled over 7 by 7 cells, and averaged.
-/
module

public import proofs.«01_k».proof.Proof.Gen.ProjIdeal.Value
public import Idealize.ShloMosaic.Lib.Pointwise

@[expose] public section

set_option maxRecDepth 16384

noncomputable section

namespace Cert.ProjIdeal.RefBlock

open Cert.ProjIdeal Cert.ProjIdeal.Gen Cert.ProjIdeal.Facts Idealize.ShloMosaic

/-- Every window of the row band is a slice of it. -/
theorem hwin (n : Fin 8) : S28x224x192.Slices ![0, 28 * n.val, 0] S28x28x192 := by
  revert n; decide

/-- Window `n` of a row band, projected: the printed operations at a window number. -/
def tileVec (w : FVec Ideal S192x576 .f32) (b : FVec Ideal S1x576 .f32) (x : FVec Ideal S1x28x192x224 .f32) (n : Fin 8) :
    FVec Ideal S784x576 .f32 :=
  have v7 : FVec Ideal S28x224x192 .f32 := transpose S28x224x192 [0, 2, 1]
    (shapeCast S28x192x224 x shapeCasts_S1x28x192x224_S28x192x224) transposes_S28x192x224_p0_2_1_S28x224x192
  have v8 : FVec Ideal S28x28x192 .f32 := extractStridedSlice S28x28x192 ![0, 28 * n.val, 0] v7 (hwin n)
  have v9 : FVec Ideal S784x192 .f32 := shapeCast S784x192 v8 shapeCasts_S28x28x192_S784x192
  have v10 : FVec Ideal S784x576 .f32 :=
    matmul dot_S784x192_S192x576_S784x576_1_0_0_1_n_n none v9 w (constant S784x576 .f32 0x00000000#32)
  addf v10 (broadcastTo S784x576 (shapeCast S1x576 b shapeCasts_S1x576_S1x576) broadcasts_S1x576_S784x576)

/-- Window `n`'s projection at pixel `p` of the window and output column `d`. -/
def tile (w : FVec Ideal S192x576 .f32) (b : FVec Ideal S1x576 .f32) (x : FVec Ideal S1x28x192x224 .f32) (n : Fin 8)
    (p : Fin 784) (d : Fin 576) : EReal :=
  (∑ e : Fin 192, x (ix4 0 ⟨p.val / 28, by omega⟩ e ⟨28 * n.val + p.val % 28, by omega⟩) * w (ix2 e d)) + b (ix2 0 d)

theorem tileVec_apply (w : FVec Ideal S192x576 .f32) (b : FVec Ideal S1x576 .f32) (x : FVec Ideal S1x28x192x224 .f32)
    (n : Fin 8) (p : Fin 784) (d : Fin 576) : tileVec w b x n (ix2 p d) = tile w b x n p d := by
  pointwise [tileVec, tile]
  done

/-- The queries of window `n`: the first 192 columns. -/
def queryVec (w : FVec Ideal S192x576 .f32) (b : FVec Ideal S1x576 .f32) (x : FVec Ideal S1x28x192x224 .f32) (n : Fin 8) :
    FVec Ideal S1x784x192 .bf16 :=
  shapeCast S1x784x192 (truncf .bf16 (extractStridedSlice S784x192 ![0, 0] (tileVec w b x n)
    slices_S784x576_o0_0_S784x192) bitsLt_bf16_f32) shapeCasts_S784x192_S1x784x192

/-- The pooled keys and values of window `n`: the table's rows against the last 384 columns. -/
def pooledVec (w : FVec Ideal S192x576 .f32) (b : FVec Ideal S1x576 .f32) (g : FVec Ideal S16x784 .f32)
    (x : FVec Ideal S1x28x192x224 .f32) (n : Fin 8) :
    FVec Ideal S1x16x384 .bf16 :=
  have v4 : FVec Ideal S16x784 .f32 := shapeCast S16x784 g shapeCasts_S16x784_S16x784
  have v15 : FVec Ideal S784x384 .f32 := extractStridedSlice S784x384 ![0, 192] (tileVec w b x n) slices_S784x576_o0_192_S784x384
  have v16 : FVec Ideal S16x384 .f32 :=
    matmul dot_S16x784_S784x384_S16x384_1_0_0_1_n_n none v4 v15 (constant S16x384 .f32 0x00000000#32)
  have v17 : FVec Ideal S16x384 .bf16 := truncf .bf16 v16 bitsLt_bf16_f32
  shapeCast S1x16x384 v17 shapeCasts_S16x384_S1x16x384

/-- The mean over the pixels of window `n`. -/
def meanVec (w : FVec Ideal S192x576 .f32) (b : FVec Ideal S1x576 .f32) (x : FVec Ideal S1x28x192x224 .f32) (n : Fin 8) :
    FVec Ideal S1x576 .f32 :=
  have v18 : FVec Ideal S576 .f32 :=
    multiReduction .add [0] S576 (tileVec w b x n) 0x00000000#32 reduces_S784x576_S576 (.inl rfl) rfl
  have v19 : FVec Ideal S1x576 .f32 := shapeCast S1x576 v18 shapeCasts_S576_S1x576
  divf v19 (broadcast S1x576 (Scalar.ofBits .f32 0x44440000#32))

theorem queryVec_apply (w : FVec Ideal S192x576 .f32) (b : FVec Ideal S1x576 .f32) (x : FVec Ideal S1x28x192x224 .f32) (n : Fin 8)
    (p : Fin 784) (d : Fin 192) : queryVec w b x n (ix3 0 p d) = tile w b x n p ⟨d.val, by omega⟩ := by
  rw [← tileVec_apply]
  pointwise [queryVec]

theorem pooledVec_apply (w : FVec Ideal S192x576 .f32) (b : FVec Ideal S1x576 .f32) (g : FVec Ideal S16x784 .f32)
    (x : FVec Ideal S1x28x192x224 .f32) (n : Fin 8)
    (k : Fin 16) (d : Fin 384) :
    pooledVec w b g x n (ix3 0 k d) = ∑ p : Fin 784, g (ix2 k p) * tile w b x n p ⟨192 + d.val, by omega⟩ := by
  simp only [← tileVec_apply]
  pointwise [pooledVec]

theorem meanVec_apply (w : FVec Ideal S192x576 .f32) (b : FVec Ideal S1x576 .f32) (x : FVec Ideal S1x28x192x224 .f32) (n : Fin 8)
    (d : Fin 576) :
    meanVec w b x n (ix2 0 d) = Ideal.div (∑ p : Fin 784, tile w b x n p d) (Ideal.ofBits .f32 0x44440000#32) := by
  simp only [← tileVec_apply]
  pointwise [meanVec]

theorem cat5 (w : FVec Ideal S192x576 .f32) (b : FVec Ideal S1x576 .f32) (x : FVec Ideal S1x28x192x224 .f32) (n : Fin 8) :
    Value.Cat5_0 (F := Ideal) w b x n = queryVec w b x n := by
  fin_cases n <;> rfl

theorem E5_apply (w : FVec Ideal S192x576 .f32) (b : FVec Ideal S1x576 .f32) (x : FVec Ideal S1x28x192x224 .f32) (n : Fin 8)
    (p : Fin 784) (d : Fin 192) :
    Value.E5 (F := Ideal) w b x (ix3 n p d) = tile w b x n p ⟨d.val, by omega⟩ := by
  have h : Value.ix5_0 (ix3 n p d) = ix3 0 p d := funext fun a => by fin_cases a <;> rfl
  refine (congrArg (Value.Cat5_0 (F := Ideal) w b x n) h).trans ?_
  rw [cat5, queryVec_apply]

theorem cat6 (w : FVec Ideal S192x576 .f32) (b : FVec Ideal S1x576 .f32) (x : FVec Ideal S1x28x192x224 .f32) (n : Fin 8) :
    Value.Cat6_0 (F := Ideal) w b x n = queryVec w b x n := by
  fin_cases n <;> rfl

theorem E6_apply (w : FVec Ideal S192x576 .f32) (b : FVec Ideal S1x576 .f32) (x : FVec Ideal S1x28x192x224 .f32) (n : Fin 8)
    (p : Fin 784) (d : Fin 192) :
    Value.E6 (F := Ideal) w b x (ix3 n p d) = tile w b x n p ⟨d.val, by omega⟩ := by
  have h : Value.ix6_0 (ix3 n p d) = ix3 0 p d := funext fun a => by fin_cases a <;> rfl
  refine (congrArg (Value.Cat6_0 (F := Ideal) w b x n) h).trans ?_
  rw [cat6, queryVec_apply]

theorem cat7 (w : FVec Ideal S192x576 .f32) (b : FVec Ideal S1x576 .f32) (g : FVec Ideal S16x784 .f32)
    (x : FVec Ideal S1x28x192x224 .f32) (n : Fin 8) :
    Value.Cat7_0 (F := Ideal) w b g x n = pooledVec w b g x n := by
  fin_cases n <;> rfl

theorem E7_apply (w : FVec Ideal S192x576 .f32) (b : FVec Ideal S1x576 .f32) (g : FVec Ideal S16x784 .f32)
    (x : FVec Ideal S1x28x192x224 .f32) (n : Fin 8)
    (k : Fin 16) (d : Fin 384) :
    Value.E7 (F := Ideal) w b g x (ix3 n k d) = ∑ p : Fin 784, g (ix2 k p) * tile w b x n p ⟨192 + d.val, by omega⟩ := by
  have h : Value.ix7_0 (ix3 n k d) = ix3 0 k d := funext fun a => by fin_cases a <;> rfl
  refine (congrArg (Value.Cat7_0 (F := Ideal) w b g x n) h).trans ?_
  rw [cat7, pooledVec_apply]

theorem cat8 (w : FVec Ideal S192x576 .f32) (b : FVec Ideal S1x576 .f32) (g : FVec Ideal S16x784 .f32)
    (x : FVec Ideal S1x28x192x224 .f32) (n : Fin 8) :
    Value.Cat8_0 (F := Ideal) w b g x n = pooledVec w b g x n := by
  fin_cases n <;> rfl

theorem E8_apply (w : FVec Ideal S192x576 .f32) (b : FVec Ideal S1x576 .f32) (g : FVec Ideal S16x784 .f32)
    (x : FVec Ideal S1x28x192x224 .f32) (n : Fin 8)
    (k : Fin 16) (d : Fin 384) :
    Value.E8 (F := Ideal) w b g x (ix3 n k d) = ∑ p : Fin 784, g (ix2 k p) * tile w b x n p ⟨192 + d.val, by omega⟩ := by
  have h : Value.ix8_0 (ix3 n k d) = ix3 0 k d := funext fun a => by fin_cases a <;> rfl
  refine (congrArg (Value.Cat8_0 (F := Ideal) w b g x n) h).trans ?_
  rw [cat8, pooledVec_apply]

theorem cat9 (w : FVec Ideal S192x576 .f32) (b : FVec Ideal S1x576 .f32) (x : FVec Ideal S1x28x192x224 .f32) (n : Fin 8) :
    Value.Cat9_0 (F := Ideal) w b x n = shapeCast S1x1x192 (extractStridedSlice S1x192 ![0, 0] (meanVec w b x n)
      slices_S1x576_o0_0_S1x192) shapeCasts_S1x192_S1x1x192 := by
  fin_cases n <;> rfl

theorem E9_apply (w : FVec Ideal S192x576 .f32) (b : FVec Ideal S1x576 .f32) (x : FVec Ideal S1x28x192x224 .f32) (n : Fin 8)
    (d : Fin 192) :
    Value.E9 (F := Ideal) w b x (ix3 n 0 d) =
      Ideal.div (∑ p : Fin 784, tile w b x n p ⟨d.val, by omega⟩) (Ideal.ofBits .f32 0x44440000#32) := by
  have h : Value.ix9_0 (ix3 n 0 d) = ix3 0 0 d := funext fun a => by fin_cases a <;> rfl
  refine (congrArg (Value.Cat9_0 (F := Ideal) w b x n) h).trans ?_
  rw [← meanVec_apply, cat9]
  pointwise

theorem cat10 (w : FVec Ideal S192x576 .f32) (b : FVec Ideal S1x576 .f32) (x : FVec Ideal S1x28x192x224 .f32) (n : Fin 8) :
    Value.Cat10_0 (F := Ideal) w b x n = shapeCast S1x1x192 (extractStridedSlice S1x192 ![0, 192] (meanVec w b x n)
      slices_S1x576_o0_192_S1x192) shapeCasts_S1x192_S1x1x192 := by
  fin_cases n <;> rfl

theorem E10_apply (w : FVec Ideal S192x576 .f32) (b : FVec Ideal S1x576 .f32) (x : FVec Ideal S1x28x192x224 .f32) (n : Fin 8)
    (d : Fin 192) :
    Value.E10 (F := Ideal) w b x (ix3 n 0 d) =
      Ideal.div (∑ p : Fin 784, tile w b x n p ⟨192 + d.val, by omega⟩) (Ideal.ofBits .f32 0x44440000#32) := by
  have h : Value.ix10_0 (ix3 n 0 d) = ix3 0 0 d := funext fun a => by fin_cases a <;> rfl
  refine (congrArg (Value.Cat10_0 (F := Ideal) w b x n) h).trans ?_
  rw [← meanVec_apply, cat10]
  pointwise

theorem cat11 (w : FVec Ideal S192x576 .f32) (b : FVec Ideal S1x576 .f32) (x : FVec Ideal S1x28x192x224 .f32) (n : Fin 8) :
    Value.Cat11_0 (F := Ideal) w b x n = shapeCast S1x1x192 (extractStridedSlice S1x192 ![0, 0] (meanVec w b x n)
      slices_S1x576_o0_0_S1x192) shapeCasts_S1x192_S1x1x192 := by
  fin_cases n <;> rfl

theorem E11_apply (w : FVec Ideal S192x576 .f32) (b : FVec Ideal S1x576 .f32) (x : FVec Ideal S1x28x192x224 .f32) (n : Fin 8)
    (d : Fin 192) :
    Value.E11 (F := Ideal) w b x (ix3 n 0 d) =
      Ideal.div (∑ p : Fin 784, tile w b x n p ⟨d.val, by omega⟩) (Ideal.ofBits .f32 0x44440000#32) := by
  have h : Value.ix11_0 (ix3 n 0 d) = ix3 0 0 d := funext fun a => by fin_cases a <;> rfl
  refine (congrArg (Value.Cat11_0 (F := Ideal) w b x n) h).trans ?_
  rw [← meanVec_apply, cat11]
  pointwise

theorem cat12 (w : FVec Ideal S192x576 .f32) (b : FVec Ideal S1x576 .f32) (x : FVec Ideal S1x28x192x224 .f32) (n : Fin 8) :
    Value.Cat12_0 (F := Ideal) w b x n = shapeCast S1x1x192 (extractStridedSlice S1x192 ![0, 192] (meanVec w b x n)
      slices_S1x576_o0_192_S1x192) shapeCasts_S1x192_S1x1x192 := by
  fin_cases n <;> rfl

theorem E12_apply (w : FVec Ideal S192x576 .f32) (b : FVec Ideal S1x576 .f32) (x : FVec Ideal S1x28x192x224 .f32) (n : Fin 8)
    (d : Fin 192) :
    Value.E12 (F := Ideal) w b x (ix3 n 0 d) =
      Ideal.div (∑ p : Fin 784, tile w b x n p ⟨192 + d.val, by omega⟩) (Ideal.ofBits .f32 0x44440000#32) := by
  have h : Value.ix12_0 (ix3 n 0 d) = ix3 0 0 d := funext fun a => by fin_cases a <;> rfl
  refine (congrArg (Value.Cat12_0 (F := Ideal) w b x n) h).trans ?_
  rw [← meanVec_apply, cat12]
  pointwise

end Cert.ProjIdeal.RefBlock
end
-- ==== Proof.WholeOutProj.lean ====
/-
  The blocks of the whole program's projection call are those of the call by itself.
-/
module

public import proofs.«01_k».proof.Proof.WholeProj
public import proofs.«01_k».proof.Proof.ProjBlock

@[expose] public section

namespace Cert.Whole.Hand

open Idealize.ShloMosaic

theorem out0_5_eq : out0_5 (F := Ideal) = Cert.ProjIdeal.Gen.out0_5 := by exact rfl
theorem out0_6_eq : out0_6 (F := Ideal) = Cert.ProjIdeal.Gen.out0_6 := by exact rfl
theorem out0_7_eq : out0_7 (F := Ideal) = Cert.ProjIdeal.Gen.out0_7 := by exact rfl
theorem out0_8_eq : out0_8 (F := Ideal) = Cert.ProjIdeal.Gen.out0_8 := by exact rfl
theorem out0_9_eq : out0_9 (F := Ideal) = Cert.ProjIdeal.Gen.out0_9 := by exact rfl
theorem out0_10_eq : out0_10 (F := Ideal) = Cert.ProjIdeal.Gen.out0_10 := by exact rfl
theorem out0_11_eq : out0_11 (F := Ideal) = Cert.ProjIdeal.Gen.out0_11 := by exact rfl
theorem out0_12_eq : out0_12 (F := Ideal) = Cert.ProjIdeal.Gen.out0_12 := by exact rfl

end Cert.Whole.Hand
end
-- ==== Proof.ProjArray.lean ====
/-
  What the arrays of the projection kernel hold after the run, element by element, in terms of its arguments.
-/
module

public import proofs.«01_k».proof.Proof.ProjBlock
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.ProjIdeal.RefArray

open Cert.ProjIdeal Cert.ProjIdeal.Gen Cert.ProjIdeal.RefBlock Idealize.ShloMosaic Idealize.ShloMosaic.TcCoe Idealize.SL.Sem
open Idealize.ShloMosaic.Pipeline (Dat)

variable (m : (ℓ : Loc nD τ sig) → Buf (Elt Ideal) ℓ)

/-- The word 49.0. -/
theorem ofBits_49 : Ideal.ofBits .f32 0x42440000#32 = ((49 : ℝ) : EReal) := by
  simp [Ideal.ofBits, Ideal.ieee, -EReal.coe_mul]; norm_num

/-! ## The arrays that the host prepares -/

theorem V_x1 (c : Dev nD) (a b : Fin 224) (e : Fin 192) :
    V m c main_v20 (ix4 0 a e b) = m ((c : Thread nD τ).loc main_arg0) (ix4 0 a b e) := by
  unfold V
  after_reads_at

theorem V_x2 (c : Dev nD) (a b : Fin 224) (e : Fin 192) :
    V m c main_v21 (ix4 0 a e b) = m ((c : Thread nD τ).loc main_arg1) (ix4 0 a b e) := by
  unfold V
  after_reads_at

theorem V_bias (c : Dev nD) (d : Fin 576) :
    V m c main_v22 (ix2 0 d) = m ((c : Thread nD τ).loc main_arg3) (ix1 d) := by
  unfold V
  after_reads_at

theorem row_cell : ∀ p : Fin 784, IntOp.divsi ArithUnit.host (IntOp.divsi ArithUnit.host (BitVec.ofNat 32 p.val) 28#32) 7#32
    = BitVec.ofNat 32 (p.val / 28 / 7) := by decide +kernel

theorem col_cell : ∀ p : Fin 784, IntOp.divsi ArithUnit.host (IntOp.remsi ArithUnit.host (BitVec.ofNat 32 p.val) 28#32) 7#32
    = BitVec.ofNat 32 (p.val % 28 / 7) := by decide +kernel

theorem div_four : ∀ k : Fin 16, IntOp.divsi ArithUnit.host (BitVec.ofNat 32 k.val) 4#32 = BitVec.ofNat 32 (k.val / 4) := by
  decide +kernel

theorem rem_four : ∀ k : Fin 16, IntOp.remsi ArithUnit.host (BitVec.ofNat 32 k.val) 4#32 = BitVec.ofNat 32 (k.val % 4) := by
  decide +kernel

theorem both_eq : ∀ a b c d : Fin 4, IntOp.andi (IntOp.cmpi CmpIPredicate.eq (BitVec.ofNat 32 a.val) (BitVec.ofNat 32 b.val))
    (IntOp.cmpi CmpIPredicate.eq (BitVec.ofNat 32 c.val) (BitVec.ofNat 32 d.val))
    = if a.val = b.val ∧ c.val = d.val then 1#1 else 0#1 := by
  decide +kernel

/-- The pooling table: one over 49 where pixel `p` of the window lies in cell `k`, zero elsewhere. -/
theorem V_pool (c : Dev nD) (k : Fin 16) (p : Fin 784) :
    V m c main_v19 (ix2 k p) = if p.val / 28 / 7 = k.val / 4 ∧ p.val % 28 / 7 = k.val % 4
      then ((1 / 49 : ℝ) : EReal) else 0 := by
  unfold V
  after_reads_at
  have h := both_eq ⟨p.val / 28 / 7, by omega⟩ ⟨k.val / 4, by omega⟩ ⟨p.val % 28 / 7, by omega⟩ ⟨k.val % 4, by omega⟩
  dsimp only at h
  rw [row_cell, col_cell, div_four, rem_four, h]
  rw [ofBits_49, Ideal.div_coe (by norm_num)]
  split <;> simp [Scalar.select]

/-! ## The blocks -/
theorem idx0 : ∀ t : Fin cfg0.N, win0_0.index t = ![0, t.val, 0, 0] :=
  (by decide +kernel : ∀ t : Fin grid0.N, win0_0.index t = ![0, t.val, 0, 0])

theorem blk_x1 (c : Dev nD) (t : Fin cfg0.N) (r : Fin 28) (e : Fin 192) (q : Fin 224) :
    iblk m c 0 t (ix4 0 r e q) =
      m ((c : Thread nD τ).loc main_arg0) (ix4 0 ⟨28 * t.val + r.val, by have : t.val < 8 := t.isLt; omega⟩ q e) := by
  rw [← V_x1 m c]
  blk_point [iblk, idx0 t]

theorem idx1 : ∀ t : Fin cfg0.N, win0_1.index t = ![0, t.val, 0, 0] :=
  (by decide +kernel : ∀ t : Fin grid0.N, win0_1.index t = ![0, t.val, 0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])

theorem blk_x2 (c : Dev nD) (t : Fin cfg0.N) (r : Fin 28) (e : Fin 192) (q : Fin 224) :
    iblk m c 1 t (ix4 0 r e q) =
      m ((c : Thread nD τ).loc main_arg1) (ix4 0 ⟨28 * t.val + r.val, by have : t.val < 8 := t.isLt; omega⟩ q e) := by
  rw [← V_x2 m c]
  blk_point [iblk, V, idx1 t]

theorem blk_w (c : Dev nD) (t : Fin cfg0.N) (e : Fin 192) (d : Fin 576) :
    iblk m c 2 t (ix2 e d) = m ((c : Thread nD τ).loc main_arg2) (ix2 e d) := by
  rw [← V_main_arg2 m c]
  blk_point [iblk, idx2 t]

theorem blk_b (c : Dev nD) (t : Fin cfg0.N) (d : Fin 576) :
    iblk m c 3 t (ix2 0 d) = m ((c : Thread nD τ).loc main_arg3) (ix1 d) := by
  rw [← V_bias m c]
  blk_point [iblk, idx3 t]

theorem blk_pool (c : Dev nD) (t : Fin cfg0.N) (k : Fin 16) (p : Fin 784) :
    iblk m c 4 t (ix2 k p) = if p.val / 28 / 7 = k.val / 4 ∧ p.val % 28 / 7 = k.val % 4
      then ((1 / 49 : ℝ) : EReal) else 0 := by
  rw [← V_pool m c]
  blk_point [iblk, idx4 t]

/-! ## The tile of a block, in terms of the arguments -/

/-- The projection of pixel `p` of window `n` onto column `d`. -/
def pix (x : FVec Ideal S1x224x224x192 .f32) (w : FVec Ideal S192x576 .f32) (b : FVec Ideal S576 .f32)
    (n : Fin 64) (p : Fin 784) (d : Fin 576) : EReal :=
  (∑ e : Fin 192, x (ix4 0 ⟨28 * (n.val / 8) + p.val / 28, by omega⟩ ⟨28 * (n.val % 8) + p.val % 28, by omega⟩ e)
    * w (ix2 e d)) + b (ix1 d)

/-- The queries of every window. -/
def queries (x : FVec Ideal S1x224x224x192 .f32) (w : FVec Ideal S192x576 .f32) (b : FVec Ideal S576 .f32) : FVec Ideal S64x784x192 .bf16 :=
  fun i => pix x w b (i 0) (i 1) ⟨(i 2).val, by have : (i 2).val < 192 := (i 2).isLt; omega⟩

/-- The keys and values of every window, each cell of 49 pixels averaged. -/
def pooled (x : FVec Ideal S1x224x224x192 .f32) (w : FVec Ideal S192x576 .f32) (b : FVec Ideal S576 .f32) : FVec Ideal S64x16x384 .bf16 :=
  fun i => ∑ p : Fin 784, (if p.val / 28 / 7 = (i 1).val / 4 ∧ p.val % 28 / 7 = (i 1).val % 4
    then ((1 / 49 : ℝ) : EReal) else 0) * pix x w b (i 0) p ⟨192 + (i 2).val, by have : (i 2).val < 384 := (i 2).isLt; omega⟩

/-- The mean of column `o + d` of the projection over the pixels of every window. -/
def means (o : ℕ) (ho : o + 192 ≤ 576) (x : FVec Ideal S1x224x224x192 .f32) (w : FVec Ideal S192x576 .f32) (b : FVec Ideal S576 .f32) : FVec Ideal S64x1x192 .f32 :=
  fun i => Ideal.div (∑ p : Fin 784, pix x w b (i 0) p ⟨o + (i 2).val, by have : (i 2).val < 192 := (i 2).isLt; omega⟩)
    (Ideal.ofBits .f32 0x44440000#32)

theorem ld0 (v : Vec Ideal S192x576 .f32) : View.ld (Val := Elt Ideal) (e' := .f32) v r0_0 = v :=
  View.ld_unit_zero (funext fun a => by fin_cases a <;> rfl) _ _
theorem ld1 (v : Vec Ideal S1x576 .f32) : View.ld (Val := Elt Ideal) (e' := .f32) v r0_1 = v :=
  View.ld_unit_zero (funext fun a => by fin_cases a <;> rfl) _ _
theorem ld2 (v : Vec Ideal S16x784 .f32) : View.ld (Val := Elt Ideal) (e' := .f32) v r0_2 = v :=
  View.ld_unit_zero (funext fun a => by fin_cases a <;> rfl) _ _
theorem ld3 (v : Vec Ideal S1x28x192x224 .f32) : View.ld (Val := Elt Ideal) (e' := .f32) v r0_3 = v :=
  View.ld_unit_zero (funext fun a => by fin_cases a <;> rfl) _ _

/-- The blocks of band `t` hold rows `28 t` to `28 t + 27` of the image, channels before columns, the weights and the bias. -/
structure Holds (x : FVec Ideal S1x224x224x192 .f32) (w : FVec Ideal S192x576 .f32) (b : FVec Ideal S576 .f32) (t : Fin 8)
    (bx : FVec Ideal S1x28x192x224 .f32) (bw : FVec Ideal S192x576 .f32) (bb : FVec Ideal S1x576 .f32) : Prop where
  image : ∀ (r : Fin 28) (e : Fin 192) (q : Fin 224), bx (ix4 0 r e q) = x (ix4 0 ⟨28 * t.val + r.val, by omega⟩ q e)
  weights : ∀ (e : Fin 192) (d : Fin 576), bw (ix2 e d) = w (ix2 e d)
  bias : ∀ d : Fin 576, bb (ix2 0 d) = b (ix1 d)

/-- The block is the pooling table. -/
def Pools (bp : FVec Ideal S16x784 .f32) : Prop :=
  ∀ (k : Fin 16) (p : Fin 784), bp (ix2 k p) = if p.val / 28 / 7 = k.val / 4 ∧ p.val % 28 / 7 = k.val % 4
    then ((1 / 49 : ℝ) : EReal) else 0

section
variable {x : FVec Ideal S1x224x224x192 .f32} {w : FVec Ideal S192x576 .f32} {b : FVec Ideal S576 .f32} {t : Fin 8}
  {bx : FVec Ideal S1x28x192x224 .f32} {bw : FVec Ideal S192x576 .f32} {bb : FVec Ideal S1x576 .f32} {bp : FVec Ideal S16x784 .f32}
  (h : Holds x w b t bx bw bb) (hp : Pools bp) (o : FVec Ideal S1x28x192x224 .f32)

include h in
theorem tile_of (n : Fin 8) (p : Fin 784) (d : Fin 576) :
    tile bw bb bx n p d = pix x w b ⟨8 * t.val + n.val, by omega⟩ p d := by
  unfold tile pix
  simp only [h.image, h.weights, h.bias]
  have h1 : (8 * t.val + n.val) / 8 = t.val := by omega
  have h2 : (8 * t.val + n.val) % 8 = n.val := by omega
  simp only [h1, h2]

/-! ## The blocks that the body leaves -/

include h in
theorem block5 (n : Fin 8) (p : Fin 784) (d : Fin 192) :
    out0_5 (F := Ideal) bx o bw bb bp (ix3 n p d) = queries x w b (ix3 ⟨8 * t.val + n.val, by omega⟩ p d) := by
  refine (Value.canon5_eq (View.ld (Val := Elt Ideal) (e' := .f32) bw r0_0) (View.ld (Val := Elt Ideal) (e' := .f32) bb r0_1) (View.ld (Val := Elt Ideal) (e' := .f32) bx r0_3) (ix3 n p d)).trans ?_
  rw [ld0, ld1, ld3]
  exact (E5_apply _ _ _ n p d).trans (tile_of h n p _)

include h in
theorem block6 (n : Fin 8) (p : Fin 784) (d : Fin 192) :
    out0_6 (F := Ideal) o bx bw bb bp (ix3 n p d) = queries x w b (ix3 ⟨8 * t.val + n.val, by omega⟩ p d) := by
  refine (Value.canon6_eq (View.ld (Val := Elt Ideal) (e' := .f32) bw r0_0) (View.ld (Val := Elt Ideal) (e' := .f32) bb r0_1) (View.ld (Val := Elt Ideal) (e' := .f32) bx r0_3) (ix3 n p d)).trans ?_
  rw [ld0, ld1, ld3]
  exact (E6_apply _ _ _ n p d).trans (tile_of h n p _)

include h hp in
theorem block7 (n : Fin 8) (p : Fin 16) (d : Fin 384) :
    out0_7 (F := Ideal) bx o bw bb bp (ix3 n p d) = pooled x w b (ix3 ⟨8 * t.val + n.val, by omega⟩ p d) := by
  refine (Value.canon7_eq (View.ld (Val := Elt Ideal) (e' := .f32) bw r0_0) (View.ld (Val := Elt Ideal) (e' := .f32) bb r0_1) (View.ld (Val := Elt Ideal) (e' := .f32) bp r0_2) (View.ld (Val := Elt Ideal) (e' := .f32) bx r0_3) (ix3 n p d)).trans ?_
  rw [ld0, ld1, ld3, ld2]
  refine (E7_apply _ _ _ _ n p d).trans (Finset.sum_congr rfl fun q _ => ?_)
  rw [tile_of h, hp]
  rfl

include h hp in
theorem block8 (n : Fin 8) (p : Fin 16) (d : Fin 384) :
    out0_8 (F := Ideal) o bx bw bb bp (ix3 n p d) = pooled x w b (ix3 ⟨8 * t.val + n.val, by omega⟩ p d) := by
  refine (Value.canon8_eq (View.ld (Val := Elt Ideal) (e' := .f32) bw r0_0) (View.ld (Val := Elt Ideal) (e' := .f32) bb r0_1) (View.ld (Val := Elt Ideal) (e' := .f32) bp r0_2) (View.ld (Val := Elt Ideal) (e' := .f32) bx r0_3) (ix3 n p d)).trans ?_
  rw [ld0, ld1, ld3, ld2]
  refine (E8_apply _ _ _ _ n p d).trans (Finset.sum_congr rfl fun q _ => ?_)
  rw [tile_of h, hp]
  rfl

include h in
theorem block9 (n : Fin 8) (p : Fin 1) (d : Fin 192) :
    out0_9 (F := Ideal) bx o bw bb bp (ix3 n p d) = means 0 (by omega) x w b (ix3 ⟨8 * t.val + n.val, by omega⟩ p d) := by
  refine (Value.canon9_eq (View.ld (Val := Elt Ideal) (e' := .f32) bw r0_0) (View.ld (Val := Elt Ideal) (e' := .f32) bb r0_1) (View.ld (Val := Elt Ideal) (e' := .f32) bx r0_3) (ix3 n p d)).trans ?_
  rw [ld0, ld1, ld3]
  obtain rfl : p = 0 := Subsingleton.elim _ _
  refine (E9_apply _ _ _ n d).trans (congrArg (Ideal.div · _) (Finset.sum_congr rfl fun q _ => ?_))
  rw [tile_of h]
  simp only [Nat.zero_add]
  rfl

include h in
theorem block10 (n : Fin 8) (p : Fin 1) (d : Fin 192) :
    out0_10 (F := Ideal) bx o bw bb bp (ix3 n p d) = means 192 (by omega) x w b (ix3 ⟨8 * t.val + n.val, by omega⟩ p d) := by
  refine (Value.canon10_eq (View.ld (Val := Elt Ideal) (e' := .f32) bw r0_0) (View.ld (Val := Elt Ideal) (e' := .f32) bb r0_1) (View.ld (Val := Elt Ideal) (e' := .f32) bx r0_3) (ix3 n p d)).trans ?_
  rw [ld0, ld1, ld3]
  obtain rfl : p = 0 := Subsingleton.elim _ _
  refine (E10_apply _ _ _ n d).trans (congrArg (Ideal.div · _) (Finset.sum_congr rfl fun q _ => ?_))
  rw [tile_of h]
  simp only [Nat.zero_add]
  rfl

include h in
theorem block11 (n : Fin 8) (p : Fin 1) (d : Fin 192) :
    out0_11 (F := Ideal) o bx bw bb bp (ix3 n p d) = means 0 (by omega) x w b (ix3 ⟨8 * t.val + n.val, by omega⟩ p d) := by
  refine (Value.canon11_eq (View.ld (Val := Elt Ideal) (e' := .f32) bw r0_0) (View.ld (Val := Elt Ideal) (e' := .f32) bb r0_1) (View.ld (Val := Elt Ideal) (e' := .f32) bx r0_3) (ix3 n p d)).trans ?_
  rw [ld0, ld1, ld3]
  obtain rfl : p = 0 := Subsingleton.elim _ _
  refine (E11_apply _ _ _ n d).trans (congrArg (Ideal.div · _) (Finset.sum_congr rfl fun q _ => ?_))
  rw [tile_of h]
  simp only [Nat.zero_add]
  rfl

include h in
theorem block12 (n : Fin 8) (p : Fin 1) (d : Fin 192) :
    out0_12 (F := Ideal) o bx bw bb bp (ix3 n p d) = means 192 (by omega) x w b (ix3 ⟨8 * t.val + n.val, by omega⟩ p d) := by
  refine (Value.canon12_eq (View.ld (Val := Elt Ideal) (e' := .f32) bw r0_0) (View.ld (Val := Elt Ideal) (e' := .f32) bb r0_1) (View.ld (Val := Elt Ideal) (e' := .f32) bx r0_3) (ix3 n p d)).trans ?_
  rw [ld0, ld1, ld3]
  obtain rfl : p = 0 := Subsingleton.elim _ _
  refine (E12_apply _ _ _ n d).trans (congrArg (Ideal.div · _) (Finset.sum_congr rfl fun q _ => ?_))
  rw [tile_of h]
  simp only [Nat.zero_add]
  rfl

end

theorem holds1 (c : Dev nD) (t : Fin cfg0.N) : Holds (m ((c : Thread nD τ).loc main_arg0)) (m ((c : Thread nD τ).loc main_arg2))
    (m ((c : Thread nD τ).loc main_arg3)) ⟨t.val, t.isLt⟩ (iblk m c 0 t) (iblk m c 2 t) (iblk m c 3 t) :=
  ⟨blk_x1 m c t, blk_w m c t, blk_b m c t⟩

theorem holds2 (c : Dev nD) (t : Fin cfg0.N) : Holds (m ((c : Thread nD τ).loc main_arg1)) (m ((c : Thread nD τ).loc main_arg2))
    (m ((c : Thread nD τ).loc main_arg3)) ⟨t.val, t.isLt⟩ (iblk m c 1 t) (iblk m c 2 t) (iblk m c 3 t) :=
  ⟨blk_x2 m c t, blk_w m c t, blk_b m c t⟩

/-! ## The result arrays -/

theorem idx5 : ∀ t : Fin cfg0.N, win0_5.index t = ![t.val, 0, 0] :=
  (by decide +kernel : ∀ t : Fin grid0.N, win0_5.index t = ![t.val, 0, 0])

theorem emb5 (t : Fin cfg0.N) (n : Fin 8) (p : Fin 784) (d : Fin 192) : (win0_5.blk t).view.emb (ix3 n p d)
    = ix3 ⟨8 * t.val + n.val, by have : t.val < 8 := t.isLt; omega⟩ p d := by
  funext a
  apply Fin.ext
  fin_cases a <;> blk_simp [idx5 t] <;> simp <;> omega

theorem final5 (c : Dev nD) : (dats m 0 c).arrAt 5 cfg0.N
    = queries (m ((c : Thread nD τ).loc main_arg0)) (m ((c : Thread nD τ).loc main_arg2)) (m ((c : Thread nD τ).loc main_arg3)) := by
  refine (dats m 0 c).arrAt_eq_of_covers 5 _ (by decide +kernel) fun t hf y => ?_
  obtain ⟨n, p, d, rfl⟩ : ∃ (n : Fin 8) (p : Fin 784) (d : Fin 192), y = ix3 n p d := ⟨y 0, y 1, y 2, eq_ix3 y⟩
  refine Eq.trans ?_ (congrArg (queries (m ((c : Thread nD τ).loc main_arg0)) (m ((c : Thread nD τ).loc main_arg2)) (m ((c : Thread nD τ).loc main_arg3))) (emb5 t n p d).symm)
  blk_simp
  rw [after0_5]
  exact block5 (holds1 m c t) _ n p d

theorem idx6 : ∀ t : Fin cfg0.N, win0_6.index t = ![t.val, 0, 0] :=
  (by decide +kernel : ∀ t : Fin grid0.N, win0_6.index t = ![t.val, 0, 0])

theorem emb6 (t : Fin cfg0.N) (n : Fin 8) (p : Fin 784) (d : Fin 192) : (win0_6.blk t).view.emb (ix3 n p d)
    = ix3 ⟨8 * t.val + n.val, by have : t.val < 8 := t.isLt; omega⟩ p d := by
  funext a
  apply Fin.ext
  fin_cases a <;> blk_simp [idx6 t] <;> simp <;> omega

theorem final6 (c : Dev nD) : (dats m 0 c).arrAt 6 cfg0.N
    = queries (m ((c : Thread nD τ).loc main_arg1)) (m ((c : Thread nD τ).loc main_arg2)) (m ((c : Thread nD τ).loc main_arg3)) := by
  refine (dats m 0 c).arrAt_eq_of_covers 6 _ (by decide +kernel) fun t hf y => ?_
  obtain ⟨n, p, d, rfl⟩ : ∃ (n : Fin 8) (p : Fin 784) (d : Fin 192), y = ix3 n p d := ⟨y 0, y 1, y 2, eq_ix3 y⟩
  refine Eq.trans ?_ (congrArg (queries (m ((c : Thread nD τ).loc main_arg1)) (m ((c : Thread nD τ).loc main_arg2)) (m ((c : Thread nD τ).loc main_arg3))) (emb6 t n p d).symm)
  blk_simp
  rw [after0_6]
  exact block6 (holds2 m c t) _ n p d

theorem idx7 : ∀ t : Fin cfg0.N, win0_7.index t = ![t.val, 0, 0] :=
  (by decide +kernel : ∀ t : Fin grid0.N, win0_7.index t = ![t.val, 0, 0])

theorem emb7 (t : Fin cfg0.N) (n : Fin 8) (p : Fin 16) (d : Fin 384) : (win0_7.blk t).view.emb (ix3 n p d)
    = ix3 ⟨8 * t.val + n.val, by have : t.val < 8 := t.isLt; omega⟩ p d := by
  funext a
  apply Fin.ext
  fin_cases a <;> blk_simp [idx7 t] <;> simp <;> omega

theorem final7 (c : Dev nD) : (dats m 0 c).arrAt 7 cfg0.N
    = pooled (m ((c : Thread nD τ).loc main_arg0)) (m ((c : Thread nD τ).loc main_arg2)) (m ((c : Thread nD τ).loc main_arg3)) := by
  refine (dats m 0 c).arrAt_eq_of_covers 7 _ (by decide +kernel) fun t hf y => ?_
  obtain ⟨n, p, d, rfl⟩ : ∃ (n : Fin 8) (p : Fin 16) (d : Fin 384), y = ix3 n p d := ⟨y 0, y 1, y 2, eq_ix3 y⟩
  refine Eq.trans ?_ (congrArg (pooled (m ((c : Thread nD τ).loc main_arg0)) (m ((c : Thread nD τ).loc main_arg2)) (m ((c : Thread nD τ).loc main_arg3))) (emb7 t n p d).symm)
  blk_simp
  rw [after0_7]
  exact block7 (holds1 m c t) (blk_pool m c t) _ n p d

theorem idx8 : ∀ t : Fin cfg0.N, win0_8.index t = ![t.val, 0, 0] :=
  (by decide +kernel : ∀ t : Fin grid0.N, win0_8.index t = ![t.val, 0, 0])

theorem emb8 (t : Fin cfg0.N) (n : Fin 8) (p : Fin 16) (d : Fin 384) : (win0_8.blk t).view.emb (ix3 n p d)
    = ix3 ⟨8 * t.val + n.val, by have : t.val < 8 := t.isLt; omega⟩ p d := by
  funext a
  apply Fin.ext
  fin_cases a <;> blk_simp [idx8 t] <;> simp <;> omega

theorem final8 (c : Dev nD) : (dats m 0 c).arrAt 8 cfg0.N
    = pooled (m ((c : Thread nD τ).loc main_arg1)) (m ((c : Thread nD τ).loc main_arg2)) (m ((c : Thread nD τ).loc main_arg3)) := by
  refine (dats m 0 c).arrAt_eq_of_covers 8 _ (by decide +kernel) fun t hf y => ?_
  obtain ⟨n, p, d, rfl⟩ : ∃ (n : Fin 8) (p : Fin 16) (d : Fin 384), y = ix3 n p d := ⟨y 0, y 1, y 2, eq_ix3 y⟩
  refine Eq.trans ?_ (congrArg (pooled (m ((c : Thread nD τ).loc main_arg1)) (m ((c : Thread nD τ).loc main_arg2)) (m ((c : Thread nD τ).loc main_arg3))) (emb8 t n p d).symm)
  blk_simp
  rw [after0_8]
  exact block8 (holds2 m c t) (blk_pool m c t) _ n p d

theorem idx9 : ∀ t : Fin cfg0.N, win0_9.index t = ![t.val, 0, 0] :=
  (by decide +kernel : ∀ t : Fin grid0.N, win0_9.index t = ![t.val, 0, 0])

theorem emb9 (t : Fin cfg0.N) (n : Fin 8) (p : Fin 1) (d : Fin 192) : (win0_9.blk t).view.emb (ix3 n p d)
    = ix3 ⟨8 * t.val + n.val, by have : t.val < 8 := t.isLt; omega⟩ p d := by
  funext a
  apply Fin.ext
  fin_cases a <;> blk_simp [idx9 t] <;> simp <;> omega

theorem final9 (c : Dev nD) : (dats m 0 c).arrAt 9 cfg0.N
    = means 0 (by omega) (m ((c : Thread nD τ).loc main_arg0)) (m ((c : Thread nD τ).loc main_arg2)) (m ((c : Thread nD τ).loc main_arg3)) := by
  refine (dats m 0 c).arrAt_eq_of_covers 9 _ (by decide +kernel) fun t hf y => ?_
  obtain ⟨n, p, d, rfl⟩ : ∃ (n : Fin 8) (p : Fin 1) (d : Fin 192), y = ix3 n p d := ⟨y 0, y 1, y 2, eq_ix3 y⟩
  refine Eq.trans ?_ (congrArg (means 0 (by omega) (m ((c : Thread nD τ).loc main_arg0)) (m ((c : Thread nD τ).loc main_arg2)) (m ((c : Thread nD τ).loc main_arg3))) (emb9 t n p d).symm)
  blk_simp
  rw [after0_9]
  exact block9 (holds1 m c t) _ n p d

theorem idx10 : ∀ t : Fin cfg0.N, win0_10.index t = ![t.val, 0, 0] :=
  (by decide +kernel : ∀ t : Fin grid0.N, win0_10.index t = ![t.val, 0, 0])

theorem emb10 (t : Fin cfg0.N) (n : Fin 8) (p : Fin 1) (d : Fin 192) : (win0_10.blk t).view.emb (ix3 n p d)
    = ix3 ⟨8 * t.val + n.val, by have : t.val < 8 := t.isLt; omega⟩ p d := by
  funext a
  apply Fin.ext
  fin_cases a <;> blk_simp [idx10 t] <;> simp <;> omega

theorem final10 (c : Dev nD) : (dats m 0 c).arrAt 10 cfg0.N
    = means 192 (by omega) (m ((c : Thread nD τ).loc main_arg0)) (m ((c : Thread nD τ).loc main_arg2)) (m ((c : Thread nD τ).loc main_arg3)) := by
  refine (dats m 0 c).arrAt_eq_of_covers 10 _ (by decide +kernel) fun t hf y => ?_
  obtain ⟨n, p, d, rfl⟩ : ∃ (n : Fin 8) (p : Fin 1) (d : Fin 192), y = ix3 n p d := ⟨y 0, y 1, y 2, eq_ix3 y⟩
  refine Eq.trans ?_ (congrArg (means 192 (by omega) (m ((c : Thread nD τ).loc main_arg0)) (m ((c : Thread nD τ).loc main_arg2)) (m ((c : Thread nD τ).loc main_arg3))) (emb10 t n p d).symm)
  blk_simp
  rw [after0_10]
  exact block10 (holds1 m c t) _ n p d

theorem idx11 : ∀ t : Fin cfg0.N, win0_11.index t = ![t.val, 0, 0] :=
  (by decide +kernel : ∀ t : Fin grid0.N, win0_11.index t = ![t.val, 0, 0])

theorem emb11 (t : Fin cfg0.N) (n : Fin 8) (p : Fin 1) (d : Fin 192) : (win0_11.blk t).view.emb (ix3 n p d)
    = ix3 ⟨8 * t.val + n.val, by have : t.val < 8 := t.isLt; omega⟩ p d := by
  funext a
  apply Fin.ext
  fin_cases a <;> blk_simp [idx11 t] <;> simp <;> omega

theorem final11 (c : Dev nD) : (dats m 0 c).arrAt 11 cfg0.N
    = means 0 (by omega) (m ((c : Thread nD τ).loc main_arg1)) (m ((c : Thread nD τ).loc main_arg2)) (m ((c : Thread nD τ).loc main_arg3)) := by
  refine (dats m 0 c).arrAt_eq_of_covers 11 _ (by decide +kernel) fun t hf y => ?_
  obtain ⟨n, p, d, rfl⟩ : ∃ (n : Fin 8) (p : Fin 1) (d : Fin 192), y = ix3 n p d := ⟨y 0, y 1, y 2, eq_ix3 y⟩
  refine Eq.trans ?_ (congrArg (means 0 (by omega) (m ((c : Thread nD τ).loc main_arg1)) (m ((c : Thread nD τ).loc main_arg2)) (m ((c : Thread nD τ).loc main_arg3))) (emb11 t n p d).symm)
  blk_simp
  rw [after0_11]
  exact block11 (holds2 m c t) _ n p d

theorem idx12 : ∀ t : Fin cfg0.N, win0_12.index t = ![t.val, 0, 0] :=
  (by decide +kernel : ∀ t : Fin grid0.N, win0_12.index t = ![t.val, 0, 0])

theorem emb12 (t : Fin cfg0.N) (n : Fin 8) (p : Fin 1) (d : Fin 192) : (win0_12.blk t).view.emb (ix3 n p d)
    = ix3 ⟨8 * t.val + n.val, by have : t.val < 8 := t.isLt; omega⟩ p d := by
  funext a
  apply Fin.ext
  fin_cases a <;> blk_simp [idx12 t] <;> simp <;> omega

theorem final12 (c : Dev nD) : (dats m 0 c).arrAt 12 cfg0.N
    = means 192 (by omega) (m ((c : Thread nD τ).loc main_arg1)) (m ((c : Thread nD τ).loc main_arg2)) (m ((c : Thread nD τ).loc main_arg3)) := by
  refine (dats m 0 c).arrAt_eq_of_covers 12 _ (by decide +kernel) fun t hf y => ?_
  obtain ⟨n, p, d, rfl⟩ : ∃ (n : Fin 8) (p : Fin 1) (d : Fin 192), y = ix3 n p d := ⟨y 0, y 1, y 2, eq_ix3 y⟩
  refine Eq.trans ?_ (congrArg (means 192 (by omega) (m ((c : Thread nD τ).loc main_arg1)) (m ((c : Thread nD τ).loc main_arg2)) (m ((c : Thread nD τ).loc main_arg3))) (emb12 t n p d).symm)
  blk_simp
  rw [after0_12]
  exact block12 (holds2 m c t) _ n p d

end Cert.ProjIdeal.RefArray
end
-- ==== Proof.WholeValA.lean ====
/-
  What the projection call of the whole program leaves in its arrays, from any contents that hold the arguments.
-/
module

public import proofs.«01_k».proof.Proof.WholeProj
public import proofs.«01_k».proof.Proof.WholeOutProj
public import proofs.«01_k».proof.Proof.ProjArray

@[expose] public section

set_option maxRecDepth 16384

noncomputable section

namespace Cert.Whole.Hand

open Cert.Whole Cert.Whole.Gen Idealize.ShloMosaic Idealize.ShloMosaic.TcCoe Idealize.SL.Sem
open Idealize.ShloMosaic.Pipeline (Dat)
open Cert.ProjIdeal.RefArray (queries pooled means Holds Pools)

/-- The array is the image with its channels before its columns. -/
def Turned (v : FVec Ideal S1x224x192x224 .f32) (x : FVec Ideal S1x224x224x192 .f32) : Prop :=
  ∀ (a b : Fin 224) (e : Fin 192), v (ix4 0 a e b) = x (ix4 0 a b e)

theorem idx0_0 : ∀ t : Fin cfg0.N, win0_0.index t = ![0, t.val, 0, 0] :=
  (by decide +kernel : ∀ t : Fin grid0.N, win0_0.index t = ![0, t.val, 0, 0])
theorem idx0_1 : ∀ t : Fin cfg0.N, win0_1.index t = ![0, t.val, 0, 0] :=
  (by decide +kernel : ∀ t : Fin grid0.N, win0_1.index t = ![0, t.val, 0, 0])
theorem idx0_2 : ∀ t : Fin cfg0.N, win0_2.index t = ![0, 0] :=
  (by decide +kernel : ∀ t : Fin grid0.N, win0_2.index t = ![0, 0])
theorem idx0_3 : ∀ t : Fin cfg0.N, win0_3.index t = ![0, 0] :=
  (by decide +kernel : ∀ t : Fin grid0.N, win0_3.index t = ![0, 0])
theorem idx0_4 : ∀ t : Fin cfg0.N, win0_4.index t = ![0, 0] :=
  (by decide +kernel : ∀ t : Fin grid0.N, win0_4.index t = ![0, 0])
theorem idx0_out : ∀ t : Fin cfg0.N, win0_5.index t = ![t.val, 0, 0] ∧ win0_6.index t = ![t.val, 0, 0] ∧ win0_7.index t = ![t.val, 0, 0]
    ∧ win0_8.index t = ![t.val, 0, 0] ∧ win0_9.index t = ![t.val, 0, 0] ∧ win0_10.index t = ![t.val, 0, 0]
    ∧ win0_11.index t = ![t.val, 0, 0] ∧ win0_12.index t = ![t.val, 0, 0] :=
  (by decide +kernel : ∀ t : Fin grid0.N, _)

variable (V : (c : Dev nD) → (b : Ref sig .tc) → Buf (Elt Ideal) ((c : Thread nD τ).loc b)) (c : Dev nD)
  {x1 x2 : FVec Ideal S1x224x224x192 .f32} {w : FVec Ideal S192x576 .f32} {b : FVec Ideal S576 .f32}
  (hx1 : Turned (V c main_v20) x1) (hx2 : Turned (V c main_v21) x2) (hw : V c main_arg2 = w)
  (hb : ∀ d : Fin 576, V c main_v22 (ix2 0 d) = b (ix1 d)) (hp : Pools (V c main_v19))

theorem blk0_0 (t : Fin cfg0.N) (r : Fin 28) (e : Fin 192) (q : Fin 224) : iblk0 V c 0 t (ix4 0 r e q)
    = V c main_v20 (ix4 0 ⟨28 * t.val + r.val, by have : t.val < 8 := t.isLt; omega⟩ e q) := by
  blk_point [iblk0, idx0_0 t]
theorem blk0_1 (t : Fin cfg0.N) (r : Fin 28) (e : Fin 192) (q : Fin 224) : iblk0 V c 1 t (ix4 0 r e q)
    = V c main_v21 (ix4 0 ⟨28 * t.val + r.val, by have : t.val < 8 := t.isLt; omega⟩ e q) := by
  blk_point [iblk0, idx0_1 t]
theorem blk0_2 (t : Fin cfg0.N) (e : Fin 192) (d : Fin 576) : iblk0 V c 2 t (ix2 e d) = V c main_arg2 (ix2 e d) := by
  blk_point [iblk0, idx0_2 t]
theorem blk0_3 (t : Fin cfg0.N) (d : Fin 576) : iblk0 V c 3 t (ix2 0 d) = V c main_v22 (ix2 0 d) := by
  blk_point [iblk0, idx0_3 t]
theorem blk0_4 (t : Fin cfg0.N) (k : Fin 16) (p : Fin 784) : iblk0 V c 4 t (ix2 k p) = V c main_v19 (ix2 k p) := by
  blk_point [iblk0, idx0_4 t]

include hx1 hw hb in
theorem holds1 (t : Fin cfg0.N) : Holds x1 w b ⟨t.val, t.isLt⟩ (iblk0 V c 0 t) (iblk0 V c 2 t) (iblk0 V c 3 t) :=
  ⟨fun r e q => (blk0_0 V c t r e q).trans (hx1 _ _ _), fun e d => (blk0_2 V c t e d).trans (congrFun hw _),
    fun d => (blk0_3 V c t d).trans (hb d)⟩

include hx2 hw hb in
theorem holds2 (t : Fin cfg0.N) : Holds x2 w b ⟨t.val, t.isLt⟩ (iblk0 V c 1 t) (iblk0 V c 2 t) (iblk0 V c 3 t) :=
  ⟨fun r e q => (blk0_1 V c t r e q).trans (hx2 _ _ _), fun e d => (blk0_2 V c t e d).trans (congrFun hw _),
    fun d => (blk0_3 V c t d).trans (hb d)⟩

include hp in
theorem pools (t : Fin cfg0.N) : Pools (iblk0 V c 4 t) := fun k p => (blk0_4 V c t k p).trans (hp k p)

theorem emb0_5 (t : Fin cfg0.N) (n : Fin 8) (p : Fin 784) (d : Fin 192) : (win0_5.blk t).view.emb (ix3 n p d)
    = ix3 ⟨8 * t.val + n.val, by have : t.val < 8 := t.isLt; omega⟩ p d := by
  funext a
  apply Fin.ext
  fin_cases a <;> blk_simp [(idx0_out t).1] <;> simp <;> omega

include hx1 hw hb in
theorem final0_5 : (dat0 V c).arrAt 5 cfg0.N = queries x1 w b := by
  refine (dat0 V c).arrAt_eq_of_covers 5 _ (by decide +kernel) fun t hf y => ?_
  obtain ⟨n, p, d, rfl⟩ : ∃ (n : Fin 8) (p : Fin 784) (d : Fin 192), y = ix3 n p d := ⟨y 0, y 1, y 2, eq_ix3 y⟩
  refine Eq.trans ?_ (congrArg (queries x1 w b) (emb0_5 t n p d).symm)
  blk_simp
  rw [after0_5, out0_5_eq]
  exact Cert.ProjIdeal.RefArray.block5 (holds1 V c hx1 hw hb t) _ n p d

theorem emb0_6 (t : Fin cfg0.N) (n : Fin 8) (p : Fin 784) (d : Fin 192) : (win0_6.blk t).view.emb (ix3 n p d)
    = ix3 ⟨8 * t.val + n.val, by have : t.val < 8 := t.isLt; omega⟩ p d := by
  funext a
  apply Fin.ext
  fin_cases a <;> blk_simp [(idx0_out t).2.1] <;> simp <;> omega

include hx2 hw hb in
theorem final0_6 : (dat0 V c).arrAt 6 cfg0.N = queries x2 w b := by
  refine (dat0 V c).arrAt_eq_of_covers 6 _ (by decide +kernel) fun t hf y => ?_
  obtain ⟨n, p, d, rfl⟩ : ∃ (n : Fin 8) (p : Fin 784) (d : Fin 192), y = ix3 n p d := ⟨y 0, y 1, y 2, eq_ix3 y⟩
  refine Eq.trans ?_ (congrArg (queries x2 w b) (emb0_6 t n p d).symm)
  blk_simp
  rw [after0_6, out0_6_eq]
  exact Cert.ProjIdeal.RefArray.block6 (holds2 V c hx2 hw hb t) _ n p d

theorem emb0_7 (t : Fin cfg0.N) (n : Fin 8) (p : Fin 16) (d : Fin 384) : (win0_7.blk t).view.emb (ix3 n p d)
    = ix3 ⟨8 * t.val + n.val, by have : t.val < 8 := t.isLt; omega⟩ p d := by
  funext a
  apply Fin.ext
  fin_cases a <;> blk_simp [(idx0_out t).2.2.1] <;> simp <;> omega

include hx1 hw hb hp in
theorem final0_7 : (dat0 V c).arrAt 7 cfg0.N = pooled x1 w b := by
  refine (dat0 V c).arrAt_eq_of_covers 7 _ (by decide +kernel) fun t hf y => ?_
  obtain ⟨n, p, d, rfl⟩ : ∃ (n : Fin 8) (p : Fin 16) (d : Fin 384), y = ix3 n p d := ⟨y 0, y 1, y 2, eq_ix3 y⟩
  refine Eq.trans ?_ (congrArg (pooled x1 w b) (emb0_7 t n p d).symm)
  blk_simp
  rw [after0_7, out0_7_eq]
  exact Cert.ProjIdeal.RefArray.block7 (holds1 V c hx1 hw hb t) (pools V c hp t) _ n p d

theorem emb0_8 (t : Fin cfg0.N) (n : Fin 8) (p : Fin 16) (d : Fin 384) : (win0_8.blk t).view.emb (ix3 n p d)
    = ix3 ⟨8 * t.val + n.val, by have : t.val < 8 := t.isLt; omega⟩ p d := by
  funext a
  apply Fin.ext
  fin_cases a <;> blk_simp [(idx0_out t).2.2.2.1] <;> simp <;> omega

include hx2 hw hb hp in
theorem final0_8 : (dat0 V c).arrAt 8 cfg0.N = pooled x2 w b := by
  refine (dat0 V c).arrAt_eq_of_covers 8 _ (by decide +kernel) fun t hf y => ?_
  obtain ⟨n, p, d, rfl⟩ : ∃ (n : Fin 8) (p : Fin 16) (d : Fin 384), y = ix3 n p d := ⟨y 0, y 1, y 2, eq_ix3 y⟩
  refine Eq.trans ?_ (congrArg (pooled x2 w b) (emb0_8 t n p d).symm)
  blk_simp
  rw [after0_8, out0_8_eq]
  exact Cert.ProjIdeal.RefArray.block8 (holds2 V c hx2 hw hb t) (pools V c hp t) _ n p d

theorem emb0_9 (t : Fin cfg0.N) (n : Fin 8) (p : Fin 1) (d : Fin 192) : (win0_9.blk t).view.emb (ix3 n p d)
    = ix3 ⟨8 * t.val + n.val, by have : t.val < 8 := t.isLt; omega⟩ p d := by
  funext a
  apply Fin.ext
  fin_cases a <;> blk_simp [(idx0_out t).2.2.2.2.1] <;> simp <;> omega

include hx1 hw hb in
theorem final0_9 : (dat0 V c).arrAt 9 cfg0.N = means 0 (by omega) x1 w b := by
  refine (dat0 V c).arrAt_eq_of_covers 9 _ (by decide +kernel) fun t hf y => ?_
  obtain ⟨n, p, d, rfl⟩ : ∃ (n : Fin 8) (p : Fin 1) (d : Fin 192), y = ix3 n p d := ⟨y 0, y 1, y 2, eq_ix3 y⟩
  refine Eq.trans ?_ (congrArg (means 0 (by omega) x1 w b) (emb0_9 t n p d).symm)
  blk_simp
  rw [after0_9, out0_9_eq]
  exact Cert.ProjIdeal.RefArray.block9 (holds1 V c hx1 hw hb t) _ n p d

theorem emb0_10 (t : Fin cfg0.N) (n : Fin 8) (p : Fin 1) (d : Fin 192) : (win0_10.blk t).view.emb (ix3 n p d)
    = ix3 ⟨8 * t.val + n.val, by have : t.val < 8 := t.isLt; omega⟩ p d := by
  funext a
  apply Fin.ext
  fin_cases a <;> blk_simp [(idx0_out t).2.2.2.2.2.1] <;> simp <;> omega

include hx1 hw hb in
theorem final0_10 : (dat0 V c).arrAt 10 cfg0.N = means 192 (by omega) x1 w b := by
  refine (dat0 V c).arrAt_eq_of_covers 10 _ (by decide +kernel) fun t hf y => ?_
  obtain ⟨n, p, d, rfl⟩ : ∃ (n : Fin 8) (p : Fin 1) (d : Fin 192), y = ix3 n p d := ⟨y 0, y 1, y 2, eq_ix3 y⟩
  refine Eq.trans ?_ (congrArg (means 192 (by omega) x1 w b) (emb0_10 t n p d).symm)
  blk_simp
  rw [after0_10, out0_10_eq]
  exact Cert.ProjIdeal.RefArray.block10 (holds1 V c hx1 hw hb t) _ n p d

theorem emb0_11 (t : Fin cfg0.N) (n : Fin 8) (p : Fin 1) (d : Fin 192) : (win0_11.blk t).view.emb (ix3 n p d)
    = ix3 ⟨8 * t.val + n.val, by have : t.val < 8 := t.isLt; omega⟩ p d := by
  funext a
  apply Fin.ext
  fin_cases a <;> blk_simp [(idx0_out t).2.2.2.2.2.2.1] <;> simp <;> omega

include hx2 hw hb in
theorem final0_11 : (dat0 V c).arrAt 11 cfg0.N = means 0 (by omega) x2 w b := by
  refine (dat0 V c).arrAt_eq_of_covers 11 _ (by decide +kernel) fun t hf y => ?_
  obtain ⟨n, p, d, rfl⟩ : ∃ (n : Fin 8) (p : Fin 1) (d : Fin 192), y = ix3 n p d := ⟨y 0, y 1, y 2, eq_ix3 y⟩
  refine Eq.trans ?_ (congrArg (means 0 (by omega) x2 w b) (emb0_11 t n p d).symm)
  blk_simp
  rw [after0_11, out0_11_eq]
  exact Cert.ProjIdeal.RefArray.block11 (holds2 V c hx2 hw hb t) _ n p d

theorem emb0_12 (t : Fin cfg0.N) (n : Fin 8) (p : Fin 1) (d : Fin 192) : (win0_12.blk t).view.emb (ix3 n p d)
    = ix3 ⟨8 * t.val + n.val, by have : t.val < 8 := t.isLt; omega⟩ p d := by
  funext a
  apply Fin.ext
  fin_cases a <;> blk_simp [(idx0_out t).2.2.2.2.2.2.2] <;> simp <;> omega

include hx2 hw hb in
theorem final0_12 : (dat0 V c).arrAt 12 cfg0.N = means 192 (by omega) x2 w b := by
  refine (dat0 V c).arrAt_eq_of_covers 12 _ (by decide +kernel) fun t hf y => ?_
  obtain ⟨n, p, d, rfl⟩ : ∃ (n : Fin 8) (p : Fin 1) (d : Fin 192), y = ix3 n p d := ⟨y 0, y 1, y 2, eq_ix3 y⟩
  refine Eq.trans ?_ (congrArg (means 192 (by omega) x2 w b) (emb0_12 t n p d).symm)
  blk_simp
  rw [after0_12, out0_12_eq]
  exact Cert.ProjIdeal.RefArray.block12 (holds2 V c hx2 hw hb t) _ n p d

end Cert.Whole.Hand
end
-- ==== Proof.RouterRank.lean ====
/-
  A stable descending sort of a row, and repeated rounds of taking the leftmost maximum and striking it out, name the same
  positions, as long as no entry of the row is minus infinity.
-/
module

public import Idealize.ShloMosaic.PureOps
public import Idealize.ShloMosaic.PureOps.Ideal
public import Idealize.ShloMosaic.Lib.SortFacts
public import Idealize.ShloMosaic.Lib.Claim

@[expose] public section

noncomputable section

namespace Cert.RouterRank

open Idealize.ShloMosaic

variable (f : Fin 64 → EReal)

/-- The order of the sort: `k` comes before `k'` if its entry is greater. -/
def above (k k' : Fin 64) : Bool := decide (f k' < f k)

/-- The same order with ties broken to the left. -/
def ahead (k k' : Fin 64) : Bool := decide (f k' < f k ∨ (f k = f k' ∧ k < k'))

/-- On an increasing list of positions the stable sort breaks ties to the left. -/
theorem stableSort_above (l : List (Fin 64)) (hl : l.Pairwise (· < ·)) :
    stableSort (above f) l = stableSort (ahead f) l := by
  induction l with
  | nil => rfl
  | cons a l ih =>
    rw [List.pairwise_cons] at hl
    show insertBefore (above f) a (stableSort (above f) l) = insertBefore (ahead f) a (stableSort (ahead f) l)
    rw [ih hl.2]
    refine insertBefore_congr _ _ a _ fun b hb => ?_
    have hab : a < b := hl.1 b ((perm_stableSort (ahead f) l).mem_iff.mp hb)
    unfold above ahead
    congr 1
    have : ¬ b < a := not_lt.mpr hab.le
    simp [this]

/-- The position that the sort puts at `k`. -/
def rank (k : Fin 64) : Fin 64 := sortedFrom (above f) k

theorem rank_eq : rank f = sortedFrom (ahead f) := by
  funext k
  have h : sortPositions 64 (above f) = sortPositions 64 (ahead f) :=
    stableSort_above f _ (List.pairwise_lt_finRange 64)
  unfold rank sortedFrom
  simp only [List.get_eq_getElem, h, Fin.val_cast]

theorem rank_injective : Function.Injective (rank f) := sortedFrom_injective _

theorem rank_surjective : Function.Surjective (rank f) := sortedFrom_surjective _

theorem ahead_asymm (a b : Fin 64) (h : ahead f a b = true) : ahead f b a = false := by
  simp only [ahead, decide_eq_true_eq, decide_eq_false_iff_not, not_or, not_and, not_lt] at h ⊢
  rcases h with h | ⟨h, h'⟩
  · exact ⟨h.le, fun e => absurd h (by rw [e]; exact lt_irrefl _)⟩
  · exact ⟨h.ge, fun _ => h'.le⟩

theorem ahead_total (a b : Fin 64) (hab : a ≠ b) (h : ahead f b a = false) : ahead f a b = true := by
  simp only [ahead, decide_eq_true_eq, decide_eq_false_iff_not, not_or, not_and, not_lt] at h ⊢
  rcases h.1.lt_or_eq with h1 | h1
  · exact .inl h1
  · exact .inr ⟨h1.symm, lt_of_le_of_ne (h.2 h1) hab⟩

theorem ahead_negtrans (a b c : Fin 64) (h1 : ahead f a b = false) (h2 : ahead f b c = false) :
    ahead f a c = false := by
  simp only [ahead, decide_eq_false_iff_not, not_or, not_and, not_lt] at h1 h2 ⊢
  refine ⟨h1.1.trans h2.1, fun e => ?_⟩
  have e1 : f a = f b := le_antisymm h1.1 (e ▸ h2.1)
  have e2 : f b = f c := e1 ▸ e
  exact (h2.2 e2).trans (h1.2 e1)

/-- An earlier rank is ahead of a later one. -/
theorem rank_ahead {i j : Fin 64} (h : i < j) : ahead f (rank f i) (rank f j) = true := by
  refine ahead_total f _ _ (fun e => h.ne (rank_injective f e)) ?_
  rw [rank_eq]
  exact sortedFrom_noInversion (ahead f) (ahead f) (ahead_asymm f) (fun _ _ h => h)
    (ahead_negtrans f) i j h

/-- The row with the first `n` ranks struck out. -/
def struck (n : Nat) (c : Fin 64) : EReal := if ∃ i : Fin 64, i.1 < n ∧ rank f i = c then ⊥ else f c

theorem struck_zero : struck f 0 = f := by
  funext c
  unfold struck
  rw [if_neg]
  rintro ⟨i, h, _⟩
  exact absurd h (Nat.not_lt_zero _)

theorem struck_succ (n : Fin 64) (c : Fin 64) :
    struck f (n.1 + 1) c = if c = rank f n then ⊥ else struck f n.1 c := by
  unfold struck
  by_cases h : c = rank f n
  · rw [if_pos h, if_pos ⟨n, Nat.lt_succ_self _, h.symm⟩]
  · rw [if_neg h]
    refine if_congr ⟨?_, ?_⟩ rfl rfl
    · rintro ⟨i, hi, e⟩
      refine ⟨i, lt_of_le_of_ne (Nat.lt_succ_iff.mp hi) fun e' => h ?_, e⟩
      rw [← e, Fin.ext e']
    · rintro ⟨i, hi, e⟩
      exact ⟨i, hi.trans (Nat.lt_succ_self _), e⟩

theorem struck_rank (n : Fin 64) : struck f n.1 (rank f n) = f (rank f n) := by
  unfold struck
  rw [if_neg]
  rintro ⟨i, hi, e⟩
  exact absurd (congrArg Fin.val (rank_injective f e)) hi.ne

/-- The next rank is a maximum of the struck row, and the leftmost one. -/
theorem struck_le (hf : ∀ c, f c ≠ ⊥) (n c : Fin 64) :
    struck f n.1 c ≤ f (rank f n) ∧ (c < rank f n → struck f n.1 c < f (rank f n)) := by
  have hb : ⊥ < f (rank f n) := bot_lt_iff_ne_bot.mpr (hf _)
  obtain ⟨i, rfl⟩ := rank_surjective f c
  by_cases hi : i.1 < n.1
  · have e : struck f n.1 (rank f i) = ⊥ := if_pos ⟨i, hi, rfl⟩
    rw [e]
    exact ⟨bot_le, fun _ => hb⟩
  · have e : struck f n.1 (rank f i) = f (rank f i) := by
      unfold struck
      rw [if_neg]
      rintro ⟨k, hk, e⟩
      rw [rank_injective f e] at hk
      exact hi hk
    rw [e]
    rcases (not_lt.mp hi).lt_or_eq with h | h
    · have ha := rank_ahead f (i := n) (j := i) h
      simp only [ahead, decide_eq_true_eq] at ha
      rcases ha with ha | ⟨ha, ha'⟩
      · exact ⟨ha.le, fun _ => ha⟩
      · exact ⟨ha.ge, fun h' => absurd h' (not_lt.mpr ha'.le)⟩
    · rw [Fin.ext h]
      exact ⟨le_refl _, fun h' => absurd h' (lt_irrefl _)⟩

end Cert.RouterRank

end
-- ==== Proof.RouterBlock.lean ====
/-
  What the router computes: a row of logits with ones on the diagonal, and of every row the positions of its four
  greatest entries, by four rounds of taking the leftmost maximum and striking it out.
-/
module

public import proofs.«01_k».proof.Proof.RouterRank
public import proofs.«01_k».proof.Proof.Gen.RouterIdeal.Value
public import Idealize.ShloMosaic.Lib.Claim
public import Idealize.ShloMosaic.Lib.Ring
public import Idealize.ShloMosaic.Lib.Tactic
public import Idealize.ShloMosaic.Lib.Pointwise
public import Idealize.ShloMosaic.Lib.Tactic.WordOmega
public import Idealize.ShloMosaic.Lib.WordCmp
public import Idealize.ShloMosaic.Lib.SortNet.Extract

@[expose] public section

set_option maxRecDepth 16384

noncomputable section

namespace Cert.RouterIdeal.Val

open Cert.RouterIdeal Cert.RouterIdeal.Gen
open Idealize.ShloMosaic Idealize.ShloMosaic.TcCoe Idealize.ShloMosaic.Tactic

/-- The leftmost column of each row that holds the row's maximum. -/
def least (x : FVec Ideal S64x64 .f32) : IVec S64x1 32 :=
  shapeCast S64x1 (multiReductionI .minsi [1] S64 (select (cmpf .oge x (broadcastTo S64x64
    (shapeCast S64x1 (multiReduction .maximumf [1] S64 x 0xFF800000#32 reduces_S64x64_S64 (.inl rfl) rfl)
      shapeCasts_S64_S64x1) broadcasts_S64x1_S64x64)) (iota .tc S64x64 32 [1] iota_S64x64_d1_w32)
    (broadcast S64x64 64#32)) 2147483647#32 reduces_S64x64_S64 rfl) shapeCasts_S64_S64x1

/-- The rows with that entry made `-inf`. -/
def strike (x : FVec Ideal S64x64 .f32) : FVec Ideal S64x64 .f32 :=
  select (cmpi .eq (iota .tc S64x64 32 [1] iota_S64x64_d1_w32)
    (broadcastTo S64x64 (least x) broadcasts_S64x1_S64x64))
    (broadcast S64x64 (Scalar.subf (Scalar.ofBits (F := Ideal) .f32 0x00000000#32) (Scalar.ofBits .f32 0x7F800000#32))) x

/-- Four rounds, side by side. -/
def four (x : FVec Ideal S64x64 .f32) : IVec S64x4 32 :=
  concatenate S64x4 1 [⟨S64x1, least x⟩, ⟨S64x1, least (strike x)⟩, ⟨S64x1, least (strike (strike x))⟩,
    ⟨S64x1, least (strike (strike (strike x)))⟩] concatenates_S64x1_S64x1_S64x1_S64x1_S64x4_d1

open Cert.RouterRank (rank struck struck_zero struck_succ struck_rank struck_le)

theorem G4_eq (a0 a1 a2 a3 : Vec Ideal S64x192 .f32) : Value.G4 a0 a1 a2 a3 = four (k0_pay3 a2 a1) := rfl
theorem G5_eq (a0 a1 a2 a3 : Vec Ideal S64x192 .f32) : Value.G5 a0 a1 a2 a3 = four (k0_pay3 a0 a3) := rfl

/-- The least word of a set of columns named by `p`, where `q` is the leftmost of them. -/
theorem fold_least (p : Fin 64 → Prop) [DecidablePred p] (q : Fin 64) (hq : p q) (hl : ∀ c, c < q → ¬ p c) :
    Finset.fold IntOp.minsi 2147483647#32 (fun c : Fin 64 => if p c then BitVec.ofNat 32 c.val else 64#32) Finset.univ
      = BitVec.ofNat 32 q.val := by
  have word (c : Fin 64) : (BitVec.ofNat 32 c.val).toInt = c.val := by revert c; decide
  have step (c : Fin 64) : (q.val : Int) ≤ (if p c then BitVec.ofNat 32 c.val else 64#32).toInt := by
    split
    · rw [word]
      have : q ≤ c := not_lt.mp fun h => hl c h ‹_›
      exact_mod_cast this
    · show (q.val : Int) ≤ 64
      omega
  have key (s : Finset (Fin 64)) :
      (q.val : Int) ≤ (Finset.fold IntOp.minsi 2147483647#32 (fun c : Fin 64 => if p c then BitVec.ofNat 32 c.val else 64#32) s).toInt
      ∧ (q ∈ s → (Finset.fold IntOp.minsi 2147483647#32 (fun c : Fin 64 => if p c then BitVec.ofNat 32 c.val else 64#32) s).toInt ≤ q.val) := by
    induction s using Finset.induction_on with
    | empty =>
      refine ⟨?_, fun h => absurd h (Finset.notMem_empty _)⟩
      show (q.val : Int) ≤ 2147483647
      omega
    | insert a s ha ih =>
      rw [Finset.fold_insert ha, SortNet.toInt_minsi]
      refine ⟨le_min (step a) ih.1, fun h => ?_⟩
      rcases Finset.mem_insert.mp h with h | h
      · subst h
        refine (min_le_left _ _).trans ?_
        rw [if_pos hq, word]
      · exact (min_le_right _ _).trans (ih.2 h)
  refine BitVec.eq_of_toInt_eq ?_
  rw [word]
  exact le_antisymm ((key _).2 (Finset.mem_univ _)) (key _).1

theorem least_at (x : FVec Ideal S64x64 .f32) (r : Fin 64) : least x (ix2 r (0 : Fin 1)) =
    Finset.fold IntOp.minsi 2147483647#32 (fun c : Fin 64 =>
      if Finset.fold max (⊥ : EReal) (fun c' : Fin 64 => x (ix2 r c')) Finset.univ ≤ x (ix2 r c) then BitVec.ofNat 32 c.val else 64#32)
      Finset.univ := by
  have e : Ideal.ofBits FTy.f32 4286578688#32 = ⊥ := by simp [Ideal.ofBits, Ideal.ieee]
  rw [← e]
  unfold least
  pointwise

theorem strike_at (x : FVec Ideal S64x64 .f32) (r c : Fin 64) : strike x (ix2 r c) =
    Scalar.select (IntOp.cmpi CmpIPredicate.eq (BitVec.ofNat 32 c.val) (least x (ix2 r (0 : Fin 1)))) (⊥ : EReal) (x (ix2 r c)) := by
  have e : (0 : EReal) - Ideal.ofBits FTy.f32 2139095040#32 = ⊥ := by simp [Ideal.ofBits, Ideal.ieee]
  rw [← e]
  unfold strike
  pointwise

theorem word_eq : ∀ a b : Fin 64, IntOp.cmpi CmpIPredicate.eq (BitVec.ofNat 32 a.val) (BitVec.ofNat 32 b.val) = if a = b then 1#1 else 0#1 := by
  decide +kernel

/-- A round names the next rank. -/
theorem least_rank (f : Fin 64 → EReal) (hf : ∀ c, f c ≠ ⊥) (n : Fin 64) (x : FVec Ideal S64x64 .f32) (r : Fin 64)
    (hx : ∀ c, x (ix2 r c) = struck f n.val c) : least x (ix2 r (0 : Fin 1)) = BitVec.ofNat 32 (rank f n).val := by
  have e : Finset.fold max (⊥ : EReal) (fun c' : Fin 64 => x (ix2 r c')) Finset.univ = f (rank f n) := by
    refine le_antisymm ((Finset.fold_max_le _).mpr ⟨bot_le, fun c _ => ?_⟩) ((Finset.le_fold_max _).mpr (.inr ⟨rank f n, Finset.mem_univ _, ?_⟩))
    · rw [hx]; exact (struck_le f hf n c).1
    · rw [hx, struck_rank]
  rw [least_at, e]
  refine fold_least (fun c => f (rank f n) ≤ x (ix2 r c)) (rank f n) ?_ fun c hc => ?_
  · show f (rank f n) ≤ x (ix2 r (rank f n))
    rw [hx, struck_rank]
  · show ¬ f (rank f n) ≤ x (ix2 r c)
    rw [hx, not_le]
    exact (struck_le f hf n c).2 hc

theorem strike_rank (f : Fin 64 → EReal) (hf : ∀ c, f c ≠ ⊥) (n : Fin 64) (x : FVec Ideal S64x64 .f32) (r : Fin 64)
    (hx : ∀ c, x (ix2 r c) = struck f n.val c) (c : Fin 64) : strike x (ix2 r c) = struck f (n.val + 1) c := by
  rw [strike_at, least_rank f hf n x r hx, struck_succ, hx]
  rw [word_eq]
  by_cases h : c = rank f n
  · rw [if_pos h, if_pos h]; rfl
  · rw [if_neg h, if_neg h]; rfl

/-- The four rounds name the first four ranks. -/
theorem four_rank (f : Fin 64 → EReal) (hf : ∀ c, f c ≠ ⊥) (x : FVec Ideal S64x64 .f32) (r : Fin 64)
    (hx : ∀ c, x (ix2 r c) = f c) (k : Fin 4) :
    four x (ix2 r k) = BitVec.ofNat 32 (rank f (k.castLE (by decide))).val := by
  have h0 : ∀ c, x (ix2 r c) = struck f (0 : Fin 64).val c := fun c => (hx c).trans (congrFun (struck_zero f).symm c)
  have h1 := strike_rank f hf 0 x r h0
  have h2 := strike_rank f hf 1 _ r h1
  have h3 := strike_rank f hf 2 _ r h2
  match k with
  | 0 => refine Eq.trans ?_ (least_rank f hf 0 x r h0); unfold four; pointwise
  | 1 => refine Eq.trans ?_ (least_rank f hf 1 _ r h1); unfold four; pointwise
  | 2 => refine Eq.trans ?_ (least_rank f hf 2 _ r h2); unfold four; pointwise
  | 3 => refine Eq.trans ?_ (least_rank f hf 3 _ r h3); unfold four; pointwise

/-! ## The logits -/

/-- A row of logits: one for the window itself, otherwise the scaled product of its means. -/
def logit (q k : Vec Ideal S64x192 .f32) (r c : Fin 64) : EReal :=
  if r = c then 1 else ∑ e : Fin 192, q (ix2 r e) * Ideal.ofBits FTy.f32 0x3D93CD3A#32 * k (ix2 c e)

theorem pay3_at (q k : Vec Ideal S64x192 .f32) (r c : Fin 64) : k0_pay3 q k (ix2 r c) = logit q k r c := by
  pointwise [k0_pay3, k0_pay2, logit]
  rw [word_eq]
  by_cases h : r = c
  · rw [if_pos h, if_pos h]; rfl
  · rw [if_neg h, if_neg h]; rfl

/-- The four windows of greatest logits of every window. -/
def image (q k : Vec Ideal S64x192 .f32) : IVec S64x4 32 := fun y =>
  BitVec.ofNat 32 (rank (logit q k (y 0)) ((y 1).castLE (by decide))).val

/-- A finite sum of reals, taken among the extended reals. -/
theorem sum_coe {ι : Type} (s : Finset ι) (f : ι → ℝ) : (∑ e ∈ s, (f e : EReal)) = ((∑ e ∈ s, f e : ℝ) : EReal) := by
  classical
  induction s using Finset.induction_on with
  | empty => simp
  | insert a s ha ih => rw [Finset.sum_insert ha, Finset.sum_insert ha, ih, EReal.coe_add]

/-- Finite entries everywhere. -/
def Real (x : Vec Ideal S64x192 .f32) : Prop := ∀ y, ∃ v : ℝ, x y = (v : EReal)

theorem logit_ne_bot (q k : Vec Ideal S64x192 .f32) (hq : Real q) (hk : Real k) (r c : Fin 64) : logit q k r c ≠ ⊥ := by
  unfold logit
  split
  · exact EReal.coe_ne_bot 1
  · obtain ⟨s, hs⟩ : ∃ s : ℝ, Ideal.ofBits FTy.f32 0x3D93CD3A#32 = (s : EReal) := by
      refine ⟨((9686330 : ℝ) * ((2 : ℝ) ^ 27)⁻¹), ?_⟩
      simp [Ideal.ofBits, Ideal.ieee]
    choose f hf using hq
    choose g hg using hk
    have e : (∑ e : Fin 192, q (ix2 r e) * Ideal.ofBits FTy.f32 0x3D93CD3A#32 * k (ix2 c e))
        = ((∑ e : Fin 192, f (ix2 r e) * s * g (ix2 c e) : ℝ) : EReal) := by
      rw [hs, ← sum_coe]
      exact Finset.sum_congr rfl fun e _ => by rw [hf, hg, EReal.coe_mul, EReal.coe_mul]
    rw [e]
    exact EReal.coe_ne_bot _

theorem four_eq (q k : Vec Ideal S64x192 .f32) (hq : Real q) (hk : Real k) : four (k0_pay3 q k) = image q k := by
  funext y
  rw [ValueIdx.eq_ix2 y]
  exact four_rank (logit q k (y 0)) (logit_ne_bot q k hq hk (y 0)) _ (y 0) (pay3_at q k (y 0)) (y 1)

end Cert.RouterIdeal.Val

end
-- ==== Proof.FinalBlock.lean ====
/-
  What one block of the out-projection kernel computes: the values of a row band with a row above and below and a
  zero column on each side, their 3 by 3 depthwise convolution added to the attention, and the output projection.
-/
module

public import proofs.«01_k».proof.Proof.Gen.FinalIdeal.Value
public import Idealize.ShloMosaic.Lib.Pointwise

@[expose] public section

set_option maxRecDepth 16384

noncomputable section

namespace Cert.FinalIdeal.RefBlock

open Cert.FinalIdeal Cert.FinalIdeal.Gen Cert.FinalIdeal.Facts Idealize.ShloMosaic

/-- Nine weights against the 3 by 3 neighbourhood of one position, added to the bias one after the other. -/
def taps (b : EReal) (k : Fin 3 → Fin 3 → EReal) (v : ℕ → ℕ → EReal) : EReal :=
  b + k 0 0 * v 0 0 + k 0 1 * v 0 1 + k 0 2 * v 0 2 + k 1 0 * v 1 0 + k 1 1 * v 1 1 + k 1 2 * v 1 2
    + k 2 0 * v 2 0 + k 2 1 * v 2 1 + k 2 2 * v 2 2

/-- The values of a row band at row `y` of sixteen and column `q` of 226: the rows above and below the image and the
    columns beside it are zero. -/
theorem pay3_apply (i : grid0.Coords) (w : FVec Ideal S192x192 .f32) (x : FVec Ideal S1x14x192x224 .f32)
    (up down : FVec Ideal S1x1x192x224 .f32) (v : ℕ → ℕ → Fin 192 → EReal)
    (hl : ∀ y d, v y 0 d = 0) (hr : ∀ y d, v y 225 d = 0)
    (hx : ∀ (y : Fin 14) (q : Fin 224) d, ∑ e : Fin 192, x (ix4 0 y e q) * w (ix2 e d) = v (y.val + 1) (q.val + 1) d)
    (hup : ∀ (q : Fin 224) d, Scalar.select (Scalar.cmpi CmpIPredicate.eq (BitVec.ofNat 32 (i 0).val) 0#32) 0
      (∑ e : Fin 192, up (ix4 0 0 e q) * w (ix2 e d)) = v 0 (q.val + 1) d)
    (hdown : ∀ (q : Fin 224) d, Scalar.select (Scalar.cmpi CmpIPredicate.eq (BitVec.ofNat 32 (i 0).val) 15#32) 0
      (∑ e : Fin 192, down (ix4 0 0 e q) * w (ix2 e d)) = v 15 (q.val + 1) d)
    (y : Fin 16) (q : Fin 226) (d : Fin 192) :
    k0_pay3 (F := Ideal) i w x up down (ix3 y q d) = v y.val q.val d := by
  pointwise [k0_pay3]
  split
  · rw [show q.val = 0 by omega, hl]
  split
  · have hq : q.val - 1 + 1 = q.val := by omega
    split
    · exact (hup ⟨q.val - 1, by omega⟩ d).trans (congrArg₂ (v · · d) (by omega) hq)
    split
    · have hy : y.val - 1 + 1 = y.val := by omega
      refine (Finset.sum_congr rfl fun e _ => ?_).trans ((hx ⟨y.val - 1, by omega⟩ ⟨q.val - 1, by omega⟩ d).trans (by rw [hq, hy]))
      refine congrArg (x · * _) ?_
      congr 1 <;> apply Fin.ext <;> simp only <;> omega
    · exact (hdown ⟨q.val - 1, by omega⟩ d).trans (congrArg₂ (v · · d) (by omega) hq)
  · rw [show q.val = 225 by omega, hr]

/-- The block's result: the attention plus the convolution of the values, projected. -/
theorem out_apply (v30 : FVec Ideal S16x226x192 .f32) (k : FVec Ideal S3x3x192 .f32) (b : FVec Ideal S1x192 .f32)
    (a : FVec Ideal S1x14x224x192 .bf16) (wo : FVec Ideal S192x192 .f32) (bo : FVec Ideal S1x192 .f32)
    (v : ℕ → ℕ → Fin 192 → EReal) (hv : ∀ (y : Fin 16) (q : Fin 226) d, v30 (ix3 y q d) = v y.val q.val d)
    (r : Fin 14) (o : Fin 192) (q : Fin 224) :
    k0_pay1 (F := Ideal) v30 (k0_pay5 (k0_pay2 k) v30 (k0_pay4 b)) (k0_pay6 (k0_pay2 k)) a wo bo (ix4 0 r o q)
      = (∑ d : Fin 192, (a (ix4 0 r q d)
          + taps (b (ix2 0 d)) (fun y z => k (ix3 y z d)) (fun y z => v (y + r.val) (z + q.val) d)) * wo (ix2 d o))
        + bo (ix2 0 o) := by
  pointwise [k0_pay1, k0_pay2, k0_pay4, k0_pay5, k0_pay6, taps]
  simp only [hv, Nat.zero_add]

end Cert.FinalIdeal.RefBlock
end
-- ==== Proof.AttnIdealBody.lean ====
module

public import proofs.«01_k».proof.Proof.Gen.AttnIdeal.Frame
public import proofs.«01_k».proof.Proof.Gen.AttnIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp
public import Idealize.ShloMosaic.Lib.Pointwise
public import Idealize.ShloMosaic.Lib.Pipeline.ValueKit

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves in its two result windows -/

/-- The head masks of the printed text: the eight column masks of the keys and the eight row masks of the values. -/
abbrev rowMask0 : FVec F S192x1 .f32 := k0_pay7 k0_pay2
abbrev rowMask1 : FVec F S192x1 .f32 := k0_pay8 k0_pay2
abbrev rowMask2 : FVec F S192x1 .f32 := k0_pay9 k0_pay2
abbrev rowMask3 : FVec F S192x1 .f32 := k0_pay10 k0_pay2
abbrev rowMask4 : FVec F S192x1 .f32 := k0_pay11 k0_pay2
abbrev rowMask5 : FVec F S192x1 .f32 := k0_pay12 k0_pay2
abbrev rowMask6 : FVec F S192x1 .f32 := k0_pay13 k0_pay2
abbrev rowMask7 : FVec F S192x1 .f32 := k0_pay14 k0_pay2
abbrev colMask0 : FVec F S1x192 .f32 := k0_pay15 k0_pay3 k0_pay4 k0_pay5
abbrev colMask1 : FVec F S1x192 .f32 := k0_pay16 k0_pay3 k0_pay4 k0_pay5
abbrev colMask2 : FVec F S1x192 .f32 := k0_pay17 k0_pay3 k0_pay4 k0_pay5
abbrev colMask3 : FVec F S1x192 .f32 := k0_pay18 (k0_pay6 k0_pay3 k0_pay4 k0_pay5)
abbrev colMask4 : FVec F S1x192 .f32 := k0_pay19 (k0_pay6 k0_pay3 k0_pay4 k0_pay5)
abbrev colMask5 : FVec F S1x192 .f32 := k0_pay20 (k0_pay6 k0_pay3 k0_pay4 k0_pay5)
abbrev colMask6 : FVec F S1x192 .f32 := k0_pay21 (k0_pay6 k0_pay3 k0_pay4 k0_pay5)
abbrev colMask7 : FVec F S1x192 .f32 := k0_pay22 (k0_pay6 k0_pay3 k0_pay4 k0_pay5)

/-- One window's attention: a window of queries against four rows of keys and values. -/
def attend (q : Vec F S1x784x192 .bf16) (a0 a1 a2 a3 : Vec F S1x16x384 .bf16) : FVec F S28x28x192 .bf16 :=
  k0_pay29
    (k0_pay27 colMask0 colMask1 colMask2 colMask3 colMask4 colMask5 colMask6 colMask7 (k0_pay23 a0) (k0_pay24 a1) (k0_pay25 a2) a3)
    (k0_pay28 rowMask0 rowMask1 rowMask2 rowMask3 rowMask4 rowMask5 rowMask6 rowMask7 (k0_pay23 a0) (k0_pay24 a1) (k0_pay25 a2) a3 q)

theorem attend_congr {q q' : Vec F S1x784x192 .bf16} {a0 a0' a1 a1' a2 a2' a3 a3' : Vec F S1x16x384 .bf16}
    (hq : q = q') (h0 : a0 = a0') (h1 : a1 = a1') (h2 : a2 = a2') (h3 : a3 = a3') : attend q a0 a1 a2 a3 = attend q' a0' a1' a2' a3' := by
  rw [hq, h0, h1, h2, h3]

/-- Window `n` of a band of eight. -/
def band (x : Vec F S8x784x192 .bf16) (n : Fin 8) : Vec F S1x784x192 .bf16 := fun y => x (ix3 n (y 1) (y 2))

/-- The row of the table that a word names. -/
def row (x : Vec F S64x16x384 .bf16) (w : BitVec 32) : Vec F S1x16x384 .bf16 :=
  fun y => x (ix3 ⟨w.toNat % 64, Nat.mod_lt _ (by decide)⟩ (y 1) (y 2))

/-- Word `j` of window `n` of the band at point `i`. -/
def word (x : Vec F S64x4 .i32) (i : grid0.Coords) (n : Fin 8) (j : Fin 4) : BitVec 32 :=
  x (ix2 ⟨((i 0).val * 8 + n.val) % 64, Nat.mod_lt _ (by decide)⟩ j)

/-- One window's attention at point `i`, from the index words, the queries and the table. -/
def wins (i : grid0.Coords) (x : Vec F S64x4 .i32) (q : Vec F S8x784x192 .bf16) (kv : Vec F S64x16x384 .bf16) (n : Fin 8) : FVec F S28x28x192 .bf16 :=
  attend (band q n) (row kv (word x i n 0)) (row kv (word x i n 1)) (row kv (word x i n 2)) (row kv (word x i n 3))

/-- A result window after the body: the eight windows side by side. -/
def outv (i : grid0.Coords) (x : Vec F S64x4 .i32) (q : Vec F S8x784x192 .bf16) (kv : Vec F S64x16x384 .bf16) : Vec F S1x28x224x192 .bf16 :=
  k0_pay1 (wins i x q kv 0) (wins i x q kv 1) (wins i x q kv 2) (wins i x q kv 3) (wins i x q kv 4) (wins i x q kv 5) (wins i x q kv 6) (wins i x q kv 7)

/-! ## The loads -/

theorem inb_of (w : BitVec 32) (h : w.toNat < 64) : ∀ a, (![w.toNat, 0, 0] : Fin 3 → Nat) a + S1x16x384.size a ≤ S64x16x384.size a := by
  intro a
  fin_cases a
  · show w.toNat + 1 ≤ 64; omega
  · show 0 + 16 ≤ 16; omega
  · show 0 + 384 ≤ 384; omega

/-- The offsets of word `j` of window `n`, as the text computes them. -/
abbrev wordOff (i : grid0.Coords) (n : BitVec 32) (j : Nat) : Fin 2 → Nat :=
  ![(Scalar.addi (Scalar.muli (BitVec.ofNat 32 (i 0).val) 8#32) n).toNat, j]

theorem wordOff_val : ∀ (k n : Fin 8), (Scalar.addi (Scalar.muli (BitVec.ofNat 32 k.val) 8#32) (BitVec.ofNat 32 n.val)).toNat = (k.val * 8 + n.val) % 64 := by
  decide

theorem wordOff_inb (i : grid0.Coords) (n : Fin 8) (j : Fin 4) :
    ∀ a, wordOff i (BitVec.ofNat 32 n.val) j.val a + S1x1.size a ≤ S64x4.size a := by
  intro a
  fin_cases a
  · show (Scalar.addi (Scalar.muli (BitVec.ofNat 32 (i 0).val) 8#32) (BitVec.ofNat 32 n.val)).toNat + 1 ≤ 64
    rw [wordOff_val (i 0) n]; omega
  · show j.val + 1 ≤ 4; omega

section
variable {sp : Space} {sp' : Space} (v : Memref sig .tc .smem S64x4 .i32) (f : v.view.ty.Contents (Elt F))

/-- A word as the body loads it. -/
def rawWord (i : grid0.Coords) (n : Fin 8) (j : Fin 4) : BitVec 32 :=
  View.readAt (Elt F) v.view (Rect.unit (s := S64x4) (wordOff i (BitVec.ofNat 32 n.val) j.val) S1x1.size (wordOff_inb i n j)).toLoadRect f
    (Shape.Idx.first (show 0 < S1x1.numel from by decide))

theorem rawWord_eq (i : grid0.Coords) (n : Fin 8) (j : Fin 4) : rawWord v f i n j = word (v.view.read (Elt F) f) i n j := by
  unfold rawWord word
  rw [View.readAt_apply]
  refine congrArg (v.view.read (Elt F) f) (funext fun a => ?_)
  fin_cases a
  · apply Fin.ext
    exact (Nat.add_zero _).trans (wordOff_val (i 0) n)
  · apply Fin.ext
    exact Nat.add_zero _
end

theorem readAt_row (v : Memref sig .tc .vmem S64x16x384 .bf16) (f : v.view.ty.Contents (Elt F)) (w : BitVec 32) (h : w.toNat < 64) :
    View.readAt (Elt F) v.view (Rect.unit (s := S64x16x384) ![w.toNat, 0, 0] S1x16x384.size (inb_of w h)).toLoadRect f = row (v.view.read (Elt F) f) w := by
  funext y
  unfold row
  rw [View.readAt_apply]
  refine congrArg (v.view.read (Elt F) f) (funext fun a => ?_)
  fin_cases a
  · apply Fin.ext
    show w.toNat + 1 * (y 0).val = w.toNat % 64
    have : (y 0).val = 0 := Nat.lt_one_iff.mp (y 0).isLt
    omega
  · apply Fin.ext
    show 0 + 1 * (y 1).val = (y 1).val
    omega
  · apply Fin.ext
    show 0 + 1 * (y 2).val = (y 2).val
    omega

theorem band_inb (n : Fin 8) : ∀ a, (![n.val, 0, 0] : Fin 3 → Nat) a + S1x784x192.size a ≤ S8x784x192.size a := by
  intro a
  fin_cases a
  · show n.val + 1 ≤ 8; omega
  · show 0 + 784 ≤ 784; omega
  · show 0 + 192 ≤ 192; omega

theorem readAt_band (v : Memref sig .tc .vmem S8x784x192 .bf16) (f : v.view.ty.Contents (Elt F)) (n : Fin 8) :
    View.readAt (Elt F) v.view (Rect.unit (s := S8x784x192) ![n.val, 0, 0] S1x784x192.size (band_inb n)).toLoadRect f = band (v.view.read (Elt F) f) n := by
  funext y
  unfold band
  rw [View.readAt_apply]
  refine congrArg (v.view.read (Elt F) f) (funext fun a => ?_)
  fin_cases a
  · apply Fin.ext
    show n.val + 1 * (y 0).val = n.val
    have : (y 0).val = 0 := Nat.lt_one_iff.mp (y 0).isLt
    omega
  · apply Fin.ext
    show 0 + 1 * (y 1).val = (y 1).val
    omega
  · apply Fin.ext
    show 0 + 1 * (y 2).val = (y 2).val
    omega

section
variable (v : Memref sig .tc .smem S64x4 .i32) (vq : Memref sig .tc .vmem S8x784x192 .bf16) (vk : Memref sig .tc .vmem S64x16x384 .bf16)
  (f : v.view.ty.Contents (Elt F)) (fq : vq.view.ty.Contents (Elt F)) (fk : vk.view.ty.Contents (Elt F))
  (hf : ∀ y, (v.view.read (Elt F) f y : BitVec 32).toNat < 64)
include hf

theorem rawWord_lt (i : grid0.Coords) (n : Fin 8) (j : Fin 4) : (rawWord v f i n j).toNat < 64 := by
  rw [rawWord_eq]; exact hf _

/-- One window's attention as the body computes it: its loads spelt out. -/
def rawWin (i : grid0.Coords) (n : Fin 8) : FVec F S28x28x192 .bf16 :=
  attend (View.readAt (Elt F) vq.view (Rect.unit (s := S8x784x192) ![n.val, 0, 0] S1x784x192.size (band_inb n)).toLoadRect fq)
    (View.readAt (Elt F) vk.view (Rect.unit (s := S64x16x384) ![(rawWord v f i n 0).toNat, 0, 0] S1x16x384.size (inb_of _ (rawWord_lt v f hf i n 0))).toLoadRect fk)
    (View.readAt (Elt F) vk.view (Rect.unit (s := S64x16x384) ![(rawWord v f i n 1).toNat, 0, 0] S1x16x384.size (inb_of _ (rawWord_lt v f hf i n 1))).toLoadRect fk)
    (View.readAt (Elt F) vk.view (Rect.unit (s := S64x16x384) ![(rawWord v f i n 2).toNat, 0, 0] S1x16x384.size (inb_of _ (rawWord_lt v f hf i n 2))).toLoadRect fk)
    (View.readAt (Elt F) vk.view (Rect.unit (s := S64x16x384) ![(rawWord v f i n 3).toNat, 0, 0] S1x16x384.size (inb_of _ (rawWord_lt v f hf i n 3))).toLoadRect fk)

theorem rawWin_eq (i : grid0.Coords) (n : Fin 8) :
    rawWin v vq vk f fq fk hf i n = wins i (v.view.read (Elt F) f) (vq.view.read (Elt F) fq) (vk.view.read (Elt F) fk) n := by
  have h (j : Fin 4) := (readAt_row vk fk (rawWord v f i n j) (rawWord_lt v f hf i n j)).trans (congrArg (row _) (rawWord_eq v f i n j))
  exact attend_congr (readAt_band vq fq n) (h 0) (h 1) (h 2) (h 3)

/-- The eight windows side by side, as the body stores them. -/
def rawOut (i : grid0.Coords) : Vec F S1x28x224x192 .bf16 :=
  k0_pay1 (rawWin v vq vk f fq fk hf i 0) (rawWin v vq vk f fq fk hf i 1) (rawWin v vq vk f fq fk hf i 2) (rawWin v vq vk f fq fk hf i 3)
    (rawWin v vq vk f fq fk hf i 4) (rawWin v vq vk f fq fk hf i 5) (rawWin v vq vk f fq fk hf i 6) (rawWin v vq vk f fq fk hf i 7)

theorem rawOut_eq (i : grid0.Coords) :
    rawOut v vq vk f fq fk hf i = outv i (v.view.read (Elt F) f) (vq.view.read (Elt F) fq) (vk.view.read (Elt F) fk) := by
  unfold rawOut outv
  simp only [rawWin_eq]
end

/-! ## The body's triple -/

abbrev rOut : Rect S1x28x224x192 := Rect.unit (s := S1x28x224x192) ![0, 0, 0, 0] S1x28x224x192.size inb_S1x28x224x192_S1x28x224x192_0_0_0_0

theorem cover (p : Vec F S1x28x224x192 .bf16) (y : S1x28x224x192.Idx) :
    ∃ pc ∈ ([⟨rOut, p⟩] : List (View.Piece (Elt F) S1x28x224x192 .bf16)), y ∈ pc.1.set :=
  View.cover_of_tiled [⟨rOut, p⟩] S1x28x224x192.size (by rfl) y

theorem read_store (v : Memref sig .tc .vmem S1x28x224x192 .bf16) (f : v.view.ty.Contents (Elt F)) (p : Vec F S1x28x224x192 .bf16) :
    v.view.read (Elt F) (v.view.writes (Elt F) f [⟨rOut, p⟩]) = p :=
  (View.read_writes_eq_canon _ _ _ (cover p)).trans (View.canon_cons_unit_zero (funext fun a => by fin_cases a <;> rfl) _ _ _)

attribute [local irreducible] View.read in
set_option maxHeartbeats 40000000 in
theorem sound_kernel (c : Dev nD) (E : Set ℕ) (i : grid0.Coords) (arg1 : Memref sig .tc .smem S64x4 .i32) (harg1 : arg1.IsWhole) (arg2 : Memref sig .tc .smem S64x4 .i32) (harg2 : arg2.IsWhole)
    (arg3 : Memref sig .tc .vmem S8x784x192 .bf16) (harg3 : arg3.IsWhole) (arg4 : Memref sig .tc .vmem S8x784x192 .bf16) (harg4 : arg4.IsWhole)
    (arg5 : Memref sig .tc .vmem S64x16x384 .bf16) (harg5 : arg5.IsWhole) (arg6 : Memref sig .tc .vmem S64x16x384 .bf16) (harg6 : arg6.IsWhole)
    (arg7 : Memref sig .tc .vmem S1x28x224x192 .bf16) (harg7 : arg7.IsWhole) (arg8 : Memref sig .tc .vmem S1x28x224x192 .bf16) (harg8 : arg8.IsWhole)
    (x0 x1 : Vec F S64x4 .i32) (x2 x3 : Vec F S8x784x192 .bf16) (x4 x5 : Vec F S64x16x384 .bf16)
    (hx0 : ∀ y, (x0 y : BitVec 32).toNat < 64) (hx1 : ∀ y, (x1 y : BitVec 32).toNat < 64) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outv i x0 x3 x4) ∗ owns (c : Thread nD τ) arg8 fullShare (outv i x1 x2 x5)) -∗ K ⟨⟩))
      ⊢ wp frame (wpE (defs₀ (F := F)) Variants.none c none) E (cc0__attn_body i arg1 harg1 arg2 harg2 arg3 harg3 arg4 harg4 arg5 harg5 arg6 harg6 arg7 harg7 arg8 harg8) K := by
  simp only [cc0__attn_body_eq_skeleton]; unfold cc0__attn_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton, k0_part28_eq_skeleton, k0_part29_eq_skeleton, k0_part30_eq_skeleton,
    k0_part31_eq_skeleton, k0_part32_eq_skeleton, k0_part33_eq_skeleton, k0_part34_eq_skeleton, k0_part35_eq_skeleton, k0_part36_eq_skeleton,
    k0_part37_eq_skeleton, k0_part38_eq_skeleton, k0_part39_eq_skeleton, k0_part40_eq_skeleton, k0_part41_eq_skeleton, k0_part42_eq_skeleton,
    k0_part43_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec (disch := first | exact inb_of _ (hx0 _) | exact inb_of _ (hx1 _))
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    refine (read_store arg7 f6 _).trans ?_
    refine Eq.trans ?_ (rawOut_eq arg1 arg4 arg5 f0 f3 f4 hx0 i)
    rfl
  iexists _; isplitr
  swap; · iexact H7
  ipureintro
  refine (read_store arg8 f7 _).trans ?_
  refine Eq.trans ?_ (rawOut_eq arg2 arg3 arg6 f1 f2 f5 hx1 i)
  rfl

/-! ## The pipeline's proof data -/

variable (m : (ℓ : Loc nD τ sig) → Buf (Elt F) ℓ) (ρ : Dev nD → PrngReg)

/-- Every index word in `main`'s two index arrays names a row of the table. -/
def InRange : Prop :=
  ∀ (c : Dev nD) (y : S64x4.Idx), (m ((c.tc : Thread nD τ).loc main_arg4) y : BitVec 32).toNat < 64 ∧ (m ((c.tc : Thread nD τ).loc main_arg5) y : BitVec 32).toNat < 64

/-- Inputs stay at their blocks, results at the eight windows of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outv (grid0.coords t) (iblk m c 0 t) (iblk m c 3 t) (iblk m c 4 t)
    | ⟨7, _⟩ => outv (grid0.coords t) (iblk m c 1 t) (iblk m c 2 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outv (grid0.coords t) (iblk m c 0 t) (iblk m c 3 t) (iblk m c 4 t) := by dsimp only [dats]
theorem after0_7 (c : Dev nD) (t : Fin cfg0.N) : (dats m 0 c).after 7 t = outv (grid0.coords t) (iblk m c 1 t) (iblk m c 2 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem iblk0_lt (hm : InRange m) (c : Dev nD) (t : Fin cfg0.N) (y : S64x4.Idx) : (iblk m c 0 t y : BitVec 32).toNat < 64 :=
  (hm c _).1

theorem iblk1_lt (hm : InRange m) (c : Dev nD) (t : Fin cfg0.N) (y : S64x4.Idx) : (iblk m c 1 t y : BitVec 32).toNat < 64 :=
  (hm c _).2

/-! ## The body obligation -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (hm : InRange m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t)
    (iblk0_lt m hm c t) (iblk1_lt m hm c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (hm : InRange m) (c : Dev nD) : BodyObligation (dats (F := F) m 0 c) (defs₀ (F := F)) Variants.none () Set.univ := fun t => by
  rw [bigSep_W0, bigSep_W0, defs₀_row]
  exact triple_restated (sound_body m hm c t) rfl .rfl fun _ => .rfl

/-! ## The run and the frame -/

set_option backward.isDefEq.respectTransparency.types false in
set_option maxHeartbeats 800000 in
theorem run_main_quiescent (hm : InRange m) : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m hm c).loose) (hshare := fun c => (dats m 0 c).share_full fun _ => rfl)
    (howed := fun _ _ => rfl) (V := V m) (hmain := hmain m Variants.none) (hA := A_eq m) (hΦ := fun _ _ => rfl)

theorem run_main (hm : InRange m) : θ_run defs (onTc (τ := τ) (main (F := F))) (s₀ m ρ) (Pipeline.FramePost cfgs (dats m) 0 (V m)) :=
  (θ_run defs _ _).mono (fun _ h => h.1) (run_main_quiescent m ρ hm)

theorem unchanged (hm : InRange m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ hm)

theorem frame (hm : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hm) ((θ_run defs _ _).mono (fun _ h => h.2) (run_main_quiescent m ρ hm))

end Cert.AttnIdeal.Hand

end
-- ==== Proof.AttnBlock.lean ====
/-
  What one window of the attention kernel computes: the logits of all heads by one product with the masked keys, the
  weights of each head, and the weighted values.
-/
module

public import proofs.«01_k».proof.Proof.AttnIdealBody
public import proofs.«01_k».proof.Proof.Gen.AttnIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.Pointwise
public import Idealize.ShloMosaic.Lib.Pipeline.ValueKit
public import Idealize.ShloMosaic.Lib.Tactic.WordOmega
public import Idealize.ShloMosaic.Lib.WordCmp

@[expose] public section

set_option maxRecDepth 16384

noncomputable section

namespace Cert.AttnIdeal.Val

open Cert.AttnIdeal Cert.AttnIdeal.Gen Cert.AttnIdeal.Hand
open Idealize.ShloMosaic Idealize.ShloMosaic.TcCoe Idealize.ShloMosaic.Tactic

/-! ## The head masks -/

/-- One where a channel lies in head `h` (24 channels to a head), zero elsewhere. -/
def bit (d h : Nat) : EReal := if d / 24 = h then 1 else 0

theorem pay2_at : ∀ d : Fin 192, k0_pay2 (ix2 d (0 : Fin 1)) = BitVec.ofNat 32 (d.val / 24) := by decide +kernel

theorem pay6_at : ∀ d : Fin 192, k0_pay6 k0_pay3 k0_pay4 k0_pay5 (ix2 (0 : Fin 1) d) = BitVec.ofNat 32 (d.val / 24) := by decide +kernel

theorem bit_word (d h : Nat) (hd : d < 192) (hh : h < 8) :
    FloatOps.sitofp (F := Ideal) FTy.f32 (BitVec.setWidth 32 (IntOp.cmpi CmpIPredicate.eq (BitVec.ofNat 32 (d / 24)) (BitVec.ofNat 32 h))) = bit d h := by
  have e : (BitVec.ofNat 32 (d / 24) = BitVec.ofNat 32 h) ↔ d / 24 = h := by
    constructor
    · intro t
      have := congrArg BitVec.toNat t
      simp only [BitVec.toNat_ofNat] at this
      omega
    · intro t; rw [t]
  unfold bit
  by_cases t : d / 24 = h
  · rw [if_pos t, t]
    have : IntOp.cmpi CmpIPredicate.eq (BitVec.ofNat 32 h) (BitVec.ofNat 32 h) = 1#1 := by simp [IntOp.cmpi]
    rw [this]
    show (((1 : Int) : ℝ) : EReal) = 1
    norm_num
  · rw [if_neg t]
    have : IntOp.cmpi CmpIPredicate.eq (BitVec.ofNat 32 (d / 24)) (BitVec.ofNat 32 h) = 0#1 := by
      show BitVec.ofBool (BitVec.ofNat 32 (d / 24) == BitVec.ofNat 32 h) = 0#1
      rw [beq_eq_false_iff_ne.mpr fun x => t (e.mp x)]; rfl
    rw [this]
    show (((0 : Int) : ℝ) : EReal) = 0
    norm_num

theorem rowMask_at (d : Fin 192) :
    rowMask0 (F := Ideal) (ix2 d (0 : Fin 1)) = bit d 0 ∧ rowMask1 (F := Ideal) (ix2 d (0 : Fin 1)) = bit d 1
    ∧ rowMask2 (F := Ideal) (ix2 d (0 : Fin 1)) = bit d 2 ∧ rowMask3 (F := Ideal) (ix2 d (0 : Fin 1)) = bit d 3
    ∧ rowMask4 (F := Ideal) (ix2 d (0 : Fin 1)) = bit d 4 ∧ rowMask5 (F := Ideal) (ix2 d (0 : Fin 1)) = bit d 5
    ∧ rowMask6 (F := Ideal) (ix2 d (0 : Fin 1)) = bit d 6 ∧ rowMask7 (F := Ideal) (ix2 d (0 : Fin 1)) = bit d 7 := by
  pointwise [k0_pay7, k0_pay8, k0_pay9, k0_pay10, k0_pay11, k0_pay12, k0_pay13, k0_pay14, pay2_at]
  refine ⟨?_, ?_, ?_, ?_, ?_, ?_, ?_, ?_⟩ <;> exact bit_word d _ d.isLt (by decide)

theorem colMask_at (d : Fin 192) :
    colMask0 (F := Ideal) (ix2 (0 : Fin 1) d) = bit d 0 ∧ colMask1 (F := Ideal) (ix2 (0 : Fin 1) d) = bit d 1
    ∧ colMask2 (F := Ideal) (ix2 (0 : Fin 1) d) = bit d 2 ∧ colMask3 (F := Ideal) (ix2 (0 : Fin 1) d) = bit d 3
    ∧ colMask4 (F := Ideal) (ix2 (0 : Fin 1) d) = bit d 4 ∧ colMask5 (F := Ideal) (ix2 (0 : Fin 1) d) = bit d 5
    ∧ colMask6 (F := Ideal) (ix2 (0 : Fin 1) d) = bit d 6 ∧ colMask7 (F := Ideal) (ix2 (0 : Fin 1) d) = bit d 7 := by
  pointwise [k0_pay15, k0_pay16, k0_pay17, k0_pay18, k0_pay19, k0_pay20, k0_pay21, k0_pay22, pay6_at]
  refine ⟨?_, ?_, ?_, ?_, ?_, ?_, ?_, ?_⟩ <;> exact bit_word d _ d.isLt (by decide)

/-! ## The gathered keys and values -/

variable (q : FVec Ideal S1x784x192 .bf16) (a0 a1 a2 a3 : FVec Ideal S1x16x384 .bf16)

/-- The four gathered rows on top of each other. -/
def kv : FVec Ideal S64x384 .f32 := k0_pay26 (F := Ideal) (k0_pay23 a0) (k0_pay24 a1) (k0_pay25 a2) a3

/-- Which of the four. -/
def pick (j : Fin 4) : FVec Ideal S1x16x384 .bf16 := ![a0, a1, a2, a3] j

theorem kv_at (r : Fin 64) (c : Fin 384) :
    kv a0 a1 a2 a3 (ix2 r c) = pick a0 a1 a2 a3 ⟨r.val / 16, by omega⟩ (ix3 (0 : Fin 1) (⟨r.val % 16, by omega⟩ : Fin 16) c) := by
  pointwise [kv, k0_pay26, k0_pay23, k0_pay24, k0_pay25]
  have key : ∀ (j : Fin 4) (x : FVec Ideal S1x16x384 .bf16) (n : Nat) (hn : n < 16), pick a0 a1 a2 a3 j = x → r.val = 16 * j.val + n →
      x (ix3 (0 : Fin 1) (⟨n, hn⟩ : Fin 16) c)
        = pick a0 a1 a2 a3 ⟨r.val / 16, by omega⟩ (ix3 (0 : Fin 1) (⟨r.val % 16, by omega⟩ : Fin 16) c) := by
    intro j x n hn hx hr
    rw [← hx]
    exact congrArg₂ (fun j n => pick a0 a1 a2 a3 j (ix3 (0 : Fin 1) (n : Fin 16) c)) (Fin.ext (by simp only []; omega)) (Fin.ext (by simp only []; omega))
  split
  · exact key 0 _ _ _ rfl (by show r.val = 16 * 0 + _; omega)
  split
  · exact key 1 _ _ _ rfl (by show r.val = 16 * 1 + _; omega)
  split
  · exact key 2 _ _ _ rfl (by show r.val = 16 * 2 + _; omega)
  · exact key 3 _ _ _ rfl (by show r.val = 16 * 3 + _; omega)

/-! ## Eight pieces of 64 glued together -/

/-- Eight stretches of 64, one after the other: place `c` is place `c % 64` of stretch `c / 64`. -/
theorem ladder {α : Type} (c : Nat) (hc : c < 512) (f : (k : Nat) → k < 64 → Fin 8 → α) :
    (if h : c < 64 then f c h 0
      else if h : c - 64 < 64 then f (c - 64) h 1
      else if h : c - 64 - 64 < 64 then f (c - 64 - 64) h 2
      else if h : c - 64 - 64 - 64 < 64 then f (c - 64 - 64 - 64) h 3
      else if h : c - 64 - 64 - 64 - 64 < 64 then f (c - 64 - 64 - 64 - 64) h 4
      else if h : c - 64 - 64 - 64 - 64 - 64 < 64 then f (c - 64 - 64 - 64 - 64 - 64) h 5
      else if h : c - 64 - 64 - 64 - 64 - 64 - 64 < 64 then f (c - 64 - 64 - 64 - 64 - 64 - 64) h 6
      else f (c - 64 - 64 - 64 - 64 - 64 - 64 - 64) (by omega) 7)
    = f (c % 64) (Nat.mod_lt _ (by decide)) ⟨c / 64, by omega⟩ := by
  have key : ∀ (j : Fin 8) (n : Nat) (hn : n < 64), c = 64 * j.val + n → f n hn j = f (c % 64) (Nat.mod_lt _ (by decide)) ⟨c / 64, by omega⟩ := by
    intro j n hn e
    have e1 : n = c % 64 := by omega
    have e2 : j = ⟨c / 64, by omega⟩ := Fin.ext (by simp only []; omega)
    subst e1
    exact congrArg _ e2
  split
  · exact key 0 _ _ (by show c = 64 * 0 + _; omega)
  split
  · exact key 1 _ _ (by show c = 64 * 1 + _; omega)
  split
  · exact key 2 _ _ (by show c = 64 * 2 + _; omega)
  split
  · exact key 3 _ _ (by show c = 64 * 3 + _; omega)
  split
  · exact key 4 _ _ (by show c = 64 * 4 + _; omega)
  split
  · exact key 5 _ _ (by show c = 64 * 5 + _; omega)
  split
  · exact key 6 _ _ (by show c = 64 * 6 + _; omega)
  · exact key 7 _ _ (by show c = 64 * 7 + _; omega)

theorem rows_at (x : Fin 8 → FVec Ideal S64x192 .f32) (c : Fin 512) (d : Fin 192) :
    concatenate S512x192 0 [⟨S64x192, x 0⟩, ⟨S64x192, x 1⟩, ⟨S64x192, x 2⟩, ⟨S64x192, x 3⟩, ⟨S64x192, x 4⟩, ⟨S64x192, x 5⟩, ⟨S64x192, x 6⟩, ⟨S64x192, x 7⟩]
      concatenates_S64x192_S64x192_S64x192_S64x192_S64x192_S64x192_S64x192_S64x192_S512x192_d0 (ix2 c d)
      = x ⟨c.val / 64, by omega⟩ (ix2 (⟨c.val % 64, Nat.mod_lt _ (by decide)⟩ : Fin 64) d) := by
  pointwise []
  exact ladder c.val c.isLt fun k hk j => x j (ix2 (⟨k, hk⟩ : Fin 64) d)

theorem cols_at (x : Fin 8 → FVec Ideal S192x64 .f32) (c : Fin 512) (d : Fin 192) :
    concatenate S192x512 1 [⟨S192x64, x 0⟩, ⟨S192x64, x 1⟩, ⟨S192x64, x 2⟩, ⟨S192x64, x 3⟩, ⟨S192x64, x 4⟩, ⟨S192x64, x 5⟩, ⟨S192x64, x 6⟩, ⟨S192x64, x 7⟩]
      concatenates_S192x64_S192x64_S192x64_S192x64_S192x64_S192x64_S192x64_S192x64_S192x512_d1 (ix2 d c)
      = x ⟨c.val / 64, by omega⟩ (ix2 d (⟨c.val % 64, Nat.mod_lt _ (by decide)⟩ : Fin 64)) := by
  pointwise []
  exact ladder c.val c.isLt fun k hk j => x j (ix2 d (⟨k, hk⟩ : Fin 64))

theorem probs_at (x : Fin 8 → FVec Ideal S784x64 .f32) (c : Fin 512) (p : Fin 784) :
    concatenate S784x512 1 [⟨S784x64, x 0⟩, ⟨S784x64, x 1⟩, ⟨S784x64, x 2⟩, ⟨S784x64, x 3⟩, ⟨S784x64, x 4⟩, ⟨S784x64, x 5⟩, ⟨S784x64, x 6⟩, ⟨S784x64, x 7⟩]
      concatenates_S784x64_S784x64_S784x64_S784x64_S784x64_S784x64_S784x64_S784x64_S784x512_d1 (ix2 p c)
      = x ⟨c.val / 64, by omega⟩ (ix2 p (⟨c.val % 64, Nat.mod_lt _ (by decide)⟩ : Fin 64)) := by
  pointwise []
  exact ladder c.val c.isLt fun k hk j => x j (ix2 p (⟨k, hk⟩ : Fin 64))
/-! ## The masked keys and values -/

/-- The column masks and the row masks by head. -/
def colM (h : Fin 8) : FVec Ideal S1x192 .f32 := ![colMask0, colMask1, colMask2, colMask3, colMask4, colMask5, colMask6, colMask7] h
def rowM (h : Fin 8) : FVec Ideal S192x1 .f32 := ![rowMask0, rowMask1, rowMask2, rowMask3, rowMask4, rowMask5, rowMask6, rowMask7] h

theorem colM_at (h : Fin 8) (d : Fin 192) : colM h (ix2 (0 : Fin 1) d) = bit d h := by
  obtain ⟨m0, m1, m2, m3, m4, m5, m6, m7⟩ := colMask_at d
  match h with
  | 0 => exact m0
  | 1 => exact m1
  | 2 => exact m2
  | 3 => exact m3
  | 4 => exact m4
  | 5 => exact m5
  | 6 => exact m6
  | 7 => exact m7

theorem rowM_at (h : Fin 8) (d : Fin 192) : rowM h (ix2 d (0 : Fin 1)) = bit d h := by
  obtain ⟨m0, m1, m2, m3, m4, m5, m6, m7⟩ := rowMask_at d
  match h with
  | 0 => exact m0
  | 1 => exact m1
  | 2 => exact m2
  | 3 => exact m3
  | 4 => exact m4
  | 5 => exact m5
  | 6 => exact m6
  | 7 => exact m7

/-- The values, masked by head and stacked. -/
def vals : FVec Ideal S512x192 .f32 :=
  k0_pay27 colMask0 colMask1 colMask2 colMask3 colMask4 colMask5 colMask6 colMask7 (k0_pay23 a0) (k0_pay24 a1) (k0_pay25 a2) a3

/-- The values masked for one head. -/
def valsOf (h : Fin 8) : FVec Ideal S64x192 .f32 :=
  mulf (extractStridedSlice S64x192 ![0, 192] (kv a0 a1 a2 a3) slices_S64x384_o0_192_S64x192) (broadcastTo S64x192 (colM h) broadcasts_S1x192_S64x192)

theorem vals_at (c : Fin 512) (d : Fin 192) :
    vals a0 a1 a2 a3 (ix2 c d)
      = kv a0 a1 a2 a3 (ix2 (⟨c.val % 64, Nat.mod_lt _ (by decide)⟩ : Fin 64) (⟨192 + d.val, by omega⟩ : Fin 384)) * bit d (c.val / 64) := by
  refine (rows_at (valsOf a0 a1 a2 a3) c d).trans ?_
  pointwise [valsOf, colM_at]

/-- The keys, turned over and masked by head, side by side. -/
def keysOf (h : Fin 8) : FVec Ideal S192x64 .f32 :=
  mulf (transpose S192x64 [1, 0] (extractStridedSlice S64x192 ![0, 0] (kv a0 a1 a2 a3) slices_S64x384_o0_0_S64x192) transposes_S64x192_p1_0_S192x64)
    (broadcastTo S192x64 (rowM h) broadcasts_S192x1_S192x64)

def keys : FVec Ideal S192x512 .f32 :=
  concatenate S192x512 1 [⟨S192x64, keysOf a0 a1 a2 a3 0⟩, ⟨S192x64, keysOf a0 a1 a2 a3 1⟩, ⟨S192x64, keysOf a0 a1 a2 a3 2⟩,
    ⟨S192x64, keysOf a0 a1 a2 a3 3⟩, ⟨S192x64, keysOf a0 a1 a2 a3 4⟩, ⟨S192x64, keysOf a0 a1 a2 a3 5⟩,
    ⟨S192x64, keysOf a0 a1 a2 a3 6⟩, ⟨S192x64, keysOf a0 a1 a2 a3 7⟩]
    concatenates_S192x64_S192x64_S192x64_S192x64_S192x64_S192x64_S192x64_S192x64_S192x512_d1

theorem keys_at (d : Fin 192) (c : Fin 512) :
    keys a0 a1 a2 a3 (ix2 d c)
      = kv a0 a1 a2 a3 (ix2 (⟨c.val % 64, Nat.mod_lt _ (by decide)⟩ : Fin 64) (⟨d.val, by omega⟩ : Fin 384)) * bit d (c.val / 64) := by
  refine (cols_at (keysOf a0 a1 a2 a3) c d).trans ?_
  pointwise [keysOf, rowM_at]

/-! ## The logits -/

/-- The scale of the queries. -/
def scale : EReal := Ideal.ofBits FTy.f32 0x3D93CD3A#32

/-- The scaled queries against the masked keys. -/
def logits : FVec Ideal S784x512 .f32 :=
  matmul dot_S784x192_S192x512_S784x512_1_0_0_1_n_n none
    (mulf (extf .f32 (shapeCast S784x192 q shapeCasts_S1x784x192_S784x192) bitsLt_bf16_f32) (broadcast S784x192 (Scalar.ofBits .f32 0x3D93CD3A#32)))
    (keys a0 a1 a2 a3) (constant S784x512 .f32 0x00000000#32)

/-- Logit of pixel `p` and key `k` in head `h`: over the head's 24 channels. -/
def logit (p : Fin 784) (h : Fin 8) (k : Fin 64) : EReal :=
  ∑ e : Fin 24, q (ix3 (0 : Fin 1) p (⟨24 * h.val + e.val, by omega⟩ : Fin 192)) * scale
    * kv a0 a1 a2 a3 (ix2 k (⟨24 * h.val + e.val, by omega⟩ : Fin 384))

/-- A sum over the channels with one head's mask is the sum over that head's 24 channels. -/
theorem sum_bit (f : Fin 192 → EReal) (h : Fin 8) : ∑ d : Fin 192, f d * bit d h = ∑ e : Fin 24, f ⟨24 * h.val + e.val, by omega⟩ := by
  refine (Fin.sum_divmod_congr (A := 8) (S := 24) (f := fun a s => f ⟨24 * a.val + s.val, by omega⟩ * bit (24 * a.val + s.val) h) fun t ha hs => ?_).trans ?_
  · have e : 24 * (t.val / 24) + t.val % 24 = t.val := by omega
    exact congrArg₂ (· * ·) (congrArg f (Fin.ext e.symm)) (congrArg (bit · h) e.symm)
  · rw [Finset.sum_eq_single h]
    · refine Finset.sum_congr rfl fun e _ => ?_
      rw [bit, if_pos (by omega), mul_one]
    · intro b _ hb
      refine Finset.sum_eq_zero fun e _ => ?_
      have : b.val ≠ h.val := fun t => hb (Fin.ext t)
      rw [bit, if_neg (by omega), mul_zero]
    · intro t; exact absurd (Finset.mem_univ _) t

theorem logits_at (p : Fin 784) (c : Fin 512) :
    logits q a0 a1 a2 a3 (ix2 p c) = logit q a0 a1 a2 a3 p ⟨c.val / 64, by omega⟩ ⟨c.val % 64, Nat.mod_lt _ (by decide)⟩ := by
  pointwise [logits, keys_at]
  refine Eq.trans (Finset.sum_congr rfl fun d _ => ?_) (sum_bit (fun d => q (ix3 (0 : Fin 1) p d) * scale
    * kv a0 a1 a2 a3 (ix2 (⟨c.val % 64, Nat.mod_lt _ (by decide)⟩ : Fin 64) (⟨d.val, by omega⟩ : Fin 384))) ⟨c.val / 64, by omega⟩)
  rw [mul_assoc (_ * scale)]
  rfl

/-! ## The probabilities and the result -/

/-- The greatest logit of a pixel, over all heads. -/
def top (p : Fin 784) : EReal :=
  Finset.fold max (Ideal.ofBits FTy.f32 0xFF800000#32) (fun c => logits q a0 a1 a2 a3 (ix2 p c)) Finset.univ

def shifted : FVec Ideal S784x512 .f32 :=
  k0_pay28 rowMask0 rowMask1 rowMask2 rowMask3 rowMask4 rowMask5 rowMask6 rowMask7 (k0_pay23 a0) (k0_pay24 a1) (k0_pay25 a2) a3 q

theorem shifted_at (p : Fin 784) (c : Fin 512) :
    shifted q a0 a1 a2 a3 (ix2 p c)
      = logit q a0 a1 a2 a3 p ⟨c.val / 64, by omega⟩ ⟨c.val % 64, Nat.mod_lt _ (by decide)⟩ - top q a0 a1 a2 a3 p := by
  have e : shifted q a0 a1 a2 a3 = subf (logits q a0 a1 a2 a3) (broadcastTo S784x512 (shapeCast S784x1
      (multiReduction .maximumf [1] S784 (logits q a0 a1 a2 a3) 0xFF800000#32 reduces_S784x512_S784 (.inl rfl) rfl)
      shapeCasts_S784_S784x1) broadcasts_S784x1_S784x512) := rfl
  rw [e]
  pointwise []
  rw [logits_at]
  rfl

/-- Every head's stretch of keys is a slice. -/
theorem hslice (h : Fin 8) : S784x512.Slices ![0, 64 * h.val] S784x64 := by
  revert h; decide

/-- One head's exponentials over their sum. -/
def probsOf (s : FVec Ideal S784x512 .f32) (h : Fin 8) : FVec Ideal S784x64 .f32 :=
  divf (extractStridedSlice S784x64 ![0, 64 * h.val] (exp s) (hslice h))
    (broadcastTo S784x64 (shapeCast S784x1
      (multiReduction .add [1] S784 (extractStridedSlice S784x64 ![0, 64 * h.val] (exp s) (hslice h)) 0x00000000#32 reduces_S784x64_S784 (.inl rfl) rfl)
      shapeCasts_S784_S784x1) broadcasts_S784x1_S784x64)

theorem probsOf_at (s : FVec Ideal S784x512 .f32) (h : Fin 8) (p : Fin 784) (k : Fin 64) :
    probsOf s h (ix2 p k) = Ideal.div (Ideal.exp (s (ix2 p (⟨64 * h.val + k.val, by omega⟩ : Fin 512))))
      (∑ j : Fin 64, Ideal.exp (s (ix2 p (⟨64 * h.val + j.val, by omega⟩ : Fin 512)))) := by
  pointwise [probsOf]

def probs (s : FVec Ideal S784x512 .f32) : FVec Ideal S784x512 .f32 :=
  concatenate S784x512 1 [⟨S784x64, probsOf s 0⟩, ⟨S784x64, probsOf s 1⟩, ⟨S784x64, probsOf s 2⟩, ⟨S784x64, probsOf s 3⟩,
    ⟨S784x64, probsOf s 4⟩, ⟨S784x64, probsOf s 5⟩, ⟨S784x64, probsOf s 6⟩, ⟨S784x64, probsOf s 7⟩]
    concatenates_S784x64_S784x64_S784x64_S784x64_S784x64_S784x64_S784x64_S784x64_S784x512_d1

/-- A sum over the stacked keys with one head's mask is the sum over that head's 64 keys. -/
theorem sum_stack (f : Fin 512 → EReal) (d : Fin 192) :
    ∑ c : Fin 512, f c * bit d (c.val / 64) = ∑ k : Fin 64, f ⟨64 * (d.val / 24) + k.val, by omega⟩ := by
  refine (Fin.sum_divmod_congr (A := 8) (S := 64) (f := fun a s => f ⟨64 * a.val + s.val, by omega⟩ * bit d a) fun t ha hs => ?_).trans ?_
  · have e : 64 * (t.val / 64) + t.val % 64 = t.val := by omega
    exact congrArg (· * _) (congrArg f (Fin.ext e.symm))
  · rw [Finset.sum_eq_single (⟨d.val / 24, by omega⟩ : Fin 8)]
    · refine Finset.sum_congr rfl fun e _ => ?_
      rw [bit, if_pos rfl, mul_one]
    · intro b _ hb
      refine Finset.sum_eq_zero fun e _ => ?_
      rw [bit, if_neg fun t => hb (Fin.ext t.symm), mul_zero]
    · intro t; exact absurd (Finset.mem_univ _) t

/-- One head's attention weights at a pixel: the exponentials of the logits below `m`, over their sum. -/
def weight (p : Fin 784) (h : Fin 8) (m : EReal) (k : Fin 64) : EReal :=
  Ideal.div (Ideal.exp (logit q a0 a1 a2 a3 p h k - m)) (∑ j : Fin 64, Ideal.exp (logit q a0 a1 a2 a3 p h j - m))

theorem probs_shifted_at (p : Fin 784) (h : Fin 8) (k : Fin 64) :
    probs (shifted q a0 a1 a2 a3) (ix2 p (⟨64 * h.val + k.val, by omega⟩ : Fin 512))
      = weight q a0 a1 a2 a3 p h (top q a0 a1 a2 a3 p) k := by
  refine (probs_at (probsOf (shifted q a0 a1 a2 a3)) _ p).trans ?_
  have e1 : (⟨(64 * h.val + k.val) / 64, by omega⟩ : Fin 8) = h := Fin.ext (by simp only []; omega)
  have e2 : (⟨(64 * h.val + k.val) % 64, Nat.mod_lt _ (by decide)⟩ : Fin 64) = k := Fin.ext (by simp only []; omega)
  refine (congrArg₂ (fun h k => probsOf (shifted q a0 a1 a2 a3) h (ix2 p k)) e1 e2).trans ?_
  have at_ : ∀ j : Fin 64, shifted q a0 a1 a2 a3 (ix2 p (⟨64 * h.val + j.val, by omega⟩ : Fin 512))
      = logit q a0 a1 a2 a3 p h j - top q a0 a1 a2 a3 p := fun j => by
    rw [shifted_at]
    exact congrArg₂ (fun h k => logit q a0 a1 a2 a3 p h k - _) (Fin.ext (by simp only []; omega)) (Fin.ext (by simp only []; omega))
  rw [probsOf_at, at_]
  exact congrArg (Ideal.div _) (Finset.sum_congr rfl fun j _ => congrArg Ideal.exp (at_ j))

theorem attend_at (r s : Fin 28) (d : Fin 192) :
    attend (F := Ideal) q a0 a1 a2 a3 (ix3 r s d)
      = ∑ k : Fin 64, weight q a0 a1 a2 a3 ⟨28 * r.val + s.val, by omega⟩ ⟨d.val / 24, by omega⟩ (top q a0 a1 a2 a3 ⟨28 * r.val + s.val, by omega⟩) k
          * kv a0 a1 a2 a3 (ix2 k (⟨192 + d.val, by omega⟩ : Fin 384)) := by
  have e : attend (F := Ideal) q a0 a1 a2 a3 = truncf .bf16 (shapeCast S28x28x192
      (matmul dot_S784x512_S512x192_S784x192_1_0_0_1_n_n none (probs (shifted q a0 a1 a2 a3)) (vals a0 a1 a2 a3) (constant S784x192 .f32 0x00000000#32))
      shapeCasts_S784x192_S28x28x192) bitsLt_bf16_f32 := rfl
  rw [e]
  pointwise [vals_at]
  simp only [Nat.mul_comm r.val 28]
  refine Eq.trans (Finset.sum_congr rfl fun c _ => ?_) ((sum_stack (fun c => probs (shifted q a0 a1 a2 a3) (ix2 (⟨28 * r.val + s.val, by omega⟩ : Fin 784) c)
    * kv a0 a1 a2 a3 (ix2 (⟨c.val % 64, Nat.mod_lt _ (by decide)⟩ : Fin 64) (⟨192 + d.val, by omega⟩ : Fin 384))) d).trans
      (Finset.sum_congr rfl fun k _ => congrArg₂ (· * ·) (probs_shifted_at q a0 a1 a2 a3 _ ⟨d.val / 24, by omega⟩ k) ?_))
  · rw [mul_assoc]
  · exact congrArg (fun k => kv a0 a1 a2 a3 (ix2 (k : Fin 64) _)) (Fin.ext (by simp only []; omega))

end Cert.AttnIdeal.Val
-- ==== Proof.AttnArray.lean ====
/-
  What the arrays of the attention kernel hold after the run, element by element, in terms of its arguments: where the
  queries and the keys are finite, every head's weights are its softmax, whatever number was taken off the logits.
-/
module

public import proofs.«01_k».proof.Proof.AttnBlock
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.AttnIdeal.RefArray

open Cert.AttnIdeal Cert.AttnIdeal.Gen Cert.AttnIdeal.Hand Cert.AttnIdeal.Val Idealize.ShloMosaic Idealize.ShloMosaic.TcCoe Idealize.SL.Sem
open Idealize.ShloMosaic.Pipeline (Dat)

/-! ## Finite values -/

/-- A value that is a real number. -/
def IsReal (x : EReal) : Prop := ∃ r : ℝ, x = (r : EReal)

theorem isReal_of_ne {x : EReal} (h1 : x ≠ ⊥) (h2 : x ≠ ⊤) : IsReal x := by
  induction x using EReal.rec with
  | bot => exact absurd rfl h1
  | top => exact absurd rfl h2
  | coe r => exact ⟨r, rfl⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {ι : Type} (s : Finset ι) (g : ι → ℝ) : ∑ i ∈ s, ((g i : ℝ) : EReal) = ((∑ i ∈ s, g i : ℝ) : EReal) := by
  classical
  induction s using Finset.induction_on with
  | empty => simp
  | insert i s h ih => rw [Finset.sum_insert h, Finset.sum_insert h, ih, EReal.coe_add]

theorem isReal_sum {ι : Type} (s : Finset ι) (f : ι → EReal) (h : ∀ i, IsReal (f i)) : IsReal (∑ i ∈ s, f i) := by
  choose g hg using h
  exact ⟨∑ i ∈ s, g i, by rw [← coe_sum]; exact Finset.sum_congr rfl fun i _ => hg i⟩

theorem isReal_scale : IsReal scale := by
  unfold scale
  simp only [Ideal.ofBits, Ideal.ieee]
  exact ⟨_, rfl⟩

theorem ofBits_bot : Ideal.ofBits FTy.f32 0xFF800000#32 = ⊥ := by
  simp [Ideal.ofBits, Ideal.ieee]

/-- The greatest of finitely many real numbers is one. -/
theorem isReal_fold {n : Nat} (f : Fin (n + 1) → EReal) (h : ∀ i, IsReal (f i)) :
    IsReal (Finset.fold max (Ideal.ofBits FTy.f32 0xFF800000#32) f Finset.univ) := by
  rw [ofBits_bot]
  refine isReal_of_ne (ne_of_gt ?_) (ne_of_lt ?_)
  · refine (Finset.lt_fold_max _).mpr (Or.inr ⟨0, Finset.mem_univ _, ?_⟩)
    obtain ⟨r, hr⟩ := h 0
    rw [hr]; exact EReal.bot_lt_coe r
  · refine (Finset.fold_max_lt _).mpr ⟨bot_lt_top, fun i _ => ?_⟩
    obtain ⟨r, hr⟩ := h i
    rw [hr]; exact EReal.coe_lt_top r

/-! ## The softmax of a row -/

/-- The softmax of 64 logits. -/
def soft (l : Fin 64 → EReal) (k : Fin 64) : EReal := Ideal.div (Ideal.exp (l k)) (∑ j : Fin 64, Ideal.exp (l j))

/-- For real logits, taking a real number off all of them changes nothing. -/
theorem soft_shift (l : Fin 64 → EReal) (m : EReal) (hl : ∀ k, IsReal (l k)) (hm : IsReal m) (k : Fin 64) :
    Ideal.div (Ideal.exp (l k - m)) (∑ j : Fin 64, Ideal.exp (l j - m)) = soft l k := by
  choose g hg using hl
  obtain ⟨r, rfl⟩ := hm
  have pos : ∀ f : Fin 64 → ℝ, (∑ j : Fin 64, Real.exp (f j)) ≠ 0 := fun f =>
    ne_of_gt (Finset.sum_pos (fun j _ => Real.exp_pos _) ⟨0, Finset.mem_univ _⟩)
  unfold soft
  simp only [hg, ← EReal.coe_sub, Ideal.exp_coe, coe_sum]
  rw [Ideal.div_coe (pos _), Ideal.div_coe (pos _), ← EReal.coe_mul, ← EReal.coe_mul]
  refine congrArg _ ?_
  simp only [Real.exp_sub, ← Finset.sum_div]
  have := Real.exp_ne_zero r
  have := pos g
  field_simp

/-! ## The attention in terms of the arguments -/

/-- The row of the table that serves key `k` of window `w`: sixteen keys to a named row. -/
def rowOf (I : IVec S64x4 32) (w k : Fin 64) : Fin 64 :=
  ⟨(I (ix2 w (⟨k.val / 16, by omega⟩ : Fin 4))).toNat % 64, Nat.mod_lt _ (by decide)⟩

/-- Column `c` of key `k` of window `w`. -/
def keyOf (T : FVec Ideal S64x16x384 .bf16) (I : IVec S64x4 32) (w k : Fin 64) (c : Fin 384) : EReal :=
  T (ix3 (rowOf I w k) (⟨k.val % 16, by omega⟩ : Fin 16) c)

def logitOf (Q : FVec Ideal S64x784x192 .bf16) (T : FVec Ideal S64x16x384 .bf16) (I : IVec S64x4 32) (w : Fin 64) (p : Fin 784)
    (h : Fin 8) (k : Fin 64) : EReal :=
  ∑ e : Fin 24, Q (ix3 w p (⟨24 * h.val + e.val, by omega⟩ : Fin 192)) * scale * keyOf T I w k ⟨24 * h.val + e.val, by omega⟩

/-- Channel `d` of the attention at pixel `p` of window `w`. -/
def attn (Q : FVec Ideal S64x784x192 .bf16) (T : FVec Ideal S64x16x384 .bf16) (I : IVec S64x4 32) (w : Fin 64) (p : Fin 784) (d : Fin 192) : EReal :=
  ∑ k : Fin 64, soft (logitOf Q T I w p ⟨d.val / 24, by omega⟩) k * keyOf T I w k ⟨192 + d.val, by omega⟩

/-- The windows laid back into an image. -/
def image (Q : FVec Ideal S64x784x192 .bf16) (T : FVec Ideal S64x16x384 .bf16) (I : IVec S64x4 32) : FVec Ideal S1x224x224x192 .bf16 :=
  fun i =>
    have h1 : (i 1).val < 224 := (i 1).isLt
    have h2 : (i 2).val < 224 := (i 2).isLt
    attn Q T I ⟨8 * ((i 1).val / 28) + (i 2).val / 28, by omega⟩ ⟨28 * ((i 1).val % 28) + (i 2).val % 28, by omega⟩ (i 3)

/-- The queries are finite, and so are the keys. -/
def Finite (Q : FVec Ideal S64x784x192 .bf16) (T : FVec Ideal S64x16x384 .bf16) : Prop :=
  (∀ y, IsReal (Q y)) ∧ ∀ (a : Fin 64) (b : Fin 16) (e : Fin 192), IsReal (T (ix3 a b (⟨e.val, by omega⟩ : Fin 384)))

theorem isReal_logitOf {Q : FVec Ideal S64x784x192 .bf16} {T : FVec Ideal S64x16x384 .bf16} (hf : Finite Q T) (I : IVec S64x4 32)
    (w : Fin 64) (p : Fin 784) (h : Fin 8) (k : Fin 64) : IsReal (logitOf Q T I w p h k) :=
  isReal_sum _ _ fun e => ((hf.1 _).mul isReal_scale).mul (hf.2 _ _ ⟨24 * h.val + e.val, by omega⟩)

/-! ## One window -/

section
variable (i : grid0.Coords) (x : Vec Ideal S64x4 .i32) (q : Vec Ideal S8x784x192 .bf16) (kv' : Vec Ideal S64x16x384 .bf16) (n : Fin 8)
variable (Q : FVec Ideal S64x784x192 .bf16) (T : FVec Ideal S64x16x384 .bf16) (I : IVec S64x4 32) (w : Fin 64)

theorem pick_row (j : Fin 4) :
    pick (row kv' (word x i n 0)) (row kv' (word x i n 1)) (row kv' (word x i n 2)) (row kv' (word x i n 3)) j = row kv' (word x i n j) := by
  fin_cases j <;> rfl

variable (hx : ∀ a j, x (ix2 a j) = I (ix2 a j)) (hq : ∀ p d, q (ix3 n p d) = Q (ix3 w p d)) (hk : ∀ a b c, kv' (ix3 a b c) = T (ix3 a b c))
variable (hw : w.val = (i 0).val * 8 + n.val) (hf : Finite Q T)

include hx hk hw in
theorem kv_keyOf (k : Fin 64) (c : Fin 384) :
    kv (row kv' (word x i n 0)) (row kv' (word x i n 1)) (row kv' (word x i n 2)) (row kv' (word x i n 3)) (ix2 k c) = keyOf T I w k c := by
  rw [kv_at, pick_row]
  refine (hk _ _ _).trans (congrArg (fun a => T (ix3 a (⟨k.val % 16, by omega⟩ : Fin 16) c)) (Fin.ext ?_))
  have e : (⟨((i 0).val * 8 + n.val) % 64, Nat.mod_lt _ (by decide)⟩ : Fin 64) = w :=
    Fin.ext (by have := w.isLt; simp only []; omega)
  show (x (ix2 _ _) : BitVec 32).toNat % 64 = (I (ix2 w _)).toNat % 64
  rw [hx]
  exact congrArg (fun w => (I (ix2 w (⟨k.val / 16, by omega⟩ : Fin 4))).toNat % 64) e

include hx hq hk hw in
theorem logit_logitOf (p : Fin 784) (h : Fin 8) (k : Fin 64) :
    logit (band q n) (row kv' (word x i n 0)) (row kv' (word x i n 1)) (row kv' (word x i n 2)) (row kv' (word x i n 3)) p h k
      = logitOf Q T I w p h k :=
  Finset.sum_congr rfl fun e _ => congrArg₂ (fun a b => a * scale * b) (hq _ _) (kv_keyOf i x kv' n T I w hx hk hw _ _)

include hx hq hk hw hf in
theorem wins_at (r s : Fin 28) (d : Fin 192) :
    wins i x q kv' n (ix3 r s d) = attn Q T I w ⟨28 * r.val + s.val, by omega⟩ d := by
  refine (attend_at _ _ _ _ _ r s d).trans (Finset.sum_congr rfl fun k _ => congrArg₂ (· * ·) ?_ (kv_keyOf i x kv' n T I w hx hk hw _ _))
  unfold weight
  simp only [logit_logitOf i x q kv' n Q T I w hx hq hk hw]
  refine soft_shift _ _ (isReal_logitOf hf I w _ _) (isReal_fold _ fun c => ?_) k
  rw [logits_at, logit_logitOf i x q kv' n Q T I w hx hq hk hw]
  exact isReal_logitOf hf I w _ _ _
end

/-! ## Eight windows side by side -/

theorem ladder28 {α : Type} (c : Nat) (hc : c < 224) (f : (k : Nat) → k < 28 → Fin 8 → α) :
    (if h : c < 28 then f c h 0
      else if h : c - 28 < 28 then f (c - 28) h 1
      else if h : c - 28 - 28 < 28 then f (c - 28 - 28) h 2
      else if h : c - 28 - 28 - 28 < 28 then f (c - 28 - 28 - 28) h 3
      else if h : c - 28 - 28 - 28 - 28 < 28 then f (c - 28 - 28 - 28 - 28) h 4
      else if h : c - 28 - 28 - 28 - 28 - 28 < 28 then f (c - 28 - 28 - 28 - 28 - 28) h 5
      else if h : c - 28 - 28 - 28 - 28 - 28 - 28 < 28 then f (c - 28 - 28 - 28 - 28 - 28 - 28) h 6
      else f (c - 28 - 28 - 28 - 28 - 28 - 28 - 28) (by omega) 7)
    = f (c % 28) (Nat.mod_lt _ (by decide)) ⟨c / 28, by omega⟩ := by
  have key : ∀ (j : Fin 8) (n : Nat) (hn : n < 28), c = 28 * j.val + n → f n hn j = f (c % 28) (Nat.mod_lt _ (by decide)) ⟨c / 28, by omega⟩ := by
    intro j n hn e
    have e1 : n = c % 28 := by omega
    have e2 : j = ⟨c / 28, by omega⟩ := Fin.ext (by simp only []; omega)
    subst e1
    exact congrArg _ e2
  split
  · exact key 0 _ _ (by show c = 28 * 0 + _; omega)
  split
  · exact key 1 _ _ (by show c = 28 * 1 + _; omega)
  split
  · exact key 2 _ _ (by show c = 28 * 2 + _; omega)
  split
  · exact key 3 _ _ (by show c = 28 * 3 + _; omega)
  split
  · exact key 4 _ _ (by show c = 28 * 4 + _; omega)
  split
  · exact key 5 _ _ (by show c = 28 * 5 + _; omega)
  split
  · exact key 6 _ _ (by show c = 28 * 6 + _; omega)
  · exact key 7 _ _ (by show c = 28 * 7 + _; omega)

theorem wide_at (x : Fin 8 → FVec Ideal S28x28x192 .bf16) (r : Fin 28) (col : Fin 224) (d : Fin 192) :
    k0_pay1 (x 0) (x 1) (x 2) (x 3) (x 4) (x 5) (x 6) (x 7) (ix4 (0 : Fin 1) r col d)
      = x ⟨col.val / 28, by omega⟩ (ix3 r (⟨col.val % 28, Nat.mod_lt _ (by decide)⟩ : Fin 28) d) := by
  pointwise [k0_pay1]
  exact ladder28 col.val col.isLt fun k hk j => x j (ix3 r (⟨k, hk⟩ : Fin 28) d)

variable (m : (ℓ : Loc nD τ sig) → Buf (Elt Ideal) ℓ)

theorem idxw0 : ∀ t : Fin cfg0.N, win0_0.index t = ![0, 0] :=
  (by decide +kernel : ∀ t : Fin grid0.N, win0_0.index t = ![0, 0])
theorem idxw1 : ∀ t : Fin cfg0.N, win0_1.index t = ![0, 0] :=
  (by decide +kernel : ∀ t : Fin grid0.N, win0_1.index t = ![0, 0])
theorem idxw2 : ∀ t : Fin cfg0.N, win0_2.index t = ![t.val, 0, 0] :=
  (by decide +kernel : ∀ t : Fin grid0.N, win0_2.index t = ![t.val, 0, 0])
theorem idxw3 : ∀ t : Fin cfg0.N, win0_3.index t = ![t.val, 0, 0] :=
  (by decide +kernel : ∀ t : Fin grid0.N, win0_3.index t = ![t.val, 0, 0])
theorem idxw4 : ∀ t : Fin cfg0.N, win0_4.index t = ![0, 0, 0] :=
  (by decide +kernel : ∀ t : Fin grid0.N, win0_4.index t = ![0, 0, 0])
theorem idxw5 : ∀ t : Fin cfg0.N, win0_5.index t = ![0, 0, 0] :=
  (by decide +kernel : ∀ t : Fin grid0.N, win0_5.index t = ![0, 0, 0])
theorem idxw6 : ∀ t : Fin cfg0.N, win0_6.index t = ![0, t.val, 0, 0] :=
  (by decide +kernel : ∀ t : Fin grid0.N, win0_6.index t = ![0, t.val, 0, 0])
theorem idxw7 : ∀ t : Fin cfg0.N, win0_7.index t = ![0, t.val, 0, 0] :=
  (by decide +kernel : ∀ t : Fin grid0.N, win0_7.index t = ![0, t.val, 0, 0])
theorem coord : ∀ t : Fin cfg0.N, (grid0.coords t 0).val = t.val :=
  (by decide +kernel : ∀ t : Fin grid0.N, (grid0.coords t 0).val = t.val)

theorem blk0 (c : Dev nD) (t : Fin cfg0.N) (a : Fin 64) (j : Fin 4) :
    iblk m c 0 t (ix2 a j) = m ((c : Thread nD τ).loc main_arg4) (ix2 a j) := by
  rw [← V_main_arg4 m c]
  blk_point [iblk, idxw0 t]
theorem blk1 (c : Dev nD) (t : Fin cfg0.N) (a : Fin 64) (j : Fin 4) :
    iblk m c 1 t (ix2 a j) = m ((c : Thread nD τ).loc main_arg5) (ix2 a j) := by
  rw [← V_main_arg5 m c]
  blk_point [iblk, idxw1 t]
theorem blk2 (c : Dev nD) (t : Fin cfg0.N) (n : Fin 8) (p : Fin 784) (d : Fin 192) :
    iblk m c 2 t (ix3 n p d) = m ((c : Thread nD τ).loc main_arg0) (ix3 ⟨8 * t.val + n.val, by have : t.val < 8 := t.isLt; omega⟩ p d) := by
  rw [← V_main_arg0 m c]
  blk_point [iblk, idxw2 t]
theorem blk3 (c : Dev nD) (t : Fin cfg0.N) (n : Fin 8) (p : Fin 784) (d : Fin 192) :
    iblk m c 3 t (ix3 n p d) = m ((c : Thread nD τ).loc main_arg1) (ix3 ⟨8 * t.val + n.val, by have : t.val < 8 := t.isLt; omega⟩ p d) := by
  rw [← V_main_arg1 m c]
  blk_point [iblk, idxw3 t]
theorem blk4 (c : Dev nD) (t : Fin cfg0.N) (a : Fin 64) (b : Fin 16) (d : Fin 384) :
    iblk m c 4 t (ix3 a b d) = m ((c : Thread nD τ).loc main_arg2) (ix3 a b d) := by
  rw [← V_main_arg2 m c]
  blk_point [iblk, idxw4 t]
theorem blk5 (c : Dev nD) (t : Fin cfg0.N) (a : Fin 64) (b : Fin 16) (d : Fin 384) :
    iblk m c 5 t (ix3 a b d) = m ((c : Thread nD τ).loc main_arg3) (ix3 a b d) := by
  rw [← V_main_arg3 m c]
  blk_point [iblk, idxw5 t]

theorem embw6 (t : Fin cfg0.N) (r : Fin 28) (col : Fin 224) (d : Fin 192) : (win0_6.blk t).view.emb (ix4 (0 : Fin 1) r col d)
    = ix4 (0 : Fin 1) ⟨28 * t.val + r.val, by have : t.val < 8 := t.isLt; omega⟩ col d := by
  funext a
  apply Fin.ext
  fin_cases a <;> blk_simp [idxw6 t] <;> simp <;> omega
theorem embw7 (t : Fin cfg0.N) (r : Fin 28) (col : Fin 224) (d : Fin 192) : (win0_7.blk t).view.emb (ix4 (0 : Fin 1) r col d)
    = ix4 (0 : Fin 1) ⟨28 * t.val + r.val, by have : t.val < 8 := t.isLt; omega⟩ col d := by
  funext a
  apply Fin.ext
  fin_cases a <;> blk_simp [idxw7 t] <;> simp <;> omega

/-- A point's result block is its part of the image. -/
theorem outv_at (t : Fin cfg0.N) (x : Vec Ideal S64x4 .i32) (q : Vec Ideal S8x784x192 .bf16) (kv' : Vec Ideal S64x16x384 .bf16)
    (Q : FVec Ideal S64x784x192 .bf16) (T : FVec Ideal S64x16x384 .bf16) (I : IVec S64x4 32) (hf : Finite Q T)
    (hx : ∀ a j, x (ix2 a j) = I (ix2 a j))
    (hq : ∀ (n : Fin 8) p d, q (ix3 n p d) = Q (ix3 ⟨8 * t.val + n.val, by have : t.val < 8 := t.isLt; omega⟩ p d))
    (hk : ∀ a b c, kv' (ix3 a b c) = T (ix3 a b c)) (r : Fin 28) (col : Fin 224) (d : Fin 192) :
    outv (grid0.coords t) x q kv' (ix4 (0 : Fin 1) r col d)
      = image Q T I (ix4 (0 : Fin 1) ⟨28 * t.val + r.val, by have : t.val < 8 := t.isLt; omega⟩ col d) := by
  have ht : t.val < 8 := t.isLt
  refine (wide_at (wins (grid0.coords t) x q kv') r col d).trans ?_
  refine (wins_at (grid0.coords t) x q kv' _ Q T I ⟨8 * t.val + col.val / 28, by omega⟩ hx (hq _) hk
    (by rw [coord]; simp only []; omega) hf r _ d).trans ?_
  exact congrArg₂ (fun w p => attn Q T I w p d) (Fin.ext (by simp; omega)) (Fin.ext (by simp; omega))

theorem final6 (c : Dev nD) (hf : Finite (m ((c : Thread nD τ).loc main_arg1)) (m ((c : Thread nD τ).loc main_arg2))) : (dats m 0 c).arrAt 6 cfg0.N
    = image (m ((c : Thread nD τ).loc main_arg1)) (m ((c : Thread nD τ).loc main_arg2)) (m ((c : Thread nD τ).loc main_arg4)) := by
  refine (dats m 0 c).arrAt_eq_of_covers 6 _ (by decide +kernel) fun t _ y => ?_
  obtain ⟨z, r, col, d, rfl⟩ : ∃ (z : Fin 1) (r : Fin 28) (col : Fin 224) (d : Fin 192), y = ix4 z r col d := ⟨y 0, y 1, y 2, y 3, eq_ix4 y⟩
  obtain rfl : z = 0 := Subsingleton.elim _ _
  refine Eq.trans ?_ (congrArg (image (m ((c : Thread nD τ).loc main_arg1)) (m ((c : Thread nD τ).loc main_arg2)) (m ((c : Thread nD τ).loc main_arg4))) (embw6 t r col d).symm)
  blk_simp
  rw [after0_6]
  exact outv_at t _ _ _ _ _ _ hf (blk0 m c t) (blk3 m c t) (blk4 m c t) r col d

theorem final7 (c : Dev nD) (hf : Finite (m ((c : Thread nD τ).loc main_arg0)) (m ((c : Thread nD τ).loc main_arg3))) : (dats m 0 c).arrAt 7 cfg0.N
    = image (m ((c : Thread nD τ).loc main_arg0)) (m ((c : Thread nD τ).loc main_arg3)) (m ((c : Thread nD τ).loc main_arg5)) := by
  refine (dats m 0 c).arrAt_eq_of_covers 7 _ (by decide +kernel) fun t _ y => ?_
  obtain ⟨z, r, col, d, rfl⟩ : ∃ (z : Fin 1) (r : Fin 28) (col : Fin 224) (d : Fin 192), y = ix4 z r col d := ⟨y 0, y 1, y 2, y 3, eq_ix4 y⟩
  obtain rfl : z = 0 := Subsingleton.elim _ _
  refine Eq.trans ?_ (congrArg (image (m ((c : Thread nD τ).loc main_arg0)) (m ((c : Thread nD τ).loc main_arg3)) (m ((c : Thread nD τ).loc main_arg5))) (embw7 t r col d).symm)
  blk_simp
  rw [after0_7]
  exact outv_at t _ _ _ _ _ _ hf (blk1 m c t) (blk2 m c t) (blk5 m c t) r col d

end Cert.AttnIdeal.RefArray
end
-- ==== Proof.WholeOut.lean ====
/-
  The blocks of the whole program's other calls are those of the calls by themselves.
-/
module

public import proofs.«01_k».proof.Proof.WholeRouter
public import proofs.«01_k».proof.Proof.WholeAttn
public import proofs.«01_k».proof.Proof.WholeFinalA
public import proofs.«01_k».proof.Proof.WholeFinalB
public import proofs.«01_k».proof.Proof.RouterBlock
public import proofs.«01_k».proof.Proof.FinalBlock
public import proofs.«01_k».proof.Proof.AttnArray

@[expose] public section

set_option maxRecDepth 16384

namespace Cert.Whole.Hand

open Cert.Whole Cert.Whole.Gen Idealize.ShloMosaic
open Cert.RouterIdeal.Val (four least strike)

theorem out3_9_eq : out3_9 (F := Ideal) = Cert.FinalIdeal.Gen.out0_9 := by exact rfl
theorem out4_9_eq : out4_9 (F := Ideal) = Cert.FinalIdeal.Gen.out0_9 := by exact rfl
theorem outv_eq : outv (F := Ideal) = Cert.AttnIdeal.Hand.outv := by exact rfl

theorem ld1_0 (v : Vec Ideal S64x192 .f32) : View.ld (Val := Elt Ideal) (e' := .f32) v r1_0 = v :=
  View.ld_unit_zero (funext fun a => by fin_cases a <;> rfl) _ _

/-- The row maxima, along the rows. -/
noncomputable def tops (x : FVec Ideal S64x64 .f32) : FVec Ideal S64x64 .f32 :=
  broadcastTo S64x64 (shapeCast S64x1 (multiReduction .maximumf [1] S64 x 0xFF800000#32 reduces_S64x64_S64 (.inl rfl) rfl)
    shapeCasts_S64_S64x1) broadcasts_S64x1_S64x64

section
variable (a b : Vec Ideal S64x192 .f32)

theorem recast {α : Type} {s : Shape} (v : s.Idx → α) (h : s.ShapeCasts s) : shapeCast s v h = v := by
  funext i
  unfold shapeCast
  rw [Shape.reshapeEquiv_self]

theorem scores_eq : k1_pay3 (F := Ideal) a b = Cert.RouterIdeal.Gen.k0_pay3 a b := by
  unfold k1_pay3; simp only [recast]; rfl
theorem scores2_eq : k1_pay10 (F := Ideal) k1_pay2 a b = Cert.RouterIdeal.Gen.k0_pay3 a b := by
  unfold k1_pay10; simp only [recast]; rfl
theorem pay4_eq : k1_pay4 (F := Ideal) a b = least (k1_pay3 a b) := rfl
theorem pay5_eq : k1_pay5 (F := Ideal) a b = strike (k1_pay3 a b) := by
  unfold k1_pay5; rw [pay4_eq]; rfl
theorem pay6_eq : k1_pay6 (F := Ideal) a b = least (strike (k1_pay3 a b)) := by
  unfold k1_pay6; rw [pay5_eq]; rfl
theorem pay7_eq : k1_pay7 (F := Ideal) a b = strike (strike (k1_pay3 a b)) := by
  unfold k1_pay7; rw [pay5_eq, pay6_eq]; rfl
theorem pay8_eq : k1_pay8 (F := Ideal) a b = tops (strike (strike (k1_pay3 a b))) := by
  unfold k1_pay8; rw [pay7_eq]; rfl
theorem pay9_eq (x : FVec Ideal S64x64 .f32) (v20 v33 : IVec S64x1 32) :
    k1_pay9 (F := Ideal) (iota .tc S64x64 32 [1] iota_S64x64_d1_w32) v20 v33 x (tops x)
      = concatenate S64x4 1 [⟨S64x1, v20⟩, ⟨S64x1, v33⟩, ⟨S64x1, least x⟩, ⟨S64x1, least (strike x)⟩]
        concatenates_S64x1_S64x1_S64x1_S64x1_S64x4_d1 := rfl
theorem pay11_eq (v : IVec S64x64 1) : k1_pay11 (F := Ideal) v a b = least (k1_pay10 v a b) := rfl
theorem pay12_eq (v : IVec S64x64 1) : k1_pay12 (F := Ideal) v a b = cmpi .eq (iota .tc S64x64 32 [1] iota_S64x64_d1_w32)
    (broadcastTo S64x64 (least (k1_pay10 v a b)) broadcasts_S64x1_S64x64) := by
  unfold k1_pay12; rw [pay11_eq]
theorem pay1_eq (x : FVec Ideal S64x64 .f32) (v : IVec S64x1 32) :
    k1_pay1 (F := Ideal) x (iota .tc S64x64 32 [1] iota_S64x64_d1_w32) v (cmpi .eq (iota .tc S64x64 32 [1] iota_S64x64_d1_w32)
      (broadcastTo S64x64 (least x) broadcasts_S64x1_S64x64))
      = concatenate S64x4 1 [⟨S64x1, v⟩, ⟨S64x1, least (strike x)⟩, ⟨S64x1, least (strike (strike x))⟩,
        ⟨S64x1, least (strike (strike (strike x)))⟩] concatenates_S64x1_S64x1_S64x1_S64x1_S64x4_d1 := rfl
end

theorem out1_4_eq (a0 a1 a2 a3 : Vec Ideal S64x192 .f32) : out1_4 (F := Ideal) a0 a1 a2 a3 = four (Cert.RouterIdeal.Gen.k0_pay3 a2 a1) := by
  unfold out1_4
  refine (View.canon_unit_zero (funext fun a => by fin_cases a <;> rfl) _ _).trans ?_
  simp only [ld1_0]
  rw [pay8_eq, pay7_eq, pay9_eq, pay6_eq, pay4_eq, scores_eq]
  rfl

theorem out1_5_eq (a0 a1 a2 a3 : Vec Ideal S64x192 .f32) : out1_5 (F := Ideal) a0 a1 a2 a3 = four (Cert.RouterIdeal.Gen.k0_pay3 a0 a3) := by
  unfold out1_5
  refine (View.canon_unit_zero (funext fun a => by fin_cases a <;> rfl) _ _).trans ?_
  simp only [ld1_0, k1_pay13]
  rw [pay12_eq, pay11_eq, pay1_eq, scores2_eq]
  rfl

end Cert.Whole.Hand
end
-- ==== Proof.WholeValB.lean ====
/-
  What the router and the attention call of the whole program leave in their arrays, from any contents.
-/
module

public import proofs.«01_k».proof.Proof.WholeOut

@[expose] public section

set_option maxRecDepth 16384

noncomputable section

namespace Cert.Whole.Hand

open Cert.Whole Cert.Whole.Gen Idealize.ShloMosaic Idealize.ShloMosaic.TcCoe Idealize.SL.Sem
open Idealize.ShloMosaic.Pipeline (Dat)
open Cert.AttnIdeal.RefArray (Finite)

variable (V : (c : Dev nD) → (b : Ref sig .tc) → Buf (Elt Ideal) ((c : Thread nD τ).loc b)) (c : Dev nD)

/-! ## The router -/

theorem idx1_all : ∀ t : Fin cfg1.N, win1_0.index t = ![0, 0] ∧ win1_1.index t = ![0, 0] ∧ win1_2.index t = ![0, 0]
    ∧ win1_3.index t = ![0, 0] ∧ win1_4.index t = ![0, 0] ∧ win1_5.index t = ![0, 0] :=
  (by decide +kernel : ∀ t : Fin grid1.N, _)

theorem blk1_0 (t : Fin cfg1.N) : iblk1 V c 0 t = V c main_v24 := by
  funext y
  obtain ⟨n, d, rfl⟩ : ∃ (n : Fin 64) (d : Fin 192), y = ix2 n d := ⟨y 0, y 1, eq_ix2 y⟩
  blk_point [iblk1, (idx1_all t).1]
theorem blk1_1 (t : Fin cfg1.N) : iblk1 V c 1 t = V c main_v25 := by
  funext y
  obtain ⟨n, d, rfl⟩ : ∃ (n : Fin 64) (d : Fin 192), y = ix2 n d := ⟨y 0, y 1, eq_ix2 y⟩
  blk_point [iblk1, (idx1_all t).2.1]
theorem blk1_2 (t : Fin cfg1.N) : iblk1 V c 2 t = V c main_v26 := by
  funext y
  obtain ⟨n, d, rfl⟩ : ∃ (n : Fin 64) (d : Fin 192), y = ix2 n d := ⟨y 0, y 1, eq_ix2 y⟩
  blk_point [iblk1, (idx1_all t).2.2.1]
theorem blk1_3 (t : Fin cfg1.N) : iblk1 V c 3 t = V c main_v27 := by
  funext y
  obtain ⟨n, d, rfl⟩ : ∃ (n : Fin 64) (d : Fin 192), y = ix2 n d := ⟨y 0, y 1, eq_ix2 y⟩
  blk_point [iblk1, (idx1_all t).2.2.2.1]

theorem emb1_4 (t : Fin cfg1.N) (n : Fin 64) (j : Fin 4) : (win1_4.blk t).view.emb (ix2 n j) = ix2 n j := by
  funext a
  apply Fin.ext
  fin_cases a <;> blk_simp [(idx1_all t).2.2.2.2.1] <;> simp
theorem emb1_5 (t : Fin cfg1.N) (n : Fin 64) (j : Fin 4) : (win1_5.blk t).view.emb (ix2 n j) = ix2 n j := by
  funext a
  apply Fin.ext
  fin_cases a <;> blk_simp [(idx1_all t).2.2.2.2.2] <;> simp

theorem final1_4 : (dat1 V c).arrAt 4 cfg1.N
    = Cert.RouterIdeal.Val.four (Cert.RouterIdeal.Gen.k0_pay3 (F := Ideal) (V c main_v26) (V c main_v25)) := by
  refine (dat1 V c).arrAt_eq_of_covers 4 _ (by decide +kernel) fun t _ y => ?_
  obtain ⟨n, j, rfl⟩ : ∃ (n : Fin 64) (j : Fin 4), y = ix2 n j := ⟨y 0, y 1, eq_ix2 y⟩
  refine Eq.trans ?_ (congrArg (Cert.RouterIdeal.Val.four (Cert.RouterIdeal.Gen.k0_pay3 (F := Ideal) (V c main_v26) (V c main_v25))) (emb1_4 t n j).symm)
  blk_simp
  rw [after1_4, out1_4_eq, blk1_1, blk1_2]

theorem final1_5 : (dat1 V c).arrAt 5 cfg1.N
    = Cert.RouterIdeal.Val.four (Cert.RouterIdeal.Gen.k0_pay3 (F := Ideal) (V c main_v24) (V c main_v27)) := by
  refine (dat1 V c).arrAt_eq_of_covers 5 _ (by decide +kernel) fun t _ y => ?_
  obtain ⟨n, j, rfl⟩ : ∃ (n : Fin 64) (j : Fin 4), y = ix2 n j := ⟨y 0, y 1, eq_ix2 y⟩
  refine Eq.trans ?_ (congrArg (Cert.RouterIdeal.Val.four (Cert.RouterIdeal.Gen.k0_pay3 (F := Ideal) (V c main_v24) (V c main_v27))) (emb1_5 t n j).symm)
  blk_simp
  rw [after1_5, out1_5_eq, blk1_0, blk1_3]

/-! ## The attention -/

theorem idx2_words : ∀ t : Fin cfg2.N, win2_0.index t = ![0, 0] ∧ win2_1.index t = ![0, 0] :=
  (by decide +kernel : ∀ t : Fin grid2.N, _)
theorem idx2_queries : ∀ t : Fin cfg2.N, win2_2.index t = ![t.val, 0, 0] ∧ win2_3.index t = ![t.val, 0, 0] :=
  (by decide +kernel : ∀ t : Fin grid2.N, _)
theorem idx2_pooled : ∀ t : Fin cfg2.N, win2_4.index t = ![0, 0, 0] ∧ win2_5.index t = ![0, 0, 0] :=
  (by decide +kernel : ∀ t : Fin grid2.N, _)
theorem idx2_out : ∀ t : Fin cfg2.N, win2_6.index t = ![0, t.val, 0, 0] ∧ win2_7.index t = ![0, t.val, 0, 0] :=
  (by decide +kernel : ∀ t : Fin grid2.N, _)

theorem blk2_0 (t : Fin cfg2.N) (a : Fin 64) (j : Fin 4) : iblk2 V c 0 t (ix2 a j) = V c main_v32 (ix2 a j) := by
  blk_point [iblk2, (idx2_words t).1]
theorem blk2_1 (t : Fin cfg2.N) (a : Fin 64) (j : Fin 4) : iblk2 V c 1 t (ix2 a j) = V c main_v36 (ix2 a j) := by
  blk_point [iblk2, (idx2_words t).2]
theorem blk2_2 (t : Fin cfg2.N) (n : Fin 8) (p : Fin 784) (d : Fin 192) : iblk2 V c 2 t (ix3 n p d)
    = V c main_v23_0 (ix3 ⟨8 * t.val + n.val, by have : t.val < 8 := t.isLt; omega⟩ p d) := by
  blk_point [iblk2, (idx2_queries t).1]
theorem blk2_3 (t : Fin cfg2.N) (n : Fin 8) (p : Fin 784) (d : Fin 192) : iblk2 V c 3 t (ix3 n p d)
    = V c main_v23_1 (ix3 ⟨8 * t.val + n.val, by have : t.val < 8 := t.isLt; omega⟩ p d) := by
  blk_point [iblk2, (idx2_queries t).2]
theorem blk2_4 (t : Fin cfg2.N) (n : Fin 64) (k : Fin 16) (d : Fin 384) : iblk2 V c 4 t (ix3 n k d) = V c main_v23_2 (ix3 n k d) := by
  blk_point [iblk2, (idx2_pooled t).1]
theorem blk2_5 (t : Fin cfg2.N) (n : Fin 64) (k : Fin 16) (d : Fin 384) : iblk2 V c 5 t (ix3 n k d) = V c main_v23_3 (ix3 n k d) := by
  blk_point [iblk2, (idx2_pooled t).2]

theorem emb2_6 (t : Fin cfg2.N) (r : Fin 28) (col : Fin 224) (d : Fin 192) : (win2_6.blk t).view.emb (ix4 0 r col d)
    = ix4 0 ⟨28 * t.val + r.val, by have : t.val < 8 := t.isLt; omega⟩ col d := by
  funext a
  apply Fin.ext
  fin_cases a <;> blk_simp [(idx2_out t).1] <;> simp <;> omega
theorem emb2_7 (t : Fin cfg2.N) (r : Fin 28) (col : Fin 224) (d : Fin 192) : (win2_7.blk t).view.emb (ix4 0 r col d)
    = ix4 0 ⟨28 * t.val + r.val, by have : t.val < 8 := t.isLt; omega⟩ col d := by
  funext a
  apply Fin.ext
  fin_cases a <;> blk_simp [(idx2_out t).2] <;> simp <;> omega

theorem final2_6 (hf : Finite (V c main_v23_1) (V c main_v23_2)) : (dat2 V c).arrAt 6 cfg2.N
    = Cert.AttnIdeal.RefArray.image (V c main_v23_1) (V c main_v23_2) (V c main_v32) := by
  refine (dat2 V c).arrAt_eq_of_covers 6 _ (by decide +kernel) fun t _ y => ?_
  obtain ⟨z, r, col, d, rfl⟩ : ∃ (z : Fin 1) (r : Fin 28) (col : Fin 224) (d : Fin 192), y = ix4 z r col d := ⟨y 0, y 1, y 2, y 3, eq_ix4 y⟩
  obtain rfl : z = 0 := Subsingleton.elim _ _
  refine Eq.trans ?_ (congrArg (Cert.AttnIdeal.RefArray.image (V c main_v23_1) (V c main_v23_2) (V c main_v32)) (emb2_6 t r col d).symm)
  blk_simp
  rw [after2_6, outv_eq]
  exact Cert.AttnIdeal.RefArray.outv_at t _ _ _ _ _ _ hf (blk2_0 V c t) (blk2_3 V c t) (blk2_4 V c t) r col d

theorem final2_7 (hf : Finite (V c main_v23_0) (V c main_v23_3)) : (dat2 V c).arrAt 7 cfg2.N
    = Cert.AttnIdeal.RefArray.image (V c main_v23_0) (V c main_v23_3) (V c main_v36) := by
  refine (dat2 V c).arrAt_eq_of_covers 7 _ (by decide +kernel) fun t _ y => ?_
  obtain ⟨z, r, col, d, rfl⟩ : ∃ (z : Fin 1) (r : Fin 28) (col : Fin 224) (d : Fin 192), y = ix4 z r col d := ⟨y 0, y 1, y 2, y 3, eq_ix4 y⟩
  obtain rfl : z = 0 := Subsingleton.elim _ _
  refine Eq.trans ?_ (congrArg (Cert.AttnIdeal.RefArray.image (V c main_v23_0) (V c main_v23_3) (V c main_v36)) (emb2_7 t r col d).symm)
  blk_simp
  rw [after2_7, outv_eq]
  exact Cert.AttnIdeal.RefArray.outv_at t _ _ _ _ _ _ hf (blk2_1 V c t) (blk2_2 V c t) (blk2_5 V c t) r col d

end Cert.Whole.Hand
end
-- ==== Proof.FinalArray.lean ====
/-
  What the result array of the out-projection kernel holds after the run, element by element, in terms of its arguments.
-/
module

public import proofs.«01_k».proof.Proof.FinalBlock
public import Idealize.ShloMosaic.Lib.Pipeline.ValueKit
public import Idealize.ShloMosaic.Lib.StableHlo.ReadAt
public import Idealize.ShloMosaic.Lib.Tactic.WordOmega

@[expose] public section

set_option maxRecDepth 16384

noncomputable section

namespace Cert.FinalIdeal.RefArray

open Cert.FinalIdeal Cert.FinalIdeal.Gen Cert.FinalIdeal.RefBlock Idealize.ShloMosaic Idealize.ShloMosaic.TcCoe Idealize.SL.Sem
open Idealize.ShloMosaic.Pipeline (Dat)

variable (m : (ℓ : Loc nD τ sig) → Buf (Elt Ideal) ℓ)

/-! ## The arrays that the host prepares -/

theorem V_x (c : Dev nD) (a b : Fin 224) (e : Fin 192) :
    V m c main_v0 (ix4 0 a e b) = m ((c : Thread nD τ).loc main_arg1) (ix4 0 a b e) := by
  unfold V
  after_reads_at

theorem V_wv (c : Dev nD) (e d : Fin 192) :
    V m c main_v1 (ix2 e d) = m ((c : Thread nD τ).loc main_arg2) (ix2 e ⟨384 + d.val, by omega⟩) := by
  unfold V
  after_reads_at

theorem V_k (c : Dev nD) (y z : Fin 3) (d : Fin 192) :
    V m c main_v3 (ix3 y z d) = m ((c : Thread nD τ).loc main_arg6) (ix4 d 0 y z) := by
  unfold V
  after_reads_at

theorem V_a (c : Dev nD) (n : Fin 16) (r : Fin 14) (q : Fin 224) (d : Fin 192) :
    V m c main_v4 (ix4 n r q d) = m ((c : Thread nD τ).loc main_arg0) (ix4 0 ⟨14 * n.val + r.val, by omega⟩ q d) := by
  unfold V
  after_reads_at
  exact congrArg (fun p => m ((c : Thread nD τ).loc main_arg0) (ix4 0 p q d)) (Fin.ext (by simp only; omega))

theorem V_kb (c : Dev nD) (d : Fin 192) :
    V m c main_v5 (ix2 0 d) = m ((c : Thread nD τ).loc main_arg7) (ix1 d) := by
  unfold V
  after_reads_at

theorem V_bo (c : Dev nD) (d : Fin 192) :
    V m c main_v6 (ix2 0 d) = m ((c : Thread nD τ).loc main_arg5) (ix1 d) := by
  unfold V
  after_reads_at

/-! ## The blocks -/

theorem idx0 : ∀ t : Fin cfg0.N, win0_0.index t = ![t.val, 0, 0, 0] :=
  (by decide +kernel : ∀ t : Fin grid0.N, win0_0.index t = ![t.val, 0, 0, 0])
theorem idx1 : ∀ t : Fin cfg0.N, win0_1.index t = ![0, t.val, 0, 0] :=
  (by decide +kernel : ∀ t : Fin grid0.N, win0_1.index t = ![0, t.val, 0, 0])
theorem idx2 : ∀ t : Fin cfg0.N, win0_2.index t = ![0, 14 * t.val - 1, 0, 0] :=
  (by decide +kernel : ∀ t : Fin grid0.N, win0_2.index t = ![0, 14 * t.val - 1, 0, 0])
theorem idx3 : ∀ t : Fin cfg0.N, win0_3.index t = ![0, min (14 * t.val + 14) 223, 0, 0] :=
  (by decide +kernel : ∀ t : Fin grid0.N, win0_3.index t = ![0, min (14 * t.val + 14) 223, 0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0, 0] :=
  (by decide +kernel : ∀ t : Fin grid0.N, win0_5.index t = ![0, 0, 0])
theorem idx6 : ∀ t : Fin cfg0.N, win0_6.index t = ![0, 0] :=
  (by decide +kernel : ∀ t : Fin grid0.N, win0_6.index t = ![0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0] :=
  (by decide +kernel : ∀ t : Fin grid0.N, win0_8.index t = ![0, 0])
theorem idx9 : ∀ t : Fin cfg0.N, win0_9.index t = ![t.val, 0, 0, 0] :=
  (by decide +kernel : ∀ t : Fin grid0.N, win0_9.index t = ![t.val, 0, 0, 0])
theorem coord : ∀ t : Fin cfg0.N, (grid0.coords t 0).val = t.val :=
  (by decide +kernel : ∀ t : Fin grid0.N, (grid0.coords t 0).val = t.val)

theorem blk_a (c : Dev nD) (t : Fin cfg0.N) (r : Fin 14) (q : Fin 224) (d : Fin 192) :
    iblk m c 0 t (ix4 0 r q d) = m ((c : Thread nD τ).loc main_arg0)
      (ix4 0 ⟨14 * t.val + r.val, by have : t.val < 16 := t.isLt; omega⟩ q d) := by
  refine Eq.trans ?_ (V_a m c ⟨t.val, t.isLt⟩ r q d)
  blk_point [iblk, idx0 t]

theorem blk_x (c : Dev nD) (t : Fin cfg0.N) (r : Fin 14) (e : Fin 192) (q : Fin 224) :
    iblk m c 1 t (ix4 0 r e q) = m ((c : Thread nD τ).loc main_arg1)
      (ix4 0 ⟨14 * t.val + r.val, by have : t.val < 16 := t.isLt; omega⟩ q e) := by
  rw [← V_x m c]
  blk_point [iblk, idx1 t]

theorem blk_up (c : Dev nD) (t : Fin cfg0.N) (e : Fin 192) (q : Fin 224) :
    iblk m c 2 t (ix4 0 0 e q) = m ((c : Thread nD τ).loc main_arg1)
      (ix4 0 ⟨14 * t.val - 1, by have : t.val < 16 := t.isLt; omega⟩ q e) := by
  rw [← V_x m c]
  blk_point [iblk, idx2 t]

theorem blk_down (c : Dev nD) (t : Fin cfg0.N) (e : Fin 192) (q : Fin 224) :
    iblk m c 3 t (ix4 0 0 e q) = m ((c : Thread nD τ).loc main_arg1)
      (ix4 0 ⟨min (14 * t.val + 14) 223, by omega⟩ q e) := by
  rw [← V_x m c]
  blk_point [iblk, idx3 t]

theorem blk_wv (c : Dev nD) (t : Fin cfg0.N) (e d : Fin 192) :
    iblk m c 4 t (ix2 e d) = m ((c : Thread nD τ).loc main_arg2) (ix2 e ⟨384 + d.val, by omega⟩) := by
  rw [← V_wv m c]
  blk_point [iblk, idx4 t]

theorem blk_k (c : Dev nD) (t : Fin cfg0.N) (y z : Fin 3) (d : Fin 192) :
    iblk m c 5 t (ix3 y z d) = m ((c : Thread nD τ).loc main_arg6) (ix4 d 0 y z) := by
  rw [← V_k m c]
  blk_point [iblk, idx5 t]

theorem blk_kb (c : Dev nD) (t : Fin cfg0.N) (d : Fin 192) :
    iblk m c 6 t (ix2 0 d) = m ((c : Thread nD τ).loc main_arg7) (ix1 d) := by
  rw [← V_kb m c]
  blk_point [iblk, idx6 t]

theorem blk_wo (c : Dev nD) (t : Fin cfg0.N) (d o : Fin 192) :
    iblk m c 7 t (ix2 d o) = m ((c : Thread nD τ).loc main_arg4) (ix2 d o) := by
  rw [← V_main_arg4 m c]
  blk_point [iblk, idx7 t]

theorem blk_bo (c : Dev nD) (t : Fin cfg0.N) (o : Fin 192) :
    iblk m c 8 t (ix2 0 o) = m ((c : Thread nD τ).loc main_arg5) (ix1 o) := by
  rw [← V_bo m c]
  blk_point [iblk, idx8 t]

/-! ## The values, in terms of the arguments -/

/-- Row `y` and column `z` of the values of the image with a border of zeros, at channel `d`. -/
def val (x : FVec Ideal S1x224x224x192 .f32) (w : FVec Ideal S192x576 .f32) (y z : ℕ) (d : Fin 192) : EReal :=
  if h : (1 ≤ y ∧ y ≤ 224) ∧ (1 ≤ z ∧ z ≤ 224) then
    ∑ e : Fin 192, x (ix4 0 ⟨y - 1, by omega⟩ ⟨z - 1, by omega⟩ e) * w (ix2 e ⟨384 + d.val, by omega⟩)
  else 0

theorem val_eq (x : FVec Ideal S1x224x224x192 .f32) (w : FVec Ideal S192x576 .f32) (y z : ℕ) (d : Fin 192)
    (p q : Fin 224) (hp : y = p.val + 1) (hq : z = q.val + 1) :
    val x w y z d = ∑ e : Fin 192, x (ix4 0 p q e) * w (ix2 e ⟨384 + d.val, by omega⟩) := by
  subst hp hq
  exact dif_pos ⟨⟨by omega, by omega⟩, by omega, by omega⟩

theorem val_border (x : FVec Ideal S1x224x224x192 .f32) (w : FVec Ideal S192x576 .f32) (y z : ℕ) (d : Fin 192)
    (h : y = 0 ∨ y = 225 ∨ z = 0 ∨ z = 225) : val x w y z d = 0 :=
  dif_neg (by omega)

theorem first_band : ∀ t : Fin 16, Scalar.cmpi CmpIPredicate.eq (BitVec.ofNat 32 t.val) 0#32 = if t.val = 0 then 1#1 else 0#1 := by
  decide +kernel
theorem last_band : ∀ t : Fin 16, Scalar.cmpi CmpIPredicate.eq (BitVec.ofNat 32 t.val) 15#32 = if t.val = 15 then 1#1 else 0#1 := by
  decide +kernel

/-! ## The result array -/

theorem ld0 (v : Vec Ideal S192x192 .f32) : View.ld (Val := Elt Ideal) (e' := .f32) v r0_0 = v :=
  View.ld_unit_zero (funext fun a => by fin_cases a <;> rfl) _ _
theorem ld1 (v : Vec Ideal S3x3x192 .f32) : View.ld (Val := Elt Ideal) (e' := .f32) v r0_1 = v :=
  View.ld_unit_zero (funext fun a => by fin_cases a <;> rfl) _ _
theorem ld2 (v : Vec Ideal S1x192 .f32) : View.ld (Val := Elt Ideal) (e' := .f32) v r0_2 = v :=
  View.ld_unit_zero (funext fun a => by fin_cases a <;> rfl) _ _
theorem ld3 (v : Vec Ideal S1x14x192x224 .f32) : View.ld (Val := Elt Ideal) (e' := .f32) v r0_3 = v :=
  View.ld_unit_zero (funext fun a => by fin_cases a <;> rfl) _ _
theorem ld4 (v : Vec Ideal S1x1x192x224 .f32) : View.ld (Val := Elt Ideal) (e' := .f32) v r0_4 = v :=
  View.ld_unit_zero (funext fun a => by fin_cases a <;> rfl) _ _
theorem ld5 (v : Vec Ideal S1x14x224x192 .bf16) : View.ld (Val := Elt Ideal) (e' := .bf16) v r0_5 = v :=
  View.ld_unit_zero (funext fun a => by fin_cases a <;> rfl) _ _

/-- The image after the output projection, in bands of 14 rows, channels before columns: the attention plus the
    depthwise convolution of the values, times the weights, plus the bias. -/
def image (a : FVec Ideal S1x224x224x192 .bf16) (x : FVec Ideal S1x224x224x192 .f32) (w : FVec Ideal S192x576 .f32)
    (wo : FVec Ideal S192x192 .f32) (bo : FVec Ideal S192 .f32) (k : FVec Ideal S192x1x3x3 .f32) (kb : FVec Ideal S192 .f32) :
    FVec Ideal S16x14x192x224 .f32 :=
  fun i => (∑ d : Fin 192, (a (ix4 0 ⟨14 * (i 0).val + (i 1).val, by
        have : (i 0).val < 16 := (i 0).isLt
        have : (i 1).val < 14 := (i 1).isLt
        omega⟩ (i 3) d)
      + taps (kb (ix1 d)) (fun y z => k (ix4 d 0 y z))
        (fun y z => val x w (14 * (i 0).val + (i 1).val + y) ((i 3).val + z) d)) * wo (ix2 d (i 2))) + bo (ix1 (i 2))

theorem image_apply (a : FVec Ideal S1x224x224x192 .bf16) (x : FVec Ideal S1x224x224x192 .f32) (w : FVec Ideal S192x576 .f32)
    (wo : FVec Ideal S192x192 .f32) (bo : FVec Ideal S192 .f32) (k : FVec Ideal S192x1x3x3 .f32) (kb : FVec Ideal S192 .f32)
    (n : Fin 16) (r : Fin 14) (o : Fin 192) (q : Fin 224) : image a x w wo bo k kb (ix4 n r o q)
      = (∑ d : Fin 192, (a (ix4 0 ⟨14 * n.val + r.val, by omega⟩ q d)
          + taps (kb (ix1 d)) (fun y z => k (ix4 d 0 y z)) (fun y z => val x w (14 * n.val + r.val + y) (q.val + z) d))
            * wo (ix2 d o)) + bo (ix1 o) := rfl

/-- The blocks of band `t` hold its rows of the attention and of the image, the row above, the row below, and the weights. -/
structure Holds (a : FVec Ideal S1x224x224x192 .bf16) (x : FVec Ideal S1x224x224x192 .f32) (w : FVec Ideal S192x576 .f32)
    (wo : FVec Ideal S192x192 .f32) (bo : FVec Ideal S192 .f32) (k : FVec Ideal S192x1x3x3 .f32) (kb : FVec Ideal S192 .f32) (t : Fin 16)
    (ba : Vec Ideal S1x14x224x192 .bf16) (bx : Vec Ideal S1x14x192x224 .f32) (bu bd : Vec Ideal S1x1x192x224 .f32)
    (bw : Vec Ideal S192x192 .f32) (bk : Vec Ideal S3x3x192 .f32) (bkb : Vec Ideal S1x192 .f32) (bwo : Vec Ideal S192x192 .f32)
    (bbo : Vec Ideal S1x192 .f32) : Prop where
  rows : ∀ (r : Fin 14) (q : Fin 224) (d : Fin 192), ba (ix4 0 r q d) = a (ix4 0 ⟨14 * t.val + r.val, by omega⟩ q d)
  image : ∀ (r : Fin 14) (e : Fin 192) (q : Fin 224), bx (ix4 0 r e q) = x (ix4 0 ⟨14 * t.val + r.val, by omega⟩ q e)
  up : ∀ (e : Fin 192) (q : Fin 224), bu (ix4 0 0 e q) = x (ix4 0 ⟨14 * t.val - 1, by omega⟩ q e)
  down : ∀ (e : Fin 192) (q : Fin 224), bd (ix4 0 0 e q) = x (ix4 0 ⟨min (14 * t.val + 14) 223, by omega⟩ q e)
  values : ∀ e d : Fin 192, bw (ix2 e d) = w (ix2 e ⟨384 + d.val, by omega⟩)
  kernel : ∀ (y z : Fin 3) (d : Fin 192), bk (ix3 y z d) = k (ix4 d 0 y z)
  shift : ∀ d : Fin 192, bkb (ix2 0 d) = kb (ix1 d)
  weights : ∀ d o : Fin 192, bwo (ix2 d o) = wo (ix2 d o)
  bias : ∀ o : Fin 192, bbo (ix2 0 o) = bo (ix1 o)

section
variable {a : FVec Ideal S1x224x224x192 .bf16} {x : FVec Ideal S1x224x224x192 .f32} {w : FVec Ideal S192x576 .f32}
  {wo : FVec Ideal S192x192 .f32} {bo : FVec Ideal S192 .f32} {k : FVec Ideal S192x1x3x3 .f32} {kb : FVec Ideal S192 .f32} {t : Fin 16}
  {ba : Vec Ideal S1x14x224x192 .bf16} {bx : Vec Ideal S1x14x192x224 .f32} {bu bd : Vec Ideal S1x1x192x224 .f32}
  {bw : Vec Ideal S192x192 .f32} {bk : Vec Ideal S3x3x192 .f32} {bkb : Vec Ideal S1x192 .f32} {bwo : Vec Ideal S192x192 .f32}
  {bbo : Vec Ideal S1x192 .f32} (h : Holds a x w wo bo k kb t ba bx bu bd bw bk bkb bwo bbo) (i : grid0.Coords) (hi : (i 0).val = t.val)
include h hi

theorem band_apply (y : Fin 16) (q : Fin 226) (d : Fin 192) :
    k0_pay3 (F := Ideal) i bw bx bu bd (ix3 y q d) = val x w (14 * t.val + y.val) q.val d := by
  have ht : t.val < 16 := t.isLt
  refine pay3_apply _ _ _ _ _ (fun y q d => val x w (14 * t.val + y) q d)
    (fun y d => val_border _ _ _ _ _ (by omega)) (fun y d => val_border _ _ _ _ _ (by omega)) (fun y q d => ?_) (fun q d => ?_)
    (fun q d => ?_) y q d
  · simp only [h.image, h.values]
    exact (val_eq _ _ _ _ _ _ q (by simp only; omega) rfl).symm
  · rw [hi, first_band ⟨t.val, ht⟩]
    simp only [h.up, h.values]
    split
    · exact (val_border _ _ _ _ _ (by omega)).symm
    · exact (val_eq _ _ _ _ _ _ q (by simp only; omega) rfl).symm
  · rw [hi, last_band ⟨t.val, ht⟩]
    simp only [h.down, h.values]
    split
    · exact (val_border _ _ _ _ _ (by omega)).symm
    · exact (val_eq _ _ _ _ _ _ q (by simp only; omega) rfl).symm

/-- The block that the body leaves. -/
theorem block9 (r : Fin 14) (o : Fin 192) (q : Fin 224) :
    out0_9 (F := Ideal) i ba bx bu bd bw bk bkb bwo bbo (ix4 0 r o q) = image a x w wo bo k kb (ix4 t r o q) := by
  unfold out0_9 k0_pay7 k0_pay8
  simp only [ld0, ld1, ld2, ld3, ld4, ld5]
  refine (congrFun (View.canon_cons_unit_zero (funext fun a => by fin_cases a <;> rfl) _ _ _) _).trans ?_
  refine (out_apply _ _ _ _ _ _ (fun y q d => val x w (14 * t.val + y) q d) (band_apply h i hi) r o q).trans ?_
  simp only [h.rows, h.shift, h.kernel, h.weights, h.bias]
  refine Eq.trans ?_ (image_apply _ _ _ _ _ _ _ t r o q).symm
  have hy (y : ℕ) : 14 * t.val + (y + r.val) = 14 * t.val + r.val + y := by omega
  have hz (z : ℕ) : z + q.val = q.val + z := by omega
  simp only [hy, hz]
end

theorem emb9 (t : Fin cfg0.N) (r : Fin 14) (o : Fin 192) (q : Fin 224) : (win0_9.blk t).view.emb (ix4 0 r o q)
    = ix4 ⟨t.val, t.isLt⟩ r o q := by
  funext a
  apply Fin.ext
  fin_cases a <;> blk_simp [idx9 t] <;> simp

theorem final9 (c : Dev nD) : (dats m 0 c).arrAt 9 cfg0.N
    = image (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6))
      (m ((c : Thread nD τ).loc main_arg7)) := by
  refine (dats m 0 c).arrAt_eq_of_covers 9 _ (by decide +kernel) fun t hf y => ?_
  obtain ⟨n, r, o, q, rfl⟩ : ∃ (n : Fin 1) (r : Fin 14) (o : Fin 192) (q : Fin 224), y = ix4 n r o q :=
    ⟨y 0, y 1, y 2, y 3, eq_ix4 y⟩
  obtain rfl : n = 0 := Subsingleton.elim _ _
  refine Eq.trans ?_ (congrArg (image (m ((c : Thread nD τ).loc main_arg0)) (m ((c : Thread nD τ).loc main_arg1)) (m ((c : Thread nD τ).loc main_arg2))
      (m ((c : Thread nD τ).loc main_arg4)) (m ((c : Thread nD τ).loc main_arg5)) (m ((c : Thread nD τ).loc main_arg6))
      (m ((c : Thread nD τ).loc main_arg7))) (emb9 t r o q).symm)
  blk_simp
  rw [after0_9]
  exact block9 (t := ⟨t.val, t.isLt⟩) ⟨blk_a m c t, blk_x m c t, blk_up m c t, blk_down m c t, blk_wv m c t, blk_k m c t, blk_kb m c t,
    blk_wo m c t, blk_bo m c t⟩ _ (coord t) r o q

end Cert.FinalIdeal.RefArray
end
-- ==== Proof.WholeValC.lean ====
/-
  What the two last calls of the whole program leave in their results, from any contents that hold the arguments.
-/
module

public import proofs.«01_k».proof.Proof.WholeOut
public import proofs.«01_k».proof.Proof.FinalArray

@[expose] public section

set_option maxRecDepth 16384

noncomputable section

namespace Cert.Whole.Hand

open Cert.Whole Cert.Whole.Gen Idealize.ShloMosaic Idealize.ShloMosaic.TcCoe Idealize.SL.Sem
open Idealize.ShloMosaic.Pipeline (Dat)
open Cert.FinalIdeal.RefArray (Holds)

/-- The arrays of a last call, in terms of the attention, the image and the arguments. -/
structure Ready (a : FVec Ideal S1x224x224x192 .bf16) (x : FVec Ideal S1x224x224x192 .f32) (w : FVec Ideal S192x576 .f32)
    (wo : FVec Ideal S192x192 .f32) (bo : FVec Ideal S192 .f32) (k : FVec Ideal S192x1x3x3 .f32) (kb : FVec Ideal S192 .f32)
    (va : FVec Ideal S16x14x224x192 .bf16) (vx : FVec Ideal S1x224x192x224 .f32) (vw : FVec Ideal S192x192 .f32)
    (vk : FVec Ideal S3x3x192 .f32) (vkb : FVec Ideal S1x192 .f32) (vwo : FVec Ideal S192x192 .f32) (vbo : FVec Ideal S1x192 .f32) : Prop where
  rows : ∀ (n : Fin 16) (r : Fin 14) (q : Fin 224) (d : Fin 192), va (ix4 n r q d) = a (ix4 0 ⟨14 * n.val + r.val, by omega⟩ q d)
  image : ∀ (a b : Fin 224) (e : Fin 192), vx (ix4 0 a e b) = x (ix4 0 a b e)
  values : ∀ e d : Fin 192, vw (ix2 e d) = w (ix2 e ⟨384 + d.val, by omega⟩)
  kernel : ∀ (y z : Fin 3) (d : Fin 192), vk (ix3 y z d) = k (ix4 d 0 y z)
  shift : ∀ d : Fin 192, vkb (ix2 0 d) = kb (ix1 d)
  weights : vwo = wo
  bias : ∀ o : Fin 192, vbo (ix2 0 o) = bo (ix1 o)

variable (V : (c : Dev nD) → (b : Ref sig .tc) → Buf (Elt Ideal) ((c : Thread nD τ).loc b)) (c : Dev nD)
  {a : FVec Ideal S1x224x224x192 .bf16} {x : FVec Ideal S1x224x224x192 .f32} {w : FVec Ideal S192x576 .f32}
  {wo : FVec Ideal S192x192 .f32} {bo : FVec Ideal S192 .f32} {k : FVec Ideal S192x1x3x3 .f32} {kb : FVec Ideal S192 .f32}

/-! ## The call of the first image -/

theorem idx3_0 : ∀ t : Fin cfg3.N, win3_0.index t = ![t.val, 0, 0, 0] :=
  (by decide +kernel : ∀ t : Fin grid3.N, win3_0.index t = ![t.val, 0, 0, 0])
theorem idx3_1 : ∀ t : Fin cfg3.N, win3_1.index t = ![0, t.val, 0, 0] :=
  (by decide +kernel : ∀ t : Fin grid3.N, win3_1.index t = ![0, t.val, 0, 0])
theorem idx3_2 : ∀ t : Fin cfg3.N, win3_2.index t = ![0, 14 * t.val - 1, 0, 0] :=
  (by decide +kernel : ∀ t : Fin grid3.N, win3_2.index t = ![0, 14 * t.val - 1, 0, 0])
theorem idx3_3 : ∀ t : Fin cfg3.N, win3_3.index t = ![0, min (14 * t.val + 14) 223, 0, 0] :=
  (by decide +kernel : ∀ t : Fin grid3.N, win3_3.index t = ![0, min (14 * t.val + 14) 223, 0, 0])
theorem idx3_4 : ∀ t : Fin cfg3.N, win3_4.index t = ![0, 0] :=
  (by decide +kernel : ∀ t : Fin grid3.N, win3_4.index t = ![0, 0])
theorem idx3_5 : ∀ t : Fin cfg3.N, win3_5.index t = ![0, 0, 0] :=
  (by decide +kernel : ∀ t : Fin grid3.N, win3_5.index t = ![0, 0, 0])
theorem idx3_6 : ∀ t : Fin cfg3.N, win3_6.index t = ![0, 0] :=
  (by decide +kernel : ∀ t : Fin grid3.N, win3_6.index t = ![0, 0])
theorem idx3_7 : ∀ t : Fin cfg3.N, win3_7.index t = ![0, 0] :=
  (by decide +kernel : ∀ t : Fin grid3.N, win3_7.index t = ![0, 0])
theorem idx3_8 : ∀ t : Fin cfg3.N, win3_8.index t = ![0, 0] :=
  (by decide +kernel : ∀ t : Fin grid3.N, win3_8.index t = ![0, 0])
theorem idx3_9 : ∀ t : Fin cfg3.N, win3_9.index t = ![t.val, 0, 0, 0] :=
  (by decide +kernel : ∀ t : Fin grid3.N, win3_9.index t = ![t.val, 0, 0, 0])
theorem coord3 : ∀ t : Fin cfg3.N, (grid3.coords t 0).val = t.val :=
  (by decide +kernel : ∀ t : Fin grid3.N, (grid3.coords t 0).val = t.val)

theorem blk3_0 (t : Fin cfg3.N) (r : Fin 14) (q : Fin 224) (d : Fin 192) :
    iblk3 V c 0 t (ix4 0 r q d) = V c main_v41 (ix4 ⟨t.val, t.isLt⟩ r q d) := by
  blk_point [iblk3, idx3_0 t]
theorem blk3_1 (t : Fin cfg3.N) (r : Fin 14) (e : Fin 192) (q : Fin 224) : iblk3 V c 1 t (ix4 0 r e q)
    = V c main_v20 (ix4 0 ⟨14 * t.val + r.val, by have : t.val < 16 := t.isLt; omega⟩ e q) := by
  blk_point [iblk3, idx3_1 t]
theorem blk3_2 (t : Fin cfg3.N) (e : Fin 192) (q : Fin 224) : iblk3 V c 2 t (ix4 0 0 e q)
    = V c main_v20 (ix4 0 ⟨14 * t.val - 1, by have : t.val < 16 := t.isLt; omega⟩ e q) := by
  blk_point [iblk3, idx3_2 t]
theorem blk3_3 (t : Fin cfg3.N) (e : Fin 192) (q : Fin 224) : iblk3 V c 3 t (ix4 0 0 e q)
    = V c main_v20 (ix4 0 ⟨min (14 * t.val + 14) 223, by omega⟩ e q) := by
  blk_point [iblk3, idx3_3 t]
theorem blk3_4 (t : Fin cfg3.N) (e d : Fin 192) : iblk3 V c 4 t (ix2 e d) = V c main_v38 (ix2 e d) := by
  blk_point [iblk3, idx3_4 t]
theorem blk3_5 (t : Fin cfg3.N) (y z : Fin 3) (d : Fin 192) : iblk3 V c 5 t (ix3 y z d) = V c main_v40 (ix3 y z d) := by
  blk_point [iblk3, idx3_5 t]
theorem blk3_6 (t : Fin cfg3.N) (d : Fin 192) : iblk3 V c 6 t (ix2 0 d) = V c main_v42 (ix2 0 d) := by
  blk_point [iblk3, idx3_6 t]
theorem blk3_7 (t : Fin cfg3.N) (d o : Fin 192) : iblk3 V c 7 t (ix2 d o) = V c main_arg4 (ix2 d o) := by
  blk_point [iblk3, idx3_7 t]
theorem blk3_8 (t : Fin cfg3.N) (o : Fin 192) : iblk3 V c 8 t (ix2 0 o) = V c main_v43 (ix2 0 o) := by
  blk_point [iblk3, idx3_8 t]

theorem emb3_9 (t : Fin cfg3.N) (r : Fin 14) (o : Fin 192) (q : Fin 224) : (win3_9.blk t).view.emb (ix4 0 r o q)
    = ix4 ⟨t.val, t.isLt⟩ r o q := by
  funext a
  apply Fin.ext
  fin_cases a <;> blk_simp [idx3_9 t] <;> simp

theorem final3_9 (h : Ready a x w wo bo k kb (V c main_v41) (V c main_v20) (V c main_v38) (V c main_v40) (V c main_v42) (V c main_arg4) (V c main_v43)) :
    (dat3 V c).arrAt 9 cfg3.N = Cert.FinalIdeal.RefArray.image a x w wo bo k kb := by
  refine (dat3 V c).arrAt_eq_of_covers 9 _ (by decide +kernel) fun t hf y => ?_
  obtain ⟨n, r, o, q, rfl⟩ : ∃ (n : Fin 1) (r : Fin 14) (o : Fin 192) (q : Fin 224), y = ix4 n r o q :=
    ⟨y 0, y 1, y 2, y 3, eq_ix4 y⟩
  obtain rfl : n = 0 := Subsingleton.elim _ _
  refine Eq.trans ?_ (congrArg (Cert.FinalIdeal.RefArray.image a x w wo bo k kb) (emb3_9 t r o q).symm)
  blk_simp
  rw [after3_9, out3_9_eq]
  exact Cert.FinalIdeal.RefArray.block9 (t := ⟨t.val, t.isLt⟩)
    ⟨fun r q d => (blk3_0 V c t r q d).trans (h.rows _ _ _ _), fun r e q => (blk3_1 V c t r e q).trans (h.image _ _ _),
      fun e q => (blk3_2 V c t e q).trans (h.image _ _ _), fun e q => (blk3_3 V c t e q).trans (h.image _ _ _),
      fun e d => (blk3_4 V c t e d).trans (h.values e d), fun y z d => (blk3_5 V c t y z d).trans (h.kernel y z d),
      fun d => (blk3_6 V c t d).trans (h.shift d), fun d o => (blk3_7 V c t d o).trans (congrFun h.weights _),
      fun o => (blk3_8 V c t o).trans (h.bias o)⟩ _ (coord3 t) r o q

/-! ## The call of the second image -/

theorem idx4_0 : ∀ t : Fin cfg4.N, win4_0.index t = ![t.val, 0, 0, 0] :=
  (by decide +kernel : ∀ t : Fin grid4.N, win4_0.index t = ![t.val, 0, 0, 0])
theorem idx4_1 : ∀ t : Fin cfg4.N, win4_1.index t = ![0, t.val, 0, 0] :=
  (by decide +kernel : ∀ t : Fin grid4.N, win4_1.index t = ![0, t.val, 0, 0])
theorem idx4_2 : ∀ t : Fin cfg4.N, win4_2.index t = ![0, 14 * t.val - 1, 0, 0] :=
  (by decide +kernel : ∀ t : Fin grid4.N, win4_2.index t = ![0, 14 * t.val - 1, 0, 0])
theorem idx4_3 : ∀ t : Fin cfg4.N, win4_3.index t = ![0, min (14 * t.val + 14) 223, 0, 0] :=
  (by decide +kernel : ∀ t : Fin grid4.N, win4_3.index t = ![0, min (14 * t.val + 14) 223, 0, 0])
theorem idx4_4 : ∀ t : Fin cfg4.N, win4_4.index t = ![0, 0] :=
  (by decide +kernel : ∀ t : Fin grid4.N, win4_4.index t = ![0, 0])
theorem idx4_5 : ∀ t : Fin cfg4.N, win4_5.index t = ![0, 0, 0] :=
  (by decide +kernel : ∀ t : Fin grid4.N, win4_5.index t = ![0, 0, 0])
theorem idx4_6 : ∀ t : Fin cfg4.N, win4_6.index t = ![0, 0] :=
  (by decide +kernel : ∀ t : Fin grid4.N, win4_6.index t = ![0, 0])
theorem idx4_7 : ∀ t : Fin cfg4.N, win4_7.index t = ![0, 0] :=
  (by decide +kernel : ∀ t : Fin grid4.N, win4_7.index t = ![0, 0])
theorem idx4_8 : ∀ t : Fin cfg4.N, win4_8.index t = ![0, 0] :=
  (by decide +kernel : ∀ t : Fin grid4.N, win4_8.index t = ![0, 0])
theorem idx4_9 : ∀ t : Fin cfg4.N, win4_9.index t = ![t.val, 0, 0, 0] :=
  (by decide +kernel : ∀ t : Fin grid4.N, win4_9.index t = ![t.val, 0, 0, 0])
theorem coord4 : ∀ t : Fin cfg4.N, (grid4.coords t 0).val = t.val :=
  (by decide +kernel : ∀ t : Fin grid4.N, (grid4.coords t 0).val = t.val)

theorem blk4_0 (t : Fin cfg4.N) (r : Fin 14) (q : Fin 224) (d : Fin 192) :
    iblk4 V c 0 t (ix4 0 r q d) = V c main_v45 (ix4 ⟨t.val, t.isLt⟩ r q d) := by
  blk_point [iblk4, idx4_0 t]
theorem blk4_1 (t : Fin cfg4.N) (r : Fin 14) (e : Fin 192) (q : Fin 224) : iblk4 V c 1 t (ix4 0 r e q)
    = V c main_v21 (ix4 0 ⟨14 * t.val + r.val, by have : t.val < 16 := t.isLt; omega⟩ e q) := by
  blk_point [iblk4, idx4_1 t]
theorem blk4_2 (t : Fin cfg4.N) (e : Fin 192) (q : Fin 224) : iblk4 V c 2 t (ix4 0 0 e q)
    = V c main_v21 (ix4 0 ⟨14 * t.val - 1, by have : t.val < 16 := t.isLt; omega⟩ e q) := by
  blk_point [iblk4, idx4_2 t]
theorem blk4_3 (t : Fin cfg4.N) (e : Fin 192) (q : Fin 224) : iblk4 V c 3 t (ix4 0 0 e q)
    = V c main_v21 (ix4 0 ⟨min (14 * t.val + 14) 223, by omega⟩ e q) := by
  blk_point [iblk4, idx4_3 t]
theorem blk4_4 (t : Fin cfg4.N) (e d : Fin 192) : iblk4 V c 4 t (ix2 e d) = V c main_v38 (ix2 e d) := by
  blk_point [iblk4, idx4_4 t]
theorem blk4_5 (t : Fin cfg4.N) (y z : Fin 3) (d : Fin 192) : iblk4 V c 5 t (ix3 y z d) = V c main_v40 (ix3 y z d) := by
  blk_point [iblk4, idx4_5 t]
theorem blk4_6 (t : Fin cfg4.N) (d : Fin 192) : iblk4 V c 6 t (ix2 0 d) = V c main_v46 (ix2 0 d) := by
  blk_point [iblk4, idx4_6 t]
theorem blk4_7 (t : Fin cfg4.N) (d o : Fin 192) : iblk4 V c 7 t (ix2 d o) = V c main_arg4 (ix2 d o) := by
  blk_point [iblk4, idx4_7 t]
theorem blk4_8 (t : Fin cfg4.N) (o : Fin 192) : iblk4 V c 8 t (ix2 0 o) = V c main_v47 (ix2 0 o) := by
  blk_point [iblk4, idx4_8 t]

theorem emb4_9 (t : Fin cfg4.N) (r : Fin 14) (o : Fin 192) (q : Fin 224) : (win4_9.blk t).view.emb (ix4 0 r o q)
    = ix4 ⟨t.val, t.isLt⟩ r o q := by
  funext a
  apply Fin.ext
  fin_cases a <;> blk_simp [idx4_9 t] <;> simp

theorem final4_9 (h : Ready a x w wo bo k kb (V c main_v45) (V c main_v21) (V c main_v38) (V c main_v40) (V c main_v46) (V c main_arg4) (V c main_v47)) :
    (dat4 V c).arrAt 9 cfg4.N = Cert.FinalIdeal.RefArray.image a x w wo bo k kb := by
  refine (dat4 V c).arrAt_eq_of_covers 9 _ (by decide +kernel) fun t hf y => ?_
  obtain ⟨n, r, o, q, rfl⟩ : ∃ (n : Fin 1) (r : Fin 14) (o : Fin 192) (q : Fin 224), y = ix4 n r o q :=
    ⟨y 0, y 1, y 2, y 3, eq_ix4 y⟩
  obtain rfl : n = 0 := Subsingleton.elim _ _
  refine Eq.trans ?_ (congrArg (Cert.FinalIdeal.RefArray.image a x w wo bo k kb) (emb4_9 t r o q).symm)
  blk_simp
  rw [after4_9, out4_9_eq]
  exact Cert.FinalIdeal.RefArray.block9 (t := ⟨t.val, t.isLt⟩)
    ⟨fun r q d => (blk4_0 V c t r q d).trans (h.rows _ _ _ _), fun r e q => (blk4_1 V c t r e q).trans (h.image _ _ _),
      fun e q => (blk4_2 V c t e q).trans (h.image _ _ _), fun e q => (blk4_3 V c t e q).trans (h.image _ _ _),
      fun e d => (blk4_4 V c t e d).trans (h.values e d), fun y z d => (blk4_5 V c t y z d).trans (h.kernel y z d),
      fun d => (blk4_6 V c t d).trans (h.shift d), fun d o => (blk4_7 V c t d o).trans (congrFun h.weights _),
      fun o => (blk4_8 V c t o).trans (h.bias o)⟩ _ (coord4 t) r o q

end Cert.Whole.Hand
end
-- ==== Proof.ProjRef.lean ====
/-
  What the reference of the projection computes, element by element.
-/
module

public import proofs.«01_k».proof.Proof.ProjArray
public import proofs.«01_k».proof.Proof.Gen.RefProjIdeal.Run
public import Idealize.ShloMosaic.Lib.Pointwise
public import Idealize.ShloMosaic.Lib.Pipeline.ValueKit
public import Idealize.ShloMosaic.Lib.Tactic.WordOmega

@[expose] public section

set_option maxRecDepth 16384

noncomputable section
namespace Cert.RefProjIdeal.RefTerm

open Cert.RefProjIdeal Cert.RefProjIdeal.Gen Idealize.ShloMosaic Idealize.ShloMosaic.TcCoe Idealize.ShloMosaic.StableHlo
open Cert.ProjIdeal.RefArray (pix queries pooled means)

/-- The projection of every pixel, the image cut into 8 by 8 windows. -/
def projection (x : FVec Ideal S1x224x224x192 .f32) (w : FVec Ideal S192x576 .f32) (b : FVec Ideal S576 .f32) :
    FVec Ideal S1x64x28x28x576 .f32 :=
  addf (Host.dotGeneral dot_S1x64x28x28x192_S192x576_S1x64x28x28x576_4_0_0123_1_n_n none (shapeCast _ (transpose S1x8x8x28x28x192 [0, 1, 3, 2, 4, 5] (shapeCast _ x shapeCasts_S1x224x224x192_S1x8x28x8x28x192) transposes_S1x8x28x8x28x192_S1x8x8x28x28x192_0_1_3_2_4_5) shapeCasts_S1x8x8x28x28x192_S1x64x28x28x192) w) (broadcastInDim S1x64x28x28x576 ![0, 1, 2, 3, 4] bcast_S1x1x1x1x576_S1x64x28x28x576_0_1_2_3_4 (broadcastInDim S1x1x1x1x576 ![4] bcast_S576_S1x1x1x1x576_4 b))

theorem projection_apply (x : FVec Ideal S1x224x224x192 .f32) (w : FVec Ideal S192x576 .f32) (b : FVec Ideal S576 .f32)
    (n : Fin 64) (r c : Fin 28) (p : Fin 784) (hp : p.val = 28 * r.val + c.val) (d : Fin 576) :
    projection x w b (ix5 0 n r c d) = pix x w b n p d := by
  pointwise [projection]
  have h1 : p.val / 28 = r.val := by omega
  have h2 : p.val % 28 = c.val := by omega
  refine congrArg (· + _) (Finset.sum_congr rfl fun e _ => congrArg (x · * _) ?_)
  congr 1 <;> apply Fin.ext <;> simp only [h1, h2, Nat.mul_comm]

/-- The queries, as the operations of the reference compose. -/
def queriesOf (x : FVec Ideal S1x224x224x192 .f32) (w : FVec Ideal S192x576 .f32) (b : FVec Ideal S576 .f32) :
    FVec Ideal S64x784x192 .bf16 :=
  truncf .bf16 (shapeCast S64x784x192 (extractStridedSlice S1x64x28x28x192 ![0, 0, 0, 0, 0] (projection x w b) slices_S1x64x28x28x576_S1x64x28x28x192_0_0_0_0_0) shapeCasts_S1x64x28x28x192_S64x784x192) bitsLt_bf16_f32

theorem queries_term (x : FVec Ideal S1x224x224x192 .f32) (w : FVec Ideal S192x576 .f32) (b : FVec Ideal S576 .f32) :
    queriesOf x w b = queries x w b := by
  funext i
  obtain ⟨n, p, d, rfl⟩ : ∃ (n : Fin 64) (p : Fin 784) (d : Fin 192), i = ix3 n p d := ⟨i 0, i 1, i 2, eq_ix3 i⟩
  pointwise [queriesOf]
  exact projection_apply x w b n _ _ p (Nat.div_add_mod p.val 28).symm _

/-- A sum over the pixels of a window, row by row. -/
theorem sum_pixels (x : FVec Ideal S1x224x224x192 .f32) (w : FVec Ideal S192x576 .f32) (b : FVec Ideal S576 .f32)
    (n : Fin 64) (d : Fin 576) :
    ∑ r : Fin 28, ∑ c : Fin 28, projection x w b (ix5 0 n r c d) = ∑ p : Fin 784, pix x w b n p d := by
  refine (Fin.sum_divmod_fin (N := 784) 28 fun r c => projection x w b (ix5 0 n r c d)).symm.trans ?_
  exact Finset.sum_congr rfl fun p _ => projection_apply x w b n _ _ p (Nat.div_add_mod p.val 28).symm _

theorem means_apply (o : ℕ) (ho : o + 192 ≤ 576) (x : FVec Ideal S1x224x224x192 .f32) (w : FVec Ideal S192x576 .f32)
    (b : FVec Ideal S576 .f32) (n : Fin 64) (k : Fin 1) (d : Fin 192) :
    means o ho x w b (ix3 n k d) = Ideal.div (∑ p : Fin 784, pix x w b n p ⟨o + d.val, by omega⟩) (Ideal.ofBits .f32 0x44440000#32) :=
  rfl

/-- The means of the queries, likewise. -/
def queryMeansOf (x : FVec Ideal S1x224x224x192 .f32) (w : FVec Ideal S192x576 .f32) (b : FVec Ideal S576 .f32) :
    FVec Ideal S64x1x192 .f32 :=
  shapeCast S64x1x192 (Host.divf (Host.reduceAdd (extractStridedSlice S1x64x28x28x192 ![0, 0, 0, 0, 0] (projection x w b) slices_S1x64x28x28x576_S1x64x28x28x192_0_0_0_0_0) (constant (F := Ideal) S_ .f32 0x00000000#32) reducesTo_S1x64x28x28x192_S1x64x192_d2_3 h_S_) (broadcastInDim S1x64x192 ![] bcast_S_S1x64x192 (constant (F := Ideal) S_ .f32 0x44440000#32))) shapeCasts_S1x64x192_S64x1x192

theorem query_means_term (x : FVec Ideal S1x224x224x192 .f32) (w : FVec Ideal S192x576 .f32) (b : FVec Ideal S576 .f32) :
    queryMeansOf x w b = means 0 (by omega) x w b := by
  funext i
  obtain ⟨n, k, d, rfl⟩ : ∃ (n : Fin 64) (k : Fin 1) (d : Fin 192), i = ix3 n k d := ⟨i 0, i 1, i 2, eq_ix3 i⟩
  pointwise [queryMeansOf]
  refine (congrArg (Ideal.div · _) ((Finset.sum_congr rfl fun r _ => Finset.sum_congr rfl fun c _ => ?_).trans
    (sum_pixels x w b n ⟨0 + d.val, by omega⟩))).trans (means_apply _ _ x w b n k d).symm
  exact congrArg (fun j => projection x w b (ix5 0 n r c j)) (Fin.ext (Nat.zero_add _).symm)

/-- The means of the keys, likewise. -/
def keyMeansOf (x : FVec Ideal S1x224x224x192 .f32) (w : FVec Ideal S192x576 .f32) (b : FVec Ideal S576 .f32) :
    FVec Ideal S64x1x192 .f32 :=
  shapeCast S64x1x192 (Host.divf (Host.reduceAdd (extractStridedSlice S1x64x28x28x192 ![0, 0, 0, 0, 0] (extractStridedSlice S1x64x28x28x384 ![0, 0, 0, 0, 192] (projection x w b) slices_S1x64x28x28x576_S1x64x28x28x384_0_0_0_0_192) slices_S1x64x28x28x384_S1x64x28x28x192_0_0_0_0_0) (constant (F := Ideal) S_ .f32 0x00000000#32) reducesTo_S1x64x28x28x192_S1x64x192_d2_3 h_S_) (broadcastInDim S1x64x192 ![] bcast_S_S1x64x192 (constant (F := Ideal) S_ .f32 0x44440000#32))) shapeCasts_S1x64x192_S64x1x192

theorem key_means_term (x : FVec Ideal S1x224x224x192 .f32) (w : FVec Ideal S192x576 .f32) (b : FVec Ideal S576 .f32) :
    keyMeansOf x w b = means 192 (by omega) x w b := by
  funext i
  obtain ⟨n, k, d, rfl⟩ : ∃ (n : Fin 64) (k : Fin 1) (d : Fin 192), i = ix3 n k d := ⟨i 0, i 1, i 2, eq_ix3 i⟩
  pointwise [keyMeansOf]
  refine (congrArg (Ideal.div · _) ((Finset.sum_congr rfl fun r _ => Finset.sum_congr rfl fun c _ => ?_).trans
    (sum_pixels x w b n ⟨192 + d.val, by omega⟩))).trans (means_apply _ _ x w b n k d).symm
  exact rfl

/-- The host's sum over axes 2 and 4 of a rank-6 array, at an index. -/
theorem cell_sum (v : FVec Ideal S64x4x7x4x7x384 .f32) (c : EReal) (n : Fin 64) (r s : Fin 4) (d : Fin 384) :
    Ideal.hostReduceAdd reducesTo_S64x4x7x4x7x384_S64x4x4x384_d2_4 v c (ix4 n r s d)
      = c + ∑ q : Fin 7 × Fin 7, v (ix6 n r q.1 s q.2 d) := by
  refine congrArg (c + ·) (Finset.sum_filter_eq_sum_of_fiber _ (fun q : Fin 7 × Fin 7 => ix6 n r q.1 s q.2 d)
    (fun _ _ e => Prod.ext (congrFun e 2) (congrFun e 4)) (fun i => ⟨fun e => ⟨(i 2, i 4), ?_⟩, ?_⟩) v)
  · funext a
    apply Fin.ext
    fin_cases a
    · exact (congrArg Fin.val (congrFun e 0)).symm
    · exact (congrArg Fin.val (congrFun e 1)).symm
    · rfl
    · exact (congrArg Fin.val (congrFun e 2)).symm
    · rfl
    · exact (congrArg Fin.val (congrFun e 3)).symm
  · rintro ⟨q, rfl⟩
    funext a
    apply Fin.ext
    fin_cases a <;> rfl

/-- Sums of extended reals times a real that is not negative. -/
theorem real_mul_sum {ι : Type} (s : Finset ι) (a : ℝ) (ha : 0 ≤ a) (f : ι → EReal) :
    ∑ i ∈ s, (a : EReal) * f i = (a : EReal) * ∑ i ∈ s, f i := by
  classical
  induction s using Finset.induction_on with
  | empty => simp
  | insert i s h ih =>
    rw [Finset.sum_insert h, Finset.sum_insert h, ih,
      EReal.left_distrib_of_nonneg_of_ne_top (EReal.coe_nonneg.mpr ha) (EReal.coe_ne_top a)]

/-- The average over a cell of 49 pixels as a weighted sum over all the pixels. -/
theorem cell_mean (f : Fin 784 → EReal) (k : Fin 16) :
    ∑ p : Fin 784, (if p.val / 28 / 7 = k.val / 4 ∧ p.val % 28 / 7 = k.val % 4 then ((1 / 49 : ℝ) : EReal) else 0) * f p
      = (((1 / 49 : ℝ)) : EReal) * ∑ q : Fin 7 × Fin 7,
        f ⟨28 * (7 * (k.val / 4) + q.1.val) + (7 * (k.val % 4) + q.2.val), by omega⟩ := by
  rw [← real_mul_sum _ _ (by norm_num)]
  refine Eq.trans ?_ (Finset.sum_filter_eq_sum_of_fiber
    (fun p : Fin 784 => p.val / 28 / 7 = k.val / 4 ∧ p.val % 28 / 7 = k.val % 4)
    (fun q : Fin 7 × Fin 7 => (⟨28 * (7 * (k.val / 4) + q.1.val) + (7 * (k.val % 4) + q.2.val), by omega⟩ : Fin 784))
    (fun a b e => ?_) (fun p => ⟨fun e => ⟨(⟨p.val / 28 % 7, by omega⟩, ⟨p.val % 28 % 7, by omega⟩), ?_⟩, ?_⟩)
    (fun p => ((1 / 49 : ℝ) : EReal) * f p))
  · rw [Finset.sum_filter]
    refine Finset.sum_congr rfl fun p _ => ?_
    split <;> simp
  · have := congrArg Fin.val e
    simp only at this
    refine Prod.ext (Fin.ext ?_) (Fin.ext ?_) <;> omega
  · apply Fin.ext
    simp only
    omega
  · rintro ⟨q, rfl⟩
    simp only
    omega

/-- The pooled keys and values, likewise. -/
def pooledOf (x : FVec Ideal S1x224x224x192 .f32) (w : FVec Ideal S192x576 .f32) (b : FVec Ideal S576 .f32) :
    FVec Ideal S64x16x384 .bf16 :=
  truncf .bf16 (shapeCast S64x16x384 (Host.divf (Host.reduceAdd (shapeCast S64x4x7x4x7x384 (extractStridedSlice S1x64x28x28x384 ![0, 0, 0, 0, 192] (projection x w b) slices_S1x64x28x28x576_S1x64x28x28x384_0_0_0_0_192) shapeCasts_S1x64x28x28x384_S64x4x7x4x7x384) (constant (F := Ideal) S_ .f32 0x00000000#32) reducesTo_S64x4x7x4x7x384_S64x4x4x384_d2_4 h_S_) (broadcastInDim S64x4x4x384 ![] bcast_S_S64x4x4x384 (constant (F := Ideal) S_ .f32 0x42440000#32))) shapeCasts_S64x4x4x384_S64x16x384) bitsLt_bf16_f32

theorem pooled_term (x : FVec Ideal S1x224x224x192 .f32) (w : FVec Ideal S192x576 .f32) (b : FVec Ideal S576 .f32) :
    pooledOf x w b = pooled x w b := by
  funext i
  obtain ⟨n, k, d, rfl⟩ : ∃ (n : Fin 64) (k : Fin 16) (d : Fin 384), i = ix3 n k d := ⟨i 0, i 1, i 2, eq_ix3 i⟩
  pointwise [pooledOf]
  rw [cell_sum, Cert.ProjIdeal.RefArray.ofBits_49, Ideal.div_coe (by norm_num), zero_add]
  refine Eq.trans ?_ (cell_mean (fun p => pix x w b n p ⟨192 + d.val, by omega⟩) k).symm
  rw [mul_comm]
  refine congrArg (_ * ·) (Finset.sum_congr rfl fun q _ => ?_)
  pointwise
  refine projection_apply x w b n _ _ _ ?_ _
  simp only
  omega

end Cert.RefProjIdeal.RefTerm
end
-- ==== Proof.RouterRef.lean ====
/-
  What the reference of the router computes: the logits, ones scattered on their diagonal, and of every row the positions
  that a stable descending sort puts first.
-/
module

public import proofs.«01_k».proof.Proof.RouterBlock
public import proofs.«01_k».proof.Proof.Gen.RefRouterIdeal.Run
public import Idealize.ShloMosaic.Lib.Pointwise
public import Idealize.ShloMosaic.Lib.Tactic.WordOmega
public import Idealize.ShloMosaic.Lib.Routing.OpsSet

@[expose] public section

set_option maxRecDepth 16384

noncomputable section
namespace Cert.RefRouterIdeal.RefTerm

open Cert.RefRouterIdeal Cert.RefRouterIdeal.Gen Idealize.ShloMosaic Idealize.ShloMosaic.TcCoe Idealize.ShloMosaic.StableHlo
open Cert.RouterIdeal.Val (logit image)
open Cert.RouterRank (rank above)

/-- The positions `0 … 63`, as the reference makes them. -/
def line : IVec S64 32 :=
  select (cmpi .slt (iotaInDim S64 32 0) (broadcastInDim S64 ![] bcast_S_S64 (constantI S_ 32 0#32))) (addi (iotaInDim S64 32 0) (broadcastInDim S64 ![] bcast_S_S64 (constantI S_ 32 64#32))) (iotaInDim S64 32 0)

/-- The pairs of the diagonal. -/
def pairs : IVec S64x2 32 :=
  concatenate S64x2 1 [⟨S64x1, broadcastInDim S64x1 ![0] bcast_S64_S64x1_0 line⟩, ⟨S64x1, broadcastInDim S64x1 ![0] bcast_S64_S64x1_0 line⟩] concatenates_S64x1_S64x1_S64x2_d1

def products (q k : FVec Ideal S64x192 .f32) : FVec Ideal S64x64 .f32 :=
  Host.dotGeneral dot_S64x192_S192x64_S64x64_1_0_0_1_n_n none (mulf q (broadcastInDim S64x192 ![] bcast_S_S64x192 (constant S_ .f32 0x3D93CD3A#32))) (transpose S192x64 [1, 0] k transposes_S64x192_S192x64_1_0)

def ones : FVec Ideal S64 .f32 := broadcastInDim S64 ![] bcast_S_S64 (constant S_ .f32 0x3F800000#32)

def logits (q k : FVec Ideal S64x192 .f32) : FVec Ideal S64x64 .f32 :=
  Host.scatter scatter_S64x64_S64x2_S64_n_01_01_1 (fun _ b => b) (products q k) pairs ones

/-- One result of the reference, as its operations compose. -/
def term (q k : FVec Ideal S64x192 .f32) : IVec S64x4 32 :=
  (Host.topK S64x4 1 (FloatOps.cmpfTotal .gt) (logits q k) sliceFits_S64x64_S64x4).2

theorem line_at (i : Fin 64) : line (ix1 i) = BitVec.ofNat 32 i.val := by
  revert i; decide +kernel

theorem pairs_at0 (i : Fin 64) : pairs (ix2 i (0 : Fin 2)) = BitVec.ofNat 32 i.val := by
  rw [← line_at]; unfold pairs; pointwise

theorem pairs_at1 (i : Fin 64) : pairs (ix2 i (1 : Fin 2)) = BitVec.ofNat 32 i.val := by
  rw [← line_at]; unfold pairs; pointwise

theorem products_at (q k : FVec Ideal S64x192 .f32) (r c : Fin 64) :
    products q k (ix2 r c) = ∑ e : Fin 192, q (ix2 r e) * Ideal.ofBits FTy.f32 0x3D93CD3A#32 * k (ix2 c e) := by
  unfold products
  pointwise

/-- Update `i` lands on the diagonal at `i`. -/
theorem lands (i r c : Fin 64) :
    (scatter_S64x64_S64x2_S64_n_01_01_1).resultIdx? (ix1 i) pairs = some (ix2 r c) ↔ i = r ∧ i = c := by
  have s0 : (scatter_S64x64_S64x2_S64_n_01_01_1).siIdx (ix1 i) ⟨0, by decide⟩ = ix2 i (0 : Fin 2) := by
    funext b; fin_cases b <;> rfl
  have s1 : (scatter_S64x64_S64x2_S64_n_01_01_1).siIdx (ix1 i) ⟨1, by decide⟩ = ix2 i (1 : Fin 2) := by
    funext b; fin_cases b <;> rfl
  have word (c : Fin 64) : (BitVec.ofNat 32 c.val).toInt = c.val := by revert c; decide
  have t0 : (scatter_S64x64_S64x2_S64_n_01_01_1).start (ix1 i) pairs 0 = (i.val : Int) := by
    show (pairs ((scatter_S64x64_S64x2_S64_n_01_01_1).siIdx (ix1 i) ⟨0, by decide⟩)).toInt = _
    rw [s0, pairs_at0, word]
  have t1 : (scatter_S64x64_S64x2_S64_n_01_01_1).start (ix1 i) pairs 1 = (i.val : Int) := by
    show (pairs ((scatter_S64x64_S64x2_S64_n_01_01_1).siIdx (ix1 i) ⟨1, by decide⟩)).toInt = _
    rw [s1, pairs_at1, word]
  have w0 : (scatter_S64x64_S64x2_S64_n_01_01_1).window (ix1 i) 0 = 0 := rfl
  have w1 : (scatter_S64x64_S64x2_S64_n_01_01_1).window (ix1 i) 1 = 0 := rfl
  refine (Routing.resultIdx?_eq_some _ _ _ _).trans ⟨fun h => ?_, ?_⟩
  · have h0 := h 0
    have h1 := h 1
    rw [t0, w0] at h0
    rw [t1, w1] at h1
    change (i.val : Int) + 0 = (r.val : Int) at h0
    change (i.val : Int) + 0 = (c.val : Int) at h1
    exact ⟨Fin.ext (by omega), Fin.ext (by omega)⟩
  · rintro ⟨rfl, rfl⟩ a
    match a with
    | ⟨0, _⟩ => exact (by rw [t0, w0]; exact Int.add_zero _ : (scatter_S64x64_S64x2_S64_n_01_01_1).start (ix1 i) pairs 0 + (((scatter_S64x64_S64x2_S64_n_01_01_1).window (ix1 i) 0 : Nat) : Int) = (i.val : Int))
    | ⟨1, _⟩ => exact (by rw [t1, w1]; exact Int.add_zero _ : (scatter_S64x64_S64x2_S64_n_01_01_1).start (ix1 i) pairs 1 + (((scatter_S64x64_S64x2_S64_n_01_01_1).window (ix1 i) 1 : Nat) : Int) = (i.val : Int))

theorem logits_at (q k : FVec Ideal S64x192 .f32) (r c : Fin 64) : logits q k (ix2 r c) = logit q k r c := by
  have lands' (y : S64.Idx) (h : (scatter_S64x64_S64x2_S64_n_01_01_1).resultIdx? y pairs = some (ix2 r c)) : y 0 = r ∧ y 0 = c := by
    rw [ValueIdx.eq_ix1 y] at h
    exact (lands (y 0) r c).mp h
  unfold logits
  by_cases h : r = c
  · refine (Routing.scatter_set_hit _ _ _ _ _ (1 : EReal) (fun y _ => ?_) (ix1 r) ((lands r r c).mpr ⟨rfl, h⟩)).trans (if_pos h).symm
    rw [ValueIdx.eq_ix1 y]
    unfold ones
    pointwise
  · refine (Routing.scatter_set_miss _ _ _ _ _ (fun y hy => h ?_)).trans ((products_at q k r c).trans (if_neg h).symm)
    exact (lands' y hy).1.symm.trans (lands' y hy).2

/-- The second array of a sort of two along the columns, at a row. -/
theorem sort_at {α β : Type} (cmp : α × β → α × β → BitVec 1) (x : S64x64.Idx → α) (y : S64x64.Idx → β) (r J : Fin 64) :
    (Host.sort2 S64x64 1 cmp x y).2 (ix2 r J)
      = y (ix2 r (sortedFrom (fun a b : Fin 64 => cmp (x (ix2 r a), y (ix2 r a)) (x (ix2 r b), y (ix2 r b)) == 1#1) J)) := by
  have ea : (fun k : Fin 64 => (ix2 r J : S64x64.Idx).along (1 : Fin 2) k) = fun k => ix2 r k := by
    funext k a; fin_cases a <;> rfl
  have key (v : Fin 64 → S64x64.Idx) (h : v = fun k => ix2 r k) :
      y (v (sortedFrom (fun a b : Fin 64 => cmp (x (v a), y (v a)) (x (v b), y (v b)) == 1#1) J))
        = y (ix2 r (sortedFrom (fun a b : Fin 64 => cmp (x (ix2 r a), y (ix2 r a)) (x (ix2 r b), y (ix2 r b)) == 1#1) J)) := by
    subst h; rfl
  exact key _ ea

theorem term_at (q k : FVec Ideal S64x192 .f32) (r : Fin 64) (j : Fin 4) :
    term q k (ix2 r j) = BitVec.ofNat 32 (rank (logit q k r) (j.castLE (by decide))).val := by
  have e : (fun a b : Fin 64 => FloatOps.cmpfTotal (F := Ideal) .gt (logits q k (ix2 r a)) (logits q k (ix2 r b)) == 1#1)
      = above (logit q k r) := by
    funext a b
    rw [logits_at, logits_at]
    unfold above
    show (BitVec.ofBool (decide (logit q k r b < logit q k r a)) == 1#1) = _
    cases decide (logit q k r b < logit q k r a) <;> rfl
  unfold rank
  rw [← e]
  have es : (fun a => ⟨0 + (ix2 r j : S64x4.Idx) (a.cast rfl), by
      match a with
      | ⟨0, _⟩ => show 0 + r.val < 64; omega
      | ⟨1, _⟩ => show 0 + j.val < 64; omega⟩ : S64x64.Idx) = ix2 r (j.castLE (by decide : 4 ≤ 64)) := by
    funext a; fin_cases a <;> exact Fin.ext (Nat.zero_add _)
  unfold term Host.topK extractStridedSlice
  dsimp only
  refine (congrArg _ es).trans ((sort_at _ _ _ _ _).trans ?_)
  rfl

theorem term_eq (q k : FVec Ideal S64x192 .f32) : term q k = image q k := by
  funext y
  rw [ValueIdx.eq_ix2 y]
  exact term_at q k (y 0) (y 1)

end Cert.RefRouterIdeal.RefTerm

end
-- ==== Proof.AttnRef.lean ====
/-
  What the reference of the attention computes, element by element.
-/
module

public import proofs.«01_k».proof.Proof.AttnArray
public import proofs.«01_k».proof.Proof.Gen.RefAttnIdeal.Run
public import Idealize.ShloMosaic.Lib.Pointwise
public import Idealize.ShloMosaic.Lib.Pipeline.ValueKit
public import Idealize.ShloMosaic.Lib.Tactic.WordOmega
public import Idealize.ShloMosaic.Lib.Routing.Ops

@[expose] public section

set_option maxRecDepth 16384

noncomputable section
namespace Cert.RefAttnIdeal.RefTerm

open Cert.RefAttnIdeal Cert.RefAttnIdeal.Gen Idealize.ShloMosaic Idealize.ShloMosaic.TcCoe Idealize.ShloMosaic.StableHlo
open Cert.AttnIdeal.RefArray (IsReal isReal_fold ofBits_bot soft soft_shift rowOf keyOf logitOf attn image Finite isReal_logitOf)
open Cert.AttnIdeal.Val (scale)

/-- The rows that the words name, where each names one. -/
theorem gather_at (x : FVec Ideal S64x16x384 .f32) (idx : IVec S64x4x1 32) (w : Fin 64) (j : Fin 4) (b : Fin 16) (e : Fin 384)
    (h : (idx (ix3 w j (0 : Fin 1))).toNat < 64) :
    Host.gather gather_S64x16x384_S64x4x1_S64x4x16x384_23_0_n_n_0_2_116384 x idx (ix4 w j b e)
      = x (ix3 (⟨(idx (ix3 w j (0 : Fin 1))).toNat % 64, Nat.mod_lt _ (by decide)⟩ : Fin 64) b e) := by
  refine congrArg x (funext fun a => Fin.ext ?_)
  have hsi : gather_S64x16x384_S64x4x1_S64x4x16x384_23_0_n_n_0_2_116384.siIdx (ix4 w j b e) ⟨0, Nat.zero_lt_one⟩ = ix3 w j (0 : Fin 1) := by
    funext b'
    fin_cases b' <;> rfl
  fin_cases a
  · show min (idx (gather_S64x16x384_S64x4x1_S64x4x16x384_23_0_n_n_0_2_116384.siIdx (ix4 w j b e) ⟨0, Nat.zero_lt_one⟩)).toInt.toNat 63 + 0 + 0
      = (idx (ix3 w j (0 : Fin 1))).toNat % 64
    rw [hsi, BitVec.toInt_eq_toNat_of_lt (by omega)]
    omega
  · show 0 + 0 + b.val = b.val
    omega
  · show 0 + 0 + e.val = e.val
    omega

/-! ## The pieces of the reference -/

section
variable (Q : FVec Ideal S64x784x192 .bf16) (T : FVec Ideal S64x16x384 .bf16) (I : IVec S64x4 32)

def words : IVec S64x4x1 32 :=
  broadcastInDim S64x4x1 ![0, 1] bcast_S64x4_S64x4x1_0_1 (select (cmpi .slt I (broadcastInDim S64x4 ![] bcast_S_S64x4 (constantI S_ 32 0#32))) (addi I (broadcastInDim S64x4 ![] bcast_S_S64x4 (constantI S_ 32 64#32))) I)

def rows : FVec Ideal S64x4x16x384 .f32 :=
  Host.gather gather_S64x16x384_S64x4x1_S64x4x16x384_23_0_n_n_0_2_116384 (extf .f32 T bitsLt_bf16_f32) (words I)

def keys : FVec Ideal S64x8x24x64 .f32 :=
  shapeCast _ (transpose S64x8x24x4x16 [0, 3, 4, 1, 2] (shapeCast _ (extractStridedSlice S64x4x16x192 ![0, 0, 0, 0] (rows T I) slices_S64x4x16x384_S64x4x16x192_0_0_0_0) shapeCasts_S64x4x16x192_S64x4x16x8x24) transposes_S64x4x16x8x24_S64x8x24x4x16_0_3_4_1_2) shapeCasts_S64x8x24x4x16_S64x8x24x64

def values : FVec Ideal S64x8x64x24 .f32 :=
  shapeCast _ (transpose S64x8x4x16x24 [0, 3, 1, 2, 4] (shapeCast _ (extractStridedSlice S64x4x16x192 ![0, 0, 0, 192] (rows T I) slices_S64x4x16x384_S64x4x16x192_0_0_0_192) shapeCasts_S64x4x16x192_S64x4x16x8x24) transposes_S64x4x16x8x24_S64x8x4x16x24_0_3_1_2_4) shapeCasts_S64x8x4x16x24_S64x8x64x24

def logits : FVec Ideal S64x8x784x64 .f32 :=
  Host.dotGeneral dot_S64x8x784x24_S64x8x24x64_S64x8x784x64_3_2_2_3_01_01 none (mulf (transpose S64x8x784x24 [0, 2, 1, 3] (shapeCast _ (extf .f32 Q bitsLt_bf16_f32) shapeCasts_S64x784x192_S64x784x8x24) transposes_S64x784x8x24_S64x8x784x24_0_2_1_3) (broadcastInDim S64x8x784x24 ![] bcast_S_S64x8x784x24 (constant S_ .f32 0x3D93CD3A#32))) (keys T I)

def tops (l : FVec Ideal S64x8x784x64 .f32) : FVec Ideal S64x8x784 .f32 :=
  maximumf (broadcastInDim S64x8x784 ![] bcast_S_S64x8x784 (constant S_ .f32 0xFF800000#32)) (Host.reduce FloatOps.maximumf l (constant (F := Ideal) S_ .f32 0xFF800000#32) reducesTo_S64x8x784x64_S64x8x784_d3 h_S_)

def powers (l : FVec Ideal S64x8x784x64 .f32) : FVec Ideal S64x8x784x64 .f32 :=
  Host.exp (subf l (broadcastInDim S64x8x784x64 ![0, 1, 2, 3] bcast_S64x8x784x1_S64x8x784x64_0_1_2_3 (broadcastInDim S64x8x784x1 ![0, 1, 2] bcast_S64x8x784_S64x8x784x1_0_1_2 (tops l))))

def weights (e : FVec Ideal S64x8x784x64 .f32) : FVec Ideal S64x8x784x64 .f32 :=
  Host.divf e (broadcastInDim S64x8x784x64 ![0, 1, 2, 3] bcast_S64x8x784x1_S64x8x784x64_0_1_2_3 (broadcastInDim S64x8x784x1 ![0, 1, 2] bcast_S64x8x784_S64x8x784x1_0_1_2 (Host.reduceAdd e (constant (F := Ideal) S_ .f32 0x00000000#32) reducesTo_S64x8x784x64_S64x8x784_d3 h_S_)))

def mixed (p : FVec Ideal S64x8x784x64 .f32) (v : FVec Ideal S64x8x64x24 .f32) : FVec Ideal S64x8x784x24 .f32 :=
  Host.dotGeneral dot_S64x8x784x64_S64x8x64x24_S64x8x784x24_3_2_2_3_01_01 none p v

def laid (x : FVec Ideal S64x8x784x24 .f32) : FVec Ideal S1x224x224x192 .bf16 :=
  truncf .bf16 (shapeCast _ (transpose S1x8x28x8x28x8x24 [0, 1, 4, 2, 5, 3, 6] (shapeCast _ x shapeCasts_S64x8x784x24_S1x8x8x8x28x28x24) transposes_S1x8x8x8x28x28x24_S1x8x28x8x28x8x24_0_1_4_2_5_3_6) shapeCasts_S1x8x28x8x28x8x24_S1x224x224x192) bitsLt_bf16_f32

/-- One result of the reference, as its operations compose. -/
def term : FVec Ideal S1x224x224x192 .bf16 := laid (mixed (weights (powers (logits Q T I))) (values T I))

variable (hI : ∀ y, (I y).toNat < 64)

include hI in
theorem words_at (w : Fin 64) (j : Fin 4) : words I (ix3 w j (0 : Fin 1)) = I (ix2 w j) := by
  pointwise [words]
  have h := hI (ix2 w j)
  have e : IntOp.cmpi CmpIPredicate.slt (I (ix2 w j)) 0#32 = 0#1 := by
    have : ¬ (I (ix2 w j)).toInt < 0 := by rw [BitVec.toInt_eq_toNat_of_lt (by omega)]; omega
    simp [IntOp.cmpi, BitVec.slt, this]
  rw [e]
  rfl

include hI in
theorem rows_at (w : Fin 64) (j : Fin 4) (b : Fin 16) (e : Fin 384) :
    rows T I (ix4 w j b e) = T (ix3 (⟨(I (ix2 w j)).toNat % 64, Nat.mod_lt _ (by decide)⟩ : Fin 64) b e) := by
  refine (gather_at _ _ w j b e (by rw [words_at I hI]; exact hI _)).trans ?_
  simp only [words_at I hI]
  rfl

include hI in
theorem keys_at (w : Fin 64) (h : Fin 8) (e : Fin 24) (k : Fin 64) :
    keys T I (ix4 w h e k) = keyOf T I w k ⟨24 * h.val + e.val, by omega⟩ := by
  pointwise [keys]
  refine (rows_at T I hI _ _ _ _).trans (congrArg (fun e => T (ix3 (rowOf I w k) (⟨k.val % 16, by omega⟩ : Fin 16) e)) (Fin.ext ?_))
  simp only [Nat.mul_comm]

include hI in
theorem values_at (w : Fin 64) (h : Fin 8) (k : Fin 64) (e : Fin 24) :
    values T I (ix4 w h k e) = keyOf T I w k ⟨192 + (24 * h.val + e.val), by omega⟩ := by
  pointwise [values]
  refine (rows_at T I hI _ _ _ _).trans (congrArg (fun e => T (ix3 (rowOf I w k) (⟨k.val % 16, by omega⟩ : Fin 16) e)) (Fin.ext ?_))
  simp only [Nat.mul_comm]

include hI in
theorem logits_at (w : Fin 64) (h : Fin 8) (p : Fin 784) (k : Fin 64) :
    logits Q T I (ix4 w h p k) = logitOf Q T I w p h k := by
  pointwise [logits]
  refine Finset.sum_congr rfl fun e _ => congrArg₂ (· * ·) (congrArg (· * _) (congrArg (fun e => Q (ix3 w p e)) (Fin.ext ?_))) (keys_at T I hI w h e k)
  simp only [Nat.mul_comm]

/-- The host's greatest of the elements that drop to `j`, where they are named one by one. -/
theorem host_max {s t u : Shape} {axes : List (Fin s.rank)} (x : FVec Ideal s .f32) (init : FVec Ideal u .f32) (h : s.ReducesTo axes t)
    (hu : 0 < u.numel) (j : t.Idx) {n : Nat} (g : Fin n → s.Idx) (hg : ∀ i, h.drop i = j ↔ ∃ k, g k = i) (hi : ∀ a b, g a = g b → a = b) :
    Host.reduce FloatOps.maximumf x init h hu j = Finset.fold max (init (Shape.Idx.first hu)) (fun k => x (g k)) Finset.univ := by
  classical
  refine (Host.reduce_eq_fold (max : EReal → EReal → EReal) x init h hu j).trans ?_
  have e : (Finset.univ.filter fun i => h.drop i = j) = Finset.univ.image g := by
    ext i
    simp only [Finset.mem_filter, Finset.mem_univ, true_and, Finset.mem_image]
    exact hg i
  rw [e, Finset.fold_image fun x _ y _ e => hi x y e]
  rfl

theorem max_at {s : Shape} (x y : FVec Ideal s .f32) (i : s.Idx) : maximumf x y i = max (x i) (y i) := rfl

theorem drop_row (w : Fin 64) (h : Fin 8) (p : Fin 784) (i : S64x8x784x64.Idx) :
    reducesTo_S64x8x784x64_S64x8x784_d3.drop i = ix3 w h p ↔ ∃ k : Fin 64, ix4 w h p k = i := by
  constructor
  · intro e
    refine ⟨i 3, ?_⟩
    funext a
    apply Fin.ext
    fin_cases a
    · exact (congrArg Fin.val (congrFun e 0)).symm
    · exact (congrArg Fin.val (congrFun e 1)).symm
    · exact (congrArg Fin.val (congrFun e 2)).symm
    · rfl
  · rintro ⟨k, rfl⟩
    funext a
    apply Fin.ext
    fin_cases a <;> rfl

theorem tops_at (l : FVec Ideal S64x8x784x64 .f32) (w : Fin 64) (h : Fin 8) (p : Fin 784) :
    tops l (ix3 w h p) = Finset.fold max (Ideal.ofBits FTy.f32 0xFF800000#32) (fun k => l (ix4 w h p k)) Finset.univ := by
  unfold tops
  rw [max_at, host_max l _ _ _ (ix3 w h p) (fun k : Fin 64 => ix4 w h p k) (drop_row w h p) fun a b e => congrFun e 3]
  have bot : ∀ {u : Shape} (i : u.Idx), constant (F := Ideal) u .f32 0xFF800000#32 i = ⊥ := fun i => ofBits_bot
  rw [bot, ofBits_bot]
  exact max_eq_right ((bot _).trans_le bot_le)

theorem powers_at (l : FVec Ideal S64x8x784x64 .f32) (w : Fin 64) (h : Fin 8) (p : Fin 784) (k : Fin 64) :
    powers l (ix4 w h p k) = Ideal.exp (l (ix4 w h p k) - tops l (ix3 w h p)) := by
  pointwise [powers]

theorem weights_at (e : FVec Ideal S64x8x784x64 .f32) (w : Fin 64) (h : Fin 8) (p : Fin 784) (k : Fin 64) :
    weights e (ix4 w h p k) = Ideal.div (e (ix4 w h p k)) (∑ j : Fin 64, e (ix4 w h p j)) := by
  pointwise [weights]

theorem mixed_at (p : FVec Ideal S64x8x784x64 .f32) (v : FVec Ideal S64x8x64x24 .f32) (w : Fin 64) (h : Fin 8) (q : Fin 784) (e : Fin 24) :
    mixed p v (ix4 w h q e) = ∑ k : Fin 64, p (ix4 w h q k) * v (ix4 w h k e) := by
  pointwise [mixed]

theorem laid_at (x : FVec Ideal S64x8x784x24 .f32) (z : Fin 1) (a b : Fin 224) (d : Fin 192) :
    laid x (ix4 z a b d) = x (ix4 (⟨8 * (a.val / 28) + b.val / 28, by omega⟩ : Fin 64) (⟨d.val / 24, by omega⟩ : Fin 8)
      (⟨28 * (a.val % 28) + b.val % 28, by omega⟩ : Fin 784) (⟨d.val % 24, by omega⟩ : Fin 24)) := by
  pointwise [laid]
  exact congrArg₂ (fun w p => x (ix4 (w : Fin 64) (⟨d.val / 24, by omega⟩ : Fin 8) (p : Fin 784) (⟨d.val % 24, by omega⟩ : Fin 24)))
    (Fin.ext (by simp only [Nat.mul_comm])) (Fin.ext (by simp only [Nat.mul_comm]))

/-- A weight of the reference is the softmax of its row. -/
theorem soft_at (l : FVec Ideal S64x8x784x64 .f32) (hl : ∀ y, IsReal (l y)) (w : Fin 64) (h : Fin 8) (p : Fin 784) (k : Fin 64) :
    weights (powers l) (ix4 w h p k) = soft (fun j => l (ix4 w h p j)) k := by
  rw [weights_at]
  simp only [powers_at]
  refine soft_shift (fun j => l (ix4 w h p j)) _ (fun j => hl _) ?_ k
  rw [tops_at]
  exact isReal_fold _ fun j => hl _

include hI in
/-- Where the queries and the keys are finite and the words name rows, a result of the reference is the attention's image. -/
theorem term_eq (hf : Finite Q T) : term Q T I = image Q T I := by
  have hl : ∀ y, IsReal (logits Q T I y) := by
    intro y
    obtain ⟨w, h, p, k, rfl⟩ : ∃ (w : Fin 64) (h : Fin 8) (p : Fin 784) (k : Fin 64), y = ix4 w h p k := ⟨y 0, y 1, y 2, y 3, eq_ix4 y⟩
    rw [logits_at Q T I hI]
    exact isReal_logitOf hf I w p h k
  funext i
  obtain ⟨z, a, b, d, rfl⟩ : ∃ (z : Fin 1) (a b : Fin 224) (d : Fin 192), i = ix4 z a b d := ⟨i 0, i 1, i 2, i 3, eq_ix4 i⟩
  unfold term
  rw [laid_at, mixed_at]
  refine (Finset.sum_congr rfl fun k _ => congrArg₂ (· * ·) ?_ ?_ : _ = attn Q T I _ _ d)
  · rw [soft_at _ hl]
    simp only [logits_at Q T I hI]
    rfl
  · rw [values_at T I hI]
    exact congrArg (keyOf T I _ k) (Fin.ext (by simp only []; omega))

/-! ## The results of the run -/

variable (m : (ℓ : Loc nD τ sig) → Buf (Elt Ideal) ℓ) (c : Dev nD)

theorem out0_term : Value.res_out0 m c = term (m ((c : Thread nD τ).loc main_arg1)) (m ((c : Thread nD τ).loc main_arg2)) (m ((c : Thread nD τ).loc main_arg4)) := by
  unfold Value.res_out0 Value.res_main_v37 term laid mixed weights powers tops logits keys values rows words
  rfl
theorem out1_term : Value.res_out1 m c = term (m ((c : Thread nD τ).loc main_arg0)) (m ((c : Thread nD τ).loc main_arg3)) (m ((c : Thread nD τ).loc main_arg5)) := by
  unfold Value.res_out1 Value.res_main_v75 term laid mixed weights powers tops logits keys values rows words
  rfl
end
end Cert.RefAttnIdeal.RefTerm
end
-- ==== Proof.FinalRef.lean ====
/-
  What the reference of the out-projection computes, element by element.
-/
module

public import proofs.«01_k».proof.Proof.FinalArray
public import proofs.«01_k».proof.Proof.Gen.RefFinalIdeal.Run
public import Idealize.ShloMosaic.Lib.Pointwise
public import Idealize.ShloMosaic.Lib.Pipeline.ValueKit
public import Idealize.ShloMosaic.Lib.Tactic.WordOmega

@[expose] public section

set_option maxRecDepth 16384

noncomputable section
namespace Cert.RefFinalIdeal.RefTerm

open Cert.RefFinalIdeal Cert.RefFinalIdeal.Gen Idealize.ShloMosaic Idealize.ShloMosaic.TcCoe Idealize.ShloMosaic.StableHlo
open Cert.FinalIdeal.RefArray (val val_eq val_border image image_apply)
open Cert.FinalIdeal.RefBlock (taps)

/-- The values of the image with a border of zeros. -/
def padded (x : FVec Ideal S1x224x224x192 .f32) (w : FVec Ideal S192x576 .f32) (b : FVec Ideal S576 .f32) :
    FVec Ideal S1x226x226x192 .f32 :=
  pad S1x226x226x192 ![0, 1, 1, 0] ![0, 1, 1, 0] ![0, 0, 0, 0] (addf (Host.dotGeneral dot_S1x224x224x192_S192x192_S1x224x224x192_3_0_012_1_n_n none x (extractStridedSlice S192x192 ![0, 384] w slices_S192x576_S192x192_0_384)) (broadcastInDim S1x224x224x192 ![0, 1, 2, 3] bcast_S1x1x1x192_S1x224x224x192_0_1_2_3 (broadcastInDim S1x1x1x192 ![3] bcast_S192_S1x1x1x192_3 (extractStridedSlice S192 ![384] b slices_S576_S192_384)))) (sitofp .f32 (constantI S_ 32 0#32)) pads_S1x224x224x192_S1x226x226x192_000_110_110_000 h_S_

theorem padded_apply (x : FVec Ideal S1x224x224x192 .f32) (w : FVec Ideal S192x576 .f32) (b : FVec Ideal S576 .f32)
    (hb : ∀ d : Fin 192, b (ix1 ⟨384 + d.val, by omega⟩) = 0) (y z : Fin 226) (d : Fin 192) :
    padded x w b (ix4 0 y z d) = val x w y.val z.val d := by
  pointwise [padded]
  split
  · rw [hb, add_zero]
    exact (val_eq x w _ _ d ⟨y.val - 1, by omega⟩ ⟨z.val - 1, by omega⟩ (by simp only; omega) (by simp only; omega)).symm
  · refine Eq.trans ?_ (val_border x w _ _ d (by omega)).symm
    simp [FloatOps.sitofp]

/-- The bias may be added first or last. -/
theorem taps_eq (b : EReal) (k : Fin 3 → Fin 3 → EReal) (v : ℕ → ℕ → EReal) :
    v 0 0 * k 0 0 + v 0 1 * k 0 1 + v 0 2 * k 0 2 + v 1 0 * k 1 0 + v 1 1 * k 1 1 + v 1 2 * k 1 2
      + v 2 0 * k 2 0 + v 2 1 * k 2 1 + v 2 2 * k 2 2 + b = taps b k v := by
  unfold taps
  simp only [mul_comm (v _ _)]
  abel

/-- The reference's result, as its operations compose. -/
def term (a : FVec Ideal S1x224x224x192 .bf16) (x : FVec Ideal S1x224x224x192 .f32) (w : FVec Ideal S192x576 .f32)
    (b : FVec Ideal S576 .f32) (wo : FVec Ideal S192x192 .f32) (bo : FVec Ideal S192 .f32) (k : FVec Ideal S192x1x3x3 .f32)
    (kb : FVec Ideal S192 .f32) : FVec Ideal S16x14x192x224 .f32 :=
  transpose S16x14x192x224 [0, 1, 3, 2] (shapeCast _ (addf (Host.dotGeneral dot_S1x224x224x192_S192x192_S1x224x224x192_3_0_012_1_n_n none (addf (extf .f32 a bitsLt_bf16_f32) (addf (addf (addf (addf (addf (addf (addf (addf (addf (addf (broadcastInDim S1x224x224x192 ![] bcast_S_S1x224x224x192 (constant S_ .f32 0x00000000#32)) (mulf (extractStridedSlice S1x224x224x192 ![0, 0, 0, 0] (padded x w b) slices_S1x226x226x192_S1x224x224x192_0_0_0_0) (broadcastInDim S1x224x224x192 ![0, 1, 2, 3] bcast_S1x1x1x192_S1x224x224x192_0_1_2_3 (broadcastInDim S1x1x1x192 ![3] bcast_S192_S1x1x1x192_3 (shapeCast _ (extractStridedSlice S192x1x1x1 ![0, 0, 0, 0] k slices_S192x1x3x3_S192x1x1x1_0_0_0_0) shapeCasts_S192x1x1x1_S192))))) (mulf (extractStridedSlice S1x224x224x192 ![0, 0, 1, 0] (padded x w b) slices_S1x226x226x192_S1x224x224x192_0_0_1_0) (broadcastInDim S1x224x224x192 ![0, 1, 2, 3] bcast_S1x1x1x192_S1x224x224x192_0_1_2_3 (broadcastInDim S1x1x1x192 ![3] bcast_S192_S1x1x1x192_3 (shapeCast _ (extractStridedSlice S192x1x1x1 ![0, 0, 0, 1] k slices_S192x1x3x3_S192x1x1x1_0_0_0_1) shapeCasts_S192x1x1x1_S192))))) (mulf (extractStridedSlice S1x224x224x192 ![0, 0, 2, 0] (padded x w b) slices_S1x226x226x192_S1x224x224x192_0_0_2_0) (broadcastInDim S1x224x224x192 ![0, 1, 2, 3] bcast_S1x1x1x192_S1x224x224x192_0_1_2_3 (broadcastInDim S1x1x1x192 ![3] bcast_S192_S1x1x1x192_3 (shapeCast _ (extractStridedSlice S192x1x1x1 ![0, 0, 0, 2] k slices_S192x1x3x3_S192x1x1x1_0_0_0_2) shapeCasts_S192x1x1x1_S192))))) (mulf (extractStridedSlice S1x224x224x192 ![0, 1, 0, 0] (padded x w b) slices_S1x226x226x192_S1x224x224x192_0_1_0_0) (broadcastInDim S1x224x224x192 ![0, 1, 2, 3] bcast_S1x1x1x192_S1x224x224x192_0_1_2_3 (broadcastInDim S1x1x1x192 ![3] bcast_S192_S1x1x1x192_3 (shapeCast _ (extractStridedSlice S192x1x1x1 ![0, 0, 1, 0] k slices_S192x1x3x3_S192x1x1x1_0_0_1_0) shapeCasts_S192x1x1x1_S192))))) (mulf (extractStridedSlice S1x224x224x192 ![0, 1, 1, 0] (padded x w b) slices_S1x226x226x192_S1x224x224x192_0_1_1_0) (broadcastInDim S1x224x224x192 ![0, 1, 2, 3] bcast_S1x1x1x192_S1x224x224x192_0_1_2_3 (broadcastInDim S1x1x1x192 ![3] bcast_S192_S1x1x1x192_3 (shapeCast _ (extractStridedSlice S192x1x1x1 ![0, 0, 1, 1] k slices_S192x1x3x3_S192x1x1x1_0_0_1_1) shapeCasts_S192x1x1x1_S192))))) (mulf (extractStridedSlice S1x224x224x192 ![0, 1, 2, 0] (padded x w b) slices_S1x226x226x192_S1x224x224x192_0_1_2_0) (broadcastInDim S1x224x224x192 ![0, 1, 2, 3] bcast_S1x1x1x192_S1x224x224x192_0_1_2_3 (broadcastInDim S1x1x1x192 ![3] bcast_S192_S1x1x1x192_3 (shapeCast _ (extractStridedSlice S192x1x1x1 ![0, 0, 1, 2] k slices_S192x1x3x3_S192x1x1x1_0_0_1_2) shapeCasts_S192x1x1x1_S192))))) (mulf (extractStridedSlice S1x224x224x192 ![0, 2, 0, 0] (padded x w b) slices_S1x226x226x192_S1x224x224x192_0_2_0_0) (broadcastInDim S1x224x224x192 ![0, 1, 2, 3] bcast_S1x1x1x192_S1x224x224x192_0_1_2_3 (broadcastInDim S1x1x1x192 ![3] bcast_S192_S1x1x1x192_3 (shapeCast _ (extractStridedSlice S192x1x1x1 ![0, 0, 2, 0] k slices_S192x1x3x3_S192x1x1x1_0_0_2_0) shapeCasts_S192x1x1x1_S192))))) (mulf (extractStridedSlice S1x224x224x192 ![0, 2, 1, 0] (padded x w b) slices_S1x226x226x192_S1x224x224x192_0_2_1_0) (broadcastInDim S1x224x224x192 ![0, 1, 2, 3] bcast_S1x1x1x192_S1x224x224x192_0_1_2_3 (broadcastInDim S1x1x1x192 ![3] bcast_S192_S1x1x1x192_3 (shapeCast _ (extractStridedSlice S192x1x1x1 ![0, 0, 2, 1] k slices_S192x1x3x3_S192x1x1x1_0_0_2_1) shapeCasts_S192x1x1x1_S192))))) (mulf (extractStridedSlice S1x224x224x192 ![0, 2, 2, 0] (padded x w b) slices_S1x226x226x192_S1x224x224x192_0_2_2_0) (broadcastInDim S1x224x224x192 ![0, 1, 2, 3] bcast_S1x1x1x192_S1x224x224x192_0_1_2_3 (broadcastInDim S1x1x1x192 ![3] bcast_S192_S1x1x1x192_3 (shapeCast _ (extractStridedSlice S192x1x1x1 ![0, 0, 2, 2] k slices_S192x1x3x3_S192x1x1x1_0_0_2_2) shapeCasts_S192x1x1x1_S192))))) (broadcastInDim S1x224x224x192 ![0, 1, 2, 3] bcast_S1x1x1x192_S1x224x224x192_0_1_2_3 (broadcastInDim S1x1x1x192 ![3] bcast_S192_S1x1x1x192_3 kb)))) wo) (broadcastInDim S1x224x224x192 ![0, 1, 2, 3] bcast_S1x1x1x192_S1x224x224x192_0_1_2_3 (broadcastInDim S1x1x1x192 ![3] bcast_S192_S1x1x1x192_3 bo))) shapeCasts_S1x224x224x192_S16x14x224x192) transposes_S16x14x224x192_S16x14x192x224_0_1_3_2

theorem term_eq (a : FVec Ideal S1x224x224x192 .bf16) (x : FVec Ideal S1x224x224x192 .f32) (w : FVec Ideal S192x576 .f32)
    (b : FVec Ideal S576 .f32) (wo : FVec Ideal S192x192 .f32) (bo : FVec Ideal S192 .f32) (k : FVec Ideal S192x1x3x3 .f32)
    (kb : FVec Ideal S192 .f32) (hb : ∀ d : Fin 192, b (ix1 ⟨384 + d.val, by omega⟩) = 0) :
    term a x w b wo bo k kb = image a x w wo bo k kb := by
  funext i
  obtain ⟨n, r, o, q, rfl⟩ : ∃ (n : Fin 16) (r : Fin 14) (o : Fin 192) (q : Fin 224), i = ix4 n r o q :=
    ⟨i 0, i 1, i 2, i 3, eq_ix4 i⟩
  rw [image_apply]
  pointwise [term]
  simp only [padded_apply x w b hb, ← taps_eq]
  simp only [Nat.mul_comm n.val 14, Nat.add_comm 1, Nat.add_comm 2, Nat.add_zero]

end Cert.RefFinalIdeal.RefTerm
end
-- ==== Proof.WholeRef.lean ====
/-
  What the reference of the whole program computes: the references of its calls, one after another.
-/
module

public import proofs.«01_k».proof.Proof.ProjRef
public import proofs.«01_k».proof.Proof.RouterRef
public import proofs.«01_k».proof.Proof.AttnRef
public import proofs.«01_k».proof.Proof.FinalRef
public import proofs.«01_k».proof.Proof.Gen.RefWholeIdeal.Run

@[expose] public section

set_option maxRecDepth 16384

noncomputable section

namespace Cert.RefWholeIdeal.RefTerm

open Cert.RefWholeIdeal Cert.RefWholeIdeal.Gen Idealize.ShloMosaic Idealize.ShloMosaic.TcCoe Idealize.ShloMosaic.StableHlo Idealize.SL.Sem
open Cert.RefProjIdeal.RefTerm (projection queriesOf queryMeansOf keyMeansOf pooledOf queries_term query_means_term key_means_term pooled_term)
open Cert.ProjIdeal.RefArray (pix queries pooled means)
open Cert.AttnIdeal.RefArray (IsReal isReal_sum Finite)
open Cert.RefAttnIdeal.RefTerm (rows logits powers)

/-! ## The results of the whole program -/

/-- The means, one row to a window. -/
def flat (v : FVec Ideal S64x1x192 .f32) : FVec Ideal S64x192 .f32 := shapeCast S64x192 v shapeCasts_S64x1x192_S64x192

theorem flat_at (v : FVec Ideal S64x1x192 .f32) (n : Fin 64) (d : Fin 192) : flat v (ix2 n d) = v (ix3 n 0 d) := by
  pointwise [flat]

section
variable (xq xk : FVec Ideal S1x224x224x192 .f32) (w : FVec Ideal S192x576 .f32) (b : FVec Ideal S576 .f32)

/-- The four windows of `xk` that each window of `xq` attends to. -/
def chosen : IVec S64x4 32 :=
  Cert.RouterIdeal.Val.image (flat (means 0 (by omega) xq w b)) (flat (means 192 (by omega) xk w b))

theorem chosen_lt (y : S64x4.Idx) : (chosen xq xk w b y).toNat < 64 := by
  unfold chosen Cert.RouterIdeal.Val.image
  rw [BitVec.toNat_ofNat]
  have := (Cert.RouterRank.rank (Cert.RouterIdeal.Val.logit (flat (means 0 (by omega) xq w b)) (flat (means 192 (by omega) xk w b)) (y 0))
    ((y 1).castLE (by decide))).isLt
  omega

/-- The attention of `xq` over the pooled windows of `xk`. -/
def attended : FVec Ideal S1x224x224x192 .bf16 :=
  Cert.AttnIdeal.RefArray.image (queries xq w b) (pooled xk w b) (chosen xq xk w b)

/-- One result of the program. -/
def result (wo : FVec Ideal S192x192 .f32) (bo : FVec Ideal S192 .f32) (k : FVec Ideal S192x1x3x3 .f32) (kb : FVec Ideal S192 .f32) :
    FVec Ideal S16x14x192x224 .f32 :=
  Cert.FinalIdeal.RefArray.image (attended xq xk w b) xk w wo bo k kb

/-! ## Finite inputs -/

/-- The image and the weights and biases of the queries and the keys are real, and the bias of the values is zero. -/
structure Good (x : FVec Ideal S1x224x224x192 .f32) (w : FVec Ideal S192x576 .f32) (b : FVec Ideal S576 .f32) : Prop where
  image : ∀ y, IsReal (x y)
  weights : ∀ (e : Fin 192) (d : Fin 384), IsReal (w (ix2 e (⟨d.val, by omega⟩ : Fin 576)))
  bias : ∀ d : Fin 384, IsReal (b (ix1 (⟨d.val, by omega⟩ : Fin 576)))
  zero : ∀ d : Fin 192, b (ix1 (⟨384 + d.val, by omega⟩ : Fin 576)) = 0

theorem isReal_add {x y : EReal} (hx : IsReal x) (hy : IsReal y) : IsReal (x + y) := by
  obtain ⟨a, rfl⟩ := hx
  obtain ⟨b, rfl⟩ := hy
  exact ⟨a + b, (EReal.coe_add a b).symm⟩

variable {xq xk w b} (hq : Good xq w b) (hk : Good xk w b)

include hq in
theorem pix_real (n : Fin 64) (p : Fin 784) (d : Fin 576) (hd : d.val < 384) : IsReal (pix xq w b n p d) :=
  isReal_add (isReal_sum _ _ fun e => (hq.image _).mul (hq.weights e ⟨d.val, hd⟩)) (hq.bias ⟨d.val, hd⟩)

include hq hk in
theorem finite : Finite (queries xq w b) (pooled xk w b) := by
  refine ⟨fun y => pix_real hq _ _ _ ?_, fun a c e => isReal_sum _ _ fun p => IsReal.mul ?_ (pix_real hk _ _ _ ?_)⟩
  · have : (y 2).val < 192 := (y 2).isLt
    show (y 2).val < 384
    omega
  · split
    · exact ⟨_, rfl⟩
    · exact ⟨0, EReal.coe_zero.symm⟩
  · show 192 + e.val < 384
    omega

include hq in
theorem means_real (o : ℕ) (ho : o + 192 ≤ 384) : Cert.RouterIdeal.Val.Real (flat (means o (by omega) xq w b)) := by
  intro y
  obtain ⟨n, d, rfl⟩ : ∃ (n : Fin 64) (d : Fin 192), y = ix2 n d := ⟨y 0, y 1, eq_ix2 y⟩
  rw [flat_at, Cert.RefProjIdeal.RefTerm.means_apply]
  have h784 : Ideal.ofBits .f32 0x44440000#32 = ((784 : ℝ) : EReal) := by
    simp [Ideal.ofBits, Ideal.ieee, -EReal.coe_mul]; norm_num
  rw [h784, Ideal.div_coe (by norm_num)]
  exact (isReal_sum _ _ fun p => pix_real hq _ _ _ (by show o + d.val < 384; omega)).mul ⟨_, rfl⟩

end

/-! ## The reference's stages -/

section
variable (V0 : Valuation τ sig (Elt Ideal))

theorem v6 : Value.res_main_v6 V0 = projection (V0 (Proc.devRef .tc main_arg0)) (V0 (Proc.devRef .tc main_arg2)) (V0 (Proc.devRef .tc main_arg3)) := by
  unfold Value.res_main_v6 projection; rfl
theorem v32 : Value.res_main_v32 V0 = projection (V0 (Proc.devRef .tc main_arg1)) (V0 (Proc.devRef .tc main_arg2)) (V0 (Proc.devRef .tc main_arg3)) := by
  unfold Value.res_main_v32 projection; rfl

theorem indices : Value.res_main_indices V0 = Cert.RefRouterIdeal.RefTerm.term
    (flat (queryMeansOf (V0 (Proc.devRef .tc main_arg1)) (V0 (Proc.devRef .tc main_arg2)) (V0 (Proc.devRef .tc main_arg3))))
    (flat (keyMeansOf (V0 (Proc.devRef .tc main_arg0)) (V0 (Proc.devRef .tc main_arg2)) (V0 (Proc.devRef .tc main_arg3)))) := by
  unfold Value.res_main_indices Value.res_main_v75 Value.res_main_v33 Value.res_main_v8
  rw [v6, v32]
  rfl
theorem indices_23 : Value.res_main_indices_23 V0 = Cert.RefRouterIdeal.RefTerm.term
    (flat (queryMeansOf (V0 (Proc.devRef .tc main_arg0)) (V0 (Proc.devRef .tc main_arg2)) (V0 (Proc.devRef .tc main_arg3))))
    (flat (keyMeansOf (V0 (Proc.devRef .tc main_arg1)) (V0 (Proc.devRef .tc main_arg2)) (V0 (Proc.devRef .tc main_arg3)))) := by
  unfold Value.res_main_indices_23 Value.res_main_v95 Value.res_main_v7 Value.res_main_v34
  rw [v6, v32]
  rfl

theorem v103 : Value.res_main_v103 V0 = rows
    (pooledOf (V0 (Proc.devRef .tc main_arg0)) (V0 (Proc.devRef .tc main_arg2)) (V0 (Proc.devRef .tc main_arg3))) (Value.res_main_indices V0) := by
  unfold Value.res_main_v103 Value.res_main_v8
  rw [v6]
  rfl
theorem v141 : Value.res_main_v141 V0 = rows
    (pooledOf (V0 (Proc.devRef .tc main_arg1)) (V0 (Proc.devRef .tc main_arg2)) (V0 (Proc.devRef .tc main_arg3))) (Value.res_main_indices_23 V0) := by
  unfold Value.res_main_v141 Value.res_main_v34
  rw [v32]
  rfl

theorem v117 : Value.res_main_v117 V0 = logits
    (queriesOf (V0 (Proc.devRef .tc main_arg1)) (V0 (Proc.devRef .tc main_arg2)) (V0 (Proc.devRef .tc main_arg3)))
    (pooledOf (V0 (Proc.devRef .tc main_arg0)) (V0 (Proc.devRef .tc main_arg2)) (V0 (Proc.devRef .tc main_arg3))) (Value.res_main_indices V0) := by
  unfold Value.res_main_v117 Value.res_main_v33
  rw [v103, v32]
  rfl
theorem v155 : Value.res_main_v155 V0 = logits
    (queriesOf (V0 (Proc.devRef .tc main_arg0)) (V0 (Proc.devRef .tc main_arg2)) (V0 (Proc.devRef .tc main_arg3)))
    (pooledOf (V0 (Proc.devRef .tc main_arg1)) (V0 (Proc.devRef .tc main_arg2)) (V0 (Proc.devRef .tc main_arg3))) (Value.res_main_indices_23 V0) := by
  unfold Value.res_main_v155 Value.res_main_v7
  rw [v141, v6]
  rfl

theorem v124 : Value.res_main_v124 V0 = powers (Value.res_main_v117 V0) := by
  unfold Value.res_main_v124; rfl
theorem v162 : Value.res_main_v162 V0 = powers (Value.res_main_v155 V0) := by
  unfold Value.res_main_v162; rfl

theorem v178 : Value.res_main_v178 V0 = Cert.RefFinalIdeal.RefTerm.padded (V0 (Proc.devRef .tc main_arg0)) (V0 (Proc.devRef .tc main_arg2)) (V0 (Proc.devRef .tc main_arg3)) := by
  unfold Value.res_main_v178; rfl
theorem v260 : Value.res_main_v260 V0 = Cert.RefFinalIdeal.RefTerm.padded (V0 (Proc.devRef .tc main_arg1)) (V0 (Proc.devRef .tc main_arg2)) (V0 (Proc.devRef .tc main_arg3)) := by
  unfold Value.res_main_v260; rfl
end

/-- The stages composed are the result, where the inputs are finite. -/
theorem result_eq (xq xk : FVec Ideal S1x224x224x192 .f32) (w : FVec Ideal S192x576 .f32) (b : FVec Ideal S576 .f32)
    (wo : FVec Ideal S192x192 .f32) (bo : FVec Ideal S192 .f32) (k : FVec Ideal S192x1x3x3 .f32) (kb : FVec Ideal S192 .f32)
    (hq : Good xq w b) (hk : Good xk w b) :
    Cert.RefFinalIdeal.RefTerm.term (Cert.RefAttnIdeal.RefTerm.term (queriesOf xq w b) (pooledOf xk w b)
      (Cert.RefRouterIdeal.RefTerm.term (flat (queryMeansOf xq w b)) (flat (keyMeansOf xk w b)))) xk w b wo bo k kb
      = result xq xk w b wo bo k kb := by
  rw [Cert.RefFinalIdeal.RefTerm.term_eq _ _ _ _ _ _ _ _ hk.zero, queries_term, pooled_term, query_means_term, key_means_term,
    Cert.RefRouterIdeal.RefTerm.term_eq]
  unfold result attended
  rw [← Cert.RefAttnIdeal.RefTerm.term_eq _ _ _ (chosen_lt xq xk w b) (finite hq hk)]
  rfl

/-- The run of the reference. -/
theorem run (m : (ℓ : Loc nD τ sig) → Buf (Elt Ideal) ℓ) (ρ : Dev nD → PrngReg)
    (h1 : ∀ c : Dev nD, Good (m ((c.tc : Thread nD τ).loc main_arg0)) (m ((c.tc : Thread nD τ).loc main_arg2)) (m ((c.tc : Thread nD τ).loc main_arg3)))
    (h2 : ∀ c : Dev nD, Good (m ((c.tc : Thread nD τ).loc main_arg1)) (m ((c.tc : Thread nD τ).loc main_arg2)) (m ((c.tc : Thread nD τ).loc main_arg3))) :
    θ_run defs (onTc (τ := τ) (main (F := Ideal))) ⟨m, fun _ => 0, ρ⟩ fun r => ∀ c : Dev nD,
      r.2.mem ((c.tc : Thread nD τ).loc main_v253) = result (m ((c.tc : Thread nD τ).loc main_arg1)) (m ((c.tc : Thread nD τ).loc main_arg0))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_v335) = result (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  refine (θ_run defs _ _).mono (fun r h c => ⟨(h c).1.trans ?_, (h c).2.1.trans ?_⟩) (Value.run (F := Ideal) m ρ)
  · refine Eq.trans ?_ (result_eq _ _ _ _ _ _ _ _ (h2 c) (h1 c))
    unfold Value.res_main_v245
    rw [v124, v117, v103, v178, indices]
    rfl
  · refine Eq.trans ?_ (result_eq _ _ _ _ _ _ _ _ (h1 c) (h2 c))
    unfold Value.res_main_v327
    rw [v162, v155, v141, v260, indices_23]
    rfl

end Cert.RefWholeIdeal.RefTerm
end
-- ==== Proof.WholeValue.lean ====
/-
  What the two results of the whole program hold, in terms of its arguments.
-/
module

public import proofs.«01_k».proof.Proof.WholeRun
public import proofs.«01_k».proof.Proof.WholeValA
public import proofs.«01_k».proof.Proof.WholeValB
public import proofs.«01_k».proof.Proof.WholeValC
public import proofs.«01_k».proof.Proof.WholeRef

@[expose] public section

set_option maxRecDepth 16384

noncomputable section

namespace Cert.Whole.Hand

open Cert.Whole Cert.Whole.Gen Idealize.ShloMosaic Idealize.ShloMosaic.TcCoe Idealize.SL.Sem
open Idealize.ShloMosaic.Pipeline (Dat)
open Cert.ProjIdeal.RefArray (queries pooled means Pools row_cell col_cell div_four rem_four both_eq ofBits_49)
open Cert.RefWholeIdeal.RefTerm (flat chosen chosen_lt attended result Good finite means_real)

/-! ## What the host stretches write, from any contents -/

section
variable (X : Valuation τ sig (Elt Ideal))

theorem table (k : Fin 16) (p : Fin 784) :
    (StableHlo.after hostOps0_2 (StableHlo.after hostOps0_1 (StableHlo.after hostOps0 X)) (Proc.devRef .tc main_v19) : FVec Ideal S16x784 .f32) (ix2 k p)
      = if p.val / 28 / 7 = k.val / 4 ∧ p.val % 28 / 7 = k.val % 4 then ((1 / 49 : ℝ) : EReal) else 0 := by
  after_reads_at
  have h := both_eq ⟨p.val / 28 / 7, by omega⟩ ⟨k.val / 4, by omega⟩ ⟨p.val % 28 / 7, by omega⟩ ⟨k.val % 4, by omega⟩
  dsimp only at h
  rw [row_cell, col_cell, div_four, rem_four, h]
  rw [ofBits_49, Ideal.div_coe (by norm_num)]
  split <;> simp [Scalar.select]

theorem turned1 (a b : Fin 224) (e : Fin 192) :
    (StableHlo.after hostOps0_2 X (Proc.devRef .tc main_v20) : FVec Ideal S1x224x192x224 .f32) (ix4 0 a e b)
      = (X (Proc.devRef .tc main_arg0) : FVec Ideal S1x224x224x192 .f32) (ix4 0 a b e) := by
  after_reads_at
theorem turned2 (a b : Fin 224) (e : Fin 192) :
    (StableHlo.after hostOps0_2 X (Proc.devRef .tc main_v21) : FVec Ideal S1x224x192x224 .f32) (ix4 0 a e b)
      = (X (Proc.devRef .tc main_arg1) : FVec Ideal S1x224x224x192 .f32) (ix4 0 a b e) := by
  after_reads_at
theorem biases (d : Fin 576) : (StableHlo.after hostOps0_2 X (Proc.devRef .tc main_v22) : FVec Ideal S1x576 .f32) (ix2 0 d)
      = (X (Proc.devRef .tc main_arg3) : FVec Ideal S576 .f32) (ix1 d) := by
  after_reads_at

theorem flat1 : StableHlo.after hostOps1 X (Proc.devRef .tc main_v24) = flat (X (Proc.devRef .tc main_v23_4)) := by
  after_results
  rfl
theorem flat2 : StableHlo.after hostOps1 X (Proc.devRef .tc main_v25) = flat (X (Proc.devRef .tc main_v23_5)) := by
  after_results
  rfl
theorem flat3 : StableHlo.after hostOps1 X (Proc.devRef .tc main_v26) = flat (X (Proc.devRef .tc main_v23_6)) := by
  after_results
  rfl
theorem flat4 : StableHlo.after hostOps1 X (Proc.devRef .tc main_v27) = flat (X (Proc.devRef .tc main_v23_7)) := by
  after_results
  rfl

theorem rows1 (n : Fin 16) (r : Fin 14) (q : Fin 224) (d : Fin 192) :
    (StableHlo.after hostOps3 X (Proc.devRef .tc main_v41) : FVec Ideal S16x14x224x192 .bf16) (ix4 n r q d)
      = (X (Proc.devRef .tc main_v37_0) : FVec Ideal S1x224x224x192 .bf16) (ix4 0 ⟨14 * n.val + r.val, by omega⟩ q d) := by
  after_reads_at
  exact congrArg (fun p => (X (Proc.devRef .tc main_v37_0) : FVec Ideal S1x224x224x192 .bf16) (ix4 0 p q d)) (Fin.ext (by simp only; omega))
theorem rows2 (n : Fin 16) (r : Fin 14) (q : Fin 224) (d : Fin 192) :
    (StableHlo.after hostOps4 X (Proc.devRef .tc main_v45) : FVec Ideal S16x14x224x192 .bf16) (ix4 n r q d)
      = (X (Proc.devRef .tc main_v37_1) : FVec Ideal S1x224x224x192 .bf16) (ix4 0 ⟨14 * n.val + r.val, by omega⟩ q d) := by
  after_reads_at
  exact congrArg (fun p => (X (Proc.devRef .tc main_v37_1) : FVec Ideal S1x224x224x192 .bf16) (ix4 0 p q d)) (Fin.ext (by simp only; omega))

theorem values (e d : Fin 192) : (StableHlo.after hostOps3 X (Proc.devRef .tc main_v38) : FVec Ideal S192x192 .f32) (ix2 e d)
      = (X (Proc.devRef .tc main_arg2) : FVec Ideal S192x576 .f32) (ix2 e ⟨384 + d.val, by omega⟩) := by
  after_reads_at
theorem kernel (y z : Fin 3) (d : Fin 192) : (StableHlo.after hostOps3 X (Proc.devRef .tc main_v40) : FVec Ideal S3x3x192 .f32) (ix3 y z d)
      = (X (Proc.devRef .tc main_arg6) : FVec Ideal S192x1x3x3 .f32) (ix4 d 0 y z) := by
  after_reads_at
theorem shift1 (d : Fin 192) : (StableHlo.after hostOps3 X (Proc.devRef .tc main_v42) : FVec Ideal S1x192 .f32) (ix2 0 d)
      = (X (Proc.devRef .tc main_arg7) : FVec Ideal S192 .f32) (ix1 d) := by
  after_reads_at
theorem bias1 (d : Fin 192) : (StableHlo.after hostOps3 X (Proc.devRef .tc main_v43) : FVec Ideal S1x192 .f32) (ix2 0 d)
      = (X (Proc.devRef .tc main_arg5) : FVec Ideal S192 .f32) (ix1 d) := by
  after_reads_at
theorem shift2 (d : Fin 192) : (StableHlo.after hostOps4 X (Proc.devRef .tc main_v46) : FVec Ideal S1x192 .f32) (ix2 0 d)
      = (X (Proc.devRef .tc main_arg7) : FVec Ideal S192 .f32) (ix1 d) := by
  after_reads_at
theorem bias2 (d : Fin 192) : (StableHlo.after hostOps4 X (Proc.devRef .tc main_v47) : FVec Ideal S1x192 .f32) (ix2 0 d)
      = (X (Proc.devRef .tc main_arg5) : FVec Ideal S192 .f32) (ix1 d) := by
  after_reads_at
end

variable (m : (ℓ : Loc nD τ sig) → Buf (Elt Ideal) ℓ) (c : Dev nD)

abbrev x1 : FVec Ideal S1x224x224x192 .f32 := m ((c : Thread nD τ).loc main_arg0)
abbrev x2 : FVec Ideal S1x224x224x192 .f32 := m ((c : Thread nD τ).loc main_arg1)
abbrev w : FVec Ideal S192x576 .f32 := m ((c : Thread nD τ).loc main_arg2)
abbrev b : FVec Ideal S576 .f32 := m ((c : Thread nD τ).loc main_arg3)

/-! ## The projection -/

theorem W2_args (a : Ref sig .tc) (ha : a ∈ argRefs) : W2 m c (Proc.devRef .tc a) = m ((c : Thread nD τ).loc a) :=
  (W2_of c a ((ListAll.forall_mem_of_all_decide (by decide +kernel) : ∀ a ∈ argRefs, a ∉ hostOps0_1_W) a ha)).trans
    (W1_of c a ((ListAll.forall_mem_of_all_decide (by decide +kernel) : ∀ a ∈ argRefs, a ∉ hostOps0_W) a ha))

theorem E0_x1 : Turned (E0 m c main_v20) (x1 m c) := fun a q e =>
  (turned1 (W2 m c) a q e).trans (congrFun (W2_args m c main_arg0 (by decide)) _)
theorem E0_x2 : Turned (E0 m c main_v21) (x2 m c) := fun a q e =>
  (turned2 (W2 m c) a q e).trans (congrFun (W2_args m c main_arg1 (by decide)) _)
theorem E0_w : E0 m c main_arg2 = w m c := W3_args m c main_arg2 (by decide)
theorem E0_b (d : Fin 576) : E0 m c main_v22 (ix2 0 d) = b m c (ix1 d) :=
  (biases (W2 m c) d).trans (congrFun (W2_args m c main_arg3 (by decide)) _)
theorem E0_pool : Pools (E0 m c main_v19) := fun k p => table (W0 m c) k p

theorem W4_q1 : W4 m c (Proc.devRef .tc main_v23_0) = queries (x1 m c) (w m c) (b m c) :=
  (leave_arr _ _ launch0.to₀.sharedIn (A_eq0 (E0 m) c) 5).trans (final0_5 (E0 m) c (E0_x1 m c) (E0_w m c) (E0_b m c))
theorem W4_q2 : W4 m c (Proc.devRef .tc main_v23_1) = queries (x2 m c) (w m c) (b m c) :=
  (leave_arr _ _ launch0.to₀.sharedIn (A_eq0 (E0 m) c) 6).trans (final0_6 (E0 m) c (E0_x2 m c) (E0_w m c) (E0_b m c))
theorem W4_kv1 : W4 m c (Proc.devRef .tc main_v23_2) = pooled (x1 m c) (w m c) (b m c) :=
  (leave_arr _ _ launch0.to₀.sharedIn (A_eq0 (E0 m) c) 7).trans (final0_7 (E0 m) c (E0_x1 m c) (E0_w m c) (E0_b m c) (E0_pool m c))
theorem W4_kv2 : W4 m c (Proc.devRef .tc main_v23_3) = pooled (x2 m c) (w m c) (b m c) :=
  (leave_arr _ _ launch0.to₀.sharedIn (A_eq0 (E0 m) c) 8).trans (final0_8 (E0 m) c (E0_x2 m c) (E0_w m c) (E0_b m c) (E0_pool m c))
theorem W4_mq1 : W4 m c (Proc.devRef .tc main_v23_4) = means 0 (by omega) (x1 m c) (w m c) (b m c) :=
  (leave_arr _ _ launch0.to₀.sharedIn (A_eq0 (E0 m) c) 9).trans (final0_9 (E0 m) c (E0_x1 m c) (E0_w m c) (E0_b m c))
theorem W4_mk1 : W4 m c (Proc.devRef .tc main_v23_5) = means 192 (by omega) (x1 m c) (w m c) (b m c) :=
  (leave_arr _ _ launch0.to₀.sharedIn (A_eq0 (E0 m) c) 10).trans (final0_10 (E0 m) c (E0_x1 m c) (E0_w m c) (E0_b m c))
theorem W4_mq2 : W4 m c (Proc.devRef .tc main_v23_6) = means 0 (by omega) (x2 m c) (w m c) (b m c) :=
  (leave_arr _ _ launch0.to₀.sharedIn (A_eq0 (E0 m) c) 11).trans (final0_11 (E0 m) c (E0_x2 m c) (E0_w m c) (E0_b m c))
theorem W4_mk2 : W4 m c (Proc.devRef .tc main_v23_7) = means 192 (by omega) (x2 m c) (w m c) (b m c) :=
  (leave_arr _ _ launch0.to₀.sharedIn (A_eq0 (E0 m) c) 12).trans (final0_12 (E0 m) c (E0_x2 m c) (E0_w m c) (E0_b m c))

/-! ## The router -/

theorem E1_q1 : E1 m c main_v24 = flat (means 0 (by omega) (x1 m c) (w m c) (b m c)) := (flat1 (W4 m c)).trans (congrArg flat (W4_mq1 m c))
theorem E1_k1 : E1 m c main_v25 = flat (means 192 (by omega) (x1 m c) (w m c) (b m c)) := (flat2 (W4 m c)).trans (congrArg flat (W4_mk1 m c))
theorem E1_q2 : E1 m c main_v26 = flat (means 0 (by omega) (x2 m c) (w m c) (b m c)) := (flat3 (W4 m c)).trans (congrArg flat (W4_mq2 m c))
theorem E1_k2 : E1 m c main_v27 = flat (means 192 (by omega) (x2 m c) (w m c) (b m c)) := (flat4 (W4 m c)).trans (congrArg flat (W4_mk2 m c))

/-- Clipping keeps a word below 64. -/
theorem clip_small : ∀ n : Fin 64, clip (BitVec.ofNat 32 n.val) = BitVec.ofNat 32 n.val := by decide +kernel

theorem clip_of_lt (v : BitVec 32) (h : v.toNat < 64) : clip v = v := by
  have e : v = BitVec.ofNat 32 v.toNat := (BitVec.ofNat_toNat _ _ ▸ (BitVec.setWidth_eq v).symm)
  rw [e]
  exact clip_small ⟨v.toNat, h⟩

variable (h1 : Good (x1 m c) (w m c) (b m c)) (h2 : Good (x2 m c) (w m c) (b m c))
include h1 h2

theorem W6_21 : W6 m c (Proc.devRef .tc main_v28_0) = chosen (x2 m c) (x1 m c) (w m c) (b m c) := by
  refine (leave_arr _ _ launch1.to₀.sharedIn (A_eq1 (E1 m) c) 4).trans ((final1_4 (E1 m) c).trans ?_)
  rw [E1_q2, E1_k1]
  exact Cert.RouterIdeal.Val.four_eq _ _ (means_real h2 0 (by omega)) (means_real h1 192 (by omega))
theorem W6_12 : W6 m c (Proc.devRef .tc main_v28_1) = chosen (x1 m c) (x2 m c) (w m c) (b m c) := by
  refine (leave_arr _ _ launch1.to₀.sharedIn (A_eq1 (E1 m) c) 5).trans ((final1_5 (E1 m) c).trans ?_)
  rw [E1_q1, E1_k2]
  exact Cert.RouterIdeal.Val.four_eq _ _ (means_real h1 0 (by omega)) (means_real h2 192 (by omega))

/-! ## The attention -/

theorem E2_21 : E2 m c main_v32 = chosen (x2 m c) (x1 m c) (w m c) (b m c) := by
  rw [words0, W6_21 m c h1 h2]
  exact funext fun y => clip_of_lt _ (chosen_lt _ _ _ _ y)
theorem E2_12 : E2 m c main_v36 = chosen (x1 m c) (x2 m c) (w m c) (b m c) := by
  rw [words1, W6_12 m c h1 h2]
  exact funext fun y => clip_of_lt _ (chosen_lt _ _ _ _ y)

omit h1 h2 in
/-- What the projection leaves stays until the attention reads it. -/
theorem E2_of (r : Ref sig .tc) (h7 : r ∉ hostOps2_W) (h6 : ∀ w : Fin cfg1.W, Pipeline.arrRef spec1 w = r → (cfg1.win w).isOut = false)
    (h5 : r ∉ hostOps1_W) : E2 m c r = W4 m c (Proc.devRef .tc r) :=
  (W7_of c r h7).trans ((W6_of c r h6).trans (W5_of c r h5))

omit h1 h2 in
theorem E2_q1 : E2 m c main_v23_0 = queries (x1 m c) (w m c) (b m c) :=
  (E2_of m c _ (by decide +kernel) (by decide +kernel) (by decide +kernel)).trans (W4_q1 m c)
omit h1 h2 in
theorem E2_q2 : E2 m c main_v23_1 = queries (x2 m c) (w m c) (b m c) :=
  (E2_of m c _ (by decide +kernel) (by decide +kernel) (by decide +kernel)).trans (W4_q2 m c)
omit h1 h2 in
theorem E2_kv1 : E2 m c main_v23_2 = pooled (x1 m c) (w m c) (b m c) :=
  (E2_of m c _ (by decide +kernel) (by decide +kernel) (by decide +kernel)).trans (W4_kv1 m c)
omit h1 h2 in
theorem E2_kv2 : E2 m c main_v23_3 = pooled (x2 m c) (w m c) (b m c) :=
  (E2_of m c _ (by decide +kernel) (by decide +kernel) (by decide +kernel)).trans (W4_kv2 m c)

theorem W8_21 : W8 m c (Proc.devRef .tc main_v37_0) = attended (x2 m c) (x1 m c) (w m c) (b m c) := by
  refine (leave_arr _ _ launch2.to₀.sharedIn (A_eq2 (E2 m) c) 6).trans ((final2_6 (E2 m) c ?_).trans ?_)
  · rw [E2_q2, E2_kv1]
    exact finite h2 h1
  · rw [E2_q2, E2_kv1, E2_21 m c h1 h2]
    rfl
theorem W8_12 : W8 m c (Proc.devRef .tc main_v37_1) = attended (x1 m c) (x2 m c) (w m c) (b m c) := by
  refine (leave_arr _ _ launch2.to₀.sharedIn (A_eq2 (E2 m) c) 7).trans ((final2_7 (E2 m) c ?_).trans ?_)
  · rw [E2_q1, E2_kv2]
    exact finite h1 h2
  · rw [E2_q1, E2_kv2, E2_12 m c h1 h2]
    rfl

/-! ## The results -/

omit h1 h2 in
theorem W3_to_W9 (r : Ref sig .tc) (h9 : r ∉ hostOps3_W) (h8 : ∀ w : Fin cfg2.W, Pipeline.arrRef spec2 w = r → (cfg2.win w).isOut = false)
    (h7 : r ∉ hostOps2_W) (h6 : ∀ w : Fin cfg1.W, Pipeline.arrRef spec1 w = r → (cfg1.win w).isOut = false)
    (h5 : r ∉ hostOps1_W) (h4 : ∀ w : Fin cfg0.W, Pipeline.arrRef spec0 w = r → (cfg0.win w).isOut = false) :
    W9 m c (Proc.devRef .tc r) = W3 m c (Proc.devRef .tc r) :=
  (W9_of c r h9).trans ((W8_of c r h8).trans ((E2_of m c r h7 h6 h5).trans (W4_of c r h4)))

omit h1 h2 in
theorem W9_to_W11 (r : Ref sig .tc) (h11 : r ∉ hostOps4_W) (h10 : ∀ w : Fin cfg3.W, Pipeline.arrRef spec3 w = r → (cfg3.win w).isOut = false) :
    W11 m c (Proc.devRef .tc r) = W9 m c (Proc.devRef .tc r) :=
  (W11_of c r h11).trans (W10_of c r h10)

abbrev out (xq xk : FVec Ideal S1x224x224x192 .f32) : FVec Ideal S16x14x192x224 .f32 :=
  result xq xk (w m c) (b m c) (m ((c : Thread nD τ).loc main_arg4)) (m ((c : Thread nD τ).loc main_arg5))
    (m ((c : Thread nD τ).loc main_arg6)) (m ((c : Thread nD τ).loc main_arg7))

omit h1 h2 in
theorem E3_values (e d : Fin 192) : E3 m c main_v38 (ix2 e d) = w m c (ix2 e ⟨384 + d.val, by omega⟩) :=
  (values (W8 m c) e d).trans (congrFun (W8_args m c main_arg2 (by decide)) _)
omit h1 h2 in
theorem E3_kernel (y z : Fin 3) (d : Fin 192) : E3 m c main_v40 (ix3 y z d)
    = (m ((c : Thread nD τ).loc main_arg6) : FVec Ideal S192x1x3x3 .f32) (ix4 d 0 y z) :=
  (kernel (W8 m c) y z d).trans (congrFun (W8_args m c main_arg6 (by decide)) _)

theorem result21 : (dat3 (E3 m) c).arrAt 9 cfg3.N = out m c (x2 m c) (x1 m c) :=
  final3_9 (E3 m) c
    ⟨fun n r q d => (rows1 (W8 m c) n r q d).trans (congrFun (W8_21 m c h1 h2) _),
      fun a q e => (congrFun (W3_to_W9 m c main_v20 (by decide +kernel) (by decide +kernel) (by decide +kernel) (by decide +kernel) (by decide +kernel) (by decide +kernel)) _).trans
        (E0_x1 m c a q e),
      E3_values m c, E3_kernel m c,
      fun d => (shift1 (W8 m c) d).trans (congrFun (W8_args m c main_arg7 (by decide)) _),
      (W9_of c main_arg4 (by decide +kernel)).trans (W8_args m c main_arg4 (by decide)),
      fun o => (bias1 (W8 m c) o).trans (congrFun (W8_args m c main_arg5 (by decide)) _)⟩

theorem result12 : (dat4 (E4 m) c).arrAt 9 cfg4.N = out m c (x1 m c) (x2 m c) :=
  final4_9 (E4 m) c
    ⟨fun n r q d => (rows2 (W10 m c) n r q d).trans (congrFun ((W10_of c main_v37_1 (by decide +kernel)).trans
        ((W9_of c main_v37_1 (by decide +kernel)).trans (W8_12 m c h1 h2))) _),
      fun a q e => (congrFun ((W9_to_W11 m c main_v21 (by decide +kernel) (by decide +kernel)).trans
        (W3_to_W9 m c main_v21 (by decide +kernel) (by decide +kernel) (by decide +kernel) (by decide +kernel) (by decide +kernel) (by decide +kernel))) _).trans
        (E0_x2 m c a q e),
      fun e d => (congrFun (W9_to_W11 m c main_v38 (by decide +kernel) (by decide +kernel)) _).trans (E3_values m c e d),
      fun y z d => (congrFun (W9_to_W11 m c main_v40 (by decide +kernel) (by decide +kernel)) _).trans (E3_kernel m c y z d),
      fun d => (shift2 (W10 m c) d).trans (congrFun (W10_args m c main_arg7 (by decide)) _),
      (W11_of c main_arg4 (by decide +kernel)).trans (W10_args m c main_arg4 (by decide)),
      fun o => (bias2 (W10 m c) o).trans (congrFun (W10_args m c main_arg5 (by decide)) _)⟩

end Cert.Whole.Hand
end
-- ==== Proof.WholeSameMain.lean ====
/-
  The two texts of the whole program: their host functions are the same program.
-/
module

public import proofs.«01_k».proof.Whole
public import proofs.«01_k».proof.WholeIdeal

@[expose] public section

namespace Cert.WholeSame

open Idealize.ShloMosaic

variable [Cert.WholeIdeal.Facts] [Cert.Whole.Facts] {F : FTy → Type} [FloatOps F]

set_option maxHeartbeats 0 in
theorem main_eq : Cert.WholeIdeal.main (F := F) = Cert.Whole.main (F := F) := by exact rfl

end Cert.WholeSame
end
-- ==== Proof.WholeSameDefs.lean ====
/-
  The two texts of the whole program: their kernel bodies are the same programs.
-/
module

public import proofs.«01_k».proof.Whole
public import proofs.«01_k».proof.WholeIdeal

@[expose] public section

namespace Cert.WholeSame

open Idealize.ShloMosaic

variable [Cert.WholeIdeal.Facts] [Cert.Whole.Facts] {F : FTy → Type} [FloatOps F]

set_option maxHeartbeats 0 in
theorem body0 : Cert.WholeIdeal.cc0__stage_a_body (F := F) = Cert.Whole.cc0__stage_a_body (F := F) := by exact rfl
set_option maxHeartbeats 0 in
theorem body1 : Cert.WholeIdeal.cc1__router_body (F := F) = Cert.Whole.cc1__router_body (F := F) := by exact rfl
set_option maxHeartbeats 0 in
theorem body2 : Cert.WholeIdeal.cc2__attn_body (F := F) = Cert.Whole.cc2__attn_body (F := F) := by exact rfl
set_option maxHeartbeats 0 in
theorem body3 : Cert.WholeIdeal.cc3__final_body (F := F) = Cert.Whole.cc3__final_body (F := F) := by exact rfl
set_option maxHeartbeats 0 in
theorem body4 : Cert.WholeIdeal.cc4__final_body (F := F) = Cert.Whole.cc4__final_body (F := F) := by exact rfl

end Cert.WholeSame
end
-- ==== Proof.WholeSameTable.lean ====
/-
  The two texts of the whole program: their tables of kernel bodies are the same.
-/
module

public import proofs.«01_k».proof.Proof.WholeSameDefs

@[expose] public section

namespace Cert.WholeSame

open Idealize.ShloMosaic

variable [Cert.WholeIdeal.Facts] [Cert.Whole.Facts] {F : FTy → Type} [FloatOps F]

set_option maxHeartbeats 0 in
theorem defs₀_eq : Cert.WholeIdeal.defs₀ (F := F) = Cert.Whole.defs₀ (F := F) := by
  refine congrArg (Defs.onTc (nD := Cert.Whole.nD) (τ := Cert.Whole.τ) (sig := Cert.Whole.sig) (Val := Elt F) (Λ := Cert.Whole.Λ₀)) (funext fun l => ?_)
  match l with
  | 0 => funext ⟨t, s⟩; simp only [body0]; rfl
  | 1 => funext ⟨t, s⟩; simp only [body1]; rfl
  | 2 => funext ⟨t, s⟩; simp only [body2]; rfl
  | 3 => funext ⟨t, s⟩; simp only [body3]; rfl
  | 4 => funext ⟨t, s⟩; simp only [body4]; rfl
  | ⟨_ + 5, h⟩ => exact absurd h (Nat.not_lt.2 (Nat.le_add_left _ _))

set_option maxHeartbeats 0 in
theorem defs_eq : Cert.WholeIdeal.defs (F := F) = Cert.Whole.defs (F := F) :=
  congrArg (Pipeline.defs (Cert.Whole.pcfgs (F := F))) defs₀_eq

end Cert.WholeSame
end
-- ==== Proof.WholeSame.lean ====
/-
  The two texts of the whole program are one program, so a run of the one is a run of the other.
-/
module

public import proofs.«01_k».proof.Proof.WholeSameMain
public import proofs.«01_k».proof.Proof.WholeSameTable
public import proofs.«01_k».proof.Proof.Gen.WholeIdeal.Points
public import proofs.«01_k».proof.Proof.Gen.Whole.Points
public import Idealize.ShloMosaic.Adequacy

@[expose] public section

set_option maxRecDepth 16384

namespace Cert.WholeSame

open Idealize.ShloMosaic Idealize.SL.Sem

/-- A run depends on its table and its program. -/
theorem run_of_eq {nD : ℕ} {τ : Topo} {sig : RefSig} {Val : EltTy → Type} {Λ : Labels} {d d' : Defs nD τ sig Val Λ}
    {p p' : Dev nD → Prog (TpuEff nD τ sig Val Λ .tc) PUnit} (hd : d = d') (hp : p = p') (s : MemSt nD τ sig Val) (Q)
    (h : θ_run d' (onTc p') s Q) : θ_run d (onTc p) s Q := by
  subst hd hp
  exact h

set_option maxHeartbeats 0 in
theorem same_run {F : FTy → Type} [FloatOps F] (s : MemSt Cert.Whole.nD Cert.Whole.τ Cert.Whole.sig (Elt F)) (Q)
    (h : θ_run (Cert.Whole.defs (F := F)) (onTc (τ := Cert.Whole.τ) (Cert.Whole.main (F := F))) s Q) :
    θ_run (Cert.WholeIdeal.defs (F := F)) (onTc (τ := Cert.WholeIdeal.τ) (Cert.WholeIdeal.main (F := F))) s Q :=
  run_of_eq defs_eq main_eq s Q h

end Cert.WholeSame
end
-- ==== Proof.WholeClaims.lean ====
/-
  The claims about the whole program and its reference.
-/
module

public import proofs.«01_k».proof.Defs
public import proofs.«01_k».proof.Proof.WholeValue
public import proofs.«01_k».proof.Proof.WholeSame
public import Idealize.ShloMosaic.Adequacy
public import Idealize.ShloMosaic.Init
public import Idealize.ShloMosaic.Lib.ReduceAll

@[expose] public section

set_option maxRecDepth 16384

noncomputable section

namespace Cert.Proof.WholeClaims

open Idealize.ShloMosaic Idealize.SL.Sem
open Cert.AttnIdeal.RefArray (IsReal isReal_of_ne)
open Cert.WholeSame (same_run)
open Cert.RefWholeIdeal.RefTerm (Good result)

/-- A conjunction of two bits is one where both are. -/
theorem both_one (a b : BitVec 1) : IntOp.andi a b = 1#1 ↔ a = 1#1 ∧ b = 1#1 := by revert a b; decide

/-- A value whose magnitude the predicate puts below infinity is real. -/
theorem real_of_below (v : EReal) (h : BitVec.ofBool (decide (max v (-v) < Ideal.ofBits FTy.f32 0x7F800000#32)) = 1#1) : IsReal v := by
  have top : Ideal.ofBits FTy.f32 0x7F800000#32 = ⊤ := by simp [Ideal.ofBits, Ideal.ieee]
  have below : max v (-v) < ⊤ := top ▸ of_decide_eq_true (BitVec.ofBool_eq_iff_eq.mp h : decide _ = true)
  exact isReal_of_ne (fun e => by subst e; simp at below) (fun e => by subst e; simp at below)

variable [Cert.Pre_inputs_finite.Facts]

/-- What the predicate says. -/
theorem decode (x1 x2 : FVec Ideal Cert.Pre_inputs_finite.S1x224x224x192 .f32) (w : FVec Ideal Cert.Pre_inputs_finite.S192x576 .f32)
    (b : FVec Ideal Cert.Pre_inputs_finite.S576 .f32) (wo : FVec Ideal Cert.Pre_inputs_finite.S192x192 .f32)
    (bo : FVec Ideal Cert.Pre_inputs_finite.S192 .f32) (k : FVec Ideal Cert.Pre_inputs_finite.S192x1x3x3 .f32)
    (kb : FVec Ideal Cert.Pre_inputs_finite.S192 .f32)
    (h : Cert.Pre_inputs_finite.fn (F := Ideal) x1 x2 w b wo bo k kb = fun _ => 1#1) : Good x1 w b ∧ Good x2 w b := by
  dsimp only [Cert.Pre_inputs_finite.fn, Cert.Pre_inputs_finite.fn_part1] at h
  obtain ⟨h1, pz⟩ := (both_one _ _).mp (congrFun h (fun a => a.elim0))
  obtain ⟨h2, pb⟩ := (both_one _ _).mp h1
  obtain ⟨h3, pw⟩ := (both_one _ _).mp h2
  obtain ⟨p1, p2⟩ := (both_one _ _).mp h3
  have gw (e : Fin 192) (d : Fin 384) : IsReal (w (ix2 e (⟨d.val, by omega⟩ : Fin 576))) := by
    have := Host.reduce_andi_all _ _ _ _ _ pw (ix2 e d)
    revert this
    pointwise
    exact real_of_below _
  have gb (d : Fin 384) : IsReal (b (ix1 (⟨d.val, by omega⟩ : Fin 576))) := by
    have := Host.reduce_andi_all _ _ _ _ _ pb (ix1 d)
    revert this
    pointwise
    exact real_of_below _
  have gz (d : Fin 192) : b (ix1 (⟨384 + d.val, by omega⟩ : Fin 576)) = 0 := by
    have := Host.reduce_andi_all _ _ _ _ _ pz (ix1 d)
    revert this
    pointwise
    intro h3
    exact of_decide_eq_true (BitVec.ofBool_eq_iff_eq.mp h3 : decide _ = true)
  exact ⟨⟨fun y => real_of_below _ (Host.reduce_andi_all _ _ _ _ _ p1 y), gw, gb, gz⟩,
    ⟨fun y => real_of_below _ (Host.reduce_andi_all _ _ _ _ _ p2 y), gw, gb, gz⟩⟩

/-- The program as printed runs and keeps its arguments. -/
theorem frame_p : Cert.quiescent_Whole := fun m ρ _ =>
  (θ_run Cert.Whole.defs _ _).mono (fun _ h => ⟨h.2.1, h.2.2⟩) (Cert.Whole.Hand.run_results m ρ)
/-- So does its twin over the extended reals. -/
theorem frame_pi : Cert.quiescent_WholeIdeal := fun m ρ _ =>
  same_run _ _ ((θ_run Cert.Whole.defs _ _).mono (fun _ h => ⟨h.2.1, h.2.2⟩) (Cert.Whole.Hand.run_results (F := Ideal) m ρ))
theorem frame_pi_pre : Cert.quiescent_WholeIdeal_pre_inputs_finite := fun m ρ _ => frame_pi m ρ trivial
/-- So does the reference: it is a list of array operations. -/
theorem frame_ri : Cert.quiescent_RefWholeIdeal := fun m ρ _ =>
  (θ_run Cert.RefWholeIdeal.defs _ _).mono
    (fun r h => ⟨fun c => (h c).2.2, Idealize.ShloMosaic.sem_eq_zero_of_no_sems (by decide) r.2⟩)
    (Cert.RefWholeIdeal.Value.run (F := Ideal) m ρ)
theorem frame_ri_pre : Cert.quiescent_RefWholeIdeal_pre_inputs_finite := fun m ρ _ => frame_ri m ρ trivial

/-- The two texts of the program differ in nothing. -/
theorem preserves : Cert.preserves_Whole_WholeIdeal := trivial

/-- Over the extended reals the program's two results are the reference's, where the inputs are finite and the bias of the values is zero. -/
theorem algebraic : Cert.algebraic_WholeIdeal_RefWholeIdeal_pre_inputs_finite := by
  intro m ρ m' ρ' hpre hagree
  let A (b : Ref Cert.WholeIdeal.sig .tc) (c : Dev Cert.WholeIdeal.nD) := m ((c.tc : Thread Cert.WholeIdeal.nD Cert.WholeIdeal.τ).loc b)
  have good (c : Dev Cert.WholeIdeal.nD) := decode _ _ _ _ _ _ _ _ (hpre c)
  refine ⟨fun c => result (A Cert.WholeIdeal.main_arg1 c) (A Cert.WholeIdeal.main_arg0 c) (A Cert.WholeIdeal.main_arg2 c) (A Cert.WholeIdeal.main_arg3 c)
      (A Cert.WholeIdeal.main_arg4 c) (A Cert.WholeIdeal.main_arg5 c) (A Cert.WholeIdeal.main_arg6 c) (A Cert.WholeIdeal.main_arg7 c),
    fun c => result (A Cert.WholeIdeal.main_arg0 c) (A Cert.WholeIdeal.main_arg1 c) (A Cert.WholeIdeal.main_arg2 c) (A Cert.WholeIdeal.main_arg3 c)
      (A Cert.WholeIdeal.main_arg4 c) (A Cert.WholeIdeal.main_arg5 c) (A Cert.WholeIdeal.main_arg6 c) (A Cert.WholeIdeal.main_arg7 c), ?_, ?_⟩
  · refine same_run _ _ ((θ_run Cert.Whole.defs _ _).mono (fun _ h c => ?_) (Cert.Whole.Hand.run_results (F := Ideal) m ρ))
    exact ⟨(h.1 c).1.trans (Cert.Whole.Hand.result21 m c (good c).1 (good c).2),
      (h.1 c).2.trans (Cert.Whole.Hand.result12 m c (good c).1 (good c).2), h.2.1 c⟩
  · have good' (c : Dev Cert.RefWholeIdeal.nD) := good c
    have e (c : Dev Cert.RefWholeIdeal.nD) := hagree c
    refine (θ_run Cert.RefWholeIdeal.defs _ _).mono (fun _ h c => ?_)
      (θ_run_and (Cert.RefWholeIdeal.RefTerm.run m' ρ' (fun c => ?_) (fun c => ?_)) (Cert.RefWholeIdeal.Value.run (F := Ideal) m' ρ'))
    · obtain ⟨e0, e1, e2, e3, e4, e5, e6, e7⟩ := e c
      simp only [A, ← e0, ← e1, ← e2, ← e3, ← e4, ← e5, ← e6, ← e7]
      exact ⟨(h.1 c).1, (h.1 c).2, (h.2 c).2.2⟩
    · obtain ⟨e0, e1, e2, e3, e4, e5, e6, e7⟩ := e c
      rw [e0, e2, e3]
      exact (good' c).1
    · obtain ⟨e0, e1, e2, e3, e4, e5, e6, e7⟩ := e c
      rw [e1, e2, e3]
      exact (good' c).2

end Cert.Proof.WholeClaims

end
-- ==== Proof.ProjClaims.lean ====
/-
  The claims about the projection kernel and its reference.
-/
module

public import proofs.«01_k».proof.Defs
public import proofs.«01_k».proof.Proof.ProjRef
public import proofs.«01_k».proof.Proof.Gen.Proj.Frame
public import proofs.«01_k».proof.Proof.Gen.ProjIdeal.Value
public import Idealize.ShloMosaic.Adequacy
public import Idealize.ShloMosaic.Init

@[expose] public section

set_option maxRecDepth 16384

noncomputable section

namespace Cert.Proof.ProjClaims

open Idealize.ShloMosaic Idealize.SL.Sem
open Cert.ProjIdeal.RefArray (queries pooled means)

/-- The kernel as printed runs and keeps its arguments. -/
theorem frame_p : Cert.quiescent_Proj := fun m ρ _ => Cert.Proj.Gen.frame m ρ
/-- So does its twin over the extended reals. -/
theorem frame_pi : Cert.quiescent_ProjIdeal := fun m ρ _ => Cert.ProjIdeal.Gen.frame m ρ
/-- So does the reference: it is a list of array operations. -/
theorem frame_ri : Cert.quiescent_RefProjIdeal := fun m ρ _ =>
  (θ_run Cert.RefProjIdeal.defs _ _).mono
    (fun r h => ⟨fun c => (h c).2.2.2.2.2.2.2.2, Idealize.ShloMosaic.sem_eq_zero_of_no_sems (by decide) r.2⟩)
    (Cert.RefProjIdeal.Value.run (F := Ideal) m ρ)

/-- The two texts of the kernel differ in nothing. -/
theorem preserves : Cert.preserves_Proj_ProjIdeal := trivial

/-- Over the extended reals the kernel's eight results are the reference's: the queries of both images, their keys
    and values averaged over cells of 49 pixels, and the means of queries and keys over each window. -/
theorem algebraic : Cert.algebraic_ProjIdeal_RefProjIdeal := by
  intro m ρ m' ρ' _ hagree
  let x1 (c : Dev Cert.ProjIdeal.nD) := m ((c.tc : Thread Cert.ProjIdeal.nD Cert.ProjIdeal.τ).loc Cert.ProjIdeal.main_arg0)
  let x2 (c : Dev Cert.ProjIdeal.nD) := m ((c.tc : Thread Cert.ProjIdeal.nD Cert.ProjIdeal.τ).loc Cert.ProjIdeal.main_arg1)
  let w (c : Dev Cert.ProjIdeal.nD) := m ((c.tc : Thread Cert.ProjIdeal.nD Cert.ProjIdeal.τ).loc Cert.ProjIdeal.main_arg2)
  let b (c : Dev Cert.ProjIdeal.nD) := m ((c.tc : Thread Cert.ProjIdeal.nD Cert.ProjIdeal.τ).loc Cert.ProjIdeal.main_arg3)
  refine ⟨fun c => queries (x1 c) (w c) (b c), fun c => queries (x2 c) (w c) (b c), fun c => pooled (x1 c) (w c) (b c),
    fun c => pooled (x2 c) (w c) (b c), fun c => means 0 (by omega) (x1 c) (w c) (b c),
    fun c => means 192 (by omega) (x1 c) (w c) (b c), fun c => means 0 (by omega) (x2 c) (w c) (b c),
    fun c => means 192 (by omega) (x2 c) (w c) (b c), ?_, ?_⟩
  · refine (θ_run Cert.ProjIdeal.defs _ _).mono (fun _ h c => ?_) (Cert.ProjIdeal.Value.run_blocks (F := Ideal) m ρ)
    obtain ⟨h0, h1, h2, h3, h4, h5, h6, h7, hk⟩ := h c
    exact ⟨h0.trans (Cert.ProjIdeal.RefArray.final5 m c), h1.trans (Cert.ProjIdeal.RefArray.final6 m c),
      h2.trans (Cert.ProjIdeal.RefArray.final7 m c), h3.trans (Cert.ProjIdeal.RefArray.final8 m c),
      h4.trans (Cert.ProjIdeal.RefArray.final9 m c), h5.trans (Cert.ProjIdeal.RefArray.final10 m c),
      h6.trans (Cert.ProjIdeal.RefArray.final11 m c), h7.trans (Cert.ProjIdeal.RefArray.final12 m c), hk⟩
  · refine (θ_run Cert.RefProjIdeal.defs _ _).mono (fun _ h c => ?_) (Cert.RefProjIdeal.Value.run (F := Ideal) m' ρ')
    obtain ⟨h0, h1, h2, h3, h4, h5, h6, h7, hk⟩ := h c
    obtain ⟨e1, e2, e3, e4⟩ := hagree c
    simp only [x1, x2, w, b, ← e1, ← e2, ← e3, ← e4]
    exact ⟨h0.trans (Cert.RefProjIdeal.RefTerm.queries_term _ _ _), h1.trans (Cert.RefProjIdeal.RefTerm.queries_term _ _ _),
      h2.trans (Cert.RefProjIdeal.RefTerm.pooled_term _ _ _), h3.trans (Cert.RefProjIdeal.RefTerm.pooled_term _ _ _),
      h4.trans (Cert.RefProjIdeal.RefTerm.query_means_term _ _ _), h5.trans (Cert.RefProjIdeal.RefTerm.key_means_term _ _ _),
      h6.trans (Cert.RefProjIdeal.RefTerm.query_means_term _ _ _), h7.trans (Cert.RefProjIdeal.RefTerm.key_means_term _ _ _), hk⟩

end Cert.Proof.ProjClaims

end
-- ==== Proof.FinalClaims.lean ====
/-
  The claims about the out-projection kernel and its reference.
-/
module

public import proofs.«01_k».proof.Defs
public import proofs.«01_k».proof.Proof.FinalRef
public import proofs.«01_k».proof.Proof.Gen.Final.Frame
public import proofs.«01_k».proof.Proof.Gen.FinalIdeal.Value
public import Idealize.ShloMosaic.Adequacy
public import Idealize.ShloMosaic.Init
public import Idealize.ShloMosaic.Lib.ReduceAll

@[expose] public section

set_option maxRecDepth 16384

noncomputable section

namespace Cert.Proof.FinalClaims

open Idealize.ShloMosaic Idealize.SL.Sem
open Cert.FinalIdeal.RefArray (image)

variable [Cert.Pre_value_bias_zero.Facts]

/-- The kernel as printed runs and keeps its arguments. -/
theorem frame_p : Cert.quiescent_Final := fun m ρ _ => Cert.Final.Gen.frame m ρ
/-- So does its twin over the extended reals. -/
theorem frame_pi : Cert.quiescent_FinalIdeal := fun m ρ _ => Cert.FinalIdeal.Gen.frame m ρ
theorem frame_pi_pre : Cert.quiescent_FinalIdeal_pre_value_bias_zero := fun m ρ _ => Cert.FinalIdeal.Gen.frame m ρ
/-- So does the reference: it is a list of array operations. -/
theorem frame_ri : Cert.quiescent_RefFinalIdeal := fun m ρ _ =>
  (θ_run Cert.RefFinalIdeal.defs _ _).mono
    (fun r h => ⟨fun c => (h c).2, Idealize.ShloMosaic.sem_eq_zero_of_no_sems (by decide) r.2⟩)
    (Cert.RefFinalIdeal.Value.run (F := Ideal) m ρ)
theorem frame_ri_pre : Cert.quiescent_RefFinalIdeal_pre_value_bias_zero := fun m ρ _ => frame_ri m ρ trivial

/-- The two texts of the kernel differ in nothing. -/
theorem preserves : Cert.preserves_Final_FinalIdeal := trivial

/-- What the precondition says: the bias of the values is zero. -/
theorem bias_zero (m : (ℓ : Loc Cert.FinalIdeal.nD Cert.FinalIdeal.τ Cert.FinalIdeal.sig) → Buf (Elt Ideal) ℓ)
    (h : Cert.Pre_FinalIdeal_value_bias_zero m) (c : Dev Cert.FinalIdeal.nD) (d : Fin 192) :
    m ((c.tc : Thread Cert.FinalIdeal.nD Cert.FinalIdeal.τ).loc Cert.FinalIdeal.main_arg3) (ix1 ⟨384 + d.val, by omega⟩) = (0 : EReal) := by
  have h1 := h c
  dsimp only [Cert.Pre_value_bias_zero.fn] at h1
  have h2 := Host.reduce_andi_all _ _ _ _ _ (congrFun h1 (fun a => a.elim0)) (ix1 d)
  revert h2
  pointwise
  intro h3
  exact of_decide_eq_true (BitVec.ofBool_eq_iff_eq.mp h3 : decide _ = true)

/-- Over the extended reals the kernel's result is the reference's, where the bias of the values is zero. -/
theorem algebraic : Cert.algebraic_FinalIdeal_RefFinalIdeal_pre_value_bias_zero := by
  intro m ρ m' ρ' hpre hagree
  let A (b : Ref Cert.FinalIdeal.sig .tc) (c : Dev Cert.FinalIdeal.nD) := m ((c.tc : Thread Cert.FinalIdeal.nD Cert.FinalIdeal.τ).loc b)
  refine ⟨fun c => image (A Cert.FinalIdeal.main_arg0 c) (A Cert.FinalIdeal.main_arg1 c) (A Cert.FinalIdeal.main_arg2 c)
    (A Cert.FinalIdeal.main_arg4 c) (A Cert.FinalIdeal.main_arg5 c) (A Cert.FinalIdeal.main_arg6 c) (A Cert.FinalIdeal.main_arg7 c), ?_, ?_⟩
  · refine (θ_run Cert.FinalIdeal.defs _ _).mono (fun _ h c => ?_) (Cert.FinalIdeal.Value.run_blocks (F := Ideal) m ρ)
    exact ⟨(h c).1.trans (Cert.FinalIdeal.RefArray.final9 m c), (h c).2⟩
  · refine (θ_run Cert.RefFinalIdeal.defs _ _).mono (fun _ h c => ?_) (Cert.RefFinalIdeal.Value.run (F := Ideal) m' ρ')
    have hb := bias_zero m hpre c
    obtain ⟨e0, e1, e2, e3, e4, e5, e6, e7⟩ := hagree c
    simp only [← e3] at hb
    simp only [A, ← e0, ← e1, ← e2, ← e4, ← e5, ← e6, ← e7]
    exact ⟨(h c).1.trans (Cert.RefFinalIdeal.RefTerm.term_eq _ _ _ _ _ _ _ _ hb), (h c).2⟩

end Cert.Proof.FinalClaims

end
-- ==== Proof.AttnClaims.lean ====
/-
  The claims about the attention kernel and its reference.
-/
module

public import proofs.«01_k».proof.Defs
public import proofs.«01_k».proof.Proof.AttnRef
public import proofs.«01_k».proof.Proof.AttnBody
public import Idealize.ShloMosaic.Adequacy
public import Idealize.ShloMosaic.Init
public import Idealize.ShloMosaic.Lib.ReduceAll

@[expose] public section

set_option maxRecDepth 16384

noncomputable section

namespace Cert.Proof.AttnClaims

open Idealize.ShloMosaic Idealize.SL.Sem
open Cert.AttnIdeal.RefArray (IsReal isReal_of_ne Finite image)

variable [Cert.Pre_indices_in_range.Facts] [Cert.Pre_indices_in_range_and_logits_finite.Facts]

theorem andi_one (a b : BitVec 1) : IntOp.andi a b = 1#1 ↔ a = 1#1 ∧ b = 1#1 := by revert a b; decide

/-- A word that the predicates put between 0 and 64 names a row. -/
theorem word_lt (w : BitVec 32) (h0 : IntOp.cmpi .sge w 0#32 = 1#1) (h1 : IntOp.cmpi .slt w 64#32 = 1#1) : w.toNat < 64 := by
  have ofBool_eq_one (p : Bool) : (BitVec.ofBool p = 1#1) ↔ p = true := by cases p <;> decide
  simp [ofBool_eq_one, IntOp.cmpi, BitVec.sle, BitVec.slt, BitVec.toInt] at h0 h1
  have := w.isLt
  split at h0 <;> omega

/-- The comparisons that the two predicates make of the index arrays. -/
theorem words_lt {F : FTy → Type} [FloatOps F] (q1 q2 : FVec F Cert.Pre_indices_in_range.S64x784x192 .bf16)
    (t1 t2 : FVec F Cert.Pre_indices_in_range.S64x16x384 .bf16) (i1 i2 : IVec Cert.Pre_indices_in_range.S64x4 32)
    (h : Cert.Pre_indices_in_range.fn (F := F) q1 q2 t1 t2 i1 i2 = fun _ => 1#1) (y : Cert.Pre_indices_in_range.S64x4.Idx) :
    (i1 y).toNat < 64 ∧ (i2 y).toNat < 64 := by
  dsimp only [Cert.Pre_indices_in_range.fn] at h
  have h2 := Host.reduce_andi_all _ _ _ _ _ (congrFun h (fun a => a.elim0)) y
  obtain ⟨h3, d⟩ := (andi_one _ _).mp h2
  obtain ⟨h4, c⟩ := (andi_one _ _).mp h3
  obtain ⟨a, b⟩ := (andi_one _ _).mp h4
  exact ⟨word_lt _ a b, word_lt _ c d⟩

theorem real_of_lt (v : EReal) (h : BitVec.ofBool (decide (max v (-v) < Ideal.ofBits FTy.f32 0x7F800000#32)) = 1#1) : IsReal v := by
  have h1 : max v (-v) < Ideal.ofBits FTy.f32 0x7F800000#32 := of_decide_eq_true (BitVec.ofBool_eq_iff_eq.mp h : decide _ = true)
  rw [show Ideal.ofBits FTy.f32 0x7F800000#32 = ⊤ by simp [Ideal.ofBits, Ideal.ieee]] at h1
  refine isReal_of_ne (fun e => ?_) (fun e => ?_) <;> subst e <;> simp at h1

/-- What the second predicate says. -/
theorem decode (q1 q2 : FVec Ideal Cert.Pre_indices_in_range_and_logits_finite.S64x784x192 .bf16)
    (t1 t2 : FVec Ideal Cert.Pre_indices_in_range_and_logits_finite.S64x16x384 .bf16)
    (i1 i2 : IVec Cert.Pre_indices_in_range_and_logits_finite.S64x4 32)
    (h : Cert.Pre_indices_in_range_and_logits_finite.fn (F := Ideal) q1 q2 t1 t2 i1 i2 = fun _ => 1#1) :
    (∀ y, (i1 y).toNat < 64 ∧ (i2 y).toNat < 64) ∧ Finite q1 t2 ∧ Finite q2 t1 := by
  dsimp only [Cert.Pre_indices_in_range_and_logits_finite.fn, Cert.Pre_indices_in_range_and_logits_finite.fn_part1,
    Cert.Pre_indices_in_range_and_logits_finite.fn_part2] at h
  obtain ⟨h1, k2⟩ := (andi_one _ _).mp (congrFun h (fun a => a.elim0))
  obtain ⟨h2, k1⟩ := (andi_one _ _).mp h1
  obtain ⟨h3, p2⟩ := (andi_one _ _).mp h2
  obtain ⟨h4, p1⟩ := (andi_one _ _).mp h3
  refine ⟨fun y => ?_, ⟨fun y => ?_, fun a b e => ?_⟩, ⟨fun y => ?_, fun a b e => ?_⟩⟩
  · obtain ⟨h5, d⟩ := (andi_one _ _).mp (Host.reduce_andi_all _ _ _ _ _ h4 y)
    obtain ⟨h6, c⟩ := (andi_one _ _).mp h5
    obtain ⟨a, b⟩ := (andi_one _ _).mp h6
    exact ⟨word_lt _ a b, word_lt _ c d⟩
  · have := Host.reduce_andi_all _ _ _ _ _ p1 y
    exact real_of_lt _ this
  · have := Host.reduce_andi_all _ _ _ _ _ k2 (ix3 a b e)
    revert this
    pointwise
    exact real_of_lt _
  · have := Host.reduce_andi_all _ _ _ _ _ p2 y
    exact real_of_lt _ this
  · have := Host.reduce_andi_all _ _ _ _ _ k1 (ix3 a b e)
    revert this
    pointwise
    exact real_of_lt _

theorem in_range (m : (ℓ : Loc Cert.Attn.nD Cert.Attn.τ Cert.Attn.sig) → Buf (Elt Bits) ℓ) (h : Cert.Pre_Attn m) : Cert.Attn.Hand.InRange m :=
  fun c y => words_lt _ _ _ _ _ _ (h c) y
theorem in_range_ideal (m : (ℓ : Loc Cert.AttnIdeal.nD Cert.AttnIdeal.τ Cert.AttnIdeal.sig) → Buf (Elt Ideal) ℓ) (h : Cert.Pre_AttnIdeal m) :
    Cert.AttnIdeal.Hand.InRange m :=
  fun c y => words_lt _ _ _ _ _ _ (h c) y
theorem in_range_finite (m : (ℓ : Loc Cert.AttnIdeal.nD Cert.AttnIdeal.τ Cert.AttnIdeal.sig) → Buf (Elt Ideal) ℓ)
    (h : Cert.Pre_AttnIdeal_indices_in_range_and_logits_finite m) : Cert.AttnIdeal.Hand.InRange m :=
  fun c y => (decode _ _ _ _ _ _ (h c)).1 y

/-- The kernel as printed runs and keeps its arguments, where the words name rows. -/
theorem frame_p : Cert.quiescent_Attn := fun m ρ h => Cert.Attn.Hand.frame m ρ (in_range m h)
/-- So does its twin over the extended reals. -/
theorem frame_pi : Cert.quiescent_AttnIdeal := fun m ρ h => Cert.AttnIdeal.Hand.frame m ρ (in_range_ideal m h)
theorem frame_pi_pre : Cert.quiescent_AttnIdeal_pre_indices_in_range_and_logits_finite := fun m ρ h =>
  Cert.AttnIdeal.Hand.frame m ρ (in_range_finite m h)
/-- So does the reference: it is a list of array operations. -/
theorem frame_ri : Cert.quiescent_RefAttnIdeal := fun m ρ _ =>
  (θ_run Cert.RefAttnIdeal.defs _ _).mono
    (fun r h => ⟨fun c => (h c).2.2, Idealize.ShloMosaic.sem_eq_zero_of_no_sems (by decide) r.2⟩)
    (Cert.RefAttnIdeal.Value.run (F := Ideal) m ρ)
theorem frame_ri_pre : Cert.quiescent_RefAttnIdeal_pre_indices_in_range_and_logits_finite := fun m ρ _ => frame_ri m ρ trivial

/-- The two texts of the kernel differ in nothing. -/
theorem preserves : Cert.preserves_Attn_AttnIdeal := trivial

/-- Over the extended reals the kernel's two results are the reference's, where the words name rows and the queries and the keys
    are finite. -/
theorem algebraic : Cert.algebraic_AttnIdeal_RefAttnIdeal_pre_indices_in_range_and_logits_finite := by
  intro m ρ m' ρ' hpre hagree
  let A (b : Ref Cert.AttnIdeal.sig .tc) (c : Dev Cert.AttnIdeal.nD) := m ((c.tc : Thread Cert.AttnIdeal.nD Cert.AttnIdeal.τ).loc b)
  refine ⟨fun c => image (A Cert.AttnIdeal.main_arg1 c) (A Cert.AttnIdeal.main_arg2 c) (A Cert.AttnIdeal.main_arg4 c),
    fun c => image (A Cert.AttnIdeal.main_arg0 c) (A Cert.AttnIdeal.main_arg3 c) (A Cert.AttnIdeal.main_arg5 c), ?_, ?_⟩
  · refine (θ_run Cert.AttnIdeal.defs _ _).mono (fun r h c => ?_)
      (θ_run_and (Cert.AttnIdeal.Hand.run_main m ρ (in_range_finite m hpre)) (Cert.AttnIdeal.Hand.unchanged m ρ (in_range_finite m hpre)))
    obtain ⟨-, f1, f2⟩ := decode _ _ _ _ _ _ (hpre c)
    exact ⟨((h.1 c).1 6).trans (Cert.AttnIdeal.RefArray.final6 m c f2), ((h.1 c).1 7).trans (Cert.AttnIdeal.RefArray.final7 m c f1), h.2 c⟩
  · refine (θ_run Cert.RefAttnIdeal.defs _ _).mono (fun _ h c => ?_) (Cert.RefAttnIdeal.Value.run (F := Ideal) m' ρ')
    obtain ⟨hI, f1, f2⟩ := decode _ _ _ _ _ _ (hpre c)
    obtain ⟨e0, e1, e2, e3, e4, e5⟩ := hagree c
    simp only [← e0, ← e1, ← e2, ← e3, ← e4, ← e5] at hI f1 f2
    simp only [A, ← e0, ← e1, ← e2, ← e3, ← e4, ← e5]
    exact ⟨(h c).1.trans ((Cert.RefAttnIdeal.RefTerm.out0_term m' c).trans (Cert.RefAttnIdeal.RefTerm.term_eq _ _ _ (fun y => (hI y).1) f2)),
      (h c).2.1.trans ((Cert.RefAttnIdeal.RefTerm.out1_term m' c).trans (Cert.RefAttnIdeal.RefTerm.term_eq _ _ _ (fun y => (hI y).2) f1)), (h c).2.2⟩

end Cert.Proof.AttnClaims

end
-- ==== Proof.RouterClaims.lean ====
/-
  The claims about the router kernel and its reference.
-/
module

public import proofs.«01_k».proof.Defs
public import proofs.«01_k».proof.Proof.RouterRef
public import proofs.«01_k».proof.Proof.Gen.Router.Frame
public import proofs.«01_k».proof.Proof.Gen.RouterIdeal.Frame
public import Idealize.ShloMosaic.Adequacy
public import Idealize.ShloMosaic.Init
public import Idealize.ShloMosaic.Lib.ReduceAll

@[expose] public section

set_option maxRecDepth 16384

noncomputable section

namespace Cert.Proof.RouterClaims

open Idealize.ShloMosaic Idealize.SL.Sem
open Cert.RouterIdeal.Val (Real image four_eq G4_eq G5_eq)

variable [Cert.Pre_means_finite.Facts]

theorem andi_one (a b : BitVec 1) : IntOp.andi a b = 1#1 ↔ a = 1#1 ∧ b = 1#1 := by revert a b; decide

theorem real_of_lt (v : EReal) (h : BitVec.ofBool (decide (max v (-v) < Ideal.ofBits FTy.f32 0x7F800000#32)) = 1#1) : ∃ x : ℝ, v = x := by
  have h1 : max v (-v) < Ideal.ofBits FTy.f32 0x7F800000#32 := of_decide_eq_true (BitVec.ofBool_eq_iff_eq.mp h : decide _ = true)
  rw [show Ideal.ofBits FTy.f32 0x7F800000#32 = ⊤ by simp [Ideal.ofBits, Ideal.ieee]] at h1
  induction v using EReal.rec with
  | bot => simp at h1
  | coe x => exact ⟨x, rfl⟩
  | top => simp at h1

/-- What the predicate says. -/
theorem decode (a0 a1 a2 a3 : FVec Ideal Cert.Pre_means_finite.S64x192 .f32)
    (h : Cert.Pre_means_finite.fn (F := Ideal) a0 a1 a2 a3 = fun _ => 1#1) : Real a0 ∧ Real a1 ∧ Real a2 ∧ Real a3 := by
  dsimp only [Cert.Pre_means_finite.fn, Cert.Pre_means_finite.fn_part1] at h
  obtain ⟨h1, p3⟩ := (andi_one _ _).mp (congrFun h (fun a => a.elim0))
  obtain ⟨h2, p2⟩ := (andi_one _ _).mp h1
  obtain ⟨p0, p1⟩ := (andi_one _ _).mp h2
  exact ⟨fun y => real_of_lt _ (Host.reduce_andi_all _ _ _ _ _ p0 y), fun y => real_of_lt _ (Host.reduce_andi_all _ _ _ _ _ p1 y),
    fun y => real_of_lt _ (Host.reduce_andi_all _ _ _ _ _ p2 y), fun y => real_of_lt _ (Host.reduce_andi_all _ _ _ _ _ p3 y)⟩

/-- The kernel as printed runs and keeps its arguments. -/
theorem frame_p : Cert.quiescent_Router := fun m ρ _ => Cert.Router.Gen.frame m ρ
/-- So does its twin over the extended reals. -/
theorem frame_pi : Cert.quiescent_RouterIdeal := fun m ρ _ => Cert.RouterIdeal.Gen.frame m ρ
theorem frame_pi_pre : Cert.quiescent_RouterIdeal_pre_means_finite := fun m ρ _ => Cert.RouterIdeal.Gen.frame m ρ
/-- So does the reference: it is a list of array operations. -/
theorem frame_ri : Cert.quiescent_RefRouterIdeal := fun m ρ _ =>
  (θ_run Cert.RefRouterIdeal.defs _ _).mono
    (fun r h => ⟨fun c => (h c).2.2, Idealize.ShloMosaic.sem_eq_zero_of_no_sems (by decide) r.2⟩)
    (Cert.RefRouterIdeal.Value.run (F := Ideal) m ρ)
theorem frame_ri_pre : Cert.quiescent_RefRouterIdeal_pre_means_finite := fun m ρ _ => frame_ri m ρ trivial

/-- The two texts of the kernel differ in nothing. -/
theorem preserves : Cert.preserves_Router_RouterIdeal := trivial

/-- Over the extended reals the kernel's index words are the reference's, where the window means are finite. -/
theorem algebraic : Cert.algebraic_RouterIdeal_RefRouterIdeal_pre_means_finite := by
  intro m ρ m' ρ' hpre hagree
  let A (b : Ref Cert.RouterIdeal.sig .tc) (c : Dev Cert.RouterIdeal.nD) := m ((c.tc : Thread Cert.RouterIdeal.nD Cert.RouterIdeal.τ).loc b)
  refine ⟨fun c => image (A Cert.RouterIdeal.main_arg2 c) (A Cert.RouterIdeal.main_arg1 c),
    fun c => image (A Cert.RouterIdeal.main_arg0 c) (A Cert.RouterIdeal.main_arg3 c), ?_, ?_⟩
  · refine (θ_run Cert.RouterIdeal.defs _ _).mono (fun r h c => ?_) (Cert.RouterIdeal.Value.run (F := Ideal) m ρ)
    obtain ⟨f0, f1, f2, f3⟩ := decode _ _ _ _ (hpre c)
    exact ⟨(h c).1.trans ((G4_eq _ _ _ _).trans (four_eq _ _ f2 f1)), (h c).2.1.trans ((G5_eq _ _ _ _).trans (four_eq _ _ f0 f3)), (h c).2.2⟩
  · refine (θ_run Cert.RefRouterIdeal.defs _ _).mono (fun _ h c => ?_) (Cert.RefRouterIdeal.Value.run (F := Ideal) m' ρ')
    obtain ⟨e0, e1, e2, e3⟩ := hagree c
    simp only [A, ← e0, ← e1, ← e2, ← e3]
    exact ⟨(h c).1.trans (Cert.RefRouterIdeal.RefTerm.term_eq _ _),
      (h c).2.1.trans (Cert.RefRouterIdeal.RefTerm.term_eq _ _), (h c).2.2⟩

end Cert.Proof.RouterClaims

end
-- ==== Proof.lean ====
module

public import proofs.«01_k».proof.Defs
public import proofs.«01_k».proof.Proof.WholeClaims
public import proofs.«01_k».proof.Proof.ProjClaims
public import proofs.«01_k».proof.Proof.FinalClaims
public import proofs.«01_k».proof.Proof.AttnClaims
public import proofs.«01_k».proof.Proof.RouterClaims
public import proofs.«01_k».proof.Proof.Gen.Pre_means_finite
public import proofs.«01_k».proof.Proof.Gen.Pre_inputs_finite
public import proofs.«01_k».proof.Proof.Gen.Pre_value_bias_zero
public import proofs.«01_k».proof.Proof.Gen.Pre_indices_in_range
public import proofs.«01_k».proof.Proof.Gen.Pre_indices_in_range_and_logits_finite

@[expose] public section

noncomputable section

namespace Cert.Proof

theorem claim : Cert.Claim := ⟨Cert.Proj.Gen.facts, Cert.ProjIdeal.Gen.facts, Cert.RefProjIdeal.Gen.facts,
  Cert.Final.Gen.facts, Cert.FinalIdeal.Gen.facts, Cert.RefFinalIdeal.Gen.facts,
  Cert.Router.Gen.facts, Cert.RouterIdeal.Gen.facts, Cert.RefRouterIdeal.Gen.facts,
  Cert.Attn.Gen.facts, Cert.AttnIdeal.Gen.facts, Cert.RefAttnIdeal.Gen.facts,
  Cert.Whole.Gen.facts, Cert.WholeIdeal.Gen.facts, Cert.RefWholeIdeal.Gen.facts,
  Cert.Pre_value_bias_zero.Gen.facts, Cert.Pre_means_finite.Gen.facts, Cert.Pre_indices_in_range.Gen.facts, Cert.Pre_indices_in_range_and_logits_finite.Gen.facts, Cert.Pre_inputs_finite.Gen.facts,
  ProjClaims.frame_p, ProjClaims.frame_pi, ProjClaims.frame_ri,
  FinalClaims.frame_p, FinalClaims.frame_pi, FinalClaims.frame_pi_pre, FinalClaims.frame_ri, FinalClaims.frame_ri_pre,
  RouterClaims.frame_p, RouterClaims.frame_pi, RouterClaims.frame_pi_pre, RouterClaims.frame_ri, RouterClaims.frame_ri_pre,
  AttnClaims.frame_p, AttnClaims.frame_pi, AttnClaims.frame_pi_pre, AttnClaims.frame_ri, AttnClaims.frame_ri_pre,
  WholeClaims.frame_p, WholeClaims.frame_pi, WholeClaims.frame_pi_pre, WholeClaims.frame_ri, WholeClaims.frame_ri_pre,
  ProjClaims.preserves, ProjClaims.algebraic, FinalClaims.preserves, FinalClaims.algebraic,
  RouterClaims.preserves, RouterClaims.algebraic, AttnClaims.preserves, AttnClaims.algebraic,
  WholeClaims.preserves, WholeClaims.algebraic⟩

end Cert.Proof

end
